-- ==== Defs.lean ====
def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleIdeal_finite [hPre_finite : Cert.Pre_finite.Facts] (m : (ℓ : Loc Cert.PleIdeal.nD Cert.PleIdeal.τ Cert.PleIdeal.sig) → Buf (Elt Ideal) ℓ) : Prop :=
  ∀ c : Dev Cert.PleIdeal.nD,
    (Cert.Pre_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7))).1 = (fun _ => 1#1)
    ∧ (Cert.Pre_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7))).2.1 = (fun _ => 1#1)
    ∧ (Cert.Pre_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7))).2.2.1 = (fun _ => 1#1)
    ∧ (Cert.Pre_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7))).2.2.2.1 = (fun _ => 1#1)
    ∧ (Cert.Pre_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7))).2.2.2.2.1 = (fun _ => 1#1)
    ∧ (Cert.Pre_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7))).2.2.2.2.2.1 = (fun _ => 1#1)
    ∧ (Cert.Pre_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7))).2.2.2.2.2.2.1 = (fun _ => 1#1)
    ∧ (Cert.Pre_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7))).2.2.2.2.2.2.2 = (fun _ => 1#1)

def Pre_PleRefIdeal (m : (ℓ : Loc Cert.PleRefIdeal.nD Cert.PleRefIdeal.τ Cert.PleRefIdeal.sig) → Buf (Elt Ideal) ℓ) : Prop :=
  True

def Pre_PleRefIdeal_finite [hPre_finite : Cert.Pre_finite.Facts] (m : (ℓ : Loc Cert.PleRefIdeal.nD Cert.PleRefIdeal.τ Cert.PleRefIdeal.sig) → Buf (Elt Ideal) ℓ) : Prop :=
  ∀ c : Dev Cert.PleRefIdeal.nD,
    (Cert.Pre_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7))).1 = (fun _ => 1#1)
    ∧ (Cert.Pre_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7))).2.1 = (fun _ => 1#1)
    ∧ (Cert.Pre_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7))).2.2.1 = (fun _ => 1#1)
    ∧ (Cert.Pre_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7))).2.2.2.1 = (fun _ => 1#1)
    ∧ (Cert.Pre_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7))).2.2.2.2.1 = (fun _ => 1#1)
    ∧ (Cert.Pre_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7))).2.2.2.2.2.1 = (fun _ => 1#1)
    ∧ (Cert.Pre_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7))).2.2.2.2.2.2.1 = (fun _ => 1#1)
    ∧ (Cert.Pre_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7))).2.2.2.2.2.2.2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_mix [hPre_finite_mix : Cert.Pre_finite_mix.Facts] (m : (ℓ : Loc Cert.MixIdeal.nD Cert.MixIdeal.τ Cert.MixIdeal.sig) → Buf (Elt Ideal) ℓ) : Prop :=
  ∀ c : Dev Cert.MixIdeal.nD,
    (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).2.2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).2.2.2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).2.2.2.2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).2.2.2.2.2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).2.2.2.2.2.2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))).2.2.2.2.2.2.2.2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_mix [hPre_finite_mix : Cert.Pre_finite_mix.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.2.2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.2.2.2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.2.2.2.2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.2.2.2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_finite_in [hPre_finite_in : Cert.Pre_finite_in.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7))).1 = (fun _ => 1#1)
    ∧ (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7))).2.1 = (fun _ => 1#1)
    ∧ (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7))).2.2.1 = (fun _ => 1#1)
    ∧ (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7))).2.2.2.1 = (fun _ => 1#1)
    ∧ (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7))).2.2.2.2.1 = (fun _ => 1#1)
    ∧ (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7))).2.2.2.2.2.1 = (fun _ => 1#1)
    ∧ (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7))).2.2.2.2.2.2 = (fun _ => 1#1)

def Pre_InRefIdeal (m : (ℓ : Loc Cert.InRefIdeal.nD Cert.InRefIdeal.τ Cert.InRefIdeal.sig) → Buf (Elt Ideal) ℓ) : Prop :=
  True

def Pre_InRefIdeal_finite_in [hPre_finite_in : Cert.Pre_finite_in.Facts] (m : (ℓ : Loc Cert.InRefIdeal.nD Cert.InRefIdeal.τ Cert.InRefIdeal.sig) → Buf (Elt Ideal) ℓ) : Prop :=
  ∀ c : Dev Cert.InRefIdeal.nD,
    (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7))).1 = (fun _ => 1#1)
    ∧ (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7))).2.1 = (fun _ => 1#1)
    ∧ (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7))).2.2.1 = (fun _ => 1#1)
    ∧ (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7))).2.2.2.1 = (fun _ => 1#1)
    ∧ (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7))).2.2.2.2.1 = (fun _ => 1#1)
    ∧ (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7))).2.2.2.2.2.1 = (fun _ => 1#1)
    ∧ (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5)) (m ((c.tc : Thread Cert.InRefIdeal.nD Cert.InRefIdeal.τ).loc Cert.InRefIdeal.main_arg6)) (m ((c.tc : Thread Cert.InRefIdeal.nD Cert.InRefIdeal.τ).loc Cert.InRefIdeal.main_arg7))).2.2.2.2.2.2 = (fun _ => 1#1)

def Pre_Cp (m : (ℓ : Loc Cert.Cp.nD Cert.Cp.τ Cert.Cp.sig) → Buf (Elt Bits) ℓ) : Prop :=
  True

def Pre_CpIdeal (m : (ℓ : Loc Cert.CpIdeal.nD Cert.CpIdeal.τ Cert.CpIdeal.sig) → Buf (Elt Ideal) ℓ) : Prop :=
  True

def Pre_CpIdeal_finite_cp [hPre_finite_cp : Cert.Pre_finite_cp.Facts] (m : (ℓ : Loc Cert.CpIdeal.nD Cert.CpIdeal.τ Cert.CpIdeal.sig) → Buf (Elt Ideal) ℓ) : Prop :=
  ∀ c : Dev Cert.CpIdeal.nD,
    (Cert.Pre_finite_cp.fn (F := Ideal) (m ((c.tc : Thread Cert.CpIdeal.nD Cert.CpIdeal.τ).loc Cert.CpIdeal.main_arg0)) (m ((c.tc : Thread Cert.CpIdeal.nD Cert.CpIdeal.τ).loc Cert.CpIdeal.main_arg1)) (m ((c.tc : Thread Cert.CpIdeal.nD Cert.CpIdeal.τ).loc Cert.CpIdeal.main_arg2)) (m ((c.tc : Thread Cert.CpIdeal.nD Cert.CpIdeal.τ).loc Cert.CpIdeal.main_arg3)) (m ((c.tc : Thread Cert.CpIdeal.nD Cert.CpIdeal.τ).loc Cert.CpIdeal.main_arg4)) (m ((c.tc : Thread Cert.CpIdeal.nD Cert.CpIdeal.τ).loc Cert.CpIdeal.main_arg5)) (m ((c.tc : Thread Cert.CpIdeal.nD Cert.CpIdeal.τ).loc Cert.CpIdeal.main_arg6)) (m ((c.tc : Thread Cert.CpIdeal.nD Cert.CpIdeal.τ).loc Cert.CpIdeal.main_arg7)) (m ((c.tc : Thread Cert.CpIdeal.nD Cert.CpIdeal.τ).loc Cert.CpIdeal.main_arg8)) (m ((c.tc : Thread Cert.CpIdeal.nD Cert.CpIdeal.τ).loc Cert.CpIdeal.main_arg9))) = (fun _ => 1#1)

def Pre_CpRefIdeal (m : (ℓ : Loc Cert.CpRefIdeal.nD Cert.CpRefIdeal.τ Cert.CpRefIdeal.sig) → Buf (Elt Ideal) ℓ) : Prop :=
  True

def Pre_CpRefIdeal_finite_cp [hPre_finite_cp : Cert.Pre_finite_cp.Facts] (m : (ℓ : Loc Cert.CpRefIdeal.nD Cert.CpRefIdeal.τ Cert.CpRefIdeal.sig) → Buf (Elt Ideal) ℓ) : Prop :=
  ∀ c : Dev Cert.CpRefIdeal.nD,
    (Cert.Pre_finite_cp.fn (F := Ideal) (m ((c.tc : Thread Cert.CpRefIdeal.nD Cert.CpRefIdeal.τ).loc Cert.CpRefIdeal.main_arg0)) (m ((c.tc : Thread Cert.CpRefIdeal.nD Cert.CpRefIdeal.τ).loc Cert.CpRefIdeal.main_arg1)) (m ((c.tc : Thread Cert.CpRefIdeal.nD Cert.CpRefIdeal.τ).loc Cert.CpRefIdeal.main_arg2)) (m ((c.tc : Thread Cert.CpRefIdeal.nD Cert.CpRefIdeal.τ).loc Cert.CpRefIdeal.main_arg3)) (m ((c.tc : Thread Cert.CpRefIdeal.nD Cert.CpRefIdeal.τ).loc Cert.CpRefIdeal.main_arg4)) (m ((c.tc : Thread Cert.CpRefIdeal.nD Cert.CpRefIdeal.τ).loc Cert.CpRefIdeal.main_arg5)) (m ((c.tc : Thread Cert.CpRefIdeal.nD Cert.CpRefIdeal.τ).loc Cert.CpRefIdeal.main_arg6)) (m ((c.tc : Thread Cert.CpRefIdeal.nD Cert.CpRefIdeal.τ).loc Cert.CpRefIdeal.main_arg7)) (m ((c.tc : Thread Cert.CpRefIdeal.nD Cert.CpRefIdeal.τ).loc Cert.CpRefIdeal.main_arg8)) (m ((c.tc : Thread Cert.CpRefIdeal.nD Cert.CpRefIdeal.τ).loc Cert.CpRefIdeal.main_arg9))) = (fun _ => 1#1)

def Pre_Mi (m : (ℓ : Loc Cert.Mi.nD Cert.Mi.τ Cert.Mi.sig) → Buf (Elt Bits) ℓ) : Prop :=
  True

def Pre_MiIdeal (m : (ℓ : Loc Cert.MiIdeal.nD Cert.MiIdeal.τ Cert.MiIdeal.sig) → Buf (Elt Ideal) ℓ) : Prop :=
  True

def Pre_MiRefIdeal (m : (ℓ : Loc Cert.MiRefIdeal.nD Cert.MiRefIdeal.τ Cert.MiRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DwGu (m : (ℓ : Loc Cert.DwGu.nD Cert.DwGu.τ Cert.DwGu.sig) → Buf (Elt Bits) ℓ) : Prop :=
  True

def Pre_DwGuIdeal (m : (ℓ : Loc Cert.DwGuIdeal.nD Cert.DwGuIdeal.τ Cert.DwGuIdeal.sig) → Buf (Elt Ideal) ℓ) : Prop :=
  True

def Pre_DwGuRefIdeal (m : (ℓ : Loc Cert.DwGuRefIdeal.nD Cert.DwGuRefIdeal.τ Cert.DwGuRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6)
      ∧ r.2.mem ((c.tc : Thread Cert.Ple.nD Cert.Ple.τ).loc Cert.Ple.main_arg7) = m ((c.tc : Thread Cert.Ple.nD Cert.Ple.τ).loc Cert.Ple.main_arg7))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
      ∧ r.2.mem ((c.tc : Thread Cert.PleIdeal.nD Cert.PleIdeal.τ).loc Cert.PleIdeal.main_arg7) = m ((c.tc : Thread Cert.PleIdeal.nD Cert.PleIdeal.τ).loc Cert.PleIdeal.main_arg7))
      ∧ r.2.sem = fun _ => 0)

def quiescent_PleIdeal_pre_finite [hPleIdeal : Cert.PleIdeal.Facts] [hPre_finite : Cert.Pre_finite.Facts] : Prop :=
  ∀ (m : (ℓ : Loc Cert.PleIdeal.nD Cert.PleIdeal.τ Cert.PleIdeal.sig) → Buf (Elt Ideal) ℓ) (g : Dev Cert.PleIdeal.nD → PrngReg), Pre_PleIdeal_finite m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
      ∧ r.2.mem ((c.tc : Thread Cert.PleIdeal.nD Cert.PleIdeal.τ).loc Cert.PleIdeal.main_arg7) = m ((c.tc : Thread Cert.PleIdeal.nD Cert.PleIdeal.τ).loc Cert.PleIdeal.main_arg7))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6)
      ∧ r.2.mem ((c.tc : Thread Cert.PleRefIdeal.nD Cert.PleRefIdeal.τ).loc Cert.PleRefIdeal.main_arg7) = m ((c.tc : Thread Cert.PleRefIdeal.nD Cert.PleRefIdeal.τ).loc Cert.PleRefIdeal.main_arg7))
      ∧ r.2.sem = fun _ => 0)

def quiescent_PleRefIdeal_pre_finite [hPleRefIdeal : Cert.PleRefIdeal.Facts] [hPre_finite : Cert.Pre_finite.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal_finite m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6)
      ∧ r.2.mem ((c.tc : Thread Cert.PleRefIdeal.nD Cert.PleRefIdeal.τ).loc Cert.PleRefIdeal.main_arg7) = m ((c.tc : Thread Cert.PleRefIdeal.nD Cert.PleRefIdeal.τ).loc Cert.PleRefIdeal.main_arg7))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixIdeal_pre_finite_mix [hMixIdeal : Cert.MixIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_mix m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_MixRefIdeal_pre_finite_mix [hMixRefIdeal : Cert.MixRefIdeal.Facts] [hPre_finite_mix : Cert.Pre_finite_mix.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_mix m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7))
      ∧ r.2.sem = fun _ => 0)

def quiescent_InBwdIdeal_pre_finite_in [hInBwdIdeal : Cert.InBwdIdeal.Facts] [hPre_finite_in : Cert.Pre_finite_in.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_finite_in m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7))
      ∧ r.2.sem = fun _ => 0)

def quiescent_InRefIdeal_pre_finite_in [hInRefIdeal : Cert.InRefIdeal.Facts] [hPre_finite_in : Cert.Pre_finite_in.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_finite_in m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7))
      ∧ r.2.sem = fun _ => 0)

def quiescent_Cp [hCp : Cert.Cp.Facts] : Prop :=
  ∀ (m : (ℓ : Loc Cert.Cp.nD Cert.Cp.τ Cert.Cp.sig) → Buf (Elt Bits) ℓ) (g : Dev Cert.Cp.nD → PrngReg), Pre_Cp m →
    θ_run (Cert.Cp.defs (F := Bits)) (onTc (τ := Cert.Cp.τ) (Cert.Cp.main (F := Bits))) ⟨m, fun _ => 0, g⟩ (fun r => (∀ c : Dev Cert.Cp.nD,
      r.2.mem ((c.tc : Thread Cert.Cp.nD Cert.Cp.τ).loc Cert.Cp.main_arg0) = m ((c.tc : Thread Cert.Cp.nD Cert.Cp.τ).loc Cert.Cp.main_arg0)
      ∧ r.2.mem ((c.tc : Thread Cert.Cp.nD Cert.Cp.τ).loc Cert.Cp.main_arg1) = m ((c.tc : Thread Cert.Cp.nD Cert.Cp.τ).loc Cert.Cp.main_arg1)
      ∧ r.2.mem ((c.tc : Thread Cert.Cp.nD Cert.Cp.τ).loc Cert.Cp.main_arg2) = m ((c.tc : Thread Cert.Cp.nD Cert.Cp.τ).loc Cert.Cp.main_arg2)
      ∧ r.2.mem ((c.tc : Thread Cert.Cp.nD Cert.Cp.τ).loc Cert.Cp.main_arg3) = m ((c.tc : Thread Cert.Cp.nD Cert.Cp.τ).loc Cert.Cp.main_arg3)
      ∧ r.2.mem ((c.tc : Thread Cert.Cp.nD Cert.Cp.τ).loc Cert.Cp.main_arg4) = m ((c.tc : Thread Cert.Cp.nD Cert.Cp.τ).loc Cert.Cp.main_arg4)
      ∧ r.2.mem ((c.tc : Thread Cert.Cp.nD Cert.Cp.τ).loc Cert.Cp.main_arg5) = m ((c.tc : Thread Cert.Cp.nD Cert.Cp.τ).loc Cert.Cp.main_arg5)
      ∧ r.2.mem ((c.tc : Thread Cert.Cp.nD Cert.Cp.τ).loc Cert.Cp.main_arg6) = m ((c.tc : Thread Cert.Cp.nD Cert.Cp.τ).loc Cert.Cp.main_arg6)
      ∧ r.2.mem ((c.tc : Thread Cert.Cp.nD Cert.Cp.τ).loc Cert.Cp.main_arg7) = m ((c.tc : Thread Cert.Cp.nD Cert.Cp.τ).loc Cert.Cp.main_arg7)
      ∧ r.2.mem ((c.tc : Thread Cert.Cp.nD Cert.Cp.τ).loc Cert.Cp.main_arg8) = m ((c.tc : Thread Cert.Cp.nD Cert.Cp.τ).loc Cert.Cp.main_arg8)
      ∧ r.2.mem ((c.tc : Thread Cert.Cp.nD Cert.Cp.τ).loc Cert.Cp.main_arg9) = m ((c.tc : Thread Cert.Cp.nD Cert.Cp.τ).loc Cert.Cp.main_arg9))
      ∧ r.2.sem = fun _ => 0)

def quiescent_CpIdeal [hCpIdeal : Cert.CpIdeal.Facts] : Prop :=
  ∀ (m : (ℓ : Loc Cert.CpIdeal.nD Cert.CpIdeal.τ Cert.CpIdeal.sig) → Buf (Elt Ideal) ℓ) (g : Dev Cert.CpIdeal.nD → PrngReg), Pre_CpIdeal m →
    θ_run (Cert.CpIdeal.defs (F := Ideal)) (onTc (τ := Cert.CpIdeal.τ) (Cert.CpIdeal.main (F := Ideal))) ⟨m, fun _ => 0, g⟩ (fun r => (∀ c : Dev Cert.CpIdeal.nD,
      r.2.mem ((c.tc : Thread Cert.CpIdeal.nD Cert.CpIdeal.τ).loc Cert.CpIdeal.main_arg0) = m ((c.tc : Thread Cert.CpIdeal.nD Cert.CpIdeal.τ).loc Cert.CpIdeal.main_arg0)
      ∧ r.2.mem ((c.tc : Thread Cert.CpIdeal.nD Cert.CpIdeal.τ).loc Cert.CpIdeal.main_arg1) = m ((c.tc : Thread Cert.CpIdeal.nD Cert.CpIdeal.τ).loc Cert.CpIdeal.main_arg1)
      ∧ r.2.mem ((c.tc : Thread Cert.CpIdeal.nD Cert.CpIdeal.τ).loc Cert.CpIdeal.main_arg2) = m ((c.tc : Thread Cert.CpIdeal.nD Cert.CpIdeal.τ).loc Cert.CpIdeal.main_arg2)
      ∧ r.2.mem ((c.tc : Thread Cert.CpIdeal.nD Cert.CpIdeal.τ).loc Cert.CpIdeal.main_arg3) = m ((c.tc : Thread Cert.CpIdeal.nD Cert.CpIdeal.τ).loc Cert.CpIdeal.main_arg3)
      ∧ r.2.mem ((c.tc : Thread Cert.CpIdeal.nD Cert.CpIdeal.τ).loc Cert.CpIdeal.main_arg4) = m ((c.tc : Thread Cert.CpIdeal.nD Cert.CpIdeal.τ).loc Cert.CpIdeal.main_arg4)
      ∧ r.2.mem ((c.tc : Thread Cert.CpIdeal.nD Cert.CpIdeal.τ).loc Cert.CpIdeal.main_arg5) = m ((c.tc : Thread Cert.CpIdeal.nD Cert.CpIdeal.τ).loc Cert.CpIdeal.main_arg5)
      ∧ r.2.mem ((c.tc : Thread Cert.CpIdeal.nD Cert.CpIdeal.τ).loc Cert.CpIdeal.main_arg6) = m ((c.tc : Thread Cert.CpIdeal.nD Cert.CpIdeal.τ).loc Cert.CpIdeal.main_arg6)
      ∧ r.2.mem ((c.tc : Thread Cert.CpIdeal.nD Cert.CpIdeal.τ).loc Cert.CpIdeal.main_arg7) = m ((c.tc : Thread Cert.CpIdeal.nD Cert.CpIdeal.τ).loc Cert.CpIdeal.main_arg7)
      ∧ r.2.mem ((c.tc : Thread Cert.CpIdeal.nD Cert.CpIdeal.τ).loc Cert.CpIdeal.main_arg8) = m ((c.tc : Thread Cert.CpIdeal.nD Cert.CpIdeal.τ).loc Cert.CpIdeal.main_arg8)
      ∧ r.2.mem ((c.tc : Thread Cert.CpIdeal.nD Cert.CpIdeal.τ).loc Cert.CpIdeal.main_arg9) = m ((c.tc : Thread Cert.CpIdeal.nD Cert.CpIdeal.τ).loc Cert.CpIdeal.main_arg9))
      ∧ r.2.sem = fun _ => 0)

def quiescent_CpIdeal_pre_finite_cp [hCpIdeal : Cert.CpIdeal.Facts] [hPre_finite_cp : Cert.Pre_finite_cp.Facts] : Prop :=
  ∀ (m : (ℓ : Loc Cert.CpIdeal.nD Cert.CpIdeal.τ Cert.CpIdeal.sig) → Buf (Elt Ideal) ℓ) (g : Dev Cert.CpIdeal.nD → PrngReg), Pre_CpIdeal_finite_cp m →
    θ_run (Cert.CpIdeal.defs (F := Ideal)) (onTc (τ := Cert.CpIdeal.τ) (Cert.CpIdeal.main (F := Ideal))) ⟨m, fun _ => 0, g⟩ (fun r => (∀ c : Dev Cert.CpIdeal.nD,
      r.2.mem ((c.tc : Thread Cert.CpIdeal.nD Cert.CpIdeal.τ).loc Cert.CpIdeal.main_arg0) = m ((c.tc : Thread Cert.CpIdeal.nD Cert.CpIdeal.τ).loc Cert.CpIdeal.main_arg0)
      ∧ r.2.mem ((c.tc : Thread Cert.CpIdeal.nD Cert.CpIdeal.τ).loc Cert.CpIdeal.main_arg1) = m ((c.tc : Thread Cert.CpIdeal.nD Cert.CpIdeal.τ).loc Cert.CpIdeal.main_arg1)
      ∧ r.2.mem ((c.tc : Thread Cert.CpIdeal.nD Cert.CpIdeal.τ).loc Cert.CpIdeal.main_arg2) = m ((c.tc : Thread Cert.CpIdeal.nD Cert.CpIdeal.τ).loc Cert.CpIdeal.main_arg2)
      ∧ r.2.mem ((c.tc : Thread Cert.CpIdeal.nD Cert.CpIdeal.τ).loc Cert.CpIdeal.main_arg3) = m ((c.tc : Thread Cert.CpIdeal.nD Cert.CpIdeal.τ).loc Cert.CpIdeal.main_arg3)
      ∧ r.2.mem ((c.tc : Thread Cert.CpIdeal.nD Cert.CpIdeal.τ).loc Cert.CpIdeal.main_arg4) = m ((c.tc : Thread Cert.CpIdeal.nD Cert.CpIdeal.τ).loc Cert.CpIdeal.main_arg4)
      ∧ r.2.mem ((c.tc : Thread Cert.CpIdeal.nD Cert.CpIdeal.τ).loc Cert.CpIdeal.main_arg5) = m ((c.tc : Thread Cert.CpIdeal.nD Cert.CpIdeal.τ).loc Cert.CpIdeal.main_arg5)
      ∧ r.2.mem ((c.tc : Thread Cert.CpIdeal.nD Cert.CpIdeal.τ).loc Cert.CpIdeal.main_arg6) = m ((c.tc : Thread Cert.CpIdeal.nD Cert.CpIdeal.τ).loc Cert.CpIdeal.main_arg6)
      ∧ r.2.mem ((c.tc : Thread Cert.CpIdeal.nD Cert.CpIdeal.τ).loc Cert.CpIdeal.main_arg7) = m ((c.tc : Thread Cert.CpIdeal.nD Cert.CpIdeal.τ).loc Cert.CpIdeal.main_arg7)
      ∧ r.2.mem ((c.tc : Thread Cert.CpIdeal.nD Cert.CpIdeal.τ).loc Cert.CpIdeal.main_arg8) = m ((c.tc : Thread Cert.CpIdeal.nD Cert.CpIdeal.τ).loc Cert.CpIdeal.main_arg8)
      ∧ r.2.mem ((c.tc : Thread Cert.CpIdeal.nD Cert.CpIdeal.τ).loc Cert.CpIdeal.main_arg9) = m ((c.tc : Thread Cert.CpIdeal.nD Cert.CpIdeal.τ).loc Cert.CpIdeal.main_arg9))
      ∧ r.2.sem = fun _ => 0)

def quiescent_CpRefIdeal [hCpRefIdeal : Cert.CpRefIdeal.Facts] : Prop :=
  ∀ (m : (ℓ : Loc Cert.CpRefIdeal.nD Cert.CpRefIdeal.τ Cert.CpRefIdeal.sig) → Buf (Elt Ideal) ℓ) (g : Dev Cert.CpRefIdeal.nD → PrngReg), Pre_CpRefIdeal m →
    θ_run (Cert.CpRefIdeal.defs (F := Ideal)) (onTc (τ := Cert.CpRefIdeal.τ) (Cert.CpRefIdeal.main (F := Ideal))) ⟨m, fun _ => 0, g⟩ (fun r => (∀ c : Dev Cert.CpRefIdeal.nD,
      r.2.mem ((c.tc : Thread Cert.CpRefIdeal.nD Cert.CpRefIdeal.τ).loc Cert.CpRefIdeal.main_arg0) = m ((c.tc : Thread Cert.CpRefIdeal.nD Cert.CpRefIdeal.τ).loc Cert.CpRefIdeal.main_arg0)
      ∧ r.2.mem ((c.tc : Thread Cert.CpRefIdeal.nD Cert.CpRefIdeal.τ).loc Cert.CpRefIdeal.main_arg1) = m ((c.tc : Thread Cert.CpRefIdeal.nD Cert.CpRefIdeal.τ).loc Cert.CpRefIdeal.main_arg1)
      ∧ r.2.mem ((c.tc : Thread Cert.CpRefIdeal.nD Cert.CpRefIdeal.τ).loc Cert.CpRefIdeal.main_arg2) = m ((c.tc : Thread Cert.CpRefIdeal.nD Cert.CpRefIdeal.τ).loc Cert.CpRefIdeal.main_arg2)
      ∧ r.2.mem ((c.tc : Thread Cert.CpRefIdeal.nD Cert.CpRefIdeal.τ).loc Cert.CpRefIdeal.main_arg3) = m ((c.tc : Thread Cert.CpRefIdeal.nD Cert.CpRefIdeal.τ).loc Cert.CpRefIdeal.main_arg3)
      ∧ r.2.mem ((c.tc : Thread Cert.CpRefIdeal.nD Cert.CpRefIdeal.τ).loc Cert.CpRefIdeal.main_arg4) = m ((c.tc : Thread Cert.CpRefIdeal.nD Cert.CpRefIdeal.τ).loc Cert.CpRefIdeal.main_arg4)
      ∧ r.2.mem ((c.tc : Thread Cert.CpRefIdeal.nD Cert.CpRefIdeal.τ).loc Cert.CpRefIdeal.main_arg5) = m ((c.tc : Thread Cert.CpRefIdeal.nD Cert.CpRefIdeal.τ).loc Cert.CpRefIdeal.main_arg5)
      ∧ r.2.mem ((c.tc : Thread Cert.CpRefIdeal.nD Cert.CpRefIdeal.τ).loc Cert.CpRefIdeal.main_arg6) = m ((c.tc : Thread Cert.CpRefIdeal.nD Cert.CpRefIdeal.τ).loc Cert.CpRefIdeal.main_arg6)
      ∧ r.2.mem ((c.tc : Thread Cert.CpRefIdeal.nD Cert.CpRefIdeal.τ).loc Cert.CpRefIdeal.main_arg7) = m ((c.tc : Thread Cert.CpRefIdeal.nD Cert.CpRefIdeal.τ).loc Cert.CpRefIdeal.main_arg7)
      ∧ r.2.mem ((c.tc : Thread Cert.CpRefIdeal.nD Cert.CpRefIdeal.τ).loc Cert.CpRefIdeal.main_arg8) = m ((c.tc : Thread Cert.CpRefIdeal.nD Cert.CpRefIdeal.τ).loc Cert.CpRefIdeal.main_arg8)
      ∧ r.2.mem ((c.tc : Thread Cert.CpRefIdeal.nD Cert.CpRefIdeal.τ).loc Cert.CpRefIdeal.main_arg9) = m ((c.tc : Thread Cert.CpRefIdeal.nD Cert.CpRefIdeal.τ).loc Cert.CpRefIdeal.main_arg9))
      ∧ r.2.sem = fun _ => 0)

def quiescent_CpRefIdeal_pre_finite_cp [hCpRefIdeal : Cert.CpRefIdeal.Facts] [hPre_finite_cp : Cert.Pre_finite_cp.Facts] : Prop :=
  ∀ (m : (ℓ : Loc Cert.CpRefIdeal.nD Cert.CpRefIdeal.τ Cert.CpRefIdeal.sig) → Buf (Elt Ideal) ℓ) (g : Dev Cert.CpRefIdeal.nD → PrngReg), Pre_CpRefIdeal_finite_cp m →
    θ_run (Cert.CpRefIdeal.defs (F := Ideal)) (onTc (τ := Cert.CpRefIdeal.τ) (Cert.CpRefIdeal.main (F := Ideal))) ⟨m, fun _ => 0, g⟩ (fun r => (∀ c : Dev Cert.CpRefIdeal.nD,
      r.2.mem ((c.tc : Thread Cert.CpRefIdeal.nD Cert.CpRefIdeal.τ).loc Cert.CpRefIdeal.main_arg0) = m ((c.tc : Thread Cert.CpRefIdeal.nD Cert.CpRefIdeal.τ).loc Cert.CpRefIdeal.main_arg0)
      ∧ r.2.mem ((c.tc : Thread Cert.CpRefIdeal.nD Cert.CpRefIdeal.τ).loc Cert.CpRefIdeal.main_arg1) = m ((c.tc : Thread Cert.CpRefIdeal.nD Cert.CpRefIdeal.τ).loc Cert.CpRefIdeal.main_arg1)
      ∧ r.2.mem ((c.tc : Thread Cert.CpRefIdeal.nD Cert.CpRefIdeal.τ).loc Cert.CpRefIdeal.main_arg2) = m ((c.tc : Thread Cert.CpRefIdeal.nD Cert.CpRefIdeal.τ).loc Cert.CpRefIdeal.main_arg2)
      ∧ r.2.mem ((c.tc : Thread Cert.CpRefIdeal.nD Cert.CpRefIdeal.τ).loc Cert.CpRefIdeal.main_arg3) = m ((c.tc : Thread Cert.CpRefIdeal.nD Cert.CpRefIdeal.τ).loc Cert.CpRefIdeal.main_arg3)
      ∧ r.2.mem ((c.tc : Thread Cert.CpRefIdeal.nD Cert.CpRefIdeal.τ).loc Cert.CpRefIdeal.main_arg4) = m ((c.tc : Thread Cert.CpRefIdeal.nD Cert.CpRefIdeal.τ).loc Cert.CpRefIdeal.main_arg4)
      ∧ r.2.mem ((c.tc : Thread Cert.CpRefIdeal.nD Cert.CpRefIdeal.τ).loc Cert.CpRefIdeal.main_arg5) = m ((c.tc : Thread Cert.CpRefIdeal.nD Cert.CpRefIdeal.τ).loc Cert.CpRefIdeal.main_arg5)
      ∧ r.2.mem ((c.tc : Thread Cert.CpRefIdeal.nD Cert.CpRefIdeal.τ).loc Cert.CpRefIdeal.main_arg6) = m ((c.tc : Thread Cert.CpRefIdeal.nD Cert.CpRefIdeal.τ).loc Cert.CpRefIdeal.main_arg6)
      ∧ r.2.mem ((c.tc : Thread Cert.CpRefIdeal.nD Cert.CpRefIdeal.τ).loc Cert.CpRefIdeal.main_arg7) = m ((c.tc : Thread Cert.CpRefIdeal.nD Cert.CpRefIdeal.τ).loc Cert.CpRefIdeal.main_arg7)
      ∧ r.2.mem ((c.tc : Thread Cert.CpRefIdeal.nD Cert.CpRefIdeal.τ).loc Cert.CpRefIdeal.main_arg8) = m ((c.tc : Thread Cert.CpRefIdeal.nD Cert.CpRefIdeal.τ).loc Cert.CpRefIdeal.main_arg8)
      ∧ r.2.mem ((c.tc : Thread Cert.CpRefIdeal.nD Cert.CpRefIdeal.τ).loc Cert.CpRefIdeal.main_arg9) = m ((c.tc : Thread Cert.CpRefIdeal.nD Cert.CpRefIdeal.τ).loc Cert.CpRefIdeal.main_arg9))
      ∧ r.2.sem = fun _ => 0)

def quiescent_Mi [hMi : Cert.Mi.Facts] : Prop :=
  ∀ (m : (ℓ : Loc Cert.Mi.nD Cert.Mi.τ Cert.Mi.sig) → Buf (Elt Bits) ℓ) (g : Dev Cert.Mi.nD → PrngReg), Pre_Mi m →
    θ_run (Cert.Mi.defs (F := Bits)) (onTc (τ := Cert.Mi.τ) (Cert.Mi.main (F := Bits))) ⟨m, fun _ => 0, g⟩ (fun r => (∀ c : Dev Cert.Mi.nD,
      r.2.mem ((c.tc : Thread Cert.Mi.nD Cert.Mi.τ).loc Cert.Mi.main_arg0) = m ((c.tc : Thread Cert.Mi.nD Cert.Mi.τ).loc Cert.Mi.main_arg0)
      ∧ r.2.mem ((c.tc : Thread Cert.Mi.nD Cert.Mi.τ).loc Cert.Mi.main_arg1) = m ((c.tc : Thread Cert.Mi.nD Cert.Mi.τ).loc Cert.Mi.main_arg1)
      ∧ r.2.mem ((c.tc : Thread Cert.Mi.nD Cert.Mi.τ).loc Cert.Mi.main_arg2) = m ((c.tc : Thread Cert.Mi.nD Cert.Mi.τ).loc Cert.Mi.main_arg2))
      ∧ r.2.sem = fun _ => 0)

def quiescent_MiIdeal [hMiIdeal : Cert.MiIdeal.Facts] : Prop :=
  ∀ (m : (ℓ : Loc Cert.MiIdeal.nD Cert.MiIdeal.τ Cert.MiIdeal.sig) → Buf (Elt Ideal) ℓ) (g : Dev Cert.MiIdeal.nD → PrngReg), Pre_MiIdeal m →
    θ_run (Cert.MiIdeal.defs (F := Ideal)) (onTc (τ := Cert.MiIdeal.τ) (Cert.MiIdeal.main (F := Ideal))) ⟨m, fun _ => 0, g⟩ (fun r => (∀ c : Dev Cert.MiIdeal.nD,
      r.2.mem ((c.tc : Thread Cert.MiIdeal.nD Cert.MiIdeal.τ).loc Cert.MiIdeal.main_arg0) = m ((c.tc : Thread Cert.MiIdeal.nD Cert.MiIdeal.τ).loc Cert.MiIdeal.main_arg0)
      ∧ r.2.mem ((c.tc : Thread Cert.MiIdeal.nD Cert.MiIdeal.τ).loc Cert.MiIdeal.main_arg1) = m ((c.tc : Thread Cert.MiIdeal.nD Cert.MiIdeal.τ).loc Cert.MiIdeal.main_arg1)
      ∧ r.2.mem ((c.tc : Thread Cert.MiIdeal.nD Cert.MiIdeal.τ).loc Cert.MiIdeal.main_arg2) = m ((c.tc : Thread Cert.MiIdeal.nD Cert.MiIdeal.τ).loc Cert.MiIdeal.main_arg2))
      ∧ r.2.sem = fun _ => 0)

def quiescent_MiRefIdeal [hMiRefIdeal : Cert.MiRefIdeal.Facts] : Prop :=
  ∀ (m : (ℓ : Loc Cert.MiRefIdeal.nD Cert.MiRefIdeal.τ Cert.MiRefIdeal.sig) → Buf (Elt Ideal) ℓ) (g : Dev Cert.MiRefIdeal.nD → PrngReg), Pre_MiRefIdeal m →
    θ_run (Cert.MiRefIdeal.defs (F := Ideal)) (onTc (τ := Cert.MiRefIdeal.τ) (Cert.MiRefIdeal.main (F := Ideal))) ⟨m, fun _ => 0, g⟩ (fun r => (∀ c : Dev Cert.MiRefIdeal.nD,
      r.2.mem ((c.tc : Thread Cert.MiRefIdeal.nD Cert.MiRefIdeal.τ).loc Cert.MiRefIdeal.main_arg0) = m ((c.tc : Thread Cert.MiRefIdeal.nD Cert.MiRefIdeal.τ).loc Cert.MiRefIdeal.main_arg0)
      ∧ r.2.mem ((c.tc : Thread Cert.MiRefIdeal.nD Cert.MiRefIdeal.τ).loc Cert.MiRefIdeal.main_arg1) = m ((c.tc : Thread Cert.MiRefIdeal.nD Cert.MiRefIdeal.τ).loc Cert.MiRefIdeal.main_arg1)
      ∧ r.2.mem ((c.tc : Thread Cert.MiRefIdeal.nD Cert.MiRefIdeal.τ).loc Cert.MiRefIdeal.main_arg2) = m ((c.tc : Thread Cert.MiRefIdeal.nD Cert.MiRefIdeal.τ).loc Cert.MiRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_DwGu [hDwGu : Cert.DwGu.Facts] : Prop :=
  ∀ (m : (ℓ : Loc Cert.DwGu.nD Cert.DwGu.τ Cert.DwGu.sig) → Buf (Elt Bits) ℓ) (g : Dev Cert.DwGu.nD → PrngReg), Pre_DwGu m →
    θ_run (Cert.DwGu.defs (F := Bits)) (onTc (τ := Cert.DwGu.τ) (Cert.DwGu.main (F := Bits))) ⟨m, fun _ => 0, g⟩ (fun r => (∀ c : Dev Cert.DwGu.nD,
      r.2.mem ((c.tc : Thread Cert.DwGu.nD Cert.DwGu.τ).loc Cert.DwGu.main_arg0) = m ((c.tc : Thread Cert.DwGu.nD Cert.DwGu.τ).loc Cert.DwGu.main_arg0)
      ∧ r.2.mem ((c.tc : Thread Cert.DwGu.nD Cert.DwGu.τ).loc Cert.DwGu.main_arg1) = m ((c.tc : Thread Cert.DwGu.nD Cert.DwGu.τ).loc Cert.DwGu.main_arg1)
      ∧ r.2.mem ((c.tc : Thread Cert.DwGu.nD Cert.DwGu.τ).loc Cert.DwGu.main_arg2) = m ((c.tc : Thread Cert.DwGu.nD Cert.DwGu.τ).loc Cert.DwGu.main_arg2))
      ∧ r.2.sem = fun _ => 0)

def quiescent_DwGuIdeal [hDwGuIdeal : Cert.DwGuIdeal.Facts] : Prop :=
  ∀ (m : (ℓ : Loc Cert.DwGuIdeal.nD Cert.DwGuIdeal.τ Cert.DwGuIdeal.sig) → Buf (Elt Ideal) ℓ) (g : Dev Cert.DwGuIdeal.nD → PrngReg), Pre_DwGuIdeal m →
    θ_run (Cert.DwGuIdeal.defs (F := Ideal)) (onTc (τ := Cert.DwGuIdeal.τ) (Cert.DwGuIdeal.main (F := Ideal))) ⟨m, fun _ => 0, g⟩ (fun r => (∀ c : Dev Cert.DwGuIdeal.nD,
      r.2.mem ((c.tc : Thread Cert.DwGuIdeal.nD Cert.DwGuIdeal.τ).loc Cert.DwGuIdeal.main_arg0) = m ((c.tc : Thread Cert.DwGuIdeal.nD Cert.DwGuIdeal.τ).loc Cert.DwGuIdeal.main_arg0)
      ∧ r.2.mem ((c.tc : Thread Cert.DwGuIdeal.nD Cert.DwGuIdeal.τ).loc Cert.DwGuIdeal.main_arg1) = m ((c.tc : Thread Cert.DwGuIdeal.nD Cert.DwGuIdeal.τ).loc Cert.DwGuIdeal.main_arg1)
      ∧ r.2.mem ((c.tc : Thread Cert.DwGuIdeal.nD Cert.DwGuIdeal.τ).loc Cert.DwGuIdeal.main_arg2) = m ((c.tc : Thread Cert.DwGuIdeal.nD Cert.DwGuIdeal.τ).loc Cert.DwGuIdeal.main_arg2))
      ∧ r.2.sem = fun _ => 0)

def quiescent_DwGuRefIdeal [hDwGuRefIdeal : Cert.DwGuRefIdeal.Facts] : Prop :=
  ∀ (m : (ℓ : Loc Cert.DwGuRefIdeal.nD Cert.DwGuRefIdeal.τ Cert.DwGuRefIdeal.sig) → Buf (Elt Ideal) ℓ) (g : Dev Cert.DwGuRefIdeal.nD → PrngReg), Pre_DwGuRefIdeal m →
    θ_run (Cert.DwGuRefIdeal.defs (F := Ideal)) (onTc (τ := Cert.DwGuRefIdeal.τ) (Cert.DwGuRefIdeal.main (F := Ideal))) ⟨m, fun _ => 0, g⟩ (fun r => (∀ c : Dev Cert.DwGuRefIdeal.nD,
      r.2.mem ((c.tc : Thread Cert.DwGuRefIdeal.nD Cert.DwGuRefIdeal.τ).loc Cert.DwGuRefIdeal.main_arg0) = m ((c.tc : Thread Cert.DwGuRefIdeal.nD Cert.DwGuRefIdeal.τ).loc Cert.DwGuRefIdeal.main_arg0)
      ∧ r.2.mem ((c.tc : Thread Cert.DwGuRefIdeal.nD Cert.DwGuRefIdeal.τ).loc Cert.DwGuRefIdeal.main_arg1) = m ((c.tc : Thread Cert.DwGuRefIdeal.nD Cert.DwGuRefIdeal.τ).loc Cert.DwGuRefIdeal.main_arg1)
      ∧ r.2.mem ((c.tc : Thread Cert.DwGuRefIdeal.nD Cert.DwGuRefIdeal.τ).loc Cert.DwGuRefIdeal.main_arg2) = m ((c.tc : Thread Cert.DwGuRefIdeal.nD Cert.DwGuRefIdeal.τ).loc Cert.DwGuRefIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1)
      ∧ r.2.mem ((c.tc : Thread Cert.DwDown.nD Cert.DwDown.τ).loc Cert.DwDown.main_arg2) = m ((c.tc : Thread Cert.DwDown.nD Cert.DwDown.τ).loc Cert.DwDown.main_arg2))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
      ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1)
      ∧ r.2.mem ((c.tc : Thread Cert.DwDownRefIdeal.nD Cert.DwDownRefIdeal.τ).loc Cert.DwDownRefIdeal.main_arg2) = m ((c.tc : Thread Cert.DwDownRefIdeal.nD Cert.DwDownRefIdeal.τ).loc Cert.DwDownRefIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4)
      ∧ r.2.mem ((c.tc : Thread Cert.Adam.nD Cert.Adam.τ).loc Cert.Adam.main_arg5) = m ((c.tc : Thread Cert.Adam.nD Cert.Adam.τ).loc Cert.Adam.main_arg5)
      ∧ r.2.mem ((c.tc : Thread Cert.Adam.nD Cert.Adam.τ).loc Cert.Adam.main_arg6) = m ((c.tc : Thread Cert.Adam.nD Cert.Adam.τ).loc Cert.Adam.main_arg6)
      ∧ r.2.mem ((c.tc : Thread Cert.Adam.nD Cert.Adam.τ).loc Cert.Adam.main_arg7) = m ((c.tc : Thread Cert.Adam.nD Cert.Adam.τ).loc Cert.Adam.main_arg7)
      ∧ r.2.mem ((c.tc : Thread Cert.Adam.nD Cert.Adam.τ).loc Cert.Adam.main_arg8) = m ((c.tc : Thread Cert.Adam.nD Cert.Adam.τ).loc Cert.Adam.main_arg8)
      ∧ r.2.mem ((c.tc : Thread Cert.Adam.nD Cert.Adam.τ).loc Cert.Adam.main_arg9) = m ((c.tc : Thread Cert.Adam.nD Cert.Adam.τ).loc Cert.Adam.main_arg9)
      ∧ r.2.mem ((c.tc : Thread Cert.Adam.nD Cert.Adam.τ).loc Cert.Adam.main_arg10) = m ((c.tc : Thread Cert.Adam.nD Cert.Adam.τ).loc Cert.Adam.main_arg10)
      ∧ r.2.mem ((c.tc : Thread Cert.Adam.nD Cert.Adam.τ).loc Cert.Adam.main_arg11) = m ((c.tc : Thread Cert.Adam.nD Cert.Adam.τ).loc Cert.Adam.main_arg11))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
      ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
      ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
      ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7)
      ∧ r.2.mem ((c.tc : Thread Cert.AdamIdeal.nD Cert.AdamIdeal.τ).loc Cert.AdamIdeal.main_arg8) = m ((c.tc : Thread Cert.AdamIdeal.nD Cert.AdamIdeal.τ).loc Cert.AdamIdeal.main_arg8)
      ∧ r.2.mem ((c.tc : Thread Cert.AdamIdeal.nD Cert.AdamIdeal.τ).loc Cert.AdamIdeal.main_arg9) = m ((c.tc : Thread Cert.AdamIdeal.nD Cert.AdamIdeal.τ).loc Cert.AdamIdeal.main_arg9)
      ∧ r.2.mem ((c.tc : Thread Cert.AdamIdeal.nD Cert.AdamIdeal.τ).loc Cert.AdamIdeal.main_arg10) = m ((c.tc : Thread Cert.AdamIdeal.nD Cert.AdamIdeal.τ).loc Cert.AdamIdeal.main_arg10)
      ∧ r.2.mem ((c.tc : Thread Cert.AdamIdeal.nD Cert.AdamIdeal.τ).loc Cert.AdamIdeal.main_arg11) = m ((c.tc : Thread Cert.AdamIdeal.nD Cert.AdamIdeal.τ).loc Cert.AdamIdeal.main_arg11))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4)
      ∧ r.2.mem ((c.tc : Thread Cert.AdamRefIdeal.nD Cert.AdamRefIdeal.τ).loc Cert.AdamRefIdeal.main_arg5) = m ((c.tc : Thread Cert.AdamRefIdeal.nD Cert.AdamRefIdeal.τ).loc Cert.AdamRefIdeal.main_arg5)
      ∧ r.2.mem ((c.tc : Thread Cert.AdamRefIdeal.nD Cert.AdamRefIdeal.τ).loc Cert.AdamRefIdeal.main_arg6) = m ((c.tc : Thread Cert.AdamRefIdeal.nD Cert.AdamRefIdeal.τ).loc Cert.AdamRefIdeal.main_arg6)
      ∧ r.2.mem ((c.tc : Thread Cert.AdamRefIdeal.nD Cert.AdamRefIdeal.τ).loc Cert.AdamRefIdeal.main_arg7) = m ((c.tc : Thread Cert.AdamRefIdeal.nD Cert.AdamRefIdeal.τ).loc Cert.AdamRefIdeal.main_arg7)
      ∧ r.2.mem ((c.tc : Thread Cert.AdamRefIdeal.nD Cert.AdamRefIdeal.τ).loc Cert.AdamRefIdeal.main_arg8) = m ((c.tc : Thread Cert.AdamRefIdeal.nD Cert.AdamRefIdeal.τ).loc Cert.AdamRefIdeal.main_arg8)
      ∧ r.2.mem ((c.tc : Thread Cert.AdamRefIdeal.nD Cert.AdamRefIdeal.τ).loc Cert.AdamRefIdeal.main_arg9) = m ((c.tc : Thread Cert.AdamRefIdeal.nD Cert.AdamRefIdeal.τ).loc Cert.AdamRefIdeal.main_arg9)
      ∧ r.2.mem ((c.tc : Thread Cert.AdamRefIdeal.nD Cert.AdamRefIdeal.τ).loc Cert.AdamRefIdeal.main_arg10) = m ((c.tc : Thread Cert.AdamRefIdeal.nD Cert.AdamRefIdeal.τ).loc Cert.AdamRefIdeal.main_arg10)
      ∧ r.2.mem ((c.tc : Thread Cert.AdamRefIdeal.nD Cert.AdamRefIdeal.τ).loc Cert.AdamRefIdeal.main_arg11) = m ((c.tc : Thread Cert.AdamRefIdeal.nD Cert.AdamRefIdeal.τ).loc Cert.AdamRefIdeal.main_arg11))
      ∧ r.2.sem = fun _ => 0)

def preserves_Ple_PleIdeal : Prop :=
  True

def algebraic_PleIdeal_PleRefIdeal_pre_finite [hPleIdeal : Cert.PleIdeal.Facts] [hPleRefIdeal : Cert.PleRefIdeal.Facts] [hPre_finite : Cert.Pre_finite.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal_finite m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)
      ∧ m' ((c.tc : Thread Cert.PleRefIdeal.nD Cert.PleRefIdeal.τ).loc Cert.PleRefIdeal.main_arg7) = m ((c.tc : Thread Cert.PleIdeal.nD Cert.PleIdeal.τ).loc Cert.PleIdeal.main_arg7)) →
    ∃ (v0 : (c : Dev Cert.PleIdeal.nD) → Buf (Elt Ideal) ((c.tc : Thread Cert.PleIdeal.nD Cert.PleIdeal.τ).loc Cert.PleIdeal.main_v5_0)) (v1 : (c : Dev Cert.PleIdeal.nD) → Buf (Elt Ideal) ((c.tc : Thread Cert.PleIdeal.nD Cert.PleIdeal.τ).loc Cert.PleIdeal.main_v5_1)) (v2 : (c : Dev Cert.PleIdeal.nD) → Buf (Elt Ideal) ((c.tc : Thread Cert.PleIdeal.nD Cert.PleIdeal.τ).loc Cert.PleIdeal.main_v5_2)) (v3 : (c : Dev Cert.PleIdeal.nD) → Buf (Elt Ideal) ((c.tc : Thread Cert.PleIdeal.nD Cert.PleIdeal.τ).loc Cert.PleIdeal.main_v5_3)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v5_0) = v0 c
          ∧ r.2.mem ((c.tc : Thread Cert.PleIdeal.nD Cert.PleIdeal.τ).loc Cert.PleIdeal.main_v5_1) = v1 c
          ∧ r.2.mem ((c.tc : Thread Cert.PleIdeal.nD Cert.PleIdeal.τ).loc Cert.PleIdeal.main_v5_2) = v2 c
          ∧ r.2.mem ((c.tc : Thread Cert.PleIdeal.nD Cert.PleIdeal.τ).loc Cert.PleIdeal.main_v5_3) = v3 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
          ∧ r.2.mem ((c.tc : Thread Cert.PleIdeal.nD Cert.PleIdeal.τ).loc Cert.PleIdeal.main_arg7) = m ((c.tc : Thread Cert.PleIdeal.nD Cert.PleIdeal.τ).loc Cert.PleIdeal.main_arg7))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v140) = v0 c
          ∧ r.2.mem ((c.tc : Thread Cert.PleRefIdeal.nD Cert.PleRefIdeal.τ).loc Cert.PleRefIdeal.main_v145) = v1 c
          ∧ r.2.mem ((c.tc : Thread Cert.PleRefIdeal.nD Cert.PleRefIdeal.τ).loc Cert.PleRefIdeal.main_v148) = v2 c
          ∧ r.2.mem ((c.tc : Thread Cert.PleRefIdeal.nD Cert.PleRefIdeal.τ).loc Cert.PleRefIdeal.main_v144) = v3 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6)
          ∧ r.2.mem ((c.tc : Thread Cert.PleRefIdeal.nD Cert.PleRefIdeal.τ).loc Cert.PleRefIdeal.main_arg7) = m' ((c.tc : Thread Cert.PleRefIdeal.nD Cert.PleRefIdeal.τ).loc Cert.PleRefIdeal.main_arg7))

def preserves_Mix_MixIdeal : Prop :=
  True

def algebraic_MixIdeal_MixRefIdeal_pre_finite_mix [hMixIdeal : Cert.MixIdeal.Facts] [hMixRefIdeal : Cert.MixRefIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_mix m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v37_0)) (v1 : (c : Dev Cert.MixIdeal.nD) → Buf (Elt Ideal) ((c.tc : Thread Cert.MixIdeal.nD Cert.MixIdeal.τ).loc Cert.MixIdeal.main_v37_1)) (v2 : (c : Dev Cert.MixIdeal.nD) → Buf (Elt Ideal) ((c.tc : Thread Cert.MixIdeal.nD Cert.MixIdeal.τ).loc Cert.MixIdeal.main_v37_2)) (v3 : (c : Dev Cert.MixIdeal.nD) → Buf (Elt Ideal) ((c.tc : Thread Cert.MixIdeal.nD Cert.MixIdeal.τ).loc Cert.MixIdeal.main_v37_3)) (v4 : (c : Dev Cert.MixIdeal.nD) → Buf (Elt Ideal) ((c.tc : Thread Cert.MixIdeal.nD Cert.MixIdeal.τ).loc Cert.MixIdeal.main_v37_4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v37_0) = v0 c
          ∧ r.2.mem ((c.tc : Thread Cert.MixIdeal.nD Cert.MixIdeal.τ).loc Cert.MixIdeal.main_v37_1) = v1 c
          ∧ r.2.mem ((c.tc : Thread Cert.MixIdeal.nD Cert.MixIdeal.τ).loc Cert.MixIdeal.main_v37_2) = v2 c
          ∧ r.2.mem ((c.tc : Thread Cert.MixIdeal.nD Cert.MixIdeal.τ).loc Cert.MixIdeal.main_v37_3) = v3 c
          ∧ r.2.mem ((c.tc : Thread Cert.MixIdeal.nD Cert.MixIdeal.τ).loc Cert.MixIdeal.main_v37_4) = v4 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v86) = v0 c
          ∧ r.2.mem ((c.tc : Thread Cert.MixRefIdeal.nD Cert.MixRefIdeal.τ).loc Cert.MixRefIdeal.main_v54) = v1 c
          ∧ r.2.mem ((c.tc : Thread Cert.MixRefIdeal.nD Cert.MixRefIdeal.τ).loc Cert.MixRefIdeal.main_v91) = v2 c
          ∧ r.2.mem ((c.tc : Thread Cert.MixRefIdeal.nD Cert.MixRefIdeal.τ).loc Cert.MixRefIdeal.main_v53) = v3 c
          ∧ r.2.mem ((c.tc : Thread Cert.MixRefIdeal.nD Cert.MixRefIdeal.τ).loc Cert.MixRefIdeal.main_v90) = v4 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v20_0)) (v1 : (c : Dev Cert.FfnIdeal.nD) → Buf (Elt Ideal) ((c.tc : Thread Cert.FfnIdeal.nD Cert.FfnIdeal.τ).loc Cert.FfnIdeal.main_v20_1)) (v2 : (c : Dev Cert.FfnIdeal.nD) → Buf (Elt Ideal) ((c.tc : Thread Cert.FfnIdeal.nD Cert.FfnIdeal.τ).loc Cert.FfnIdeal.main_v20_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v20_0) = v0 c
          ∧ r.2.mem ((c.tc : Thread Cert.FfnIdeal.nD Cert.FfnIdeal.τ).loc Cert.FfnIdeal.main_v20_1) = v1 c
          ∧ r.2.mem ((c.tc : Thread Cert.FfnIdeal.nD Cert.FfnIdeal.τ).loc Cert.FfnIdeal.main_v20_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v50) = v0 c
          ∧ r.2.mem ((c.tc : Thread Cert.FfnRefIdeal.nD Cert.FfnRefIdeal.τ).loc Cert.FfnRefIdeal.main_v78) = v1 c
          ∧ r.2.mem ((c.tc : Thread Cert.FfnRefIdeal.nD Cert.FfnRefIdeal.τ).loc Cert.FfnRefIdeal.main_v80) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v4_0)) (v1 : (c : Dev Cert.UpIdeal.nD) → Buf (Elt Ideal) ((c.tc : Thread Cert.UpIdeal.nD Cert.UpIdeal.τ).loc Cert.UpIdeal.main_v4_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4_0) = v0 c
          ∧ r.2.mem ((c.tc : Thread Cert.UpIdeal.nD Cert.UpIdeal.τ).loc Cert.UpIdeal.main_v4_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v7) = v0 c
          ∧ r.2.mem ((c.tc : Thread Cert.UpRefIdeal.nD Cert.UpRefIdeal.τ).loc Cert.UpRefIdeal.main_v8) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_InBwd_InBwdIdeal : Prop :=
  True

def algebraic_InBwdIdeal_InRefIdeal_pre_finite_in [hInBwdIdeal : Cert.InBwdIdeal.Facts] [hInRefIdeal : Cert.InRefIdeal.Facts] [hPre_finite_in : Cert.Pre_finite_in.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InRefIdeal.nD Cert.InRefIdeal.τ Cert.InRefIdeal.sig) → Buf (Elt Ideal) ℓ) (g' : Dev Cert.InRefIdeal.nD → PrngReg), Pre_InBwdIdeal_finite_in m →
    (∀ c : Dev Cert.InBwdIdeal.nD,
      m' ((c.tc : Thread Cert.InRefIdeal.nD Cert.InRefIdeal.τ).loc Cert.InRefIdeal.main_arg0) = m ((c.tc : Thread Cert.InBwdIdeal.nD Cert.InBwdIdeal.τ).loc Cert.InBwdIdeal.main_arg0)
      ∧ m' ((c.tc : Thread Cert.InRefIdeal.nD Cert.InRefIdeal.τ).loc Cert.InRefIdeal.main_arg1) = m ((c.tc : Thread Cert.InBwdIdeal.nD Cert.InBwdIdeal.τ).loc Cert.InBwdIdeal.main_arg1)
      ∧ m' ((c.tc : Thread Cert.InRefIdeal.nD Cert.InRefIdeal.τ).loc Cert.InRefIdeal.main_arg2) = m ((c.tc : Thread Cert.InBwdIdeal.nD Cert.InBwdIdeal.τ).loc Cert.InBwdIdeal.main_arg2)
      ∧ m' ((c.tc : Thread Cert.InRefIdeal.nD Cert.InRefIdeal.τ).loc Cert.InRefIdeal.main_arg3) = m ((c.tc : Thread Cert.InBwdIdeal.nD Cert.InBwdIdeal.τ).loc Cert.InBwdIdeal.main_arg3)
      ∧ m' ((c.tc : Thread Cert.InRefIdeal.nD Cert.InRefIdeal.τ).loc Cert.InRefIdeal.main_arg4) = m ((c.tc : Thread Cert.InBwdIdeal.nD Cert.InBwdIdeal.τ).loc Cert.InBwdIdeal.main_arg4)
      ∧ m' ((c.tc : Thread Cert.InRefIdeal.nD Cert.InRefIdeal.τ).loc Cert.InRefIdeal.main_arg5) = m ((c.tc : Thread Cert.InBwdIdeal.nD Cert.InBwdIdeal.τ).loc Cert.InBwdIdeal.main_arg5)
      ∧ m' ((c.tc : Thread Cert.InRefIdeal.nD Cert.InRefIdeal.τ).loc Cert.InRefIdeal.main_arg6) = m ((c.tc : Thread Cert.InBwdIdeal.nD Cert.InBwdIdeal.τ).loc Cert.InBwdIdeal.main_arg6)
      ∧ m' ((c.tc : Thread Cert.InRefIdeal.nD Cert.InRefIdeal.τ).loc Cert.InRefIdeal.main_arg7) = m ((c.tc : Thread Cert.InBwdIdeal.nD Cert.InBwdIdeal.τ).loc Cert.InBwdIdeal.main_arg7)) →
    ∃ (v0 : (c : Dev Cert.InBwdIdeal.nD) → Buf (Elt Ideal) ((c.tc : Thread Cert.InBwdIdeal.nD Cert.InBwdIdeal.τ).loc Cert.InBwdIdeal.main_v18_0)) (v1 : (c : Dev Cert.InBwdIdeal.nD) → Buf (Elt Ideal) ((c.tc : Thread Cert.InBwdIdeal.nD Cert.InBwdIdeal.τ).loc Cert.InBwdIdeal.main_v18_1)) (v2 : (c : Dev Cert.InBwdIdeal.nD) → Buf (Elt Ideal) ((c.tc : Thread Cert.InBwdIdeal.nD Cert.InBwdIdeal.τ).loc Cert.InBwdIdeal.main_v18_2)) (v3 : (c : Dev Cert.InBwdIdeal.nD) → Buf (Elt Ideal) ((c.tc : Thread Cert.InBwdIdeal.nD Cert.InBwdIdeal.τ).loc Cert.InBwdIdeal.main_v18_3)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v18_0) = v0 c
          ∧ r.2.mem ((c.tc : Thread Cert.InBwdIdeal.nD Cert.InBwdIdeal.τ).loc Cert.InBwdIdeal.main_v18_1) = v1 c
          ∧ r.2.mem ((c.tc : Thread Cert.InBwdIdeal.nD Cert.InBwdIdeal.τ).loc Cert.InBwdIdeal.main_v18_2) = v2 c
          ∧ r.2.mem ((c.tc : Thread Cert.InBwdIdeal.nD Cert.InBwdIdeal.τ).loc Cert.InBwdIdeal.main_v18_3) = v3 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v731) = v0 c
          ∧ r.2.mem ((c.tc : Thread Cert.InRefIdeal.nD Cert.InRefIdeal.τ).loc Cert.InRefIdeal.main_v734) = v1 c
          ∧ r.2.mem ((c.tc : Thread Cert.InRefIdeal.nD Cert.InRefIdeal.τ).loc Cert.InRefIdeal.main_v736) = v2 c
          ∧ r.2.mem ((c.tc : Thread Cert.InRefIdeal.nD Cert.InRefIdeal.τ).loc Cert.InRefIdeal.main_v738) = v3 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7))

def preserves_Cp_CpIdeal : Prop :=
  True

def algebraic_CpIdeal_CpRefIdeal_pre_finite_cp [hCpIdeal : Cert.CpIdeal.Facts] [hCpRefIdeal : Cert.CpRefIdeal.Facts] [hPre_finite_cp : Cert.Pre_finite_cp.Facts] : Prop :=
  ∀ (m : (ℓ : Loc Cert.CpIdeal.nD Cert.CpIdeal.τ Cert.CpIdeal.sig) → Buf (Elt Ideal) ℓ) (g : Dev Cert.CpIdeal.nD → PrngReg)
    (m' : (ℓ : Loc Cert.CpRefIdeal.nD Cert.CpRefIdeal.τ Cert.CpRefIdeal.sig) → Buf (Elt Ideal) ℓ) (g' : Dev Cert.CpRefIdeal.nD → PrngReg), Pre_CpIdeal_finite_cp m →
    (∀ c : Dev Cert.CpIdeal.nD,
      m' ((c.tc : Thread Cert.CpRefIdeal.nD Cert.CpRefIdeal.τ).loc Cert.CpRefIdeal.main_arg0) = m ((c.tc : Thread Cert.CpIdeal.nD Cert.CpIdeal.τ).loc Cert.CpIdeal.main_arg0)
      ∧ m' ((c.tc : Thread Cert.CpRefIdeal.nD Cert.CpRefIdeal.τ).loc Cert.CpRefIdeal.main_arg1) = m ((c.tc : Thread Cert.CpIdeal.nD Cert.CpIdeal.τ).loc Cert.CpIdeal.main_arg1)
      ∧ m' ((c.tc : Thread Cert.CpRefIdeal.nD Cert.CpRefIdeal.τ).loc Cert.CpRefIdeal.main_arg2) = m ((c.tc : Thread Cert.CpIdeal.nD Cert.CpIdeal.τ).loc Cert.CpIdeal.main_arg2)
      ∧ m' ((c.tc : Thread Cert.CpRefIdeal.nD Cert.CpRefIdeal.τ).loc Cert.CpRefIdeal.main_arg3) = m ((c.tc : Thread Cert.CpIdeal.nD Cert.CpIdeal.τ).loc Cert.CpIdeal.main_arg3)
      ∧ m' ((c.tc : Thread Cert.CpRefIdeal.nD Cert.CpRefIdeal.τ).loc Cert.CpRefIdeal.main_arg4) = m ((c.tc : Thread Cert.CpIdeal.nD Cert.CpIdeal.τ).loc Cert.CpIdeal.main_arg4)
      ∧ m' ((c.tc : Thread Cert.CpRefIdeal.nD Cert.CpRefIdeal.τ).loc Cert.CpRefIdeal.main_arg5) = m ((c.tc : Thread Cert.CpIdeal.nD Cert.CpIdeal.τ).loc Cert.CpIdeal.main_arg5)
      ∧ m' ((c.tc : Thread Cert.CpRefIdeal.nD Cert.CpRefIdeal.τ).loc Cert.CpRefIdeal.main_arg6) = m ((c.tc : Thread Cert.CpIdeal.nD Cert.CpIdeal.τ).loc Cert.CpIdeal.main_arg6)
      ∧ m' ((c.tc : Thread Cert.CpRefIdeal.nD Cert.CpRefIdeal.τ).loc Cert.CpRefIdeal.main_arg7) = m ((c.tc : Thread Cert.CpIdeal.nD Cert.CpIdeal.τ).loc Cert.CpIdeal.main_arg7)
      ∧ m' ((c.tc : Thread Cert.CpRefIdeal.nD Cert.CpRefIdeal.τ).loc Cert.CpRefIdeal.main_arg8) = m ((c.tc : Thread Cert.CpIdeal.nD Cert.CpIdeal.τ).loc Cert.CpIdeal.main_arg8)
      ∧ m' ((c.tc : Thread Cert.CpRefIdeal.nD Cert.CpRefIdeal.τ).loc Cert.CpRefIdeal.main_arg9) = m ((c.tc : Thread Cert.CpIdeal.nD Cert.CpIdeal.τ).loc Cert.CpIdeal.main_arg9)) →
    ∃ (v0 : (c : Dev Cert.CpIdeal.nD) → Buf (Elt Ideal) ((c.tc : Thread Cert.CpIdeal.nD Cert.CpIdeal.τ).loc Cert.CpIdeal.main_v3_0)) (v1 : (c : Dev Cert.CpIdeal.nD) → Buf (Elt Ideal) ((c.tc : Thread Cert.CpIdeal.nD Cert.CpIdeal.τ).loc Cert.CpIdeal.main_v3_1)) (v2 : (c : Dev Cert.CpIdeal.nD) → Buf (Elt Ideal) ((c.tc : Thread Cert.CpIdeal.nD Cert.CpIdeal.τ).loc Cert.CpIdeal.main_v3_2)) (v3 : (c : Dev Cert.CpIdeal.nD) → Buf (Elt Ideal) ((c.tc : Thread Cert.CpIdeal.nD Cert.CpIdeal.τ).loc Cert.CpIdeal.main_v3_3)) (v4 : (c : Dev Cert.CpIdeal.nD) → Buf (Elt Ideal) ((c.tc : Thread Cert.CpIdeal.nD Cert.CpIdeal.τ).loc Cert.CpIdeal.main_v3_4)),
      θ_run (Cert.CpIdeal.defs (F := Ideal)) (onTc (τ := Cert.CpIdeal.τ) (Cert.CpIdeal.main (F := Ideal))) ⟨m, fun _ => 0, g⟩ (fun r => ∀ c : Dev Cert.CpIdeal.nD,
          r.2.mem ((c.tc : Thread Cert.CpIdeal.nD Cert.CpIdeal.τ).loc Cert.CpIdeal.main_v3_0) = v0 c
          ∧ r.2.mem ((c.tc : Thread Cert.CpIdeal.nD Cert.CpIdeal.τ).loc Cert.CpIdeal.main_v3_1) = v1 c
          ∧ r.2.mem ((c.tc : Thread Cert.CpIdeal.nD Cert.CpIdeal.τ).loc Cert.CpIdeal.main_v3_2) = v2 c
          ∧ r.2.mem ((c.tc : Thread Cert.CpIdeal.nD Cert.CpIdeal.τ).loc Cert.CpIdeal.main_v3_3) = v3 c
          ∧ r.2.mem ((c.tc : Thread Cert.CpIdeal.nD Cert.CpIdeal.τ).loc Cert.CpIdeal.main_v3_4) = v4 c
          ∧ r.2.mem ((c.tc : Thread Cert.CpIdeal.nD Cert.CpIdeal.τ).loc Cert.CpIdeal.main_arg0) = m ((c.tc : Thread Cert.CpIdeal.nD Cert.CpIdeal.τ).loc Cert.CpIdeal.main_arg0)
          ∧ r.2.mem ((c.tc : Thread Cert.CpIdeal.nD Cert.CpIdeal.τ).loc Cert.CpIdeal.main_arg1) = m ((c.tc : Thread Cert.CpIdeal.nD Cert.CpIdeal.τ).loc Cert.CpIdeal.main_arg1)
          ∧ r.2.mem ((c.tc : Thread Cert.CpIdeal.nD Cert.CpIdeal.τ).loc Cert.CpIdeal.main_arg2) = m ((c.tc : Thread Cert.CpIdeal.nD Cert.CpIdeal.τ).loc Cert.CpIdeal.main_arg2)
          ∧ r.2.mem ((c.tc : Thread Cert.CpIdeal.nD Cert.CpIdeal.τ).loc Cert.CpIdeal.main_arg3) = m ((c.tc : Thread Cert.CpIdeal.nD Cert.CpIdeal.τ).loc Cert.CpIdeal.main_arg3)
          ∧ r.2.mem ((c.tc : Thread Cert.CpIdeal.nD Cert.CpIdeal.τ).loc Cert.CpIdeal.main_arg4) = m ((c.tc : Thread Cert.CpIdeal.nD Cert.CpIdeal.τ).loc Cert.CpIdeal.main_arg4)
          ∧ r.2.mem ((c.tc : Thread Cert.CpIdeal.nD Cert.CpIdeal.τ).loc Cert.CpIdeal.main_arg5) = m ((c.tc : Thread Cert.CpIdeal.nD Cert.CpIdeal.τ).loc Cert.CpIdeal.main_arg5)
          ∧ r.2.mem ((c.tc : Thread Cert.CpIdeal.nD Cert.CpIdeal.τ).loc Cert.CpIdeal.main_arg6) = m ((c.tc : Thread Cert.CpIdeal.nD Cert.CpIdeal.τ).loc Cert.CpIdeal.main_arg6)
          ∧ r.2.mem ((c.tc : Thread Cert.CpIdeal.nD Cert.CpIdeal.τ).loc Cert.CpIdeal.main_arg7) = m ((c.tc : Thread Cert.CpIdeal.nD Cert.CpIdeal.τ).loc Cert.CpIdeal.main_arg7)
          ∧ r.2.mem ((c.tc : Thread Cert.CpIdeal.nD Cert.CpIdeal.τ).loc Cert.CpIdeal.main_arg8) = m ((c.tc : Thread Cert.CpIdeal.nD Cert.CpIdeal.τ).loc Cert.CpIdeal.main_arg8)
          ∧ r.2.mem ((c.tc : Thread Cert.CpIdeal.nD Cert.CpIdeal.τ).loc Cert.CpIdeal.main_arg9) = m ((c.tc : Thread Cert.CpIdeal.nD Cert.CpIdeal.τ).loc Cert.CpIdeal.main_arg9))
      ∧ θ_run (Cert.CpRefIdeal.defs (F := Ideal)) (onTc (τ := Cert.CpRefIdeal.τ) (Cert.CpRefIdeal.main (F := Ideal))) ⟨m', fun _ => 0, g'⟩ (fun r => ∀ c : Dev Cert.CpRefIdeal.nD,
          r.2.mem ((c.tc : Thread Cert.CpRefIdeal.nD Cert.CpRefIdeal.τ).loc Cert.CpRefIdeal.main_v313) = v0 c
          ∧ r.2.mem ((c.tc : Thread Cert.CpRefIdeal.nD Cert.CpRefIdeal.τ).loc Cert.CpRefIdeal.main_v314) = v1 c
          ∧ r.2.mem ((c.tc : Thread Cert.CpRefIdeal.nD Cert.CpRefIdeal.τ).loc Cert.CpRefIdeal.main_v230) = v2 c
          ∧ r.2.mem ((c.tc : Thread Cert.CpRefIdeal.nD Cert.CpRefIdeal.τ).loc Cert.CpRefIdeal.main_v316) = v3 c
          ∧ r.2.mem ((c.tc : Thread Cert.CpRefIdeal.nD Cert.CpRefIdeal.τ).loc Cert.CpRefIdeal.main_v329) = v4 c
          ∧ r.2.mem ((c.tc : Thread Cert.CpRefIdeal.nD Cert.CpRefIdeal.τ).loc Cert.CpRefIdeal.main_arg0) = m' ((c.tc : Thread Cert.CpRefIdeal.nD Cert.CpRefIdeal.τ).loc Cert.CpRefIdeal.main_arg0)
          ∧ r.2.mem ((c.tc : Thread Cert.CpRefIdeal.nD Cert.CpRefIdeal.τ).loc Cert.CpRefIdeal.main_arg1) = m' ((c.tc : Thread Cert.CpRefIdeal.nD Cert.CpRefIdeal.τ).loc Cert.CpRefIdeal.main_arg1)
          ∧ r.2.mem ((c.tc : Thread Cert.CpRefIdeal.nD Cert.CpRefIdeal.τ).loc Cert.CpRefIdeal.main_arg2) = m' ((c.tc : Thread Cert.CpRefIdeal.nD Cert.CpRefIdeal.τ).loc Cert.CpRefIdeal.main_arg2)
          ∧ r.2.mem ((c.tc : Thread Cert.CpRefIdeal.nD Cert.CpRefIdeal.τ).loc Cert.CpRefIdeal.main_arg3) = m' ((c.tc : Thread Cert.CpRefIdeal.nD Cert.CpRefIdeal.τ).loc Cert.CpRefIdeal.main_arg3)
          ∧ r.2.mem ((c.tc : Thread Cert.CpRefIdeal.nD Cert.CpRefIdeal.τ).loc Cert.CpRefIdeal.main_arg4) = m' ((c.tc : Thread Cert.CpRefIdeal.nD Cert.CpRefIdeal.τ).loc Cert.CpRefIdeal.main_arg4)
          ∧ r.2.mem ((c.tc : Thread Cert.CpRefIdeal.nD Cert.CpRefIdeal.τ).loc Cert.CpRefIdeal.main_arg5) = m' ((c.tc : Thread Cert.CpRefIdeal.nD Cert.CpRefIdeal.τ).loc Cert.CpRefIdeal.main_arg5)
          ∧ r.2.mem ((c.tc : Thread Cert.CpRefIdeal.nD Cert.CpRefIdeal.τ).loc Cert.CpRefIdeal.main_arg6) = m' ((c.tc : Thread Cert.CpRefIdeal.nD Cert.CpRefIdeal.τ).loc Cert.CpRefIdeal.main_arg6)
          ∧ r.2.mem ((c.tc : Thread Cert.CpRefIdeal.nD Cert.CpRefIdeal.τ).loc Cert.CpRefIdeal.main_arg7) = m' ((c.tc : Thread Cert.CpRefIdeal.nD Cert.CpRefIdeal.τ).loc Cert.CpRefIdeal.main_arg7)
          ∧ r.2.mem ((c.tc : Thread Cert.CpRefIdeal.nD Cert.CpRefIdeal.τ).loc Cert.CpRefIdeal.main_arg8) = m' ((c.tc : Thread Cert.CpRefIdeal.nD Cert.CpRefIdeal.τ).loc Cert.CpRefIdeal.main_arg8)
          ∧ r.2.mem ((c.tc : Thread Cert.CpRefIdeal.nD Cert.CpRefIdeal.τ).loc Cert.CpRefIdeal.main_arg9) = m' ((c.tc : Thread Cert.CpRefIdeal.nD Cert.CpRefIdeal.τ).loc Cert.CpRefIdeal.main_arg9))

def preserves_Mi_MiIdeal : Prop :=
  True

def algebraic_MiIdeal_MiRefIdeal [hMiIdeal : Cert.MiIdeal.Facts] [hMiRefIdeal : Cert.MiRefIdeal.Facts] : Prop :=
  ∀ (m : (ℓ : Loc Cert.MiIdeal.nD Cert.MiIdeal.τ Cert.MiIdeal.sig) → Buf (Elt Ideal) ℓ) (g : Dev Cert.MiIdeal.nD → PrngReg)
    (m' : (ℓ : Loc Cert.MiRefIdeal.nD Cert.MiRefIdeal.τ Cert.MiRefIdeal.sig) → Buf (Elt Ideal) ℓ) (g' : Dev Cert.MiRefIdeal.nD → PrngReg), Pre_MiIdeal m →
    (∀ c : Dev Cert.MiIdeal.nD,
      m' ((c.tc : Thread Cert.MiRefIdeal.nD Cert.MiRefIdeal.τ).loc Cert.MiRefIdeal.main_arg0) = m ((c.tc : Thread Cert.MiIdeal.nD Cert.MiIdeal.τ).loc Cert.MiIdeal.main_arg0)
      ∧ m' ((c.tc : Thread Cert.MiRefIdeal.nD Cert.MiRefIdeal.τ).loc Cert.MiRefIdeal.main_arg1) = m ((c.tc : Thread Cert.MiIdeal.nD Cert.MiIdeal.τ).loc Cert.MiIdeal.main_arg1)
      ∧ m' ((c.tc : Thread Cert.MiRefIdeal.nD Cert.MiRefIdeal.τ).loc Cert.MiRefIdeal.main_arg2) = m ((c.tc : Thread Cert.MiIdeal.nD Cert.MiIdeal.τ).loc Cert.MiIdeal.main_arg2)) →
    ∃ (v0 : (c : Dev Cert.MiIdeal.nD) → Buf (Elt Ideal) ((c.tc : Thread Cert.MiIdeal.nD Cert.MiIdeal.τ).loc Cert.MiIdeal.main_v20)),
      θ_run (Cert.MiIdeal.defs (F := Ideal)) (onTc (τ := Cert.MiIdeal.τ) (Cert.MiIdeal.main (F := Ideal))) ⟨m, fun _ => 0, g⟩ (fun r => ∀ c : Dev Cert.MiIdeal.nD,
          r.2.mem ((c.tc : Thread Cert.MiIdeal.nD Cert.MiIdeal.τ).loc Cert.MiIdeal.main_v20) = v0 c
          ∧ r.2.mem ((c.tc : Thread Cert.MiIdeal.nD Cert.MiIdeal.τ).loc Cert.MiIdeal.main_arg0) = m ((c.tc : Thread Cert.MiIdeal.nD Cert.MiIdeal.τ).loc Cert.MiIdeal.main_arg0)
          ∧ r.2.mem ((c.tc : Thread Cert.MiIdeal.nD Cert.MiIdeal.τ).loc Cert.MiIdeal.main_arg1) = m ((c.tc : Thread Cert.MiIdeal.nD Cert.MiIdeal.τ).loc Cert.MiIdeal.main_arg1)
          ∧ r.2.mem ((c.tc : Thread Cert.MiIdeal.nD Cert.MiIdeal.τ).loc Cert.MiIdeal.main_arg2) = m ((c.tc : Thread Cert.MiIdeal.nD Cert.MiIdeal.τ).loc Cert.MiIdeal.main_arg2))
      ∧ θ_run (Cert.MiRefIdeal.defs (F := Ideal)) (onTc (τ := Cert.MiRefIdeal.τ) (Cert.MiRefIdeal.main (F := Ideal))) ⟨m', fun _ => 0, g'⟩ (fun r => ∀ c : Dev Cert.MiRefIdeal.nD,
          r.2.mem ((c.tc : Thread Cert.MiRefIdeal.nD Cert.MiRefIdeal.τ).loc Cert.MiRefIdeal.main_v12) = v0 c
          ∧ r.2.mem ((c.tc : Thread Cert.MiRefIdeal.nD Cert.MiRefIdeal.τ).loc Cert.MiRefIdeal.main_arg0) = m' ((c.tc : Thread Cert.MiRefIdeal.nD Cert.MiRefIdeal.τ).loc Cert.MiRefIdeal.main_arg0)
          ∧ r.2.mem ((c.tc : Thread Cert.MiRefIdeal.nD Cert.MiRefIdeal.τ).loc Cert.MiRefIdeal.main_arg1) = m' ((c.tc : Thread Cert.MiRefIdeal.nD Cert.MiRefIdeal.τ).loc Cert.MiRefIdeal.main_arg1)
          ∧ r.2.mem ((c.tc : Thread Cert.MiRefIdeal.nD Cert.MiRefIdeal.τ).loc Cert.MiRefIdeal.main_arg2) = m' ((c.tc : Thread Cert.MiRefIdeal.nD Cert.MiRefIdeal.τ).loc Cert.MiRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_DwGu_DwGuIdeal : Prop :=
  True

def algebraic_DwGuIdeal_DwGuRefIdeal [hDwGuIdeal : Cert.DwGuIdeal.Facts] [hDwGuRefIdeal : Cert.DwGuRefIdeal.Facts] : Prop :=
  ∀ (m : (ℓ : Loc Cert.DwGuIdeal.nD Cert.DwGuIdeal.τ Cert.DwGuIdeal.sig) → Buf (Elt Ideal) ℓ) (g : Dev Cert.DwGuIdeal.nD → PrngReg)
    (m' : (ℓ : Loc Cert.DwGuRefIdeal.nD Cert.DwGuRefIdeal.τ Cert.DwGuRefIdeal.sig) → Buf (Elt Ideal) ℓ) (g' : Dev Cert.DwGuRefIdeal.nD → PrngReg), Pre_DwGuIdeal m →
    (∀ c : Dev Cert.DwGuIdeal.nD,
      m' ((c.tc : Thread Cert.DwGuRefIdeal.nD Cert.DwGuRefIdeal.τ).loc Cert.DwGuRefIdeal.main_arg0) = m ((c.tc : Thread Cert.DwGuIdeal.nD Cert.DwGuIdeal.τ).loc Cert.DwGuIdeal.main_arg0)
      ∧ m' ((c.tc : Thread Cert.DwGuRefIdeal.nD Cert.DwGuRefIdeal.τ).loc Cert.DwGuRefIdeal.main_arg1) = m ((c.tc : Thread Cert.DwGuIdeal.nD Cert.DwGuIdeal.τ).loc Cert.DwGuIdeal.main_arg1)
      ∧ m' ((c.tc : Thread Cert.DwGuRefIdeal.nD Cert.DwGuRefIdeal.τ).loc Cert.DwGuRefIdeal.main_arg2) = m ((c.tc : Thread Cert.DwGuIdeal.nD Cert.DwGuIdeal.τ).loc Cert.DwGuIdeal.main_arg2)) →
    ∃ (v0 : (c : Dev Cert.DwGuIdeal.nD) → Buf (Elt Ideal) ((c.tc : Thread Cert.DwGuIdeal.nD Cert.DwGuIdeal.τ).loc Cert.DwGuIdeal.main_v4)),
      θ_run (Cert.DwGuIdeal.defs (F := Ideal)) (onTc (τ := Cert.DwGuIdeal.τ) (Cert.DwGuIdeal.main (F := Ideal))) ⟨m, fun _ => 0, g⟩ (fun r => ∀ c : Dev Cert.DwGuIdeal.nD,
          r.2.mem ((c.tc : Thread Cert.DwGuIdeal.nD Cert.DwGuIdeal.τ).loc Cert.DwGuIdeal.main_v4) = v0 c
          ∧ r.2.mem ((c.tc : Thread Cert.DwGuIdeal.nD Cert.DwGuIdeal.τ).loc Cert.DwGuIdeal.main_arg0) = m ((c.tc : Thread Cert.DwGuIdeal.nD Cert.DwGuIdeal.τ).loc Cert.DwGuIdeal.main_arg0)
          ∧ r.2.mem ((c.tc : Thread Cert.DwGuIdeal.nD Cert.DwGuIdeal.τ).loc Cert.DwGuIdeal.main_arg1) = m ((c.tc : Thread Cert.DwGuIdeal.nD Cert.DwGuIdeal.τ).loc Cert.DwGuIdeal.main_arg1)
          ∧ r.2.mem ((c.tc : Thread Cert.DwGuIdeal.nD Cert.DwGuIdeal.τ).loc Cert.DwGuIdeal.main_arg2) = m ((c.tc : Thread Cert.DwGuIdeal.nD Cert.DwGuIdeal.τ).loc Cert.DwGuIdeal.main_arg2))
      ∧ θ_run (Cert.DwGuRefIdeal.defs (F := Ideal)) (onTc (τ := Cert.DwGuRefIdeal.τ) (Cert.DwGuRefIdeal.main (F := Ideal))) ⟨m', fun _ => 0, g'⟩ (fun r => ∀ c : Dev Cert.DwGuRefIdeal.nD,
          r.2.mem ((c.tc : Thread Cert.DwGuRefIdeal.nD Cert.DwGuRefIdeal.τ).loc Cert.DwGuRefIdeal.main_v5) = v0 c
          ∧ r.2.mem ((c.tc : Thread Cert.DwGuRefIdeal.nD Cert.DwGuRefIdeal.τ).loc Cert.DwGuRefIdeal.main_arg0) = m' ((c.tc : Thread Cert.DwGuRefIdeal.nD Cert.DwGuRefIdeal.τ).loc Cert.DwGuRefIdeal.main_arg0)
          ∧ r.2.mem ((c.tc : Thread Cert.DwGuRefIdeal.nD Cert.DwGuRefIdeal.τ).loc Cert.DwGuRefIdeal.main_arg1) = m' ((c.tc : Thread Cert.DwGuRefIdeal.nD Cert.DwGuRefIdeal.τ).loc Cert.DwGuRefIdeal.main_arg1)
          ∧ r.2.mem ((c.tc : Thread Cert.DwGuRefIdeal.nD Cert.DwGuRefIdeal.τ).loc Cert.DwGuRefIdeal.main_arg2) = m' ((c.tc : Thread Cert.DwGuRefIdeal.nD Cert.DwGuRefIdeal.τ).loc Cert.DwGuRefIdeal.main_arg2))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)
      ∧ m' ((c.tc : Thread Cert.DwDownRefIdeal.nD Cert.DwDownRefIdeal.τ).loc Cert.DwDownRefIdeal.main_arg2) = m ((c.tc : Thread Cert.DwDownIdeal.nD Cert.DwDownIdeal.τ).loc Cert.DwDownIdeal.main_arg2)) →
    ∃ (v0 : (c : Dev Cert.DwDownIdeal.nD) → Buf (Elt Ideal) ((c.tc : Thread Cert.DwDownIdeal.nD Cert.DwDownIdeal.τ).loc Cert.DwDownIdeal.main_v1)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v1) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
          ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v3) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1)
          ∧ r.2.mem ((c.tc : Thread Cert.DwDownRefIdeal.nD Cert.DwDownRefIdeal.τ).loc Cert.DwDownRefIdeal.main_arg2) = m' ((c.tc : Thread Cert.DwDownRefIdeal.nD Cert.DwDownRefIdeal.τ).loc Cert.DwDownRefIdeal.main_arg2))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)
      ∧ m' ((c.tc : Thread Cert.AdamRefIdeal.nD Cert.AdamRefIdeal.τ).loc Cert.AdamRefIdeal.main_arg5) = m ((c.tc : Thread Cert.AdamIdeal.nD Cert.AdamIdeal.τ).loc Cert.AdamIdeal.main_arg5)
      ∧ m' ((c.tc : Thread Cert.AdamRefIdeal.nD Cert.AdamRefIdeal.τ).loc Cert.AdamRefIdeal.main_arg6) = m ((c.tc : Thread Cert.AdamIdeal.nD Cert.AdamIdeal.τ).loc Cert.AdamIdeal.main_arg6)
      ∧ m' ((c.tc : Thread Cert.AdamRefIdeal.nD Cert.AdamRefIdeal.τ).loc Cert.AdamRefIdeal.main_arg7) = m ((c.tc : Thread Cert.AdamIdeal.nD Cert.AdamIdeal.τ).loc Cert.AdamIdeal.main_arg7)
      ∧ m' ((c.tc : Thread Cert.AdamRefIdeal.nD Cert.AdamRefIdeal.τ).loc Cert.AdamRefIdeal.main_arg8) = m ((c.tc : Thread Cert.AdamIdeal.nD Cert.AdamIdeal.τ).loc Cert.AdamIdeal.main_arg8)
      ∧ m' ((c.tc : Thread Cert.AdamRefIdeal.nD Cert.AdamRefIdeal.τ).loc Cert.AdamRefIdeal.main_arg9) = m ((c.tc : Thread Cert.AdamIdeal.nD Cert.AdamIdeal.τ).loc Cert.AdamIdeal.main_arg9)
      ∧ m' ((c.tc : Thread Cert.AdamRefIdeal.nD Cert.AdamRefIdeal.τ).loc Cert.AdamRefIdeal.main_arg10) = m ((c.tc : Thread Cert.AdamIdeal.nD Cert.AdamIdeal.τ).loc Cert.AdamIdeal.main_arg10)
      ∧ m' ((c.tc : Thread Cert.AdamRefIdeal.nD Cert.AdamRefIdeal.τ).loc Cert.AdamRefIdeal.main_arg11) = m ((c.tc : Thread Cert.AdamIdeal.nD Cert.AdamIdeal.τ).loc Cert.AdamIdeal.main_arg11)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_3)) (v2 : (c : Dev Cert.AdamIdeal.nD) → Buf (Elt Ideal) ((c.tc : Thread Cert.AdamIdeal.nD Cert.AdamIdeal.τ).loc Cert.AdamIdeal.main_v0_6)) (v3 : (c : Dev Cert.AdamIdeal.nD) → Buf (Elt Ideal) ((c.tc : Thread Cert.AdamIdeal.nD Cert.AdamIdeal.τ).loc Cert.AdamIdeal.main_v0_9)) (v4 : (c : Dev Cert.AdamIdeal.nD) → Buf (Elt Ideal) ((c.tc : Thread Cert.AdamIdeal.nD Cert.AdamIdeal.τ).loc Cert.AdamIdeal.main_v0_1)) (v5 : (c : Dev Cert.AdamIdeal.nD) → Buf (Elt Ideal) ((c.tc : Thread Cert.AdamIdeal.nD Cert.AdamIdeal.τ).loc Cert.AdamIdeal.main_v0_4)) (v6 : (c : Dev Cert.AdamIdeal.nD) → Buf (Elt Ideal) ((c.tc : Thread Cert.AdamIdeal.nD Cert.AdamIdeal.τ).loc Cert.AdamIdeal.main_v0_7)) (v7 : (c : Dev Cert.AdamIdeal.nD) → Buf (Elt Ideal) ((c.tc : Thread Cert.AdamIdeal.nD Cert.AdamIdeal.τ).loc Cert.AdamIdeal.main_v0_10)) (v8 : (c : Dev Cert.AdamIdeal.nD) → Buf (Elt Ideal) ((c.tc : Thread Cert.AdamIdeal.nD Cert.AdamIdeal.τ).loc Cert.AdamIdeal.main_v0_2)) (v9 : (c : Dev Cert.AdamIdeal.nD) → Buf (Elt Ideal) ((c.tc : Thread Cert.AdamIdeal.nD Cert.AdamIdeal.τ).loc Cert.AdamIdeal.main_v0_5)) (v10 : (c : Dev Cert.AdamIdeal.nD) → Buf (Elt Ideal) ((c.tc : Thread Cert.AdamIdeal.nD Cert.AdamIdeal.τ).loc Cert.AdamIdeal.main_v0_8)) (v11 : (c : Dev Cert.AdamIdeal.nD) → Buf (Elt Ideal) ((c.tc : Thread Cert.AdamIdeal.nD Cert.AdamIdeal.τ).loc Cert.AdamIdeal.main_v0_11)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_3) = v1 c
          ∧ r.2.mem ((c.tc : Thread Cert.AdamIdeal.nD Cert.AdamIdeal.τ).loc Cert.AdamIdeal.main_v0_6) = v2 c
          ∧ r.2.mem ((c.tc : Thread Cert.AdamIdeal.nD Cert.AdamIdeal.τ).loc Cert.AdamIdeal.main_v0_9) = v3 c
          ∧ r.2.mem ((c.tc : Thread Cert.AdamIdeal.nD Cert.AdamIdeal.τ).loc Cert.AdamIdeal.main_v0_1) = v4 c
          ∧ r.2.mem ((c.tc : Thread Cert.AdamIdeal.nD Cert.AdamIdeal.τ).loc Cert.AdamIdeal.main_v0_4) = v5 c
          ∧ r.2.mem ((c.tc : Thread Cert.AdamIdeal.nD Cert.AdamIdeal.τ).loc Cert.AdamIdeal.main_v0_7) = v6 c
          ∧ r.2.mem ((c.tc : Thread Cert.AdamIdeal.nD Cert.AdamIdeal.τ).loc Cert.AdamIdeal.main_v0_10) = v7 c
          ∧ r.2.mem ((c.tc : Thread Cert.AdamIdeal.nD Cert.AdamIdeal.τ).loc Cert.AdamIdeal.main_v0_2) = v8 c
          ∧ r.2.mem ((c.tc : Thread Cert.AdamIdeal.nD Cert.AdamIdeal.τ).loc Cert.AdamIdeal.main_v0_5) = v9 c
          ∧ r.2.mem ((c.tc : Thread Cert.AdamIdeal.nD Cert.AdamIdeal.τ).loc Cert.AdamIdeal.main_v0_8) = v10 c
          ∧ r.2.mem ((c.tc : Thread Cert.AdamIdeal.nD Cert.AdamIdeal.τ).loc Cert.AdamIdeal.main_v0_11) = v11 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
          ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
          ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
          ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7)
          ∧ r.2.mem ((c.tc : Thread Cert.AdamIdeal.nD Cert.AdamIdeal.τ).loc Cert.AdamIdeal.main_arg8) = m ((c.tc : Thread Cert.AdamIdeal.nD Cert.AdamIdeal.τ).loc Cert.AdamIdeal.main_arg8)
          ∧ r.2.mem ((c.tc : Thread Cert.AdamIdeal.nD Cert.AdamIdeal.τ).loc Cert.AdamIdeal.main_arg9) = m ((c.tc : Thread Cert.AdamIdeal.nD Cert.AdamIdeal.τ).loc Cert.AdamIdeal.main_arg9)
          ∧ r.2.mem ((c.tc : Thread Cert.AdamIdeal.nD Cert.AdamIdeal.τ).loc Cert.AdamIdeal.main_arg10) = m ((c.tc : Thread Cert.AdamIdeal.nD Cert.AdamIdeal.τ).loc Cert.AdamIdeal.main_arg10)
          ∧ r.2.mem ((c.tc : Thread Cert.AdamIdeal.nD Cert.AdamIdeal.τ).loc Cert.AdamIdeal.main_arg11) = m ((c.tc : Thread Cert.AdamIdeal.nD Cert.AdamIdeal.τ).loc Cert.AdamIdeal.main_arg11))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_arg3) = v0 c
          ∧ r.2.mem ((c.tc : Thread Cert.AdamRefIdeal.nD Cert.AdamRefIdeal.τ).loc Cert.AdamRefIdeal.main_v23) = v1 c
          ∧ r.2.mem ((c.tc : Thread Cert.AdamRefIdeal.nD Cert.AdamRefIdeal.τ).loc Cert.AdamRefIdeal.main_v4) = v2 c
          ∧ r.2.mem ((c.tc : Thread Cert.AdamRefIdeal.nD Cert.AdamRefIdeal.τ).loc Cert.AdamRefIdeal.main_v10) = v3 c
          ∧ r.2.mem ((c.tc : Thread Cert.AdamRefIdeal.nD Cert.AdamRefIdeal.τ).loc Cert.AdamRefIdeal.main_arg4) = v4 c
          ∧ r.2.mem ((c.tc : Thread Cert.AdamRefIdeal.nD Cert.AdamRefIdeal.τ).loc Cert.AdamRefIdeal.main_v47) = v5 c
          ∧ r.2.mem ((c.tc : Thread Cert.AdamRefIdeal.nD Cert.AdamRefIdeal.τ).loc Cert.AdamRefIdeal.main_v28) = v6 c
          ∧ r.2.mem ((c.tc : Thread Cert.AdamRefIdeal.nD Cert.AdamRefIdeal.τ).loc Cert.AdamRefIdeal.main_v34) = v7 c
          ∧ r.2.mem ((c.tc : Thread Cert.AdamRefIdeal.nD Cert.AdamRefIdeal.τ).loc Cert.AdamRefIdeal.main_arg5) = v8 c
          ∧ r.2.mem ((c.tc : Thread Cert.AdamRefIdeal.nD Cert.AdamRefIdeal.τ).loc Cert.AdamRefIdeal.main_v71) = v9 c
          ∧ r.2.mem ((c.tc : Thread Cert.AdamRefIdeal.nD Cert.AdamRefIdeal.τ).loc Cert.AdamRefIdeal.main_v52) = v10 c
          ∧ r.2.mem ((c.tc : Thread Cert.AdamRefIdeal.nD Cert.AdamRefIdeal.τ).loc Cert.AdamRefIdeal.main_v58) = v11 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4)
          ∧ r.2.mem ((c.tc : Thread Cert.AdamRefIdeal.nD Cert.AdamRefIdeal.τ).loc Cert.AdamRefIdeal.main_arg5) = m' ((c.tc : Thread Cert.AdamRefIdeal.nD Cert.AdamRefIdeal.τ).loc Cert.AdamRefIdeal.main_arg5)
          ∧ r.2.mem ((c.tc : Thread Cert.AdamRefIdeal.nD Cert.AdamRefIdeal.τ).loc Cert.AdamRefIdeal.main_arg6) = m' ((c.tc : Thread Cert.AdamRefIdeal.nD Cert.AdamRefIdeal.τ).loc Cert.AdamRefIdeal.main_arg6)
          ∧ r.2.mem ((c.tc : Thread Cert.AdamRefIdeal.nD Cert.AdamRefIdeal.τ).loc Cert.AdamRefIdeal.main_arg7) = m' ((c.tc : Thread Cert.AdamRefIdeal.nD Cert.AdamRefIdeal.τ).loc Cert.AdamRefIdeal.main_arg7)
          ∧ r.2.mem ((c.tc : Thread Cert.AdamRefIdeal.nD Cert.AdamRefIdeal.τ).loc Cert.AdamRefIdeal.main_arg8) = m' ((c.tc : Thread Cert.AdamRefIdeal.nD Cert.AdamRefIdeal.τ).loc Cert.AdamRefIdeal.main_arg8)
          ∧ r.2.mem ((c.tc : Thread Cert.AdamRefIdeal.nD Cert.AdamRefIdeal.τ).loc Cert.AdamRefIdeal.main_arg9) = m' ((c.tc : Thread Cert.AdamRefIdeal.nD Cert.AdamRefIdeal.τ).loc Cert.AdamRefIdeal.main_arg9)
          ∧ r.2.mem ((c.tc : Thread Cert.AdamRefIdeal.nD Cert.AdamRefIdeal.τ).loc Cert.AdamRefIdeal.main_arg10) = m' ((c.tc : Thread Cert.AdamRefIdeal.nD Cert.AdamRefIdeal.τ).loc Cert.AdamRefIdeal.main_arg10)
          ∧ r.2.mem ((c.tc : Thread Cert.AdamRefIdeal.nD Cert.AdamRefIdeal.τ).loc Cert.AdamRefIdeal.main_arg11) = m' ((c.tc : Thread Cert.AdamRefIdeal.nD Cert.AdamRefIdeal.τ).loc Cert.AdamRefIdeal.main_arg11))

def Claim : Prop :=
  ∃ (hPle : Cert.Ple.Facts) (hPleIdeal : Cert.PleIdeal.Facts) (hPleRefIdeal : Cert.PleRefIdeal.Facts) (hMix : Cert.Mix.Facts) (hMixIdeal : Cert.MixIdeal.Facts) (hMixRefIdeal : Cert.MixRefIdeal.Facts) (hFfn : Cert.Ffn.Facts) (hFfnIdeal : Cert.FfnIdeal.Facts) (hFfnRefIdeal : Cert.FfnRefIdeal.Facts) (hUp : Cert.Up.Facts) (hUpIdeal : Cert.UpIdeal.Facts) (hUpRefIdeal : Cert.UpRefIdeal.Facts) (hInBwd : Cert.InBwd.Facts) (hInBwdIdeal : Cert.InBwdIdeal.Facts) (hInRefIdeal : Cert.InRefIdeal.Facts) (hCp : Cert.Cp.Facts) (hCpIdeal : Cert.CpIdeal.Facts) (hCpRefIdeal : Cert.CpRefIdeal.Facts) (hMi : Cert.Mi.Facts) (hMiIdeal : Cert.MiIdeal.Facts) (hMiRefIdeal : Cert.MiRefIdeal.Facts) (hDown : Cert.Down.Facts) (hDownIdeal : Cert.DownIdeal.Facts) (hDownRefIdeal : Cert.DownRefIdeal.Facts) (hDwGu : Cert.DwGu.Facts) (hDwGuIdeal : Cert.DwGuIdeal.Facts) (hDwGuRefIdeal : Cert.DwGuRefIdeal.Facts) (hDwDown : Cert.DwDown.Facts) (hDwDownIdeal : Cert.DwDownIdeal.Facts) (hDwDownRefIdeal : Cert.DwDownRefIdeal.Facts) (hAdam : Cert.Adam.Facts) (hAdamIdeal : Cert.AdamIdeal.Facts) (hAdamRefIdeal : Cert.AdamRefIdeal.Facts) (hPre_finite : Cert.Pre_finite.Facts) (hPre_finite_mix : Cert.Pre_finite_mix.Facts) (hPre_finite_ffn : Cert.Pre_finite_ffn.Facts) (hPre_finite_in : Cert.Pre_finite_in.Facts) (hPre_finite_cp : Cert.Pre_finite_cp.Facts),
    quiescent_Ple (hPle := hPle)
    ∧ quiescent_PleIdeal (hPleIdeal := hPleIdeal)
    ∧ quiescent_PleIdeal_pre_finite (hPleIdeal := hPleIdeal) (hPre_finite := hPre_finite)
    ∧ quiescent_PleRefIdeal (hPleRefIdeal := hPleRefIdeal)
    ∧ quiescent_PleRefIdeal_pre_finite (hPleRefIdeal := hPleRefIdeal) (hPre_finite := hPre_finite)
    ∧ quiescent_Mix (hMix := hMix)
    ∧ quiescent_MixIdeal (hMixIdeal := hMixIdeal)
    ∧ quiescent_MixIdeal_pre_finite_mix (hMixIdeal := hMixIdeal) (hPre_finite_mix := hPre_finite_mix)
    ∧ quiescent_MixRefIdeal (hMixRefIdeal := hMixRefIdeal)
    ∧ quiescent_MixRefIdeal_pre_finite_mix (hMixRefIdeal := hMixRefIdeal) (hPre_finite_mix := hPre_finite_mix)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_Up (hUp := hUp)
    ∧ quiescent_UpIdeal (hUpIdeal := hUpIdeal)
    ∧ quiescent_UpRefIdeal (hUpRefIdeal := hUpRefIdeal)
    ∧ quiescent_InBwd (hInBwd := hInBwd)
    ∧ quiescent_InBwdIdeal (hInBwdIdeal := hInBwdIdeal)
    ∧ quiescent_InBwdIdeal_pre_finite_in (hInBwdIdeal := hInBwdIdeal) (hPre_finite_in := hPre_finite_in)
    ∧ quiescent_InRefIdeal (hInRefIdeal := hInRefIdeal)
    ∧ quiescent_InRefIdeal_pre_finite_in (hInRefIdeal := hInRefIdeal) (hPre_finite_in := hPre_finite_in)
    ∧ quiescent_Cp (hCp := hCp)
    ∧ quiescent_CpIdeal (hCpIdeal := hCpIdeal)
    ∧ quiescent_CpIdeal_pre_finite_cp (hCpIdeal := hCpIdeal) (hPre_finite_cp := hPre_finite_cp)
    ∧ quiescent_CpRefIdeal (hCpRefIdeal := hCpRefIdeal)
    ∧ quiescent_CpRefIdeal_pre_finite_cp (hCpRefIdeal := hCpRefIdeal) (hPre_finite_cp := hPre_finite_cp)
    ∧ quiescent_Mi (hMi := hMi)
    ∧ quiescent_MiIdeal (hMiIdeal := hMiIdeal)
    ∧ quiescent_MiRefIdeal (hMiRefIdeal := hMiRefIdeal)
    ∧ quiescent_Down (hDown := hDown)
    ∧ quiescent_DownIdeal (hDownIdeal := hDownIdeal)
    ∧ quiescent_DownRefIdeal (hDownRefIdeal := hDownRefIdeal)
    ∧ quiescent_DwGu (hDwGu := hDwGu)
    ∧ quiescent_DwGuIdeal (hDwGuIdeal := hDwGuIdeal)
    ∧ quiescent_DwGuRefIdeal (hDwGuRefIdeal := hDwGuRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_Adam (hAdam := hAdam)
    ∧ quiescent_AdamIdeal (hAdamIdeal := hAdamIdeal)
    ∧ quiescent_AdamRefIdeal (hAdamRefIdeal := hAdamRefIdeal)
    ∧ preserves_Ple_PleIdeal
    ∧ algebraic_PleIdeal_PleRefIdeal_pre_finite (hPleIdeal := hPleIdeal) (hPleRefIdeal := hPleRefIdeal) (hPre_finite := hPre_finite)
    ∧ preserves_Mix_MixIdeal
    ∧ algebraic_MixIdeal_MixRefIdeal_pre_finite_mix (hMixIdeal := hMixIdeal) (hMixRefIdeal := hMixRefIdeal) (hPre_finite_mix := hPre_finite_mix)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_Up_UpIdeal
    ∧ algebraic_UpIdeal_UpRefIdeal (hUpIdeal := hUpIdeal) (hUpRefIdeal := hUpRefIdeal)
    ∧ preserves_InBwd_InBwdIdeal
    ∧ algebraic_InBwdIdeal_InRefIdeal_pre_finite_in (hInBwdIdeal := hInBwdIdeal) (hInRefIdeal := hInRefIdeal) (hPre_finite_in := hPre_finite_in)
    ∧ preserves_Cp_CpIdeal
    ∧ algebraic_CpIdeal_CpRefIdeal_pre_finite_cp (hCpIdeal := hCpIdeal) (hCpRefIdeal := hCpRefIdeal) (hPre_finite_cp := hPre_finite_cp)
    ∧ preserves_Mi_MiIdeal
    ∧ algebraic_MiIdeal_MiRefIdeal (hMiIdeal := hMiIdeal) (hMiRefIdeal := hMiRefIdeal)
    ∧ preserves_Down_DownIdeal
    ∧ algebraic_DownIdeal_DownRefIdeal (hDownIdeal := hDownIdeal) (hDownRefIdeal := hDownRefIdeal)
    ∧ preserves_DwGu_DwGuIdeal
    ∧ algebraic_DwGuIdeal_DwGuRefIdeal (hDwGuIdeal := hDwGuIdeal) (hDwGuRefIdeal := hDwGuRefIdeal)
    ∧ preserves_DwDown_DwDownIdeal
    ∧ algebraic_DwDownIdeal_DwDownRefIdeal (hDwDownIdeal := hDwDownIdeal) (hDwDownRefIdeal := hDwDownRefIdeal)
    ∧ preserves_Adam_AdamIdeal
    ∧ algebraic_AdamIdeal_AdamRefIdeal (hAdamIdeal := hAdamIdeal) (hAdamRefIdeal := hAdamRefIdeal)
-- ==== Pre_finite.lean ====
abbrev S4096x1024 : Shape := ⟨2, ![4096, 1024]⟩
abbrev S4096x256 : Shape := ⟨2, ![4096, 256]⟩
abbrev S1x1024 : Shape := ⟨2, ![1, 1024]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S4096x256 : S_.BroadcastsInDim S4096x256 (![] : Fin 0 → Fin S4096x256.rank)
  bcast_S_S1x1024 : S_.BroadcastsInDim S1x1024 (![] : Fin 0 → Fin S1x1024.rank)
  bcast_S_S1024x1024 : S_.BroadcastsInDim S1024x1024 (![] : Fin 0 → Fin S1024x1024.rank)
  bcast_S_S256x1024 : S_.BroadcastsInDim S256x1024 (![] : Fin 0 → Fin S256x1024.rank)
  bcast_S_S1024 : S_.BroadcastsInDim S1024 (![] : Fin 0 → Fin S1024.rank)

variable [Facts]

def fn_part1 {F : FTy → Type} [FloatOps F] (main_arg6 : FVec F S1024 .f32) (main_arg7 : FVec F S4096x1024 .f32) (main_v2 : IVec S4096x1024 1) (main_v5 : IVec S4096x256 1) (main_v8 : IVec S1x1024 1) (main_v11 : IVec S1024x1024 1) (main_v14 : IVec S256x1024 1) (main_v17 : IVec S1x1024 1) : IVec S4096x1024 1 × IVec S4096x256 1 × IVec S1x1024 1 × IVec S1024x1024 1 × IVec S256x1024 1 × IVec S1x1024 1 × IVec S1024 1 × IVec S4096x1024 1 :=
  let main_v18 : FVec F S1024 .f32 := subf main_arg6 main_arg6
  let main_cst_5 : FVec F S_ .f32 := constant S_ .f32 0x00000000#32
  let main_v19 : FVec F S1024 .f32 := broadcastInDim S1024 ![] bcast_S_S1024 main_cst_5
  let main_v20 : IVec S1024 1 := cmpf .oeq main_v18 main_v19
  let main_v21 : FVec F S4096x1024 .f32 := subf main_arg7 main_arg7
  let main_cst_6 : FVec F S_ .f32 := constant S_ .f32 0x00000000#32
  let main_v22 : FVec F S4096x1024 .f32 := broadcastInDim S4096x1024 ![] bcast_S_S4096x1024 main_cst_6
  let main_v23 : IVec S4096x1024 1 := cmpf .oeq main_v21 main_v22
  (main_v2, main_v5, main_v8, main_v11, main_v14, main_v17, main_v20, main_v23)

def fn {F : FTy → Type} [FloatOps F] (main_arg0 : FVec F S4096x1024 .f32) (main_arg1 : FVec F S4096x256 .f32) (main_arg2 : FVec F S1x1024 .f32) (main_arg3 : FVec F S1024x1024 .f32) (main_arg4 : FVec F S256x1024 .f32) (main_arg5 : FVec F S1x1024 .f32) (main_arg6 : FVec F S1024 .f32) (main_arg7 : FVec F S4096x1024 .f32) : IVec S4096x1024 1 × IVec S4096x256 1 × IVec S1x1024 1 × IVec S1024x1024 1 × IVec S256x1024 1 × IVec S1x1024 1 × IVec S1024 1 × IVec S4096x1024 1 :=
  let main_v0 : FVec F S4096x1024 .f32 := subf main_arg0 main_arg0
  let main_cst : FVec F S_ .f32 := constant S_ .f32 0x00000000#32
  let main_v1 : FVec F S4096x1024 .f32 := broadcastInDim S4096x1024 ![] bcast_S_S4096x1024 main_cst
  let main_v2 : IVec S4096x1024 1 := cmpf .oeq main_v0 main_v1
  let main_v3 : FVec F S4096x256 .f32 := subf main_arg1 main_arg1
  let main_cst_0 : FVec F S_ .f32 := constant S_ .f32 0x00000000#32
  let main_v4 : FVec F S4096x256 .f32 := broadcastInDim S4096x256 ![] bcast_S_S4096x256 main_cst_0
  let main_v5 : IVec S4096x256 1 := cmpf .oeq main_v3 main_v4
  let main_v6 : FVec F S1x1024 .f32 := subf main_arg2 main_arg2
  let main_cst_1 : FVec F S_ .f32 := constant S_ .f32 0x00000000#32
  let main_v7 : FVec F S1x1024 .f32 := broadcastInDim S1x1024 ![] bcast_S_S1x1024 main_cst_1
  let main_v8 : IVec S1x1024 1 := cmpf .oeq main_v6 main_v7
  let main_v9 : FVec F S1024x1024 .f32 := subf main_arg3 main_arg3
  let main_cst_2 : FVec F S_ .f32 := constant S_ .f32 0x00000000#32
  let main_v10 : FVec F S1024x1024 .f32 := broadcastInDim S1024x1024 ![] bcast_S_S1024x1024 main_cst_2
  let main_v11 : IVec S1024x1024 1 := cmpf .oeq main_v9 main_v10
  let main_v12 : FVec F S256x1024 .f32 := subf main_arg4 main_arg4
  let main_cst_3 : FVec F S_ .f32 := constant S_ .f32 0x00000000#32
  let main_v13 : FVec F S256x1024 .f32 := broadcastInDim S256x1024 ![] bcast_S_S256x1024 main_cst_3
  let main_v14 : IVec S256x1024 1 := cmpf .oeq main_v12 main_v13
  let main_v15 : FVec F S1x1024 .f32 := subf main_arg5 main_arg5
  let main_cst_4 : FVec F S_ .f32 := constant S_ .f32 0x00000000#32
  let main_v16 : FVec F S1x1024 .f32 := broadcastInDim S1x1024 ![] bcast_S_S1x1024 main_cst_4
  let main_v17 : IVec S1x1024 1 := cmpf .oeq main_v15 main_v16
  fn_part1 (F := F) main_arg6 main_arg7 main_v2 main_v5 main_v8 main_v11 main_v14 main_v17
-- ==== Pre_finite_cp.lean ====
abbrev S4096x1536 : Shape := ⟨2, ![4096, 1536]⟩
abbrev S4096x1024 : Shape := ⟨2, ![4096, 1024]⟩
abbrev S31x512 : Shape := ⟨2, ![31, 512]⟩
abbrev S1x512 : Shape := ⟨2, ![1, 512]⟩
abbrev S4x128x128 : Shape := ⟨3, ![4, 128, 128]⟩
abbrev S1024x1024 : Shape := ⟨2, ![1024, 1024]⟩
abbrev S1x1024 : Shape := ⟨2, ![1, 1024]⟩
abbrev S_ : Shape := ⟨0, ![]⟩

class Facts : Prop where
  bcast_S_S4096x1536 : S_.BroadcastsInDim S4096x1536 (![] : Fin 0 → Fin S4096x1536.rank)

variable [Facts]

def fn {F : FTy → Type} [FloatOps F] (main_arg0 : FVec F S4096x1536 .f32) (main_arg1 : FVec F S4096x1024 .f32) (main_arg2 : FVec F S31x512 .f32) (main_arg3 : FVec F S1x512 .f32) (main_arg4 : FVec F S1x512 .f32) (main_arg5 : FVec F S1x512 .f32) (main_arg6 : FVec F S4x128x128 .f32) (main_arg7 : FVec F S1x512 .f32) (main_arg8 : FVec F S1024x1024 .f32) (main_arg9 : FVec F S1x1024 .f32) : IVec S4096x1536 1 :=
  let main_v0 : FVec F S4096x1536 .f32 := subf main_arg0 main_arg0
  let main_cst : FVec F S_ .f32 := constant S_ .f32 0x00000000#32
  let main_v1 : FVec F S4096x1536 .f32 := broadcastInDim S4096x1536 ![] bcast_S_S4096x1536 main_cst
  let main_v2 : IVec S4096x1536 1 := cmpf .oeq main_v0 main_v1
  main_v2
-- ==== Pre_finite_ffn.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1x1024 .f32) (main_arg2 : FVec F S1024x5632 .f32) (main_arg3 : FVec F S2816x1024 .f32) (main_arg4 : FVec F S4096x1024 .f32) : IVec S4096x1024 1 × IVec S1x1024 1 × IVec S1024x5632 1 × IVec S2816x1024 1 × IVec S4096x1024 1 :=
  let main_v0 : FVec F S4096x1024 .f32 := subf main_arg0 main_arg0
  let main_cst : FVec F S_ .f32 := constant S_ .f32 0x00000000#32
  let main_v1 : FVec F S4096x1024 .f32 := broadcastInDim S4096x1024 ![] bcast_S_S4096x1024 main_cst
  let main_v2 : IVec S4096x1024 1 := cmpf .oeq main_v0 main_v1
  let main_v3 : FVec F S1x1024 .f32 := subf main_arg1 main_arg1
  let main_cst_0 : FVec F S_ .f32 := constant S_ .f32 0x00000000#32
  let main_v4 : FVec F S1x1024 .f32 := broadcastInDim S1x1024 ![] bcast_S_S1x1024 main_cst_0
  let main_v5 : IVec S1x1024 1 := cmpf .oeq main_v3 main_v4
  let main_v6 : FVec F S1024x5632 .f32 := subf main_arg2 main_arg2
  let main_cst_1 : FVec F S_ .f32 := constant S_ .f32 0x00000000#32
  let main_v7 : FVec F S1024x5632 .f32 := broadcastInDim S1024x5632 ![] bcast_S_S1024x5632 main_cst_1
  let main_v8 : IVec S1024x5632 1 := cmpf .oeq main_v6 main_v7
  let main_v9 : FVec F S2816x1024 .f32 := subf main_arg3 main_arg3
  let main_cst_2 : FVec F S_ .f32 := constant S_ .f32 0x00000000#32
  let main_v10 : FVec F S2816x1024 .f32 := broadcastInDim S2816x1024 ![] bcast_S_S2816x1024 main_cst_2
  let main_v11 : IVec S2816x1024 1 := cmpf .oeq main_v9 main_v10
  let main_v12 : FVec F S4096x1024 .f32 := subf main_arg4 main_arg4
  let main_cst_3 : FVec F S_ .f32 := constant S_ .f32 0x00000000#32
  let main_v13 : FVec F S4096x1024 .f32 := broadcastInDim S4096x1024 ![] bcast_S_S4096x1024 main_cst_3
  let main_v14 : IVec S4096x1024 1 := cmpf .oeq main_v12 main_v13
  (main_v2, main_v5, main_v8, main_v11, main_v14)
-- ==== Pre_finite_in.lean ====
abbrev S4096x1024 : Shape := ⟨2, ![4096, 1024]⟩
abbrev S1x1024 : Shape := ⟨2, ![1, 1024]⟩
abbrev S1024x1536 : Shape := ⟨2, ![1024, 1536]⟩
abbrev S31x512 : Shape := ⟨2, ![31, 512]⟩
abbrev S1x512 : Shape := ⟨2, ![1, 512]⟩
abbrev S4096x512 : Shape := ⟨2, ![4096, 512]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x1536 : S_.BroadcastsInDim S1024x1536 (![] : Fin 0 → Fin S1024x1536.rank)
  bcast_S_S31x512 : S_.BroadcastsInDim S31x512 (![] : Fin 0 → Fin S31x512.rank)
  bcast_S_S4096x512 : S_.BroadcastsInDim S4096x512 (![] : Fin 0 → Fin S4096x512.rank)

variable [Facts]

def fn_part1 {F : FTy → Type} [FloatOps F] (main_arg7 : FVec F S4096x512 .f32) (main_v2 : IVec S4096x1024 1) (main_v5 : IVec S1x1024 1) (main_v8 : IVec S1024x1536 1) (main_v11 : IVec S31x512 1) (main_v14 : IVec S4096x1024 1) (main_v17 : IVec S4096x512 1) : IVec S4096x1024 1 × IVec S1x1024 1 × IVec S1024x1536 1 × IVec S31x512 1 × IVec S4096x1024 1 × IVec S4096x512 1 × IVec S4096x512 1 :=
  let main_v18 : FVec F S4096x512 .f32 := subf main_arg7 main_arg7
  let main_cst_5 : FVec F S_ .f32 := constant S_ .f32 0x00000000#32
  let main_v19 : FVec F S4096x512 .f32 := broadcastInDim S4096x512 ![] bcast_S_S4096x512 main_cst_5
  let main_v20 : IVec S4096x512 1 := cmpf .oeq main_v18 main_v19
  (main_v2, main_v5, main_v8, main_v11, main_v14, main_v17, main_v20)

def fn {F : FTy → Type} [FloatOps F] (main_arg0 : FVec F S4096x1024 .f32) (main_arg1 : FVec F S1x1024 .f32) (main_arg2 : FVec F S1024x1536 .f32) (main_arg3 : FVec F S31x512 .f32) (main_arg4 : FVec F S1x512 .f32) (main_arg5 : FVec F S4096x1024 .f32) (main_arg6 : FVec F S4096x512 .f32) (main_arg7 : FVec F S4096x512 .f32) : IVec S4096x1024 1 × IVec S1x1024 1 × IVec S1024x1536 1 × IVec S31x512 1 × IVec S4096x1024 1 × IVec S4096x512 1 × IVec S4096x512 1 :=
  let main_v0 : FVec F S4096x1024 .f32 := subf main_arg0 main_arg0
  let main_cst : FVec F S_ .f32 := constant S_ .f32 0x00000000#32
  let main_v1 : FVec F S4096x1024 .f32 := broadcastInDim S4096x1024 ![] bcast_S_S4096x1024 main_cst
  let main_v2 : IVec S4096x1024 1 := cmpf .oeq main_v0 main_v1
  let main_v3 : FVec F S1x1024 .f32 := subf main_arg1 main_arg1
  let main_cst_0 : FVec F S_ .f32 := constant S_ .f32 0x00000000#32
  let main_v4 : FVec F S1x1024 .f32 := broadcastInDim S1x1024 ![] bcast_S_S1x1024 main_cst_0
  let main_v5 : IVec S1x1024 1 := cmpf .oeq main_v3 main_v4
  let main_v6 : FVec F S1024x1536 .f32 := subf main_arg2 main_arg2
  let main_cst_1 : FVec F S_ .f32 := constant S_ .f32 0x00000000#32
  let main_v7 : FVec F S1024x1536 .f32 := broadcastInDim S1024x1536 ![] bcast_S_S1024x1536 main_cst_1
  let main_v8 : IVec S1024x1536 1 := cmpf .oeq main_v6 main_v7
  let main_v9 : FVec F S31x512 .f32 := subf main_arg3 main_arg3
  let main_cst_2 : FVec F S_ .f32 := constant S_ .f32 0x00000000#32
  let main_v10 : FVec F S31x512 .f32 := broadcastInDim S31x512 ![] bcast_S_S31x512 main_cst_2
  let main_v11 : IVec S31x512 1 := cmpf .oeq main_v9 main_v10
  let main_v12 : FVec F S4096x1024 .f32 := subf main_arg5 main_arg5
  let main_cst_3 : FVec F S_ .f32 := constant S_ .f32 0x00000000#32
  let main_v13 : FVec F S4096x1024 .f32 := broadcastInDim S4096x1024 ![] bcast_S_S4096x1024 main_cst_3
  let main_v14 : IVec S4096x1024 1 := cmpf .oeq main_v12 main_v13
  let main_v15 : FVec F S4096x512 .f32 := subf main_arg6 main_arg6
  let main_cst_4 : FVec F S_ .f32 := constant S_ .f32 0x00000000#32
  let main_v16 : FVec F S4096x512 .f32 := broadcastInDim S4096x512 ![] bcast_S_S4096x512 main_cst_4
  let main_v17 : IVec S4096x512 1 := cmpf .oeq main_v15 main_v16
  fn_part1 (F := F) main_arg7 main_v2 main_v5 main_v8 main_v11 main_v14 main_v17
-- ==== Pre_finite_mix.lean ====
abbrev S4096x512 : Shape := ⟨2, ![4096, 512]⟩
abbrev S1x512 : Shape := ⟨2, ![1, 512]⟩
abbrev S4x128x128 : Shape := ⟨3, ![4, 128, 128]⟩
abbrev S1024x1024 : Shape := ⟨2, ![1024, 1024]⟩
abbrev S4096x1024 : Shape := ⟨2, ![4096, 1024]⟩
abbrev S_ : Shape := ⟨0, ![]⟩

class Facts : Prop where
  bcast_S_S4096x512 : S_.BroadcastsInDim S4096x512 (![] : Fin 0 → Fin S4096x512.rank)
  bcast_S_S1x512 : S_.BroadcastsInDim S1x512 (![] : Fin 0 → Fin S1x512.rank)
  bcast_S_S4x128x128 : S_.BroadcastsInDim S4x128x128 (![] : Fin 0 → Fin S4x128x128.rank)
  bcast_S_S1024x1024 : S_.BroadcastsInDim S1024x1024 (![] : Fin 0 → Fin S1024x1024.rank)
  bcast_S_S4096x1024 : S_.BroadcastsInDim S4096x1024 (![] : Fin 0 → Fin S4096x1024.rank)

variable [Facts]

def fn_part1 {F : FTy → Type} [FloatOps F] (main_arg6 : FVec F S1x512 .f32) (main_arg7 : FVec F S1024x1024 .f32) (main_arg8 : FVec F S4096x1024 .f32) (main_v2 : IVec S4096x512 1) (main_v5 : IVec S4096x512 1) (main_v8 : IVec S1x512 1) (main_v11 : IVec S1x512 1) (main_v14 : IVec S1x512 1) (main_v17 : IVec S4x128x128 1) : IVec S4096x512 1 × IVec S4096x512 1 × IVec S1x512 1 × IVec S1x512 1 × IVec S1x512 1 × IVec S4x128x128 1 × IVec S1x512 1 × IVec S1024x1024 1 × IVec S4096x1024 1 :=
  let main_v18 : FVec F S1x512 .f32 := subf main_arg6 main_arg6
  let main_cst_5 : FVec F S_ .f32 := constant S_ .f32 0x00000000#32
  let main_v19 : FVec F S1x512 .f32 := broadcastInDim S1x512 ![] bcast_S_S1x512 main_cst_5
  let main_v20 : IVec S1x512 1 := cmpf .oeq main_v18 main_v19
  let main_v21 : FVec F S1024x1024 .f32 := subf main_arg7 main_arg7
  let main_cst_6 : FVec F S_ .f32 := constant S_ .f32 0x00000000#32
  let main_v22 : FVec F S1024x1024 .f32 := broadcastInDim S1024x1024 ![] bcast_S_S1024x1024 main_cst_6
  let main_v23 : IVec S1024x1024 1 := cmpf .oeq main_v21 main_v22
  let main_v24 : FVec F S4096x1024 .f32 := subf main_arg8 main_arg8
  let main_cst_7 : FVec F S_ .f32 := constant S_ .f32 0x00000000#32
  let main_v25 : FVec F S4096x1024 .f32 := broadcastInDim S4096x1024 ![] bcast_S_S4096x1024 main_cst_7
  let main_v26 : IVec S4096x1024 1 := cmpf .oeq main_v24 main_v25
  (main_v2, main_v5, main_v8, main_v11, main_v14, main_v17, main_v20, main_v23, main_v26)

def fn {F : FTy → Type} [FloatOps F] (main_arg0 : FVec F S4096x512 .f32) (main_arg1 : FVec F S4096x512 .f32) (main_arg2 : FVec F S1x512 .f32) (main_arg3 : FVec F S1x512 .f32) (main_arg4 : FVec F S1x512 .f32) (main_arg5 : FVec F S4x128x128 .f32) (main_arg6 : FVec F S1x512 .f32) (main_arg7 : FVec F S1024x1024 .f32) (main_arg8 : FVec F S4096x1024 .f32) : IVec S4096x512 1 × IVec S4096x512 1 × IVec S1x512 1 × IVec S1x512 1 × IVec S1x512 1 × IVec S4x128x128 1 × IVec S1x512 1 × IVec S1024x1024 1 × IVec S4096x1024 1 :=
  let main_v0 : FVec F S4096x512 .f32 := subf main_arg0 main_arg0
  let main_cst : FVec F S_ .f32 := constant S_ .f32 0x00000000#32
  let main_v1 : FVec F S4096x512 .f32 := broadcastInDim S4096x512 ![] bcast_S_S4096x512 main_cst
  let main_v2 : IVec S4096x512 1 := cmpf .oeq main_v0 main_v1
  let main_v3 : FVec F S4096x512 .f32 := subf main_arg1 main_arg1
  let main_cst_0 : FVec F S_ .f32 := constant S_ .f32 0x00000000#32
  let main_v4 : FVec F S4096x512 .f32 := broadcastInDim S4096x512 ![] bcast_S_S4096x512 main_cst_0
  let main_v5 : IVec S4096x512 1 := cmpf .oeq main_v3 main_v4
  let main_v6 : FVec F S1x512 .f32 := subf main_arg2 main_arg2
  let main_cst_1 : FVec F S_ .f32 := constant S_ .f32 0x00000000#32
  let main_v7 : FVec F S1x512 .f32 := broadcastInDim S1x512 ![] bcast_S_S1x512 main_cst_1
  let main_v8 : IVec S1x512 1 := cmpf .oeq main_v6 main_v7
  let main_v9 : FVec F S1x512 .f32 := subf main_arg3 main_arg3
  let main_cst_2 : FVec F S_ .f32 := constant S_ .f32 0x00000000#32
  let main_v10 : FVec F S1x512 .f32 := broadcastInDim S1x512 ![] bcast_S_S1x512 main_cst_2
  let main_v11 : IVec S1x512 1 := cmpf .oeq main_v9 main_v10
  let main_v12 : FVec F S1x512 .f32 := subf main_arg4 main_arg4
  let main_cst_3 : FVec F S_ .f32 := constant S_ .f32 0x00000000#32
  let main_v13 : FVec F S1x512 .f32 := broadcastInDim S1x512 ![] bcast_S_S1x512 main_cst_3
  let main_v14 : IVec S1x512 1 := cmpf .oeq main_v12 main_v13
  let main_v15 : FVec F S4x128x128 .f32 := subf main_arg5 main_arg5
  let main_cst_4 : FVec F S_ .f32 := constant S_ .f32 0x00000000#32
  let main_v16 : FVec F S4x128x128 .f32 := broadcastInDim S4x128x128 ![] bcast_S_S4x128x128 main_cst_4
  let main_v17 : IVec S4x128x128 1 := cmpf .oeq main_v15 main_v16
  fn_part1 (F := F) main_arg6 main_arg7 main_arg8 main_v2 main_v5 main_v8 main_v11 main_v14 main_v17
-- ==== Ple.lean ====
abbrev S4096x1024 : Shape := ⟨2, ![4096, 1024]⟩
abbrev S4096x256 : Shape := ⟨2, ![4096, 256]⟩
abbrev S1x1024 : Shape := ⟨2, ![1, 1024]⟩
abbrev S1024x1024 : Shape := ⟨2, ![1024, 1024]⟩
abbrev S256x1024 : Shape := ⟨2, ![256, 1024]⟩
abbrev S1024 : Shape := ⟨1, ![1024]⟩
abbrev S256x4x256 : Shape := ⟨3, ![256, 4, 256]⟩
abbrev S4x256x256 : Shape := ⟨3, ![4, 256, 256]⟩
abbrev S8x1024 : Shape := ⟨2, ![8, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x256x256 : Shape := ⟨3, ![1, 256, 256]⟩
abbrev S256x256 : Shape := ⟨2, ![256, 256]⟩
abbrev S1 : Shape := ⟨1, ![1]⟩
abbrev S1x1 : Shape := ⟨2, ![1, 1]⟩

abbrev nBuf : Space → Nat
  | .hbm => 17
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S1x1024, .f32⟩
  | .hbm, ⟨3, _⟩ => ⟨S1024x1024, .f32⟩
  | .hbm, ⟨4, _⟩ => ⟨S256x1024, .f32⟩
  | .hbm, ⟨5, _⟩ => ⟨S1x1024, .f32⟩
  | .hbm, ⟨6, _⟩ => ⟨S1024, .f32⟩
  | .hbm, ⟨7, _⟩ => ⟨S4096x1024, .f32⟩
  | .hbm, ⟨8, _⟩ => ⟨S1024x1024, .bf16⟩
  | .hbm, ⟨9, _⟩ => ⟨S256x1024, .bf16⟩
  | .hbm, ⟨10, _⟩ => ⟨S256x4x256, .bf16⟩
  | .hbm, ⟨11, _⟩ => ⟨S4x256x256, .bf16⟩
  | .hbm, ⟨12, _⟩ => ⟨S1x1024, .f32⟩
  | .hbm, ⟨13, _⟩ => ⟨S4096x1024, .f32⟩
  | .hbm, ⟨14, _⟩ => ⟨S1024x1024, .bf16⟩
  | .hbm, ⟨15, _⟩ => ⟨S4x256x256, .bf16⟩
  | .hbm, ⟨16, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S4x256x256, .bf16⟩
  | .local _ .vmem, ⟨11, _⟩ => ⟨S512x1024, .f32⟩
  | .local _ .vmem, ⟨12, _⟩ => ⟨S512x1024, .f32⟩
  | .local _ .vmem, ⟨13, _⟩ => ⟨S1024x1024, .bf16⟩
  | .local _ .vmem, ⟨14, _⟩ => ⟨S4x256x256, .bf16⟩
  | .local _ .vmem, ⟨15, _⟩ => ⟨S8x1024, .f32⟩
  | .local _ .vmem, ⟨16, _⟩ => ⟨S1024x1024, .f32⟩
  | .local _ .vmem, ⟨17, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v171 : BitVec 1 := Scalar.cmpi .eq arg0 c7_i32
  let v172 : BitVec 32 := Scalar.extui v171
  let c0_i32_88 : BitVec 32 := 0#32
  let v173 : BitVec 1 := Scalar.cmpi .ne v172 c0_i32_88
  v173

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== PleRefIdeal.lean ====
abbrev S4096x1024 : Shape := ⟨2, ![4096, 1024]⟩
abbrev S4096x256 : Shape := ⟨2, ![4096, 256]⟩
abbrev S1x1024 : Shape := ⟨2, ![1, 1024]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x256 : Shape := ⟨2, ![1024, 256]⟩
abbrev S4x1024 : Shape := ⟨2, ![4, 1024]⟩
abbrev S8x1024 : Shape := ⟨2, ![8, 1024]⟩
abbrev S256x4x256 : Shape := ⟨3, ![256, 4, 256]⟩
abbrev S4x256x256 : Shape := ⟨3, ![4, 256, 256]⟩

abbrev nBuf : Space → Nat
  | .hbm => 194
  | .vmem => 0
  | .smem => 0
  | _ => 0

abbrev hbmTy0_0 (i : Nat) : BufTy := match i % 128 with
  | 0 => ⟨S4096x1024, .f32⟩
  | 1 => ⟨S4096x256, .f32⟩
  | 2 => ⟨S1x1024, .f32⟩
  | 3 => ⟨S1024x1024, .f32⟩
  | 4 => ⟨S256x1024, .f32⟩
  | 5 => ⟨S1x1024, .f32⟩
  | 6 => ⟨S1024, .f32⟩
  | 7 => ⟨S4096x1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S_, .f32⟩
  | 43 => ⟨S4096, .f32⟩
  | 44 => ⟨S4096x1, .f32⟩
  | 45 => ⟨S_, .f32⟩
  | 46 => ⟨S4096x1, .f32⟩
  | 47 => ⟨S4096x1, .f32⟩
  | 48 => ⟨S_, .f32⟩
  | 49 => ⟨S4096x1, .f32⟩
  | 50 => ⟨S4096x1, .f32⟩
  | 51 => ⟨S4096x1, .f32⟩
  | 52 => ⟨S4096x1, .f32⟩
  | 53 => ⟨S_, .f32⟩
  | 54 => ⟨S4096x1, .f32⟩
  | 55 => ⟨S4096x1, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S_, .f32⟩
  | 64 => ⟨S4096, .f32⟩
  | 65 => ⟨S4096x1, .f32⟩
  | 66 => ⟨S_, .f32⟩
  | 67 => ⟨S4096x1, .f32⟩
  | 68 => ⟨S4096x1, .f32⟩
  | 69 => ⟨S_, .f32⟩
  | 70 => ⟨S4096x1, .f32⟩
  | 71 => ⟨S4096x1, .f32⟩
  | 72 => ⟨S4096x1, .f32⟩
  | 73 => ⟨S4096x1, .f32⟩
  | 74 => ⟨S_, .f32⟩
  | 75 => ⟨S4096x1, .f32⟩
  | 76 => ⟨S4096x1, .f32⟩
  | 77 => ⟨S4096x1024, .f32⟩
  | 78 => ⟨S4096x1024, .f32⟩
  | 79 => ⟨S1x1024, .f32⟩
  | 80 => ⟨S4096x1024, .f32⟩
  | 81 => ⟨S4096x1024, .f32⟩
  | 82 => ⟨S4096x1024, .f32⟩
  | 83 => ⟨S4096x1024, .f32⟩
  | 84 => ⟨S_, .f32⟩
  | 85 => ⟨S4096x1024, .f32⟩
  | 86 => ⟨S4096x1024, .f32⟩
  | 87 => ⟨S_, .f32⟩
  | 88 => ⟨S4096, .f32⟩
  | 89 => ⟨S_, .f32⟩
  | 90 => ⟨S4096, .f32⟩
  | 91 => ⟨S4096, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S4096, .f32⟩
  | 100 => ⟨S_, .f32⟩
  | 101 => ⟨S4096, .f32⟩
  | 102 => ⟨S4096, .f32⟩
  | 103 => ⟨S4096x1024, .f32⟩
  | 104 => ⟨S4096x1024, .f32⟩
  | 105 => ⟨S4096x1024, .f32⟩
  | 106 => ⟨S_, .f32⟩
  | 107 => ⟨S1024, .f32⟩
  | 108 => ⟨S1x1024, .f32⟩
  | 109 => ⟨S4096x1024, .f32⟩
  | 110 => ⟨S4096x1024, .f32⟩
  | 111 => ⟨S_, .f32⟩
  | 112 => ⟨S1024, .f32⟩
  | 113 => ⟨S4096x1024, .f32⟩
  | 114 => ⟨S_, .f32⟩
  | 115 => ⟨S4096, .f32⟩
  | 116 => ⟨S4096x1, .f32⟩
  | 117 => ⟨S4096x1024, .f32⟩
  | 118 => ⟨S4096x1024, .f32⟩
  | 119 => ⟨S4096x1, .f32⟩
  | 120 => ⟨S_, .f32⟩
  | 121 => ⟨S4096x1, .f32⟩
  | 122 => ⟨S4096x1, .f32⟩
  | 123 => ⟨S_, .f32⟩
  | 124 => ⟨S4096, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S_, .f32⟩
  | 6 => ⟨S1024, .f32⟩
  | 7 => ⟨S1x1024, .f32⟩
  | 8 => ⟨S4096x1024, .f32⟩
  | 9 => ⟨S4096x1024, .f32⟩
  | 10 => ⟨S4096x1024, .f32⟩
  | 11 => ⟨S_, .f32⟩
  | 12 => ⟨S4096, .f32⟩
  | 13 => ⟨S4096x1, .f32⟩
  | 14 => ⟨S4096x1024, .f32⟩
  | 15 => ⟨S4096x1024, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096, .f32⟩
  | 22 => ⟨S4096x1024, .f32⟩
  | 23 => ⟨S4096x1024, .f32⟩
  | 24 => ⟨S4096x1024, .f32⟩
  | 25 => ⟨S4096x1024, .f32⟩
  | 26 => ⟨S4096x1024, .f32⟩
  | 27 => ⟨S1024x256, .f32⟩
  | 28 => ⟨S256x1024, .f32⟩
  | 29 => ⟨S4096x1024, .f32⟩
  | 30 => ⟨S1024x1024, .f32⟩
  | 31 => ⟨S1024x1024, .f32⟩
  | 32 => ⟨S4096x1024, .f32⟩
  | 33 => ⟨S4096x1024, .f32⟩
  | 34 => ⟨S_, .f32⟩
  | 35 => ⟨S1024, .f32⟩
  | 36 => ⟨S1x1024, .f32⟩
  | 37 => ⟨S4096x1024, .f32⟩
  | 38 => ⟨S4096x1024, .f32⟩
  | 39 => ⟨S4096x1024, .f32⟩
  | 40 => ⟨S_, .f32⟩
  | 41 => ⟨S4096, .f32⟩
  | 42 => ⟨S4096x1, .f32⟩
  | 43 => ⟨S4096x1024, .f32⟩
  | 44 => ⟨S4096x1024, .f32⟩
  | 45 => ⟨S4096x1024, .f32⟩
  | 46 => ⟨S4096x1, .f32⟩
  | 47 => ⟨S_, .f32⟩
  | 48 => ⟨S4096x1, .f32⟩
  | 49 => ⟨S4096x1, .f32⟩
  | 50 => ⟨S_, .f32⟩
  | 51 => ⟨S4096, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S1x1024, .f32⟩
  | 58 => ⟨S1x1024, .f32⟩
  | 59 => ⟨S_, .f32⟩
  | 60 => ⟨S4x1024, .f32⟩
  | 61 => ⟨S8x1024, .f32⟩
  | 62 => ⟨S1024x1024, .bf16⟩
  | 63 => ⟨S256x4x256, .f32⟩
  | 64 => ⟨S4x256x256, .f32⟩
  | 65 => ⟨S4x256x256, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_14 : Ref sig .tc := ⟨.hbm, 84, rfl⟩
abbrev main_v61 : Ref sig .tc := ⟨.hbm, 85, rfl⟩
abbrev main_v62 : Ref sig .tc := ⟨.hbm, 86, rfl⟩
abbrev main_cst_15 : Ref sig .tc := ⟨.hbm, 87, rfl⟩
abbrev main_v63 : Ref sig .tc := ⟨.hbm, 88, rfl⟩
abbrev main_cst_16 : Ref sig .tc := ⟨.hbm, 89, rfl⟩
abbrev main_v64 : Ref sig .tc := ⟨.hbm, 90, rfl⟩
abbrev main_v65 : Ref sig .tc := ⟨.hbm, 91, rfl⟩
abbrev main_cst_17 : Ref sig .tc := ⟨.hbm, 92, rfl⟩
abbrev main_v66 : Ref sig .tc := ⟨.hbm, 93, rfl⟩
abbrev main_cst_18 : Ref sig .tc := ⟨.hbm, 94, rfl⟩
abbrev main_v67 : Ref sig .tc := ⟨.hbm, 95, rfl⟩
abbrev main_cst_19 : Ref sig .tc := ⟨.hbm, 96, rfl⟩
abbrev main_cst_20 : Ref sig .tc := ⟨.hbm, 97, rfl⟩
abbrev main_v68 : Ref sig .tc := ⟨.hbm, 98, rfl⟩
abbrev main_v69 : Ref sig .tc := ⟨.hbm, 99, rfl⟩
abbrev main_cst_21 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_22 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_23 : Ref sig .tc := ⟨.hbm, 111, rfl⟩
abbrev main_v79 : Ref sig .tc := ⟨.hbm, 112, rfl⟩
abbrev main_v80 : Ref sig .tc := ⟨.hbm, 113, rfl⟩
abbrev main_cst_24 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_25 : Ref sig .tc := ⟨.hbm, 120, rfl⟩
abbrev main_v86 : Ref sig .tc := ⟨.hbm, 121, rfl⟩
abbrev main_v87 : Ref sig .tc := ⟨.hbm, 122, rfl⟩
abbrev main_cst_26 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_27 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_28 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_29 : Ref sig .tc := ⟨.hbm, 145, rfl⟩
abbrev main_v107 : Ref sig .tc := ⟨.hbm, 146, rfl⟩
abbrev main_v108 : Ref sig .tc := ⟨.hbm, 147, rfl⟩
abbrev main_cst_30 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_cst_31 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_32 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_cst_33 : Ref sig .tc := ⟨.hbm, 175, rfl⟩
abbrev main_v133 : Ref sig .tc := ⟨.hbm, 176, rfl⟩
abbrev main_v134 : Ref sig .tc := ⟨.hbm, 177, rfl⟩
abbrev main_cst_34 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_cst_35 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩

abbrev nD : Nat := 1
abbrev τ : Topo := Topo.v7x

variable {F : FTy → Type} [FloatOps F]
-- ==== Mix.lean ====
abbrev S4096x512 : Shape := ⟨2, ![4096, 512]⟩
abbrev S1x512 : Shape := ⟨2, ![1, 512]⟩
abbrev S4x128x128 : Shape := ⟨3, ![4, 128, 128]⟩
abbrev S1024x1024 : Shape := ⟨2, ![1024, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S4096x4x128 : Shape := ⟨3, ![4096, 4, 128]⟩
abbrev S4x128x4096 : Shape := ⟨3, ![4, 128, 4096]⟩
abbrev S8x512 : Shape := ⟨2, ![8, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 64
  | .vmem => 21
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S4x128x128, .f32⟩
  | .hbm, ⟨6, _⟩ => ⟨S1x512, .f32⟩
  | .hbm, ⟨7, _⟩ => ⟨S1024x1024, .f32⟩
  | .hbm, ⟨8, _⟩ => ⟨S4096x1024, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S_, .f32⟩
  | .hbm, ⟨41, _⟩ => ⟨S4096x512, .f32⟩
  | .hbm, ⟨42, _⟩ => ⟨S4096x512, .f32⟩
  | .hbm, ⟨43, _⟩ => ⟨S_, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x4x128, .f32⟩
  | .hbm, ⟨48, _⟩ => ⟨S4x128x4096, .f32⟩
  | .hbm, ⟨49, _⟩ => ⟨S4096x4x128, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x1024, .f32⟩
  | .hbm, ⟨54, _⟩ => ⟨S4096x1024, .bf16⟩
  | .hbm, ⟨55, _⟩ => ⟨S4096x512, .f32⟩
  | .hbm, ⟨56, _⟩ => ⟨S4096x512, .f32⟩
  | .hbm, ⟨57, _⟩ => ⟨S4096x512, .bf16⟩
  | .hbm, ⟨58, _⟩ => ⟨S1024x1024, .bf16⟩
  | .hbm, ⟨59, _⟩ => ⟨S4096x512, .f32⟩
  | .hbm, ⟨60, _⟩ => ⟨S4096x512, .f32⟩
  | .hbm, ⟨61, _⟩ => ⟨S1024x1024, .bf16⟩
  | .hbm, ⟨62, _⟩ => ⟨S4x128x128, .f32⟩
  | .hbm, ⟨63, _⟩ => ⟨S8x512, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S1024x1024, .bf16⟩
  | .local _ .vmem, ⟨9, _⟩ => ⟨S1x512, .f32⟩
  | .local _ .vmem, ⟨10, _⟩ => ⟨S1x512, .f32⟩
  | .local _ .vmem, ⟨11, _⟩ => ⟨S4x128x128, .f32⟩
  | .local _ .vmem, ⟨12, _⟩ => ⟨S1x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S1024x1024, .bf16⟩
  | .local _ .vmem, ⟨18, _⟩ => ⟨S4x128x128, .f32⟩
  | .local _ .vmem, ⟨19, _⟩ => ⟨S8x512, .f32⟩
  | .local _ .vmem, ⟨20, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37_0 : Ref sig .tc := ⟨.hbm, 59, rfl⟩
abbrev main_v37_1 : Ref sig .tc := ⟨.hbm, 60, rfl⟩
abbrev main_v37_2 : Ref sig .tc := ⟨.hbm, 61, rfl⟩
abbrev main_v37_3 : Ref sig .tc := ⟨.hbm, 62, rfl⟩
abbrev main_v37_4 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v196 : BitVec 1 := Scalar.cmpi .eq arg0 c7_i32
  let v197 : BitVec 32 := Scalar.extui v196
  let c0_i32_133 : BitVec 32 := 0#32
  let v198 : BitVec 1 := Scalar.cmpi .ne v197 c0_i32_133
  v198

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MixRefIdeal.lean ====
abbrev S4096x512 : Shape := ⟨2, ![4096, 512]⟩
abbrev S1x512 : Shape := ⟨2, ![1, 512]⟩
abbrev S4x128x128 : Shape := ⟨3, ![4, 128, 128]⟩
abbrev S1024x1024 : Shape := ⟨2, ![1024, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S4096x4x128 : Shape := ⟨3, ![4096, 4, 128]⟩
abbrev S4x128x4096 : Shape := ⟨3, ![4, 128, 4096]⟩
abbrev S512 : Shape := ⟨1, ![512]⟩
abbrev S4x4096x128 : Shape := ⟨3, ![4, 4096, 128]⟩
abbrev S4x512 : Shape := ⟨2, ![4, 512]⟩
abbrev S8x512 : Shape := ⟨2, ![8, 512]⟩

abbrev nBuf : Space → Nat
  | .hbm => 135
  | .vmem => 0
  | .smem => 0
  | _ => 0

abbrev hbmTy0_0 (i : Nat) : BufTy := match i % 128 with
  | 0 => ⟨S4096x512, .f32⟩
  | 1 => ⟨S4096x512, .f32⟩
  | 2 => ⟨S1x512, .f32⟩
  | 3 => ⟨S1x512, .f32⟩
  | 4 => ⟨S1x512, .f32⟩
  | 5 => ⟨S4x128x128, .f32⟩
  | 6 => ⟨S1x512, .f32⟩
  | 7 => ⟨S1024x1024, .f32⟩
  | 8 => ⟨S4096x1024, .f32⟩
  | 9 => ⟨S4096x512, .f32⟩
  | 10 => ⟨S4096x512, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S4096x512, .f32⟩
  | 18 => ⟨S4096x512, .f32⟩
  | 19 => ⟨S4096x512, .f32⟩
  | 20 => ⟨S_, .f32⟩
  | 21 => ⟨S4096x512, .f32⟩
  | 22 => ⟨S4096x512, .f32⟩
  | 23 => ⟨S_, .f32⟩
  | 24 => ⟨S4096, .f32⟩
  | 25 => ⟨S4096x1, .f32⟩
  | 26 => ⟨S_, .f32⟩
  | 27 => ⟨S4096x1, .f32⟩
  | 28 => ⟨S4096x1, .f32⟩
  | 29 => ⟨S4096x512, .f32⟩
  | 30 => ⟨S4096x512, .f32⟩
  | 31 => ⟨S_, .f32⟩
  | 32 => ⟨S4096x1, .f32⟩
  | 33 => ⟨S4096x1, .f32⟩
  | 34 => ⟨S4096x1, .f32⟩
  | 35 => ⟨S4096x1, .f32⟩
  | 36 => ⟨S_, .f32⟩
  | 37 => ⟨S4096x1, .f32⟩
  | 38 => ⟨S4096x1, .f32⟩
  | 39 => ⟨S4096x512, .f32⟩
  | 40 => ⟨S4096x512, .f32⟩
  | 41 => ⟨S4096x512, .f32⟩
  | 42 => ⟨S4096x512, .f32⟩
  | 43 => ⟨S4096x512, .f32⟩
  | 44 => ⟨S4096x512, .f32⟩
  | 45 => ⟨S4096x512, .f32⟩
  | 46 => ⟨S4096x512, .f32⟩
  | 47 => ⟨S_, .f32⟩
  | 48 => ⟨S4096x512, .f32⟩
  | 49 => ⟨S4096x512, .f32⟩
  | 50 => ⟨S_, .f32⟩
  | 51 => ⟨S4096x512, .f32⟩
  | 52 => ⟨S4096x512, .f32⟩
  | 53 => ⟨S_, .f32⟩
  | 54 => ⟨S4096x512, .f32⟩
  | 55 => ⟨S4096x512, .f32⟩
  | 56 => ⟨S4096x512, .f32⟩
  | 57 => ⟨S4096x512, .f32⟩
  | 58 => ⟨S4096x4x128, .f32⟩
  | 59 => ⟨S4x128x4096, .f32⟩
  | 60 => ⟨S4096x4x128, .f32⟩
  | 61 => ⟨S4096x512, .f32⟩
  | 62 => ⟨S4096x512, .f32⟩
  | 63 => ⟨S4096x512, .f32⟩
  | 64 => ⟨S4096x1024, .f32⟩
  | 65 => ⟨S4096x1024, .f32⟩
  | 66 => ⟨S1024x1024, .f32⟩
  | 67 => ⟨S1024x1024, .f32⟩
  | 68 => ⟨S4096x1024, .f32⟩
  | 69 => ⟨S4096x512, .f32⟩
  | 70 => ⟨S4096x512, .f32⟩
  | 71 => ⟨S4096x512, .f32⟩
  | 72 => ⟨S_, .f32⟩
  | 73 => ⟨S512, .f32⟩
  | 74 => ⟨S1x512, .f32⟩
  | 75 => ⟨S4096x512, .f32⟩
  | 76 => ⟨S4096x512, .f32⟩
  | 77 => ⟨S4096x4x128, .f32⟩
  | 78 => ⟨S4x128x4096, .f32⟩
  | 79 => ⟨S4x4096x128, .f32⟩
  | 80 => ⟨S4096x4x128, .f32⟩
  | 81 => ⟨S4x128x128, .f32⟩
  | 82 => ⟨S4x128x128, .f32⟩
  | 83 => ⟨S4096x512, .f32⟩
  | 84 => ⟨S4096x512, .f32⟩
  | 85 => ⟨S4096x512, .f32⟩
  | 86 => ⟨S4096x512, .f32⟩
  | 87 => ⟨S4096x512, .f32⟩
  | 88 => ⟨S_, .f32⟩
  | 89 => ⟨S512, .f32⟩
  | 90 => ⟨S1x512, .f32⟩
  | 91 => ⟨S4096x512, .f32⟩
  | 92 => ⟨S_, .f32⟩
  | 93 => ⟨S512, .f32⟩
  | 94 => ⟨S1x512, .f32⟩
  | 95 => ⟨S4096x512, .f32⟩
  | 96 => ⟨S4096x512, .f32⟩
  | 97 => ⟨S4096x512, .f32⟩
  | 98 => ⟨S_, .f32⟩
  | 99 => ⟨S4096, .f32⟩
  | 100 => ⟨S4096x1, .f32⟩
  | 101 => ⟨S4096x512, .f32⟩
  | 102 => ⟨S4096x512, .f32⟩
  | 103 => ⟨S4096x1, .f32⟩
  | 104 => ⟨S4096x512, .f32⟩
  | 105 => ⟨S_, .f32⟩
  | 106 => ⟨S4096, .f32⟩
  | 107 => ⟨S4096x1, .f32⟩
  | 108 => ⟨S_, .f32⟩
  | 109 => ⟨S4096x1, .f32⟩
  | 110 => ⟨S4096x1, .f32⟩
  | 111 => ⟨S_, .f32⟩
  | 112 => ⟨S4096, .f32⟩
  | 113 => ⟨S4096x512, .f32⟩
  | 114 => ⟨S4096x512, .f32⟩
  | 115 => ⟨S4096x512, .f32⟩
  | 116 => ⟨S_, .f32⟩
  | 117 => ⟨S4096, .f32⟩
  | 118 => ⟨S4096x1, .f32⟩
  | 119 => ⟨S4096x512, .f32⟩
  | 120 => ⟨S4096x1, .f32⟩
  | 121 => ⟨S_, .f32⟩
  | 122 => ⟨S4096x1, .f32⟩
  | 123 => ⟨S4096x1, .f32⟩
  | 124 => ⟨S_, .f32⟩
  | 125 => ⟨S4096, .f32⟩
  | 126 => ⟨S4096x512, .f32⟩
  | 127 => ⟨S4096x512, .f32⟩
  | _ => ⟨S4096x512, .f32⟩

abbrev hbmTy0_1 (i : Nat) : BufTy := match i % 128 with
  | 0 => ⟨S_, .f32⟩
  | 1 => ⟨S512, .f32⟩
  | 2 => ⟨S1x512, .f32⟩
  | 3 => ⟨S_, .f32⟩
  | 4 => ⟨S4x512, .f32⟩
  | 5 => ⟨S8x512, .f32⟩
  | 6 => ⟨S1024x1024, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v29_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v29_1 : Ref sig .tc := ⟨.hbm, 56, rfl⟩
abbrev main_v29_0 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_6 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v55 : Ref sig .tc := ⟨.hbm, 87, rfl⟩
abbrev main_cst_7 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_8 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_9 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_10 : Ref sig .tc := ⟨.hbm, 105, rfl⟩
abbrev main_v70 : Ref sig .tc := ⟨.hbm, 106, rfl⟩
abbrev main_v71 : Ref sig .tc := ⟨.hbm, 107, rfl⟩
abbrev main_cst_11 : Ref sig .tc := ⟨.hbm, 108, rfl⟩
abbrev main_v72 : Ref sig .tc := ⟨.hbm, 109, rfl⟩
abbrev main_v73 : Ref sig .tc := ⟨.hbm, 110, rfl⟩
abbrev main_cst_12 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_13 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_14 : Ref sig .tc := ⟨.hbm, 121, rfl⟩
abbrev main_v82 : Ref sig .tc := ⟨.hbm, 122, rfl⟩
abbrev main_v83 : Ref sig .tc := ⟨.hbm, 123, rfl⟩
abbrev main_cst_15 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_16 : Ref sig .tc := ⟨.hbm, 128, rfl⟩
abbrev main_v87 : Ref sig .tc := ⟨.hbm, 129, rfl⟩
abbrev main_v88 : Ref sig .tc := ⟨.hbm, 130, rfl⟩
abbrev main_cst_17 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩

abbrev nD : Nat := 1
abbrev τ : Topo := Topo.v7x

variable {F : FTy → Type} [FloatOps F]
-- ==== Ffn.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2x2816 : Shape := ⟨3, ![4096, 2, 2816]⟩
abbrev S2x4096x2816 : Shape := ⟨3, ![2, 4096, 2816]⟩
abbrev S1024x4x1408 : Shape := ⟨3, ![1024, 4, 1408]⟩
abbrev S4x1024x1408 : Shape := ⟨3, ![4, 1024, 1408]⟩
abbrev S8x1024 : Shape := ⟨2, ![8, 1024]⟩
abbrev S512x1024 : Shape := ⟨2, ![512, 1024]⟩
abbrev S2x512x1408 : Shape := ⟨3, ![2, 512, 1408]⟩
abbrev S1x1024x1408 : Shape := ⟨3, ![1, 1024, 1408]⟩
abbrev S1408x1024 : Shape := ⟨2, ![1408, 1024]⟩
abbrev S512x512 : Shape := ⟨2, ![512, 512]⟩
abbrev S1x512x512 : Shape := ⟨3, ![1, 512, 512]⟩
abbrev S1x1024x512 : Shape := ⟨3, ![1, 1024, 512]⟩
abbrev S1024x512 : Shape := ⟨2, ![1024, 512]⟩
abbrev S384x1024 : Shape := ⟨2, ![384, 1024]⟩
abbrev S512x384 : Shape := ⟨2, ![512, 384]⟩
abbrev S1x512x384 : Shape := ⟨3, ![1, 512, 384]⟩
abbrev S1x1024x384 : Shape := ⟨3, ![1, 1024, 384]⟩
abbrev S1024x384 : Shape := ⟨2, ![1024, 384]⟩
abbrev S512 : Shape := ⟨1, ![512]⟩
abbrev S512x1 : Shape := ⟨2, ![512, 1]⟩
abbrev S1024 : Shape := ⟨1, ![1024]⟩

abbrev nBuf : Space → Nat
  | .hbm => 31
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S4096x2x2816, .f32⟩
  | .hbm, ⟨22, _⟩ => ⟨S2x4096x2816, .f32⟩
  | .hbm, ⟨23, _⟩ => ⟨S2x4096x2816, .bf16⟩
  | .hbm, ⟨24, _⟩ => ⟨S1024x5632, .bf16⟩
  | .hbm, ⟨25, _⟩ => ⟨S1024x4x1408, .bf16⟩
  | .hbm, ⟨26, _⟩ => ⟨S4x1024x1408, .bf16⟩
  | .hbm, ⟨27, _⟩ => ⟨S2816x1024, .bf16⟩
  | .hbm, ⟨28, _⟩ => ⟨S4096x1024, .f32⟩
  | .hbm, ⟨29, _⟩ => ⟨S2x4096x2816, .bf16⟩
  | .hbm, ⟨30, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S2x512x1408, .bf16⟩
  | .local _ .vmem, ⟨5, _⟩ => ⟨S2x512x1408, .bf16⟩
  | .local _ .vmem, ⟨6, _⟩ => ⟨S1x1024, .f32⟩
  | .local _ .vmem, ⟨7, _⟩ => ⟨S1x1024x1408, .bf16⟩
  | .local _ .vmem, ⟨8, _⟩ => ⟨S1x1024x1408, .bf16⟩
  | .local _ .vmem, ⟨9, _⟩ => ⟨S1x1024x1408, .bf16⟩
  | .local _ .vmem, ⟨10, _⟩ => ⟨S1x1024x1408, .bf16⟩
  | .local _ .vmem, ⟨11, _⟩ => ⟨S1408x1024, .bf16⟩
  | .local _ .vmem, ⟨12, _⟩ => ⟨S1408x1024, .bf16⟩
  | .local _ .vmem, ⟨13, _⟩ => ⟨S512x1024, .f32⟩
  | .local _ .vmem, ⟨14, _⟩ => ⟨S512x1024, .f32⟩
  | .local _ .vmem, ⟨15, _⟩ => ⟨S2x512x1408, .bf16⟩
  | .local _ .vmem, ⟨16, _⟩ => ⟨S2x512x1408, .bf16⟩
  | .local _ .vmem, ⟨17, _⟩ => ⟨S8x1024, .f32⟩
  | .local _ .vmem, ⟨18, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v130 : BitVec 1 := Scalar.cmpi .eq arg1 c1_i32
  let v131 : BitVec 32 := Scalar.extui v130
  let c0_i32_88 : BitVec 32 := 0#32
  let v132 : BitVec 1 := Scalar.cmpi .ne v131 c0_i32_88
  v132

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== FfnRefIdeal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1024 : Shape := ⟨1, ![1024]⟩
abbrev S4096x2x2816 : Shape := ⟨3, ![4096, 2, 2816]⟩
abbrev S2x4096x2816 : Shape := ⟨3, ![2, 4096, 2816]⟩
abbrev S7x1024 : Shape := ⟨2, ![7, 1024]⟩
abbrev S8x1024 : Shape := ⟨2, ![8, 1024]⟩

abbrev nBuf : Space → Nat
  | .hbm => 132
  | .vmem => 0
  | .smem => 0
  | _ => 0

abbrev hbmTy0_0 (i : Nat) : BufTy := match i % 128 with
  | 0 => ⟨S4096x1024, .f32⟩
  | 1 => ⟨S1x1024, .f32⟩
  | 2 => ⟨S1024x5632, .f32⟩
  | 3 => ⟨S2816x1024, .f32⟩
  | 4 => ⟨S4096x1024, .f32⟩
  | 5 => ⟨S4096x1024, .f32⟩
  | 6 => ⟨S_, .f32⟩
  | 7 => ⟨S4096, .f32⟩
  | 8 => ⟨S4096x1, .f32⟩
  | 9 => ⟨S_, .f32⟩
  | 10 => ⟨S4096x1, .f32⟩
  | 11 => ⟨S4096x1, .f32⟩
  | 12 => ⟨S_, .f32⟩
  | 13 => ⟨S4096x1, .f32⟩
  | 14 => ⟨S4096x1, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1024, .f32⟩
  | 21 => ⟨S4096x1024, .f32⟩
  | 22 => ⟨S4096x1024, .f32⟩
  | 23 => ⟨S4096x1024, .f32⟩
  | 24 => ⟨S4096x5632, .f32⟩
  | 25 => ⟨S4096x2816, .f32⟩
  | 26 => ⟨S4096x2816, .f32⟩
  | 27 => ⟨S4096x2816, .f32⟩
  | 28 => ⟨S_, .f32⟩
  | 29 => ⟨S4096x2816, .f32⟩
  | 30 => ⟨S4096x2816, .f32⟩
  | 31 => ⟨S_, .f32⟩
  | 32 => ⟨S4096x2816, .f32⟩
  | 33 => ⟨S4096x2816, .f32⟩
  | 34 => ⟨S_, .f32⟩
  | 35 => ⟨S4096x2816, .f32⟩
  | 36 => ⟨S4096x2816, .f32⟩
  | 37 => ⟨S4096x2816, .f32⟩
  | 38 => ⟨S4096x2816, .f32⟩
  | 39 => ⟨S4096x2816, .f32⟩
  | 40 => ⟨S4096x2816, .f32⟩
  | 41 => ⟨S4096x1024, .f32⟩
  | 42 => ⟨S4096x1024, .f32⟩
  | 43 => ⟨S4096x1024, .f32⟩
  | 44 => ⟨S4096x2816, .f32⟩
  | 45 => ⟨S4096x2816, .f32⟩
  | 46 => ⟨S4096x2816, .f32⟩
  | 47 => ⟨S_, .f32⟩
  | 48 => ⟨S4096x5632, .f32⟩
  | 49 => ⟨S4096x2816, .f32⟩
  | 50 => ⟨S4096x2816, .f32⟩
  | 51 => ⟨S4096x2816, .f32⟩
  | 52 => ⟨S4096x2816, .f32⟩
  | 53 => ⟨S_, .f32⟩
  | 54 => ⟨S4096x5632, .f32⟩
  | 55 => ⟨S4096x5632, .f32⟩
  | 56 => ⟨S4096x1024, .f32⟩
  | 57 => ⟨S4096x1024, .f32⟩
  | 58 => ⟨S_, .f32⟩
  | 59 => ⟨S1024, .f32⟩
  | 60 => ⟨S1x1024, .f32⟩
  | 61 => ⟨S4096x1024, .f32⟩
  | 62 => ⟨S4096x1024, .f32⟩
  | 63 => ⟨S4096x1024, .f32⟩
  | 64 => ⟨S_, .f32⟩
  | 65 => ⟨S4096, .f32⟩
  | 66 => ⟨S4096x1, .f32⟩
  | 67 => ⟨S4096x1024, .f32⟩
  | 68 => ⟨S4096x1024, .f32⟩
  | 69 => ⟨S4096x1024, .f32⟩
  | 70 => ⟨S4096x1, .f32⟩
  | 71 => ⟨S_, .f32⟩
  | 72 => ⟨S4096x1, .f32⟩
  | 73 => ⟨S4096x1, .f32⟩
  | 74 => ⟨S_, .f32⟩
  | 75 => ⟨S4096, .f32⟩
  | 76 => ⟨S4096x1024, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S_, .f32⟩
  | 83 => ⟨S4096, .f32⟩
  | 84 => ⟨S4096x1, .f32⟩
  | 85 => ⟨S_, .f32⟩
  | 86 => ⟨S4096x1, .f32⟩
  | 87 => ⟨S4096x1, .f32⟩
  | 88 => ⟨S_, .f32⟩
  | 89 => ⟨S4096x1, .f32⟩
  | 90 => ⟨S4096x1, .f32⟩
  | 91 => ⟨S4096x1, .f32⟩
  | 92 => ⟨S4096x1024, .f32⟩
  | 93 => ⟨S4096x1024, .f32⟩
  | 94 => ⟨S4096x1024, .f32⟩
  | 95 => ⟨S4096x1024, .f32⟩
  | 96 => ⟨S4096x5632, .f32⟩
  | 97 => ⟨S4096x2816, .f32⟩
  | 98 => ⟨S4096x2816, .f32⟩
  | 99 => ⟨S4096x2816, .f32⟩
  | 100 => ⟨S_, .f32⟩
  | 101 => ⟨S4096x2816, .f32⟩
  | 102 => ⟨S4096x2816, .f32⟩
  | 103 => ⟨S_, .f32⟩
  | 104 => ⟨S4096x2816, .f32⟩
  | 105 => ⟨S4096x2816, .f32⟩
  | 106 => ⟨S_, .f32⟩
  | 107 => ⟨S4096x2816, .f32⟩
  | 108 => ⟨S4096x2816, .f32⟩
  | 109 => ⟨S4096x2816, .f32⟩
  | 110 => ⟨S4096x2816, .f32⟩
  | 111 => ⟨S4096x2816, .f32⟩
  | 112 => ⟨S4096x2816, .f32⟩
  | 113 => ⟨S4096x1024, .f32⟩
  | 114 => ⟨S4096x2816, .f32⟩
  | 115 => ⟨S4096x2816, .f32⟩
  | 116 => ⟨S4096x2816, .f32⟩
  | 117 => ⟨S_, .f32⟩
  | 118 => ⟨S4096x5632, .f32⟩
  | 119 => ⟨S4096x2816, .f32⟩
  | 120 => ⟨S4096x2816, .f32⟩
  | 121 => ⟨S4096x2816, .f32⟩
  | 122 => ⟨S4096x2816, .f32⟩
  | 123 => ⟨S_, .f32⟩
  | 124 => ⟨S4096x5632, .f32⟩
  | 125 => ⟨S4096x5632, .f32⟩
  | 126 => ⟨S4096x2x2816, .f32⟩
  | 127 => ⟨S2x4096x2816, .f32⟩
  | _ => ⟨S4096x1024, .f32⟩

abbrev hbmTy0_1 (i : Nat) : BufTy := match i % 128 with
  | 0 => ⟨S2x4096x2816, .bf16⟩
  | 1 => ⟨S_, .f32⟩
  | 2 => ⟨S7x1024, .f32⟩
  | 3 => ⟨S8x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v17_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v17_1 : Ref sig .tc := ⟨.hbm, 37, rfl⟩
abbrev main_v17_0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v27 : Ref sig .tc := ⟨.hbm, 52, rfl⟩
abbrev main_cst_4 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_7 : Ref sig .tc := ⟨.hbm, 71, rfl⟩
abbrev main_v43 : Ref sig .tc := ⟨.hbm, 72, rfl⟩
abbrev main_v44 : Ref sig .tc := ⟨.hbm, 73, rfl⟩
abbrev main_cst_8 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_9 : Ref sig .tc := ⟨.hbm, 82, rfl⟩
abbrev main_v52 : Ref sig .tc := ⟨.hbm, 83, rfl⟩
abbrev main_v53 : Ref sig .tc := ⟨.hbm, 84, rfl⟩
abbrev main_cst_10 : Ref sig .tc := ⟨.hbm, 85, rfl⟩
abbrev main_v54 : Ref sig .tc := ⟨.hbm, 86, rfl⟩
abbrev main_v55 : Ref sig .tc := ⟨.hbm, 87, rfl⟩
abbrev main_cst_11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_call2_v0 : Ref sig .tc := ⟨.hbm, 98, rfl⟩
abbrev main_call2_v1 : Ref sig .tc := ⟨.hbm, 99, rfl⟩
abbrev main_call2_cst : Ref sig .tc := ⟨.hbm, 100, rfl⟩
abbrev main_call2_v2 : Ref sig .tc := ⟨.hbm, 101, rfl⟩
abbrev main_call2_v3 : Ref sig .tc := ⟨.hbm, 102, rfl⟩
abbrev main_call2_cst_0 : Ref sig .tc := ⟨.hbm, 103, rfl⟩
abbrev main_call2_v4 : Ref sig .tc := ⟨.hbm, 104, rfl⟩
abbrev main_v65_2 : Ref sig .tc := ⟨.hbm, 105, rfl⟩
abbrev main_call2_cst_1 : Ref sig .tc := ⟨.hbm, 106, rfl⟩
abbrev main_call2_v6 : Ref sig .tc := ⟨.hbm, 107, rfl⟩
abbrev main_call2_v7 : Ref sig .tc := ⟨.hbm, 108, rfl⟩
abbrev main_v65_1 : Ref sig .tc := ⟨.hbm, 109, rfl⟩
abbrev main_v65_0 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_cst_12 : Ref sig .tc := ⟨.hbm, 117, rfl⟩
abbrev main_v72 : Ref sig .tc := ⟨.hbm, 118, rfl⟩
abbrev main_call3_v0 : Ref sig .tc := ⟨.hbm, 119, rfl⟩
abbrev main_call3_v1 : Ref sig .tc := ⟨.hbm, 120, rfl⟩
abbrev main_call3_v2 : Ref sig .tc := ⟨.hbm, 121, rfl⟩
abbrev main_v73 : Ref sig .tc := ⟨.hbm, 122, rfl⟩
abbrev main_cst_13 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_cst_14 : Ref sig .tc := ⟨.hbm, 129, rfl⟩
abbrev main_v79 : Ref sig .tc := ⟨.hbm, 130, rfl⟩
abbrev main_v80 : Ref sig .tc := ⟨.hbm, 131, rfl⟩

abbrev nD : Nat := 1
abbrev τ : Topo := Topo.v7x

variable {F : FTy → Type} [FloatOps F]
-- ==== Up.lean ====
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2x4096x2816 : Shape := ⟨3, ![2, 4096, 2816]⟩
abbrev S4096x2816 : Shape := ⟨2, ![4096, 2816]⟩
abbrev S1024x1024 : Shape := ⟨2, ![1024, 1024]⟩
abbrev S1x1024x1408 : Shape := ⟨3, ![1, 1024, 1408]⟩
abbrev S2x1024x1408 : Shape := ⟨3, ![2, 1024, 1408]⟩
abbrev S1024x1408 : Shape := ⟨2, ![1024, 1408]⟩
abbrev S1x1024x512 : Shape := ⟨3, ![1, 1024, 512]⟩
abbrev S1024x512 : Shape := ⟨2, ![1024, 512]⟩
abbrev S1x1024x384 : Shape := ⟨3, ![1, 1024, 384]⟩
abbrev S1024x384 : Shape := ⟨2, ![1024, 384]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S1024x5632, .bf16⟩
  | .hbm, ⟨3, _⟩ => ⟨S1024x4x1408, .bf16⟩
  | .hbm, ⟨4, _⟩ => ⟨S4x1024x1408, .bf16⟩
  | .hbm, ⟨5, _⟩ => ⟨S4096x1024, .bf16⟩
  | .hbm, ⟨6, _⟩ => ⟨S2x4096x2816, .bf16⟩
  | .hbm, ⟨7, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S2x1024x1408, .bf16⟩
  | .local _ .vmem, ⟨7, _⟩ => ⟨S2x1024x1408, .bf16⟩
  | .local _ .vmem, ⟨8, _⟩ => ⟨S1024x1408, .bf16⟩
  | .local _ .vmem, ⟨9, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpRefIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩
abbrev S4096x2x2816 : Shape := ⟨3, ![4096, 2, 2816]⟩
abbrev S2x4096x2816 : Shape := ⟨3, ![2, 4096, 2816]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2x2816, .f32⟩
  | .hbm, ⟨16, _⟩ => ⟨S2x4096x2816, .f32⟩
  | .hbm, ⟨17, _⟩ => ⟨S2x4096x2816, .bf16⟩
  | .hbm, ⟨18, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== InBwd.lean ====
abbrev S4096x1024 : Shape := ⟨2, ![4096, 1024]⟩
abbrev S1x1024 : Shape := ⟨2, ![1, 1024]⟩
abbrev S1024x1536 : Shape := ⟨2, ![1024, 1536]⟩
abbrev S31x512 : Shape := ⟨2, ![31, 512]⟩
abbrev S1x512 : Shape := ⟨2, ![1, 512]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S4096x1536 : Shape := ⟨2, ![4096, 1536]⟩
abbrev S1024x4x384 : Shape := ⟨3, ![1024, 4, 384]⟩
abbrev S4x1024x384 : Shape := ⟨3, ![4, 1024, 384]⟩
abbrev S32x512 : Shape := ⟨2, ![32, 512]⟩
abbrev S8x1024 : Shape := ⟨2, ![8, 1024]⟩
abbrev S512x512 : Shape := ⟨2, ![512, 512]⟩
abbrev S512x1536 : Shape := ⟨2, ![512, 1536]⟩
abbrev S32x1536 : Shape := ⟨2, ![32, 1536]⟩
abbrev S512x1024 : Shape := ⟨2, ![512, 1024]⟩
abbrev S4x768x128 : Shape := ⟨3, ![4, 768, 128]⟩
abbrev S2x512x128 : Shape := ⟨3, ![2, 512, 128]⟩
abbrev S32x8x512 : Shape := ⟨3, ![32, 8, 512]⟩
abbrev S32x128 : Shape := ⟨2, ![32, 128]⟩
abbrev S1x32x128 : Shape := ⟨3, ![1, 32, 128]⟩
abbrev S32x1 : Shape := ⟨2, ![32, 1]⟩
abbrev S64x128 : Shape := ⟨2, ![64, 128]⟩
abbrev S1x64x128 : Shape := ⟨3, ![1, 64, 128]⟩
abbrev S64x1 : Shape := ⟨2, ![64, 1]⟩
abbrev S128x128 : Shape := ⟨2, ![128, 128]⟩
abbrev S1x128 : Shape := ⟨2, ![1, 128]⟩
abbrev S1x128x128 : Shape := ⟨3, ![1, 128, 128]⟩
abbrev S8x128 : Shape := ⟨2, ![8, 128]⟩
abbrev S1x8x128 : Shape := ⟨3, ![1, 8, 128]⟩
abbrev S512 : Shape := ⟨1, ![512]⟩
abbrev S512x1 : Shape := ⟨2, ![512, 1]⟩
abbrev S512x384 : Shape := ⟨2, ![512, 384]⟩
abbrev S1x1024x384 : Shape := ⟨3, ![1, 1024, 384]⟩
abbrev S1024x384 : Shape := ⟨2, ![1024, 384]⟩
abbrev S1024 : Shape := ⟨1, ![1024]⟩

abbrev nBuf : Space → Nat
  | .hbm => 34
  | .vmem => 32
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1536, .f32⟩
  | .hbm, ⟨3, _⟩ => ⟨S31x512, .f32⟩
  | .hbm, ⟨4, _⟩ => ⟨S1x512, .f32⟩
  | .hbm, ⟨5, _⟩ => ⟨S4096x1024, .f32⟩
  | .hbm, ⟨6, _⟩ => ⟨S4096x512, .f32⟩
  | .hbm, ⟨7, _⟩ => ⟨S4096x512, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1536, .f32⟩
  | .hbm, ⟨24, _⟩ => ⟨S1024x1536, .bf16⟩
  | .hbm, ⟨25, _⟩ => ⟨S1024x4x384, .bf16⟩
  | .hbm, ⟨26, _⟩ => ⟨S4x1024x384, .bf16⟩
  | .hbm, ⟨27, _⟩ => ⟨S_, .f32⟩
  | .hbm, ⟨28, _⟩ => ⟨S1x512, .f32⟩
  | .hbm, ⟨29, _⟩ => ⟨S32x512, .f32⟩
  | .hbm, ⟨30, _⟩ => ⟨S4096x1024, .f32⟩
  | .hbm, ⟨31, _⟩ => ⟨S4x1024x384, .bf16⟩
  | .hbm, ⟨32, _⟩ => ⟨S32x512, .f32⟩
  | .hbm, ⟨33, _⟩ => ⟨S8x1024, .f32⟩
  | .local _ .vmem, ⟨0, _⟩ => ⟨S512x512, .f32⟩
  | .local _ .vmem, ⟨1, _⟩ => ⟨S512x512, .f32⟩
  | .local _ .vmem, ⟨2, _⟩ => ⟨S32x512, .f32⟩
  | .local _ .vmem, ⟨3, _⟩ => ⟨S32x512, .f32⟩
  | .local _ .vmem, ⟨4, _⟩ => ⟨S512x512, .f32⟩
  | .local _ .vmem, ⟨5, _⟩ => ⟨S512x512, .f32⟩
  | .local _ .vmem, ⟨6, _⟩ => ⟨S32x512, .f32⟩
  | .local _ .vmem, ⟨7, _⟩ => ⟨S32x512, .f32⟩
  | .local _ .vmem, ⟨8, _⟩ => ⟨S512x1536, .f32⟩
  | .local _ .vmem, ⟨9, _⟩ => ⟨S512x1536, .f32⟩
  | .local _ .vmem, ⟨10, _⟩ => ⟨S32x1536, .f32⟩
  | .local _ .vmem, ⟨11, _⟩ => ⟨S32x1536, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S32x512, .f32⟩
  | .local _ .vmem, ⟨17, _⟩ => ⟨S1x1024, .f32⟩
  | .local _ .vmem, ⟨18, _⟩ => ⟨S4x1024x384, .bf16⟩
  | .local _ .vmem, ⟨19, _⟩ => ⟨S512x1024, .f32⟩
  | .local _ .vmem, ⟨20, _⟩ => ⟨S512x1024, .f32⟩
  | .local _ .vmem, ⟨21, _⟩ => ⟨S4x1024x384, .bf16⟩
  | .local _ .vmem, ⟨22, _⟩ => ⟨S32x512, .f32⟩
  | .local _ .vmem, ⟨23, _⟩ => ⟨S8x1024, .f32⟩
  | .local _ .vmem, ⟨24, _⟩ => ⟨S4x768x128, .f32⟩
  | .local _ .vmem, ⟨25, _⟩ => ⟨S4x768x128, .f32⟩
  | .local _ .vmem, ⟨26, _⟩ => ⟨S4x768x128, .f32⟩
  | .local _ .vmem, ⟨27, _⟩ => ⟨S2x512x128, .f32⟩
  | .local _ .vmem, ⟨28, _⟩ => ⟨S512x512, .f32⟩
  | .local _ .vmem, ⟨29, _⟩ => ⟨S512x1536, .bf16⟩
  | .local _ .vmem, ⟨30, _⟩ => ⟨S1024x1536, .f32⟩
  | .local _ .vmem, ⟨31, _⟩ => ⟨S32x8x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18_0 : Ref sig .tc := ⟨.hbm, 30, rfl⟩
abbrev main_v18_1 : Ref sig .tc := ⟨.hbm, 31, rfl⟩
abbrev main_v18_2 : Ref sig .tc := ⟨.hbm, 32, rfl⟩
abbrev main_v18_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_9189 : BitVec 32 := 7#32
  let v26365 : BitVec 1 := Scalar.cmpi .eq arg0 c7_i32_9189
  let v26366 : BitVec 32 := Scalar.extui v26365
  let c0_i32_9190 : BitVec 32 := 0#32
  let v26367 : BitVec 1 := Scalar.cmpi .ne v26366 c0_i32_9190
  v26367

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1024x384 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4x1024x384 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== InRefIdeal.lean ====
abbrev S4096x1024 : Shape := ⟨2, ![4096, 1024]⟩
abbrev S1x1024 : Shape := ⟨2, ![1, 1024]⟩
abbrev S1024x1536 : Shape := ⟨2, ![1024, 1536]⟩
abbrev S31x512 : Shape := ⟨2, ![31, 512]⟩
abbrev S1x512 : Shape := ⟨2, ![1, 512]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S4096x1536 : Shape := ⟨2, ![4096, 1536]⟩
abbrev S30x512 : Shape := ⟨2, ![30, 512]⟩
abbrev S4126x512 : Shape := ⟨2, ![4126, 512]⟩
abbrev S512 : Shape := ⟨1, ![512]⟩
abbrev S4096x128 : Shape := ⟨2, ![4096, 128]⟩
abbrev S2x128 : Shape := ⟨2, ![2, 128]⟩
abbrev S4094x128 : Shape := ⟨2, ![4094, 128]⟩
abbrev S4x128 : Shape := ⟨2, ![4, 128]⟩
abbrev S4092x128 : Shape := ⟨2, ![4092, 128]⟩
abbrev S8x128 : Shape := ⟨2, ![8, 128]⟩
abbrev S4088x128 : Shape := ⟨2, ![4088, 128]⟩
abbrev S16x128 : Shape := ⟨2, ![16, 128]⟩
abbrev S4080x128 : Shape := ⟨2, ![4080, 128]⟩
abbrev S1536x1024 : Shape := ⟨2, ![1536, 1024]⟩
abbrev S1024 : Shape := ⟨1, ![1024]⟩
abbrev S1024x4x384 : Shape := ⟨3, ![1024, 4, 384]⟩
abbrev S4x1024x384 : Shape := ⟨3, ![4, 1024, 384]⟩
abbrev S32x512 : Shape := ⟨2, ![32, 512]⟩
abbrev S7x1024 : Shape := ⟨2, ![7, 1024]⟩
abbrev S8x1024 : Shape := ⟨2, ![8, 1024]⟩

abbrev nBuf : Space → Nat
  | .hbm => 928
  | .vmem => 0
  | .smem => 0
  | _ => 0

abbrev hbmTy0_0 (i : Nat) : BufTy := match i % 128 with
  | 0 => ⟨S4096x1024, .f32⟩
  | 1 => ⟨S1x1024, .f32⟩
  | 2 => ⟨S1024x1536, .f32⟩
  | 3 => ⟨S31x512, .f32⟩
  | 4 => ⟨S1x512, .f32⟩
  | 5 => ⟨S4096x1024, .f32⟩
  | 6 => ⟨S4096x512, .f32⟩
  | 7 => ⟨S4096x512, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S4096x1024, .f32⟩
  | 26 => ⟨S4096x1024, .f32⟩
  | 27 => ⟨S4096x1536, .f32⟩
  | 28 => ⟨S4096x512, .f32⟩
  | 29 => ⟨S4096x512, .f32⟩
  | 30 => ⟨S4096x512, .f32⟩
  | 31 => ⟨S4096x512, .f32⟩
  | 32 => ⟨S_, .f32⟩
  | 33 => ⟨S4096x512, .f32⟩
  | 34 => ⟨S4096x512, .f32⟩
  | 35 => ⟨S_, .f32⟩
  | 36 => ⟨S4096x512, .f32⟩
  | 37 => ⟨S4096x512, .f32⟩
  | 38 => ⟨S_, .f32⟩
  | 39 => ⟨S4096x512, .f32⟩
  | 40 => ⟨S4096x512, .f32⟩
  | 41 => ⟨S4096x512, .f32⟩
  | 42 => ⟨S4096x512, .f32⟩
  | 43 => ⟨S_, .f32⟩
  | 44 => ⟨S30x512, .f32⟩
  | 45 => ⟨S4126x512, .f32⟩
  | 46 => ⟨S_, .f32⟩
  | 47 => ⟨S30x512, .f32⟩
  | 48 => ⟨S1x512, .f32⟩
  | 49 => ⟨S512, .f32⟩
  | 50 => ⟨S4096x512, .f32⟩
  | 51 => ⟨S1x512, .f32⟩
  | 52 => ⟨S4096x512, .f32⟩
  | 53 => ⟨S4096x512, .f32⟩
  | 54 => ⟨S_, .f32⟩
  | 55 => ⟨S4096x512, .f32⟩
  | 56 => ⟨S4096x512, .f32⟩
  | 57 => ⟨S1x512, .f32⟩
  | 58 => ⟨S512, .f32⟩
  | 59 => ⟨S4096x512, .f32⟩
  | 60 => ⟨S1x512, .f32⟩
  | 61 => ⟨S4096x512, .f32⟩
  | 62 => ⟨S4096x512, .f32⟩
  | 63 => ⟨S4096x512, .f32⟩
  | 64 => ⟨S1x512, .f32⟩
  | 65 => ⟨S512, .f32⟩
  | 66 => ⟨S4096x512, .f32⟩
  | 67 => ⟨S1x512, .f32⟩
  | 68 => ⟨S4096x512, .f32⟩
  | 69 => ⟨S4096x512, .f32⟩
  | 70 => ⟨S4096x512, .f32⟩
  | 71 => ⟨S1x512, .f32⟩
  | 72 => ⟨S512, .f32⟩
  | 73 => ⟨S4096x512, .f32⟩
  | 74 => ⟨S1x512, .f32⟩
  | 75 => ⟨S4096x512, .f32⟩
  | 76 => ⟨S4096x512, .f32⟩
  | 77 => ⟨S4096x512, .f32⟩
  | 78 => ⟨S1x512, .f32⟩
  | 79 => ⟨S512, .f32⟩
  | 80 => ⟨S4096x512, .f32⟩
  | 81 => ⟨S1x512, .f32⟩
  | 82 => ⟨S4096x512, .f32⟩
  | 83 => ⟨S4096x512, .f32⟩
  | 84 => ⟨S4096x512, .f32⟩
  | 85 => ⟨S1x512, .f32⟩
  | 86 => ⟨S512, .f32⟩
  | 87 => ⟨S4096x512, .f32⟩
  | 88 => ⟨S1x512, .f32⟩
  | 89 => ⟨S4096x512, .f32⟩
  | 90 => ⟨S4096x512, .f32⟩
  | 91 => ⟨S4096x512, .f32⟩
  | 92 => ⟨S1x512, .f32⟩
  | 93 => ⟨S512, .f32⟩
  | 94 => ⟨S4096x512, .f32⟩
  | 95 => ⟨S1x512, .f32⟩
  | 96 => ⟨S4096x512, .f32⟩
  | 97 => ⟨S4096x512, .f32⟩
  | 98 => ⟨S4096x512, .f32⟩
  | 99 => ⟨S1x512, .f32⟩
  | 100 => ⟨S512, .f32⟩
  | 101 => ⟨S4096x512, .f32⟩
  | 102 => ⟨S1x512, .f32⟩
  | 103 => ⟨S4096x512, .f32⟩
  | 104 => ⟨S4096x512, .f32⟩
  | 105 => ⟨S4096x512, .f32⟩
  | 106 => ⟨S1x512, .f32⟩
  | 107 => ⟨S512, .f32⟩
  | 108 => ⟨S4096x512, .f32⟩
  | 109 => ⟨S1x512, .f32⟩
  | 110 => ⟨S4096x512, .f32⟩
  | 111 => ⟨S4096x512, .f32⟩
  | 112 => ⟨S4096x512, .f32⟩
  | 113 => ⟨S1x512, .f32⟩
  | 114 => ⟨S512, .f32⟩
  | 115 => ⟨S4096x512, .f32⟩
  | 116 => ⟨S1x512, .f32⟩
  | 117 => ⟨S4096x512, .f32⟩
  | 118 => ⟨S4096x512, .f32⟩
  | 119 => ⟨S4096x512, .f32⟩
  | 120 => ⟨S1x512, .f32⟩
  | 121 => ⟨S512, .f32⟩
  | 122 => ⟨S4096x512, .f32⟩
  | 123 => ⟨S1x512, .f32⟩
  | 124 => ⟨S4096x512, .f32⟩
  | 125 => ⟨S4096x512, .f32⟩
  | 126 => ⟨S4096x512, .f32⟩
  | 127 => ⟨S1x512, .f32⟩
  | _ => ⟨S4096x1024, .f32⟩

abbrev hbmTy0_1 (i : Nat) : BufTy := match i % 128 with
  | 0 => ⟨S512, .f32⟩
  | 1 => ⟨S4096x512, .f32⟩
  | 2 => ⟨S1x512, .f32⟩
  | 3 => ⟨S4096x512, .f32⟩
  | 4 => ⟨S4096x512, .f32⟩
  | 5 => ⟨S4096x512, .f32⟩
  | 6 => ⟨S1x512, .f32⟩
  | 7 => ⟨S512, .f32⟩
  | 8 => ⟨S4096x512, .f32⟩
  | 9 => ⟨S1x512, .f32⟩
  | 10 => ⟨S4096x512, .f32⟩
  | 11 => ⟨S4096x512, .f32⟩
  | 12 => ⟨S4096x512, .f32⟩
  | 13 => ⟨S1x512, .f32⟩
  | 14 => ⟨S512, .f32⟩
  | 15 => ⟨S4096x512, .f32⟩
  | 16 => ⟨S1x512, .f32⟩
  | 17 => ⟨S4096x512, .f32⟩
  | 18 => ⟨S4096x512, .f32⟩
  | 19 => ⟨S4096x512, .f32⟩
  | 20 => ⟨S1x512, .f32⟩
  | 21 => ⟨S512, .f32⟩
  | 22 => ⟨S4096x512, .f32⟩
  | 23 => ⟨S1x512, .f32⟩
  | 24 => ⟨S4096x512, .f32⟩
  | 25 => ⟨S4096x512, .f32⟩
  | 26 => ⟨S4096x512, .f32⟩
  | 27 => ⟨S1x512, .f32⟩
  | 28 => ⟨S512, .f32⟩
  | 29 => ⟨S4096x512, .f32⟩
  | 30 => ⟨S1x512, .f32⟩
  | 31 => ⟨S4096x512, .f32⟩
  | 32 => ⟨S4096x512, .f32⟩
  | 33 => ⟨S4096x512, .f32⟩
  | 34 => ⟨S1x512, .f32⟩
  | 35 => ⟨S512, .f32⟩
  | 36 => ⟨S4096x512, .f32⟩
  | 37 => ⟨S1x512, .f32⟩
  | 38 => ⟨S4096x512, .f32⟩
  | 39 => ⟨S4096x512, .f32⟩
  | 40 => ⟨S4096x512, .f32⟩
  | 41 => ⟨S1x512, .f32⟩
  | 42 => ⟨S512, .f32⟩
  | 43 => ⟨S4096x512, .f32⟩
  | 44 => ⟨S1x512, .f32⟩
  | 45 => ⟨S4096x512, .f32⟩
  | 46 => ⟨S4096x512, .f32⟩
  | 47 => ⟨S4096x512, .f32⟩
  | 48 => ⟨S1x512, .f32⟩
  | 49 => ⟨S512, .f32⟩
  | 50 => ⟨S4096x512, .f32⟩
  | 51 => ⟨S1x512, .f32⟩
  | 52 => ⟨S4096x512, .f32⟩
  | 53 => ⟨S4096x512, .f32⟩
  | 54 => ⟨S4096x512, .f32⟩
  | 55 => ⟨S1x512, .f32⟩
  | 56 => ⟨S512, .f32⟩
  | 57 => ⟨S4096x512, .f32⟩
  | 58 => ⟨S1x512, .f32⟩
  | 59 => ⟨S4096x512, .f32⟩
  | 60 => ⟨S4096x512, .f32⟩
  | 61 => ⟨S4096x512, .f32⟩
  | 62 => ⟨S1x512, .f32⟩
  | 63 => ⟨S512, .f32⟩
  | 64 => ⟨S4096x512, .f32⟩
  | 65 => ⟨S1x512, .f32⟩
  | 66 => ⟨S4096x512, .f32⟩
  | 67 => ⟨S4096x512, .f32⟩
  | 68 => ⟨S4096x512, .f32⟩
  | 69 => ⟨S1x512, .f32⟩
  | 70 => ⟨S512, .f32⟩
  | 71 => ⟨S4096x512, .f32⟩
  | 72 => ⟨S1x512, .f32⟩
  | 73 => ⟨S4096x512, .f32⟩
  | 74 => ⟨S4096x512, .f32⟩
  | 75 => ⟨S4096x512, .f32⟩
  | 76 => ⟨S1x512, .f32⟩
  | 77 => ⟨S512, .f32⟩
  | 78 => ⟨S4096x512, .f32⟩
  | 79 => ⟨S1x512, .f32⟩
  | 80 => ⟨S4096x512, .f32⟩
  | 81 => ⟨S4096x512, .f32⟩
  | 82 => ⟨S4096x512, .f32⟩
  | 83 => ⟨S1x512, .f32⟩
  | 84 => ⟨S512, .f32⟩
  | 85 => ⟨S4096x512, .f32⟩
  | 86 => ⟨S1x512, .f32⟩
  | 87 => ⟨S4096x512, .f32⟩
  | 88 => ⟨S4096x512, .f32⟩
  | 89 => ⟨S4096x512, .f32⟩
  | 90 => ⟨S1x512, .f32⟩
  | 91 => ⟨S512, .f32⟩
  | 92 => ⟨S4096x512, .f32⟩
  | 93 => ⟨S1x512, .f32⟩
  | 94 => ⟨S4096x512, .f32⟩
  | 95 => ⟨S4096x512, .f32⟩
  | 96 => ⟨S4096x512, .f32⟩
  | 97 => ⟨S1x512, .f32⟩
  | 98 => ⟨S512, .f32⟩
  | 99 => ⟨S4096x512, .f32⟩
  | 100 => ⟨S1x512, .f32⟩
  | 101 => ⟨S4096x512, .f32⟩
  | 102 => ⟨S4096x512, .f32⟩
  | 103 => ⟨S4096x512, .f32⟩
  | 104 => ⟨S1x512, .f32⟩
  | 105 => ⟨S512, .f32⟩
  | 106 => ⟨S4096x512, .f32⟩
  | 107 => ⟨S1x512, .f32⟩
  | 108 => ⟨S4096x512, .f32⟩
  | 109 => ⟨S4096x512, .f32⟩
  | 110 => ⟨S4096x512, .f32⟩
  | 111 => ⟨S1x512, .f32⟩
  | 112 => ⟨S512, .f32⟩
  | 113 => ⟨S4096x512, .f32⟩
  | 114 => ⟨S1x512, .f32⟩
  | 115 => ⟨S4096x512, .f32⟩
  | 116 => ⟨S4096x512, .f32⟩
  | 117 => ⟨S4096x512, .f32⟩
  | 118 => ⟨S1x512, .f32⟩
  | 119 => ⟨S512, .f32⟩
  | 120 => ⟨S4096x512, .f32⟩
  | 121 => ⟨S1x512, .f32⟩
  | 122 => ⟨S4096x512, .f32⟩
  | 123 => ⟨S4096x512, .f32⟩
  | 124 => ⟨S4096x512, .f32⟩
  | 125 => ⟨S1x512, .f32⟩
  | 126 => ⟨S512, .f32⟩
  | 127 => ⟨S4096x512, .f32⟩
  | _ => ⟨S4096x1024, .f32⟩

abbrev hbmTy0_2 (i : Nat) : BufTy := match i % 128 with
  | 0 => ⟨S1x512, .f32⟩
  | 1 => ⟨S4096x512, .f32⟩
  | 2 => ⟨S4096x512, .f32⟩
  | 3 => ⟨S4096x512, .f32⟩
  | 4 => ⟨S1x512, .f32⟩
  | 5 => ⟨S512, .f32⟩
  | 6 => ⟨S4096x512, .f32⟩
  | 7 => ⟨S1x512, .f32⟩
  | 8 => ⟨S4096x512, .f32⟩
  | 9 => ⟨S4096x512, .f32⟩
  | 10 => ⟨S4096x512, .f32⟩
  | 11 => ⟨S4096x512, .f32⟩
  | 12 => ⟨S4096x512, .f32⟩
  | 13 => ⟨S4096x512, .f32⟩
  | 14 => ⟨S4096, .i32⟩
  | 15 => ⟨S_, .i32⟩
  | 16 => ⟨S4096, .i32⟩
  | 17 => ⟨S4096, .i32⟩
  | 18 => ⟨S4096, .f32⟩
  | 19 => ⟨S4096x1, .f32⟩
  | 20 => ⟨S4096x128, .f32⟩
  | 21 => ⟨S_, .f32⟩
  | 22 => ⟨S_, .f32⟩
  | 23 => ⟨S4096x128, .f32⟩
  | 24 => ⟨S_, .f32⟩
  | 25 => ⟨S2x128, .f32⟩
  | 26 => ⟨S4094x128, .f32⟩
  | 27 => ⟨S4096x128, .f32⟩
  | 28 => ⟨S_, .f32⟩
  | 29 => ⟨S2x128, .f32⟩
  | 30 => ⟨S4096x128, .f32⟩
  | 31 => ⟨S_, .f32⟩
  | 32 => ⟨S4096x1, .f32⟩
  | 33 => ⟨S4096x1, .f32⟩
  | 34 => ⟨S4096x128, .f32⟩
  | 35 => ⟨S4096x128, .f32⟩
  | 36 => ⟨S4096x128, .f32⟩
  | 37 => ⟨S4096x128, .f32⟩
  | 38 => ⟨S_, .f32⟩
  | 39 => ⟨S_, .f32⟩
  | 40 => ⟨S4096x128, .f32⟩
  | 41 => ⟨S_, .f32⟩
  | 42 => ⟨S4x128, .f32⟩
  | 43 => ⟨S4092x128, .f32⟩
  | 44 => ⟨S4096x128, .f32⟩
  | 45 => ⟨S_, .f32⟩
  | 46 => ⟨S4x128, .f32⟩
  | 47 => ⟨S4096x128, .f32⟩
  | 48 => ⟨S_, .f32⟩
  | 49 => ⟨S4096x1, .f32⟩
  | 50 => ⟨S4096x1, .f32⟩
  | 51 => ⟨S4096x128, .f32⟩
  | 52 => ⟨S4096x128, .f32⟩
  | 53 => ⟨S4096x128, .f32⟩
  | 54 => ⟨S4096x128, .f32⟩
  | 55 => ⟨S_, .f32⟩
  | 56 => ⟨S_, .f32⟩
  | 57 => ⟨S4096x128, .f32⟩
  | 58 => ⟨S_, .f32⟩
  | 59 => ⟨S8x128, .f32⟩
  | 60 => ⟨S4088x128, .f32⟩
  | 61 => ⟨S4096x128, .f32⟩
  | 62 => ⟨S_, .f32⟩
  | 63 => ⟨S8x128, .f32⟩
  | 64 => ⟨S4096x128, .f32⟩
  | 65 => ⟨S_, .f32⟩
  | 66 => ⟨S4096x1, .f32⟩
  | 67 => ⟨S4096x1, .f32⟩
  | 68 => ⟨S4096x128, .f32⟩
  | 69 => ⟨S4096x128, .f32⟩
  | 70 => ⟨S4096x128, .f32⟩
  | 71 => ⟨S4096x128, .f32⟩
  | 72 => ⟨S_, .f32⟩
  | 73 => ⟨S_, .f32⟩
  | 74 => ⟨S4096x128, .f32⟩
  | 75 => ⟨S_, .f32⟩
  | 76 => ⟨S16x128, .f32⟩
  | 77 => ⟨S4080x128, .f32⟩
  | 78 => ⟨S4096x128, .f32⟩
  | 79 => ⟨S_, .f32⟩
  | 80 => ⟨S16x128, .f32⟩
  | 81 => ⟨S4096x128, .f32⟩
  | 82 => ⟨S_, .f32⟩
  | 83 => ⟨S4096x1, .f32⟩
  | 84 => ⟨S4096x1, .f32⟩
  | 85 => ⟨S4096x128, .f32⟩
  | 86 => ⟨S4096x128, .f32⟩
  | 87 => ⟨S4096x128, .f32⟩
  | 88 => ⟨S4096x512, .f32⟩
  | 89 => ⟨S4096x128, .f32⟩
  | 90 => ⟨S4096x128, .f32⟩
  | 91 => ⟨S4096x128, .f32⟩
  | 92 => ⟨S4096x128, .f32⟩
  | 93 => ⟨S4096x128, .f32⟩
  | 94 => ⟨S4096x128, .f32⟩
  | 95 => ⟨S4096x128, .f32⟩
  | 96 => ⟨S4096x128, .f32⟩
  | 97 => ⟨S16x128, .f32⟩
  | 98 => ⟨S4080x128, .f32⟩
  | 99 => ⟨S_, .f32⟩
  | 100 => ⟨S4096x128, .f32⟩
  | 101 => ⟨S4096x128, .f32⟩
  | 102 => ⟨S_, .f32⟩
  | 103 => ⟨S_, .f32⟩
  | 104 => ⟨S4096x128, .f32⟩
  | 105 => ⟨S4096x128, .f32⟩
  | 106 => ⟨S_, .f32⟩
  | 107 => ⟨S4096x512, .f32⟩
  | 108 => ⟨S4096x128, .f32⟩
  | 109 => ⟨S4096x128, .f32⟩
  | 110 => ⟨S4096x128, .f32⟩
  | 111 => ⟨S4096x128, .f32⟩
  | 112 => ⟨S8x128, .f32⟩
  | 113 => ⟨S4088x128, .f32⟩
  | 114 => ⟨S_, .f32⟩
  | 115 => ⟨S4096x128, .f32⟩
  | 116 => ⟨S4096x128, .f32⟩
  | 117 => ⟨S_, .f32⟩
  | 118 => ⟨S_, .f32⟩
  | 119 => ⟨S4096x128, .f32⟩
  | 120 => ⟨S4096x128, .f32⟩
  | 121 => ⟨S_, .f32⟩
  | 122 => ⟨S4096x512, .f32⟩
  | 123 => ⟨S4096x512, .f32⟩
  | 124 => ⟨S4096x128, .f32⟩
  | 125 => ⟨S4096x128, .f32⟩
  | 126 => ⟨S4096x128, .f32⟩
  | 127 => ⟨S4096x128, .f32⟩
  | _ => ⟨S4096x1024, .f32⟩

abbrev hbmTy0_3 (i : Nat) : BufTy := match i % 128 with
  | 0 => ⟨S4x128, .f32⟩
  | 1 => ⟨S4092x128, .f32⟩
  | 2 => ⟨S_, .f32⟩
  | 3 => ⟨S4096x128, .f32⟩
  | 4 => ⟨S4096x128, .f32⟩
  | 5 => ⟨S_, .f32⟩
  | 6 => ⟨S_, .f32⟩
  | 7 => ⟨S4096x128, .f32⟩
  | 8 => ⟨S4096x128, .f32⟩
  | 9 => ⟨S_, .f32⟩
  | 10 => ⟨S4096x512, .f32⟩
  | 11 => ⟨S4096x512, .f32⟩
  | 12 => ⟨S4096x128, .f32⟩
  | 13 => ⟨S4096x128, .f32⟩
  | 14 => ⟨S4096x128, .f32⟩
  | 15 => ⟨S4096x128, .f32⟩
  | 16 => ⟨S2x128, .f32⟩
  | 17 => ⟨S4094x128, .f32⟩
  | 18 => ⟨S_, .f32⟩
  | 19 => ⟨S4096x128, .f32⟩
  | 20 => ⟨S4096x128, .f32⟩
  | 21 => ⟨S_, .f32⟩
  | 22 => ⟨S_, .f32⟩
  | 23 => ⟨S4096x128, .f32⟩
  | 24 => ⟨S4096x128, .f32⟩
  | 25 => ⟨S_, .f32⟩
  | 26 => ⟨S4096x512, .f32⟩
  | 27 => ⟨S4096x512, .f32⟩
  | 28 => ⟨S_, .f32⟩
  | 29 => ⟨S4096x1536, .f32⟩
  | 30 => ⟨S4096x512, .f32⟩
  | 31 => ⟨S_, .f32⟩
  | 32 => ⟨S512, .f32⟩
  | 33 => ⟨S1x512, .f32⟩
  | 34 => ⟨S4096x512, .f32⟩
  | 35 => ⟨S4096x512, .f32⟩
  | 36 => ⟨S4096x512, .f32⟩
  | 37 => ⟨S_, .f32⟩
  | 38 => ⟨S512, .f32⟩
  | 39 => ⟨S1x512, .f32⟩
  | 40 => ⟨S_, .f32⟩
  | 41 => ⟨S512, .f32⟩
  | 42 => ⟨S_, .f32⟩
  | 43 => ⟨S4126x512, .f32⟩
  | 44 => ⟨S1x512, .f32⟩
  | 45 => ⟨S_, .f32⟩
  | 46 => ⟨S31x512, .f32⟩
  | 47 => ⟨S4096x512, .f32⟩
  | 48 => ⟨S4096x512, .f32⟩
  | 49 => ⟨S4096x512, .f32⟩
  | 50 => ⟨S_, .f32⟩
  | 51 => ⟨S512, .f32⟩
  | 52 => ⟨S1x512, .f32⟩
  | 53 => ⟨S_, .f32⟩
  | 54 => ⟨S512, .f32⟩
  | 55 => ⟨S_, .f32⟩
  | 56 => ⟨S4126x512, .f32⟩
  | 57 => ⟨S4126x512, .f32⟩
  | 58 => ⟨S1x512, .f32⟩
  | 59 => ⟨S_, .f32⟩
  | 60 => ⟨S31x512, .f32⟩
  | 61 => ⟨S31x512, .f32⟩
  | 62 => ⟨S4096x512, .f32⟩
  | 63 => ⟨S4096x512, .f32⟩
  | 64 => ⟨S4096x512, .f32⟩
  | 65 => ⟨S_, .f32⟩
  | 66 => ⟨S512, .f32⟩
  | 67 => ⟨S1x512, .f32⟩
  | 68 => ⟨S_, .f32⟩
  | 69 => ⟨S512, .f32⟩
  | 70 => ⟨S_, .f32⟩
  | 71 => ⟨S4126x512, .f32⟩
  | 72 => ⟨S4126x512, .f32⟩
  | 73 => ⟨S1x512, .f32⟩
  | 74 => ⟨S_, .f32⟩
  | 75 => ⟨S31x512, .f32⟩
  | 76 => ⟨S31x512, .f32⟩
  | 77 => ⟨S4096x512, .f32⟩
  | 78 => ⟨S4096x512, .f32⟩
  | 79 => ⟨S4096x512, .f32⟩
  | 80 => ⟨S_, .f32⟩
  | 81 => ⟨S512, .f32⟩
  | 82 => ⟨S1x512, .f32⟩
  | 83 => ⟨S_, .f32⟩
  | 84 => ⟨S512, .f32⟩
  | 85 => ⟨S_, .f32⟩
  | 86 => ⟨S4126x512, .f32⟩
  | 87 => ⟨S4126x512, .f32⟩
  | 88 => ⟨S1x512, .f32⟩
  | 89 => ⟨S_, .f32⟩
  | 90 => ⟨S31x512, .f32⟩
  | 91 => ⟨S31x512, .f32⟩
  | 92 => ⟨S4096x512, .f32⟩
  | 93 => ⟨S4096x512, .f32⟩
  | 94 => ⟨S4096x512, .f32⟩
  | 95 => ⟨S_, .f32⟩
  | 96 => ⟨S512, .f32⟩
  | 97 => ⟨S1x512, .f32⟩
  | 98 => ⟨S_, .f32⟩
  | 99 => ⟨S512, .f32⟩
  | 100 => ⟨S_, .f32⟩
  | 101 => ⟨S4126x512, .f32⟩
  | 102 => ⟨S4126x512, .f32⟩
  | 103 => ⟨S1x512, .f32⟩
  | 104 => ⟨S_, .f32⟩
  | 105 => ⟨S31x512, .f32⟩
  | 106 => ⟨S31x512, .f32⟩
  | 107 => ⟨S4096x512, .f32⟩
  | 108 => ⟨S4096x512, .f32⟩
  | 109 => ⟨S4096x512, .f32⟩
  | 110 => ⟨S_, .f32⟩
  | 111 => ⟨S512, .f32⟩
  | 112 => ⟨S1x512, .f32⟩
  | 113 => ⟨S_, .f32⟩
  | 114 => ⟨S512, .f32⟩
  | 115 => ⟨S_, .f32⟩
  | 116 => ⟨S4126x512, .f32⟩
  | 117 => ⟨S4126x512, .f32⟩
  | 118 => ⟨S1x512, .f32⟩
  | 119 => ⟨S_, .f32⟩
  | 120 => ⟨S31x512, .f32⟩
  | 121 => ⟨S31x512, .f32⟩
  | 122 => ⟨S4096x512, .f32⟩
  | 123 => ⟨S4096x512, .f32⟩
  | 124 => ⟨S4096x512, .f32⟩
  | 125 => ⟨S_, .f32⟩
  | 126 => ⟨S512, .f32⟩
  | 127 => ⟨S1x512, .f32⟩
  | _ => ⟨S4096x1024, .f32⟩

abbrev hbmTy0_4 (i : Nat) : BufTy := match i % 128 with
  | 0 => ⟨S_, .f32⟩
  | 1 => ⟨S512, .f32⟩
  | 2 => ⟨S_, .f32⟩
  | 3 => ⟨S4126x512, .f32⟩
  | 4 => ⟨S4126x512, .f32⟩
  | 5 => ⟨S1x512, .f32⟩
  | 6 => ⟨S_, .f32⟩
  | 7 => ⟨S31x512, .f32⟩
  | 8 => ⟨S31x512, .f32⟩
  | 9 => ⟨S4096x512, .f32⟩
  | 10 => ⟨S4096x512, .f32⟩
  | 11 => ⟨S4096x512, .f32⟩
  | 12 => ⟨S_, .f32⟩
  | 13 => ⟨S512, .f32⟩
  | 14 => ⟨S1x512, .f32⟩
  | 15 => ⟨S_, .f32⟩
  | 16 => ⟨S512, .f32⟩
  | 17 => ⟨S_, .f32⟩
  | 18 => ⟨S4126x512, .f32⟩
  | 19 => ⟨S4126x512, .f32⟩
  | 20 => ⟨S1x512, .f32⟩
  | 21 => ⟨S_, .f32⟩
  | 22 => ⟨S31x512, .f32⟩
  | 23 => ⟨S31x512, .f32⟩
  | 24 => ⟨S4096x512, .f32⟩
  | 25 => ⟨S4096x512, .f32⟩
  | 26 => ⟨S4096x512, .f32⟩
  | 27 => ⟨S_, .f32⟩
  | 28 => ⟨S512, .f32⟩
  | 29 => ⟨S1x512, .f32⟩
  | 30 => ⟨S_, .f32⟩
  | 31 => ⟨S512, .f32⟩
  | 32 => ⟨S_, .f32⟩
  | 33 => ⟨S4126x512, .f32⟩
  | 34 => ⟨S4126x512, .f32⟩
  | 35 => ⟨S1x512, .f32⟩
  | 36 => ⟨S_, .f32⟩
  | 37 => ⟨S31x512, .f32⟩
  | 38 => ⟨S31x512, .f32⟩
  | 39 => ⟨S4096x512, .f32⟩
  | 40 => ⟨S4096x512, .f32⟩
  | 41 => ⟨S4096x512, .f32⟩
  | 42 => ⟨S_, .f32⟩
  | 43 => ⟨S512, .f32⟩
  | 44 => ⟨S1x512, .f32⟩
  | 45 => ⟨S_, .f32⟩
  | 46 => ⟨S512, .f32⟩
  | 47 => ⟨S_, .f32⟩
  | 48 => ⟨S4126x512, .f32⟩
  | 49 => ⟨S4126x512, .f32⟩
  | 50 => ⟨S1x512, .f32⟩
  | 51 => ⟨S_, .f32⟩
  | 52 => ⟨S31x512, .f32⟩
  | 53 => ⟨S31x512, .f32⟩
  | 54 => ⟨S4096x512, .f32⟩
  | 55 => ⟨S4096x512, .f32⟩
  | 56 => ⟨S4096x512, .f32⟩
  | 57 => ⟨S_, .f32⟩
  | 58 => ⟨S512, .f32⟩
  | 59 => ⟨S1x512, .f32⟩
  | 60 => ⟨S_, .f32⟩
  | 61 => ⟨S512, .f32⟩
  | 62 => ⟨S_, .f32⟩
  | 63 => ⟨S4126x512, .f32⟩
  | 64 => ⟨S4126x512, .f32⟩
  | 65 => ⟨S1x512, .f32⟩
  | 66 => ⟨S_, .f32⟩
  | 67 => ⟨S31x512, .f32⟩
  | 68 => ⟨S31x512, .f32⟩
  | 69 => ⟨S4096x512, .f32⟩
  | 70 => ⟨S4096x512, .f32⟩
  | 71 => ⟨S4096x512, .f32⟩
  | 72 => ⟨S_, .f32⟩
  | 73 => ⟨S512, .f32⟩
  | 74 => ⟨S1x512, .f32⟩
  | 75 => ⟨S_, .f32⟩
  | 76 => ⟨S512, .f32⟩
  | 77 => ⟨S_, .f32⟩
  | 78 => ⟨S4126x512, .f32⟩
  | 79 => ⟨S4126x512, .f32⟩
  | 80 => ⟨S1x512, .f32⟩
  | 81 => ⟨S_, .f32⟩
  | 82 => ⟨S31x512, .f32⟩
  | 83 => ⟨S31x512, .f32⟩
  | 84 => ⟨S4096x512, .f32⟩
  | 85 => ⟨S4096x512, .f32⟩
  | 86 => ⟨S4096x512, .f32⟩
  | 87 => ⟨S_, .f32⟩
  | 88 => ⟨S512, .f32⟩
  | 89 => ⟨S1x512, .f32⟩
  | 90 => ⟨S_, .f32⟩
  | 91 => ⟨S512, .f32⟩
  | 92 => ⟨S_, .f32⟩
  | 93 => ⟨S4126x512, .f32⟩
  | 94 => ⟨S4126x512, .f32⟩
  | 95 => ⟨S1x512, .f32⟩
  | 96 => ⟨S_, .f32⟩
  | 97 => ⟨S31x512, .f32⟩
  | 98 => ⟨S31x512, .f32⟩
  | 99 => ⟨S4096x512, .f32⟩
  | 100 => ⟨S4096x512, .f32⟩
  | 101 => ⟨S4096x512, .f32⟩
  | 102 => ⟨S_, .f32⟩
  | 103 => ⟨S512, .f32⟩
  | 104 => ⟨S1x512, .f32⟩
  | 105 => ⟨S_, .f32⟩
  | 106 => ⟨S512, .f32⟩
  | 107 => ⟨S_, .f32⟩
  | 108 => ⟨S4126x512, .f32⟩
  | 109 => ⟨S4126x512, .f32⟩
  | 110 => ⟨S1x512, .f32⟩
  | 111 => ⟨S_, .f32⟩
  | 112 => ⟨S31x512, .f32⟩
  | 113 => ⟨S31x512, .f32⟩
  | 114 => ⟨S4096x512, .f32⟩
  | 115 => ⟨S4096x512, .f32⟩
  | 116 => ⟨S4096x512, .f32⟩
  | 117 => ⟨S_, .f32⟩
  | 118 => ⟨S512, .f32⟩
  | 119 => ⟨S1x512, .f32⟩
  | 120 => ⟨S_, .f32⟩
  | 121 => ⟨S512, .f32⟩
  | 122 => ⟨S_, .f32⟩
  | 123 => ⟨S4126x512, .f32⟩
  | 124 => ⟨S4126x512, .f32⟩
  | 125 => ⟨S1x512, .f32⟩
  | 126 => ⟨S_, .f32⟩
  | 127 => ⟨S31x512, .f32⟩
  | _ => ⟨S4096x1024, .f32⟩

abbrev hbmTy0_5 (i : Nat) : BufTy := match i % 128 with
  | 0 => ⟨S31x512, .f32⟩
  | 1 => ⟨S4096x512, .f32⟩
  | 2 => ⟨S4096x512, .f32⟩
  | 3 => ⟨S4096x512, .f32⟩
  | 4 => ⟨S_, .f32⟩
  | 5 => ⟨S512, .f32⟩
  | 6 => ⟨S1x512, .f32⟩
  | 7 => ⟨S_, .f32⟩
  | 8 => ⟨S512, .f32⟩
  | 9 => ⟨S_, .f32⟩
  | 10 => ⟨S4126x512, .f32⟩
  | 11 => ⟨S4126x512, .f32⟩
  | 12 => ⟨S1x512, .f32⟩
  | 13 => ⟨S_, .f32⟩
  | 14 => ⟨S31x512, .f32⟩
  | 15 => ⟨S31x512, .f32⟩
  | 16 => ⟨S4096x512, .f32⟩
  | 17 => ⟨S4096x512, .f32⟩
  | 18 => ⟨S4096x512, .f32⟩
  | 19 => ⟨S_, .f32⟩
  | 20 => ⟨S512, .f32⟩
  | 21 => ⟨S1x512, .f32⟩
  | 22 => ⟨S_, .f32⟩
  | 23 => ⟨S512, .f32⟩
  | 24 => ⟨S_, .f32⟩
  | 25 => ⟨S4126x512, .f32⟩
  | 26 => ⟨S4126x512, .f32⟩
  | 27 => ⟨S1x512, .f32⟩
  | 28 => ⟨S_, .f32⟩
  | 29 => ⟨S31x512, .f32⟩
  | 30 => ⟨S31x512, .f32⟩
  | 31 => ⟨S4096x512, .f32⟩
  | 32 => ⟨S4096x512, .f32⟩
  | 33 => ⟨S4096x512, .f32⟩
  | 34 => ⟨S_, .f32⟩
  | 35 => ⟨S512, .f32⟩
  | 36 => ⟨S1x512, .f32⟩
  | 37 => ⟨S_, .f32⟩
  | 38 => ⟨S512, .f32⟩
  | 39 => ⟨S_, .f32⟩
  | 40 => ⟨S4126x512, .f32⟩
  | 41 => ⟨S4126x512, .f32⟩
  | 42 => ⟨S1x512, .f32⟩
  | 43 => ⟨S_, .f32⟩
  | 44 => ⟨S31x512, .f32⟩
  | 45 => ⟨S31x512, .f32⟩
  | 46 => ⟨S4096x512, .f32⟩
  | 47 => ⟨S4096x512, .f32⟩
  | 48 => ⟨S4096x512, .f32⟩
  | 49 => ⟨S_, .f32⟩
  | 50 => ⟨S512, .f32⟩
  | 51 => ⟨S1x512, .f32⟩
  | 52 => ⟨S_, .f32⟩
  | 53 => ⟨S512, .f32⟩
  | 54 => ⟨S_, .f32⟩
  | 55 => ⟨S4126x512, .f32⟩
  | 56 => ⟨S4126x512, .f32⟩
  | 57 => ⟨S1x512, .f32⟩
  | 58 => ⟨S_, .f32⟩
  | 59 => ⟨S31x512, .f32⟩
  | 60 => ⟨S31x512, .f32⟩
  | 61 => ⟨S4096x512, .f32⟩
  | 62 => ⟨S4096x512, .f32⟩
  | 63 => ⟨S4096x512, .f32⟩
  | 64 => ⟨S_, .f32⟩
  | 65 => ⟨S512, .f32⟩
  | 66 => ⟨S1x512, .f32⟩
  | 67 => ⟨S_, .f32⟩
  | 68 => ⟨S512, .f32⟩
  | 69 => ⟨S_, .f32⟩
  | 70 => ⟨S4126x512, .f32⟩
  | 71 => ⟨S4126x512, .f32⟩
  | 72 => ⟨S1x512, .f32⟩
  | 73 => ⟨S_, .f32⟩
  | 74 => ⟨S31x512, .f32⟩
  | 75 => ⟨S31x512, .f32⟩
  | 76 => ⟨S4096x512, .f32⟩
  | 77 => ⟨S4096x512, .f32⟩
  | 78 => ⟨S4096x512, .f32⟩
  | 79 => ⟨S_, .f32⟩
  | 80 => ⟨S512, .f32⟩
  | 81 => ⟨S1x512, .f32⟩
  | 82 => ⟨S_, .f32⟩
  | 83 => ⟨S512, .f32⟩
  | 84 => ⟨S_, .f32⟩
  | 85 => ⟨S4126x512, .f32⟩
  | 86 => ⟨S4126x512, .f32⟩
  | 87 => ⟨S1x512, .f32⟩
  | 88 => ⟨S_, .f32⟩
  | 89 => ⟨S31x512, .f32⟩
  | 90 => ⟨S31x512, .f32⟩
  | 91 => ⟨S4096x512, .f32⟩
  | 92 => ⟨S4096x512, .f32⟩
  | 93 => ⟨S4096x512, .f32⟩
  | 94 => ⟨S_, .f32⟩
  | 95 => ⟨S512, .f32⟩
  | 96 => ⟨S1x512, .f32⟩
  | 97 => ⟨S_, .f32⟩
  | 98 => ⟨S512, .f32⟩
  | 99 => ⟨S_, .f32⟩
  | 100 => ⟨S4126x512, .f32⟩
  | 101 => ⟨S4126x512, .f32⟩
  | 102 => ⟨S1x512, .f32⟩
  | 103 => ⟨S_, .f32⟩
  | 104 => ⟨S31x512, .f32⟩
  | 105 => ⟨S31x512, .f32⟩
  | 106 => ⟨S4096x512, .f32⟩
  | 107 => ⟨S4096x512, .f32⟩
  | 108 => ⟨S4096x512, .f32⟩
  | 109 => ⟨S_, .f32⟩
  | 110 => ⟨S512, .f32⟩
  | 111 => ⟨S1x512, .f32⟩
  | 112 => ⟨S_, .f32⟩
  | 113 => ⟨S512, .f32⟩
  | 114 => ⟨S_, .f32⟩
  | 115 => ⟨S4126x512, .f32⟩
  | 116 => ⟨S4126x512, .f32⟩
  | 117 => ⟨S1x512, .f32⟩
  | 118 => ⟨S_, .f32⟩
  | 119 => ⟨S31x512, .f32⟩
  | 120 => ⟨S31x512, .f32⟩
  | 121 => ⟨S4096x512, .f32⟩
  | 122 => ⟨S4096x512, .f32⟩
  | 123 => ⟨S4096x512, .f32⟩
  | 124 => ⟨S_, .f32⟩
  | 125 => ⟨S512, .f32⟩
  | 126 => ⟨S1x512, .f32⟩
  | 127 => ⟨S_, .f32⟩
  | _ => ⟨S4096x1024, .f32⟩

abbrev hbmTy0_6 (i : Nat) : BufTy := match i % 128 with
  | 0 => ⟨S512, .f32⟩
  | 1 => ⟨S_, .f32⟩
  | 2 => ⟨S4126x512, .f32⟩
  | 3 => ⟨S4126x512, .f32⟩
  | 4 => ⟨S1x512, .f32⟩
  | 5 => ⟨S_, .f32⟩
  | 6 => ⟨S31x512, .f32⟩
  | 7 => ⟨S31x512, .f32⟩
  | 8 => ⟨S4096x512, .f32⟩
  | 9 => ⟨S4096x512, .f32⟩
  | 10 => ⟨S4096x512, .f32⟩
  | 11 => ⟨S_, .f32⟩
  | 12 => ⟨S512, .f32⟩
  | 13 => ⟨S1x512, .f32⟩
  | 14 => ⟨S_, .f32⟩
  | 15 => ⟨S512, .f32⟩
  | 16 => ⟨S_, .f32⟩
  | 17 => ⟨S4126x512, .f32⟩
  | 18 => ⟨S4126x512, .f32⟩
  | 19 => ⟨S1x512, .f32⟩
  | 20 => ⟨S_, .f32⟩
  | 21 => ⟨S31x512, .f32⟩
  | 22 => ⟨S31x512, .f32⟩
  | 23 => ⟨S4096x512, .f32⟩
  | 24 => ⟨S4096x512, .f32⟩
  | 25 => ⟨S4096x512, .f32⟩
  | 26 => ⟨S_, .f32⟩
  | 27 => ⟨S512, .f32⟩
  | 28 => ⟨S1x512, .f32⟩
  | 29 => ⟨S_, .f32⟩
  | 30 => ⟨S512, .f32⟩
  | 31 => ⟨S_, .f32⟩
  | 32 => ⟨S4126x512, .f32⟩
  | 33 => ⟨S4126x512, .f32⟩
  | 34 => ⟨S1x512, .f32⟩
  | 35 => ⟨S_, .f32⟩
  | 36 => ⟨S31x512, .f32⟩
  | 37 => ⟨S31x512, .f32⟩
  | 38 => ⟨S4096x512, .f32⟩
  | 39 => ⟨S4096x512, .f32⟩
  | 40 => ⟨S4096x512, .f32⟩
  | 41 => ⟨S_, .f32⟩
  | 42 => ⟨S512, .f32⟩
  | 43 => ⟨S1x512, .f32⟩
  | 44 => ⟨S_, .f32⟩
  | 45 => ⟨S512, .f32⟩
  | 46 => ⟨S_, .f32⟩
  | 47 => ⟨S4126x512, .f32⟩
  | 48 => ⟨S4126x512, .f32⟩
  | 49 => ⟨S1x512, .f32⟩
  | 50 => ⟨S_, .f32⟩
  | 51 => ⟨S31x512, .f32⟩
  | 52 => ⟨S31x512, .f32⟩
  | 53 => ⟨S4096x512, .f32⟩
  | 54 => ⟨S4096x512, .f32⟩
  | 55 => ⟨S4096x512, .f32⟩
  | 56 => ⟨S_, .f32⟩
  | 57 => ⟨S512, .f32⟩
  | 58 => ⟨S1x512, .f32⟩
  | 59 => ⟨S_, .f32⟩
  | 60 => ⟨S512, .f32⟩
  | 61 => ⟨S_, .f32⟩
  | 62 => ⟨S4126x512, .f32⟩
  | 63 => ⟨S4126x512, .f32⟩
  | 64 => ⟨S1x512, .f32⟩
  | 65 => ⟨S_, .f32⟩
  | 66 => ⟨S31x512, .f32⟩
  | 67 => ⟨S31x512, .f32⟩
  | 68 => ⟨S4096x512, .f32⟩
  | 69 => ⟨S4096x512, .f32⟩
  | 70 => ⟨S4096x512, .f32⟩
  | 71 => ⟨S_, .f32⟩
  | 72 => ⟨S512, .f32⟩
  | 73 => ⟨S1x512, .f32⟩
  | 74 => ⟨S_, .f32⟩
  | 75 => ⟨S512, .f32⟩
  | 76 => ⟨S_, .f32⟩
  | 77 => ⟨S4126x512, .f32⟩
  | 78 => ⟨S4126x512, .f32⟩
  | 79 => ⟨S1x512, .f32⟩
  | 80 => ⟨S_, .f32⟩
  | 81 => ⟨S31x512, .f32⟩
  | 82 => ⟨S31x512, .f32⟩
  | 83 => ⟨S4096x512, .f32⟩
  | 84 => ⟨S4096x512, .f32⟩
  | 85 => ⟨S4096x512, .f32⟩
  | 86 => ⟨S_, .f32⟩
  | 87 => ⟨S512, .f32⟩
  | 88 => ⟨S1x512, .f32⟩
  | 89 => ⟨S_, .f32⟩
  | 90 => ⟨S512, .f32⟩
  | 91 => ⟨S_, .f32⟩
  | 92 => ⟨S4126x512, .f32⟩
  | 93 => ⟨S4126x512, .f32⟩
  | 94 => ⟨S1x512, .f32⟩
  | 95 => ⟨S_, .f32⟩
  | 96 => ⟨S31x512, .f32⟩
  | 97 => ⟨S31x512, .f32⟩
  | 98 => ⟨S4096x512, .f32⟩
  | 99 => ⟨S4096x512, .f32⟩
  | 100 => ⟨S4096x512, .f32⟩
  | 101 => ⟨S_, .f32⟩
  | 102 => ⟨S512, .f32⟩
  | 103 => ⟨S1x512, .f32⟩
  | 104 => ⟨S_, .f32⟩
  | 105 => ⟨S512, .f32⟩
  | 106 => ⟨S_, .f32⟩
  | 107 => ⟨S4126x512, .f32⟩
  | 108 => ⟨S4126x512, .f32⟩
  | 109 => ⟨S1x512, .f32⟩
  | 110 => ⟨S_, .f32⟩
  | 111 => ⟨S31x512, .f32⟩
  | 112 => ⟨S31x512, .f32⟩
  | 113 => ⟨S30x512, .f32⟩
  | 114 => ⟨S4096x512, .f32⟩
  | 115 => ⟨S4096x512, .f32⟩
  | 116 => ⟨S4096x512, .f32⟩
  | 117 => ⟨S4096x512, .f32⟩
  | 118 => ⟨S_, .f32⟩
  | 119 => ⟨S4096x1536, .f32⟩
  | 120 => ⟨S4096x1536, .f32⟩
  | 121 => ⟨S_, .f32⟩
  | 122 => ⟨S4096x1536, .f32⟩
  | 123 => ⟨S4096x1536, .f32⟩
  | 124 => ⟨S1536x1024, .f32⟩
  | 125 => ⟨S1024x1536, .f32⟩
  | 126 => ⟨S4096x1024, .f32⟩
  | 127 => ⟨S4096x1024, .f32⟩
  | _ => ⟨S4096x1024, .f32⟩

abbrev hbmTy0_7 (i : Nat) : BufTy := match i % 128 with
  | 0 => ⟨S_, .f32⟩
  | 1 => ⟨S1024, .f32⟩
  | 2 => ⟨S1x1024, .f32⟩
  | 3 => ⟨S4096x1024, .f32⟩
  | 4 => ⟨S4096x1024, .f32⟩
  | 5 => ⟨S4096x1024, .f32⟩
  | 6 => ⟨S_, .f32⟩
  | 7 => ⟨S4096, .f32⟩
  | 8 => ⟨S4096x1, .f32⟩
  | 9 => ⟨S4096x1024, .f32⟩
  | 10 => ⟨S4096x1024, .f32⟩
  | 11 => ⟨S4096x1024, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096, .f32⟩
  | 18 => ⟨S4096x1024, .f32⟩
  | 19 => ⟨S4096x1024, .f32⟩
  | 20 => ⟨S4096x1024, .f32⟩
  | 21 => ⟨S4096x1024, .f32⟩
  | 22 => ⟨S4096x1024, .f32⟩
  | 23 => ⟨S1024x4x384, .f32⟩
  | 24 => ⟨S4x1024x384, .f32⟩
  | 25 => ⟨S4x1024x384, .bf16⟩
  | 26 => ⟨S_, .f32⟩
  | 27 => ⟨S1x512, .f32⟩
  | 28 => ⟨S32x512, .f32⟩
  | 29 => ⟨S_, .f32⟩
  | 30 => ⟨S7x1024, .f32⟩
  | 31 => ⟨S8x1024, .f32⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_v210 : Ref sig .tc := ⟨.hbm, 228, rfl⟩
abbrev main_v211 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩
abbrev main_v224 : Ref sig .tc := ⟨.hbm, 242, rfl⟩
abbrev main_v225 : Ref sig .tc := ⟨.hbm, 243, rfl⟩
abbrev main_v226 : Ref sig .tc := ⟨.hbm, 244, rfl⟩
abbrev main_v227 : Ref sig .tc := ⟨.hbm, 245, rfl⟩
abbrev main_v228 : Ref sig .tc := ⟨.hbm, 246, rfl⟩
abbrev main_v229 : Ref sig .tc := ⟨.hbm, 247, rfl⟩
abbrev main_v230 : Ref sig .tc := ⟨.hbm, 248, rfl⟩
abbrev main_v231 : Ref sig .tc := ⟨.hbm, 249, rfl⟩
abbrev main_v232 : Ref sig .tc := ⟨.hbm, 250, rfl⟩
abbrev main_v233 : Ref sig .tc := ⟨.hbm, 251, rfl⟩
abbrev main_v234 : Ref sig .tc := ⟨.hbm, 252, rfl⟩
abbrev main_v235 : Ref sig .tc := ⟨.hbm, 253, rfl⟩
abbrev main_v236 : Ref sig .tc := ⟨.hbm, 254, rfl⟩
abbrev main_v237 : Ref sig .tc := ⟨.hbm, 255, rfl⟩
abbrev main_v238 : Ref sig .tc := ⟨.hbm, 256, rfl⟩
abbrev main_v239 : Ref sig .tc := ⟨.hbm, 257, rfl⟩
abbrev main_v240 : Ref sig .tc := ⟨.hbm, 258, rfl⟩
abbrev main_v241 : Ref sig .tc := ⟨.hbm, 259, rfl⟩
abbrev main_v242 : Ref sig .tc := ⟨.hbm, 260, rfl⟩
abbrev main_v243 : Ref sig .tc := ⟨.hbm, 261, rfl⟩
abbrev main_v244 : Ref sig .tc := ⟨.hbm, 262, rfl⟩
abbrev main_v245 : Ref sig .tc := ⟨.hbm, 263, rfl⟩
abbrev main_v246 : Ref sig .tc := ⟨.hbm, 264, rfl⟩
abbrev main_v247 : Ref sig .tc := ⟨.hbm, 265, rfl⟩
abbrev main_v248 : Ref sig .tc := ⟨.hbm, 266, rfl⟩
abbrev main_v249 : Ref sig .tc := ⟨.hbm, 267, rfl⟩
abbrev main_v250 : Ref sig .tc := ⟨.hbm, 268, rfl⟩
abbrev main_v251 : Ref sig .tc := ⟨.hbm, 269, rfl⟩
abbrev main_v252 : Ref sig .tc := ⟨.hbm, 270, rfl⟩
abbrev main_c : Ref sig .tc := ⟨.hbm, 271, rfl⟩
abbrev main_v253 : Ref sig .tc := ⟨.hbm, 272, rfl⟩
abbrev main_v254 : Ref sig .tc := ⟨.hbm, 273, rfl⟩
abbrev main_v255 : Ref sig .tc := ⟨.hbm, 274, rfl⟩
abbrev main_v256 : Ref sig .tc := ⟨.hbm, 275, rfl⟩
abbrev main_v257 : Ref sig .tc := ⟨.hbm, 276, rfl⟩
abbrev main_call0_call0_cst : Ref sig .tc := ⟨.hbm, 277, rfl⟩
abbrev main_call0_call0_v0 : Ref sig .tc := ⟨.hbm, 278, rfl⟩
abbrev main_v258 : Ref sig .tc := ⟨.hbm, 279, rfl⟩
abbrev main_cst_9 : Ref sig .tc := ⟨.hbm, 280, rfl⟩
abbrev main_v259 : Ref sig .tc := ⟨.hbm, 281, rfl⟩
abbrev main_v260 : Ref sig .tc := ⟨.hbm, 282, rfl⟩
abbrev main_v261 : Ref sig .tc := ⟨.hbm, 283, rfl⟩
abbrev main_cst_10 : Ref sig .tc := ⟨.hbm, 284, rfl⟩
abbrev main_v262 : Ref sig .tc := ⟨.hbm, 285, rfl⟩
abbrev main_v263 : Ref sig .tc := ⟨.hbm, 286, rfl⟩
abbrev main_cst_11 : Ref sig .tc := ⟨.hbm, 287, rfl⟩
abbrev main_v264 : Ref sig .tc := ⟨.hbm, 288, rfl⟩
abbrev main_v265 : Ref sig .tc := ⟨.hbm, 289, rfl⟩
abbrev main_v266 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_call1_call0_cst : Ref sig .tc := ⟨.hbm, 294, rfl⟩
abbrev main_call1_call0_v0 : Ref sig .tc := ⟨.hbm, 295, rfl⟩
abbrev main_v270 : Ref sig .tc := ⟨.hbm, 296, rfl⟩
abbrev main_cst_12 : Ref sig .tc := ⟨.hbm, 297, rfl⟩
abbrev main_v271 : Ref sig .tc := ⟨.hbm, 298, rfl⟩
abbrev main_v272 : Ref sig .tc := ⟨.hbm, 299, rfl⟩
abbrev main_v273 : Ref sig .tc := ⟨.hbm, 300, rfl⟩
abbrev main_cst_13 : Ref sig .tc := ⟨.hbm, 301, rfl⟩
abbrev main_v274 : Ref sig .tc := ⟨.hbm, 302, rfl⟩
abbrev main_v275 : Ref sig .tc := ⟨.hbm, 303, rfl⟩
abbrev main_cst_14 : Ref sig .tc := ⟨.hbm, 304, rfl⟩
abbrev main_v276 : Ref sig .tc := ⟨.hbm, 305, rfl⟩
abbrev main_v277 : Ref sig .tc := ⟨.hbm, 306, rfl⟩
abbrev main_v278 : Ref sig .tc := ⟨.hbm, 307, rfl⟩
abbrev main_v279 : Ref sig .tc := ⟨.hbm, 308, rfl⟩
abbrev main_v280 : Ref sig .tc := ⟨.hbm, 309, rfl⟩
abbrev main_v281 : Ref sig .tc := ⟨.hbm, 310, rfl⟩
abbrev main_call2_call0_cst : Ref sig .tc := ⟨.hbm, 311, rfl⟩
abbrev main_call2_call0_v0 : Ref sig .tc := ⟨.hbm, 312, rfl⟩
abbrev main_v282 : Ref sig .tc := ⟨.hbm, 313, rfl⟩
abbrev main_cst_15 : Ref sig .tc := ⟨.hbm, 314, rfl⟩
abbrev main_v283 : Ref sig .tc := ⟨.hbm, 315, rfl⟩
abbrev main_v284 : Ref sig .tc := ⟨.hbm, 316, rfl⟩
abbrev main_v285 : Ref sig .tc := ⟨.hbm, 317, rfl⟩
abbrev main_cst_16 : Ref sig .tc := ⟨.hbm, 318, rfl⟩
abbrev main_v286 : Ref sig .tc := ⟨.hbm, 319, rfl⟩
abbrev main_v287 : Ref sig .tc := ⟨.hbm, 320, rfl⟩
abbrev main_cst_17 : Ref sig .tc := ⟨.hbm, 321, rfl⟩
abbrev main_v288 : Ref sig .tc := ⟨.hbm, 322, rfl⟩
abbrev main_v289 : Ref sig .tc := ⟨.hbm, 323, rfl⟩
abbrev main_v290 : Ref sig .tc := ⟨.hbm, 324, rfl⟩
abbrev main_v291 : Ref sig .tc := ⟨.hbm, 325, rfl⟩
abbrev main_v292 : Ref sig .tc := ⟨.hbm, 326, rfl⟩
abbrev main_v293 : Ref sig .tc := ⟨.hbm, 327, rfl⟩
abbrev main_call3_call0_cst : Ref sig .tc := ⟨.hbm, 328, rfl⟩
abbrev main_call3_call0_v0 : Ref sig .tc := ⟨.hbm, 329, rfl⟩
abbrev main_v294 : Ref sig .tc := ⟨.hbm, 330, rfl⟩
abbrev main_cst_18 : Ref sig .tc := ⟨.hbm, 331, rfl⟩
abbrev main_v295 : Ref sig .tc := ⟨.hbm, 332, rfl⟩
abbrev main_v296 : Ref sig .tc := ⟨.hbm, 333, rfl⟩
abbrev main_v297 : Ref sig .tc := ⟨.hbm, 334, rfl⟩
abbrev main_cst_19 : Ref sig .tc := ⟨.hbm, 335, rfl⟩
abbrev main_v298 : Ref sig .tc := ⟨.hbm, 336, rfl⟩
abbrev main_v299 : Ref sig .tc := ⟨.hbm, 337, rfl⟩
abbrev main_cst_20 : Ref sig .tc := ⟨.hbm, 338, rfl⟩
abbrev main_v300 : Ref sig .tc := ⟨.hbm, 339, rfl⟩
abbrev main_v301 : Ref sig .tc := ⟨.hbm, 340, rfl⟩
abbrev main_v302 : Ref sig .tc := ⟨.hbm, 341, rfl⟩
abbrev main_v303 : Ref sig .tc := ⟨.hbm, 342, rfl⟩
abbrev main_v304 : Ref sig .tc := ⟨.hbm, 343, rfl⟩
abbrev main_v305 : Ref sig .tc := ⟨.hbm, 344, rfl⟩
abbrev main_v306 : Ref sig .tc := ⟨.hbm, 345, rfl⟩
abbrev main_v307 : Ref sig .tc := ⟨.hbm, 346, rfl⟩
abbrev main_v308 : Ref sig .tc := ⟨.hbm, 347, rfl⟩
abbrev main_v309 : Ref sig .tc := ⟨.hbm, 348, rfl⟩
abbrev main_v310 : Ref sig .tc := ⟨.hbm, 349, rfl⟩
abbrev main_v311 : Ref sig .tc := ⟨.hbm, 350, rfl⟩
abbrev main_v312 : Ref sig .tc := ⟨.hbm, 351, rfl⟩
abbrev main_v313 : Ref sig .tc := ⟨.hbm, 352, rfl⟩
abbrev main_v314 : Ref sig .tc := ⟨.hbm, 353, rfl⟩
abbrev main_v315 : Ref sig .tc := ⟨.hbm, 354, rfl⟩
abbrev main_cst_21 : Ref sig .tc := ⟨.hbm, 355, rfl⟩
abbrev main_v316 : Ref sig .tc := ⟨.hbm, 356, rfl⟩
abbrev main_v317 : Ref sig .tc := ⟨.hbm, 357, rfl⟩
abbrev main_call4_call0_cst : Ref sig .tc := ⟨.hbm, 358, rfl⟩
abbrev main_call4_call0_v0 : Ref sig .tc := ⟨.hbm, 359, rfl⟩
abbrev main_v318 : Ref sig .tc := ⟨.hbm, 360, rfl⟩
abbrev main_v319 : Ref sig .tc := ⟨.hbm, 361, rfl⟩
abbrev main_cst_22 : Ref sig .tc := ⟨.hbm, 362, rfl⟩
abbrev main_v320 : Ref sig .tc := ⟨.hbm, 363, rfl⟩
abbrev main_v321 : Ref sig .tc := ⟨.hbm, 364, rfl⟩
abbrev main_v322 : Ref sig .tc := ⟨.hbm, 365, rfl⟩
abbrev main_v323 : Ref sig .tc := ⟨.hbm, 366, rfl⟩
abbrev main_v324 : Ref sig .tc := ⟨.hbm, 367, rfl⟩
abbrev main_v325 : Ref sig .tc := ⟨.hbm, 368, rfl⟩
abbrev main_v326 : Ref sig .tc := ⟨.hbm, 369, rfl⟩
abbrev main_cst_23 : Ref sig .tc := ⟨.hbm, 370, rfl⟩
abbrev main_v327 : Ref sig .tc := ⟨.hbm, 371, rfl⟩
abbrev main_v328 : Ref sig .tc := ⟨.hbm, 372, rfl⟩
abbrev main_call5_call0_cst : Ref sig .tc := ⟨.hbm, 373, rfl⟩
abbrev main_call5_call0_v0 : Ref sig .tc := ⟨.hbm, 374, rfl⟩
abbrev main_v329 : Ref sig .tc := ⟨.hbm, 375, rfl⟩
abbrev main_v330 : Ref sig .tc := ⟨.hbm, 376, rfl⟩
abbrev main_cst_24 : Ref sig .tc := ⟨.hbm, 377, rfl⟩
abbrev main_v331 : Ref sig .tc := ⟨.hbm, 378, rfl⟩
abbrev main_v332 : Ref sig .tc := ⟨.hbm, 379, rfl⟩
abbrev main_v333 : Ref sig .tc := ⟨.hbm, 380, rfl⟩
abbrev main_v334 : Ref sig .tc := ⟨.hbm, 381, rfl⟩
abbrev main_v335 : Ref sig .tc := ⟨.hbm, 382, rfl⟩
abbrev main_v336 : Ref sig .tc := ⟨.hbm, 383, rfl⟩
abbrev main_v337 : Ref sig .tc := ⟨.hbm, 384, rfl⟩
abbrev main_v338 : Ref sig .tc := ⟨.hbm, 385, rfl⟩
abbrev main_cst_25 : Ref sig .tc := ⟨.hbm, 386, rfl⟩
abbrev main_v339 : Ref sig .tc := ⟨.hbm, 387, rfl⟩
abbrev main_v340 : Ref sig .tc := ⟨.hbm, 388, rfl⟩
abbrev main_call6_call0_cst : Ref sig .tc := ⟨.hbm, 389, rfl⟩
abbrev main_call6_call0_v0 : Ref sig .tc := ⟨.hbm, 390, rfl⟩
abbrev main_v341 : Ref sig .tc := ⟨.hbm, 391, rfl⟩
abbrev main_v342 : Ref sig .tc := ⟨.hbm, 392, rfl⟩
abbrev main_cst_26 : Ref sig .tc := ⟨.hbm, 393, rfl⟩
abbrev main_v343 : Ref sig .tc := ⟨.hbm, 394, rfl⟩
abbrev main_v344 : Ref sig .tc := ⟨.hbm, 395, rfl⟩
abbrev main_v345 : Ref sig .tc := ⟨.hbm, 396, rfl⟩
abbrev main_v346 : Ref sig .tc := ⟨.hbm, 397, rfl⟩
abbrev main_v347 : Ref sig .tc := ⟨.hbm, 398, rfl⟩
abbrev main_v348 : Ref sig .tc := ⟨.hbm, 399, rfl⟩
abbrev main_v349 : Ref sig .tc := ⟨.hbm, 400, rfl⟩
abbrev main_v350 : Ref sig .tc := ⟨.hbm, 401, rfl⟩
abbrev main_cst_27 : Ref sig .tc := ⟨.hbm, 402, rfl⟩
abbrev main_v351 : Ref sig .tc := ⟨.hbm, 403, rfl⟩
abbrev main_v352 : Ref sig .tc := ⟨.hbm, 404, rfl⟩
abbrev main_call7_call0_cst : Ref sig .tc := ⟨.hbm, 405, rfl⟩
abbrev main_call7_call0_v0 : Ref sig .tc := ⟨.hbm, 406, rfl⟩
abbrev main_v353 : Ref sig .tc := ⟨.hbm, 407, rfl⟩
abbrev main_v354 : Ref sig .tc := ⟨.hbm, 408, rfl⟩
abbrev main_cst_28 : Ref sig .tc := ⟨.hbm, 409, rfl⟩
abbrev main_v355 : Ref sig .tc := ⟨.hbm, 410, rfl⟩
abbrev main_v356 : Ref sig .tc := ⟨.hbm, 411, rfl⟩
abbrev main_cst_29 : Ref sig .tc := ⟨.hbm, 412, rfl⟩
abbrev main_v357 : Ref sig .tc := ⟨.hbm, 413, rfl⟩
abbrev main_v358 : Ref sig .tc := ⟨.hbm, 414, rfl⟩
abbrev main_cst_30 : Ref sig .tc := ⟨.hbm, 415, rfl⟩
abbrev main_v359 : Ref sig .tc := ⟨.hbm, 416, rfl⟩
abbrev main_v360 : Ref sig .tc := ⟨.hbm, 417, rfl⟩
abbrev main_v361 : Ref sig .tc := ⟨.hbm, 418, rfl⟩
abbrev main_v362 : Ref sig .tc := ⟨.hbm, 419, rfl⟩
abbrev main_v363 : Ref sig .tc := ⟨.hbm, 420, rfl⟩
abbrev main_cst_31 : Ref sig .tc := ⟨.hbm, 421, rfl⟩
abbrev main_v364 : Ref sig .tc := ⟨.hbm, 422, rfl⟩
abbrev main_v365 : Ref sig .tc := ⟨.hbm, 423, rfl⟩
abbrev main_cst_32 : Ref sig .tc := ⟨.hbm, 424, rfl⟩
abbrev main_v366 : Ref sig .tc := ⟨.hbm, 425, rfl⟩
abbrev main_cst_33 : Ref sig .tc := ⟨.hbm, 426, rfl⟩
abbrev main_v367 : Ref sig .tc := ⟨.hbm, 427, rfl⟩
abbrev main_v368 : Ref sig .tc := ⟨.hbm, 428, rfl⟩
abbrev main_cst_34 : Ref sig .tc := ⟨.hbm, 429, rfl⟩
abbrev main_v369 : Ref sig .tc := ⟨.hbm, 430, rfl⟩
abbrev main_v370 : Ref sig .tc := ⟨.hbm, 431, rfl⟩
abbrev main_v371 : Ref sig .tc := ⟨.hbm, 432, rfl⟩
abbrev main_v372 : Ref sig .tc := ⟨.hbm, 433, rfl⟩
abbrev main_cst_35 : Ref sig .tc := ⟨.hbm, 434, rfl⟩
abbrev main_v373 : Ref sig .tc := ⟨.hbm, 435, rfl⟩
abbrev main_v374 : Ref sig .tc := ⟨.hbm, 436, rfl⟩
abbrev main_cst_36 : Ref sig .tc := ⟨.hbm, 437, rfl⟩
abbrev main_v375 : Ref sig .tc := ⟨.hbm, 438, rfl⟩
abbrev main_cst_37 : Ref sig .tc := ⟨.hbm, 439, rfl⟩
abbrev main_v376 : Ref sig .tc := ⟨.hbm, 440, rfl⟩
abbrev main_v377 : Ref sig .tc := ⟨.hbm, 441, rfl⟩
abbrev main_v378 : Ref sig .tc := ⟨.hbm, 442, rfl⟩
abbrev main_cst_38 : Ref sig .tc := ⟨.hbm, 443, rfl⟩
abbrev main_v379 : Ref sig .tc := ⟨.hbm, 444, rfl⟩
abbrev main_v380 : Ref sig .tc := ⟨.hbm, 445, rfl⟩
abbrev main_v381 : Ref sig .tc := ⟨.hbm, 446, rfl⟩
abbrev main_v382 : Ref sig .tc := ⟨.hbm, 447, rfl⟩
abbrev main_v383 : Ref sig .tc := ⟨.hbm, 448, rfl⟩
abbrev main_cst_39 : Ref sig .tc := ⟨.hbm, 449, rfl⟩
abbrev main_v384 : Ref sig .tc := ⟨.hbm, 450, rfl⟩
abbrev main_v385 : Ref sig .tc := ⟨.hbm, 451, rfl⟩
abbrev main_cst_40 : Ref sig .tc := ⟨.hbm, 452, rfl⟩
abbrev main_v386 : Ref sig .tc := ⟨.hbm, 453, rfl⟩
abbrev main_cst_41 : Ref sig .tc := ⟨.hbm, 454, rfl⟩
abbrev main_v387 : Ref sig .tc := ⟨.hbm, 455, rfl⟩
abbrev main_v388 : Ref sig .tc := ⟨.hbm, 456, rfl⟩
abbrev main_v389 : Ref sig .tc := ⟨.hbm, 457, rfl⟩
abbrev main_cst_42 : Ref sig .tc := ⟨.hbm, 458, rfl⟩
abbrev main_v390 : Ref sig .tc := ⟨.hbm, 459, rfl⟩
abbrev main_v391 : Ref sig .tc := ⟨.hbm, 460, rfl⟩
abbrev main_v392 : Ref sig .tc := ⟨.hbm, 461, rfl⟩
abbrev main_v393 : Ref sig .tc := ⟨.hbm, 462, rfl⟩
abbrev main_v394 : Ref sig .tc := ⟨.hbm, 463, rfl⟩
abbrev main_cst_43 : Ref sig .tc := ⟨.hbm, 464, rfl⟩
abbrev main_v395 : Ref sig .tc := ⟨.hbm, 465, rfl⟩
abbrev main_v396 : Ref sig .tc := ⟨.hbm, 466, rfl⟩
abbrev main_cst_44 : Ref sig .tc := ⟨.hbm, 467, rfl⟩
abbrev main_v397 : Ref sig .tc := ⟨.hbm, 468, rfl⟩
abbrev main_cst_45 : Ref sig .tc := ⟨.hbm, 469, rfl⟩
abbrev main_v398 : Ref sig .tc := ⟨.hbm, 470, rfl⟩
abbrev main_v399 : Ref sig .tc := ⟨.hbm, 471, rfl⟩
abbrev main_v400 : Ref sig .tc := ⟨.hbm, 472, rfl⟩
abbrev main_cst_46 : Ref sig .tc := ⟨.hbm, 473, rfl⟩
abbrev main_v401 : Ref sig .tc := ⟨.hbm, 474, rfl⟩
abbrev main_v402 : Ref sig .tc := ⟨.hbm, 475, rfl⟩
abbrev main_v403 : Ref sig .tc := ⟨.hbm, 476, rfl⟩
abbrev main_v404 : Ref sig .tc := ⟨.hbm, 477, rfl⟩
abbrev main_v405 : Ref sig .tc := ⟨.hbm, 478, rfl⟩
abbrev main_cst_47 : Ref sig .tc := ⟨.hbm, 479, rfl⟩
abbrev main_v406 : Ref sig .tc := ⟨.hbm, 480, rfl⟩
abbrev main_v407 : Ref sig .tc := ⟨.hbm, 481, rfl⟩
abbrev main_cst_48 : Ref sig .tc := ⟨.hbm, 482, rfl⟩
abbrev main_v408 : Ref sig .tc := ⟨.hbm, 483, rfl⟩
abbrev main_cst_49 : Ref sig .tc := ⟨.hbm, 484, rfl⟩
abbrev main_v409 : Ref sig .tc := ⟨.hbm, 485, rfl⟩
abbrev main_v410 : Ref sig .tc := ⟨.hbm, 486, rfl⟩
abbrev main_v411 : Ref sig .tc := ⟨.hbm, 487, rfl⟩
abbrev main_cst_50 : Ref sig .tc := ⟨.hbm, 488, rfl⟩
abbrev main_v412 : Ref sig .tc := ⟨.hbm, 489, rfl⟩
abbrev main_v413 : Ref sig .tc := ⟨.hbm, 490, rfl⟩
abbrev main_v414 : Ref sig .tc := ⟨.hbm, 491, rfl⟩
abbrev main_v415 : Ref sig .tc := ⟨.hbm, 492, rfl⟩
abbrev main_v416 : Ref sig .tc := ⟨.hbm, 493, rfl⟩
abbrev main_cst_51 : Ref sig .tc := ⟨.hbm, 494, rfl⟩
abbrev main_v417 : Ref sig .tc := ⟨.hbm, 495, rfl⟩
abbrev main_v418 : Ref sig .tc := ⟨.hbm, 496, rfl⟩
abbrev main_cst_52 : Ref sig .tc := ⟨.hbm, 497, rfl⟩
abbrev main_v419 : Ref sig .tc := ⟨.hbm, 498, rfl⟩
abbrev main_cst_53 : Ref sig .tc := ⟨.hbm, 499, rfl⟩
abbrev main_v420 : Ref sig .tc := ⟨.hbm, 500, rfl⟩
abbrev main_v421 : Ref sig .tc := ⟨.hbm, 501, rfl⟩
abbrev main_v422 : Ref sig .tc := ⟨.hbm, 502, rfl⟩
abbrev main_cst_54 : Ref sig .tc := ⟨.hbm, 503, rfl⟩
abbrev main_v423 : Ref sig .tc := ⟨.hbm, 504, rfl⟩
abbrev main_v424 : Ref sig .tc := ⟨.hbm, 505, rfl⟩
abbrev main_v425 : Ref sig .tc := ⟨.hbm, 506, rfl⟩
abbrev main_v426 : Ref sig .tc := ⟨.hbm, 507, rfl⟩
abbrev main_v427 : Ref sig .tc := ⟨.hbm, 508, rfl⟩
abbrev main_cst_55 : Ref sig .tc := ⟨.hbm, 509, rfl⟩
abbrev main_v428 : Ref sig .tc := ⟨.hbm, 510, rfl⟩
abbrev main_v429 : Ref sig .tc := ⟨.hbm, 511, rfl⟩
abbrev main_cst_56 : Ref sig .tc := ⟨.hbm, 512, rfl⟩
abbrev main_v430 : Ref sig .tc := ⟨.hbm, 513, rfl⟩
abbrev main_cst_57 : Ref sig .tc := ⟨.hbm, 514, rfl⟩
abbrev main_v431 : Ref sig .tc := ⟨.hbm, 515, rfl⟩
abbrev main_v432 : Ref sig .tc := ⟨.hbm, 516, rfl⟩
abbrev main_v433 : Ref sig .tc := ⟨.hbm, 517, rfl⟩
abbrev main_cst_58 : Ref sig .tc := ⟨.hbm, 518, rfl⟩
abbrev main_v434 : Ref sig .tc := ⟨.hbm, 519, rfl⟩
abbrev main_v435 : Ref sig .tc := ⟨.hbm, 520, rfl⟩
abbrev main_v436 : Ref sig .tc := ⟨.hbm, 521, rfl⟩
abbrev main_v437 : Ref sig .tc := ⟨.hbm, 522, rfl⟩
abbrev main_v438 : Ref sig .tc := ⟨.hbm, 523, rfl⟩
abbrev main_cst_59 : Ref sig .tc := ⟨.hbm, 524, rfl⟩
abbrev main_v439 : Ref sig .tc := ⟨.hbm, 525, rfl⟩
abbrev main_v440 : Ref sig .tc := ⟨.hbm, 526, rfl⟩
abbrev main_cst_60 : Ref sig .tc := ⟨.hbm, 527, rfl⟩
abbrev main_v441 : Ref sig .tc := ⟨.hbm, 528, rfl⟩
abbrev main_cst_61 : Ref sig .tc := ⟨.hbm, 529, rfl⟩
abbrev main_v442 : Ref sig .tc := ⟨.hbm, 530, rfl⟩
abbrev main_v443 : Ref sig .tc := ⟨.hbm, 531, rfl⟩
abbrev main_v444 : Ref sig .tc := ⟨.hbm, 532, rfl⟩
abbrev main_cst_62 : Ref sig .tc := ⟨.hbm, 533, rfl⟩
abbrev main_v445 : Ref sig .tc := ⟨.hbm, 534, rfl⟩
abbrev main_v446 : Ref sig .tc := ⟨.hbm, 535, rfl⟩
abbrev main_v447 : Ref sig .tc := ⟨.hbm, 536, rfl⟩
abbrev main_v448 : Ref sig .tc := ⟨.hbm, 537, rfl⟩
abbrev main_v449 : Ref sig .tc := ⟨.hbm, 538, rfl⟩
abbrev main_cst_63 : Ref sig .tc := ⟨.hbm, 539, rfl⟩
abbrev main_v450 : Ref sig .tc := ⟨.hbm, 540, rfl⟩
abbrev main_v451 : Ref sig .tc := ⟨.hbm, 541, rfl⟩
abbrev main_cst_64 : Ref sig .tc := ⟨.hbm, 542, rfl⟩
abbrev main_v452 : Ref sig .tc := ⟨.hbm, 543, rfl⟩
abbrev main_cst_65 : Ref sig .tc := ⟨.hbm, 544, rfl⟩
abbrev main_v453 : Ref sig .tc := ⟨.hbm, 545, rfl⟩
abbrev main_v454 : Ref sig .tc := ⟨.hbm, 546, rfl⟩
abbrev main_v455 : Ref sig .tc := ⟨.hbm, 547, rfl⟩
abbrev main_cst_66 : Ref sig .tc := ⟨.hbm, 548, rfl⟩
abbrev main_v456 : Ref sig .tc := ⟨.hbm, 549, rfl⟩
abbrev main_v457 : Ref sig .tc := ⟨.hbm, 550, rfl⟩
abbrev main_v458 : Ref sig .tc := ⟨.hbm, 551, rfl⟩
abbrev main_v459 : Ref sig .tc := ⟨.hbm, 552, rfl⟩
abbrev main_v460 : Ref sig .tc := ⟨.hbm, 553, rfl⟩
abbrev main_cst_67 : Ref sig .tc := ⟨.hbm, 554, rfl⟩
abbrev main_v461 : Ref sig .tc := ⟨.hbm, 555, rfl⟩
abbrev main_v462 : Ref sig .tc := ⟨.hbm, 556, rfl⟩
abbrev main_cst_68 : Ref sig .tc := ⟨.hbm, 557, rfl⟩
abbrev main_v463 : Ref sig .tc := ⟨.hbm, 558, rfl⟩
abbrev main_cst_69 : Ref sig .tc := ⟨.hbm, 559, rfl⟩
abbrev main_v464 : Ref sig .tc := ⟨.hbm, 560, rfl⟩
abbrev main_v465 : Ref sig .tc := ⟨.hbm, 561, rfl⟩
abbrev main_v466 : Ref sig .tc := ⟨.hbm, 562, rfl⟩
abbrev main_cst_70 : Ref sig .tc := ⟨.hbm, 563, rfl⟩
abbrev main_v467 : Ref sig .tc := ⟨.hbm, 564, rfl⟩
abbrev main_v468 : Ref sig .tc := ⟨.hbm, 565, rfl⟩
abbrev main_v469 : Ref sig .tc := ⟨.hbm, 566, rfl⟩
abbrev main_v470 : Ref sig .tc := ⟨.hbm, 567, rfl⟩
abbrev main_v471 : Ref sig .tc := ⟨.hbm, 568, rfl⟩
abbrev main_cst_71 : Ref sig .tc := ⟨.hbm, 569, rfl⟩
abbrev main_v472 : Ref sig .tc := ⟨.hbm, 570, rfl⟩
abbrev main_v473 : Ref sig .tc := ⟨.hbm, 571, rfl⟩
abbrev main_cst_72 : Ref sig .tc := ⟨.hbm, 572, rfl⟩
abbrev main_v474 : Ref sig .tc := ⟨.hbm, 573, rfl⟩
abbrev main_cst_73 : Ref sig .tc := ⟨.hbm, 574, rfl⟩
abbrev main_v475 : Ref sig .tc := ⟨.hbm, 575, rfl⟩
abbrev main_v476 : Ref sig .tc := ⟨.hbm, 576, rfl⟩
abbrev main_v477 : Ref sig .tc := ⟨.hbm, 577, rfl⟩
abbrev main_cst_74 : Ref sig .tc := ⟨.hbm, 578, rfl⟩
abbrev main_v478 : Ref sig .tc := ⟨.hbm, 579, rfl⟩
abbrev main_v479 : Ref sig .tc := ⟨.hbm, 580, rfl⟩
abbrev main_v480 : Ref sig .tc := ⟨.hbm, 581, rfl⟩
abbrev main_v481 : Ref sig .tc := ⟨.hbm, 582, rfl⟩
abbrev main_v482 : Ref sig .tc := ⟨.hbm, 583, rfl⟩
abbrev main_cst_75 : Ref sig .tc := ⟨.hbm, 584, rfl⟩
abbrev main_v483 : Ref sig .tc := ⟨.hbm, 585, rfl⟩
abbrev main_v484 : Ref sig .tc := ⟨.hbm, 586, rfl⟩
abbrev main_cst_76 : Ref sig .tc := ⟨.hbm, 587, rfl⟩
abbrev main_v485 : Ref sig .tc := ⟨.hbm, 588, rfl⟩
abbrev main_cst_77 : Ref sig .tc := ⟨.hbm, 589, rfl⟩
abbrev main_v486 : Ref sig .tc := ⟨.hbm, 590, rfl⟩
abbrev main_v487 : Ref sig .tc := ⟨.hbm, 591, rfl⟩
abbrev main_v488 : Ref sig .tc := ⟨.hbm, 592, rfl⟩
abbrev main_cst_78 : Ref sig .tc := ⟨.hbm, 593, rfl⟩
abbrev main_v489 : Ref sig .tc := ⟨.hbm, 594, rfl⟩
abbrev main_v490 : Ref sig .tc := ⟨.hbm, 595, rfl⟩
abbrev main_v491 : Ref sig .tc := ⟨.hbm, 596, rfl⟩
abbrev main_v492 : Ref sig .tc := ⟨.hbm, 597, rfl⟩
abbrev main_v493 : Ref sig .tc := ⟨.hbm, 598, rfl⟩
abbrev main_cst_79 : Ref sig .tc := ⟨.hbm, 599, rfl⟩
abbrev main_v494 : Ref sig .tc := ⟨.hbm, 600, rfl⟩
abbrev main_v495 : Ref sig .tc := ⟨.hbm, 601, rfl⟩
abbrev main_cst_80 : Ref sig .tc := ⟨.hbm, 602, rfl⟩
abbrev main_v496 : Ref sig .tc := ⟨.hbm, 603, rfl⟩
abbrev main_cst_81 : Ref sig .tc := ⟨.hbm, 604, rfl⟩
abbrev main_v497 : Ref sig .tc := ⟨.hbm, 605, rfl⟩
abbrev main_v498 : Ref sig .tc := ⟨.hbm, 606, rfl⟩
abbrev main_v499 : Ref sig .tc := ⟨.hbm, 607, rfl⟩
abbrev main_cst_82 : Ref sig .tc := ⟨.hbm, 608, rfl⟩
abbrev main_v500 : Ref sig .tc := ⟨.hbm, 609, rfl⟩
abbrev main_v501 : Ref sig .tc := ⟨.hbm, 610, rfl⟩
abbrev main_v502 : Ref sig .tc := ⟨.hbm, 611, rfl⟩
abbrev main_v503 : Ref sig .tc := ⟨.hbm, 612, rfl⟩
abbrev main_v504 : Ref sig .tc := ⟨.hbm, 613, rfl⟩
abbrev main_cst_83 : Ref sig .tc := ⟨.hbm, 614, rfl⟩
abbrev main_v505 : Ref sig .tc := ⟨.hbm, 615, rfl⟩
abbrev main_v506 : Ref sig .tc := ⟨.hbm, 616, rfl⟩
abbrev main_cst_84 : Ref sig .tc := ⟨.hbm, 617, rfl⟩
abbrev main_v507 : Ref sig .tc := ⟨.hbm, 618, rfl⟩
abbrev main_cst_85 : Ref sig .tc := ⟨.hbm, 619, rfl⟩
abbrev main_v508 : Ref sig .tc := ⟨.hbm, 620, rfl⟩
abbrev main_v509 : Ref sig .tc := ⟨.hbm, 621, rfl⟩
abbrev main_v510 : Ref sig .tc := ⟨.hbm, 622, rfl⟩
abbrev main_cst_86 : Ref sig .tc := ⟨.hbm, 623, rfl⟩
abbrev main_v511 : Ref sig .tc := ⟨.hbm, 624, rfl⟩
abbrev main_v512 : Ref sig .tc := ⟨.hbm, 625, rfl⟩
abbrev main_v513 : Ref sig .tc := ⟨.hbm, 626, rfl⟩
abbrev main_v514 : Ref sig .tc := ⟨.hbm, 627, rfl⟩
abbrev main_v515 : Ref sig .tc := ⟨.hbm, 628, rfl⟩
abbrev main_cst_87 : Ref sig .tc := ⟨.hbm, 629, rfl⟩
abbrev main_v516 : Ref sig .tc := ⟨.hbm, 630, rfl⟩
abbrev main_v517 : Ref sig .tc := ⟨.hbm, 631, rfl⟩
abbrev main_cst_88 : Ref sig .tc := ⟨.hbm, 632, rfl⟩
abbrev main_v518 : Ref sig .tc := ⟨.hbm, 633, rfl⟩
abbrev main_cst_89 : Ref sig .tc := ⟨.hbm, 634, rfl⟩
abbrev main_v519 : Ref sig .tc := ⟨.hbm, 635, rfl⟩
abbrev main_v520 : Ref sig .tc := ⟨.hbm, 636, rfl⟩
abbrev main_v521 : Ref sig .tc := ⟨.hbm, 637, rfl⟩
abbrev main_cst_90 : Ref sig .tc := ⟨.hbm, 638, rfl⟩
abbrev main_v522 : Ref sig .tc := ⟨.hbm, 639, rfl⟩
abbrev main_v523 : Ref sig .tc := ⟨.hbm, 640, rfl⟩
abbrev main_v524 : Ref sig .tc := ⟨.hbm, 641, rfl⟩
abbrev main_v525 : Ref sig .tc := ⟨.hbm, 642, rfl⟩
abbrev main_v526 : Ref sig .tc := ⟨.hbm, 643, rfl⟩
abbrev main_cst_91 : Ref sig .tc := ⟨.hbm, 644, rfl⟩
abbrev main_v527 : Ref sig .tc := ⟨.hbm, 645, rfl⟩
abbrev main_v528 : Ref sig .tc := ⟨.hbm, 646, rfl⟩
abbrev main_cst_92 : Ref sig .tc := ⟨.hbm, 647, rfl⟩
abbrev main_v529 : Ref sig .tc := ⟨.hbm, 648, rfl⟩
abbrev main_cst_93 : Ref sig .tc := ⟨.hbm, 649, rfl⟩
abbrev main_v530 : Ref sig .tc := ⟨.hbm, 650, rfl⟩
abbrev main_v531 : Ref sig .tc := ⟨.hbm, 651, rfl⟩
abbrev main_v532 : Ref sig .tc := ⟨.hbm, 652, rfl⟩
abbrev main_cst_94 : Ref sig .tc := ⟨.hbm, 653, rfl⟩
abbrev main_v533 : Ref sig .tc := ⟨.hbm, 654, rfl⟩
abbrev main_v534 : Ref sig .tc := ⟨.hbm, 655, rfl⟩
abbrev main_v535 : Ref sig .tc := ⟨.hbm, 656, rfl⟩
abbrev main_v536 : Ref sig .tc := ⟨.hbm, 657, rfl⟩
abbrev main_v537 : Ref sig .tc := ⟨.hbm, 658, rfl⟩
abbrev main_cst_95 : Ref sig .tc := ⟨.hbm, 659, rfl⟩
abbrev main_v538 : Ref sig .tc := ⟨.hbm, 660, rfl⟩
abbrev main_v539 : Ref sig .tc := ⟨.hbm, 661, rfl⟩
abbrev main_cst_96 : Ref sig .tc := ⟨.hbm, 662, rfl⟩
abbrev main_v540 : Ref sig .tc := ⟨.hbm, 663, rfl⟩
abbrev main_cst_97 : Ref sig .tc := ⟨.hbm, 664, rfl⟩
abbrev main_v541 : Ref sig .tc := ⟨.hbm, 665, rfl⟩
abbrev main_v542 : Ref sig .tc := ⟨.hbm, 666, rfl⟩
abbrev main_v543 : Ref sig .tc := ⟨.hbm, 667, rfl⟩
abbrev main_cst_98 : Ref sig .tc := ⟨.hbm, 668, rfl⟩
abbrev main_v544 : Ref sig .tc := ⟨.hbm, 669, rfl⟩
abbrev main_v545 : Ref sig .tc := ⟨.hbm, 670, rfl⟩
abbrev main_v546 : Ref sig .tc := ⟨.hbm, 671, rfl⟩
abbrev main_v547 : Ref sig .tc := ⟨.hbm, 672, rfl⟩
abbrev main_v548 : Ref sig .tc := ⟨.hbm, 673, rfl⟩
abbrev main_cst_99 : Ref sig .tc := ⟨.hbm, 674, rfl⟩
abbrev main_v549 : Ref sig .tc := ⟨.hbm, 675, rfl⟩
abbrev main_v550 : Ref sig .tc := ⟨.hbm, 676, rfl⟩
abbrev main_cst_100 : Ref sig .tc := ⟨.hbm, 677, rfl⟩
abbrev main_v551 : Ref sig .tc := ⟨.hbm, 678, rfl⟩
abbrev main_cst_101 : Ref sig .tc := ⟨.hbm, 679, rfl⟩
abbrev main_v552 : Ref sig .tc := ⟨.hbm, 680, rfl⟩
abbrev main_v553 : Ref sig .tc := ⟨.hbm, 681, rfl⟩
abbrev main_v554 : Ref sig .tc := ⟨.hbm, 682, rfl⟩
abbrev main_cst_102 : Ref sig .tc := ⟨.hbm, 683, rfl⟩
abbrev main_v555 : Ref sig .tc := ⟨.hbm, 684, rfl⟩
abbrev main_v556 : Ref sig .tc := ⟨.hbm, 685, rfl⟩
abbrev main_v557 : Ref sig .tc := ⟨.hbm, 686, rfl⟩
abbrev main_v558 : Ref sig .tc := ⟨.hbm, 687, rfl⟩
abbrev main_v559 : Ref sig .tc := ⟨.hbm, 688, rfl⟩
abbrev main_cst_103 : Ref sig .tc := ⟨.hbm, 689, rfl⟩
abbrev main_v560 : Ref sig .tc := ⟨.hbm, 690, rfl⟩
abbrev main_v561 : Ref sig .tc := ⟨.hbm, 691, rfl⟩
abbrev main_cst_104 : Ref sig .tc := ⟨.hbm, 692, rfl⟩
abbrev main_v562 : Ref sig .tc := ⟨.hbm, 693, rfl⟩
abbrev main_cst_105 : Ref sig .tc := ⟨.hbm, 694, rfl⟩
abbrev main_v563 : Ref sig .tc := ⟨.hbm, 695, rfl⟩
abbrev main_v564 : Ref sig .tc := ⟨.hbm, 696, rfl⟩
abbrev main_v565 : Ref sig .tc := ⟨.hbm, 697, rfl⟩
abbrev main_cst_106 : Ref sig .tc := ⟨.hbm, 698, rfl⟩
abbrev main_v566 : Ref sig .tc := ⟨.hbm, 699, rfl⟩
abbrev main_v567 : Ref sig .tc := ⟨.hbm, 700, rfl⟩
abbrev main_v568 : Ref sig .tc := ⟨.hbm, 701, rfl⟩
abbrev main_v569 : Ref sig .tc := ⟨.hbm, 702, rfl⟩
abbrev main_v570 : Ref sig .tc := ⟨.hbm, 703, rfl⟩
abbrev main_cst_107 : Ref sig .tc := ⟨.hbm, 704, rfl⟩
abbrev main_v571 : Ref sig .tc := ⟨.hbm, 705, rfl⟩
abbrev main_v572 : Ref sig .tc := ⟨.hbm, 706, rfl⟩
abbrev main_cst_108 : Ref sig .tc := ⟨.hbm, 707, rfl⟩
abbrev main_v573 : Ref sig .tc := ⟨.hbm, 708, rfl⟩
abbrev main_cst_109 : Ref sig .tc := ⟨.hbm, 709, rfl⟩
abbrev main_v574 : Ref sig .tc := ⟨.hbm, 710, rfl⟩
abbrev main_v575 : Ref sig .tc := ⟨.hbm, 711, rfl⟩
abbrev main_v576 : Ref sig .tc := ⟨.hbm, 712, rfl⟩
abbrev main_cst_110 : Ref sig .tc := ⟨.hbm, 713, rfl⟩
abbrev main_v577 : Ref sig .tc := ⟨.hbm, 714, rfl⟩
abbrev main_v578 : Ref sig .tc := ⟨.hbm, 715, rfl⟩
abbrev main_v579 : Ref sig .tc := ⟨.hbm, 716, rfl⟩
abbrev main_v580 : Ref sig .tc := ⟨.hbm, 717, rfl⟩
abbrev main_v581 : Ref sig .tc := ⟨.hbm, 718, rfl⟩
abbrev main_cst_111 : Ref sig .tc := ⟨.hbm, 719, rfl⟩
abbrev main_v582 : Ref sig .tc := ⟨.hbm, 720, rfl⟩
abbrev main_v583 : Ref sig .tc := ⟨.hbm, 721, rfl⟩
abbrev main_cst_112 : Ref sig .tc := ⟨.hbm, 722, rfl⟩
abbrev main_v584 : Ref sig .tc := ⟨.hbm, 723, rfl⟩
abbrev main_cst_113 : Ref sig .tc := ⟨.hbm, 724, rfl⟩
abbrev main_v585 : Ref sig .tc := ⟨.hbm, 725, rfl⟩
abbrev main_v586 : Ref sig .tc := ⟨.hbm, 726, rfl⟩
abbrev main_v587 : Ref sig .tc := ⟨.hbm, 727, rfl⟩
abbrev main_cst_114 : Ref sig .tc := ⟨.hbm, 728, rfl⟩
abbrev main_v588 : Ref sig .tc := ⟨.hbm, 729, rfl⟩
abbrev main_v589 : Ref sig .tc := ⟨.hbm, 730, rfl⟩
abbrev main_v590 : Ref sig .tc := ⟨.hbm, 731, rfl⟩
abbrev main_v591 : Ref sig .tc := ⟨.hbm, 732, rfl⟩
abbrev main_v592 : Ref sig .tc := ⟨.hbm, 733, rfl⟩
abbrev main_cst_115 : Ref sig .tc := ⟨.hbm, 734, rfl⟩
abbrev main_v593 : Ref sig .tc := ⟨.hbm, 735, rfl⟩
abbrev main_v594 : Ref sig .tc := ⟨.hbm, 736, rfl⟩
abbrev main_cst_116 : Ref sig .tc := ⟨.hbm, 737, rfl⟩
abbrev main_v595 : Ref sig .tc := ⟨.hbm, 738, rfl⟩
abbrev main_cst_117 : Ref sig .tc := ⟨.hbm, 739, rfl⟩
abbrev main_v596 : Ref sig .tc := ⟨.hbm, 740, rfl⟩
abbrev main_v597 : Ref sig .tc := ⟨.hbm, 741, rfl⟩
abbrev main_v598 : Ref sig .tc := ⟨.hbm, 742, rfl⟩
abbrev main_cst_118 : Ref sig .tc := ⟨.hbm, 743, rfl⟩
abbrev main_v599 : Ref sig .tc := ⟨.hbm, 744, rfl⟩
abbrev main_v600 : Ref sig .tc := ⟨.hbm, 745, rfl⟩
abbrev main_v601 : Ref sig .tc := ⟨.hbm, 746, rfl⟩
abbrev main_v602 : Ref sig .tc := ⟨.hbm, 747, rfl⟩
abbrev main_v603 : Ref sig .tc := ⟨.hbm, 748, rfl⟩
abbrev main_cst_119 : Ref sig .tc := ⟨.hbm, 749, rfl⟩
abbrev main_v604 : Ref sig .tc := ⟨.hbm, 750, rfl⟩
abbrev main_v605 : Ref sig .tc := ⟨.hbm, 751, rfl⟩
abbrev main_cst_120 : Ref sig .tc := ⟨.hbm, 752, rfl⟩
abbrev main_v606 : Ref sig .tc := ⟨.hbm, 753, rfl⟩
abbrev main_cst_121 : Ref sig .tc := ⟨.hbm, 754, rfl⟩
abbrev main_v607 : Ref sig .tc := ⟨.hbm, 755, rfl⟩
abbrev main_v608 : Ref sig .tc := ⟨.hbm, 756, rfl⟩
abbrev main_v609 : Ref sig .tc := ⟨.hbm, 757, rfl⟩
abbrev main_cst_122 : Ref sig .tc := ⟨.hbm, 758, rfl⟩
abbrev main_v610 : Ref sig .tc := ⟨.hbm, 759, rfl⟩
abbrev main_v611 : Ref sig .tc := ⟨.hbm, 760, rfl⟩
abbrev main_v612 : Ref sig .tc := ⟨.hbm, 761, rfl⟩
abbrev main_v613 : Ref sig .tc := ⟨.hbm, 762, rfl⟩
abbrev main_v614 : Ref sig .tc := ⟨.hbm, 763, rfl⟩
abbrev main_cst_123 : Ref sig .tc := ⟨.hbm, 764, rfl⟩
abbrev main_v615 : Ref sig .tc := ⟨.hbm, 765, rfl⟩
abbrev main_v616 : Ref sig .tc := ⟨.hbm, 766, rfl⟩
abbrev main_cst_124 : Ref sig .tc := ⟨.hbm, 767, rfl⟩
abbrev main_v617 : Ref sig .tc := ⟨.hbm, 768, rfl⟩
abbrev main_cst_125 : Ref sig .tc := ⟨.hbm, 769, rfl⟩
abbrev main_v618 : Ref sig .tc := ⟨.hbm, 770, rfl⟩
abbrev main_v619 : Ref sig .tc := ⟨.hbm, 771, rfl⟩
abbrev main_v620 : Ref sig .tc := ⟨.hbm, 772, rfl⟩
abbrev main_cst_126 : Ref sig .tc := ⟨.hbm, 773, rfl⟩
abbrev main_v621 : Ref sig .tc := ⟨.hbm, 774, rfl⟩
abbrev main_v622 : Ref sig .tc := ⟨.hbm, 775, rfl⟩
abbrev main_v623 : Ref sig .tc := ⟨.hbm, 776, rfl⟩
abbrev main_v624 : Ref sig .tc := ⟨.hbm, 777, rfl⟩
abbrev main_v625 : Ref sig .tc := ⟨.hbm, 778, rfl⟩
abbrev main_cst_127 : Ref sig .tc := ⟨.hbm, 779, rfl⟩
abbrev main_v626 : Ref sig .tc := ⟨.hbm, 780, rfl⟩
abbrev main_v627 : Ref sig .tc := ⟨.hbm, 781, rfl⟩
abbrev main_cst_128 : Ref sig .tc := ⟨.hbm, 782, rfl⟩
abbrev main_v628 : Ref sig .tc := ⟨.hbm, 783, rfl⟩
abbrev main_cst_129 : Ref sig .tc := ⟨.hbm, 784, rfl⟩
abbrev main_v629 : Ref sig .tc := ⟨.hbm, 785, rfl⟩
abbrev main_v630 : Ref sig .tc := ⟨.hbm, 786, rfl⟩
abbrev main_v631 : Ref sig .tc := ⟨.hbm, 787, rfl⟩
abbrev main_cst_130 : Ref sig .tc := ⟨.hbm, 788, rfl⟩
abbrev main_v632 : Ref sig .tc := ⟨.hbm, 789, rfl⟩
abbrev main_v633 : Ref sig .tc := ⟨.hbm, 790, rfl⟩
abbrev main_v634 : Ref sig .tc := ⟨.hbm, 791, rfl⟩
abbrev main_v635 : Ref sig .tc := ⟨.hbm, 792, rfl⟩
abbrev main_v636 : Ref sig .tc := ⟨.hbm, 793, rfl⟩
abbrev main_cst_131 : Ref sig .tc := ⟨.hbm, 794, rfl⟩
abbrev main_v637 : Ref sig .tc := ⟨.hbm, 795, rfl⟩
abbrev main_v638 : Ref sig .tc := ⟨.hbm, 796, rfl⟩
abbrev main_cst_132 : Ref sig .tc := ⟨.hbm, 797, rfl⟩
abbrev main_v639 : Ref sig .tc := ⟨.hbm, 798, rfl⟩
abbrev main_cst_133 : Ref sig .tc := ⟨.hbm, 799, rfl⟩
abbrev main_v640 : Ref sig .tc := ⟨.hbm, 800, rfl⟩
abbrev main_v641 : Ref sig .tc := ⟨.hbm, 801, rfl⟩
abbrev main_v642 : Ref sig .tc := ⟨.hbm, 802, rfl⟩
abbrev main_cst_134 : Ref sig .tc := ⟨.hbm, 803, rfl⟩
abbrev main_v643 : Ref sig .tc := ⟨.hbm, 804, rfl⟩
abbrev main_v644 : Ref sig .tc := ⟨.hbm, 805, rfl⟩
abbrev main_v645 : Ref sig .tc := ⟨.hbm, 806, rfl⟩
abbrev main_v646 : Ref sig .tc := ⟨.hbm, 807, rfl⟩
abbrev main_v647 : Ref sig .tc := ⟨.hbm, 808, rfl⟩
abbrev main_cst_135 : Ref sig .tc := ⟨.hbm, 809, rfl⟩
abbrev main_v648 : Ref sig .tc := ⟨.hbm, 810, rfl⟩
abbrev main_v649 : Ref sig .tc := ⟨.hbm, 811, rfl⟩
abbrev main_cst_136 : Ref sig .tc := ⟨.hbm, 812, rfl⟩
abbrev main_v650 : Ref sig .tc := ⟨.hbm, 813, rfl⟩
abbrev main_cst_137 : Ref sig .tc := ⟨.hbm, 814, rfl⟩
abbrev main_v651 : Ref sig .tc := ⟨.hbm, 815, rfl⟩
abbrev main_v652 : Ref sig .tc := ⟨.hbm, 816, rfl⟩
abbrev main_v653 : Ref sig .tc := ⟨.hbm, 817, rfl⟩
abbrev main_cst_138 : Ref sig .tc := ⟨.hbm, 818, rfl⟩
abbrev main_v654 : Ref sig .tc := ⟨.hbm, 819, rfl⟩
abbrev main_v655 : Ref sig .tc := ⟨.hbm, 820, rfl⟩
abbrev main_v656 : Ref sig .tc := ⟨.hbm, 821, rfl⟩
abbrev main_v657 : Ref sig .tc := ⟨.hbm, 822, rfl⟩
abbrev main_v658 : Ref sig .tc := ⟨.hbm, 823, rfl⟩
abbrev main_cst_139 : Ref sig .tc := ⟨.hbm, 824, rfl⟩
abbrev main_v659 : Ref sig .tc := ⟨.hbm, 825, rfl⟩
abbrev main_v660 : Ref sig .tc := ⟨.hbm, 826, rfl⟩
abbrev main_cst_140 : Ref sig .tc := ⟨.hbm, 827, rfl⟩
abbrev main_v661 : Ref sig .tc := ⟨.hbm, 828, rfl⟩
abbrev main_cst_141 : Ref sig .tc := ⟨.hbm, 829, rfl⟩
abbrev main_v662 : Ref sig .tc := ⟨.hbm, 830, rfl⟩
abbrev main_v663 : Ref sig .tc := ⟨.hbm, 831, rfl⟩
abbrev main_v664 : Ref sig .tc := ⟨.hbm, 832, rfl⟩
abbrev main_cst_142 : Ref sig .tc := ⟨.hbm, 833, rfl⟩
abbrev main_v665 : Ref sig .tc := ⟨.hbm, 834, rfl⟩
abbrev main_v666 : Ref sig .tc := ⟨.hbm, 835, rfl⟩
abbrev main_v667 : Ref sig .tc := ⟨.hbm, 836, rfl⟩
abbrev main_v668 : Ref sig .tc := ⟨.hbm, 837, rfl⟩
abbrev main_v669 : Ref sig .tc := ⟨.hbm, 838, rfl⟩
abbrev main_cst_143 : Ref sig .tc := ⟨.hbm, 839, rfl⟩
abbrev main_v670 : Ref sig .tc := ⟨.hbm, 840, rfl⟩
abbrev main_v671 : Ref sig .tc := ⟨.hbm, 841, rfl⟩
abbrev main_cst_144 : Ref sig .tc := ⟨.hbm, 842, rfl⟩
abbrev main_v672 : Ref sig .tc := ⟨.hbm, 843, rfl⟩
abbrev main_cst_145 : Ref sig .tc := ⟨.hbm, 844, rfl⟩
abbrev main_v673 : Ref sig .tc := ⟨.hbm, 845, rfl⟩
abbrev main_v674 : Ref sig .tc := ⟨.hbm, 846, rfl⟩
abbrev main_v675 : Ref sig .tc := ⟨.hbm, 847, rfl⟩
abbrev main_cst_146 : Ref sig .tc := ⟨.hbm, 848, rfl⟩
abbrev main_v676 : Ref sig .tc := ⟨.hbm, 849, rfl⟩
abbrev main_v677 : Ref sig .tc := ⟨.hbm, 850, rfl⟩
abbrev main_v678 : Ref sig .tc := ⟨.hbm, 851, rfl⟩
abbrev main_v679 : Ref sig .tc := ⟨.hbm, 852, rfl⟩
abbrev main_v680 : Ref sig .tc := ⟨.hbm, 853, rfl⟩
abbrev main_cst_147 : Ref sig .tc := ⟨.hbm, 854, rfl⟩
abbrev main_v681 : Ref sig .tc := ⟨.hbm, 855, rfl⟩
abbrev main_v682 : Ref sig .tc := ⟨.hbm, 856, rfl⟩
abbrev main_cst_148 : Ref sig .tc := ⟨.hbm, 857, rfl⟩
abbrev main_v683 : Ref sig .tc := ⟨.hbm, 858, rfl⟩
abbrev main_cst_149 : Ref sig .tc := ⟨.hbm, 859, rfl⟩
abbrev main_v684 : Ref sig .tc := ⟨.hbm, 860, rfl⟩
abbrev main_v685 : Ref sig .tc := ⟨.hbm, 861, rfl⟩
abbrev main_v686 : Ref sig .tc := ⟨.hbm, 862, rfl⟩
abbrev main_cst_150 : Ref sig .tc := ⟨.hbm, 863, rfl⟩
abbrev main_v687 : Ref sig .tc := ⟨.hbm, 864, rfl⟩
abbrev main_v688 : Ref sig .tc := ⟨.hbm, 865, rfl⟩
abbrev main_v689 : Ref sig .tc := ⟨.hbm, 866, rfl⟩
abbrev main_v690 : Ref sig .tc := ⟨.hbm, 867, rfl⟩
abbrev main_v691 : Ref sig .tc := ⟨.hbm, 868, rfl⟩
abbrev main_cst_151 : Ref sig .tc := ⟨.hbm, 869, rfl⟩
abbrev main_v692 : Ref sig .tc := ⟨.hbm, 870, rfl⟩
abbrev main_v693 : Ref sig .tc := ⟨.hbm, 871, rfl⟩
abbrev main_cst_152 : Ref sig .tc := ⟨.hbm, 872, rfl⟩
abbrev main_v694 : Ref sig .tc := ⟨.hbm, 873, rfl⟩
abbrev main_cst_153 : Ref sig .tc := ⟨.hbm, 874, rfl⟩
abbrev main_v695 : Ref sig .tc := ⟨.hbm, 875, rfl⟩
abbrev main_v696 : Ref sig .tc := ⟨.hbm, 876, rfl⟩
abbrev main_v697 : Ref sig .tc := ⟨.hbm, 877, rfl⟩
abbrev main_cst_154 : Ref sig .tc := ⟨.hbm, 878, rfl⟩
abbrev main_v698 : Ref sig .tc := ⟨.hbm, 879, rfl⟩
abbrev main_v699 : Ref sig .tc := ⟨.hbm, 880, rfl⟩
abbrev main_v700 : Ref sig .tc := ⟨.hbm, 881, rfl⟩
abbrev main_v701 : Ref sig .tc := ⟨.hbm, 882, rfl⟩
abbrev main_v702 : Ref sig .tc := ⟨.hbm, 883, rfl⟩
abbrev main_v703 : Ref sig .tc := ⟨.hbm, 884, rfl⟩
abbrev main_v704 : Ref sig .tc := ⟨.hbm, 885, rfl⟩
abbrev main_cst_155 : Ref sig .tc := ⟨.hbm, 886, rfl⟩
abbrev main_v705 : Ref sig .tc := ⟨.hbm, 887, rfl⟩
abbrev main_v706 : Ref sig .tc := ⟨.hbm, 888, rfl⟩
abbrev main_cst_156 : Ref sig .tc := ⟨.hbm, 889, rfl⟩
abbrev main_v707 : Ref sig .tc := ⟨.hbm, 890, rfl⟩
abbrev main_v708 : Ref sig .tc := ⟨.hbm, 891, rfl⟩
abbrev main_v709 : Ref sig .tc := ⟨.hbm, 892, rfl⟩
abbrev main_v710 : Ref sig .tc := ⟨.hbm, 893, rfl⟩
abbrev main_v711 : Ref sig .tc := ⟨.hbm, 894, rfl⟩
abbrev main_v712 : Ref sig .tc := ⟨.hbm, 895, rfl⟩
abbrev main_cst_157 : Ref sig .tc := ⟨.hbm, 896, rfl⟩
abbrev main_v713 : Ref sig .tc := ⟨.hbm, 897, rfl⟩
abbrev main_v714 : Ref sig .tc := ⟨.hbm, 898, rfl⟩
abbrev main_v715 : Ref sig .tc := ⟨.hbm, 899, rfl⟩
abbrev main_v716 : Ref sig .tc := ⟨.hbm, 900, rfl⟩
abbrev main_v717 : Ref sig .tc := ⟨.hbm, 901, rfl⟩
abbrev main_cst_158 : Ref sig .tc := ⟨.hbm, 902, rfl⟩
abbrev main_v718 : Ref sig .tc := ⟨.hbm, 903, rfl⟩
abbrev main_v719 : Ref sig .tc := ⟨.hbm, 904, rfl⟩
abbrev main_v720 : Ref sig .tc := ⟨.hbm, 905, rfl⟩
abbrev main_v721 : Ref sig .tc := ⟨.hbm, 906, rfl⟩
abbrev main_v722 : Ref sig .tc := ⟨.hbm, 907, rfl⟩
abbrev main_v723 : Ref sig .tc := ⟨.hbm, 908, rfl⟩
abbrev main_cst_159 : Ref sig .tc := ⟨.hbm, 909, rfl⟩
abbrev main_v724 : Ref sig .tc := ⟨.hbm, 910, rfl⟩
abbrev main_v725 : Ref sig .tc := ⟨.hbm, 911, rfl⟩
abbrev main_cst_160 : Ref sig .tc := ⟨.hbm, 912, rfl⟩
abbrev main_v726 : Ref sig .tc := ⟨.hbm, 913, rfl⟩
abbrev main_v727 : Ref sig .tc := ⟨.hbm, 914, rfl⟩
abbrev main_v728 : Ref sig .tc := ⟨.hbm, 915, rfl⟩
abbrev main_v729 : Ref sig .tc := ⟨.hbm, 916, rfl⟩
abbrev main_v730 : Ref sig .tc := ⟨.hbm, 917, rfl⟩
abbrev main_v731 : Ref sig .tc := ⟨.hbm, 918, rfl⟩
abbrev main_v732 : Ref sig .tc := ⟨.hbm, 919, rfl⟩
abbrev main_v733 : Ref sig .tc := ⟨.hbm, 920, rfl⟩
abbrev main_v734 : Ref sig .tc := ⟨.hbm, 921, rfl⟩
abbrev main_cst_161 : Ref sig .tc := ⟨.hbm, 922, rfl⟩
abbrev main_v735 : Ref sig .tc := ⟨.hbm, 923, rfl⟩
abbrev main_v736 : Ref sig .tc := ⟨.hbm, 924, rfl⟩
abbrev main_cst_162 : Ref sig .tc := ⟨.hbm, 925, rfl⟩
abbrev main_v737 : Ref sig .tc := ⟨.hbm, 926, rfl⟩
abbrev main_v738 : Ref sig .tc := ⟨.hbm, 927, rfl⟩

abbrev nD : Nat := 1
abbrev τ : Topo := Topo.v7x

variable {F : FTy → Type} [FloatOps F]
-- ==== Cp.lean ====
abbrev S4096x1536 : Shape := ⟨2, ![4096, 1536]⟩
abbrev S4096x1024 : Shape := ⟨2, ![4096, 1024]⟩
abbrev S31x512 : Shape := ⟨2, ![31, 512]⟩
abbrev S1x512 : Shape := ⟨2, ![1, 512]⟩
abbrev S4x128x128 : Shape := ⟨3, ![4, 128, 128]⟩
abbrev S1024x1024 : Shape := ⟨2, ![1024, 1024]⟩
abbrev S1x1024 : Shape := ⟨2, ![1, 1024]⟩
abbrev S_ : Shape := ⟨0, ![]⟩
abbrev S32x512 : Shape := ⟨2, ![32, 512]⟩
abbrev S4096x512 : Shape := ⟨2, ![4096, 512]⟩
abbrev S512x1536 : Shape := ⟨2, ![512, 1536]⟩
abbrev S32x1536 : Shape := ⟨2, ![32, 1536]⟩
abbrev S512x1024 : Shape := ⟨2, ![512, 1024]⟩
abbrev S512x512 : Shape := ⟨2, ![512, 512]⟩
abbrev S4x768x128 : Shape := ⟨3, ![4, 768, 128]⟩
abbrev S2x512x128 : Shape := ⟨3, ![2, 512, 128]⟩
abbrev S32x128 : Shape := ⟨2, ![32, 128]⟩
abbrev S1x32x128 : Shape := ⟨3, ![1, 32, 128]⟩
abbrev S64x128 : Shape := ⟨2, ![64, 128]⟩
abbrev S1x64x128 : Shape := ⟨3, ![1, 64, 128]⟩
abbrev S128x128 : Shape := ⟨2, ![128, 128]⟩
abbrev S1x128 : Shape := ⟨2, ![1, 128]⟩
abbrev S1x128x128 : Shape := ⟨3, ![1, 128, 128]⟩
abbrev S64x1 : Shape := ⟨2, ![64, 1]⟩
abbrev S512 : Shape := ⟨1, ![512]⟩
abbrev S512x1 : Shape := ⟨2, ![512, 1]⟩
abbrev S512x128 : Shape := ⟨2, ![512, 128]⟩

abbrev nBuf : Space → Nat
  | .hbm => 19
  | .vmem => 28
  | .smem => 0
  | _ => 0

abbrev bufTy : (tb : Table) → Fin (tcTables nBuf tb) → BufTy
  | .hbm, ⟨0, _⟩ => ⟨S4096x1536, .f32⟩
  | .hbm, ⟨1, _⟩ => ⟨S4096x1024, .f32⟩
  | .hbm, ⟨2, _⟩ => ⟨S31x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S4x128x128, .f32⟩
  | .hbm, ⟨7, _⟩ => ⟨S1x512, .f32⟩
  | .hbm, ⟨8, _⟩ => ⟨S1024x1024, .f32⟩
  | .hbm, ⟨9, _⟩ => ⟨S1x1024, .f32⟩
  | .hbm, ⟨10, _⟩ => ⟨S_, .f32⟩
  | .hbm, ⟨11, _⟩ => ⟨S1x512, .f32⟩
  | .hbm, ⟨12, _⟩ => ⟨S32x512, .f32⟩
  | .hbm, ⟨13, _⟩ => ⟨S1024x1024, .bf16⟩
  | .hbm, ⟨14, _⟩ => ⟨S4096x1024, .f32⟩
  | .hbm, ⟨15, _⟩ => ⟨S4096x1024, .bf16⟩
  | .hbm, ⟨16, _⟩ => ⟨S4096x512, .f32⟩
  | .hbm, ⟨17, _⟩ => ⟨S4096x512, .bf16⟩
  | .hbm, ⟨18, _⟩ => ⟨S4096x1024, .bf16⟩
  | .local _ .vmem, ⟨0, _⟩ => ⟨S512x1536, .f32⟩
  | .local _ .vmem, ⟨1, _⟩ => ⟨S512x1536, .f32⟩
  | .local _ .vmem, ⟨2, _⟩ => ⟨S32x1536, .f32⟩
  | .local _ .vmem, ⟨3, _⟩ => ⟨S32x1536, .f32⟩
  | .local _ .vmem, ⟨4, _⟩ => ⟨S512x1024, .f32⟩
  | .local _ .vmem, ⟨5, _⟩ => ⟨S512x1024, .f32⟩
  | .local _ .vmem, ⟨6, _⟩ => ⟨S32x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S4x128x128, .f32⟩
  | .local _ .vmem, ⟨11, _⟩ => ⟨S1x512, .f32⟩
  | .local _ .vmem, ⟨12, _⟩ => ⟨S1024x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x512, .f32⟩
  | .local _ .vmem, ⟨19, _⟩ => ⟨S512x512, .f32⟩
  | .local _ .vmem, ⟨20, _⟩ => ⟨S512x512, .bf16⟩
  | .local _ .vmem, ⟨21, _⟩ => ⟨S512x512, .bf16⟩
  | .local _ .vmem, ⟨22, _⟩ => ⟨S512x1024, .bf16⟩
  | .local _ .vmem, ⟨23, _⟩ => ⟨S512x1024, .bf16⟩
  | .local _ .vmem, ⟨24, _⟩ => ⟨S4x768x128, .f32⟩
  | .local _ .vmem, ⟨25, _⟩ => ⟨S4x768x128, .f32⟩
  | .local _ .vmem, ⟨26, _⟩ => ⟨S2x512x128, .f32⟩
  | .local _ .vmem, ⟨27, _⟩ => ⟨S512x512, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v3_3 : Ref sig .tc := ⟨.hbm, 17, rfl⟩
abbrev main_v3_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== CpRefIdeal.lean ====
abbrev S4096x1536 : Shape := ⟨2, ![4096, 1536]⟩
abbrev S4096x1024 : Shape := ⟨2, ![4096, 1024]⟩
abbrev S31x512 : Shape := ⟨2, ![31, 512]⟩
abbrev S1x512 : Shape := ⟨2, ![1, 512]⟩
abbrev S4x128x128 : Shape := ⟨3, ![4, 128, 128]⟩
abbrev S1024x1024 : Shape := ⟨2, ![1024, 1024]⟩
abbrev S1x1024 : Shape := ⟨2, ![1, 1024]⟩
abbrev S4096x512 : Shape := ⟨2, ![4096, 512]⟩
abbrev S_ : Shape := ⟨0, ![]⟩
abbrev S30x512 : Shape := ⟨2, ![30, 512]⟩
abbrev S4126x512 : Shape := ⟨2, ![4126, 512]⟩
abbrev S512 : Shape := ⟨1, ![512]⟩
abbrev S4096 : Shape := ⟨1, ![4096]⟩
abbrev S4096x1 : Shape := ⟨2, ![4096, 1]⟩
abbrev S4096x128 : Shape := ⟨2, ![4096, 128]⟩
abbrev S2x128 : Shape := ⟨2, ![2, 128]⟩
abbrev S4094x128 : Shape := ⟨2, ![4094, 128]⟩
abbrev S4x128 : Shape := ⟨2, ![4, 128]⟩
abbrev S4092x128 : Shape := ⟨2, ![4092, 128]⟩
abbrev S8x128 : Shape := ⟨2, ![8, 128]⟩
abbrev S4088x128 : Shape := ⟨2, ![4088, 128]⟩
abbrev S16x128 : Shape := ⟨2, ![16, 128]⟩
abbrev S4080x128 : Shape := ⟨2, ![4080, 128]⟩
abbrev S4096x4x128 : Shape := ⟨3, ![4096, 4, 128]⟩
abbrev S4x128x4096 : Shape := ⟨3, ![4, 128, 4096]⟩

abbrev nBuf : Space → Nat
  | .hbm => 377
  | .vmem => 0
  | .smem => 0
  | _ => 0

abbrev hbmTy0_0 (i : Nat) : BufTy := match i % 128 with
  | 0 => ⟨S4096x1536, .f32⟩
  | 1 => ⟨S4096x1024, .f32⟩
  | 2 => ⟨S31x512, .f32⟩
  | 3 => ⟨S1x512, .f32⟩
  | 4 => ⟨S1x512, .f32⟩
  | 5 => ⟨S1x512, .f32⟩
  | 6 => ⟨S4x128x128, .f32⟩
  | 7 => ⟨S1x512, .f32⟩
  | 8 => ⟨S1024x1024, .f32⟩
  | 9 => ⟨S1x1024, .f32⟩
  | 10 => ⟨S4096x512, .f32⟩
  | 11 => ⟨S4096x512, .f32⟩
  | 12 => ⟨S4096x512, .f32⟩
  | 13 => ⟨S4096x512, .f32⟩
  | 14 => ⟨S_, .f32⟩
  | 15 => ⟨S4096x512, .f32⟩
  | 16 => ⟨S4096x512, .f32⟩
  | 17 => ⟨S_, .f32⟩
  | 18 => ⟨S4096x512, .f32⟩
  | 19 => ⟨S4096x512, .f32⟩
  | 20 => ⟨S4096x512, .f32⟩
  | 21 => ⟨S_, .f32⟩
  | 22 => ⟨S30x512, .f32⟩
  | 23 => ⟨S4126x512, .f32⟩
  | 24 => ⟨S1x512, .f32⟩
  | 25 => ⟨S512, .f32⟩
  | 26 => ⟨S4096x512, .f32⟩
  | 27 => ⟨S1x512, .f32⟩
  | 28 => ⟨S4096x512, .f32⟩
  | 29 => ⟨S4096x512, .f32⟩
  | 30 => ⟨S_, .f32⟩
  | 31 => ⟨S4096x512, .f32⟩
  | 32 => ⟨S4096x512, .f32⟩
  | 33 => ⟨S1x512, .f32⟩
  | 34 => ⟨S512, .f32⟩
  | 35 => ⟨S4096x512, .f32⟩
  | 36 => ⟨S1x512, .f32⟩
  | 37 => ⟨S4096x512, .f32⟩
  | 38 => ⟨S4096x512, .f32⟩
  | 39 => ⟨S4096x512, .f32⟩
  | 40 => ⟨S1x512, .f32⟩
  | 41 => ⟨S512, .f32⟩
  | 42 => ⟨S4096x512, .f32⟩
  | 43 => ⟨S1x512, .f32⟩
  | 44 => ⟨S4096x512, .f32⟩
  | 45 => ⟨S4096x512, .f32⟩
  | 46 => ⟨S4096x512, .f32⟩
  | 47 => ⟨S1x512, .f32⟩
  | 48 => ⟨S512, .f32⟩
  | 49 => ⟨S4096x512, .f32⟩
  | 50 => ⟨S1x512, .f32⟩
  | 51 => ⟨S4096x512, .f32⟩
  | 52 => ⟨S4096x512, .f32⟩
  | 53 => ⟨S4096x512, .f32⟩
  | 54 => ⟨S1x512, .f32⟩
  | 55 => ⟨S512, .f32⟩
  | 56 => ⟨S4096x512, .f32⟩
  | 57 => ⟨S1x512, .f32⟩
  | 58 => ⟨S4096x512, .f32⟩
  | 59 => ⟨S4096x512, .f32⟩
  | 60 => ⟨S4096x512, .f32⟩
  | 61 => ⟨S1x512, .f32⟩
  | 62 => ⟨S512, .f32⟩
  | 63 => ⟨S4096x512, .f32⟩
  | 64 => ⟨S1x512, .f32⟩
  | 65 => ⟨S4096x512, .f32⟩
  | 66 => ⟨S4096x512, .f32⟩
  | 67 => ⟨S4096x512, .f32⟩
  | 68 => ⟨S1x512, .f32⟩
  | 69 => ⟨S512, .f32⟩
  | 70 => ⟨S4096x512, .f32⟩
  | 71 => ⟨S1x512, .f32⟩
  | 72 => ⟨S4096x512, .f32⟩
  | 73 => ⟨S4096x512, .f32⟩
  | 74 => ⟨S4096x512, .f32⟩
  | 75 => ⟨S1x512, .f32⟩
  | 76 => ⟨S512, .f32⟩
  | 77 => ⟨S4096x512, .f32⟩
  | 78 => ⟨S1x512, .f32⟩
  | 79 => ⟨S4096x512, .f32⟩
  | 80 => ⟨S4096x512, .f32⟩
  | 81 => ⟨S4096x512, .f32⟩
  | 82 => ⟨S1x512, .f32⟩
  | 83 => ⟨S512, .f32⟩
  | 84 => ⟨S4096x512, .f32⟩
  | 85 => ⟨S1x512, .f32⟩
  | 86 => ⟨S4096x512, .f32⟩
  | 87 => ⟨S4096x512, .f32⟩
  | 88 => ⟨S4096x512, .f32⟩
  | 89 => ⟨S1x512, .f32⟩
  | 90 => ⟨S512, .f32⟩
  | 91 => ⟨S4096x512, .f32⟩
  | 92 => ⟨S1x512, .f32⟩
  | 93 => ⟨S4096x512, .f32⟩
  | 94 => ⟨S4096x512, .f32⟩
  | 95 => ⟨S4096x512, .f32⟩
  | 96 => ⟨S1x512, .f32⟩
  | 97 => ⟨S512, .f32⟩
  | 98 => ⟨S4096x512, .f32⟩
  | 99 => ⟨S1x512, .f32⟩
  | 100 => ⟨S4096x512, .f32⟩
  | 101 => ⟨S4096x512, .f32⟩
  | 102 => ⟨S4096x512, .f32⟩
  | 103 => ⟨S1x512, .f32⟩
  | 104 => ⟨S512, .f32⟩
  | 105 => ⟨S4096x512, .f32⟩
  | 106 => ⟨S1x512, .f32⟩
  | 107 => ⟨S4096x512, .f32⟩
  | 108 => ⟨S4096x512, .f32⟩
  | 109 => ⟨S4096x512, .f32⟩
  | 110 => ⟨S1x512, .f32⟩
  | 111 => ⟨S512, .f32⟩
  | 112 => ⟨S4096x512, .f32⟩
  | 113 => ⟨S1x512, .f32⟩
  | 114 => ⟨S4096x512, .f32⟩
  | 115 => ⟨S4096x512, .f32⟩
  | 116 => ⟨S4096x512, .f32⟩
  | 117 => ⟨S1x512, .f32⟩
  | 118 => ⟨S512, .f32⟩
  | 119 => ⟨S4096x512, .f32⟩
  | 120 => ⟨S1x512, .f32⟩
  | 121 => ⟨S4096x512, .f32⟩
  | 122 => ⟨S4096x512, .f32⟩
  | 123 => ⟨S4096x512, .f32⟩
  | 124 => ⟨S1x512, .f32⟩
  | 125 => ⟨S512, .f32⟩
  | 126 => ⟨S4096x512, .f32⟩
  | 127 => ⟨S1x512, .f32⟩
  | _ => ⟨S4096x1536, .f32⟩

abbrev hbmTy0_1 (i : Nat) : BufTy := match i % 128 with
  | 0 => ⟨S4096x512, .f32⟩
  | 1 => ⟨S4096x512, .f32⟩
  | 2 => ⟨S4096x512, .f32⟩
  | 3 => ⟨S1x512, .f32⟩
  | 4 => ⟨S512, .f32⟩
  | 5 => ⟨S4096x512, .f32⟩
  | 6 => ⟨S1x512, .f32⟩
  | 7 => ⟨S4096x512, .f32⟩
  | 8 => ⟨S4096x512, .f32⟩
  | 9 => ⟨S4096x512, .f32⟩
  | 10 => ⟨S1x512, .f32⟩
  | 11 => ⟨S512, .f32⟩
  | 12 => ⟨S4096x512, .f32⟩
  | 13 => ⟨S1x512, .f32⟩
  | 14 => ⟨S4096x512, .f32⟩
  | 15 => ⟨S4096x512, .f32⟩
  | 16 => ⟨S4096x512, .f32⟩
  | 17 => ⟨S1x512, .f32⟩
  | 18 => ⟨S512, .f32⟩
  | 19 => ⟨S4096x512, .f32⟩
  | 20 => ⟨S1x512, .f32⟩
  | 21 => ⟨S4096x512, .f32⟩
  | 22 => ⟨S4096x512, .f32⟩
  | 23 => ⟨S4096x512, .f32⟩
  | 24 => ⟨S1x512, .f32⟩
  | 25 => ⟨S512, .f32⟩
  | 26 => ⟨S4096x512, .f32⟩
  | 27 => ⟨S1x512, .f32⟩
  | 28 => ⟨S4096x512, .f32⟩
  | 29 => ⟨S4096x512, .f32⟩
  | 30 => ⟨S4096x512, .f32⟩
  | 31 => ⟨S1x512, .f32⟩
  | 32 => ⟨S512, .f32⟩
  | 33 => ⟨S4096x512, .f32⟩
  | 34 => ⟨S1x512, .f32⟩
  | 35 => ⟨S4096x512, .f32⟩
  | 36 => ⟨S4096x512, .f32⟩
  | 37 => ⟨S4096x512, .f32⟩
  | 38 => ⟨S1x512, .f32⟩
  | 39 => ⟨S512, .f32⟩
  | 40 => ⟨S4096x512, .f32⟩
  | 41 => ⟨S1x512, .f32⟩
  | 42 => ⟨S4096x512, .f32⟩
  | 43 => ⟨S4096x512, .f32⟩
  | 44 => ⟨S4096x512, .f32⟩
  | 45 => ⟨S1x512, .f32⟩
  | 46 => ⟨S512, .f32⟩
  | 47 => ⟨S4096x512, .f32⟩
  | 48 => ⟨S1x512, .f32⟩
  | 49 => ⟨S4096x512, .f32⟩
  | 50 => ⟨S4096x512, .f32⟩
  | 51 => ⟨S4096x512, .f32⟩
  | 52 => ⟨S1x512, .f32⟩
  | 53 => ⟨S512, .f32⟩
  | 54 => ⟨S4096x512, .f32⟩
  | 55 => ⟨S1x512, .f32⟩
  | 56 => ⟨S4096x512, .f32⟩
  | 57 => ⟨S4096x512, .f32⟩
  | 58 => ⟨S4096x512, .f32⟩
  | 59 => ⟨S1x512, .f32⟩
  | 60 => ⟨S512, .f32⟩
  | 61 => ⟨S4096x512, .f32⟩
  | 62 => ⟨S1x512, .f32⟩
  | 63 => ⟨S4096x512, .f32⟩
  | 64 => ⟨S4096x512, .f32⟩
  | 65 => ⟨S4096x512, .f32⟩
  | 66 => ⟨S1x512, .f32⟩
  | 67 => ⟨S512, .f32⟩
  | 68 => ⟨S4096x512, .f32⟩
  | 69 => ⟨S1x512, .f32⟩
  | 70 => ⟨S4096x512, .f32⟩
  | 71 => ⟨S4096x512, .f32⟩
  | 72 => ⟨S4096x512, .f32⟩
  | 73 => ⟨S1x512, .f32⟩
  | 74 => ⟨S512, .f32⟩
  | 75 => ⟨S4096x512, .f32⟩
  | 76 => ⟨S1x512, .f32⟩
  | 77 => ⟨S4096x512, .f32⟩
  | 78 => ⟨S4096x512, .f32⟩
  | 79 => ⟨S4096x512, .f32⟩
  | 80 => ⟨S1x512, .f32⟩
  | 81 => ⟨S512, .f32⟩
  | 82 => ⟨S4096x512, .f32⟩
  | 83 => ⟨S1x512, .f32⟩
  | 84 => ⟨S4096x512, .f32⟩
  | 85 => ⟨S4096x512, .f32⟩
  | 86 => ⟨S4096x512, .f32⟩
  | 87 => ⟨S1x512, .f32⟩
  | 88 => ⟨S512, .f32⟩
  | 89 => ⟨S4096x512, .f32⟩
  | 90 => ⟨S1x512, .f32⟩
  | 91 => ⟨S4096x512, .f32⟩
  | 92 => ⟨S4096x512, .f32⟩
  | 93 => ⟨S4096x512, .f32⟩
  | 94 => ⟨S1x512, .f32⟩
  | 95 => ⟨S512, .f32⟩
  | 96 => ⟨S4096x512, .f32⟩
  | 97 => ⟨S1x512, .f32⟩
  | 98 => ⟨S4096x512, .f32⟩
  | 99 => ⟨S4096x512, .f32⟩
  | 100 => ⟨S4096x512, .f32⟩
  | 101 => ⟨S1x512, .f32⟩
  | 102 => ⟨S512, .f32⟩
  | 103 => ⟨S4096x512, .f32⟩
  | 104 => ⟨S1x512, .f32⟩
  | 105 => ⟨S4096x512, .f32⟩
  | 106 => ⟨S4096x512, .f32⟩
  | 107 => ⟨S4096x512, .f32⟩
  | 108 => ⟨S1x512, .f32⟩
  | 109 => ⟨S512, .f32⟩
  | 110 => ⟨S4096x512, .f32⟩
  | 111 => ⟨S1x512, .f32⟩
  | 112 => ⟨S4096x512, .f32⟩
  | 113 => ⟨S4096x512, .f32⟩
  | 114 => ⟨S4096x512, .f32⟩
  | 115 => ⟨S4096x512, .f32⟩
  | 116 => ⟨S4096x512, .f32⟩
  | 117 => ⟨S4096x512, .f32⟩
  | 118 => ⟨S4096, .i32⟩
  | 119 => ⟨S_, .i32⟩
  | 120 => ⟨S4096, .i32⟩
  | 121 => ⟨S4096, .i32⟩
  | 122 => ⟨S4096, .f32⟩
  | 123 => ⟨S4096x1, .f32⟩
  | 124 => ⟨S4096x128, .f32⟩
  | 125 => ⟨S_, .f32⟩
  | 126 => ⟨S_, .f32⟩
  | 127 => ⟨S4096x128, .f32⟩
  | _ => ⟨S4096x1536, .f32⟩

abbrev hbmTy0_2 (i : Nat) : BufTy := match i % 128 with
  | 0 => ⟨S_, .f32⟩
  | 1 => ⟨S2x128, .f32⟩
  | 2 => ⟨S4094x128, .f32⟩
  | 3 => ⟨S4096x128, .f32⟩
  | 4 => ⟨S4096x128, .f32⟩
  | 5 => ⟨S_, .f32⟩
  | 6 => ⟨S4096x1, .f32⟩
  | 7 => ⟨S4096x1, .f32⟩
  | 8 => ⟨S4096x128, .f32⟩
  | 9 => ⟨S4096x128, .f32⟩
  | 10 => ⟨S4096x128, .f32⟩
  | 11 => ⟨S4096x128, .f32⟩
  | 12 => ⟨S_, .f32⟩
  | 13 => ⟨S_, .f32⟩
  | 14 => ⟨S4096x128, .f32⟩
  | 15 => ⟨S_, .f32⟩
  | 16 => ⟨S4x128, .f32⟩
  | 17 => ⟨S4092x128, .f32⟩
  | 18 => ⟨S4096x128, .f32⟩
  | 19 => ⟨S4096x128, .f32⟩
  | 20 => ⟨S_, .f32⟩
  | 21 => ⟨S4096x1, .f32⟩
  | 22 => ⟨S4096x1, .f32⟩
  | 23 => ⟨S4096x128, .f32⟩
  | 24 => ⟨S4096x128, .f32⟩
  | 25 => ⟨S4096x128, .f32⟩
  | 26 => ⟨S4096x128, .f32⟩
  | 27 => ⟨S_, .f32⟩
  | 28 => ⟨S_, .f32⟩
  | 29 => ⟨S4096x128, .f32⟩
  | 30 => ⟨S_, .f32⟩
  | 31 => ⟨S8x128, .f32⟩
  | 32 => ⟨S4088x128, .f32⟩
  | 33 => ⟨S4096x128, .f32⟩
  | 34 => ⟨S4096x128, .f32⟩
  | 35 => ⟨S_, .f32⟩
  | 36 => ⟨S4096x1, .f32⟩
  | 37 => ⟨S4096x1, .f32⟩
  | 38 => ⟨S4096x128, .f32⟩
  | 39 => ⟨S4096x128, .f32⟩
  | 40 => ⟨S4096x128, .f32⟩
  | 41 => ⟨S4096x128, .f32⟩
  | 42 => ⟨S_, .f32⟩
  | 43 => ⟨S_, .f32⟩
  | 44 => ⟨S4096x128, .f32⟩
  | 45 => ⟨S_, .f32⟩
  | 46 => ⟨S16x128, .f32⟩
  | 47 => ⟨S4080x128, .f32⟩
  | 48 => ⟨S4096x128, .f32⟩
  | 49 => ⟨S4096x128, .f32⟩
  | 50 => ⟨S_, .f32⟩
  | 51 => ⟨S4096x1, .f32⟩
  | 52 => ⟨S4096x1, .f32⟩
  | 53 => ⟨S4096x128, .f32⟩
  | 54 => ⟨S4096x128, .f32⟩
  | 55 => ⟨S4096x128, .f32⟩
  | 56 => ⟨S4096x512, .f32⟩
  | 57 => ⟨S4096x4x128, .f32⟩
  | 58 => ⟨S4x128x4096, .f32⟩
  | 59 => ⟨S4096x4x128, .f32⟩
  | 60 => ⟨S4096x512, .f32⟩
  | 61 => ⟨S4096x512, .f32⟩
  | 62 => ⟨S4096x512, .f32⟩
  | 63 => ⟨S_, .f32⟩
  | 64 => ⟨S4096, .f32⟩
  | 65 => ⟨S4096x1, .f32⟩
  | 66 => ⟨S_, .f32⟩
  | 67 => ⟨S4096x1, .f32⟩
  | 68 => ⟨S4096x1, .f32⟩
  | 69 => ⟨S4096x512, .f32⟩
  | 70 => ⟨S4096x512, .f32⟩
  | 71 => ⟨S4096x512, .f32⟩
  | 72 => ⟨S_, .f32⟩
  | 73 => ⟨S4096, .f32⟩
  | 74 => ⟨S4096x1, .f32⟩
  | 75 => ⟨S_, .f32⟩
  | 76 => ⟨S4096x1, .f32⟩
  | 77 => ⟨S4096x1, .f32⟩
  | 78 => ⟨S4096x512, .f32⟩
  | 79 => ⟨S4096x512, .f32⟩
  | 80 => ⟨S_, .f32⟩
  | 81 => ⟨S4096x1, .f32⟩
  | 82 => ⟨S4096x1, .f32⟩
  | 83 => ⟨S4096x1, .f32⟩
  | 84 => ⟨S4096x512, .f32⟩
  | 85 => ⟨S4096x512, .f32⟩
  | 86 => ⟨S4096x512, .f32⟩
  | 87 => ⟨S4096x512, .f32⟩
  | 88 => ⟨S4096x512, .f32⟩
  | 89 => ⟨S4096x512, .f32⟩
  | 90 => ⟨S4096x512, .f32⟩
  | 91 => ⟨S4096x512, .f32⟩
  | 92 => ⟨S_, .f32⟩
  | 93 => ⟨S4096x512, .f32⟩
  | 94 => ⟨S4096x512, .f32⟩
  | 95 => ⟨S_, .f32⟩
  | 96 => ⟨S4096x512, .f32⟩
  | 97 => ⟨S4096x512, .f32⟩
  | 98 => ⟨S4096x512, .f32⟩
  | 99 => ⟨S4096x1024, .f32⟩
  | 100 => ⟨S4096x1024, .f32⟩
  | 101 => ⟨S4096x1024, .f32⟩
  | 102 => ⟨S4096x1024, .bf16⟩
  | 103 => ⟨S4096x512, .f32⟩
  | 104 => ⟨S4096x512, .bf16⟩
  | 105 => ⟨S4096x1024, .f32⟩
  | 106 => ⟨S_, .f32⟩
  | 107 => ⟨S4096, .f32⟩
  | 108 => ⟨S4096x1, .f32⟩
  | 109 => ⟨S_, .f32⟩
  | 110 => ⟨S4096x1, .f32⟩
  | 111 => ⟨S4096x1, .f32⟩
  | 112 => ⟨S_, .f32⟩
  | 113 => ⟨S4096x1, .f32⟩
  | 114 => ⟨S4096x1, .f32⟩
  | 115 => ⟨S4096x1, .f32⟩
  | 116 => ⟨S4096x1024, .f32⟩
  | 117 => ⟨S4096x1024, .f32⟩
  | 118 => ⟨S4096x1024, .f32⟩
  | 119 => ⟨S4096x1024, .f32⟩
  | 120 => ⟨S4096x1024, .bf16⟩
  | _ => ⟨S4096x1536, .f32⟩

abbrev hbmTy (i : Nat) : BufTy := match i / 128 with
  | 0 => hbmTy0_0 i
  | 1 => hbmTy0_1 i
  | 2 => hbmTy0_2 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_v228 : Ref sig .tc := ⟨.hbm, 242, rfl⟩
abbrev main_v229 : Ref sig .tc := ⟨.hbm, 243, rfl⟩
abbrev main_v230 : Ref sig .tc := ⟨.hbm, 244, rfl⟩
abbrev main_v231 : Ref sig .tc := ⟨.hbm, 245, rfl⟩
abbrev main_v232 : Ref sig .tc := ⟨.hbm, 246, rfl⟩
abbrev main_c : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_call0_call0_cst : Ref sig .tc := ⟨.hbm, 253, rfl⟩
abbrev main_call0_call0_v0 : Ref sig .tc := ⟨.hbm, 254, rfl⟩
abbrev main_v238 : Ref sig .tc := ⟨.hbm, 255, rfl⟩
abbrev main_cst_3 : Ref sig .tc := ⟨.hbm, 256, rfl⟩
abbrev main_v239 : Ref sig .tc := ⟨.hbm, 257, rfl⟩
abbrev main_v240 : Ref sig .tc := ⟨.hbm, 258, rfl⟩
abbrev main_v241 : Ref sig .tc := ⟨.hbm, 259, rfl⟩
abbrev main_v242 : Ref sig .tc := ⟨.hbm, 260, rfl⟩
abbrev main_cst_4 : Ref sig .tc := ⟨.hbm, 261, rfl⟩
abbrev main_v243 : Ref sig .tc := ⟨.hbm, 262, rfl⟩
abbrev main_v244 : Ref sig .tc := ⟨.hbm, 263, rfl⟩
abbrev main_v245 : Ref sig .tc := ⟨.hbm, 264, rfl⟩
abbrev main_v246 : Ref sig .tc := ⟨.hbm, 265, rfl⟩
abbrev main_v247 : Ref sig .tc := ⟨.hbm, 266, rfl⟩
abbrev main_v248 : Ref sig .tc := ⟨.hbm, 267, rfl⟩
abbrev main_call1_call0_cst : Ref sig .tc := ⟨.hbm, 268, rfl⟩
abbrev main_call1_call0_v0 : Ref sig .tc := ⟨.hbm, 269, rfl⟩
abbrev main_v249 : Ref sig .tc := ⟨.hbm, 270, rfl⟩
abbrev main_cst_5 : Ref sig .tc := ⟨.hbm, 271, rfl⟩
abbrev main_v250 : Ref sig .tc := ⟨.hbm, 272, rfl⟩
abbrev main_v251 : Ref sig .tc := ⟨.hbm, 273, rfl⟩
abbrev main_v252 : Ref sig .tc := ⟨.hbm, 274, rfl⟩
abbrev main_v253 : Ref sig .tc := ⟨.hbm, 275, rfl⟩
abbrev main_cst_6 : Ref sig .tc := ⟨.hbm, 276, rfl⟩
abbrev main_v254 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩
abbrev main_v258 : Ref sig .tc := ⟨.hbm, 281, rfl⟩
abbrev main_v259 : Ref sig .tc := ⟨.hbm, 282, rfl⟩
abbrev main_call2_call0_cst : Ref sig .tc := ⟨.hbm, 283, rfl⟩
abbrev main_call2_call0_v0 : Ref sig .tc := ⟨.hbm, 284, rfl⟩
abbrev main_v260 : Ref sig .tc := ⟨.hbm, 285, rfl⟩
abbrev main_cst_7 : Ref sig .tc := ⟨.hbm, 286, rfl⟩
abbrev main_v261 : Ref sig .tc := ⟨.hbm, 287, rfl⟩
abbrev main_v262 : Ref sig .tc := ⟨.hbm, 288, rfl⟩
abbrev main_v263 : Ref sig .tc := ⟨.hbm, 289, rfl⟩
abbrev main_v264 : Ref sig .tc := ⟨.hbm, 290, rfl⟩
abbrev main_cst_8 : Ref sig .tc := ⟨.hbm, 291, rfl⟩
abbrev main_v265 : Ref sig .tc := ⟨.hbm, 292, rfl⟩
abbrev main_v266 : Ref sig .tc := ⟨.hbm, 293, rfl⟩
abbrev main_v267 : Ref sig .tc := ⟨.hbm, 294, rfl⟩
abbrev main_v268 : Ref sig .tc := ⟨.hbm, 295, rfl⟩
abbrev main_v269 : Ref sig .tc := ⟨.hbm, 296, rfl⟩
abbrev main_v270 : Ref sig .tc := ⟨.hbm, 297, rfl⟩
abbrev main_call3_call0_cst : Ref sig .tc := ⟨.hbm, 298, rfl⟩
abbrev main_call3_call0_v0 : Ref sig .tc := ⟨.hbm, 299, rfl⟩
abbrev main_v271 : Ref sig .tc := ⟨.hbm, 300, rfl⟩
abbrev main_cst_9 : Ref sig .tc := ⟨.hbm, 301, rfl⟩
abbrev main_v272 : Ref sig .tc := ⟨.hbm, 302, rfl⟩
abbrev main_v273 : Ref sig .tc := ⟨.hbm, 303, rfl⟩
abbrev main_v274 : Ref sig .tc := ⟨.hbm, 304, rfl⟩
abbrev main_v275 : Ref sig .tc := ⟨.hbm, 305, rfl⟩
abbrev main_cst_10 : Ref sig .tc := ⟨.hbm, 306, rfl⟩
abbrev main_v276 : Ref sig .tc := ⟨.hbm, 307, rfl⟩
abbrev main_v277 : Ref sig .tc := ⟨.hbm, 308, rfl⟩
abbrev main_v278 : Ref sig .tc := ⟨.hbm, 309, rfl⟩
abbrev main_v279 : Ref sig .tc := ⟨.hbm, 310, rfl⟩
abbrev main_v280 : Ref sig .tc := ⟨.hbm, 311, rfl⟩
abbrev main_v281 : Ref sig .tc := ⟨.hbm, 312, rfl⟩
abbrev main_v282 : Ref sig .tc := ⟨.hbm, 313, rfl⟩
abbrev main_v283 : Ref sig .tc := ⟨.hbm, 314, rfl⟩
abbrev main_v284 : Ref sig .tc := ⟨.hbm, 315, rfl⟩
abbrev main_v285 : Ref sig .tc := ⟨.hbm, 316, rfl⟩
abbrev main_v286 : Ref sig .tc := ⟨.hbm, 317, rfl⟩
abbrev main_v287 : Ref sig .tc := ⟨.hbm, 318, rfl⟩
abbrev main_cst_11 : Ref sig .tc := ⟨.hbm, 319, rfl⟩
abbrev main_v288 : Ref sig .tc := ⟨.hbm, 320, rfl⟩
abbrev main_v289 : Ref sig .tc := ⟨.hbm, 321, rfl⟩
abbrev main_cst_12 : Ref sig .tc := ⟨.hbm, 322, rfl⟩
abbrev main_v290 : Ref sig .tc := ⟨.hbm, 323, rfl⟩
abbrev main_v291 : Ref sig .tc := ⟨.hbm, 324, rfl⟩
abbrev main_v292 : Ref sig .tc := ⟨.hbm, 325, rfl⟩
abbrev main_v293 : Ref sig .tc := ⟨.hbm, 326, rfl⟩
abbrev main_v294 : Ref sig .tc := ⟨.hbm, 327, rfl⟩
abbrev main_cst_13 : Ref sig .tc := ⟨.hbm, 328, rfl⟩
abbrev main_v295 : Ref sig .tc := ⟨.hbm, 329, rfl⟩
abbrev main_v296 : Ref sig .tc := ⟨.hbm, 330, rfl⟩
abbrev main_cst_14 : Ref sig .tc := ⟨.hbm, 331, rfl⟩
abbrev main_v297 : Ref sig .tc := ⟨.hbm, 332, rfl⟩
abbrev main_v298 : Ref sig .tc := ⟨.hbm, 333, rfl⟩
abbrev main_v299 : Ref sig .tc := ⟨.hbm, 334, rfl⟩
abbrev main_v300 : Ref sig .tc := ⟨.hbm, 335, rfl⟩
abbrev main_cst_15 : Ref sig .tc := ⟨.hbm, 336, rfl⟩
abbrev main_v301 : Ref sig .tc := ⟨.hbm, 337, rfl⟩
abbrev main_v302 : Ref sig .tc := ⟨.hbm, 338, rfl⟩
abbrev main_v303 : Ref sig .tc := ⟨.hbm, 339, rfl⟩
abbrev main_v304 : Ref sig .tc := ⟨.hbm, 340, rfl⟩
abbrev main_v305 : Ref sig .tc := ⟨.hbm, 341, rfl⟩
abbrev main_v306 : Ref sig .tc := ⟨.hbm, 342, rfl⟩
abbrev main_v307 : Ref sig .tc := ⟨.hbm, 343, rfl⟩
abbrev main_v308 : Ref sig .tc := ⟨.hbm, 344, rfl⟩
abbrev main_v309 : Ref sig .tc := ⟨.hbm, 345, rfl⟩
abbrev main_call4_v0 : Ref sig .tc := ⟨.hbm, 346, rfl⟩
abbrev main_call4_v1 : Ref sig .tc := ⟨.hbm, 347, rfl⟩
abbrev main_call4_cst : Ref sig .tc := ⟨.hbm, 348, rfl⟩
abbrev main_call4_v2 : Ref sig .tc := ⟨.hbm, 349, rfl⟩
abbrev main_call4_v3 : Ref sig .tc := ⟨.hbm, 350, rfl⟩
abbrev main_call4_cst_0 : Ref sig .tc := ⟨.hbm, 351, rfl⟩
abbrev main_call4_v4 : Ref sig .tc := ⟨.hbm, 352, rfl⟩
abbrev main_call4_v5 : Ref sig .tc := ⟨.hbm, 353, rfl⟩
abbrev main_v310 : Ref sig .tc := ⟨.hbm, 354, rfl⟩
abbrev main_v311 : Ref sig .tc := ⟨.hbm, 355, rfl⟩
abbrev main_v312 : Ref sig .tc := ⟨.hbm, 356, rfl⟩
abbrev main_v313 : Ref sig .tc := ⟨.hbm, 357, rfl⟩
abbrev main_v314 : Ref sig .tc := ⟨.hbm, 358, rfl⟩
abbrev main_v315 : Ref sig .tc := ⟨.hbm, 359, rfl⟩
abbrev main_v316 : Ref sig .tc := ⟨.hbm, 360, rfl⟩
abbrev main_v317 : Ref sig .tc := ⟨.hbm, 361, rfl⟩
abbrev main_cst_16 : Ref sig .tc := ⟨.hbm, 362, rfl⟩
abbrev main_v318 : Ref sig .tc := ⟨.hbm, 363, rfl⟩
abbrev main_v319 : Ref sig .tc := ⟨.hbm, 364, rfl⟩
abbrev main_cst_17 : Ref sig .tc := ⟨.hbm, 365, rfl⟩
abbrev main_v320 : Ref sig .tc := ⟨.hbm, 366, rfl⟩
abbrev main_v321 : Ref sig .tc := ⟨.hbm, 367, rfl⟩
abbrev main_cst_18 : Ref sig .tc := ⟨.hbm, 368, rfl⟩
abbrev main_v322 : Ref sig .tc := ⟨.hbm, 369, rfl⟩
abbrev main_v323 : Ref sig .tc := ⟨.hbm, 370, rfl⟩
abbrev main_v324 : Ref sig .tc := ⟨.hbm, 371, rfl⟩
abbrev main_v325 : Ref sig .tc := ⟨.hbm, 372, rfl⟩
abbrev main_v326 : Ref sig .tc := ⟨.hbm, 373, rfl⟩
abbrev main_v327 : Ref sig .tc := ⟨.hbm, 374, rfl⟩
abbrev main_v328 : Ref sig .tc := ⟨.hbm, 375, rfl⟩
abbrev main_v329 : Ref sig .tc := ⟨.hbm, 376, rfl⟩

abbrev nD : Nat := 1
abbrev τ : Topo := Topo.v7x

variable {F : FTy → Type} [FloatOps F]
-- ==== Mi.lean ====
abbrev S4096x1024 : Shape := ⟨2, ![4096, 1024]⟩
abbrev S1x1024 : Shape := ⟨2, ![1, 1024]⟩
abbrev S1024x1536 : Shape := ⟨2, ![1024, 1536]⟩
abbrev S1024x4x384 : Shape := ⟨3, ![1024, 4, 384]⟩
abbrev S4x1024x384 : Shape := ⟨3, ![4, 1024, 384]⟩
abbrev S_ : Shape := ⟨0, ![]⟩
abbrev S1 : Shape := ⟨1, ![1]⟩
abbrev S4 : Shape := ⟨1, ![4]⟩
abbrev S4096x1536 : Shape := ⟨2, ![4096, 1536]⟩
abbrev S1024x1024 : Shape := ⟨2, ![1024, 1024]⟩
abbrev S1024x384 : Shape := ⟨2, ![1024, 384]⟩
abbrev S4x1024x1024 : Shape := ⟨3, ![4, 1024, 1024]⟩
abbrev S1x1024x384 : Shape := ⟨3, ![1, 1024, 384]⟩
abbrev S1024 : Shape := ⟨1, ![1024]⟩
abbrev S1024x1 : Shape := ⟨2, ![1024, 1]⟩
abbrev S1x1024x1024 : Shape := ⟨3, ![1, 1024, 1024]⟩

abbrev nBuf : Space → Nat
  | .hbm => 39
  | .vmem => 7
  | .smem => 1
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1536, .f32⟩
  | .hbm, ⟨3, _⟩ => ⟨S1024x1536, .bf16⟩
  | .hbm, ⟨4, _⟩ => ⟨S1024x4x384, .bf16⟩
  | .hbm, ⟨5, _⟩ => ⟨S4x1024x384, .bf16⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S1, .i32⟩
  | .hbm, ⟨35, _⟩ => ⟨S1, .i32⟩
  | .hbm, ⟨36, _⟩ => ⟨S1, .i32⟩
  | .hbm, ⟨37, _⟩ => ⟨S1, .i32⟩
  | .hbm, ⟨38, _⟩ => ⟨S4096x1536, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x384, .f32⟩
  | .local _ .vmem, ⟨4, _⟩ => ⟨S1024x384, .f32⟩
  | .local _ .vmem, ⟨5, _⟩ => ⟨S4x1024x1024, .bf16⟩
  | .local _ .vmem, ⟨6, _⟩ => ⟨S1024x384, .bf16⟩
  | .local _ .smem, ⟨0, _⟩ => ⟨S4, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_c_0 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_c_2 : Ref sig .tc := ⟨.hbm, 11, rfl⟩
abbrev main_c_3 : Ref sig .tc := ⟨.hbm, 12, rfl⟩
abbrev main_v5 : Ref sig .tc := ⟨.hbm, 13, rfl⟩
abbrev main_c_4 : Ref sig .tc := ⟨.hbm, 14, rfl⟩
abbrev main_v6 : Ref sig .tc := ⟨.hbm, 15, rfl⟩
abbrev main_c_5 : Ref sig .tc := ⟨.hbm, 16, rfl⟩
abbrev main_v7 : Ref sig .tc := ⟨.hbm, 17, rfl⟩
abbrev main_c_6 : Ref sig .tc := ⟨.hbm, 18, rfl⟩
abbrev main_c_7 : Ref sig .tc := ⟨.hbm, 19, rfl⟩
abbrev main_v8 : Ref sig .tc := ⟨.hbm, 20, rfl⟩
abbrev main_c_8 : Ref sig .tc := ⟨.hbm, 21, rfl⟩
abbrev main_v9 : Ref sig .tc := ⟨.hbm, 22, rfl⟩
abbrev main_c_9 : Ref sig .tc := ⟨.hbm, 23, rfl⟩
abbrev main_v10 : Ref sig .tc := ⟨.hbm, 24, rfl⟩
abbrev main_c_10 : Ref sig .tc := ⟨.hbm, 25, rfl⟩
abbrev main_c_11 : Ref sig .tc := ⟨.hbm, 26, rfl⟩
abbrev main_v11 : Ref sig .tc := ⟨.hbm, 27, rfl⟩
abbrev main_c_12 : Ref sig .tc := ⟨.hbm, 28, rfl⟩
abbrev main_v12 : Ref sig .tc := ⟨.hbm, 29, rfl⟩
abbrev main_c_13 : Ref sig .tc := ⟨.hbm, 30, rfl⟩
abbrev main_v13 : Ref sig .tc := ⟨.hbm, 31, rfl⟩
abbrev main_c_14 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v20 : Ref sig .tc := ⟨.hbm, 38, rfl⟩
abbrev main_v19 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_v19.idx], fun | 0 => main_v19.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off2 (i : grid0.Coords) : Fin 1 → Nat :=
  let arg0 : BitVec 32 := BitVec.ofNat 32 (i 0).val
  let v12 : Index := Scalar.indexCast arg0
  ![v12.toNat]
def k0_off3 (v13 : BitVec 32) : Fin 3 → Nat :=
  let c0_i32_8 : BitVec 32 := 0#32
  let c0_i32_9 : BitVec 32 := 0#32
  ![v13.toNat, 0, 0]

def k0_chk1 (i : grid0.Coords) (v13 : BitVec 32) : Prop :=
  (∀ (k0_h1 : k0_cond1 i = 1#1), ∀ a, (k0_off3 v13) a + S1x1024x384.size a ≤ S4x1024x384.size a) ∧
  (∀ (k0_h1 : k0_cond1 i = 1#1), ∀ (hinb : ∀ a, (k0_off3 v13) a + S1x1024x384.size a ≤ S4x1024x384.size a), (Rect.unit (s := S4x1024x384) (k0_off3 v13) S1x1024x384.size hinb).WholeWords (EltTy.packing .bf16))
theorem k0_off3_inb : ∀ (i : grid0.Coords) (v13 : BitVec 32) (k0_hw1 : k0_chk1 i v13), ∀ (k0_h1 : k0_cond1 i = 1#1), ∀ a, (k0_off3 v13) a + S1x1024x384.size a ≤ S4x1024x384.size a := fun i v13 k0_hw1 k0_h1 => k0_hw1.1 k0_h1
theorem k0_off3_wordsbf16 : ∀ (i : grid0.Coords) (v13 : BitVec 32) (k0_hw1 : k0_chk1 i v13), ∀ (k0_h1 : k0_cond1 i = 1#1), (Rect.unit (s := S4x1024x384) (k0_off3 v13) S1x1024x384.size (k0_off3_inb i v13 k0_hw1 k0_h1)).WholeWords (EltTy.packing .bf16) := fun i v13 k0_hw1 k0_h1 => k0_hw1.2 k0_h1 (k0_off3_inb i v13 k0_hw1 k0_h1)

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off4 (i : grid0.Coords) : Fin 3 → Nat :=
  let arg1 : BitVec 32 := BitVec.ofNat 32 (i 1).val
  let v27 : Index := Scalar.indexCast arg1
  let c0_15 : Index := 0#32
  let c0_16 : Index := 0#32
  ![v27.toNat, 0, 0]
def k0_off5 (i : grid0.Coords) : Fin 3 → Nat :=
  let arg1 : BitVec 32 := BitVec.ofNat 32 (i 1).val
  let v6 : Index := Scalar.indexCast arg1
  let c0 : Index := 0#32
  let c0_3 : Index := 0#32
  ![v6.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  ![arg1.toNat, v1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MiRefIdeal.lean ====
abbrev S4096x1024 : Shape := ⟨2, ![4096, 1024]⟩
abbrev S1x1024 : Shape := ⟨2, ![1, 1024]⟩
abbrev S1024x1536 : Shape := ⟨2, ![1024, 1536]⟩
abbrev S_ : Shape := ⟨0, ![]⟩
abbrev S4096 : Shape := ⟨1, ![4096]⟩
abbrev S4096x1 : Shape := ⟨2, ![4096, 1]⟩
abbrev S4096x1536 : Shape := ⟨2, ![4096, 1536]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1536, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1536, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Down.lean ====
abbrev S4096x1024 : Shape := ⟨2, ![4096, 1024]⟩
abbrev S4096x2816 : Shape := ⟨2, ![4096, 2816]⟩
abbrev S2816x1024 : Shape := ⟨2, ![2816, 1024]⟩
abbrev S1024x1024 : Shape := ⟨2, ![1024, 1024]⟩
abbrev S1024x2816 : Shape := ⟨2, ![1024, 2816]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x2816, .bf16⟩
  | .hbm, ⟨4, _⟩ => ⟨S2816x1024, .bf16⟩
  | .hbm, ⟨5, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownRefIdeal.lean ====
abbrev S4096x1024 : Shape := ⟨2, ![4096, 1024]⟩
abbrev S4096x2816 : Shape := ⟨2, ![4096, 2816]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DwGu.lean ====
abbrev S4096x1024 : Shape := ⟨2, ![4096, 1024]⟩
abbrev S1024x5632 : Shape := ⟨2, ![1024, 5632]⟩
abbrev S4096x5632 : Shape := ⟨2, ![4096, 5632]⟩
abbrev S4096x2x2816 : Shape := ⟨3, ![4096, 2, 2816]⟩
abbrev S2x4096x2816 : Shape := ⟨3, ![2, 4096, 2816]⟩
abbrev S4x1024x1408 : Shape := ⟨3, ![4, 1024, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 8
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x1024, .bf16⟩
  | .hbm, ⟨4, _⟩ => ⟨S4096x2x2816, .f32⟩
  | .hbm, ⟨5, _⟩ => ⟨S2x4096x2816, .f32⟩
  | .hbm, ⟨6, _⟩ => ⟨S2x4096x2816, .bf16⟩
  | .hbm, ⟨7, _⟩ => ⟨S4x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwGuRefIdeal.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .f32⟩
  | .hbm, ⟨4, _⟩ => ⟨S5632x1024, .f32⟩
  | .hbm, ⟨5, _⟩ => ⟨S1024x5632, .f32⟩
  | .hbm, ⟨6, _⟩ => ⟨S1024x4x1408, .f32⟩
  | .hbm, ⟨7, _⟩ => ⟨S4x1024x1408, .f32⟩
  | .hbm, ⟨8, _⟩ => ⟨S4x1024x1408, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwDown.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwDownRefIdeal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Adam.lean ====
abbrev S1024x384 : Shape := ⟨2, ![1024, 384]⟩
abbrev S1024x1408 : Shape := ⟨2, ![1024, 1408]⟩
abbrev S256x1024 : Shape := ⟨2, ![256, 1024]⟩
abbrev S128x384 : Shape := ⟨2, ![128, 384]⟩
abbrev S128x1408 : Shape := ⟨2, ![128, 1408]⟩
abbrev S32x1024 : Shape := ⟨2, ![32, 1024]⟩

abbrev nBuf : Space → Nat
  | .hbm => 24
  | .vmem => 48
  | .smem => 0
  | _ => 0

abbrev bufTy : (tb : Table) → Fin (tcTables nBuf tb) → BufTy
  | .hbm, ⟨0, _⟩ => ⟨S1024x384, .f32⟩
  | .hbm, ⟨1, _⟩ => ⟨S1024x1408, .f32⟩
  | .hbm, ⟨2, _⟩ => ⟨S256x1024, .f32⟩
  | .hbm, ⟨3, _⟩ => ⟨S1024x384, .f32⟩
  | .hbm, ⟨4, _⟩ => ⟨S1024x1408, .f32⟩
  | .hbm, ⟨5, _⟩ => ⟨S256x1024, .f32⟩
  | .hbm, ⟨6, _⟩ => ⟨S1024x384, .f32⟩
  | .hbm, ⟨7, _⟩ => ⟨S1024x1408, .f32⟩
  | .hbm, ⟨8, _⟩ => ⟨S256x1024, .f32⟩
  | .hbm, ⟨9, _⟩ => ⟨S1024x384, .f32⟩
  | .hbm, ⟨10, _⟩ => ⟨S1024x1408, .f32⟩
  | .hbm, ⟨11, _⟩ => ⟨S256x1024, .f32⟩
  | .hbm, ⟨12, _⟩ => ⟨S1024x384, .f32⟩
  | .hbm, ⟨13, _⟩ => ⟨S1024x1408, .f32⟩
  | .hbm, ⟨14, _⟩ => ⟨S256x1024, .f32⟩
  | .hbm, ⟨15, _⟩ => ⟨S1024x384, .f32⟩
  | .hbm, ⟨16, _⟩ => ⟨S1024x1408, .f32⟩
  | .hbm, ⟨17, _⟩ => ⟨S256x1024, .f32⟩
  | .hbm, ⟨18, _⟩ => ⟨S1024x384, .f32⟩
  | .hbm, ⟨19, _⟩ => ⟨S1024x1408, .f32⟩
  | .hbm, ⟨20, _⟩ => ⟨S256x1024, .f32⟩
  | .hbm, ⟨21, _⟩ => ⟨S1024x384, .f32⟩
  | .hbm, ⟨22, _⟩ => ⟨S1024x1408, .f32⟩
  | .hbm, ⟨23, _⟩ => ⟨S256x1024, .f32⟩
  | .local _ .vmem, ⟨0, _⟩ => ⟨S128x384, .f32⟩
  | .local _ .vmem, ⟨1, _⟩ => ⟨S128x384, .f32⟩
  | .local _ .vmem, ⟨2, _⟩ => ⟨S128x1408, .f32⟩
  | .local _ .vmem, ⟨3, _⟩ => ⟨S128x1408, .f32⟩
  | .local _ .vmem, ⟨4, _⟩ => ⟨S32x1024, .f32⟩
  | .local _ .vmem, ⟨5, _⟩ => ⟨S32x1024, .f32⟩
  | .local _ .vmem, ⟨6, _⟩ => ⟨S128x384, .f32⟩
  | .local _ .vmem, ⟨7, _⟩ => ⟨S128x384, .f32⟩
  | .local _ .vmem, ⟨8, _⟩ => ⟨S128x1408, .f32⟩
  | .local _ .vmem, ⟨9, _⟩ => ⟨S128x1408, .f32⟩
  | .local _ .vmem, ⟨10, _⟩ => ⟨S32x1024, .f32⟩
  | .local _ .vmem, ⟨11, _⟩ => ⟨S32x1024, .f32⟩
  | .local _ .vmem, ⟨12, _⟩ => ⟨S128x384, .f32⟩
  | .local _ .vmem, ⟨13, _⟩ => ⟨S128x384, .f32⟩
  | .local _ .vmem, ⟨14, _⟩ => ⟨S128x1408, .f32⟩
  | .local _ .vmem, ⟨15, _⟩ => ⟨S128x1408, .f32⟩
  | .local _ .vmem, ⟨16, _⟩ => ⟨S32x1024, .f32⟩
  | .local _ .vmem, ⟨17, _⟩ => ⟨S32x1024, .f32⟩
  | .local _ .vmem, ⟨18, _⟩ => ⟨S128x384, .f32⟩
  | .local _ .vmem, ⟨19, _⟩ => ⟨S128x384, .f32⟩
  | .local _ .vmem, ⟨20, _⟩ => ⟨S128x1408, .f32⟩
  | .local _ .vmem, ⟨21, _⟩ => ⟨S128x1408, .f32⟩
  | .local _ .vmem, ⟨22, _⟩ => ⟨S32x1024, .f32⟩
  | .local _ .vmem, ⟨23, _⟩ => ⟨S32x1024, .f32⟩
  | .local _ .vmem, ⟨24, _⟩ => ⟨S128x384, .f32⟩
  | .local _ .vmem, ⟨25, _⟩ => ⟨S128x384, .f32⟩
  | .local _ .vmem, ⟨26, _⟩ => ⟨S128x1408, .f32⟩
  | .local _ .vmem, ⟨27, _⟩ => ⟨S128x1408, .f32⟩
  | .local _ .vmem, ⟨28, _⟩ => ⟨S32x1024, .f32⟩
  | .local _ .vmem, ⟨29, _⟩ => ⟨S32x1024, .f32⟩
  | .local _ .vmem, ⟨30, _⟩ => ⟨S128x384, .f32⟩
  | .local _ .vmem, ⟨31, _⟩ => ⟨S128x384, .f32⟩
  | .local _ .vmem, ⟨32, _⟩ => ⟨S128x1408, .f32⟩
  | .local _ .vmem, ⟨33, _⟩ => ⟨S128x1408, .f32⟩
  | .local _ .vmem, ⟨34, _⟩ => ⟨S32x1024, .f32⟩
  | .local _ .vmem, ⟨35, _⟩ => ⟨S32x1024, .f32⟩
  | .local _ .vmem, ⟨36, _⟩ => ⟨S128x384, .f32⟩
  | .local _ .vmem, ⟨37, _⟩ => ⟨S128x384, .f32⟩
  | .local _ .vmem, ⟨38, _⟩ => ⟨S128x1408, .f32⟩
  | .local _ .vmem, ⟨39, _⟩ => ⟨S128x1408, .f32⟩
  | .local _ .vmem, ⟨40, _⟩ => ⟨S32x1024, .f32⟩
  | .local _ .vmem, ⟨41, _⟩ => ⟨S32x1024, .f32⟩
  | .local _ .vmem, ⟨42, _⟩ => ⟨S128x384, .f32⟩
  | .local _ .vmem, ⟨43, _⟩ => ⟨S128x384, .f32⟩
  | .local _ .vmem, ⟨44, _⟩ => ⟨S128x1408, .f32⟩
  | .local _ .vmem, ⟨45, _⟩ => ⟨S128x1408, .f32⟩
  | .local _ .vmem, ⟨46, _⟩ => ⟨S32x1024, .f32⟩
  | .local _ .vmem, ⟨47, _⟩ => ⟨S32x1024, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev main_v0_11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1408 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x384 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x1408 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x384 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x1408 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S32x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S128x384 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S128x1408 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S32x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== AdamRefIdeal.lean ====
abbrev S1024x384 : Shape := ⟨2, ![1024, 384]⟩
abbrev S1024x1408 : Shape := ⟨2, ![1024, 1408]⟩
abbrev S256x1024 : Shape := ⟨2, ![256, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1024x384, .f32⟩
  | .hbm, ⟨1, _⟩ => ⟨S1024x1408, .f32⟩
  | .hbm, ⟨2, _⟩ => ⟨S256x1024, .f32⟩
  | .hbm, ⟨3, _⟩ => ⟨S1024x384, .f32⟩
  | .hbm, ⟨4, _⟩ => ⟨S1024x1408, .f32⟩
  | .hbm, ⟨5, _⟩ => ⟨S256x1024, .f32⟩
  | .hbm, ⟨6, _⟩ => ⟨S1024x384, .f32⟩
  | .hbm, ⟨7, _⟩ => ⟨S1024x1408, .f32⟩
  | .hbm, ⟨8, _⟩ => ⟨S256x1024, .f32⟩
  | .hbm, ⟨9, _⟩ => ⟨S1024x384, .f32⟩
  | .hbm, ⟨10, _⟩ => ⟨S1024x1408, .f32⟩
  | .hbm, ⟨11, _⟩ => ⟨S256x1024, .f32⟩
  | .hbm, ⟨12, _⟩ => ⟨S_, .f32⟩
  | .hbm, ⟨13, _⟩ => ⟨S1024x384, .f32⟩
  | .hbm, ⟨14, _⟩ => ⟨S1024x384, .f32⟩
  | .hbm, ⟨15, _⟩ => ⟨S_, .f32⟩
  | .hbm, ⟨16, _⟩ => ⟨S1024x384, .f32⟩
  | .hbm, ⟨17, _⟩ => ⟨S1024x384, .f32⟩
  | .hbm, ⟨18, _⟩ => ⟨S1024x384, .f32⟩
  | .hbm, ⟨19, _⟩ => ⟨S_, .f32⟩
  | .hbm, ⟨20, _⟩ => ⟨S1024x384, .f32⟩
  | .hbm, ⟨21, _⟩ => ⟨S1024x384, .f32⟩
  | .hbm, ⟨22, _⟩ => ⟨S1024x384, .f32⟩
  | .hbm, ⟨23, _⟩ => ⟨S_, .f32⟩
  | .hbm, ⟨24, _⟩ => ⟨S1024x384, .f32⟩
  | .hbm, ⟨25, _⟩ => ⟨S1024x384, .f32⟩
  | .hbm, ⟨26, _⟩ => ⟨S1024x384, .f32⟩
  | .hbm, ⟨27, _⟩ => ⟨S_, .f32⟩
  | .hbm, ⟨28, _⟩ => ⟨S1024x384, .f32⟩
  | .hbm, ⟨29, _⟩ => ⟨S1024x384, .f32⟩
  | .hbm, ⟨30, _⟩ => ⟨S_, .f32⟩
  | .hbm, ⟨31, _⟩ => ⟨S1024x384, .f32⟩
  | .hbm, ⟨32, _⟩ => ⟨S1024x384, .f32⟩
  | .hbm, ⟨33, _⟩ => ⟨S1024x384, .f32⟩
  | .hbm, ⟨34, _⟩ => ⟨S_, .f32⟩
  | .hbm, ⟨35, _⟩ => ⟨S1024x384, .f32⟩
  | .hbm, ⟨36, _⟩ => ⟨S1024x384, .f32⟩
  | .hbm, ⟨37, _⟩ => ⟨S1024x384, .f32⟩
  | .hbm, ⟨38, _⟩ => ⟨S_, .f32⟩
  | .hbm, ⟨39, _⟩ => ⟨S1024x384, .f32⟩
  | .hbm, ⟨40, _⟩ => ⟨S1024x384, .f32⟩
  | .hbm, ⟨41, _⟩ => ⟨S1024x384, .f32⟩
  | .hbm, ⟨42, _⟩ => ⟨S_, .f32⟩
  | .hbm, ⟨43, _⟩ => ⟨S1024x384, .f32⟩
  | .hbm, ⟨44, _⟩ => ⟨S1024x384, .f32⟩
  | .hbm, ⟨45, _⟩ => ⟨S_, .f32⟩
  | .hbm, ⟨46, _⟩ => ⟨S1024x1408, .f32⟩
  | .hbm, ⟨47, _⟩ => ⟨S1024x1408, .f32⟩
  | .hbm, ⟨48, _⟩ => ⟨S_, .f32⟩
  | .hbm, ⟨49, _⟩ => ⟨S1024x1408, .f32⟩
  | .hbm, ⟨50, _⟩ => ⟨S1024x1408, .f32⟩
  | .hbm, ⟨51, _⟩ => ⟨S1024x1408, .f32⟩
  | .hbm, ⟨52, _⟩ => ⟨S_, .f32⟩
  | .hbm, ⟨53, _⟩ => ⟨S1024x1408, .f32⟩
  | .hbm, ⟨54, _⟩ => ⟨S1024x1408, .f32⟩
  | .hbm, ⟨55, _⟩ => ⟨S1024x1408, .f32⟩
  | .hbm, ⟨56, _⟩ => ⟨S_, .f32⟩
  | .hbm, ⟨57, _⟩ => ⟨S1024x1408, .f32⟩
  | .hbm, ⟨58, _⟩ => ⟨S1024x1408, .f32⟩
  | .hbm, ⟨59, _⟩ => ⟨S1024x1408, .f32⟩
  | .hbm, ⟨60, _⟩ => ⟨S_, .f32⟩
  | .hbm, ⟨61, _⟩ => ⟨S1024x1408, .f32⟩
  | .hbm, ⟨62, _⟩ => ⟨S1024x1408, .f32⟩
  | .hbm, ⟨63, _⟩ => ⟨S_, .f32⟩
  | .hbm, ⟨64, _⟩ => ⟨S1024x1408, .f32⟩
  | .hbm, ⟨65, _⟩ => ⟨S1024x1408, .f32⟩
  | .hbm, ⟨66, _⟩ => ⟨S1024x1408, .f32⟩
  | .hbm, ⟨67, _⟩ => ⟨S_, .f32⟩
  | .hbm, ⟨68, _⟩ => ⟨S1024x1408, .f32⟩
  | .hbm, ⟨69, _⟩ => ⟨S1024x1408, .f32⟩
  | .hbm, ⟨70, _⟩ => ⟨S1024x1408, .f32⟩
  | .hbm, ⟨71, _⟩ => ⟨S_, .f32⟩
  | .hbm, ⟨72, _⟩ => ⟨S1024x1408, .f32⟩
  | .hbm, ⟨73, _⟩ => ⟨S1024x1408, .f32⟩
  | .hbm, ⟨74, _⟩ => ⟨S1024x1408, .f32⟩
  | .hbm, ⟨75, _⟩ => ⟨S_, .f32⟩
  | .hbm, ⟨76, _⟩ => ⟨S1024x1408, .f32⟩
  | .hbm, ⟨77, _⟩ => ⟨S1024x1408, .f32⟩
  | .hbm, ⟨78, _⟩ => ⟨S_, .f32⟩
  | .hbm, ⟨79, _⟩ => ⟨S256x1024, .f32⟩
  | .hbm, ⟨80, _⟩ => ⟨S256x1024, .f32⟩
  | .hbm, ⟨81, _⟩ => ⟨S_, .f32⟩
  | .hbm, ⟨82, _⟩ => ⟨S256x1024, .f32⟩
  | .hbm, ⟨83, _⟩ => ⟨S256x1024, .f32⟩
  | .hbm, ⟨84, _⟩ => ⟨S256x1024, .f32⟩
  | .hbm, ⟨85, _⟩ => ⟨S_, .f32⟩
  | .hbm, ⟨86, _⟩ => ⟨S256x1024, .f32⟩
  | .hbm, ⟨87, _⟩ => ⟨S256x1024, .f32⟩
  | .hbm, ⟨88, _⟩ => ⟨S256x1024, .f32⟩
  | .hbm, ⟨89, _⟩ => ⟨S_, .f32⟩
  | .hbm, ⟨90, _⟩ => ⟨S256x1024, .f32⟩
  | .hbm, ⟨91, _⟩ => ⟨S256x1024, .f32⟩
  | .hbm, ⟨92, _⟩ => ⟨S256x1024, .f32⟩
  | .hbm, ⟨93, _⟩ => ⟨S_, .f32⟩
  | .hbm, ⟨94, _⟩ => ⟨S256x1024, .f32⟩
  | .hbm, ⟨95, _⟩ => ⟨S256x1024, .f32⟩
  | .hbm, ⟨96, _⟩ => ⟨S_, .f32⟩
  | .hbm, ⟨97, _⟩ => ⟨S256x1024, .f32⟩
  | .hbm, ⟨98, _⟩ => ⟨S256x1024, .f32⟩
  | .hbm, ⟨99, _⟩ => ⟨S256x1024, .f32⟩
  | .hbm, ⟨100, _⟩ => ⟨S_, .f32⟩
  | .hbm, ⟨101, _⟩ => ⟨S256x1024, .f32⟩
  | .hbm, ⟨102, _⟩ => ⟨S256x1024, .f32⟩
  | .hbm, ⟨103, _⟩ => ⟨S256x1024, .f32⟩
  | .hbm, ⟨104, _⟩ => ⟨S_, .f32⟩
  | .hbm, ⟨105, _⟩ => ⟨S256x1024, .f32⟩
  | .hbm, ⟨106, _⟩ => ⟨S256x1024, .f32⟩
  | .hbm, ⟨107, _⟩ => ⟨S256x1024, .f32⟩
  | .hbm, ⟨108, _⟩ => ⟨S_, .f32⟩
  | .hbm, ⟨109, _⟩ => ⟨S256x1024, .f32⟩
  | .hbm, ⟨110, _⟩ => ⟨S256x1024, .f32⟩
  | _, _ => ⟨S1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Proof.Ple.RefRun.lean ====
/-
The reference's run, stated in the named stages of its arguments.
-/
module
public import proofs.«01_k».proof.Proof.Gen.PleRefIdeal.Run
public import proofs.«01_k».proof.Proof.Gen.PleRefIdeal.Read
@[expose] public section
namespace Cert.PleRefIdeal.Whole
open Idealize.ShloMosaic Idealize.ShloMosaic.TcCoe Idealize.SL.Sem

/-- The reference's run, its results as the named stages of its arguments. -/
theorem reference_run (m' : (ℓ : Loc nD τ sig) → Buf (Elt Ideal) ℓ)
    (g' : Dev nD → PrngReg) :
    θ_run defs (onTc (τ := τ) (main (F := Ideal))) ⟨m', fun _ => 0, g'⟩ fun r => ∀ c : Dev nD,
      let A := fun b : Ref sig .tc => m' ((c : Thread nD τ).loc b)
      r.2.mem ((c : Thread nD τ).loc main_v140)
          = Read.val_main_v140 (F := Ideal) (A main_arg0) (A main_arg1) (A main_arg2) (A main_arg3) (A main_arg4) (A main_arg5) (A main_arg6) (A main_arg7)
      ∧ r.2.mem ((c : Thread nD τ).loc main_v145)
          = Read.val_main_v145 (F := Ideal) (A main_arg0) (A main_arg1) (A main_arg2) (A main_arg3) (A main_arg4) (A main_arg5) (A main_arg6) (A main_arg7)
      ∧ r.2.mem ((c : Thread nD τ).loc main_v148)
          = Read.val_main_v148 (F := Ideal) (A main_arg0) (A main_arg1) (A main_arg2) (A main_arg3) (A main_arg4) (A main_arg5) (A main_arg6) (A main_arg7)
      ∧ r.2.mem ((c : Thread nD τ).loc main_v144)
          = Read.val_main_v144 (F := Ideal) (A main_arg0) (A main_arg1) (A main_arg2) (A main_arg3) (A main_arg4) (A main_arg5) (A main_arg6) (A main_arg7)
      ∧ r.2.mem ((c : Thread nD τ).loc main_arg0) = A main_arg0 ∧ r.2.mem ((c : Thread nD τ).loc main_arg1) = A main_arg1
      ∧ r.2.mem ((c : Thread nD τ).loc main_arg2) = A main_arg2 ∧ r.2.mem ((c : Thread nD τ).loc main_arg3) = A main_arg3
      ∧ r.2.mem ((c : Thread nD τ).loc main_arg4) = A main_arg4 ∧ r.2.mem ((c : Thread nD τ).loc main_arg5) = A main_arg5
      ∧ r.2.mem ((c : Thread nD τ).loc main_arg6) = A main_arg6 ∧ r.2.mem ((c : Thread nD τ).loc main_arg7) = A main_arg7 :=
  (θ_run defs _ _).mono (fun r h c => ⟨(h c).1.trans (Read.val_main_v140_eq _),
    (h c).2.1.trans (Read.val_main_v145_eq _), (h c).2.2.1.trans (Read.val_main_v148_eq _),
    (h c).2.2.2.1.trans (Read.val_main_v144_eq _), (h c).2.2.2.2⟩) (Value.run m' g')

/-- The reference runs, leaves its arguments as they were and ends with every counter at zero. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0 :=
  (θ_run defs _ _).mono (fun r h => ⟨fun c => (h c).2.2.2.2, Idealize.ShloMosaic.sem_eq_zero_of_no_sems (by decide) r.2⟩)
    (Value.run m ρ)

end Cert.PleRefIdeal.Whole
-- ==== Proof.Real.Lift.lean ====
/- Extended reals that are real: the operations of the ideal reading on coerced real numbers, and the literals the
   programs share. Every lemma rewrites an operation on coerced reals into one coerced real. -/
module

public import Idealize.ShloMosaic.Lib.Pointwise
public import Idealize.ShloMosaic.Lib.Pipeline.ValueKit

@[expose] public section

noncomputable section

namespace Cert.Lift

open Idealize.ShloMosaic

/-- The small constant under the square root of every norm: the float nearest 1e-6, as the exact rational. -/
def eps : ℝ := 8796093 / 2 ^ 43

theorem eps_pos : 0 < eps := by unfold eps; positivity

theorem up_add (a b : ℝ) : (a : EReal) + (b : EReal) = ((a + b : ℝ) : EReal) := (EReal.coe_add a b).symm

theorem up_mul (a b : ℝ) : (a : EReal) * (b : EReal) = ((a * b : ℝ) : EReal) := (EReal.coe_mul a b).symm

theorem up_sub (a b : ℝ) : (a : EReal) - (b : EReal) = ((a - b : ℝ) : EReal) := (EReal.coe_sub a b).symm

theorem up_one_sub (a : ℝ) : 1 - (a : EReal) = ((1 - a : ℝ) : EReal) := by rw [EReal.coe_sub, EReal.coe_one]

theorem up_neg (a : ℝ) : -(a : EReal) = ((-a : ℝ) : EReal) := (EReal.coe_neg a).symm

/-- A finite sum of reals is real. -/
theorem up_sum {ι : Type} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

theorem up_div (a : ℝ) {b : ℝ} (hb : b ≠ 0) : Ideal.div (a : EReal) (b : EReal) = ((a / b : ℝ) : EReal) := by
  rw [Ideal.div, if_neg (by exact_mod_cast hb), div_eq_mul_inv, EReal.coe_mul, EReal.coe_inv]

theorem up_rsqrt {a : ℝ} (ha : 0 < a) : Ideal.rsqrt (a : EReal) = (((Real.sqrt a)⁻¹ : ℝ) : EReal) := by
  rw [Ideal.rsqrt_coe, if_neg (not_lt.mpr ha.le), if_neg ha.ne']

/-- The logistic function. -/
def sig (a : ℝ) : ℝ := (1 + Real.exp (-a))⁻¹

theorem up_logistic (a : ℝ) : Ideal.logistic (a : EReal) = ((sig a : ℝ) : EReal) := Ideal.logistic_coe ..

theorem up_exp (a : ℝ) : Ideal.exp (a : EReal) = ((Real.exp a : ℝ) : EReal) := rfl

theorem up_one_add (a : ℝ) : 1 + (a : EReal) = ((1 + a : ℝ) : EReal) := by rw [EReal.coe_add, EReal.coe_one]

/-- The logistic function spelled with an exponential and a quotient. -/
theorem up_sig (a : ℝ) : Ideal.div 1 ((1 + Real.exp (-a) : ℝ) : EReal) = ((sig a : ℝ) : EReal) := by
  have h : (1 + Real.exp (-a)) ≠ 0 := by positivity
  rw [← EReal.coe_one, up_div 1 h, one_div, sig]

theorem lit_eps : Ideal.ofBits .f32 0x358637BD#32 = ((eps : ℝ) : EReal) := by
  simp [Ideal.ofBits, Ideal.ieee, eps]; rw [← EReal.coe_mul]; norm_num
theorem lit_1024 : Ideal.ofBits .f32 0x44800000#32 = ((1024 : ℝ) : EReal) := by
  simp [Ideal.ofBits, Ideal.ieee]; rw [← EReal.coe_mul]; norm_num
theorem lit_1 : Ideal.ofBits .f32 0x3F800000#32 = ((1 : ℝ) : EReal) := by
  simp [Ideal.ofBits, Ideal.ieee]; rw [← EReal.coe_mul]; norm_num
theorem lit_half : Ideal.ofBits .f32 0x3F000000#32 = ((1 / 2 : ℝ) : EReal) := by
  simp [Ideal.ofBits, Ideal.ieee]; rw [← EReal.coe_mul]; norm_num
theorem lit_neg_half : Ideal.ofBits .f32 0xBF000000#32 = ((-(1 / 2) : ℝ) : EReal) := by
  simp [Ideal.ofBits, Ideal.ieee]; rw [← EReal.coe_mul]; norm_num
theorem lit_inv_1024 : Ideal.ofBits .f32 0x3A800000#32 = ((1 / 1024 : ℝ) : EReal) := by
  simp [Ideal.ofBits, Ideal.ieee]; rw [← EReal.coe_mul]; norm_num
theorem lit_2 : Ideal.ofBits .f32 0x40000000#32 = ((2 : ℝ) : EReal) := by
  simp [Ideal.ofBits, Ideal.ieee]; rw [← EReal.coe_mul]; norm_num
theorem lit_0 : Ideal.ofBits .f32 0x00000000#32 = ((0 : ℝ) : EReal) := by
  simp [Ideal.ofBits, Ideal.ieee]

theorem up_div_1024 (a : ℝ) : Ideal.div (a : EReal) ((1024 : ℝ) : EReal) = ((a / 1024 : ℝ) : EReal) :=
  up_div a (by norm_num)

end Cert.Lift
-- ==== Proof.Real.Norm.lean ====
/- The root-mean-square norm of a row of real numbers and its gradient. -/
module

public import proofs.«01_k».proof.Proof.Real.Lift

@[expose] public section

noncomputable section

namespace Cert.Lift

variable {n : ℕ}

/-- The mean of the squares of a row. -/
def meanSq (v : Fin n → ℝ) : ℝ := (∑ k, v k * v k) / n

/-- One over the root mean square of a row. -/
def rinv (v : Fin n → ℝ) : ℝ := (Real.sqrt (meanSq v + eps))⁻¹

/-- The row divided by its root mean square, before the gain. -/
def unit (v : Fin n → ℝ) (l : Fin n) : ℝ := v l * rinv v

/-- The gradient of the norm with respect to its row, for the cotangent `dy` of the result already multiplied by the gain. -/
def rmsBack (v dy : Fin n → ℝ) (l : Fin n) : ℝ :=
  rinv v * (dy l - unit v l * ((∑ k, dy k * unit v k) / n))

theorem meanSq_eps_pos (v : Fin n → ℝ) : 0 < meanSq v + eps :=
  add_pos_of_nonneg_of_pos (div_nonneg (Finset.sum_nonneg fun k _ => mul_self_nonneg (v k)) (Nat.cast_nonneg n)) eps_pos

/-- The derivative of the inverse root: `r / (m + eps) = r ^ 3`. -/
theorem rinv_div (v : Fin n → ℝ) : rinv v / (meanSq v + eps) = rinv v * (rinv v * rinv v) := by
  have h := meanSq_eps_pos v
  rw [div_eq_mul_inv]
  congr 1
  unfold rinv
  rw [← mul_inv, Real.mul_self_sqrt h.le]

/-- The gradient as automatic differentiation writes it: the direct part, and twice the part through the mean of squares. -/
theorem rmsBack_chain (v dy : Fin n → ℝ) (l : Fin n) :
    dy l * rinv v + v l * ((∑ k, v k * dy k) * (-(1 / 2) * (rinv v / (meanSq v + eps))) / n)
      + (∑ k, v k * dy k) * (-(1 / 2) * (rinv v / (meanSq v + eps))) / n * v l = rmsBack v dy l := by
  have h : ∑ k, dy k * unit v k = rinv v * ∑ k, v k * dy k := by
    rw [Finset.mul_sum]; exact Finset.sum_congr rfl fun k _ => by unfold unit; ring
  rw [rinv_div, rmsBack, h, unit]
  ring

open Idealize.ShloMosaic in
/-- The norm's factor, as the ideal reading computes it on a row of 1024. -/
theorem up_rinv (v : Fin 1024 → ℝ) :
    Ideal.rsqrt (((∑ k, v k * v k) / 1024 + eps : ℝ) : EReal) = ((rinv v : ℝ) : EReal) := by
  have h : (∑ k, v k * v k) / 1024 + eps = meanSq v + eps := by simp [meanSq]
  rw [h, up_rsqrt (meanSq_eps_pos v), rinv]

open Idealize.ShloMosaic in
theorem up_div_meanSq (v : Fin n → ℝ) (a : ℝ) :
    Ideal.div (a : EReal) ((meanSq v + eps : ℝ) : EReal) = ((a / (meanSq v + eps) : ℝ) : EReal) :=
  up_div a (meanSq_eps_pos v).ne'

open Idealize.ShloMosaic in
theorem up_rsqrt_meanSq (v : Fin n → ℝ) :
    Ideal.rsqrt ((meanSq v + eps : ℝ) : EReal) = ((rinv v : ℝ) : EReal) := by
  rw [up_rsqrt (meanSq_eps_pos v), rinv]

end Cert.Lift
-- ==== Proof.Ple.Spec.lean ====
/- The per-layer embedding with its gated norm, the final norm and the squared loss, over real numbers: the forward
   values of one row, and their gradients. -/
module

public import proofs.«01_k».proof.Proof.Real.Norm

@[expose] public section

noncomputable section

namespace Cert.Ple.Spec

open Cert.Lift

/-- The weights: three gains, the gate's matrix, and the up projection with its four column blocks side by side. -/
structure Weights where
  gGate : Fin 1024 → ℝ
  gPost : Fin 1024 → ℝ
  gFinal : Fin 1024 → ℝ
  wGate : Fin 1024 → Fin 1024 → ℝ
  wUp : Fin 256 → Fin 1024 → ℝ

/-- One token: its hidden row, its embedding row, and its target. -/
structure Token where
  x : Fin 1024 → ℝ
  p : Fin 256 → ℝ
  t : Fin 1024 → ℝ

/-- Column `l` of column block `b`. -/
def col (b : Fin 4) (l : Fin 256) : Fin 1024 := ⟨b * 256 + l, by omega⟩

theorem col_eq (b : Fin 4) (l : Fin 1024) (l' : Fin 256) (h : b.val * 256 + l'.val = l.val) : col b l' = l := Fin.ext h

variable (w : Weights) (a : Token)

/-- The normed row the gate reads. -/
def h3 (l : Fin 1024) : ℝ := unit a.x l * w.gGate l
/-- The gate. -/
def gate (l : Fin 1024) : ℝ := sig (∑ k, h3 w a k * w.wGate k l)
/-- The projected embedding. -/
def pe (l : Fin 1024) : ℝ := ∑ k, a.p k * w.wUp k l
/-- The projected embedding after its norm. -/
def emb (l : Fin 1024) : ℝ := unit (pe w a) l * w.gPost l
/-- The hidden row with the gated embedding added. -/
def x3 (l : Fin 1024) : ℝ := a.x l + gate w a l * emb w a l
/-- The final norm minus the target. -/
def diff (l : Fin 1024) : ℝ := unit (x3 w a) l * w.gFinal l - a.t l
/-- The token's share of the loss. -/
def loss : ℝ := 1 / 2 * ((∑ k, diff w a k * diff w a k) / 1024)
/-- The cotangent of the final norm. -/
def dy (l : Fin 1024) : ℝ := diff w a l * (1 / 1024)
/-- The cotangent of `x3`. -/
def dx3 : Fin 1024 → ℝ := rmsBack (x3 w a) fun l => dy w a l * w.gFinal l
/-- The cotangent of the gated embedding's norm, before its gain. -/
def de (l : Fin 1024) : ℝ := dx3 w a l * gate w a l
/-- The cotangent of the projected embedding. -/
def dpe : Fin 1024 → ℝ := rmsBack (pe w a) fun l => de w a l * w.gPost l
/-- The cotangent of the gate's argument. -/
def dgl (l : Fin 1024) : ℝ := dx3 w a l * emb w a l * (gate w a l * (1 - gate w a l))
/-- The cotangent of the gate's normed row. -/
def dh3 (k : Fin 1024) : ℝ := ∑ l, dgl w a l * w.wGate k l
/-- The gradient of the hidden row. -/
def dx (l : Fin 1024) : ℝ := dx3 w a l + rmsBack a.x (fun k => dh3 w a k * w.gGate k) l
/-- The token's share of the gate gain's gradient. -/
def dgGate (l : Fin 1024) : ℝ := dh3 w a l * unit a.x l
/-- The token's share of the post gain's gradient. -/
def dgPost (l : Fin 1024) : ℝ := de w a l * unit (pe w a) l
/-- The token's share of the final gain's gradient. -/
def dgFinal (l : Fin 1024) : ℝ := dy w a l * unit (x3 w a) l

/-- The gains' gradients and the loss over some tokens, a row each, above rows of zeros. -/
def small {n : ℕ} (a : Fin n → Token) (b : Fin 8) (l : Fin 1024) : ℝ :=
  match b with
  | 0 => ∑ r, dgGate w (a r) l
  | 1 => ∑ r, dgPost w (a r) l
  | 2 => ∑ r, dgFinal w (a r) l
  | 3 => ∑ r, loss w (a r)
  | _ => 0

theorem small_rest {n : ℕ} (a : Fin n → Token) (b : Fin 8) (l : Fin 1024) (h : 4 ≤ b.val) : small w a b l = 0 := by
  unfold small
  split <;> simp_all

end Cert.Ple.Spec
-- ==== Proof.Ple.Payloads.lean ====
/- The kernel's values on a tile of 512 tokens: when what they are computed from is real, each is the real formula of
   `Cert.Ple.Spec` at its token. -/
module

public import proofs.«01_k».proof.Proof.Ple.Spec
public import proofs.«01_k».proof.Proof.Gen.PleIdeal.Skeleton

@[expose] public section

set_option maxRecDepth 16384

noncomputable section

namespace Cert.Ple.Payloads

open Idealize.ShloMosaic Idealize.ShloMosaic.TcCoe Idealize.SL.Sem
open Cert.PleIdeal Cert.PleIdeal.Gen Cert.Lift Cert.Ple.Spec

variable {w : Weights} {a : Fin 512 → Token}

section Forward
variable {x : Vec Ideal S512x1024 .f32} (hx : ∀ r l, x (ix2 r l) = (((a r).x l : ℝ) : EReal))
  {g : Vec Ideal S1x1024 .f32} (hg : ∀ z l, g (ix2 z l) = ((w.gGate l : ℝ) : EReal))
  {wg : Vec Ideal S1024x1024 .bf16} (hwg : ∀ k l, wg (ix2 k l) = ((w.wGate k l : ℝ) : EReal))
include hx

theorem pay13 (r : Fin 512) (z : Fin 1) : k0_pay13 x (ix2 r z) = ((rinv (a r).x : ℝ) : EReal) := by
  pointwise [k0_pay13]
  simp only [hx, up_mul, up_sum, lit_1024, lit_eps, up_div_1024, up_add, up_rinv]

theorem pay14 (r : Fin 512) (l : Fin 1024) : k0_pay14 x (ix2 r l) = ((unit (a r).x l : ℝ) : EReal) := by
  pointwise [k0_pay14]
  simp only [hx, pay13 hx, up_mul, unit]

include hg

theorem pay15 (r : Fin 512) (l : Fin 1024) : k0_pay15 x g (ix2 r l) = ((h3 w (a r) l : ℝ) : EReal) := by
  pointwise [k0_pay15]
  simp only [hg, pay14 hx, up_mul, h3]

include hwg

theorem pay16 (r : Fin 512) (l : Fin 1024) : k0_pay16 x g wg (ix2 r l) = ((gate w (a r) l : ℝ) : EReal) := by
  pointwise [k0_pay16]
  simp only [hwg, pay15 hx hg, up_mul, up_sum, up_logistic, gate]

end Forward

section Up
variable {p : Vec Ideal S512x256 .f32} (hp : ∀ r k, p (ix2 r k) = (((a r).p k : ℝ) : EReal))
include hp

theorem pay17 (r : Fin 512) (k : Fin 256) : k0_pay17 p (ix2 r k) = (((a r).p k : ℝ) : EReal) := by
  pointwise [k0_pay17]
  simp only [hp]

variable {u0 u1 u2 u3 : Vec Ideal S1x256x256 .bf16}
  (h0 : ∀ z k l, u0 (ix3 z k l) = ((w.wUp k (col 0 l) : ℝ) : EReal))
  (h1 : ∀ z k l, u1 (ix3 z k l) = ((w.wUp k (col 1 l) : ℝ) : EReal))
  (h2 : ∀ z k l, u2 (ix3 z k l) = ((w.wUp k (col 2 l) : ℝ) : EReal))
  (h3 : ∀ z k l, u3 (ix3 z k l) = ((w.wUp k (col 3 l) : ℝ) : EReal))
  {g : Vec Ideal S1x1024 .f32} (hg : ∀ z l, g (ix2 z l) = ((w.gPost l : ℝ) : EReal))
include h0 h1 h2 h3

theorem pay21 (r : Fin 512) (l : Fin 1024) :
    k0_pay21 (k0_pay17 p) (k0_pay18 p u0) (k0_pay19 p u1) (k0_pay20 u2)
      (constant S512x256 .f32 0x00000000#32) u3 (ix2 r l) = ((pe w (a r) l : ℝ) : EReal) := by
  pointwise [k0_pay21, k0_pay18, k0_pay19, k0_pay20]
  simp only [pay17 hp, h0, h1, h2, h3, up_mul, up_sum, pe]
  by_cases c0 : l.val < 256
  · rw [dif_pos c0, col_eq 0 l ⟨l, c0⟩ (by simp)]
  by_cases c1 : l.val - 256 < 256
  · rw [dif_neg c0, dif_pos c1, col_eq 1 l ⟨l - 256, c1⟩ (by simp; omega)]
  by_cases c2 : l.val - 256 - 256 < 256
  · rw [dif_neg c0, dif_neg c1, dif_pos c2, col_eq 2 l ⟨l - 256 - 256, c2⟩ (by simp; omega)]
  · rw [dif_neg c0, dif_neg c1, dif_neg c2, col_eq 3 l ⟨l - 256 - 256 - 256, by omega⟩ (by simp; omega)]

theorem pay22 (r : Fin 512) (z : Fin 1) :
    k0_pay22 (k0_pay17 p) (k0_pay18 p u0) (k0_pay19 p u1) (k0_pay20 u2)
      (constant S512x256 .f32 0x00000000#32) u3 (ix2 r z) = ((rinv (pe w (a r)) : ℝ) : EReal) := by
  pointwise [k0_pay22]
  simp only [pay21 hp h0 h1 h2 h3, up_mul, up_sum, lit_1024, lit_eps, up_div_1024, up_add, up_rinv]

theorem pay23 (r : Fin 512) (l : Fin 1024) :
    k0_pay23 (k0_pay17 p) (k0_pay18 p u0) (k0_pay19 p u1) (k0_pay20 u2)
      (constant S512x256 .f32 0x00000000#32) u3 (ix2 r l) = ((unit (pe w (a r)) l : ℝ) : EReal) := by
  pointwise [k0_pay23]
  simp only [pay21 hp h0 h1 h2 h3, pay22 hp h0 h1 h2 h3, up_mul, unit]

include hg

theorem pay24 (r : Fin 512) (l : Fin 1024) :
    k0_pay24 (k0_pay17 p) (k0_pay18 p u0) (k0_pay19 p u1) (k0_pay20 u2)
      (constant S512x256 .f32 0x00000000#32) u3 g (ix2 r l) = ((emb w (a r) l : ℝ) : EReal) := by
  pointwise [k0_pay24]
  simp only [pay23 hp h0 h1 h2 h3, hg, up_mul, emb]

variable {x : Vec Ideal S512x1024 .f32} (hx : ∀ r l, x (ix2 r l) = (((a r).x l : ℝ) : EReal))
  {q : FVec Ideal S512x1024 .f32} (hq : ∀ r l, q (ix2 r l) = ((gate w (a r) l : ℝ) : EReal))
  {f : Vec Ideal S1x1024 .f32} (hf : ∀ z l, f (ix2 z l) = ((w.gFinal l : ℝ) : EReal))
  {t : Vec Ideal S512x1024 .f32} (ht : ∀ r l, t (ix2 r l) = (((a r).t l : ℝ) : EReal))
include hx hq

theorem pay25 (r : Fin 512) (l : Fin 1024) :
    k0_pay25 x q (k0_pay17 p) (k0_pay18 p u0) (k0_pay19 p u1) (k0_pay20 u2)
      (constant S512x256 .f32 0x00000000#32) u3 g (ix2 r l) = ((x3 w (a r) l : ℝ) : EReal) := by
  pointwise [k0_pay25]
  simp only [pay24 hp h0 h1 h2 h3 hg, hx, hq, up_mul, up_add, x3]

theorem pay26 (r : Fin 512) (z : Fin 1) :
    k0_pay26 x q (k0_pay17 p) (k0_pay18 p u0) (k0_pay19 p u1) (k0_pay20 u2)
      (constant S512x256 .f32 0x00000000#32) u3 g (ix2 r z) = ((rinv (x3 w (a r)) : ℝ) : EReal) := by
  pointwise [k0_pay26]
  simp only [pay25 hp h0 h1 h2 h3 hg hx hq, up_mul, up_sum, lit_1024, lit_eps, up_div_1024, up_add, up_rinv]

theorem pay27 (r : Fin 512) (l : Fin 1024) :
    k0_pay27 x q (k0_pay17 p) (k0_pay18 p u0) (k0_pay19 p u1) (k0_pay20 u2)
      (constant S512x256 .f32 0x00000000#32) u3 g (ix2 r l) = ((unit (x3 w (a r)) l : ℝ) : EReal) := by
  pointwise [k0_pay27]
  simp only [pay25 hp h0 h1 h2 h3 hg hx hq, pay26 hp h0 h1 h2 h3 hg hx hq, up_mul, unit]

include hf ht

theorem pay28 (r : Fin 512) (l : Fin 1024) :
    k0_pay28 x q (k0_pay17 p) (k0_pay18 p u0) (k0_pay19 p u1) (k0_pay20 u2)
      (constant S512x256 .f32 0x00000000#32) u3 g f t (ix2 r l) = ((diff w (a r) l : ℝ) : EReal) := by
  pointwise [k0_pay28]
  simp only [pay27 hp h0 h1 h2 h3 hg hx hq, hf, ht, up_mul, up_sub, diff]

theorem pay30 (y z : Fin 1) :
    k0_pay30 (k0_pay29 x q (k0_pay17 p) (k0_pay18 p u0) (k0_pay19 p u1) (k0_pay20 u2)
      (constant S512x256 .f32 0x00000000#32) u3 g f t) (ix2 y z) = ((∑ r, loss w (a r) : ℝ) : EReal) := by
  pointwise [k0_pay30, k0_pay29]
  simp only [pay28 hp h0 h1 h2 h3 hg hx hq hf ht, up_mul, up_sum, lit_half, lit_inv_1024, loss]
  rw [Finset.mul_sum]
  simp only [div_eq_mul_inv, one_mul]

end Up

section Backward
variable {q r3 : FVec Ideal S512x1 .f32} {g u3 d up e : FVec Ideal S512x1024 .f32}
  (h3 : ∀ r z, r3 (ix2 r z) = ((rinv (x3 w (a r)) : ℝ) : EReal))
  (hu3 : ∀ r l, u3 (ix2 r l) = ((unit (x3 w (a r)) l : ℝ) : EReal))
  (hd : ∀ r l, d (ix2 r l) = ((diff w (a r) l : ℝ) : EReal))
  (hg : ∀ r l, g (ix2 r l) = ((gate w (a r) l : ℝ) : EReal))
  (hq : ∀ r z, q (ix2 r z) = ((rinv (pe w (a r)) : ℝ) : EReal))
  (hup : ∀ r l, up (ix2 r l) = ((unit (pe w (a r)) l : ℝ) : EReal))
  (he : ∀ r l, e (ix2 r l) = ((emb w (a r) l : ℝ) : EReal))
  {f : Vec Ideal S1x1024 .f32} (hf : ∀ z l, f (ix2 z l) = ((w.gFinal l : ℝ) : EReal))
  {o : Vec Ideal S1x1024 .f32} (ho : ∀ z l, o (ix2 z l) = ((w.gPost l : ℝ) : EReal))

include hd in
theorem pay31 (r : Fin 512) (l : Fin 1024) : k0_pay31 d (ix2 r l) = ((dy w (a r) l : ℝ) : EReal) := by
  pointwise [k0_pay31]
  simp only [hd, lit_inv_1024, up_mul, dy]

include hu3 hd in
theorem pay33 (z : Fin 1) (l : Fin 1024) :
    k0_pay33 u3 d (ix2 z l) = ((∑ r, dgFinal w (a r) l : ℝ) : EReal) := by
  pointwise [k0_pay33]
  simp only [pay31 hd, hu3, up_mul, up_sum, dgFinal]

include h3 hu3 hd hf

theorem pay32 (r : Fin 512) (l : Fin 1024) : k0_pay32 r3 u3 d f (ix2 r l) = ((dx3 w (a r) l : ℝ) : EReal) := by
  pointwise [k0_pay32]
  simp only [h3, hu3, pay31 hd, hf, up_mul, up_sum, lit_1024, up_div_1024, up_sub, rmsBack, Nat.cast_ofNat, dx3]

include hg

theorem pay34 (r : Fin 512) (l : Fin 1024) : k0_pay34 g r3 u3 d f (ix2 r l) = ((de w (a r) l : ℝ) : EReal) := by
  pointwise [k0_pay34]
  simp only [pay32 h3 hu3 hd hf, hg, up_mul, de]

include hup in
theorem pay36 (z : Fin 1) (l : Fin 1024) :
    k0_pay36 g up r3 u3 d f (ix2 z l) = ((∑ r, dgPost w (a r) l : ℝ) : EReal) := by
  pointwise [k0_pay36]
  simp only [pay34 h3 hu3 hd hg hf, hup, up_mul, up_sum, dgPost]

include hq hup ho in
theorem pay35 (r : Fin 512) (l : Fin 1024) :
    k0_pay35 g q up r3 u3 d f o (ix2 r l) = ((dpe w (a r) l : ℝ) : EReal) := by
  pointwise [k0_pay35]
  simp only [pay34 h3 hu3 hd hg hf, hq, hup, ho, up_mul, up_sum, lit_1024, up_div_1024, up_sub, rmsBack, Nat.cast_ofNat, dpe]

include he in
theorem pay37 (r : Fin 512) (l : Fin 1024) :
    k0_pay37 g e r3 u3 d f (ix2 r l) = ((dgl w (a r) l : ℝ) : EReal) := by
  pointwise [k0_pay37]
  simp only [pay32 h3 hu3 hd hf, hg, he, up_one_sub, up_mul, dgl, mul_assoc]

end Backward

section Products
variable {b : FVec Ideal S512x1024 .bf16} (hb : ∀ r l, b (ix2 r l) = ((dgl w (a r) l : ℝ) : EReal))
  {wg : Vec Ideal S1024x1024 .bf16} (hwg : ∀ k l, wg (ix2 k l) = ((w.wGate k l : ℝ) : EReal))

include hb in
theorem pay38 {n : FVec Ideal S512x1024 .bf16} (hn : ∀ r l, n (ix2 r l) = ((h3 w (a r) l : ℝ) : EReal))
    (acc : Vec Ideal S1024x1024 .f32) (k l : Fin 1024) :
    k0_pay38 n b acc (ix2 k l) = acc (ix2 k l) + ((∑ r, h3 w (a r) k * dgl w (a r) l : ℝ) : EReal) := by
  pointwise [k0_pay38]
  simp only [hn, hb, up_mul, up_sum]

theorem pay39 {p : FVec Ideal S512x256 .bf16} (hp : ∀ r k, p (ix2 r k) = (((a r).p k : ℝ) : EReal))
    {d : FVec Ideal S512x1024 .f32} (hd : ∀ r l, d (ix2 r l) = ((dpe w (a r) l : ℝ) : EReal))
    (acc : Vec Ideal S256x1024 .f32) (k : Fin 256) (l : Fin 1024) :
    k0_pay39 p d acc (ix2 k l) = acc (ix2 k l) + ((∑ r, (a r).p k * dpe w (a r) l : ℝ) : EReal) := by
  pointwise [k0_pay39]
  simp only [hp, hd, up_mul, up_sum]

include hb hwg

theorem pay40 (r : Fin 512) (l : Fin 1024) : k0_pay40 b wg (ix2 r l) = ((dh3 w (a r) l : ℝ) : EReal) := by
  pointwise [k0_pay40]
  simp only [hb, hwg, up_mul, up_sum, dh3]

variable {n : FVec Ideal S512x1024 .f32} (hn : ∀ r l, n (ix2 r l) = ((unit (a r).x l : ℝ) : EReal))
include hn

theorem pay41 (z : Fin 1) (l : Fin 1024) : k0_pay41 n b wg (ix2 z l) = ((∑ r, dgGate w (a r) l : ℝ) : EReal) := by
  pointwise [k0_pay41]
  simp only [pay40 hb hwg, hn, up_mul, up_sum, dgGate]

theorem pay42 {i : FVec Ideal S512x1 .f32} (hi : ∀ r z, i (ix2 r z) = ((rinv (a r).x : ℝ) : EReal))
    {d : FVec Ideal S512x1024 .f32} (hd : ∀ r l, d (ix2 r l) = ((dx3 w (a r) l : ℝ) : EReal))
    {g : Vec Ideal S1x1024 .f32} (hg : ∀ z l, g (ix2 z l) = ((w.gGate l : ℝ) : EReal)) (r : Fin 512) (l : Fin 1024) :
    k0_pay42 i n d b wg g (ix2 r l) = ((dx w (a r) l : ℝ) : EReal) := by
  pointwise [k0_pay42]
  simp only [pay40 hb hwg, hn, hi, hd, hg, up_mul, up_sum, lit_1024, up_div_1024, up_sub, up_add, rmsBack, Nat.cast_ofNat, dx]

end Products

end Cert.Ple.Payloads
-- ==== Proof.Ple.Blocks.lean ====
/- What the kernel reads at a grid point: the tile's tokens and the weights, when the arguments are real. -/
module

public import proofs.«01_k».proof.Proof.Ple.Payloads
public import proofs.«01_k».proof.Proof.Gen.PleIdeal.Value
public import Idealize.ShloMosaic.Lib.Pipeline.ValueKit
public import Idealize.ShloMosaic.Lib.Claim

@[expose] public section

set_option maxRecDepth 16384

noncomputable section

namespace Cert.Ple.Kernel

open Idealize.ShloMosaic Idealize.ShloMosaic.TcCoe Idealize.SL.Sem
open Idealize.ShloMosaic.Pipeline (Dat)
open Cert.PleIdeal Cert.PleIdeal.Gen Cert.Lift Cert.Ple.Spec

variable (m : (ℓ : Loc nD τ sig) → Buf (Elt Ideal) ℓ) (c : Dev nD)

/-- Device `c`'s arguments hold the real weights `w` and the real tokens `a`. -/
structure Holds (w : Weights) (a : Fin 4096 → Token) : Prop where
  x : ∀ r l, m ((c : Thread nD τ).loc main_arg0) (ix2 r l) = (((a r).x l : ℝ) : EReal)
  p : ∀ r k, m ((c : Thread nD τ).loc main_arg1) (ix2 r k) = (((a r).p k : ℝ) : EReal)
  gGate : ∀ z l, m ((c : Thread nD τ).loc main_arg2) (ix2 z l) = ((w.gGate l : ℝ) : EReal)
  wGate : ∀ k l, m ((c : Thread nD τ).loc main_arg3) (ix2 k l) = ((w.wGate k l : ℝ) : EReal)
  wUp : ∀ k l, m ((c : Thread nD τ).loc main_arg4) (ix2 k l) = ((w.wUp k l : ℝ) : EReal)
  gPost : ∀ z l, m ((c : Thread nD τ).loc main_arg5) (ix2 z l) = ((w.gPost l : ℝ) : EReal)
  gFinal : ∀ l, m ((c : Thread nD τ).loc main_arg6) (ix1 l) = ((w.gFinal l : ℝ) : EReal)
  t : ∀ r l, m ((c : Thread nD τ).loc main_arg7) (ix2 r l) = (((a r).t l : ℝ) : EReal)

/-- The tokens of tile `j`. -/
def tile (a : Fin 4096 → Token) (j : ℕ) (r : Fin 512) : Token := a ⟨(j * 512 + r) % 4096, Nat.mod_lt _ (by norm_num)⟩

theorem tile_eq (a : Fin 4096 → Token) (j : ℕ) (r : Fin 512) (i : Fin 4096) (h : i.val = j * 512 + r.val) : tile a j r = a i :=
  congrArg a (Fin.ext (by simp only [← h, Nat.mod_eq_of_lt i.isLt]))

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0, 0] ∧ win0_8.index t = ![t.val, 0] :=
  (by decide +kernel : ∀ t : Fin grid0.N, _)

variable {m c} {w : Weights} {a : Fin 4096 → Token} (H : Holds m c w a) (t : Fin cfg0.N)
include H

theorem lt8 (t : Fin cfg0.N) : t.val < 8 := t.isLt.trans_eq N_0

theorem blk0 (r : Fin 512) (l : Fin 1024) : iblk m c 0 t (ix2 r l) = (((tile a t r).x l : ℝ) : EReal) := by
  have ht := t.isLt.trans_eq N_0
  rw [tile_eq a t r ⟨t.val * 512 + r.val, by omega⟩ rfl, ← H.x]
  blk_ext [iblk, V, idx t]

theorem blk1 (r : Fin 512) (l : Fin 256) : iblk m c 1 t (ix2 r l) = (((tile a t r).p l : ℝ) : EReal) := by
  have ht := t.isLt.trans_eq N_0
  rw [tile_eq a t r ⟨t.val * 512 + r.val, by omega⟩ rfl, ← H.p]
  blk_ext [iblk, V, idx t]

theorem blk2 (r : Fin 512) (l : Fin 1024) : iblk m c 2 t (ix2 r l) = (((tile a t r).t l : ℝ) : EReal) := by
  have ht := t.isLt.trans_eq N_0
  rw [tile_eq a t r ⟨t.val * 512 + r.val, by omega⟩ rfl, ← H.t]
  blk_ext [iblk, V, idx t]

theorem blk3 (z : Fin 1) (l : Fin 1024) : iblk m c 3 t (ix2 z l) = ((w.gGate l : ℝ) : EReal) := by
  rw [← H.gGate z]
  blk_ext [iblk, V, idx t]

theorem blk4 (z : Fin 1) (l : Fin 1024) : iblk m c 4 t (ix2 z l) = ((w.gPost l : ℝ) : EReal) := by
  rw [← H.gPost z]
  blk_ext [iblk, V, idx t]

theorem blk5 (z : Fin 1) (l : Fin 1024) : iblk m c 5 t (ix2 z l) = ((w.gFinal l : ℝ) : EReal) := by
  rw [← H.gFinal]
  blk_ext! [iblk, V, idx t]

theorem blk6 (k : Fin 1024) (l : Fin 1024) : iblk m c 6 t (ix2 k l) = ((w.wGate k l : ℝ) : EReal) := by
  rw [← H.wGate]
  blk_ext! [iblk, V, idx t]

theorem blk7 (b : Fin 4) (k : Fin 256) (l : Fin 256) : iblk m c 7 t (ix3 b k l) = ((w.wUp k (col b l) : ℝ) : EReal) := by
  rw [← H.wUp]
  blk_ext! [iblk, V, idx t]
  rfl

end Cert.Ple.Kernel
-- ==== Proof.Ple.Tile.lean ====
/- The values a grid point computes from its tile, each the real formula at the tile's tokens. -/
module

public import proofs.«01_k».proof.Proof.Ple.Blocks

@[expose] public section

set_option maxRecDepth 16384

noncomputable section

namespace Cert.Ple.Kernel

open Idealize.ShloMosaic Idealize.ShloMosaic.TcCoe Idealize.SL.Sem
open Cert.PleIdeal Cert.PleIdeal.Gen Cert.Lift Cert.Ple.Spec Cert.Ple.Payloads

variable (m : (ℓ : Loc nD τ sig) → Buf (Elt Ideal) ℓ) (c : Dev nD) (t : Fin cfg0.N)

/-- The four column blocks of the up projection. -/
abbrev up0 : Vec Ideal S1x256x256 .bf16 := View.ld (iblk m c 7 t) (Rect.unit ![0, 0, 0] ![1, 256, 256] inb_S4x256x256_S1x256x256_0_0_0)
abbrev up1 : Vec Ideal S1x256x256 .bf16 := View.ld (iblk m c 7 t) (Rect.unit ![1, 0, 0] ![1, 256, 256] inb_S4x256x256_S1x256x256_1_0_0)
abbrev up2 : Vec Ideal S1x256x256 .bf16 := View.ld (iblk m c 7 t) (Rect.unit ![2, 0, 0] ![1, 256, 256] inb_S4x256x256_S1x256x256_2_0_0)
abbrev up3 : Vec Ideal S1x256x256 .bf16 := View.ld (iblk m c 7 t) (Rect.unit ![3, 0, 0] ![1, 256, 256] inb_S4x256x256_S1x256x256_3_0_0)

abbrev zero256 : FVec Ideal S512x256 .f32 := constant S512x256 .f32 0x00000000#32
abbrev kGate : FVec Ideal S512x1024 .f32 := k0_pay16 (iblk m c 0 t) (iblk m c 3 t) (iblk m c 6 t)
abbrev kP : FVec Ideal S512x256 .bf16 := k0_pay17 (iblk m c 1 t)
abbrev kPeInv : FVec Ideal S512x1 .f32 :=
  k0_pay22 (kP m c t) (k0_pay18 (iblk m c 1 t) (up0 m c t)) (k0_pay19 (iblk m c 1 t) (up1 m c t)) (k0_pay20 (up2 m c t))
    zero256 (up3 m c t)
abbrev kPeUnit : FVec Ideal S512x1024 .f32 :=
  k0_pay23 (kP m c t) (k0_pay18 (iblk m c 1 t) (up0 m c t)) (k0_pay19 (iblk m c 1 t) (up1 m c t)) (k0_pay20 (up2 m c t))
    zero256 (up3 m c t)
abbrev kEmb : FVec Ideal S512x1024 .f32 :=
  k0_pay24 (kP m c t) (k0_pay18 (iblk m c 1 t) (up0 m c t)) (k0_pay19 (iblk m c 1 t) (up1 m c t)) (k0_pay20 (up2 m c t))
    zero256 (up3 m c t) (iblk m c 4 t)
abbrev kInv3 : FVec Ideal S512x1 .f32 :=
  k0_pay26 (iblk m c 0 t) (kGate m c t) (kP m c t) (k0_pay18 (iblk m c 1 t) (up0 m c t)) (k0_pay19 (iblk m c 1 t) (up1 m c t))
    (k0_pay20 (up2 m c t)) zero256 (up3 m c t) (iblk m c 4 t)
abbrev kUnit3 : FVec Ideal S512x1024 .f32 :=
  k0_pay27 (iblk m c 0 t) (kGate m c t) (kP m c t) (k0_pay18 (iblk m c 1 t) (up0 m c t)) (k0_pay19 (iblk m c 1 t) (up1 m c t))
    (k0_pay20 (up2 m c t)) zero256 (up3 m c t) (iblk m c 4 t)
abbrev kDiff : FVec Ideal S512x1024 .f32 :=
  k0_pay28 (iblk m c 0 t) (kGate m c t) (kP m c t) (k0_pay18 (iblk m c 1 t) (up0 m c t)) (k0_pay19 (iblk m c 1 t) (up1 m c t))
    (k0_pay20 (up2 m c t)) zero256 (up3 m c t) (iblk m c 4 t) (iblk m c 5 t) (iblk m c 2 t)
abbrev kDgl : FVec Ideal S512x1024 .bf16 :=
  k0_pay37 (kGate m c t) (kEmb m c t) (kInv3 m c t) (kUnit3 m c t) (kDiff m c t) (iblk m c 5 t)
abbrev kDpe : FVec Ideal S512x1024 .f32 :=
  k0_pay35 (kGate m c t) (kPeInv m c t) (kPeUnit m c t) (kInv3 m c t) (kUnit3 m c t) (kDiff m c t) (iblk m c 5 t) (iblk m c 4 t)
abbrev kDx3 : FVec Ideal S512x1024 .f32 := k0_pay32 (kInv3 m c t) (kUnit3 m c t) (kDiff m c t) (iblk m c 5 t)

variable {m c t} {w : Weights} {a : Fin 4096 → Token} (H : Holds m c w a)
include H

theorem up0_eq (z : Fin 1) (k l : Fin 256) : up0 m c t (ix3 z k l) = ((w.wUp k (col 0 l) : ℝ) : EReal) := by
  rw [← blk7 H t 0 k l]
  refine congrArg (iblk m c 7 t) (funext fun x => Fin.ext ?_)
  fin_cases x
  · show 0 + 1 * z.val = 0; omega
  · show 0 + 1 * k.val = k.val; omega
  · show 0 + 1 * l.val = l.val; omega

theorem up1_eq (z : Fin 1) (k l : Fin 256) : up1 m c t (ix3 z k l) = ((w.wUp k (col 1 l) : ℝ) : EReal) := by
  rw [← blk7 H t 1 k l]
  refine congrArg (iblk m c 7 t) (funext fun x => Fin.ext ?_)
  fin_cases x
  · show 1 + 1 * z.val = 1; omega
  · show 0 + 1 * k.val = k.val; omega
  · show 0 + 1 * l.val = l.val; omega

theorem up2_eq (z : Fin 1) (k l : Fin 256) : up2 m c t (ix3 z k l) = ((w.wUp k (col 2 l) : ℝ) : EReal) := by
  rw [← blk7 H t 2 k l]
  refine congrArg (iblk m c 7 t) (funext fun x => Fin.ext ?_)
  fin_cases x
  · show 2 + 1 * z.val = 2; omega
  · show 0 + 1 * k.val = k.val; omega
  · show 0 + 1 * l.val = l.val; omega

theorem up3_eq (z : Fin 1) (k l : Fin 256) : up3 m c t (ix3 z k l) = ((w.wUp k (col 3 l) : ℝ) : EReal) := by
  rw [← blk7 H t 3 k l]
  refine congrArg (iblk m c 7 t) (funext fun x => Fin.ext ?_)
  fin_cases x
  · show 3 + 1 * z.val = 3; omega
  · show 0 + 1 * k.val = k.val; omega
  · show 0 + 1 * l.val = l.val; omega

theorem kInv_eq (r z) : k0_pay13 (iblk m c 0 t) (ix2 r z) = ((rinv (tile a t r).x : ℝ) : EReal) := pay13 (blk0 H t) r z
theorem kUnit_eq (r l) : k0_pay14 (iblk m c 0 t) (ix2 r l) = ((unit (tile a t r).x l : ℝ) : EReal) := pay14 (blk0 H t) r l
theorem kH3_eq (r l) : k0_pay15 (iblk m c 0 t) (iblk m c 3 t) (ix2 r l) = ((h3 w (tile a t r) l : ℝ) : EReal) :=
  pay15 (blk0 H t) (blk3 H t) r l
theorem kGate_eq (r l) : kGate m c t (ix2 r l) = ((gate w (tile a t r) l : ℝ) : EReal) :=
  pay16 (blk0 H t) (blk3 H t) (blk6 H t) r l
theorem kP_eq (r k) : kP m c t (ix2 r k) = (((tile a t r).p k : ℝ) : EReal) := pay17 (blk1 H t) r k
theorem kPeInv_eq (r z) : kPeInv m c t (ix2 r z) = ((rinv (pe w (tile a t r)) : ℝ) : EReal) :=
  pay22 (blk1 H t) (up0_eq H) (up1_eq H) (up2_eq H) (up3_eq H) r z
theorem kPeUnit_eq (r l) : kPeUnit m c t (ix2 r l) = ((unit (pe w (tile a t r)) l : ℝ) : EReal) :=
  pay23 (blk1 H t) (up0_eq H) (up1_eq H) (up2_eq H) (up3_eq H) r l
theorem kEmb_eq (r l) : kEmb m c t (ix2 r l) = ((emb w (tile a t r) l : ℝ) : EReal) :=
  pay24 (blk1 H t) (up0_eq H) (up1_eq H) (up2_eq H) (up3_eq H) (blk4 H t) r l
theorem kInv3_eq (r z) : kInv3 m c t (ix2 r z) = ((rinv (x3 w (tile a t r)) : ℝ) : EReal) :=
  pay26 (blk1 H t) (up0_eq H) (up1_eq H) (up2_eq H) (up3_eq H) (blk4 H t) (blk0 H t) (kGate_eq H) r z
theorem kUnit3_eq (r l) : kUnit3 m c t (ix2 r l) = ((unit (x3 w (tile a t r)) l : ℝ) : EReal) :=
  pay27 (blk1 H t) (up0_eq H) (up1_eq H) (up2_eq H) (up3_eq H) (blk4 H t) (blk0 H t) (kGate_eq H) r l
theorem kDiff_eq (r l) : kDiff m c t (ix2 r l) = ((diff w (tile a t r) l : ℝ) : EReal) :=
  pay28 (blk1 H t) (up0_eq H) (up1_eq H) (up2_eq H) (up3_eq H) (blk4 H t) (blk0 H t) (kGate_eq H) (blk5 H t) (blk2 H t) r l
theorem kLoss_eq (y z) : k0_pay30 (k0_pay29 (iblk m c 0 t) (kGate m c t) (kP m c t) (k0_pay18 (iblk m c 1 t) (up0 m c t))
      (k0_pay19 (iblk m c 1 t) (up1 m c t)) (k0_pay20 (up2 m c t)) zero256 (up3 m c t) (iblk m c 4 t) (iblk m c 5 t)
      (iblk m c 2 t)) (ix2 y z) = ((∑ r, loss w (tile a t r) : ℝ) : EReal) :=
  pay30 (blk1 H t) (up0_eq H) (up1_eq H) (up2_eq H) (up3_eq H) (blk4 H t) (blk0 H t) (kGate_eq H) (blk5 H t) (blk2 H t) y z
theorem kDgl_eq (r l) : kDgl m c t (ix2 r l) = ((dgl w (tile a t r) l : ℝ) : EReal) :=
  pay37 (kInv3_eq H) (kUnit3_eq H) (kDiff_eq H) (kGate_eq H) (kEmb_eq H) (blk5 H t) r l
theorem kDpe_eq (r l) : kDpe m c t (ix2 r l) = ((dpe w (tile a t r) l : ℝ) : EReal) :=
  pay35 (kInv3_eq H) (kUnit3_eq H) (kDiff_eq H) (kGate_eq H) (kPeInv_eq H) (kPeUnit_eq H) (blk5 H t) (blk4 H t) r l
theorem kDx3_eq (r l) : kDx3 m c t (ix2 r l) = ((dx3 w (tile a t r) l : ℝ) : EReal) :=
  pay32 (kInv3_eq H) (kUnit3_eq H) (kDiff_eq H) (blk5 H t) r l

/-- The four rows a grid point adds to the small gradients. -/
theorem kSmall0 (z l) : k0_pay41 (k0_pay14 (iblk m c 0 t)) (kDgl m c t) (iblk m c 6 t) (ix2 z l)
    = ((∑ r, dgGate w (tile a t r) l : ℝ) : EReal) := pay41 (kDgl_eq H) (blk6 H t) (kUnit_eq H) z l
theorem kSmall1 (z l) : k0_pay36 (kGate m c t) (kPeUnit m c t) (kInv3 m c t) (kUnit3 m c t) (kDiff m c t) (iblk m c 5 t) (ix2 z l)
    = ((∑ r, dgPost w (tile a t r) l : ℝ) : EReal) :=
  pay36 (kInv3_eq H) (kUnit3_eq H) (kDiff_eq H) (kGate_eq H) (kPeUnit_eq H) (blk5 H t) z l
theorem kSmall2 (z l) : k0_pay33 (kUnit3 m c t) (kDiff m c t) (ix2 z l) = ((∑ r, dgFinal w (tile a t r) l : ℝ) : EReal) :=
  pay33 (kUnit3_eq H) (kDiff_eq H) z l

end Cert.Ple.Kernel
-- ==== Proof.Real.Rows.lean ====
/- Reads at one entry of a buffer written a row, a column block or a plane at a time. -/
module

public import Idealize.ShloMosaic.Lib.Pipeline.ValueKit
public import Idealize.ShloMosaic.Lib.Pipeline.ReadBack
public import Idealize.ShloMosaic.Lib.WritesUnit

@[expose] public section

noncomputable section

namespace Cert.Rows

open Idealize.ShloMosaic Idealize.ShloMosaic.View

variable {sig : RefSig} {κ : Kind} {sp : Space} {e : EltTy} {Val : EltTy → Type} {m n : ℕ}

/-- One row stored last: it is read where the row is its own, and the older writes elsewhere. -/
theorem read_row (v : View sig κ sp (⟨2, ![m, n]⟩ : Shape) e) (f : v.ty.Contents Val) (o : ℕ)
    (inb : ∀ a : Fin 2, (![o, 0] : Fin 2 → ℕ) a + (![1, n] : Fin 2 → ℕ) a ≤ (![m, n] : Fin 2 → ℕ) a)
    (w : (⟨2, ![1, n]⟩ : Shape).Idx → Val e) (L : List (Piece Val (⟨2, ![m, n]⟩ : Shape) e)) (k : Fin m) (l : Fin n) :
    v.read Val (v.writes Val f ((⟨Rect.unit (s := ⟨2, ![m, n]⟩) ![o, 0] ![1, n] inb, w⟩ :
        Piece Val (⟨2, ![m, n]⟩ : Shape) e) :: L)) (ix2 k l)
      = if k.val = o then w (ix2 (0 : Fin 1) l) else v.read Val (v.writes Val f L) (ix2 k l) := by
  split
  · next h => exact View.read_writes_cons_rows_of_mem v f inb w L (ix2 k l) (ix2 (0 : Fin 1) l) rfl (by simpa using h) (by simp)
  · next h =>
    exact View.read_writes_cons_rows_of_not_mem (W := 1) v f inb w L (ix2 k l) rfl rfl
      (by show k.val < o ∨ o + 1 ≤ k.val; omega)

/-- The same of the closed form of a list of writes. -/
theorem canon_row [∀ e, Nonempty (Val e)] (o : ℕ)
    (inb : ∀ a : Fin 2, (![o, 0] : Fin 2 → ℕ) a + (![1, n] : Fin 2 → ℕ) a ≤ (![m, n] : Fin 2 → ℕ) a)
    (w : (⟨2, ![1, n]⟩ : Shape).Idx → Val e) (L : List (Piece Val (⟨2, ![m, n]⟩ : Shape) e)) (k : Fin m) (l : Fin n) :
    View.canon ((⟨Rect.unit (s := ⟨2, ![m, n]⟩) ![o, 0] ![1, n] inb, w⟩ : Piece Val (⟨2, ![m, n]⟩ : Shape) e) :: L) (ix2 k l)
      = if k.val = o then w (ix2 (0 : Fin 1) l) else View.canon L (ix2 k l) := by
  split
  · next h =>
    have he : (Rect.unit (s := ⟨2, ![m, n]⟩) ![o, 0] ![1, n] inb).emb (ix2 (0 : Fin 1) l) = ix2 k l := by
      funext x; apply Fin.ext
      fin_cases x
      · show o + 1 * 0 = k.val; omega
      · show 0 + 1 * l.val = l.val; omega
    rw [← he]
    exact View.canon_cons_emb (Rect.unit (s := ⟨2, ![m, n]⟩) ![o, 0] ![1, n] inb) w L _
  · next h =>
    refine View.canon_cons_of_not_mem _ L ?_
    intro hm
    obtain ⟨i, hi, he⟩ := (LoadRect.mem_set _).mp hm (0 : Fin 2)
    have hi1 : i < 1 := hi
    have he' : k.val = o + 1 * i := he
    omega

/-- A load of one row. -/
theorem ld_row (X : (⟨2, ![m, n]⟩ : Shape).Idx → Val e) (o : Fin m)
    (inb : ∀ a : Fin 2, (![o.val, 0] : Fin 2 → ℕ) a + (![1, n] : Fin 2 → ℕ) a ≤ (![m, n] : Fin 2 → ℕ) a) (z : Fin 1) (l : Fin n) :
    View.ld X (Rect.unit (s := ⟨2, ![m, n]⟩) ![o.val, 0] ![1, n] inb) (ix2 z l) = X (ix2 o l) := by
  refine congrArg X (funext fun x => Fin.ext ?_)
  fin_cases x
  · show o.val + 1 * z.val = o.val; omega
  · show 0 + 1 * l.val = l.val; omega

/-- One plane stored last, of a buffer of planes. -/
theorem canon_plane [∀ e, Nonempty (Val e)] {p : ℕ} (o : ℕ)
    (inb : ∀ a : Fin 3, (![o, 0, 0] : Fin 3 → ℕ) a + (![1, m, n] : Fin 3 → ℕ) a ≤ (![p, m, n] : Fin 3 → ℕ) a)
    (w : (⟨3, ![1, m, n]⟩ : Shape).Idx → Val e) (L : List (Piece Val (⟨3, ![p, m, n]⟩ : Shape) e)) (b : Fin p) (k : Fin m) (l : Fin n) :
    View.canon ((⟨Rect.unit (s := ⟨3, ![p, m, n]⟩) ![o, 0, 0] ![1, m, n] inb, w⟩ :
        Piece Val (⟨3, ![p, m, n]⟩ : Shape) e) :: L) (ix3 b k l)
      = if b.val = o then w (ix3 (0 : Fin 1) k l) else View.canon L (ix3 b k l) := by
  split
  · next h =>
    have he : (Rect.unit (s := ⟨3, ![p, m, n]⟩) ![o, 0, 0] ![1, m, n] inb).emb (ix3 (0 : Fin 1) k l) = ix3 b k l := by
      funext x; apply Fin.ext
      fin_cases x
      · show o + 1 * 0 = b.val; omega
      · show 0 + 1 * k.val = k.val; omega
      · show 0 + 1 * l.val = l.val; omega
    rw [← he]
    exact View.canon_cons_emb (Rect.unit (s := ⟨3, ![p, m, n]⟩) ![o, 0, 0] ![1, m, n] inb) w L _
  · next h =>
    refine View.canon_cons_of_not_mem _ L ?_
    intro hm
    obtain ⟨i, hi, he⟩ := (LoadRect.mem_set _).mp hm (0 : Fin 3)
    have hi1 : i < 1 := hi
    have he' : b.val = o + 1 * i := he
    omega

/-- A block stored last, of a buffer with two coordinates: it is read at its own places, and the older writes elsewhere. -/
theorem read_block (v : View sig κ sp (⟨2, ![m, n]⟩ : Shape) e) (f : v.ty.Contents Val) (o p a b : ℕ)
    (inb : ∀ x : Fin 2, (![o, p] : Fin 2 → ℕ) x + (![a, b] : Fin 2 → ℕ) x ≤ (![m, n] : Fin 2 → ℕ) x)
    (w : (⟨2, ![a, b]⟩ : Shape).Idx → Val e) (L : List (Piece Val (⟨2, ![m, n]⟩ : Shape) e)) (k : Fin m) (l : Fin n) :
    v.read Val (v.writes Val f ((⟨Rect.unit (s := ⟨2, ![m, n]⟩) ![o, p] ![a, b] inb, w⟩ :
        Piece Val (⟨2, ![m, n]⟩ : Shape) e) :: L)) (ix2 k l)
      = if h : (o ≤ k.val ∧ k.val < o + a) ∧ p ≤ l.val ∧ l.val < p + b
        then w (ix2 ⟨k.val - o, by omega⟩ ⟨l.val - p, by omega⟩) else v.read Val (v.writes Val f L) (ix2 k l) := by
  split
  · next h =>
    refine View.read_writes_cons_hit v f (Rect.unit (s := ⟨2, ![m, n]⟩) ![o, p] ![a, b] inb) w L _ _ (funext fun x => Fin.ext ?_)
    fin_cases x
    · show o + 1 * (k.val - o) = k.val; omega
    · show p + 1 * (l.val - p) = l.val; omega
  · next h =>
    refine View.read_writes_cons_miss v f _ L _ fun hm => h ?_
    obtain ⟨i, hi, he⟩ := (LoadRect.mem_set _).mp hm (0 : Fin 2)
    obtain ⟨j, hj, he'⟩ := (LoadRect.mem_set _).mp hm (1 : Fin 2)
    have hi1 : i < a := hi
    have hj1 : j < b := hj
    have ei : k.val = o + 1 * i := he
    have ej : l.val = p + 1 * j := he'
    omega

/-- The same of the closed form of a list of writes. -/
theorem canon_block [∀ e, Nonempty (Val e)] (o p a b : ℕ)
    (inb : ∀ x : Fin 2, (![o, p] : Fin 2 → ℕ) x + (![a, b] : Fin 2 → ℕ) x ≤ (![m, n] : Fin 2 → ℕ) x)
    (w : (⟨2, ![a, b]⟩ : Shape).Idx → Val e) (L : List (Piece Val (⟨2, ![m, n]⟩ : Shape) e)) (k : Fin m) (l : Fin n) :
    View.canon ((⟨Rect.unit (s := ⟨2, ![m, n]⟩) ![o, p] ![a, b] inb, w⟩ : Piece Val (⟨2, ![m, n]⟩ : Shape) e) :: L) (ix2 k l)
      = if h : (o ≤ k.val ∧ k.val < o + a) ∧ p ≤ l.val ∧ l.val < p + b
        then w (ix2 ⟨k.val - o, by omega⟩ ⟨l.val - p, by omega⟩) else View.canon L (ix2 k l) := by
  split
  · next h =>
    have he : (Rect.unit (s := ⟨2, ![m, n]⟩) ![o, p] ![a, b] inb).emb (ix2 ⟨k.val - o, by omega⟩ ⟨l.val - p, by omega⟩)
        = ix2 k l := by
      funext x; apply Fin.ext
      fin_cases x
      · show o + 1 * (k.val - o) = k.val; omega
      · show p + 1 * (l.val - p) = l.val; omega
    conv_lhs => rw [← he]
    exact View.canon_cons_emb (Rect.unit (s := ⟨2, ![m, n]⟩) ![o, p] ![a, b] inb) w L _
  · next h =>
    refine View.canon_cons_of_not_mem _ L fun hm => h ?_
    obtain ⟨i, hi, he⟩ := (LoadRect.mem_set _).mp hm (0 : Fin 2)
    obtain ⟨j, hj, he'⟩ := (LoadRect.mem_set _).mp hm (1 : Fin 2)
    have hi1 : i < a := hi
    have hj1 : j < b := hj
    have ei : k.val = o + 1 * i := he
    have ej : l.val = p + 1 * j := he'
    omega

/-- A load of a block. -/
theorem ld_block (X : (⟨2, ![m, n]⟩ : Shape).Idx → Val e) (o p a b : ℕ)
    (inb : ∀ x : Fin 2, (![o, p] : Fin 2 → ℕ) x + (![a, b] : Fin 2 → ℕ) x ≤ (![m, n] : Fin 2 → ℕ) x) (k : Fin a) (l : Fin b)
    (k' : Fin m) (l' : Fin n) (hk : k'.val = o + k.val) (hl : l'.val = p + l.val) :
    View.ld X (Rect.unit (s := ⟨2, ![m, n]⟩) ![o, p] ![a, b] inb) (ix2 k l) = X (ix2 k' l') := by
  refine congrArg X (funext fun x => Fin.ext ?_)
  fin_cases x
  · show o + 1 * k.val = k'.val; omega
  · show p + 1 * l.val = l'.val; omega

/-- A load of a plane. -/
theorem ld_plane {p : ℕ} (X : (⟨3, ![p, m, n]⟩ : Shape).Idx → Val e) (o : ℕ)
    (inb : ∀ a : Fin 3, (![o, 0, 0] : Fin 3 → ℕ) a + (![1, m, n] : Fin 3 → ℕ) a ≤ (![p, m, n] : Fin 3 → ℕ) a)
    (z : Fin 1) (k : Fin m) (l : Fin n) (b : Fin p) (hb : b.val = o) :
    View.ld X (Rect.unit (s := ⟨3, ![p, m, n]⟩) ![o, 0, 0] ![1, m, n] inb) (ix3 z k l) = X (ix3 b k l) := by
  refine congrArg X (funext fun x => Fin.ext ?_)
  fin_cases x
  · show o + 1 * z.val = b.val; omega
  · show 0 + 1 * k.val = k.val; omega
  · show 0 + 1 * l.val = l.val; omega

/-- One plane stored last over older writes. -/
theorem read_plane {p : ℕ} (v : View sig κ sp (⟨3, ![p, m, n]⟩ : Shape) e) (f : v.ty.Contents Val) (o : ℕ)
    (inb : ∀ a : Fin 3, (![o, 0, 0] : Fin 3 → ℕ) a + (![1, m, n] : Fin 3 → ℕ) a ≤ (![p, m, n] : Fin 3 → ℕ) a)
    (w : (⟨3, ![1, m, n]⟩ : Shape).Idx → Val e) (L : List (Piece Val (⟨3, ![p, m, n]⟩ : Shape) e)) (b : Fin p) (k : Fin m) (l : Fin n) :
    v.read Val (v.writes Val f ((⟨Rect.unit (s := ⟨3, ![p, m, n]⟩) ![o, 0, 0] ![1, m, n] inb, w⟩ :
        Piece Val (⟨3, ![p, m, n]⟩ : Shape) e) :: L)) (ix3 b k l)
      = if b.val = o then w (ix3 (0 : Fin 1) k l) else v.read Val (v.writes Val f L) (ix3 b k l) := by
  split
  · next h =>
    refine View.read_writes_cons_hit v f (Rect.unit (s := ⟨3, ![p, m, n]⟩) ![o, 0, 0] ![1, m, n] inb) w L (ix3 (0 : Fin 1) k l) _ (funext fun x => Fin.ext ?_)
    fin_cases x
    · show o + 1 * 0 = b.val; omega
    · show 0 + 1 * k.val = k.val; omega
    · show 0 + 1 * l.val = l.val; omega
  · next h =>
    refine View.read_writes_cons_miss v f _ L _ fun hm => h ?_
    obtain ⟨i, hi, he⟩ := (LoadRect.mem_set _).mp hm (0 : Fin 3)
    have hi1 : i < 1 := hi
    have he' : b.val = o + 1 * i := he
    omega

theorem ix2_eta {n k : ℕ} (i : (⟨2, ![n, k]⟩ : Shape).Idx) : i = ix2 (i 0) (i 1) := by
  funext x
  fin_cases x <;> rfl

theorem ix3_eta {n k l : ℕ} (i : (⟨3, ![n, k, l]⟩ : Shape).Idx) : i = ix3 (i 0) (i 1) (i 2) := by
  funext x
  fin_cases x <;> rfl

end Cert.Rows
-- ==== Proof.Ple.Points.lean ====
/- What a grid point leaves: its rows of the hidden gradient, and the running sums of the weights' gradients. -/
module

public import proofs.«01_k».proof.Proof.Ple.Tile
public import proofs.«01_k».proof.Proof.Real.Rows

@[expose] public section

set_option maxRecDepth 16384

noncomputable section

namespace Cert.Ple.Kernel

open Idealize.ShloMosaic Idealize.ShloMosaic.TcCoe Idealize.SL.Sem
open Cert.PleIdeal Cert.PleIdeal.Gen Cert.Lift Cert.Ple.Spec Cert.Ple.Payloads Cert.Rows

variable {m : (ℓ : Loc nD τ sig) → Buf (Elt Ideal) ℓ} {c : Dev nD} {w : Weights} {a : Fin 4096 → Token} (H : Holds m c w a)
  (t : Fin cfg0.N)
include H

theorem out8_of (X : Vec Ideal S512x1024 .f32)
    (hX : X = k0_pay42 (k0_pay13 (iblk m c 0 t)) (k0_pay14 (iblk m c 0 t)) (kDx3 m c t) (kDgl m c t) (iblk m c 6 t) (iblk m c 3 t))
    (k : Fin 512) (l : Fin 1024) : X (ix2 k l) = ((dx w (tile a t k) l : ℝ) : EReal) := by
  subst hX
  exact pay42 (kDgl_eq H) (blk6 H t) (kUnit_eq H) (kInv_eq H) (kDx3_eq H) (blk3 H t) k l

/-- Every grid point stores the hidden gradient of its tile. -/
theorem out8 (k : Fin 512) (l : Fin 1024) :
    (outsAt0 m c t.val t.isLt).1 (ix2 k l) = ((dx w (tile a t k) l : ℝ) : EReal) := by
  refine out8_of H t _ ?_ k l
  by_cases h0 : t.val % 8 = 0
  · have h1 : ¬ t.val % 8 = 7 := by omega
    rw [outsAt0_A m c t h0 h1]
    frame_out
    rfl
  by_cases h1 : t.val % 8 = 7
  · rw [outsAt0_C m c t h0 h1]
    frame_out
    rfl
  · rw [outsAt0_B m c t h0 h1]
    frame_out
    rfl

/-- The gate's gradient: the first point starts the sum, -/
theorem sc0_zero (h0 : t.val % 8 = 0) (k l : Fin 1024) :
    (outsAt0 m c t.val t.isLt).2.2.2.2.1 (ix2 k l)
      = ((∑ r, h3 w (tile a t r) k * dgl w (tile a t r) l : ℝ) : EReal) := by
  have h1 : ¬ t.val % 8 = 7 := by omega
  rw [outsAt0_A m c t h0 h1]
  frame_open
  frame_out
  refine (pay38 (kDgl_eq H) (kH3_eq H) _ k l).trans ?_
  pointwise [k0_pay10]

/-- and the others add to it. -/
theorem sc0_succ (h0 : ¬ t.val % 8 = 0) (k l : Fin 1024) :
    (outsAt0 m c t.val t.isLt).2.2.2.2.1 (ix2 k l)
      = (outsAt0 m c (t.val - 1) (by omega)).2.2.2.2.1 (ix2 k l)
        + ((∑ r, h3 w (tile a t r) k * dgl w (tile a t r) l : ℝ) : EReal) := by
  by_cases h1 : t.val % 8 = 7
  · rw [outsAt0_C m c t h0 h1]
    frame_out
    simp only [read_unread_whole]
    exact pay38 (kDgl_eq H) (kH3_eq H) _ k l
  · rw [outsAt0_B m c t h0 h1]
    frame_out
    simp only [read_unread_whole]
    exact pay38 (kDgl_eq H) (kH3_eq H) _ k l

/-- The up projection's gradient: the first point starts the sum, -/
theorem sc1_zero (h0 : t.val % 8 = 0) (k : Fin 256) (l : Fin 1024) :
    (outsAt0 m c t.val t.isLt).2.2.2.2.2 (ix2 k l)
      = ((∑ r, (tile a t r).p k * dpe w (tile a t r) l : ℝ) : EReal) := by
  have h1 : ¬ t.val % 8 = 7 := by omega
  rw [outsAt0_A m c t h0 h1]
  frame_open
  frame_out
  refine (pay39 (kP_eq H) (kDpe_eq H) _ k l).trans ?_
  pointwise [k0_pay11]

/-- and the others add to it. -/
theorem sc1_succ (h0 : ¬ t.val % 8 = 0) (k : Fin 256) (l : Fin 1024) :
    (outsAt0 m c t.val t.isLt).2.2.2.2.2 (ix2 k l)
      = (outsAt0 m c (t.val - 1) (by omega)).2.2.2.2.2 (ix2 k l)
        + ((∑ r, (tile a t r).p k * dpe w (tile a t r) l : ℝ) : EReal) := by
  by_cases h1 : t.val % 8 = 7
  · rw [outsAt0_C m c t h0 h1]
    frame_out
    simp only [read_unread_whole]
    exact pay39 (kP_eq H) (kDpe_eq H) _ k l
  · rw [outsAt0_B m c t h0 h1]
    frame_out
    simp only [read_unread_whole]
    exact pay39 (kP_eq H) (kDpe_eq H) _ k l

/-- Four rows rewritten, each with its tile's sum added, over a buffer `Y`. -/
theorem small_add (X Y : Vec Ideal S8x1024 .f32)
    (hX : ∀ k l, X (ix2 k l) =
      if k.val = 3 then k0_pay4 (k0_pay30 (k0_pay29 (iblk m c 0 t) (kGate m c t) (kP m c t) (k0_pay18 (iblk m c 1 t) (up0 m c t))
          (k0_pay19 (iblk m c 1 t) (up1 m c t)) (k0_pay20 (up2 m c t)) zero256 (up3 m c t) (iblk m c 4 t) (iblk m c 5 t)
          (iblk m c 2 t))) (View.ld Y (Rect.unit ![3, 0] ![1, 1024] inb_S8x1024_S1x1024_3_0)) (ix2 (0 : Fin 1) l)
      else if k.val = 2 then k0_pay3 (k0_pay33 (kUnit3 m c t) (kDiff m c t))
          (View.ld Y (Rect.unit ![2, 0] ![1, 1024] inb_S8x1024_S1x1024_2_0)) (ix2 (0 : Fin 1) l)
      else if k.val = 1 then k0_pay2 (k0_pay36 (kGate m c t) (kPeUnit m c t) (kInv3 m c t) (kUnit3 m c t) (kDiff m c t) (iblk m c 5 t))
          (View.ld Y (Rect.unit ![1, 0] ![1, 1024] inb_S8x1024_S1x1024_1_0)) (ix2 (0 : Fin 1) l)
      else if k.val = 0 then k0_pay1 (k0_pay41 (k0_pay14 (iblk m c 0 t)) (kDgl m c t) (iblk m c 6 t))
          (k0_pay43 (View.ld Y (Rect.unit ![0, 0] ![1, 1024] inb_S8x1024_S1x1024_0_0))) (ix2 (0 : Fin 1) l)
      else Y (ix2 k l))
    (k : Fin 8) (l : Fin 1024) : X (ix2 k l) = Y (ix2 k l) + ((small w (tile a t) k l : ℝ) : EReal) := by
  rw [hX]
  clear hX
  split
  · next h =>
    obtain rfl : k = 3 := Fin.ext h
    pointwise [k0_pay4]
    exact congrArg₂ (fun x y : EReal => x + y) rfl (kLoss_eq H _ _)
  split
  · next h =>
    obtain rfl : k = 2 := Fin.ext h
    pointwise [k0_pay3]
    exact congrArg₂ (fun x y : EReal => x + y) rfl (kSmall2 H _ _)
  split
  · next h =>
    obtain rfl : k = 1 := Fin.ext h
    pointwise [k0_pay2]
    exact congrArg₂ (fun x y : EReal => x + y) rfl (kSmall1 H _ _)
  split
  · next h =>
    obtain rfl : k = 0 := Fin.ext h
    pointwise [k0_pay1, k0_pay43]
    exact congrArg₂ (fun x y : EReal => x + y) rfl (kSmall0 H _ _)
  · rw [small_rest w (tile a t) k l (by omega)]
    simp

/-- The small gradients: the first point starts the sums, -/
theorem out11_zero (h0 : t.val % 8 = 0) (k : Fin 8) (l : Fin 1024) :
    (outsAt0 m c t.val t.isLt).2.2.2.1 (ix2 k l) = ((small w (tile a t) k l : ℝ) : EReal) := by
  have h1 : ¬ t.val % 8 = 7 := by omega
  refine (small_add H t _ (k0_pay12 (F := Ideal)) ?_ k l).trans ?_
  · intro k l
    rw [outsAt0_A m c t h0 h1]
    frame_open
    simp (disch := decide) only [↓ View.readCov_skip, ↓ View.readCov_cons_toLoadRect, ↓ View.readCov_fill]
    frame_out
    rw [canon_row, canon_row, canon_row, canon_row, View.canon_cons_unit_lit inb_S8x1024_S8x1024_0_0 _ _ (by decide)]
    rfl
  · pointwise [k0_pay12]

/-- and the others add to them. -/
theorem out11_succ (h0 : ¬ t.val % 8 = 0) (k : Fin 8) (l : Fin 1024) :
    (outsAt0 m c t.val t.isLt).2.2.2.1 (ix2 k l)
      = (outsAt0 m c (t.val - 1) (by omega)).2.2.2.1 (ix2 k l) + ((small w (tile a t) k l : ℝ) : EReal) := by
  refine small_add H t _ _ ?_ k l
  intro k l
  by_cases h1 : t.val % 8 = 7
  · rw [outsAt0_C m c t h0 h1]
    frame_out
    rw [read_row, read_row, read_row, read_row, View.writes_nil, Memref.IsWhole.read_unread]
    rfl
  · rw [outsAt0_B m c t h0 h1]
    frame_out
    rw [read_row, read_row, read_row, read_row, View.writes_nil, Memref.IsWhole.read_unread]
    rfl

end Cert.Ple.Kernel
-- ==== Proof.Ple.Arrays.lean ====
/- The kernel's four results, when its arguments are real: the hidden gradient row by row, and the weights' gradients as
   sums over all the tokens. -/
module

public import proofs.«01_k».proof.Proof.Ple.Points

@[expose] public section

set_option maxRecDepth 16384

noncomputable section

namespace Cert.Ple.Kernel

open Idealize.ShloMosaic Idealize.ShloMosaic.TcCoe Idealize.SL.Sem
open Cert.PleIdeal Cert.PleIdeal.Gen Cert.Lift Cert.Ple.Spec Cert.Rows

/-- Sums over the tiles' tokens, tile after tile, are sums over all the tokens. -/
theorem sum_tiles (a : Fin 4096 → Token) (f : Token → ℝ) :
    ∑ j ∈ Finset.range 8, ∑ r, f (tile a j r) = ∑ r, f (a r) := by
  rw [Fin.sum_univ_tiles 8 512 rfl fun r => f (a r), Finset.sum_range]
  exact Finset.sum_congr rfl fun j _ => Finset.sum_congr rfl fun r _ => congrArg f (tile_eq a j r _ rfl)

theorem small_tiles (w : Weights) (a : Fin 4096 → Token) (b : Fin 8) (l : Fin 1024) :
    ∑ j ∈ Finset.range 8, small w (tile a j) b l = small w a b l := by
  unfold small
  split
  · exact sum_tiles a fun v => dgGate w v l
  · exact sum_tiles a fun v => dgPost w v l
  · exact sum_tiles a fun v => dgFinal w v l
  · exact sum_tiles a fun v => loss w v
  · exact Finset.sum_const_zero

variable {m : (ℓ : Loc nD τ sig) → Buf (Elt Ideal) ℓ} {c : Dev nD} {w : Weights} {a : Fin 4096 → Token} (H : Holds m c w a)

/-- A quantity the first point starts and the others add to. -/
theorem sum_of_steps (f : (n : ℕ) → n < cfg0.N → EReal) (s : ℕ → ℝ) (h0 : ∀ h, f 0 h = ((s 0 : ℝ) : EReal))
    (hs : ∀ n h, f (n + 1) h = f n (by omega) + ((s (n + 1) : ℝ) : EReal)) (n : ℕ) (h : n < cfg0.N) :
    f n h = ((∑ j ∈ Finset.range (n + 1), s j : ℝ) : EReal) := by
  induction n with
  | zero => rw [h0, Finset.sum_range_one]
  | succ n ih => rw [hs, ih, Finset.sum_range_succ _ (n + 1), up_add]

include H

theorem sc0_eq (n : ℕ) (h : n < cfg0.N) (k l : Fin 1024) : (outsAt0 m c n h).2.2.2.2.1 (ix2 k l)
    = ((∑ j ∈ Finset.range (n + 1), ∑ r, h3 w (tile a j r) k * dgl w (tile a j r) l : ℝ) : EReal) :=
  sum_of_steps (fun n h => (outsAt0 m c n h).2.2.2.2.1 (ix2 k l)) (fun j => ∑ r, h3 w (tile a j r) k * dgl w (tile a j r) l) (fun h => sc0_zero H ⟨0, h⟩ rfl k l)
    (fun n h => sc0_succ H ⟨n + 1, h⟩ (by have := h.trans_eq N_0; show ¬ (n + 1) % 8 = 0; omega) k l) n h

theorem sc1_eq (n : ℕ) (h : n < cfg0.N) (k : Fin 256) (l : Fin 1024) : (outsAt0 m c n h).2.2.2.2.2 (ix2 k l)
    = ((∑ j ∈ Finset.range (n + 1), ∑ r, (tile a j r).p k * dpe w (tile a j r) l : ℝ) : EReal) :=
  sum_of_steps (fun n h => (outsAt0 m c n h).2.2.2.2.2 (ix2 k l)) (fun j => ∑ r, (tile a j r).p k * dpe w (tile a j r) l) (fun h => sc1_zero H ⟨0, h⟩ rfl k l)
    (fun n h => sc1_succ H ⟨n + 1, h⟩ (by have := h.trans_eq N_0; show ¬ (n + 1) % 8 = 0; omega) k l) n h

theorem out11_eq (n : ℕ) (h : n < cfg0.N) (k : Fin 8) (l : Fin 1024) : (outsAt0 m c n h).2.2.2.1 (ix2 k l)
    = ((∑ j ∈ Finset.range (n + 1), small w (tile a j) k l : ℝ) : EReal) :=
  sum_of_steps (fun n h => (outsAt0 m c n h).2.2.2.1 (ix2 k l)) (fun j => small w (tile a j) k l) (fun h => out11_zero H ⟨0, h⟩ rfl k l)
    (fun n h => out11_succ H ⟨n + 1, h⟩ (by have := h.trans_eq N_0; show ¬ (n + 1) % 8 = 0; omega) k l) n h

omit H in
/-- What the last point copies from its sums. -/
theorem out9_last (t : Fin cfg0.N) (h1 : t.val % 8 = 7) (k l : Fin 1024) :
    (outsAt0 m c t.val t.isLt).2.1 (ix2 k l) = (outsAt0 m c t.val t.isLt).2.2.2.2.1 (ix2 k l) := by
  have h0 : ¬ t.val % 8 = 0 := by omega
  rw [outsAt0_C m c t h0 h1]
  frame_out
  pointwise [k0_pay5]

omit H in
theorem planes (X : Vec Ideal S256x1024 .f32) (J : EReal) (b : Fin 4) (k l : Fin 256) :
    (if b.val = 3 then k0_pay9 (View.ld X (Rect.unit ![0, 768] ![256, 256] inb_S256x1024_S256x256_0_768)) (ix3 (0 : Fin 1) k l)
      else if b.val = 2 then k0_pay8 (View.ld X (Rect.unit ![0, 512] ![256, 256] inb_S256x1024_S256x256_0_512)) (ix3 (0 : Fin 1) k l)
      else if b.val = 1 then k0_pay7 (View.ld X (Rect.unit ![0, 256] ![256, 256] inb_S256x1024_S256x256_0_256)) (ix3 (0 : Fin 1) k l)
      else if b.val = 0 then k0_pay6 (View.ld X (Rect.unit ![0, 0] ![256, 256] inb_S256x1024_S256x256_0_0)) (ix3 (0 : Fin 1) k l)
      else J) = X (ix2 k (col b l)) := by
  split
  · next h =>
    obtain rfl : b = 3 := Fin.ext h
    pointwise [k0_pay9]
    blk_ext [col]
  split
  · next h =>
    obtain rfl : b = 2 := Fin.ext h
    pointwise [k0_pay8]
    blk_ext [col]
  split
  · next h =>
    obtain rfl : b = 1 := Fin.ext h
    pointwise [k0_pay7]
    blk_ext [col]
  split
  · next h =>
    obtain rfl : b = 0 := Fin.ext h
    pointwise [k0_pay6]
    blk_ext [col]
  · omega

omit H in
theorem out10_last (t : Fin cfg0.N) (h1 : t.val % 8 = 7) (b : Fin 4) (k l : Fin 256) :
    (outsAt0 m c t.val t.isLt).2.2.1 (ix3 b k l) = (outsAt0 m c t.val t.isLt).2.2.2.2.2 (ix2 k (col b l)) := by
  have h0 : ¬ t.val % 8 = 0 := by omega
  rw [outsAt0_C m c t h0 h1]
  frame_open
  simp (disch := decide) only [↓ View.readCov_skip, ↓ View.readCov_cons_toLoadRect, ↓ View.readCov_fill]
  frame_out
  rw [canon_plane, canon_plane, canon_plane, canon_plane]
  exact planes _ _ b k l

/-- The last grid point. -/
def tLast : Fin cfg0.N := ⟨7, lt_of_lt_of_eq (by decide) N_0.symm⟩

/-- The hidden gradient. -/
theorem final8 : (dats m 0 c).arrAt 8 cfg0.N
    = fun i : S4096x1024.Idx => ((dx w (a (i 0)) (i 1) : ℝ) : EReal) := by
  refine (dats m 0 c).arrAt_eq_of_covers 8 _ (by decide +kernel) fun t hf y => ?_
  blk_simp
  rw [after0_8]
  have e0 : ((win0_8.blk t).view.emb y 0).val = t.val * 512 + (y 0).val := by blk_simp [idx t]
  have e1 : ((win0_8.blk t).view.emb y 1).val = (y 1).val := by blk_simp [idx t]
  rw [← tile_eq a t.val (y 0) _ e0]
  refine (congrArg _ ?_).trans ((out8 H t (y 0) (y 1)).trans (congrArg _ (congrArg _ ?_)))
  · funext x
    fin_cases x <;> rfl
  · exact Fin.ext e1.symm

/-- The gate's gradient. -/
theorem final9 : (dats m 0 c).arrAt 9 cfg0.N
    = fun i : S1024x1024.Idx => ((∑ r, h3 w (a r) (i 0) * dgl w (a r) (i 1) : ℝ) : EReal) := by
  refine (dats m 0 c).arrAt_eq_of_after_last 9 tLast (by decide +kernel) _ fun j => ?_
  blk_simp
  rw [after0_9]
  refine (congrArg _ (show _ = ix2 (j 0) (j 1) from ?_)).trans ((out9_last tLast rfl (j 0) (j 1)).trans ((sc0_eq H _ _ _ _).trans
    (congrArg _ (sum_tiles a fun v => h3 w v (j 0) * dgl w v (j 1)))))
  funext x
  fin_cases x <;> rfl

/-- The up projection's gradient, its columns in four blocks. -/
theorem final10 : (dats m 0 c).arrAt 10 cfg0.N
    = fun i : S4x256x256.Idx => ((∑ r, (a r).p (i 1) * dpe w (a r) (col (i 0) (i 2)) : ℝ) : EReal) := by
  refine (dats m 0 c).arrAt_eq_of_after_last 10 tLast (by decide +kernel) _ fun j => ?_
  blk_simp
  rw [after0_10]
  refine (congrArg _ (show _ = ix3 (j 0) (j 1) (j 2) from ?_)).trans ((out10_last tLast rfl (j 0) (j 1) (j 2)).trans
    ((sc1_eq H _ _ _ _).trans (congrArg _ (sum_tiles a fun v => v.p (j 1) * dpe w v (col (j 0) (j 2))))))
  funext x
  fin_cases x <;> rfl

/-- The small gradients. -/
theorem final11 : (dats m 0 c).arrAt 11 cfg0.N = fun i : S8x1024.Idx => ((small w a (i 0) (i 1) : ℝ) : EReal) := by
  refine (dats m 0 c).arrAt_eq_of_after_last 11 tLast (by decide +kernel) _ fun j => ?_
  blk_simp
  rw [after0_11]
  refine (congrArg _ (show _ = ix2 (j 0) (j 1) from ?_)).trans ((out11_eq H _ _ (j 0) (j 1)).trans
    (congrArg _ (small_tiles w a (j 0) (j 1))))
  funext x
  fin_cases x <;> rfl

end Cert.Ple.Kernel
-- ==== Proof.Ple.Reference.lean ====
/- The reference's values on all 4096 tokens: when its arguments are real, each is the real formula of `Cert.Ple.Spec`
   at its token; a weight's gradient is that formula summed over the tokens. -/
module

public import proofs.«01_k».proof.Proof.Ple.Spec
public import proofs.«01_k».proof.Proof.Gen.PleRefIdeal.Read

@[expose] public section

set_option maxRecDepth 16384

noncomputable section

namespace Cert.Ple.Reference

open Idealize.ShloMosaic Idealize.ShloMosaic.TcCoe Idealize.SL.Sem
open Cert.PleRefIdeal Cert.PleRefIdeal.Gen Cert.PleRefIdeal.Read Cert.Lift Cert.Ple.Spec

variable {w : Weights} {a : Fin 4096 → Token}
  {x0 : FVec Ideal S4096x1024 .f32} (h0 : ∀ r l, x0 (ix2 r l) = (((a r).x l : ℝ) : EReal))
  {x1 : FVec Ideal S4096x256 .f32} (h1 : ∀ r k, x1 (ix2 r k) = (((a r).p k : ℝ) : EReal))
  {x2 : FVec Ideal S1x1024 .f32} (h2 : ∀ z l, x2 (ix2 z l) = ((w.gGate l : ℝ) : EReal))
  {x3 : FVec Ideal S1024x1024 .f32} (h3 : ∀ k l, x3 (ix2 k l) = ((w.wGate k l : ℝ) : EReal))
  {x4 : FVec Ideal S256x1024 .f32} (h4 : ∀ k l, x4 (ix2 k l) = ((w.wUp k l : ℝ) : EReal))
  {x5 : FVec Ideal S1x1024 .f32} (h5 : ∀ z l, x5 (ix2 z l) = ((w.gPost l : ℝ) : EReal))
  {x6 : FVec Ideal S1024 .f32} (h6 : ∀ l, x6 (ix1 l) = ((w.gFinal l : ℝ) : EReal))
  {x7 : FVec Ideal S4096x1024 .f32} (h7 : ∀ r l, x7 (ix2 r l) = (((a r).t l : ℝ) : EReal))

section Gate
include h0

theorem v6 (r : Fin 4096) (z : Fin 1) :
    val_main_v6 (F := Ideal) x0 (ix2 r z) = ((meanSq (a r).x + eps : ℝ) : EReal) := by
  pointwise [val_main_v6, val_main_v5, val_main_cst_1, val_main_v4, val_main_v3, val_main_cst_0, val_main_v2, val_main_v1,
    val_main_cst, val_main_v0]
  simp only [h0, up_mul, up_sum, lit_1024, lit_eps, up_div_1024, up_add, meanSq, Nat.cast_ofNat]

theorem v7 (r : Fin 4096) (z : Fin 1) : val_main_v7 (F := Ideal) x0 (ix2 r z) = ((rinv (a r).x : ℝ) : EReal) := by
  pointwise [val_main_v7]
  simp only [v6 h0, up_rsqrt_meanSq]

theorem v10 (r : Fin 4096) (z : Fin 1) :
    val_main_v10 (F := Ideal) x0 (ix2 r z) = ((-(1 / 2) * (rinv (a r).x / (meanSq (a r).x + eps)) : ℝ) : EReal) := by
  pointwise [val_main_v10, val_main_v9, val_main_cst_2, val_main_v8]
  simp only [v6 h0, v7 h0, lit_neg_half, up_div_meanSq, up_mul]

theorem v12 (r : Fin 4096) (l : Fin 1024) : val_main_v12 (F := Ideal) x0 (ix2 r l) = ((unit (a r).x l : ℝ) : EReal) := by
  pointwise [val_main_v12, val_main_v11]
  simp only [h0, v7 h0, up_mul, unit]

include h2

theorem v14 (r : Fin 4096) (l : Fin 1024) :
    val_main_v14 (F := Ideal) x0 x2 (ix2 r l) = ((Spec.h3 w (a r) l : ℝ) : EReal) := by
  pointwise [val_main_v14, val_main_v13]
  simp only [v12 h0, h2, up_mul, Spec.h3]

include h3

theorem v21 (r : Fin 4096) (l : Fin 1024) :
    val_main_v21 (F := Ideal) x0 x2 x3 (ix2 r l) = ((gate w (a r) l : ℝ) : EReal) := by
  pointwise [val_main_v21, val_main_v20, val_main_v19, val_main_v18, val_main_v17, val_main_v16, val_main_v15,
    val_main_cst_3, val_main_cst_4]
  simp only [v14 h0 h2, h3, up_mul, up_sum, up_neg, up_exp, up_one_add, up_sig, gate]

theorem v24 (r : Fin 4096) (l : Fin 1024) :
    val_main_v24 (F := Ideal) x0 x2 x3 (ix2 r l) = ((gate w (a r) l * (1 - gate w (a r) l) : ℝ) : EReal) := by
  pointwise [val_main_v24, val_main_v23, val_main_v22, val_main_cst_5]
  simp only [v21 h0 h2 h3, up_mul, up_one_sub]

end Gate

section Embedding
include h1 h4

theorem v25 (r : Fin 4096) (l : Fin 1024) :
    val_main_v25 (F := Ideal) x1 x4 (ix2 r l) = ((pe w (a r) l : ℝ) : EReal) := by
  pointwise [val_main_v25]
  simp only [h1, h4, up_mul, up_sum, pe]

theorem v32 (r : Fin 4096) (z : Fin 1) :
    val_main_v32 (F := Ideal) x1 x4 (ix2 r z) = ((meanSq (pe w (a r)) + eps : ℝ) : EReal) := by
  pointwise [val_main_v32, val_main_v31, val_main_v30, val_main_v29, val_main_v28, val_main_v27, val_main_v26,
    val_main_cst_6, val_main_cst_7, val_main_cst_8]
  simp only [v25 h1 h4, up_mul, up_sum, lit_1024, lit_eps, up_div_1024, up_add, meanSq, Nat.cast_ofNat]

theorem v33 (r : Fin 4096) (z : Fin 1) :
    val_main_v33 (F := Ideal) x1 x4 (ix2 r z) = ((rinv (pe w (a r)) : ℝ) : EReal) := by
  pointwise [val_main_v33]
  simp only [v32 h1 h4, up_rsqrt_meanSq]

theorem v36 (r : Fin 4096) (z : Fin 1) : val_main_v36 (F := Ideal) x1 x4 (ix2 r z)
    = ((-(1 / 2) * (rinv (pe w (a r)) / (meanSq (pe w (a r)) + eps)) : ℝ) : EReal) := by
  pointwise [val_main_v36, val_main_v35, val_main_cst_9, val_main_v34]
  simp only [v32 h1 h4, v33 h1 h4, lit_neg_half, up_div_meanSq, up_mul]

theorem v38 (r : Fin 4096) (l : Fin 1024) :
    val_main_v38 (F := Ideal) x1 x4 (ix2 r l) = ((unit (pe w (a r)) l : ℝ) : EReal) := by
  pointwise [val_main_v38, val_main_v37]
  simp only [v25 h1 h4, v33 h1 h4, up_mul, unit]

include h5

theorem v40 (r : Fin 4096) (l : Fin 1024) :
    val_main_v40 (F := Ideal) x1 x4 x5 (ix2 r l) = ((emb w (a r) l : ℝ) : EReal) := by
  pointwise [val_main_v40, val_main_v39]
  simp only [v38 h1 h4, h5, up_mul, emb]

end Embedding

section Sum
include h0 h1 h2 h3 h4 h5

theorem v42 (r : Fin 4096) (l : Fin 1024) :
    val_main_v42 (F := Ideal) x0 x1 x2 x3 x4 x5 (ix2 r l) = ((Spec.x3 w (a r) l : ℝ) : EReal) := by
  pointwise [val_main_v42, val_main_v41]
  simp only [h0, v21 h0 h2 h3, v40 h1 h4 h5, up_mul, up_add, Spec.x3]

theorem v49 (r : Fin 4096) (z : Fin 1) :
    val_main_v49 (F := Ideal) x0 x1 x2 x3 x4 x5 (ix2 r z) = ((meanSq (Spec.x3 w (a r)) + eps : ℝ) : EReal) := by
  pointwise [val_main_v49, val_main_v48, val_main_v47, val_main_v46, val_main_v45, val_main_v44, val_main_v43,
    val_main_cst_10, val_main_cst_11, val_main_cst_12]
  simp only [v42 h0 h1 h2 h3 h4 h5, up_mul, up_sum, lit_1024, lit_eps, up_div_1024, up_add, meanSq, Nat.cast_ofNat]

theorem v50 (r : Fin 4096) (z : Fin 1) :
    val_main_v50 (F := Ideal) x0 x1 x2 x3 x4 x5 (ix2 r z) = ((rinv (Spec.x3 w (a r)) : ℝ) : EReal) := by
  pointwise [val_main_v50]
  simp only [v49 h0 h1 h2 h3 h4 h5, up_rsqrt_meanSq]

theorem v53 (r : Fin 4096) (z : Fin 1) : val_main_v53 (F := Ideal) x0 x1 x2 x3 x4 x5 (ix2 r z)
    = ((-(1 / 2) * (rinv (Spec.x3 w (a r)) / (meanSq (Spec.x3 w (a r)) + eps)) : ℝ) : EReal) := by
  pointwise [val_main_v53, val_main_v52, val_main_cst_13, val_main_v51]
  simp only [v49 h0 h1 h2 h3 h4 h5, v50 h0 h1 h2 h3 h4 h5, lit_neg_half, up_div_meanSq, up_mul]

theorem v55 (r : Fin 4096) (l : Fin 1024) :
    val_main_v55 (F := Ideal) x0 x1 x2 x3 x4 x5 (ix2 r l) = ((unit (Spec.x3 w (a r)) l : ℝ) : EReal) := by
  pointwise [val_main_v55, val_main_v54]
  simp only [v42 h0 h1 h2 h3 h4 h5, v50 h0 h1 h2 h3 h4 h5, up_mul, unit]

end Sum

section Loss
include h0 h1 h2 h3 h4 h5 h6 h7

theorem v59 (r : Fin 4096) (l : Fin 1024) :
    val_main_v59 (F := Ideal) x0 x1 x2 x3 x4 x5 x6 x7 (ix2 r l) = ((diff w (a r) l : ℝ) : EReal) := by
  pointwise [val_main_v59, val_main_v58, val_main_v57, val_main_v56]
  simp only [v55 h0 h1 h2 h3 h4 h5, h6, h7, up_mul, up_sub, diff]

theorem v67 (i : S_.Idx) :
    val_main_v67 (F := Ideal) x0 x1 x2 x3 x4 x5 x6 x7 i = ((∑ r, loss w (a r) : ℝ) : EReal) := by
  pointwise [val_main_v67, val_main_v66, val_main_v65, val_main_v64, val_main_v63, val_main_v60,
    val_main_cst_15, val_main_cst_16, val_main_cst_17, val_main_cst_18]
  simp only [v59 h0 h1 h2 h3 h4 h5 h6 h7, up_mul, up_sum, lit_1024, lit_half, up_div_1024, loss]
  rw [Finset.mul_sum]

theorem v73 (r : Fin 4096) (l : Fin 1024) :
    val_main_v73 (F := Ideal) x0 x1 x2 x3 x4 x5 x6 x7 (ix2 r l) = ((dy w (a r) l : ℝ) : EReal) := by
  pointwise [val_main_v73, val_main_v72, val_main_v71, val_main_v70, val_main_v69, val_main_v68, val_main_v62, val_main_v61,
    val_main_cst_14, val_main_cst_19, val_main_cst_20, val_main_cst_21]
  simp only [v59 h0 h1 h2 h3 h4 h5 h6 h7, up_mul, lit_1024, lit_half, lit_2, up_div_1024, dy]
  congr 1
  ring

theorem v79 (l : Fin 1024) :
    val_main_v79 (F := Ideal) x0 x1 x2 x3 x4 x5 x6 x7 (ix1 l) = ((∑ r, dgFinal w (a r) l : ℝ) : EReal) := by
  pointwise [val_main_v79, val_main_v76, val_main_v75, val_main_v74, val_main_cst_22, val_main_cst_23]
  simp only [v55 h0 h1 h2 h3 h4 h5, v73 h0 h1 h2 h3 h4 h5 h6 h7, up_mul, up_sum, dgFinal, mul_comm,
    Finset.univ_unique, Finset.sum_singleton]

theorem v78 (r : Fin 4096) (l : Fin 1024) :
    val_main_v78 (F := Ideal) x0 x1 x2 x3 x4 x5 x6 x7 (ix2 r l) = ((dy w (a r) l * w.gFinal l : ℝ) : EReal) := by
  pointwise [val_main_v78, val_main_v77, val_main_v56]
  simp only [v73 h0 h1 h2 h3 h4 h5 h6 h7, h6, up_mul]

theorem v89 (r : Fin 4096) (l : Fin 1024) : val_main_v89 (F := Ideal) x0 x1 x2 x3 x4 x5 x6 x7 (ix2 r l)
    = (((∑ k, Spec.x3 w (a r) k * (dy w (a r) k * w.gFinal k))
        * (-(1 / 2) * (rinv (Spec.x3 w (a r)) / (meanSq (Spec.x3 w (a r)) + eps))) / 1024 : ℝ) : EReal) := by
  pointwise [val_main_v89, val_main_v88, val_main_v87, val_main_v86, val_main_v85, val_main_v82, val_main_v81,
    val_main_v80, val_main_cst_24, val_main_cst_25, val_main_cst_26]
  simp only [v42 h0 h1 h2 h3 h4 h5, v53 h0 h1 h2 h3 h4 h5, v78 h0 h1 h2 h3 h4 h5 h6 h7, up_mul, up_sum, lit_1024,
    up_div_1024, Finset.univ_unique, Finset.sum_singleton]

theorem v93 (r : Fin 4096) (l : Fin 1024) :
    val_main_v93 (F := Ideal) x0 x1 x2 x3 x4 x5 x6 x7 (ix2 r l) = ((dx3 w (a r) l : ℝ) : EReal) := by
  pointwise [val_main_v93, val_main_v92, val_main_v91, val_main_v90, val_main_v84, val_main_v83]
  simp only [v42 h0 h1 h2 h3 h4 h5, v50 h0 h1 h2 h3 h4 h5, v78 h0 h1 h2 h3 h4 h5 h6 h7,
    v89 h0 h1 h2 h3 h4 h5 h6 h7, up_mul, up_add]
  rw [dx3, ← rmsBack_chain]
  simp only [Nat.cast_ofNat]

theorem v94 (r : Fin 4096) (l : Fin 1024) :
    val_main_v94 (F := Ideal) x0 x1 x2 x3 x4 x5 x6 x7 (ix2 r l) = ((de w (a r) l : ℝ) : EReal) := by
  pointwise [val_main_v94]
  simp only [v21 h0 h2 h3, v93 h0 h1 h2 h3 h4 h5 h6 h7, up_mul, de, mul_comm]

theorem v98 (z : Fin 1) (l : Fin 1024) :
    val_main_v98 (F := Ideal) x0 x1 x2 x3 x4 x5 x6 x7 (ix2 z l) = ((∑ r, dgPost w (a r) l : ℝ) : EReal) := by
  pointwise [val_main_v98, val_main_v97, val_main_v96, val_main_cst_27]
  simp only [v38 h1 h4, v94 h0 h1 h2 h3 h4 h5 h6 h7, up_mul, up_sum, dgPost, mul_comm]

theorem v100 (r : Fin 4096) (l : Fin 1024) :
    val_main_v100 (F := Ideal) x0 x1 x2 x3 x4 x5 x6 x7 (ix2 r l) = ((de w (a r) l * w.gPost l : ℝ) : EReal) := by
  pointwise [val_main_v100, val_main_v99]
  simp only [v94 h0 h1 h2 h3 h4 h5 h6 h7, h5, up_mul]

theorem v110 (r : Fin 4096) (l : Fin 1024) : val_main_v110 (F := Ideal) x0 x1 x2 x3 x4 x5 x6 x7 (ix2 r l)
    = (((∑ k, pe w (a r) k * (de w (a r) k * w.gPost k))
        * (-(1 / 2) * (rinv (pe w (a r)) / (meanSq (pe w (a r)) + eps))) / 1024 : ℝ) : EReal) := by
  pointwise [val_main_v110, val_main_v109, val_main_v108, val_main_v107, val_main_v106, val_main_v103, val_main_v102,
    val_main_v101, val_main_cst_28, val_main_cst_29, val_main_cst_30]
  simp only [v25 h1 h4, v36 h1 h4, v100 h0 h1 h2 h3 h4 h5 h6 h7, up_mul, up_sum, lit_1024,
    up_div_1024, Finset.univ_unique, Finset.sum_singleton]

theorem v114 (r : Fin 4096) (l : Fin 1024) :
    val_main_v114 (F := Ideal) x0 x1 x2 x3 x4 x5 x6 x7 (ix2 r l) = ((dpe w (a r) l : ℝ) : EReal) := by
  pointwise [val_main_v114, val_main_v113, val_main_v112, val_main_v111, val_main_v105, val_main_v104]
  simp only [v25 h1 h4, v33 h1 h4, v100 h0 h1 h2 h3 h4 h5 h6 h7,
    v110 h0 h1 h2 h3 h4 h5 h6 h7, up_mul, up_add]
  rw [dpe, ← rmsBack_chain]
  simp only [Nat.cast_ofNat]

theorem v117 (r : Fin 4096) (l : Fin 1024) :
    val_main_v117 (F := Ideal) x0 x1 x2 x3 x4 x5 x6 x7 (ix2 r l) = ((dgl w (a r) l : ℝ) : EReal) := by
  pointwise [val_main_v117, val_main_v95]
  simp only [v93 h0 h1 h2 h3 h4 h5 h6 h7, v40 h1 h4 h5, v24 h0 h2 h3, up_mul, dgl]

theorem v120 (r : Fin 4096) (l : Fin 1024) :
    val_main_v120 (F := Ideal) x0 x1 x2 x3 x4 x5 x6 x7 (ix2 r l) = ((dh3 w (a r) l : ℝ) : EReal) := by
  pointwise [val_main_v120]
  simp only [v117 h0 h1 h2 h3 h4 h5 h6 h7, h3, up_mul, up_sum, dh3]

theorem v123 (z : Fin 1) (l : Fin 1024) :
    val_main_v123 (F := Ideal) x0 x1 x2 x3 x4 x5 x6 x7 (ix2 z l) = ((∑ r, dgGate w (a r) l : ℝ) : EReal) := by
  pointwise [val_main_v123, val_main_v122, val_main_v121, val_main_cst_31]
  simp only [v12 h0, v120 h0 h1 h2 h3 h4 h5 h6 h7, up_mul, up_sum, dgGate, mul_comm]

theorem v125 (r : Fin 4096) (l : Fin 1024) :
    val_main_v125 (F := Ideal) x0 x1 x2 x3 x4 x5 x6 x7 (ix2 r l) = ((dh3 w (a r) l * w.gGate l : ℝ) : EReal) := by
  pointwise [val_main_v125, val_main_v124]
  simp only [v120 h0 h1 h2 h3 h4 h5 h6 h7, h2, up_mul]

theorem v136 (r : Fin 4096) (l : Fin 1024) : val_main_v136 (F := Ideal) x0 x1 x2 x3 x4 x5 x6 x7 (ix2 r l)
    = (((∑ k, (a r).x k * (dh3 w (a r) k * w.gGate k))
        * (-(1 / 2) * (rinv (a r).x / (meanSq (a r).x + eps))) / 1024 : ℝ) : EReal) := by
  pointwise [val_main_v136, val_main_v135, val_main_v134, val_main_v133, val_main_v132, val_main_v128, val_main_v127,
    val_main_v126, val_main_cst_32, val_main_cst_33, val_main_cst_34]
  simp only [h0, v10 h0, v125 h0 h1 h2 h3 h4 h5 h6 h7, up_mul, up_sum, lit_1024,
    up_div_1024, Finset.univ_unique, Finset.sum_singleton]

/-- The hidden rows' gradient. -/
theorem v140 (r : Fin 4096) (l : Fin 1024) :
    val_main_v140 (F := Ideal) x0 x1 x2 x3 x4 x5 x6 x7 (ix2 r l) = ((dx w (a r) l : ℝ) : EReal) := by
  pointwise [val_main_v140, val_main_v139, val_main_v138, val_main_v137, val_main_v131, val_main_v130, val_main_v129]
  simp only [h0, v7 h0, v93 h0 h1 h2 h3 h4 h5 h6 h7, v125 h0 h1 h2 h3 h4 h5 h6 h7,
    v136 h0 h1 h2 h3 h4 h5 h6 h7, up_mul, up_add]
  rw [dx, ← rmsBack_chain]
  simp only [Nat.cast_ofNat, add_assoc]

/-- The gate matrix's gradient. -/
theorem v145 (k l : Fin 1024) : val_main_v145 (F := Ideal) x0 x1 x2 x3 x4 x5 x6 x7 (ix2 k l)
    = ((∑ r, Spec.h3 w (a r) k * dgl w (a r) l : ℝ) : EReal) := by
  pointwise [val_main_v145, val_main_v119, val_main_v118]
  simp only [v14 h0 h2, v117 h0 h1 h2 h3 h4 h5 h6 h7, up_mul, up_sum, mul_comm]

/-- The up projection's gradient, in four column blocks. -/
theorem v148 (b : Fin 4) (k l : Fin 256) : val_main_v148 (F := Ideal) x0 x1 x2 x3 x4 x5 x6 x7 (ix3 b k l)
    = ((∑ r, (a r).p k * dpe w (a r) (col b l) : ℝ) : EReal) := by
  pointwise [val_main_v148, val_main_v147, val_main_v146, val_main_v116, val_main_v115]
  simp only [h1, v114 h0 h1 h2 h3 h4 h5 h6 h7, up_mul, up_sum]
  rw [EReal.coe_eq_coe_iff]
  exact Finset.sum_congr rfl fun _ _ => mul_comm _ _

/-- The small gradients and the loss, a row each. -/
theorem v144 (b : Fin 8) (l : Fin 1024) : val_main_v144 (F := Ideal) x0 x1 x2 x3 x4 x5 x6 x7 (ix2 b l)
    = ((small w a b l : ℝ) : EReal) := by
  pointwise [val_main_v144]
  by_cases c0 : b.val < 1
  · obtain rfl : b = 0 := Fin.ext (by simpa using c0)
    rw [dif_pos c0]
    exact v123 h0 h1 h2 h3 h4 h5 h6 h7 _ l
  by_cases c1 : b.val - 1 < 1
  · obtain rfl : b = 1 := Fin.ext (by simp; omega)
    rw [dif_neg c0, dif_pos c1]
    exact v98 h0 h1 h2 h3 h4 h5 h6 h7 _ l
  by_cases c2 : b.val - 1 - 1 < 1
  · obtain rfl : b = 2 := Fin.ext (by simp; omega)
    rw [dif_neg c0, dif_neg c1, dif_pos c2]
    pointwise [val_main_v141]
    exact v79 h0 h1 h2 h3 h4 h5 h6 h7 l
  by_cases c3 : b.val - 1 - 1 - 1 < 1
  · obtain rfl : b = 3 := Fin.ext (by simp; omega)
    rw [dif_neg c0, dif_neg c1, dif_neg c2, dif_pos c3]
    pointwise [val_main_v142]
    exact v67 h0 h1 h2 h3 h4 h5 h6 h7 _
  · rw [dif_neg c0, dif_neg c1, dif_neg c2, dif_neg c3, small_rest w a b l (by omega)]
    pointwise [val_main_v143, val_main_cst_35]
    exact EReal.coe_zero.symm

end Loss

end Cert.Ple.Reference
-- ==== Proof.Real.Finite.lean ====
/- An array whose entries minus themselves are zero holds real numbers. -/
module

public import Idealize.ShloMosaic.Lib.Pipeline.ValueKit
public import Idealize.ShloMosaic.PureOps
public import Idealize.ShloMosaic.Lib.StableHlo
public import proofs.«01_k».proof.Proof.Real.Lift

@[expose] public section

noncomputable section

namespace Cert.Finite

open Idealize.ShloMosaic

theorem eq_toReal (x : EReal) (h : x - x = 0) : x = (x.toReal : EReal) := by
  induction x with
  | bot => simp at h
  | top => simp at h
  | coe r => rfl

/-- The comparison a finiteness condition states of an array, at an entry. -/
theorem real_of_cmp {s : Shape} {x : FVec Ideal s .f32} {hb : (⟨0, ![]⟩ : Shape).BroadcastsInDim s (![] : Fin 0 → Fin s.rank)}
    (h : cmpf .oeq (subf x x) (broadcastInDim s ![] hb (constant ⟨0, ![]⟩ .f32 0x00000000#32)) = fun _ => 1#1) (i : s.Idx) :
    x i = ((x i).toReal : EReal) := by
  have hi := congrFun h i
  refine eq_toReal _ ?_
  by_contra hne
  revert hi
  pointwise
  simp [hne]

end Cert.Finite
-- ==== Proof.Ple.Claim.lean ====
/- The embedding gradients' kernel and the derivative of the plain forward lines end with equal results. -/
module

public import proofs.«01_k».proof.Proof.Ple.RefRun
public import proofs.«01_k».proof.Defs
public import proofs.«01_k».proof.Proof.Gen.Pre_finite
public import proofs.«01_k».proof.Proof.Gen.PleRefIdeal.Run
public import proofs.«01_k».proof.Proof.Ple.Arrays
public import proofs.«01_k».proof.Proof.Ple.Reference
public import proofs.«01_k».proof.Proof.Real.Finite

@[expose] public section

set_option maxRecDepth 16384

noncomputable section

namespace Cert.Ple.Claim

open Idealize.ShloMosaic Idealize.ShloMosaic.TcCoe Idealize.SL.Sem
open Cert.Ple.Spec Cert.Finite

variable (m : (ℓ : Loc PleIdeal.nD PleIdeal.τ PleIdeal.sig) → Buf (Elt Ideal) ℓ) (c : Dev PleIdeal.nD)

/-- The real weights and tokens a device's arguments hold. -/
def weights : Weights where
  gGate l := (m ((c.tc : Thread PleIdeal.nD PleIdeal.τ).loc PleIdeal.main_arg2) (ix2 (0 : Fin 1) l)).toReal
  gPost l := (m ((c.tc : Thread PleIdeal.nD PleIdeal.τ).loc PleIdeal.main_arg5) (ix2 (0 : Fin 1) l)).toReal
  gFinal l := (m ((c.tc : Thread PleIdeal.nD PleIdeal.τ).loc PleIdeal.main_arg6) (ix1 l)).toReal
  wGate k l := (m ((c.tc : Thread PleIdeal.nD PleIdeal.τ).loc PleIdeal.main_arg3) (ix2 k l)).toReal
  wUp k l := (m ((c.tc : Thread PleIdeal.nD PleIdeal.τ).loc PleIdeal.main_arg4) (ix2 k l)).toReal

def tokens (r : Fin 4096) : Token where
  x l := (m ((c.tc : Thread PleIdeal.nD PleIdeal.τ).loc PleIdeal.main_arg0) (ix2 r l)).toReal
  p k := (m ((c.tc : Thread PleIdeal.nD PleIdeal.τ).loc PleIdeal.main_arg1) (ix2 r k)).toReal
  t l := (m ((c.tc : Thread PleIdeal.nD PleIdeal.τ).loc PleIdeal.main_arg7) (ix2 r l)).toReal

theorem holds (h : Cert.Pre_PleIdeal_finite (hPre_finite := Cert.Pre_finite.Gen.facts) m) :
    Kernel.Holds m c (weights m c) (tokens m c) := by
  obtain ⟨h0, h1, h2, h3, h4, h5, h6, h7⟩ := h c
  exact {
    x := fun r l => real_of_cmp h0 (ix2 r l)
    p := fun r k => real_of_cmp h1 (ix2 r k)
    gGate := fun z l => by rw [Subsingleton.elim z 0]; exact real_of_cmp h2 (ix2 (0 : Fin 1) l)
    wGate := fun k l => real_of_cmp h3 (ix2 k l)
    wUp := fun k l => real_of_cmp h4 (ix2 k l)
    gPost := fun z l => by rw [Subsingleton.elim z 0]; exact real_of_cmp h5 (ix2 (0 : Fin 1) l)
    gFinal := fun l => real_of_cmp h6 (ix1 l)
    t := fun r l => real_of_cmp h7 (ix2 r l) }

theorem algebraic : Cert.algebraic_PleIdeal_PleRefIdeal_pre_finite (hPleIdeal := Cert.PleIdeal.Gen.facts)
    (hPleRefIdeal := Cert.PleRefIdeal.Gen.facts) (hPre_finite := Cert.Pre_finite.Gen.facts) := by
  pair_intro
  · run_from Cert.PleIdeal.Gen.run_main m g
  · run_from Cert.PleRefIdeal.Whole.reference_run m' g'
    · have H := holds m c hpre
      refine Eq.trans (funext fun i => ?_) (Kernel.final8 H).symm
      rw [Cert.Rows.ix2_eta i]
      exact Reference.v140 H.x H.p H.gGate H.wGate H.wUp H.gPost H.gFinal H.t (i 0) (i 1)
    · have H := holds m c hpre
      refine Eq.trans (funext fun i => ?_) (Kernel.final9 H).symm
      rw [Cert.Rows.ix2_eta i]
      exact Reference.v145 H.x H.p H.gGate H.wGate H.wUp H.gPost H.gFinal H.t (i 0) (i 1)
    · have H := holds m c hpre
      refine Eq.trans (funext fun i => ?_) (Kernel.final10 H).symm
      rw [Cert.Rows.ix3_eta i]
      exact Reference.v148 H.x H.p H.gGate H.wGate H.wUp H.gPost H.gFinal H.t (i 0) (i 1) (i 2)
    · have H := holds m c hpre
      refine Eq.trans (funext fun i => ?_) (Kernel.final11 H).symm
      rw [Cert.Rows.ix2_eta i]
      exact Reference.v144 H.x H.p H.gGate H.wGate H.wUp H.gPost H.gFinal H.t (i 0) (i 1)

end Cert.Ple.Claim
-- ==== Proof.Mix.RefRun.lean ====
/- The reference's run, stated in the named stages of its arguments. -/
module

public import proofs.«01_k».proof.Proof.Gen.MixRefIdeal.Run
public import proofs.«01_k».proof.Proof.Gen.MixRefIdeal.Read

@[expose] public section

namespace Cert.MixRefIdeal.Whole

open Idealize.ShloMosaic Idealize.ShloMosaic.TcCoe Idealize.SL.Sem

/-- The reference's run, its results as the named stages of its arguments. -/
theorem reference_run (m' : (ℓ : Loc nD τ sig) → Buf (Elt Ideal) ℓ) (g' : Dev nD → PrngReg) :
    θ_run defs (onTc (τ := τ) (main (F := Ideal))) ⟨m', fun _ => 0, g'⟩ fun r => ∀ c : Dev nD,
      let A := fun b : Ref sig .tc => m' ((c : Thread nD τ).loc b)
      r.2.mem ((c : Thread nD τ).loc main_v86) = Read.val_main_v86 (F := Ideal) (A main_arg0) (A main_arg2) (A main_arg3)
          (A main_arg4) (A main_arg7) (A main_arg8)
      ∧ r.2.mem ((c : Thread nD τ).loc main_v54) = Read.val_main_v54 (F := Ideal) (A main_arg5) (A main_arg6) (A main_arg7)
          (A main_arg8)
      ∧ r.2.mem ((c : Thread nD τ).loc main_v91) = Read.val_main_v91 (F := Ideal) (A main_arg0) (A main_arg1) (A main_arg2)
          (A main_arg3) (A main_arg4) (A main_arg5) (A main_arg6) (A main_arg8)
      ∧ r.2.mem ((c : Thread nD τ).loc main_v53) = Read.val_main_v53 (F := Ideal) (A main_arg1) (A main_arg6) (A main_arg7)
          (A main_arg8)
      ∧ r.2.mem ((c : Thread nD τ).loc main_v90) = Read.val_main_v90 (F := Ideal) (A main_arg0) (A main_arg1) (A main_arg2)
          (A main_arg3) (A main_arg4) (A main_arg5) (A main_arg7) (A main_arg8)
      ∧ r.2.mem ((c : Thread nD τ).loc main_arg0) = A main_arg0 ∧ r.2.mem ((c : Thread nD τ).loc main_arg1) = A main_arg1
      ∧ r.2.mem ((c : Thread nD τ).loc main_arg2) = A main_arg2 ∧ r.2.mem ((c : Thread nD τ).loc main_arg3) = A main_arg3
      ∧ r.2.mem ((c : Thread nD τ).loc main_arg4) = A main_arg4 ∧ r.2.mem ((c : Thread nD τ).loc main_arg5) = A main_arg5
      ∧ r.2.mem ((c : Thread nD τ).loc main_arg6) = A main_arg6 ∧ r.2.mem ((c : Thread nD τ).loc main_arg7) = A main_arg7
      ∧ r.2.mem ((c : Thread nD τ).loc main_arg8) = A main_arg8 :=
  (θ_run defs _ _).mono (fun r h c => ⟨(h c).1.trans (Read.val_main_v86_eq _ c), (h c).2.1.trans (Read.val_main_v54_eq _ _ _ _),
    (h c).2.2.1.trans (Read.val_main_v91_eq _ c), (h c).2.2.2.1.trans (Read.val_main_v53_eq _ _ _ _),
    (h c).2.2.2.2.1.trans (Read.val_main_v90_eq _ c), (h c).2.2.2.2.2⟩) (Value.run m' g')

/-- The reference runs, leaves its arguments as they were and ends with every counter at zero. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0 :=
  (θ_run defs _ _).mono (fun r h => ⟨fun c => (h c).2.2.2.2.2, Idealize.ShloMosaic.sem_eq_zero_of_no_sems (by decide) r.2⟩)
    (Value.run m ρ)

end Cert.MixRefIdeal.Whole
-- ==== Proof.Real.LayerNorm.lean ====
/- The layer norm of a row of real numbers and its gradient: the root-mean-square norm of the row less its mean. -/
module

public import proofs.«01_k».proof.Proof.Real.Norm

@[expose] public section

noncomputable section

namespace Cert.Lift

variable {n : ℕ}

/-- The row less its mean. -/
def cen (v : Fin n → ℝ) (l : Fin n) : ℝ := v l - (∑ k, v k) / n

/-- The gradient of the norm with respect to its row, for the cotangent `dy` of the result already multiplied by the gain. -/
def lnBack (v dy : Fin n → ℝ) (l : Fin n) : ℝ :=
  rinv (cen v) * (dy l - (∑ k, dy k) / n - unit (cen v) l * ((∑ k, dy k * unit (cen v) k) / n))

theorem sum_cen [NeZero n] (v : Fin n → ℝ) : ∑ l, cen v l = 0 := by
  have h : (n : ℝ) ≠ 0 := by exact_mod_cast NeZero.ne n
  simp only [cen, Finset.sum_sub_distrib, Finset.sum_const, Finset.card_univ, Fintype.card_fin, nsmul_eq_mul]
  field_simp
  ring

/-- The gradient as automatic differentiation writes it: the direct part, the part through the variance, and the part of
    both through the mean. -/
theorem lnBack_chain [NeZero n] (v dy : Fin n → ℝ) (l : Fin n) :
    dy l * rinv (cen v)
      + (∑ k, cen v k * dy k) * (-(1 / 2) * (rinv (cen v) / (meanSq (cen v) + eps))) / n * (2 * cen v l)
      + ((∑ k, -(dy k * rinv (cen v)))
        + ∑ k, -((∑ j, cen v j * dy j) * (-(1 / 2) * (rinv (cen v) / (meanSq (cen v) + eps))) / n * (2 * cen v k))) / n
      = lnBack v dy l := by
  have h : ∑ k, dy k * unit (cen v) k = rinv (cen v) * ∑ k, cen v k * dy k := by
    rw [Finset.mul_sum]; exact Finset.sum_congr rfl fun k _ => by unfold unit; ring
  have hs : ∑ k, -(dy k * rinv (cen v)) = -(rinv (cen v) * ∑ k, dy k) := by
    rw [Finset.mul_sum, Finset.sum_neg_distrib]; exact congrArg _ (Finset.sum_congr rfl fun k _ => mul_comm _ _)
  have hz : ∀ G : ℝ, ∑ k, -(G * (2 * cen v k)) = 0 := fun G => by
    rw [Finset.sum_neg_distrib, ← Finset.mul_sum, ← Finset.mul_sum, sum_cen]; ring
  rw [hz, hs, rinv_div, lnBack, h, unit]
  ring

open Idealize.ShloMosaic in
theorem lit_512 : Ideal.ofBits .f32 0x44000000#32 = ((512 : ℝ) : EReal) := by
  simp [Ideal.ofBits, Ideal.ieee]; rw [← EReal.coe_mul]; norm_num

open Idealize.ShloMosaic in
theorem up_div_512 (a : ℝ) : Ideal.div (a : EReal) ((512 : ℝ) : EReal) = ((a / 512 : ℝ) : EReal) :=
  up_div a (by norm_num)

open Idealize.ShloMosaic in
/-- The norm's factor, as the ideal reading computes it on a row of 512. -/
theorem up_rinv_512 (v : Fin 512 → ℝ) :
    Ideal.rsqrt (((∑ k, v k * v k) / 512 + eps : ℝ) : EReal) = ((rinv v : ℝ) : EReal) := by
  have h : (∑ k, v k * v k) / 512 + eps = meanSq v + eps := by simp [meanSq]
  rw [h, up_rsqrt (meanSq_eps_pos v), rinv]

/-- The derivative of `v * sig v`. -/
def siluGrad (v : ℝ) : ℝ := sig v * (1 + v * (1 - sig v))

end Cert.Lift
-- ==== Proof.Mix.Spec.lean ====
/- The mixers' heads over real numbers: the layer norm with its gate beside the grouped product of the pooled rows, the
   output product's cotangent, and the gradients of one token. -/
module

public import proofs.«01_k».proof.Proof.Real.LayerNorm

@[expose] public section

noncomputable section

namespace Cert.Mix.Spec

open Cert.Lift

/-- The weights: the convolution's bias, the norm's gain and shift, the groups' matrices, their scale, the output matrix. -/
structure Weights where
  convB : Fin 512 → ℝ
  lnG : Fin 512 → ℝ
  lnB : Fin 512 → ℝ
  poolW : Fin 4 → Fin 128 → Fin 128 → ℝ
  scale : Fin 512 → ℝ
  wOut : Fin 1024 → Fin 1024 → ℝ

/-- One token: its convolved row, its pooled row, and the cotangent of the mixers' output. -/
structure Token where
  c : Fin 512 → ℝ
  pooled : Fin 512 → ℝ
  dy : Fin 1024 → ℝ

/-- Channel `k` of group `g`. -/
def lane (g : Fin 4) (k : Fin 128) : Fin 512 := ⟨g * 128 + k, by omega⟩
/-- A channel's group, and its place there. -/
def grp (l : Fin 512) : Fin 4 := ⟨l / 128, by omega⟩
def pos (l : Fin 512) : Fin 128 := ⟨l % 128, by omega⟩
/-- The two halves of the mixed row. -/
def lo (l : Fin 512) : Fin 1024 := ⟨l, by omega⟩
def hi (l : Fin 512) : Fin 1024 := ⟨512 + l, by omega⟩

theorem lane_grp (l : Fin 512) : lane (grp l) (pos l) = l := Fin.ext (by simp only [lane, grp, pos]; omega)
theorem grp_lane (g : Fin 4) (k : Fin 128) : grp (lane g k) = g := Fin.ext (by simp only [lane, grp]; omega)
theorem pos_lane (g : Fin 4) (k : Fin 128) : pos (lane g k) = k := Fin.ext (by simp only [lane, pos]; omega)

variable (w : Weights) (a : Token)

/-- The row the norm reads. -/
def u1 (l : Fin 512) : ℝ := a.c l + w.convB l
/-- The row normed, before the gain. -/
def uh : Fin 512 → ℝ := unit (cen (u1 w a))
/-- The gate's argument. -/
def u2 (l : Fin 512) : ℝ := uh w a l * w.lnG l + w.lnB l
/-- The pooled row through its group's matrix. -/
def mixed (g : Fin 4) (l : Fin 128) : ℝ := ∑ k, a.pooled (lane g k) * w.poolW g k l
/-- The mixed row: the gated half and the pooled half. -/
def mix (l : Fin 1024) : ℝ :=
  if h : l.val < 512 then u2 w a ⟨l, h⟩ * sig (u2 w a ⟨l, h⟩)
  else mixed w a (grp ⟨l - 512, by omega⟩) (pos ⟨l - 512, by omega⟩) * w.scale ⟨l - 512, by omega⟩
/-- The cotangent of the mixed row. -/
def dmix (k : Fin 1024) : ℝ := ∑ l, a.dy l * w.wOut k l
/-- The cotangent of the gate's argument. -/
def du2 (l : Fin 512) : ℝ := dmix w a (lo l) * siluGrad (u2 w a l)
/-- The gradient of the convolved row. -/
def du1 : Fin 512 → ℝ := lnBack (u1 w a) fun l => du2 w a l * w.lnG l
/-- The cotangent of the scaled group product, and of the product. -/
def dq (l : Fin 512) : ℝ := dmix w a (hi l)
def dmixed (l : Fin 512) : ℝ := dq w a l * w.scale l
/-- The gradient of the pooled row. -/
def dpo (g : Fin 4) (k : Fin 128) : ℝ := ∑ l, dmixed w a (lane g l) * w.poolW g k l

/-- The gradients of the gain, the shift, the bias and the scale over some tokens, a row each, above rows of zeros. -/
def small {n : ℕ} (a : Fin n → Token) (b : Fin 8) (l : Fin 512) : ℝ :=
  match b with
  | 0 => ∑ r, du2 w (a r) l * uh w (a r) l
  | 1 => ∑ r, du2 w (a r) l
  | 2 => ∑ r, du1 w (a r) l
  | 3 => ∑ r, dq w (a r) l * mixed w (a r) (grp l) (pos l)
  | _ => 0

theorem small_rest {n : ℕ} (a : Fin n → Token) (b : Fin 8) (l : Fin 512) (h : 4 ≤ b.val) : small w a b l = 0 := by
  unfold small
  split <;> simp_all

end Cert.Mix.Spec
-- ==== Proof.Mix.Payloads.lean ====
/- The kernel's values on a tile of 512 tokens: when what they are computed from is real, each is the real formula of
   `Cert.Mix.Spec` at its token. -/
module

public import proofs.«01_k».proof.Proof.Mix.Spec
public import proofs.«01_k».proof.Proof.Gen.MixIdeal.Skeleton

@[expose] public section

set_option maxRecDepth 16384

noncomputable section

namespace Cert.Mix.Payloads

open Idealize.ShloMosaic Idealize.ShloMosaic.TcCoe Idealize.SL.Sem
open Cert.MixIdeal Cert.MixIdeal.Gen Cert.Lift Cert.Mix.Spec

variable {w : Weights} {a : Fin 512 → Token}

section Output
variable {d : Vec Ideal S512x1024 .f32} (hd : ∀ r l, d (ix2 r l) = (((a r).dy l : ℝ) : EReal))
include hd

theorem pay6 {o : Vec Ideal S1024x1024 .bf16} (ho : ∀ k l, o (ix2 k l) = ((w.wOut k l : ℝ) : EReal))
    (r : Fin 512) (k : Fin 1024) : k0_pay6 d o (ix2 r k) = ((dmix w (a r) k : ℝ) : EReal) := by
  pointwise [k0_pay6, k0_pay5]
  simp only [hd, ho, up_mul, up_sum, dmix]

theorem pay7 {x : Vec Ideal S512x1024 .bf16} (hx : ∀ r l, x (ix2 r l) = ((mix w (a r) l : ℝ) : EReal))
    (acc : Vec Ideal S1024x1024 .f32) (k l : Fin 1024) :
    k0_pay7 d acc x (ix2 k l) = acc (ix2 k l) + ((∑ r, mix w (a r) k * (a r).dy l : ℝ) : EReal) := by
  pointwise [k0_pay7, k0_pay5]
  simp only [hd, hx, up_mul, up_sum]

end Output

section Norm
variable {u : Vec Ideal S512x512 .f32} (hu : ∀ r l, u (ix2 r l) = ((u1 w (a r) l : ℝ) : EReal))
include hu

theorem pay8 (r : Fin 512) (l : Fin 512) : k0_pay8 u (ix2 r l) = ((cen (u1 w (a r)) l : ℝ) : EReal) := by
  pointwise [k0_pay8]
  simp only [hu, up_sum, lit_512, up_div_512, up_sub, cen, Nat.cast_ofNat]

theorem pay9 (r : Fin 512) (z : Fin 1) : k0_pay9 u (ix2 r z) = ((rinv (cen (u1 w (a r))) : ℝ) : EReal) := by
  pointwise [k0_pay9]
  simp only [pay8 hu, up_mul, up_sum, lit_512, lit_eps, up_div_512, up_add, up_rinv_512]

theorem pay10 (r : Fin 512) (l : Fin 512) : k0_pay10 u (ix2 r l) = ((uh w (a r) l : ℝ) : EReal) := by
  pointwise [k0_pay10]
  simp only [pay8 hu, pay9 hu, up_mul, uh, unit]

end Norm

section Gate
variable {D : FVec Ideal S512x1024 .f32} (hD : ∀ r l, D (ix2 r l) = ((dmix w (a r) l : ℝ) : EReal))
  {h : FVec Ideal S512x512 .f32} (hh : ∀ r l, h (ix2 r l) = ((uh w (a r) l : ℝ) : EReal))
  {g : Vec Ideal S1x512 .f32} (hg : ∀ z l, g (ix2 z l) = ((w.lnG l : ℝ) : EReal))
  {b : Vec Ideal S1x512 .f32} (hb : ∀ z l, b (ix2 z l) = ((w.lnB l : ℝ) : EReal))
include hD hh hg hb

theorem pay11 (r : Fin 512) (l : Fin 512) : k0_pay11 D h g b (ix2 r l) = ((du2 w (a r) l : ℝ) : EReal) := by
  pointwise [k0_pay11]
  simp only [hD, hh, hg, hb, up_mul, up_add, up_logistic, lit_1, up_sub, du2, siluGrad, u2]
  rfl

theorem pay12 {i : FVec Ideal S512x1 .f32} (hi : ∀ r z, i (ix2 r z) = ((rinv (cen (u1 w (a r))) : ℝ) : EReal))
    (r : Fin 512) (l : Fin 512) : k0_pay12 D i h g b g (ix2 r l) = ((du1 w (a r) l : ℝ) : EReal) := by
  pointwise [k0_pay12]
  simp only [pay11 hD hh hg hb, hh, hg, hi, up_mul, up_sum, lit_512, up_div_512, up_sub, uh, lnBack, du1, Nat.cast_ofNat]

theorem pay13 (y : Vec Ideal S1x512 .f32) (z : Fin 1) (l : Fin 512) : k0_pay13 D h g b y (ix2 z l)
    = y (ix2 z l) + ((∑ r, du2 w (a r) l * uh w (a r) l : ℝ) : EReal) := by
  pointwise [k0_pay13]
  simp only [pay11 hD hh hg hb, hh, up_mul, up_sum]

end Gate

theorem pay14 {e : FVec Ideal S512x512 .f32} (he : ∀ r l, e (ix2 r l) = ((du2 w (a r) l : ℝ) : EReal))
    (y : Vec Ideal S1x512 .f32) (z : Fin 1) (l : Fin 512) :
    k0_pay14 e y (ix2 z l) = y (ix2 z l) + ((∑ r, du2 w (a r) l : ℝ) : EReal) := by
  pointwise [k0_pay14]
  simp only [he, up_sum]

theorem pay15 {e : FVec Ideal S512x512 .f32} (he : ∀ r l, e (ix2 r l) = ((du1 w (a r) l : ℝ) : EReal))
    (y : Vec Ideal S1x512 .f32) (z : Fin 1) (l : Fin 512) :
    k0_pay15 e y (ix2 z l) = y (ix2 z l) + ((∑ r, du1 w (a r) l : ℝ) : EReal) := by
  pointwise [k0_pay15]
  simp only [he, up_sum]

/- The columns of a group in the pooled half of the mixed row. -/
theorem at0 (l : Fin 128) : (⟨512 + l.val, by omega⟩ : Fin 1024) = hi (lane 0 l) := Fin.ext (by simp [hi, lane])
theorem at1 (l : Fin 128) : (⟨640 + l.val, by omega⟩ : Fin 1024) = hi (lane 1 l) := Fin.ext (by simp [hi, lane]; omega)
theorem at2 (l : Fin 128) : (⟨768 + l.val, by omega⟩ : Fin 1024) = hi (lane 2 l) := Fin.ext (by simp [hi, lane]; omega)
theorem at3 (l : Fin 128) : (⟨896 + l.val, by omega⟩ : Fin 1024) = hi (lane 3 l) := Fin.ext (by simp [hi, lane]; omega)

/- The four groups: a group's row of the scale's gradient, its matrix's gradient, and its columns of the pooled gradient. -/
section Groups
variable {D : FVec Ideal S512x1024 .f32} (hD : ∀ r l, D (ix2 r l) = ((dmix w (a r) l : ℝ) : EReal))
  {g : Fin 4}
  {W : Vec Ideal S1x128x128 .f32} (hW : ∀ z k l, W (ix3 z k l) = ((w.poolW g k l : ℝ) : EReal))
  {p : Vec Ideal S512x128 .bf16} (hp : ∀ r k, p (ix2 r k) = (((a r).pooled (lane g k) : ℝ) : EReal))
  {s : Vec Ideal S1x128 .f32} (hs : ∀ z l, s (ix2 z l) = ((w.scale (lane g l) : ℝ) : EReal))
  (y : Vec Ideal S1x128 .f32) (Y : Vec Ideal S1x128x128 .f32)

include hD hW hp in
theorem row0 (h : g = 0) (z : Fin 1) (l : Fin 128) : k0_pay19 D W p y (ix2 z l)
    = y (ix2 z l) + ((∑ r, dq w (a r) (lane g l) * mixed w (a r) g l : ℝ) : EReal) := by
  subst h
  pointwise [k0_pay19, k0_pay18, k0_pay17, k0_pay16]
  simp only [hD, hW, hp, at0, up_mul, up_sum, dq, mixed]

include hD hp hs in
theorem mat0 (h : g = 0) (z : Fin 1) (k l : Fin 128) : k0_pay21 (k0_pay18 p) (k0_pay20 D s) Y (ix3 z k l)
    = Y (ix3 z k l) + ((∑ r, (a r).pooled (lane g k) * dmixed w (a r) (lane g l) : ℝ) : EReal) := by
  subst h
  rw [Subsingleton.elim z 0]
  pointwise [k0_pay21, k0_pay20, k0_pay18, k0_pay16]
  simp only [hD, hs, hp, at0, up_mul, up_sum, dq, dmixed]

include hD hW hs in
theorem col0 (h : g = 0) (r : Fin 512) (k : Fin 128) : k0_pay22 (k0_pay17 W) (k0_pay20 D s) (ix2 r k)
    = ((dpo w (a r) g k : ℝ) : EReal) := by
  subst h
  pointwise [k0_pay22, k0_pay20, k0_pay17, k0_pay16]
  simp only [hD, hs, hW, at0, up_mul, up_sum, dq, dmixed, dpo]

include hD hW hp in
theorem row1 (h : g = 1) (z : Fin 1) (l : Fin 128) : k0_pay26 D W p y (ix2 z l)
    = y (ix2 z l) + ((∑ r, dq w (a r) (lane g l) * mixed w (a r) g l : ℝ) : EReal) := by
  subst h
  pointwise [k0_pay26, k0_pay25, k0_pay24, k0_pay23]
  simp only [hD, hW, hp, at1, up_mul, up_sum, dq, mixed]

include hD hp hs in
theorem mat1 (h : g = 1) (z : Fin 1) (k l : Fin 128) : k0_pay29 (k0_pay28 D p s Y) (ix3 z k l)
    = Y (ix3 z k l) + ((∑ r, (a r).pooled (lane g k) * dmixed w (a r) (lane g l) : ℝ) : EReal) := by
  subst h
  rw [Subsingleton.elim z 0]
  pointwise [k0_pay29, k0_pay28, k0_pay27, k0_pay25, k0_pay23]
  simp only [hD, hs, hp, at1, up_mul, up_sum, dq, dmixed]

include hD hW hs in
theorem col1 (h : g = 1) (r : Fin 512) (k : Fin 128) : k0_pay30 (k0_pay24 W) (k0_pay27 D s) (ix2 r k)
    = ((dpo w (a r) g k : ℝ) : EReal) := by
  subst h
  pointwise [k0_pay30, k0_pay27, k0_pay24, k0_pay23]
  simp only [hD, hs, hW, at1, up_mul, up_sum, dq, dmixed, dpo]

include hD hW hp in
theorem row2 (h : g = 2) (z : Fin 1) (l : Fin 128) : k0_pay34 D W p y (ix2 z l)
    = y (ix2 z l) + ((∑ r, dq w (a r) (lane g l) * mixed w (a r) g l : ℝ) : EReal) := by
  subst h
  pointwise [k0_pay34, k0_pay33, k0_pay32, k0_pay31]
  simp only [hD, hW, hp, at2, up_mul, up_sum, dq, mixed]

include hD hp hs in
theorem mat2 (h : g = 2) (z : Fin 1) (k l : Fin 128) : k0_pay36 D p s Y (ix3 z k l)
    = Y (ix3 z k l) + ((∑ r, (a r).pooled (lane g k) * dmixed w (a r) (lane g l) : ℝ) : EReal) := by
  subst h
  rw [Subsingleton.elim z 0]
  pointwise [k0_pay36, k0_pay35, k0_pay33, k0_pay31]
  simp only [hD, hs, hp, at2, up_mul, up_sum, dq, dmixed]

include hD hW hs in
theorem col2 (h : g = 2) (r : Fin 512) (k : Fin 128) : k0_pay37 D W s (ix2 r k)
    = ((dpo w (a r) g k : ℝ) : EReal) := by
  subst h
  pointwise [k0_pay37, k0_pay35, k0_pay32, k0_pay31]
  simp only [hD, hs, hW, at2, up_mul, up_sum, dq, dmixed, dpo]

include hD hW hp in
theorem row3 (h : g = 3) (z : Fin 1) (l : Fin 128) : k0_pay41 D W p y (ix2 z l)
    = y (ix2 z l) + ((∑ r, dq w (a r) (lane g l) * mixed w (a r) g l : ℝ) : EReal) := by
  subst h
  pointwise [k0_pay41, k0_pay40, k0_pay39, k0_pay38]
  simp only [hD, hW, hp, at3, up_mul, up_sum, dq, mixed]

include hD hp hs in
theorem mat3 (h : g = 3) (z : Fin 1) (k l : Fin 128) : k0_pay43 D p s Y (ix3 z k l)
    = Y (ix3 z k l) + ((∑ r, (a r).pooled (lane g k) * dmixed w (a r) (lane g l) : ℝ) : EReal) := by
  subst h
  rw [Subsingleton.elim z 0]
  pointwise [k0_pay43, k0_pay42, k0_pay40, k0_pay38]
  simp only [hD, hs, hp, at3, up_mul, up_sum, dq, dmixed]

include hD hW hs in
theorem col3 (h : g = 3) (r : Fin 512) (k : Fin 128) : k0_pay44 D W s (ix2 r k)
    = ((dpo w (a r) g k : ℝ) : EReal) := by
  subst h
  pointwise [k0_pay44, k0_pay42, k0_pay39, k0_pay38]
  simp only [hD, hs, hW, at3, up_mul, up_sum, dq, dmixed, dpo]

end Groups

end Cert.Mix.Payloads
-- ==== Proof.Mix.Reference.lean ====
/- The reference's values on all 4096 tokens: when its arguments are real, each is the real formula of `Cert.Mix.Spec`
   at its token; a weight's gradient is that formula summed over the tokens. -/
module

public import proofs.«01_k».proof.Proof.Mix.Spec
public import proofs.«01_k».proof.Proof.Gen.MixRefIdeal.Read

@[expose] public section

set_option maxRecDepth 16384

noncomputable section

namespace Cert.Mix.Reference

open Idealize.ShloMosaic Idealize.ShloMosaic.TcCoe Idealize.SL.Sem
open Cert.MixRefIdeal Cert.MixRefIdeal.Gen Cert.MixRefIdeal.Read Cert.Lift Cert.Mix.Spec

variable {w : Weights} {a : Fin 4096 → Token}
  {x0 : FVec Ideal S4096x512 .f32} (h0 : ∀ r l, x0 (ix2 r l) = (((a r).c l : ℝ) : EReal))
  {x1 : FVec Ideal S4096x512 .f32} (h1 : ∀ r k, x1 (ix2 r k) = (((a r).pooled k : ℝ) : EReal))
  {x2 : FVec Ideal S1x512 .f32} (h2 : ∀ z l, x2 (ix2 z l) = ((w.convB l : ℝ) : EReal))
  {x3 : FVec Ideal S1x512 .f32} (h3 : ∀ z l, x3 (ix2 z l) = ((w.lnG l : ℝ) : EReal))
  {x4 : FVec Ideal S1x512 .f32} (h4 : ∀ z l, x4 (ix2 z l) = ((w.lnB l : ℝ) : EReal))
  {x5 : FVec Ideal S4x128x128 .f32} (h5 : ∀ g k l, x5 (ix3 g k l) = ((w.poolW g k l : ℝ) : EReal))
  {x6 : FVec Ideal S1x512 .f32} (h6 : ∀ z l, x6 (ix2 z l) = ((w.scale l : ℝ) : EReal))
  {x7 : FVec Ideal S1024x1024 .f32} (h7 : ∀ k l, x7 (ix2 k l) = ((w.wOut k l : ℝ) : EReal))
  {x8 : FVec Ideal S4096x1024 .f32} (h8 : ∀ r l, x8 (ix2 r l) = (((a r).dy l : ℝ) : EReal))

section Norm
include h0 h2

theorem v1 (r : Fin 4096) (l : Fin 512) : val_main_v1 (F := Ideal) x0 x2 (ix2 r l) = ((u1 w (a r) l : ℝ) : EReal) := by
  pointwise [val_main_v1, val_main_v0]
  simp only [h0, h2, up_add, u1]

theorem v5 (r : Fin 4096) (z : Fin 1) :
    val_main_v5 (F := Ideal) x0 x2 (ix2 r z) = (((∑ k, u1 w (a r) k) / 512 : ℝ) : EReal) := by
  pointwise [val_main_v5, val_main_v4, val_main_v3, val_main_v2, val_main_cst, val_main_cst_0]
  simp only [v1 h0 h2, up_sum, lit_512, up_div_512]

theorem v7 (r : Fin 4096) (l : Fin 512) :
    val_main_v7 (F := Ideal) x0 x2 (ix2 r l) = ((cen (u1 w (a r)) l : ℝ) : EReal) := by
  pointwise [val_main_v7, val_main_v6]
  simp only [v1 h0 h2, v5 h0 h2, up_sub, cen, Nat.cast_ofNat]

theorem v16 (r : Fin 4096) (l : Fin 512) :
    val_main_v16 (F := Ideal) x0 x2 (ix2 r l) = ((cen (u1 w (a r)) l : ℝ) : EReal) := by
  pointwise [val_main_v16, val_main_v15]
  simp only [v1 h0 h2, v5 h0 h2, up_sub, cen, Nat.cast_ofNat]

theorem v10 (r : Fin 4096) (l : Fin 512) :
    val_main_v10 (F := Ideal) x0 x2 (ix2 r l) = ((2 * cen (u1 w (a r)) l : ℝ) : EReal) := by
  pointwise [val_main_v10, val_main_v9, val_main_cst_1]
  simp only [v7 h0 h2, lit_2, up_mul]

theorem v18 (r : Fin 4096) (z : Fin 1) :
    val_main_v18 (F := Ideal) x0 x2 (ix2 r z) = ((meanSq (cen (u1 w (a r))) + eps : ℝ) : EReal) := by
  pointwise [val_main_v18, val_main_v17, val_main_v14, val_main_v13, val_main_v12, val_main_v11, val_main_v8,
    val_main_cst_2, val_main_cst_3, val_main_cst_4]
  simp only [v7 h0 h2, up_mul, up_sum, lit_512, lit_eps, up_div_512, up_add, meanSq, Nat.cast_ofNat]

theorem v19 (r : Fin 4096) (z : Fin 1) :
    val_main_v19 (F := Ideal) x0 x2 (ix2 r z) = ((rinv (cen (u1 w (a r))) : ℝ) : EReal) := by
  pointwise [val_main_v19]
  simp only [v18 h0 h2, up_rsqrt_meanSq]

theorem v22 (r : Fin 4096) (z : Fin 1) : val_main_v22 (F := Ideal) x0 x2 (ix2 r z)
    = ((-(1 / 2) * (rinv (cen (u1 w (a r))) / (meanSq (cen (u1 w (a r))) + eps)) : ℝ) : EReal) := by
  pointwise [val_main_v22, val_main_v21, val_main_cst_5, val_main_v20]
  simp only [v18 h0 h2, v19 h0 h2, lit_neg_half, up_div_meanSq, up_mul]

theorem v24 (r : Fin 4096) (l : Fin 512) : val_main_v24 (F := Ideal) x0 x2 (ix2 r l) = ((uh w (a r) l : ℝ) : EReal) := by
  pointwise [val_main_v24, val_main_v23]
  simp only [v16 h0 h2, v19 h0 h2, up_mul, uh, unit]

include h3 h4

theorem v28 (r : Fin 4096) (l : Fin 512) :
    val_main_v28 (F := Ideal) x0 x2 x3 x4 (ix2 r l) = ((u2 w (a r) l : ℝ) : EReal) := by
  pointwise [val_main_v28, val_main_v27, val_main_v26, val_main_v25]
  simp only [v24 h0 h2, h3, h4, up_mul, up_add, u2]

theorem sigm (r : Fin 4096) (l : Fin 512) :
    val_main_v29_2 (F := Ideal) x0 x2 x3 x4 (ix2 r l) = ((sig (u2 w (a r) l) : ℝ) : EReal) := by
  pointwise [val_main_v29_2, val_main_call0_v4, val_main_call0_v3, val_main_call0_v2, val_main_call0_v1, val_main_call0_v0,
    val_main_call0_cst, val_main_call0_cst_0]
  simp only [v28 h0 h2 h3 h4, up_neg, up_exp, up_one_add, up_sig]

theorem silu (r : Fin 4096) (l : Fin 512) :
    val_main_v29_0 (F := Ideal) x0 x2 x3 x4 (ix2 r l) = ((u2 w (a r) l * sig (u2 w (a r) l) : ℝ) : EReal) := by
  pointwise [val_main_v29_0]
  simp only [v28 h0 h2 h3 h4, sigm h0 h2 h3 h4, up_mul]

theorem slope (r : Fin 4096) (l : Fin 512) : val_main_v29_1 (F := Ideal) x0 x2 x3 x4 (ix2 r l)
    = ((sig (u2 w (a r) l) * (1 - sig (u2 w (a r) l)) : ℝ) : EReal) := by
  pointwise [val_main_v29_1, val_main_call0_v7, val_main_call0_v6, val_main_call0_cst_1]
  simp only [sigm h0 h2 h3 h4, up_one_sub, up_mul]

end Norm

section Pool
include h1 h5

theorem v33 (r : Fin 4096) (l : Fin 512) :
    val_main_v33 (F := Ideal) x1 x5 (ix2 r l) = ((mixed w (a r) (grp l) (pos l) : ℝ) : EReal) := by
  pointwise [val_main_v33, val_main_v32, val_main_v31, val_main_v30]
  simp only [h1, h5, up_mul, up_sum, mixed]
  rw [EReal.coe_eq_coe_iff]
  exact Finset.sum_congr rfl fun _ _ => mul_comm _ _

include h6

theorem v35 (r : Fin 4096) (l : Fin 512) : val_main_v35 (F := Ideal) x1 x5 x6 (ix2 r l)
    = ((mixed w (a r) (grp l) (pos l) * w.scale l : ℝ) : EReal) := by
  pointwise [val_main_v35, val_main_v34]
  simp only [v33 h1 h5, h6, up_mul]

include h0 h2 h3 h4

theorem v36 (r : Fin 4096) (l : Fin 1024) :
    val_main_v36 (F := Ideal) x0 x1 x2 x3 x4 x5 x6 (ix2 r l) = ((mix w (a r) l : ℝ) : EReal) := by
  pointwise [val_main_v36]
  unfold mix
  by_cases c : l.val < 512
  · rw [dif_pos c, dif_pos c]
    exact silu h0 h2 h3 h4 _ _
  · rw [dif_neg c, dif_neg c]
    exact v35 h1 h5 h6 _ _

include h8

/-- The output matrix's gradient. -/
theorem v91 (k l : Fin 1024) : val_main_v91 (F := Ideal) x0 x1 x2 x3 x4 x5 x6 x8 (ix2 k l)
    = ((∑ r, mix w (a r) k * (a r).dy l : ℝ) : EReal) := by
  pointwise [val_main_v91, val_main_v39, val_main_v38]
  simp only [v36 h0 h1 h2 h3 h4 h5 h6, h8, up_mul, up_sum, mul_comm]

end Pool

section Back
include h7 h8

theorem v40 (r : Fin 4096) (k : Fin 1024) : val_main_v40 (F := Ideal) x7 x8 (ix2 r k) = ((dmix w (a r) k : ℝ) : EReal) := by
  pointwise [val_main_v40]
  simp only [h7, h8, up_mul, up_sum, dmix]

theorem v41 (r : Fin 4096) (l : Fin 512) : val_main_v41 (F := Ideal) x7 x8 (ix2 r l) = ((dmix w (a r) (lo l) : ℝ) : EReal) := by
  pointwise [val_main_v41]
  exact v40 h7 h8 _ _

theorem v42 (r : Fin 4096) (l : Fin 512) : val_main_v42 (F := Ideal) x7 x8 (ix2 r l) = ((dq w (a r) l : ℝ) : EReal) := by
  pointwise [val_main_v42]
  exact v40 h7 h8 _ _

section
include h6

theorem v47 (r : Fin 4096) (l : Fin 512) :
    val_main_v47 (F := Ideal) x6 x7 x8 (ix2 r l) = ((dmixed w (a r) l : ℝ) : EReal) := by
  pointwise [val_main_v47, val_main_v46]
  simp only [v42 h7 h8, h6, up_mul, dmixed]

/-- The pooled rows' gradient. -/
theorem v54 (h5 : ∀ g k l, x5 (ix3 g k l) = ((w.poolW g k l : ℝ) : EReal)) (r : Fin 4096) (l : Fin 512) :
    val_main_v54 (F := Ideal) x5 x6 x7 x8 (ix2 r l) = ((dpo w (a r) (grp l) (pos l) : ℝ) : EReal) := by
  pointwise [val_main_v54, val_main_v51, val_main_v50, val_main_v49, val_main_v48]
  simp only [v47 h6 h7 h8, h5, up_mul, up_sum, dpo]
  rfl

/-- The groups' matrices' gradient. -/
theorem v53 (h1 : ∀ r k, x1 (ix2 r k) = (((a r).pooled k : ℝ) : EReal)) (g : Fin 4) (k l : Fin 128) :
    val_main_v53 (F := Ideal) x1 x6 x7 x8 (ix3 g k l)
      = ((∑ r, (a r).pooled (lane g k) * dmixed w (a r) (lane g l) : ℝ) : EReal) := by
  pointwise [val_main_v53, val_main_v52, val_main_v49, val_main_v48, val_main_v30]
  simp only [v47 h6 h7 h8, h1, up_mul, up_sum]
  rw [EReal.coe_eq_coe_iff]
  exact Finset.sum_congr rfl fun _ _ => mul_comm _ _

end

include h1 h5 in
theorem v45 (z : Fin 1) (l : Fin 512) : val_main_v45 (F := Ideal) x1 x5 x7 x8 (ix2 z l)
    = ((∑ r, dq w (a r) l * mixed w (a r) (grp l) (pos l) : ℝ) : EReal) := by
  pointwise [val_main_v45, val_main_v44, val_main_v43, val_main_cst_6]
  simp only [v33 h1 h5, v42 h7 h8, up_mul, up_sum, mul_comm]

include h0 h2 h3 h4

theorem v55 (r : Fin 4096) (l : Fin 512) :
    val_main_v55 (F := Ideal) x0 x2 x3 x4 x7 x8 (ix2 r l) = ((du2 w (a r) l : ℝ) : EReal) := by
  pointwise [val_main_v55, val_main_call1_v0, val_main_call1_v1, val_main_call1_v2]
  simp only [v28 h0 h2 h3 h4, v41 h7 h8, sigm h0 h2 h3 h4, slope h0 h2 h3 h4, up_mul, up_add, du2, siluGrad]
  congr 1
  ring

theorem v57 (z : Fin 1) (l : Fin 512) :
    val_main_v57 (F := Ideal) x0 x2 x3 x4 x7 x8 (ix2 z l) = ((∑ r, du2 w (a r) l : ℝ) : EReal) := by
  pointwise [val_main_v57, val_main_v56, val_main_cst_7]
  simp only [v55 h0 h2 h3 h4 h7 h8, up_sum]

theorem v60 (z : Fin 1) (l : Fin 512) :
    val_main_v60 (F := Ideal) x0 x2 x3 x4 x7 x8 (ix2 z l) = ((∑ r, du2 w (a r) l * uh w (a r) l : ℝ) : EReal) := by
  pointwise [val_main_v60, val_main_v59, val_main_v58, val_main_cst_8]
  simp only [v55 h0 h2 h3 h4 h7 h8, v24 h0 h2, up_mul, up_sum, mul_comm]

theorem v62 (r : Fin 4096) (l : Fin 512) :
    val_main_v62 (F := Ideal) x0 x2 x3 x4 x7 x8 (ix2 r l) = ((du2 w (a r) l * w.lnG l : ℝ) : EReal) := by
  pointwise [val_main_v62, val_main_v61]
  simp only [v55 h0 h2 h3 h4 h7 h8, h3, up_mul]

theorem v67 (r : Fin 4096) (l : Fin 512) : val_main_v67 (F := Ideal) x0 x2 x3 x4 x7 x8 (ix2 r l)
    = ((du2 w (a r) l * w.lnG l * rinv (cen (u1 w (a r))) : ℝ) : EReal) := by
  pointwise [val_main_v67, val_main_v66]
  simp only [v62 h0 h2 h3 h4 h7 h8, v19 h0 h2, up_mul]

theorem v76 (r : Fin 4096) (l : Fin 512) : val_main_v76 (F := Ideal) x0 x2 x3 x4 x7 x8 (ix2 r l)
    = (((∑ k, cen (u1 w (a r)) k * (du2 w (a r) k * w.lnG k))
        * (-(1 / 2) * (rinv (cen (u1 w (a r))) / (meanSq (cen (u1 w (a r))) + eps))) / 512
        * (2 * cen (u1 w (a r)) l) : ℝ) : EReal) := by
  pointwise [val_main_v76, val_main_v75, val_main_v74, val_main_v73, val_main_v72, val_main_v68, val_main_v65, val_main_v64,
    val_main_v63, val_main_cst_9, val_main_cst_11, val_main_cst_12]
  simp only [v16 h0 h2, v10 h0 h2, v22 h0 h2, v62 h0 h2 h3 h4 h7 h8, up_mul, up_sum, lit_512, up_div_512,
    Finset.univ_unique, Finset.sum_singleton]

/-- The convolved rows' gradient. -/
theorem v86 (r : Fin 4096) (l : Fin 512) :
    val_main_v86 (F := Ideal) x0 x2 x3 x4 x7 x8 (ix2 r l) = ((du1 w (a r) l : ℝ) : EReal) := by
  pointwise [val_main_v86, val_main_v85, val_main_v84, val_main_v83, val_main_v82, val_main_v81, val_main_v80, val_main_v79,
    val_main_v78, val_main_v77, val_main_v71, val_main_v70, val_main_v69, val_main_cst_10, val_main_cst_13, val_main_cst_14,
    val_main_cst_15]
  simp only [v67 h0 h2 h3 h4 h7 h8, v76 h0 h2 h3 h4 h7 h8, up_neg, up_sum, up_add, lit_512, up_div_512,
    Finset.univ_unique, Finset.sum_singleton]
  rw [du1, ← lnBack_chain]
  simp only [Nat.cast_ofNat]

theorem v88 (z : Fin 1) (l : Fin 512) :
    val_main_v88 (F := Ideal) x0 x2 x3 x4 x7 x8 (ix2 z l) = ((∑ r, du1 w (a r) l : ℝ) : EReal) := by
  pointwise [val_main_v88, val_main_v87, val_main_cst_16]
  simp only [v86 h0 h2 h3 h4 h7 h8, up_sum]

include h1 h5

/-- The small gradients, a row each. -/
theorem v90 (b : Fin 8) (l : Fin 512) : val_main_v90 (F := Ideal) x0 x1 x2 x3 x4 x5 x7 x8 (ix2 b l)
    = ((small w a b l : ℝ) : EReal) := by
  pointwise [val_main_v90]
  by_cases c0 : b.val < 1
  · obtain rfl : b = 0 := Fin.ext (by simpa using c0)
    rw [dif_pos c0]
    exact v60 h0 h2 h3 h4 h7 h8 _ l
  by_cases c1 : b.val - 1 < 1
  · obtain rfl : b = 1 := Fin.ext (by simp; omega)
    rw [dif_neg c0, dif_pos c1]
    exact v57 h0 h2 h3 h4 h7 h8 _ l
  by_cases c2 : b.val - 1 - 1 < 1
  · obtain rfl : b = 2 := Fin.ext (by simp; omega)
    rw [dif_neg c0, dif_neg c1, dif_pos c2]
    exact v88 h0 h2 h3 h4 h7 h8 _ l
  by_cases c3 : b.val - 1 - 1 - 1 < 1
  · obtain rfl : b = 3 := Fin.ext (by simp; omega)
    rw [dif_neg c0, dif_neg c1, dif_neg c2, dif_pos c3]
    exact v45 h1 h5 h7 h8 _ l
  · rw [dif_neg c0, dif_neg c1, dif_neg c2, dif_neg c3, small_rest w a b l (by omega)]
    pointwise [val_main_v89, val_main_cst_17]
    exact EReal.coe_zero.symm

end Back

end Cert.Mix.Reference
-- ==== Proof.Mix.Run.lean ====
/- The body of the mixers' output gradient at one grid point: what its stores leave, in the three cases of its conditionals. -/
module

public import proofs.«01_k».proof.Proof.Gen.MixIdeal.Frame
public import proofs.«01_k».proof.Proof.Gen.MixIdeal.Skeleton
public import Idealize.ShloMosaic.Lib.Claim

@[expose] public section

set_option maxRecDepth 16384

noncomputable section

namespace Cert.MixIdeal.Body

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev first (i : grid0.Coords) : Prop := (Scalar.cmpi .ne (Scalar.extui (Scalar.cmpi .eq (BitVec.ofNat 32 (i 0).val) 0#32)) 0#32) = 1#1
abbrev last (i : grid0.Coords) : Prop := k0_cond2 i = 1#1

theorem first_iff (t : Fin cfg0.N) : first (grid0.coords t) ↔ t.val = 0 := by
  have ht : t.val < 8 := Nat.lt_of_lt_of_eq t.isLt N_0
  have e0 : (grid0.coords t 0).val = t.val / 1 % 8 := Pipeline.Grid.coords_val t 0 (by decide) rfl
  simp only [first, e0, show t.val = 0 ↔ t.val % 8 = 0 by omega]
  word_cmp

theorem last_iff (t : Fin cfg0.N) : last (grid0.coords t) ↔ t.val = 7 := by
  have ht : t.val < 8 := Nat.lt_of_lt_of_eq t.isLt N_0
  have e0 : (grid0.coords t 0).val = t.val / 1 % 8 := Pipeline.Grid.coords_val t 0 (by decide) rfl
  simp only [last, k0_cond2, e0, show t.val = 7 ↔ t.val % 8 = 7 by omega]
  word_cmp

/-- The buffers of one point: nine inputs, five outputs and the scratch. -/
structure Bufs where
  i0 : Memref sig .tc .vmem S512x1024 .f32
  w0 : i0.IsWhole
  i1 : Memref sig .tc .vmem S512x1024 .bf16
  w1 : i1.IsWhole
  i2 : Memref sig .tc .vmem S512x512 .f32
  w2 : i2.IsWhole
  i3 : Memref sig .tc .vmem S512x512 .bf16
  w3 : i3.IsWhole
  i4 : Memref sig .tc .vmem S1024x1024 .bf16
  w4 : i4.IsWhole
  i5 : Memref sig .tc .vmem S1x512 .f32
  w5 : i5.IsWhole
  i6 : Memref sig .tc .vmem S1x512 .f32
  w6 : i6.IsWhole
  i7 : Memref sig .tc .vmem S4x128x128 .f32
  w7 : i7.IsWhole
  i8 : Memref sig .tc .vmem S1x512 .f32
  w8 : i8.IsWhole
  o9 : Memref sig .tc .vmem S512x512 .f32
  w9 : o9.IsWhole
  o10 : Memref sig .tc .vmem S512x512 .f32
  w10 : o10.IsWhole
  o11 : Memref sig .tc .vmem S1024x1024 .bf16
  w11 : o11.IsWhole
  o12 : Memref sig .tc .vmem S4x128x128 .f32
  w12 : o12.IsWhole
  o13 : Memref sig .tc .vmem S8x512 .f32
  w13 : o13.IsWhole
  scr : Memref sig .tc .vmem S1024x1024 .f32
  ws : scr.IsWhole

/-- What the inputs hold at one point. -/
structure Ins (F : FTy → Type) where
  x0 : Vec F S512x1024 .f32
  x1 : Vec F S512x1024 .bf16
  x2 : Vec F S512x512 .f32
  x3 : Vec F S512x512 .bf16
  x4 : Vec F S1024x1024 .bf16
  x5 : Vec F S1x512 .f32
  x6 : Vec F S1x512 .f32
  x7 : Vec F S4x128x128 .f32
  x8 : Vec F S1x512 .f32

/-- The body over the buffers. -/
abbrev body (i : grid0.Coords) (A : Bufs) : Prog (TpuEff nD τ sig (Elt F) Λ₀ .tc) PUnit :=
  cc0_mix_bwd_local i A.i0 A.w0 A.i1 A.w1 A.i2 A.w2 A.i3 A.w3 A.i4 A.w4 A.i5 A.w5 A.i6 A.w6 A.i7 A.w7 A.i8 A.w8 A.o9 A.w9
    A.o10 A.w10 A.o11 A.w11 A.o12 A.w12 A.o13 A.w13 A.scr A.ws

variable (c : Dev nD) (i : grid0.Coords) (A : Bufs) (X : Ins F)

/-- A memref's buffer with pieces written over `f`. -/
abbrev wrote {S : Shape} {e : EltTy} (M : Memref sig .tc .vmem S e) (f : Buf (Elt F) (M.view.loc (c : Thread nD τ)))
    (L : List (View.Piece (Elt F) S e)) : sProp 𝕄 :=
  (M.view.loc (c : Thread nD τ) ↦[M.view.set]{fullShare} M.view.writes (Elt F) f L)

/-- The nine inputs, each at its block of the point. -/
def inputs : sProp 𝕄 :=
  iprop(owns (c : Thread nD τ) A.i0 fullShare (X.x0) ∗ owns (c : Thread nD τ) A.i1 fullShare (X.x1)
    ∗ owns (c : Thread nD τ) A.i2 fullShare (X.x2) ∗ owns (c : Thread nD τ) A.i3 fullShare (X.x3)
    ∗ owns (c : Thread nD τ) A.i4 fullShare (X.x4) ∗ owns (c : Thread nD τ) A.i5 fullShare (X.x5)
    ∗ owns (c : Thread nD τ) A.i6 fullShare (X.x6) ∗ owns (c : Thread nD τ) A.i7 fullShare (X.x7)
    ∗ owns (c : Thread nD τ) A.i8 fullShare (X.x8))

/-- The inputs' buffers are the inputs. -/
theorem inputs_back :
    iprop(((A.i0.view.loc (c : Thread nD τ) ↦[A.i0.view.set]{fullShare} A.w0.unread (X.x0)))
      ∗ ((A.i1.view.loc (c : Thread nD τ) ↦[A.i1.view.set]{fullShare} A.w1.unread (X.x1)))
      ∗ ((A.i2.view.loc (c : Thread nD τ) ↦[A.i2.view.set]{fullShare} A.w2.unread (X.x2)))
      ∗ ((A.i3.view.loc (c : Thread nD τ) ↦[A.i3.view.set]{fullShare} A.w3.unread (X.x3)))
      ∗ ((A.i4.view.loc (c : Thread nD τ) ↦[A.i4.view.set]{fullShare} A.w4.unread (X.x4)))
      ∗ ((A.i5.view.loc (c : Thread nD τ) ↦[A.i5.view.set]{fullShare} A.w5.unread (X.x5)))
      ∗ ((A.i6.view.loc (c : Thread nD τ) ↦[A.i6.view.set]{fullShare} A.w6.unread (X.x6)))
      ∗ ((A.i7.view.loc (c : Thread nD τ) ↦[A.i7.view.set]{fullShare} A.w7.unread (X.x7)))
      ∗ ((A.i8.view.loc (c : Thread nD τ) ↦[A.i8.view.set]{fullShare} A.w8.unread (X.x8))))
    ⊢ (inputs c A X : sProp 𝕄) := by
  unfold inputs owns
  iintro ⟨H0, H1, H2, H3, H4, H5, H6, H7, H8⟩
  isplitl [H0]; · iexists _; isplitr; · ipureintro; exact A.w0.read_unread _
                  iexact H0
  isplitl [H1]; · iexists _; isplitr; · ipureintro; exact A.w1.read_unread _
                  iexact H1
  isplitl [H2]; · iexists _; isplitr; · ipureintro; exact A.w2.read_unread _
                  iexact H2
  isplitl [H3]; · iexists _; isplitr; · ipureintro; exact A.w3.read_unread _
                  iexact H3
  isplitl [H4]; · iexists _; isplitr; · ipureintro; exact A.w4.read_unread _
                  iexact H4
  isplitl [H5]; · iexists _; isplitr; · ipureintro; exact A.w5.read_unread _
                  iexact H5
  isplitl [H6]; · iexists _; isplitr; · ipureintro; exact A.w6.read_unread _
                  iexact H6
  isplitl [H7]; · iexists _; isplitr; · ipureintro; exact A.w7.read_unread _
                  iexact H7
  iexists _; isplitr; · ipureintro; exact A.w8.read_unread _
  iexact H8

set_option maxHeartbeats 4000000 in
/-- The first point: the accumulators are filled with zeros, whatever they held. -/
def runA (h0 : first i) (h1 : ¬last i) :
    Σ' (L9 L10 : List (View.Piece (Elt F) S512x512 .f32)) (L12 : List (View.Piece (Elt F) S4x128x128 .f32))
      (L13 : List (View.Piece (Elt F) S8x512 .f32)), { LS : List (View.Piece (Elt F) S1024x1024 .f32) //
      ∀ (x11 : Vec F S1024x1024 .bf16) (E : Set ℕ) (K : PUnit → sProp 𝕄),
        iprop(inputs c A X ∗ (∃ d, owns (c : Thread nD τ) A.o9 fullShare d) ∗ (∃ d, owns (c : Thread nD τ) A.o10 fullShare d)
            ∗ owns (c : Thread nD τ) A.o11 fullShare x11 ∗ (∃ d, owns (c : Thread nD τ) A.o12 fullShare d)
            ∗ (∃ d, owns (c : Thread nD τ) A.o13 fullShare d) ∗ (∃ d, owns (c : Thread nD τ) A.scr fullShare d)
            ∗ (iprop(inputs c A X ∗ (∃ f, wrote c A.o9 f L9) ∗ (∃ f, wrote c A.o10 f L10)
                ∗ owns (c : Thread nD τ) A.o11 fullShare x11 ∗ (∃ f, wrote c A.o12 f L12) ∗ (∃ f, wrote c A.o13 f L13)
                ∗ (∃ f, wrote c A.scr f LS)) -∗ K ⟨⟩))
          ⊢ wp frame (wpE (defs₀ (F := F)) Variants.none c none) E (body i A) K } := by
  refine ⟨?_, ?_, ?_, ?_, ?_, fun x11 E K => ?run⟩
  case run =>
    simp only [body, cc0_mix_bwd_local_eq_skeleton]; unfold cc0_mix_bwd_local_skel
    simp only [k0_part1_eq_skeleton, k0_part2_eq_skeleton, k0_part3_eq_skeleton, k0_part4_eq_skeleton, k0_part5_eq_skeleton, k0_part6_eq_skeleton]
    have hb := inputs_back c A X
    unfold inputs at hb ⊢
    simp only [owns] at hb ⊢
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, ⟨%d10, %f10, -, H10⟩, H11, ⟨%d12, %f12, -, H12⟩, ⟨%d13, %f13, -, H13⟩, ⟨%ds, %fs, -, HS⟩, Hk⟩
    obtain rfl := A.w0.eq_unread hf0; obtain rfl := A.w1.eq_unread hf1; obtain rfl := A.w2.eq_unread hf2
    obtain rfl := A.w3.eq_unread hf3; obtain rfl := A.w4.eq_unread hf4; obtain rfl := A.w5.eq_unread hf5
    obtain rfl := A.w6.eq_unread hf6; obtain rfl := A.w7.eq_unread hf7; obtain rfl := A.w8.eq_unread hf8
    sl_exec (disch := first | sl_exact h0 | sl_exact h1)
    sl_step
    iapply Hk
    isplitl [H0 H1 H2 H3 H4 H5 H6 H7 H8]
    · iapply hb
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexists _; iexact H9
    isplitl [H10]; · iexists _; iexact H10
    isplitl [H11]; · iexact H11
    isplitl [H12]; · iexists _; iexact H12
    isplitl [H13]; · iexists _; iexact H13
    iexists _; iexact HS

set_option maxHeartbeats 4000000 in
/-- A middle point: the accumulators go on from what they held. -/
def runB (h0 : ¬first i) (h1 : ¬last i) (y12 : Vec F S4x128x128 .f32) (y13 : Vec F S8x512 .f32) (ys : Vec F S1024x1024 .f32) :
    Σ' (L9 L10 : List (View.Piece (Elt F) S512x512 .f32)) (L12 : List (View.Piece (Elt F) S4x128x128 .f32))
      (L13 : List (View.Piece (Elt F) S8x512 .f32)), { LS : List (View.Piece (Elt F) S1024x1024 .f32) //
      ∀ (x11 : Vec F S1024x1024 .bf16) (E : Set ℕ) (K : PUnit → sProp 𝕄),
        iprop(inputs c A X ∗ (∃ d, owns (c : Thread nD τ) A.o9 fullShare d) ∗ (∃ d, owns (c : Thread nD τ) A.o10 fullShare d)
            ∗ owns (c : Thread nD τ) A.o11 fullShare x11 ∗ owns (c : Thread nD τ) A.o12 fullShare y12
            ∗ owns (c : Thread nD τ) A.o13 fullShare y13 ∗ owns (c : Thread nD τ) A.scr fullShare ys
            ∗ (iprop(inputs c A X ∗ (∃ f, wrote c A.o9 f L9) ∗ (∃ f, wrote c A.o10 f L10)
                ∗ owns (c : Thread nD τ) A.o11 fullShare x11 ∗ wrote c A.o12 (A.w12.unread y12) L12
                ∗ wrote c A.o13 (A.w13.unread y13) L13 ∗ (∃ f, wrote c A.scr f LS)) -∗ K ⟨⟩))
          ⊢ wp frame (wpE (defs₀ (F := F)) Variants.none c none) E (body i A) K } := by
  refine ⟨?_, ?_, ?_, ?_, ?_, fun x11 E K => ?run⟩
  case run =>
    simp only [body, cc0_mix_bwd_local_eq_skeleton]; unfold cc0_mix_bwd_local_skel
    simp only [k0_part1_eq_skeleton, k0_part2_eq_skeleton, k0_part3_eq_skeleton, k0_part4_eq_skeleton, k0_part5_eq_skeleton, k0_part6_eq_skeleton]
    have hb := inputs_back c A X
    unfold inputs at hb ⊢
    simp only [owns] at hb ⊢
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, ⟨%d10, %f10, -, H10⟩, H11, ⟨%f12, %hf12, H12⟩, ⟨%f13, %hf13, H13⟩, ⟨%fs, %hfs, HS⟩, Hk⟩
    obtain rfl := A.w0.eq_unread hf0; obtain rfl := A.w1.eq_unread hf1; obtain rfl := A.w2.eq_unread hf2
    obtain rfl := A.w3.eq_unread hf3; obtain rfl := A.w4.eq_unread hf4; obtain rfl := A.w5.eq_unread hf5
    obtain rfl := A.w6.eq_unread hf6; obtain rfl := A.w7.eq_unread hf7; obtain rfl := A.w8.eq_unread hf8
    obtain rfl := A.w12.eq_unread hf12; obtain rfl := A.w13.eq_unread hf13; obtain rfl := A.ws.eq_unread hfs
    sl_exec (disch := first | sl_exact h0 | sl_exact h1)
    sl_step
    iapply Hk
    isplitl [H0 H1 H2 H3 H4 H5 H6 H7 H8]
    · iapply hb
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexists _; iexact H9
    isplitl [H10]; · iexists _; iexact H10
    isplitl [H11]; · iexact H11
    isplitl [H12]; · iexact H12
    isplitl [H13]; · iexact H13
    iexists _; iexact HS

set_option maxHeartbeats 4000000 in
/-- The last point: it stores the weight's gradient too. -/
def runC (h0 : ¬first i) (h1 : last i) (y12 : Vec F S4x128x128 .f32) (y13 : Vec F S8x512 .f32) (ys : Vec F S1024x1024 .f32) :
    Σ' (L9 L10 : List (View.Piece (Elt F) S512x512 .f32)) (L11 : List (View.Piece (Elt F) S1024x1024 .bf16)) (L12 : List (View.Piece (Elt F) S4x128x128 .f32))
      (L13 : List (View.Piece (Elt F) S8x512 .f32)), { LS : List (View.Piece (Elt F) S1024x1024 .f32) //
      ∀ (E : Set ℕ) (K : PUnit → sProp 𝕄),
        iprop(inputs c A X ∗ (∃ d, owns (c : Thread nD τ) A.o9 fullShare d) ∗ (∃ d, owns (c : Thread nD τ) A.o10 fullShare d)
            ∗ (∃ d, owns (c : Thread nD τ) A.o11 fullShare d) ∗ owns (c : Thread nD τ) A.o12 fullShare y12
            ∗ owns (c : Thread nD τ) A.o13 fullShare y13 ∗ owns (c : Thread nD τ) A.scr fullShare ys
            ∗ (iprop(inputs c A X ∗ (∃ f, wrote c A.o9 f L9) ∗ (∃ f, wrote c A.o10 f L10)
                ∗ (∃ f, wrote c A.o11 f L11) ∗ wrote c A.o12 (A.w12.unread y12) L12
                ∗ wrote c A.o13 (A.w13.unread y13) L13 ∗ (∃ f, wrote c A.scr f LS)) -∗ K ⟨⟩))
          ⊢ wp frame (wpE (defs₀ (F := F)) Variants.none c none) E (body i A) K } := by
  refine ⟨?_, ?_, ?_, ?_, ?_, ?_, fun E K => ?run⟩
  case run =>
    simp only [body, cc0_mix_bwd_local_eq_skeleton]; unfold cc0_mix_bwd_local_skel
    simp only [k0_part1_eq_skeleton, k0_part2_eq_skeleton, k0_part3_eq_skeleton, k0_part4_eq_skeleton, k0_part5_eq_skeleton, k0_part6_eq_skeleton]
    have hb := inputs_back c A X
    unfold inputs at hb ⊢
    simp only [owns] at hb ⊢
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, ⟨%d10, %f10, -, H10⟩, ⟨%d11, %f11, -, H11⟩, ⟨%f12, %hf12, H12⟩, ⟨%f13, %hf13, H13⟩, ⟨%fs, %hfs, HS⟩, Hk⟩
    obtain rfl := A.w0.eq_unread hf0; obtain rfl := A.w1.eq_unread hf1; obtain rfl := A.w2.eq_unread hf2
    obtain rfl := A.w3.eq_unread hf3; obtain rfl := A.w4.eq_unread hf4; obtain rfl := A.w5.eq_unread hf5
    obtain rfl := A.w6.eq_unread hf6; obtain rfl := A.w7.eq_unread hf7; obtain rfl := A.w8.eq_unread hf8
    obtain rfl := A.w12.eq_unread hf12; obtain rfl := A.w13.eq_unread hf13; obtain rfl := A.ws.eq_unread hfs
    sl_exec (disch := first | sl_exact h0 | sl_exact h1)
    sl_step
    iapply Hk
    isplitl [H0 H1 H2 H3 H4 H5 H6 H7 H8]
    · iapply hb
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexists _; iexact H9
    isplitl [H10]; · iexists _; iexact H10
    isplitl [H11]; · iexists _; iexact H11
    isplitl [H12]; · iexact H12
    isplitl [H13]; · iexact H13
    iexists _; iexact HS

end Cert.MixIdeal.Body

end
-- ==== Proof.Mix.Frame.lean ====
/- The mixers' output gradient: what every point leaves, the pipeline's proof data, the run of the program and its frame. -/
module

public import proofs.«01_k».proof.Proof.Mix.Run

@[expose] public section

set_option maxRecDepth 16384

noncomputable section

namespace Cert.MixIdeal.Body

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers at point `t`. -/
def bufs (t : Fin cfg0.N) : Bufs where
  i0 := win0_0.stage (cfg0.slots t 0)
  w0 := hstage0_0 ((cfg0.slots t 0).cast nbuf0_0)
  i1 := win0_1.stage (cfg0.slots t 1)
  w1 := hstage0_1 ((cfg0.slots t 1).cast nbuf0_1)
  i2 := win0_2.stage (cfg0.slots t 2)
  w2 := hstage0_2 ((cfg0.slots t 2).cast nbuf0_2)
  i3 := win0_3.stage (cfg0.slots t 3)
  w3 := hstage0_3 ((cfg0.slots t 3).cast nbuf0_3)
  i4 := win0_4.stage (cfg0.slots t 4)
  w4 := hstage0_4 ((cfg0.slots t 4).cast nbuf0_4)
  i5 := win0_5.stage (cfg0.slots t 5)
  w5 := hstage0_5 ((cfg0.slots t 5).cast nbuf0_5)
  i6 := win0_6.stage (cfg0.slots t 6)
  w6 := hstage0_6 ((cfg0.slots t 6).cast nbuf0_6)
  i7 := win0_7.stage (cfg0.slots t 7)
  w7 := hstage0_7 ((cfg0.slots t 7).cast nbuf0_7)
  i8 := win0_8.stage (cfg0.slots t 8)
  w8 := hstage0_8 ((cfg0.slots t 8).cast nbuf0_8)
  o9 := win0_9.stage (cfg0.slots t 9)
  w9 := hstage0_9 ((cfg0.slots t 9).cast nbuf0_9)
  o10 := win0_10.stage (cfg0.slots t 10)
  w10 := hstage0_10 ((cfg0.slots t 10).cast nbuf0_10)
  o11 := win0_11.stage (cfg0.slots t 11)
  w11 := hstage0_11 ((cfg0.slots t 11).cast nbuf0_11)
  o12 := win0_12.stage (cfg0.slots t 12)
  w12 := hstage0_12 ((cfg0.slots t 12).cast nbuf0_12)
  o13 := win0_13.stage (cfg0.slots t 13)
  w13 := hstage0_13 ((cfg0.slots t 13).cast nbuf0_13)
  scr := Memref.whole cc0_scratch0
  ws := Memref.isWhole_whole _

/-- What a point leaves in the five outputs and the scratch. -/
abbrev Left (F : FTy → Type) : Type := Vec F S512x512 .f32 × Vec F S512x512 .f32 × Vec F S1024x1024 .bf16 × Vec F S4x128x128 .f32
  × Vec F S8x512 .f32 × Vec F S1024x1024 .f32

section

variable (c : Dev nD) (i : grid0.Coords) (A : Bufs) (X : Ins F)

/-- Pieces over whatever a buffer held, read back. -/
abbrev back {S : Shape} {e : EltTy} (M : Memref sig .tc .vmem S e) (L : List (View.Piece (Elt F) S e)) : Vec F S e :=
  M.view.read (Elt F) (M.view.writes (Elt F) M.view.junk L)

def leftA (h0 : first i) (h1 : ¬last i) : Left F :=
  (back A.o9 (runA c i A X h0 h1).1, back A.o10 (runA c i A X h0 h1).2.1, back A.o11 [], back A.o12 (runA c i A X h0 h1).2.2.1,
    back A.o13 (runA c i A X h0 h1).2.2.2.1, back A.scr (runA c i A X h0 h1).2.2.2.2.1)

def leftB (h0 : ¬first i) (h1 : ¬last i) (y12 : Vec F S4x128x128 .f32) (y13 : Vec F S8x512 .f32) (ys : Vec F S1024x1024 .f32) : Left F :=
  (back A.o9 (runB c i A X h0 h1 y12 y13 ys).1, back A.o10 (runB c i A X h0 h1 y12 y13 ys).2.1, back A.o11 [],
    A.o12.view.read (Elt F) (A.o12.view.writes (Elt F) (A.w12.unread y12) (runB c i A X h0 h1 y12 y13 ys).2.2.1),
    A.o13.view.read (Elt F) (A.o13.view.writes (Elt F) (A.w13.unread y13) (runB c i A X h0 h1 y12 y13 ys).2.2.2.1),
    back A.scr (runB c i A X h0 h1 y12 y13 ys).2.2.2.2.1)

def leftC (h0 : ¬first i) (h1 : last i) (y12 : Vec F S4x128x128 .f32) (y13 : Vec F S8x512 .f32) (ys : Vec F S1024x1024 .f32) : Left F :=
  (back A.o9 (runC c i A X h0 h1 y12 y13 ys).1, back A.o10 (runC c i A X h0 h1 y12 y13 ys).2.1,
    back A.o11 (runC c i A X h0 h1 y12 y13 ys).2.2.1,
    A.o12.view.read (Elt F) (A.o12.view.writes (Elt F) (A.w12.unread y12) (runC c i A X h0 h1 y12 y13 ys).2.2.2.1),
    A.o13.view.read (Elt F) (A.o13.view.writes (Elt F) (A.w13.unread y13) (runC c i A X h0 h1 y12 y13 ys).2.2.2.2.1),
    back A.scr (runC c i A X h0 h1 y12 y13 ys).2.2.2.2.2.1)

/-- A buffer whose pieces cover it holds them whatever it held. -/
theorem owned {S : Shape} {e : EltTy} (M : Memref sig .tc .vmem S e) (L : List (View.Piece (Elt F) S e))
    (h : ∀ y : S.Idx, ∃ pc ∈ L, y ∈ pc.1.set) :
    iprop(∃ f, wrote c M f L) ⊢ (owns (c : Thread nD τ) M fullShare (back M L) : sProp 𝕄) := by
  unfold owns
  iintro ⟨%f, H⟩
  iexists _; isplitr
  swap; · iexact H
  ipureintro; exact View.read_writes_of_cover _ _ _ _ _ h

/-- A buffer with pieces over known contents. -/
theorem owned_over {S : Shape} {e : EltTy} (M : Memref sig .tc .vmem S e) (f : Buf (Elt F) (M.view.loc (c : Thread nD τ)))
    (L : List (View.Piece (Elt F) S e)) :
    wrote c M f L ⊢ (owns (c : Thread nD τ) M fullShare (M.view.read (Elt F) (M.view.writes (Elt F) f L)) : sProp 𝕄) := by
  unfold owns
  iintro H
  iexists _; isplitr
  swap; · iexact H
  ipureintro; rfl

/-- The inputs as the nine memrefs. -/
theorem inputs_eq : (inputs c A X : sProp 𝕄)
    = iprop(owns (c : Thread nD τ) A.i0 fullShare X.x0 ∗ owns (c : Thread nD τ) A.i1 fullShare X.x1
    ∗ owns (c : Thread nD τ) A.i2 fullShare X.x2 ∗ owns (c : Thread nD τ) A.i3 fullShare X.x3
    ∗ owns (c : Thread nD τ) A.i4 fullShare X.x4 ∗ owns (c : Thread nD τ) A.i5 fullShare X.x5
    ∗ owns (c : Thread nD τ) A.i6 fullShare X.x6 ∗ owns (c : Thread nD τ) A.i7 fullShare X.x7
    ∗ owns (c : Thread nD τ) A.i8 fullShare X.x8) := rfl

/-- The first point fills what it accumulates into, so nothing of the buffers' earlier contents stays. -/
theorem bodyA (h0 : first i) (h1 : ¬last i) (x11 : Vec F S1024x1024 .bf16) (K : PUnit → sProp 𝕄) :
    iprop(inputs c A X ∗ (∃ d, owns (c : Thread nD τ) A.o9 fullShare d) ∗ (∃ d, owns (c : Thread nD τ) A.o10 fullShare d)
        ∗ owns (c : Thread nD τ) A.o11 fullShare x11 ∗ (∃ d, owns (c : Thread nD τ) A.o12 fullShare d)
        ∗ (∃ d, owns (c : Thread nD τ) A.o13 fullShare d) ∗ (∃ d, owns (c : Thread nD τ) A.scr fullShare d)
        ∗ (iprop(inputs c A X ∗ owns (c : Thread nD τ) A.o9 fullShare (leftA c i A X h0 h1).1
            ∗ owns (c : Thread nD τ) A.o10 fullShare (leftA c i A X h0 h1).2.1 ∗ owns (c : Thread nD τ) A.o11 fullShare x11
            ∗ owns (c : Thread nD τ) A.o12 fullShare (leftA c i A X h0 h1).2.2.2.1
            ∗ owns (c : Thread nD τ) A.o13 fullShare (leftA c i A X h0 h1).2.2.2.2.1
            ∗ owns (c : Thread nD τ) A.scr fullShare (leftA c i A X h0 h1).2.2.2.2.2) -∗ K ⟨⟩))
      ⊢ wp frame (wpE (defs₀ (F := F)) Variants.none c none) Set.univ (body i A) K := by
  iintro ⟨Hin, H9, H10, H11, H12, H13, HS, Hk⟩
  iapply ((runA c i A X h0 h1).2.2.2.2.2 x11 Set.univ K)
  isplitl [Hin]; · iexact Hin
  isplitl [H9]; · iexact H9
  isplitl [H10]; · iexact H10
  isplitl [H11]; · iexact H11
  isplitl [H12]; · iexact H12
  isplitl [H13]; · iexact H13
  isplitl [HS]; · iexact HS
  iintro ⟨Hin, H9, H10, H11, H12, H13, HS⟩
  iapply Hk
  isplitl [Hin]; · iexact Hin
  isplitl [H9]; · iapply (owned c A.o9 (runA c i A X h0 h1).1 (View.cover_of_tiledL _ S512x512.size (by sl_kernel_rfl))); iexact H9
  isplitl [H10]; · iapply (owned c A.o10 (runA c i A X h0 h1).2.1 (View.cover_of_tiledL _ ![512, 128] (by sl_kernel_rfl))); iexact H10
  isplitl [H11]; · iexact H11
  isplitl [H12]; · iapply (owned c A.o12 (runA c i A X h0 h1).2.2.1 (View.cover_of_tiledBy _ ![1, 128, 128] (by sl_kernel_rfl))); iexact H12
  isplitl [H13]; · iapply (owned c A.o13 (runA c i A X h0 h1).2.2.2.1 (View.cover_of_tiledBy _ ![1, 128] (by sl_kernel_rfl))); iexact H13
  iapply (owned c A.scr (runA c i A X h0 h1).2.2.2.2.1 (View.cover_of_tiledBy _ S1024x1024.size (by sl_kernel_rfl))); iexact HS

/-- A middle point adds to what the accumulators held. -/
theorem bodyB (h0 : ¬first i) (h1 : ¬last i) (y12 : Vec F S4x128x128 .f32) (y13 : Vec F S8x512 .f32) (ys : Vec F S1024x1024 .f32)
    (x11 : Vec F S1024x1024 .bf16) (K : PUnit → sProp 𝕄) :
    iprop(inputs c A X ∗ (∃ d, owns (c : Thread nD τ) A.o9 fullShare d) ∗ (∃ d, owns (c : Thread nD τ) A.o10 fullShare d)
        ∗ owns (c : Thread nD τ) A.o11 fullShare x11 ∗ owns (c : Thread nD τ) A.o12 fullShare y12
        ∗ owns (c : Thread nD τ) A.o13 fullShare y13 ∗ owns (c : Thread nD τ) A.scr fullShare ys
        ∗ (iprop(inputs c A X ∗ owns (c : Thread nD τ) A.o9 fullShare (leftB c i A X h0 h1 y12 y13 ys).1
            ∗ owns (c : Thread nD τ) A.o10 fullShare (leftB c i A X h0 h1 y12 y13 ys).2.1 ∗ owns (c : Thread nD τ) A.o11 fullShare x11
            ∗ owns (c : Thread nD τ) A.o12 fullShare (leftB c i A X h0 h1 y12 y13 ys).2.2.2.1
            ∗ owns (c : Thread nD τ) A.o13 fullShare (leftB c i A X h0 h1 y12 y13 ys).2.2.2.2.1
            ∗ owns (c : Thread nD τ) A.scr fullShare (leftB c i A X h0 h1 y12 y13 ys).2.2.2.2.2) -∗ K ⟨⟩))
      ⊢ wp frame (wpE (defs₀ (F := F)) Variants.none c none) Set.univ (body i A) K := by
  iintro ⟨Hin, H9, H10, H11, H12, H13, HS, Hk⟩
  iapply ((runB c i A X h0 h1 y12 y13 ys).2.2.2.2.2 x11 Set.univ K)
  isplitl [Hin]; · iexact Hin
  isplitl [H9]; · iexact H9
  isplitl [H10]; · iexact H10
  isplitl [H11]; · iexact H11
  isplitl [H12]; · iexact H12
  isplitl [H13]; · iexact H13
  isplitl [HS]; · iexact HS
  iintro ⟨Hin, H9, H10, H11, H12, H13, HS⟩
  iapply Hk
  isplitl [Hin]; · iexact Hin
  isplitl [H9]; · iapply (owned c A.o9 (runB c i A X h0 h1 y12 y13 ys).1 (View.cover_of_tiledL _ S512x512.size (by sl_kernel_rfl))); iexact H9
  isplitl [H10]; · iapply (owned c A.o10 (runB c i A X h0 h1 y12 y13 ys).2.1 (View.cover_of_tiledL _ ![512, 128] (by sl_kernel_rfl))); iexact H10
  isplitl [H11]; · iexact H11
  isplitl [H12]; · iapply (owned_over c A.o12 _ (runB c i A X h0 h1 y12 y13 ys).2.2.1); iexact H12
  isplitl [H13]; · iapply (owned_over c A.o13 _ (runB c i A X h0 h1 y12 y13 ys).2.2.2.1); iexact H13
  iapply (owned c A.scr (runB c i A X h0 h1 y12 y13 ys).2.2.2.2.1 (View.cover_of_tiledL _ S1024x1024.size (by sl_kernel_rfl))); iexact HS

/-- The last point does the same and stores the weight's gradient. -/
theorem bodyC (h0 : ¬first i) (h1 : last i) (y12 : Vec F S4x128x128 .f32) (y13 : Vec F S8x512 .f32) (ys : Vec F S1024x1024 .f32)
    (K : PUnit → sProp 𝕄) :
    iprop(inputs c A X ∗ (∃ d, owns (c : Thread nD τ) A.o9 fullShare d) ∗ (∃ d, owns (c : Thread nD τ) A.o10 fullShare d)
        ∗ (∃ d, owns (c : Thread nD τ) A.o11 fullShare d) ∗ owns (c : Thread nD τ) A.o12 fullShare y12
        ∗ owns (c : Thread nD τ) A.o13 fullShare y13 ∗ owns (c : Thread nD τ) A.scr fullShare ys
        ∗ (iprop(inputs c A X ∗ owns (c : Thread nD τ) A.o9 fullShare (leftC c i A X h0 h1 y12 y13 ys).1
            ∗ owns (c : Thread nD τ) A.o10 fullShare (leftC c i A X h0 h1 y12 y13 ys).2.1
            ∗ owns (c : Thread nD τ) A.o11 fullShare (leftC c i A X h0 h1 y12 y13 ys).2.2.1
            ∗ owns (c : Thread nD τ) A.o12 fullShare (leftC c i A X h0 h1 y12 y13 ys).2.2.2.1
            ∗ owns (c : Thread nD τ) A.o13 fullShare (leftC c i A X h0 h1 y12 y13 ys).2.2.2.2.1
            ∗ owns (c : Thread nD τ) A.scr fullShare (leftC c i A X h0 h1 y12 y13 ys).2.2.2.2.2) -∗ K ⟨⟩))
      ⊢ wp frame (wpE (defs₀ (F := F)) Variants.none c none) Set.univ (body i A) K := by
  iintro ⟨Hin, H9, H10, H11, H12, H13, HS, Hk⟩
  iapply ((runC c i A X h0 h1 y12 y13 ys).2.2.2.2.2.2 Set.univ K)
  isplitl [Hin]; · iexact Hin
  isplitl [H9]; · iexact H9
  isplitl [H10]; · iexact H10
  isplitl [H11]; · iexact H11
  isplitl [H12]; · iexact H12
  isplitl [H13]; · iexact H13
  isplitl [HS]; · iexact HS
  iintro ⟨Hin, H9, H10, H11, H12, H13, HS⟩
  iapply Hk
  isplitl [Hin]; · iexact Hin
  isplitl [H9]; · iapply (owned c A.o9 (runC c i A X h0 h1 y12 y13 ys).1 (View.cover_of_tiledL _ S512x512.size (by sl_kernel_rfl))); iexact H9
  isplitl [H10]; · iapply (owned c A.o10 (runC c i A X h0 h1 y12 y13 ys).2.1 (View.cover_of_tiledL _ ![512, 128] (by sl_kernel_rfl))); iexact H10
  isplitl [H11]; · iapply (owned c A.o11 (runC c i A X h0 h1 y12 y13 ys).2.2.1 (View.cover_of_tiledL _ S1024x1024.size (by sl_kernel_rfl))); iexact H11
  isplitl [H12]; · iapply (owned_over c A.o12 _ (runC c i A X h0 h1 y12 y13 ys).2.2.2.1); iexact H12
  isplitl [H13]; · iapply (owned_over c A.o13 _ (runC c i A X h0 h1 y12 y13 ys).2.2.2.2.1); iexact H13
  iapply (owned c A.scr (runC c i A X h0 h1 y12 y13 ys).2.2.2.2.2.1 (View.cover_of_tiledL _ S1024x1024.size (by sl_kernel_rfl))); iexact HS

end

variable (m : (ℓ : Loc nD τ sig) → Buf (Elt F) ℓ) (ρ : Dev nD → PrngReg) (c : Dev nD)

/-- What the inputs hold at point `t`. -/
def ins (t : Fin cfg0.N) : Ins F :=
  ⟨iblk m c 0 t, iblk m c 1 t, iblk m c 2 t, iblk m c 3 t, iblk m c 4 t, iblk m c 5 t, iblk m c 6 t, iblk m c 7 t, iblk m c 8 t⟩

/-- What the points leave, one after another. -/
def outs : (n : ℕ) → n < cfg0.N → Left F
  | 0, hn => leftA c (grid0.coords ⟨0, hn⟩) (bufs ⟨0, hn⟩) (ins m c ⟨0, hn⟩) ((first_iff _).mpr rfl)
      (fun h => absurd ((last_iff _).mp h) (by show ¬(0 = 7); decide))
  | n + 1, hn =>
    if h1 : n + 1 = 7 then
      leftC c (grid0.coords ⟨n + 1, hn⟩) (bufs ⟨n + 1, hn⟩) (ins m c ⟨n + 1, hn⟩)
        (fun h => absurd ((first_iff _).mp h) (Nat.succ_ne_zero n)) ((last_iff _).mpr h1)
        (outs n (Nat.lt_of_succ_lt hn)).2.2.2.1 (outs n (Nat.lt_of_succ_lt hn)).2.2.2.2.1 (outs n (Nat.lt_of_succ_lt hn)).2.2.2.2.2
    else
      leftB c (grid0.coords ⟨n + 1, hn⟩) (bufs ⟨n + 1, hn⟩) (ins m c ⟨n + 1, hn⟩)
        (fun h => absurd ((first_iff _).mp h) (Nat.succ_ne_zero n)) (fun h => h1 ((last_iff _).mp h))
        (outs n (Nat.lt_of_succ_lt hn)).2.2.2.1 (outs n (Nat.lt_of_succ_lt hn)).2.2.2.2.1 (outs n (Nat.lt_of_succ_lt hn)).2.2.2.2.2

/-- The contents the point before left, at a point that is not the first. -/
abbrev prev (t : Fin cfg0.N) : Left F := outs m c (t.val - 1) (Nat.lt_of_le_of_lt (Nat.sub_le _ _) t.isLt)

theorem outs_A (t : Fin cfg0.N) (h0 : t.val = 0) (k0 : first (grid0.coords t)) (k1 : ¬last (grid0.coords t)) :
    outs m c t.val t.isLt = leftA c (grid0.coords t) (bufs t) (ins m c t) k0 k1 := by
  obtain ⟨n, hn⟩ := t
  obtain rfl : n = 0 := h0
  rfl

theorem outs_B (t : Fin cfg0.N) (h0 : ¬t.val = 0) (h1 : ¬t.val = 7) (k0 : ¬first (grid0.coords t)) (k1 : ¬last (grid0.coords t)) :
    outs m c t.val t.isLt = leftB c (grid0.coords t) (bufs t) (ins m c t) k0 k1 (prev m c t).2.2.2.1 (prev m c t).2.2.2.2.1
      (prev m c t).2.2.2.2.2 := by
  obtain ⟨n, hn⟩ := t
  cases n with
  | zero => exact absurd rfl h0
  | succ n => exact dif_neg h1

theorem outs_C (t : Fin cfg0.N) (h1 : t.val = 7) (k0 : ¬first (grid0.coords t)) (k1 : last (grid0.coords t)) :
    outs m c t.val t.isLt = leftC c (grid0.coords t) (bufs t) (ins m c t) k0 k1 (prev m c t).2.2.2.1 (prev m c t).2.2.2.2.1
      (prev m c t).2.2.2.2.2 := by
  obtain ⟨n, hn⟩ := t
  cases n with
  | zero => exact absurd (show (0 : ℕ) = 7 from h1) (by decide)
  | succ n => exact dif_pos h1

/-- Between the points: the scratch at what the point before left, and the generator. -/
def Inv : (n : ℕ) → n ≤ cfg0.N → sProp 𝕄
  | 0, _ => Pipeline.ΦA spec0 c
  | n + 1, hn => iprop(owns (c : Thread nD τ) (Memref.whole cc0_scratch0) fullShare (outs m c n hn).2.2.2.2.2 ∗ (∃ r, prngReg c r))

theorem Inv_pos (n : ℕ) (h : n ≤ cfg0.N) (hz : n ≠ 0) : Inv m c n h
    = iprop(owns (c : Thread nD τ) (Memref.whole cc0_scratch0) fullShare (outs m c (n - 1) (by omega)).2.2.2.2.2 ∗ (∃ r, prngReg c r)) := by
  cases n with
  | zero => exact absurd rfl hz
  | succ n => rfl

theorem Inv_zero (n : ℕ) (h : n ≤ cfg0.N) (hz : n = 0) : Inv m c n h = Pipeline.ΦA spec0 c := by
  subst hz; rfl

theorem entry_eq : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outs m c t.val t.isLt).1
    | ⟨10, _⟩ => (outs m c t.val t.isLt).2.1
    | ⟨11, _⟩ => (outs m c t.val t.isLt).2.2.1
    | ⟨12, _⟩ => (outs m c t.val t.isLt).2.2.2.1
    | ⟨13, _⟩ => (outs m c t.val t.isLt).2.2.2.2.1
  Φ t := Inv m c t.val (Nat.le_of_lt_succ t.isLt)
  q _ := fullShare
  owed _ := 0

theorem A_eq (c : Dev nD) (w : Fin cfg0.W) : (dats m 0 c).A w = V m c (Pipeline.arrRef spec0 w) := by dsimp only [dats]

section

variable (t : Fin cfg0.N)

theorem Inv_at : (dats m 0 c).Φ t.castSucc = Inv m c t.val (Nat.le_of_lt t.isLt) := by
  dsimp only [dats]; exact Pipeline.Dat.Φ_castSucc (Inv m c) t

theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = iblk m c 6 t := by dsimp only [dats]
theorem after0_7 : (dats m 0 c).after 7 t = iblk m c 7 t := by dsimp only [dats]
theorem after0_8 : (dats m 0 c).after 8 t = iblk m c 8 t := by dsimp only [dats]
theorem after0_9 : (dats m 0 c).after 9 t = (outs m c t.val t.isLt).1 := by dsimp only [dats]
theorem after0_10 : (dats m 0 c).after 10 t = (outs m c t.val t.isLt).2.1 := by dsimp only [dats]
theorem after0_11 : (dats m 0 c).after 11 t = (outs m c t.val t.isLt).2.2.1 := by dsimp only [dats]
theorem after0_12 : (dats m 0 c).after 12 t = (outs m c t.val t.isLt).2.2.2.1 := by dsimp only [dats]
theorem after0_13 : (dats m 0 c).after 13 t = (outs m c t.val t.isLt).2.2.2.2.1 := by dsimp only [dats]

/-- A window that is live at the point is left at what `after` says. -/
theorem leaves_live (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]

theorem before0_12 (h0 : ¬t.val = 0) (d) : (dats m 0 c).before 12 t d = (prev m c t).2.2.2.1 := by
  have hN : t.val < 8 := lt_of_lt_of_eq t.isLt N_0
  rw [Dat.before_out_kept _ 12 rfl t (by omega) (Bool.eq_false_iff.mpr fun h => by have := (flush0_12 _).mp h; dsimp only at this; omega)
    (fun _ => rfl) (fun _ _ => rfl)]
  dsimp only [dats]

theorem before0_13 (h0 : ¬t.val = 0) (d) : (dats m 0 c).before 13 t d = (prev m c t).2.2.2.2.1 := by
  have hN : t.val < 8 := lt_of_lt_of_eq t.isLt N_0
  rw [Dat.before_out_kept _ 13 rfl t (by omega) (Bool.eq_false_iff.mpr fun h => by have := (flush0_13 _).mp h; dsimp only at this; omega)
    (fun _ => rfl) (fun _ _ => rfl)]
  dsimp only [dats]

theorem idle_11 : ∀ t : Fin cfg0.N, ¬t.val = 7 → cfg0.idle 11 (grid0.coords t) = true := by decide +kernel
theorem noFlush_11 : ∀ t : Fin cfg0.N, ¬t.val = 7 → (cfg0.win 11).flush t = false := by decide +kernel
theorem live_11 : ∀ t : Fin cfg0.N, t.val = 7 → cfg0.idle 11 (grid0.coords t) = false := by decide +kernel

/-- What the pipeline hands the body, and what the body hands back. -/
def pre : sProp 𝕄 :=
  iprop((dats m 0 c).Φ t.castSucc ∗ (dats m 0 c).owesAt () t.castSucc
    ∗ bigSep Finset.univ fun w : Fin 14 => iprop(∃ d, owns (c : Thread nD τ) ((cfg0.win w).stage (cfg0.slots t w)) fullShare ((dats m 0 c).before w t d)))

def post : sProp 𝕄 :=
  iprop((dats m 0 c).Φ t.succ ∗ (dats m 0 c).owesAt () t.succ
    ∗ bigSep Finset.univ fun w : Fin 14 => (dats m 0 c).leavesExact w t)

set_option maxHeartbeats 2000000 in
/-- The windows' buffers at the point, as the inputs together and the five outputs. -/
theorem pre_inputs : (pre m c t : sProp 𝕄) ⊢ iprop((dats m 0 c).Φ t.castSucc ∗ (dats m 0 c).owesAt () t.castSucc ∗ inputs c (bufs t) (ins m c t)
    ∗ (∃ d, owns (c : Thread nD τ) (bufs t).o9 fullShare d) ∗ (∃ d, owns (c : Thread nD τ) (bufs t).o10 fullShare d)
    ∗ (∃ d, owns (c : Thread nD τ) (bufs t).o11 fullShare ((dats m 0 c).before 11 t d)) ∗ (∃ d, owns (c : Thread nD τ) (bufs t).o12 fullShare ((dats m 0 c).before 12 t d))
    ∗ (∃ d, owns (c : Thread nD τ) (bufs t).o13 fullShare ((dats m 0 c).before 13 t d))) := by
  unfold pre inputs
  rw [bigSep_W0]
  dsimp only [bufs, ins]
  simp only [before0_0_of m (dats m 0 c) (A_eq m c 0) (after0_0 m c) t, before0_1_of m (dats m 0 c) (A_eq m c 1) (after0_1 m c) t,
    before0_2_of m (dats m 0 c) (A_eq m c 2) (after0_2 m c) t, before0_3_of m (dats m 0 c) (A_eq m c 3) (after0_3 m c) t,
    before0_4_of m (dats m 0 c) (A_eq m c 4) (after0_4 m c) t, before0_5_of m (dats m 0 c) (A_eq m c 5) (after0_5 m c) t,
    before0_6_of m (dats m 0 c) (A_eq m c 6) (after0_6 m c) t, before0_7_of m (dats m 0 c) (A_eq m c 7) (after0_7 m c) t,
    before0_8_of m (dats m 0 c) (A_eq m c 8) (after0_8 m c) t]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13⟩
  isplitl [HP]; · iexact HP
  isplitl [Ho]; · iexact Ho
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexists _; iexact H9
  isplitl [H10]; · iexists _; iexact H10
  isplitl [H11]; · iexact H11
  isplitl [H12]; · iexact H12
  iexact H13

set_option maxHeartbeats 2000000 in
/-- And back. -/
theorem inputs_post : iprop((dats m 0 c).Φ t.succ ∗ (dats m 0 c).owesAt () t.succ ∗ inputs c (bufs t) (ins m c t)
    ∗ owns (c : Thread nD τ) (bufs t).o9 fullShare (outs m c t.val t.isLt).1 ∗ owns (c : Thread nD τ) (bufs t).o10 fullShare (outs m c t.val t.isLt).2.1
    ∗ (dats m 0 c).leavesExact 11 t ∗ owns (c : Thread nD τ) (bufs t).o12 fullShare (outs m c t.val t.isLt).2.2.2.1
    ∗ owns (c : Thread nD τ) (bufs t).o13 fullShare (outs m c t.val t.isLt).2.2.2.2.1) ⊢ (post m c t : sProp 𝕄) := by
  unfold post inputs
  dsimp only [bufs, ins]
  rw [bigSep_W0, leaves_live m c t 0 rfl, leaves_live m c t 1 rfl, leaves_live m c t 2 rfl, leaves_live m c t 3 rfl, leaves_live m c t 4 rfl,
    leaves_live m c t 5 rfl, leaves_live m c t 6 rfl, leaves_live m c t 7 rfl, leaves_live m c t 8 rfl, leaves_live m c t 9 rfl,
    leaves_live m c t 10 rfl, leaves_live m c t 12 rfl, leaves_live m c t 13 rfl]
  simp only [after0_0, after0_1, after0_2, after0_3, after0_4, after0_5, after0_6, after0_7, after0_8, after0_9, after0_10, after0_12, after0_13]
  iintro ⟨HP, Ho, ⟨H0, H1, H2, H3, H4, H5, H6, H7, H8⟩, H9, H10, H11, H12, H13⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end

set_option maxHeartbeats 4000000 in
/-- The body at any point. -/
theorem sound (t : Fin cfg0.N) :
    pre m c t ⊢ wp frame (wpE (defs₀ (F := F)) Variants.none c none) Set.univ (bodyAt0 t) (fun _ => post m c t) := by
  refine (pre_inputs m c t).trans ?_
  show _ ⊢ wp frame (wpE (defs₀ (F := F)) Variants.none c none) Set.univ (body (grid0.coords t) (bufs t)) (fun _ => post m c t)
  have hN : t.val < 8 := lt_of_lt_of_eq t.isLt N_0
  have hs : (dats m 0 c).Φ t.succ = iprop(owns (c : Thread nD τ) (Memref.whole cc0_scratch0) fullShare (outs m c t.val t.isLt).2.2.2.2.2
      ∗ (∃ r, prngReg c r)) := rfl
  have ho : (dats m 0 c).owesAt () t.succ = (dats m 0 c).owesAt () t.castSucc := rfl
  have hpost := inputs_post m c t
  rw [hs, ho] at hpost
  by_cases h0 : t.val = 0
  · have k0 := (first_iff t).mpr h0
    have h7 : ¬t.val = 7 := by omega
    have k1 : ¬last (grid0.coords t) := fun h => h7 ((last_iff t).mp h)
    rw [Inv_at, Inv_zero m c _ _ h0, entry_eq]
    rw [outs_A m c t h0 k0 k1, Dat.leavesExact_idle (dats m 0 c) 11 t (idle_11 t h7) (noFlush_11 t h7)] at hpost
    iintro ⟨⟨HS, Hg⟩, Ho, Hin, H9, H10, ⟨%d11, H11⟩, ⟨%d12, H12⟩, ⟨%d13, H13⟩⟩
    iapply (bodyA c (grid0.coords t) (bufs t) (ins m c t) k0 k1)
    isplitl [Hin]; · iexact Hin
    isplitl [H9]; · iexact H9
    isplitl [H10]; · iexact H10
    isplitl [H11]; · iexact H11
    isplitl [H12]; · iexists _; iexact H12
    isplitl [H13]; · iexists _; iexact H13
    isplitl [HS]; · iexact HS
    iintro ⟨Hin, H9, H10, H11, H12, H13, HS⟩
    iapply hpost
    isplitl [HS Hg]
    · isplitl [HS]; · iexact HS
      iexact Hg
    isplitl [Ho]; · iexact Ho
    isplitl [Hin]; · iexact Hin
    isplitl [H9]; · iexact H9
    isplitl [H10]; · iexact H10
    isplitl [H11]; · iexists _; iexact H11
    isplitl [H12]; · iexact H12
    iexact H13
  · have k0 : ¬first (grid0.coords t) := fun h => h0 ((first_iff t).mp h)
    rw [Inv_at, Inv_pos m c _ _ h0]
    simp only [before0_12 m c t h0, before0_13 m c t h0]
    by_cases h7 : t.val = 7
    · have k1 := (last_iff t).mpr h7
      rw [leaves_live m c t 11 (live_11 t h7), after0_11, outs_C m c t h7 k0 k1] at hpost
      iintro ⟨⟨HS, Hg⟩, Ho, Hin, H9, H10, ⟨%d11, H11⟩, ⟨%d12, H12⟩, ⟨%d13, H13⟩⟩
      iapply (bodyC c (grid0.coords t) (bufs t) (ins m c t) k0 k1)
      isplitl [Hin]; · iexact Hin
      isplitl [H9]; · iexact H9
      isplitl [H10]; · iexact H10
      isplitl [H11]; · iexists _; iexact H11
      isplitl [H12]; · iexact H12
      isplitl [H13]; · iexact H13
      isplitl [HS]; · iexact HS
      iintro ⟨Hin, H9, H10, H11, H12, H13, HS⟩
      iapply hpost
      isplitl [HS Hg]
      · isplitl [HS]; · iexact HS
        iexact Hg
      isplitl [Ho]; · iexact Ho
      isplitl [Hin]; · iexact Hin
      isplitl [H9]; · iexact H9
      isplitl [H10]; · iexact H10
      isplitl [H11]; · iexact H11
      isplitl [H12]; · iexact H12
      iexact H13
    · have k1 : ¬last (grid0.coords t) := fun h => h7 ((last_iff t).mp h)
      rw [outs_B m c t h0 h7 k0 k1, Dat.leavesExact_idle (dats m 0 c) 11 t (idle_11 t h7) (noFlush_11 t h7)] at hpost
      iintro ⟨⟨HS, Hg⟩, Ho, Hin, H9, H10, ⟨%d11, H11⟩, ⟨%d12, H12⟩, ⟨%d13, H13⟩⟩
      iapply (bodyB c (grid0.coords t) (bufs t) (ins m c t) k0 k1)
      isplitl [Hin]; · iexact Hin
      isplitl [H9]; · iexact H9
      isplitl [H10]; · iexact H10
      isplitl [H11]; · iexact H11
      isplitl [H12]; · iexact H12
      isplitl [H13]; · iexact H13
      isplitl [HS]; · iexact HS
      iintro ⟨Hin, H9, H10, H11, H12, H13, HS⟩
      iapply hpost
      isplitl [HS Hg]
      · isplitl [HS]; · iexact HS
        iexact Hg
      isplitl [Ho]; · iexact Ho
      isplitl [Hin]; · iexact Hin
      isplitl [H9]; · iexact H9
      isplitl [H10]; · iexact H10
      isplitl [H11]; · iexists _; iexact H11
      isplitl [H12]; · iexact H12
      iexact H13

theorem row_eq (t : Fin cfg0.N) : defs₀ (F := F) .tc cfg0.body (cfg0.bodyArgs t (cfg0.slots t)) = bodyAt0 t := by
  unfold defs₀; rw [Defs.onTc_tc]

theorem obligation : BodyObligation (dats (F := F) m 0 c) (defs₀ (F := F)) Variants.none () Set.univ := fun t => by
  rw [row_eq]
  exact triple_restated (sound m c t) rfl .rfl fun _ => .rfl

theorem enter : Pipeline.ΦA spec0 c ⊢ (dats m 0 c).Φ 0 := by
  rw [show (dats m 0 c).Φ 0 = Pipeline.ΦA spec0 c from rfl]

theorem leave : (dats m 0 c).Φ (Fin.last cfg0.N) ⊢ Pipeline.ΦA spec0 c := by
  rw [show (dats m 0 c).Φ (Fin.last cfg0.N) = Inv m c cfg0.N (Nat.le_refl _) from rfl,
    Inv_pos m c _ _ (by rw [show cfg0.N = 8 from N_0]; decide), entry_eq]
  iintro ⟨HS, Hg⟩
  isplitl [HS]; · iexists _; iexact HS
  iexact Hg

set_option backward.isDefEq.respectTransparency.types false in
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

/-- Every run ends with the arrays at what the points left. -/
theorem run_main : θ_run defs (onTc (τ := τ) (main (F := F))) (s₀ m ρ) (Pipeline.FramePost cfgs (dats m) 0 (V m)) :=
  (θ_run defs _ _).mono (fun _ h => h.1) (run_main_quiescent m ρ)

/-- The program runs, leaves its arguments as they were and ends with every counter at zero. -/
theorem frame_holds : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  θ_run_and (frame_of m ρ (dats m) (A_eq m) (run_main m ρ))
    ((θ_run defs _ _).mono (fun _ h => h.2) (run_main_quiescent m ρ))

end Cert.MixIdeal.Body

end
-- ==== Proof.Mix.Blocks.lean ====
/- What the kernel reads at a grid point: the tile's tokens and the weights, when the arguments are real. -/
module

public import proofs.«01_k».proof.Proof.Mix.Payloads
public import proofs.«01_k».proof.Proof.Mix.Reference
public import proofs.«01_k».proof.Proof.Mix.Frame
public import Idealize.ShloMosaic.Lib.Pipeline.ValueKit
public import Idealize.ShloMosaic.Lib.Claim

@[expose] public section

set_option maxRecDepth 16384

noncomputable section

namespace Cert.Mix.Kernel

open Idealize.ShloMosaic Idealize.ShloMosaic.TcCoe Idealize.SL.Sem
open Idealize.ShloMosaic.Pipeline (Dat)
open Cert.MixIdeal Cert.MixIdeal.Gen Cert.MixIdeal.Body Cert.Lift Cert.Mix.Spec

variable (m : (ℓ : Loc nD τ sig) → Buf (Elt Ideal) ℓ) (c : Dev nD)

/-- Device `c`'s arguments hold the real weights `w` and the real tokens `a`. -/
structure Holds (w : Weights) (a : Fin 4096 → Token) : Prop where
  conv : ∀ r l, m ((c : Thread nD τ).loc main_arg0) (ix2 r l) = (((a r).c l : ℝ) : EReal)
  pooled : ∀ r k, m ((c : Thread nD τ).loc main_arg1) (ix2 r k) = (((a r).pooled k : ℝ) : EReal)
  convB : ∀ z l, m ((c : Thread nD τ).loc main_arg2) (ix2 z l) = ((w.convB l : ℝ) : EReal)
  lnG : ∀ z l, m ((c : Thread nD τ).loc main_arg3) (ix2 z l) = ((w.lnG l : ℝ) : EReal)
  lnB : ∀ z l, m ((c : Thread nD τ).loc main_arg4) (ix2 z l) = ((w.lnB l : ℝ) : EReal)
  poolW : ∀ g k l, m ((c : Thread nD τ).loc main_arg5) (ix3 g k l) = ((w.poolW g k l : ℝ) : EReal)
  scale : ∀ z l, m ((c : Thread nD τ).loc main_arg6) (ix2 z l) = ((w.scale l : ℝ) : EReal)
  wOut : ∀ k l, m ((c : Thread nD τ).loc main_arg7) (ix2 k l) = ((w.wOut k l : ℝ) : EReal)
  dy : ∀ r l, m ((c : Thread nD τ).loc main_arg8) (ix2 r l) = (((a r).dy l : ℝ) : EReal)

/-- The tokens of tile `j`. -/
def tile (a : Fin 4096 → Token) (j : ℕ) (r : Fin 512) : Token := a ⟨(j * 512 + r) % 4096, Nat.mod_lt _ (by norm_num)⟩

theorem tile_eq (a : Fin 4096 → Token) (j : ℕ) (r : Fin 512) (i : Fin 4096) (h : i.val = j * 512 + r.val) : tile a j r = a i :=
  congrArg a (Fin.ext (by simp only [← h, Nat.mod_eq_of_lt i.isLt]))

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0, 0] ∧ win0_8.index t = ![0, 0] ∧ win0_9.index t = ![t.val, 0] ∧ win0_10.index t = ![t.val, 0] :=
  (by decide +kernel : ∀ t : Fin grid0.N, _)

/-- The mixed rows the host computes are those of the reference's forward lines. -/
theorem mix_lines : @Eq (FVec Ideal S4096x1024 .bf16) (V m c main_v32) <| truncf .bf16 (Cert.MixRefIdeal.Read.val_main_v36 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))) bitsLt_bf16_f32 := by
  entry_read
  rfl

/-- And the rows its norm reads. -/
theorem norm_lines : @Eq (FVec Ideal S4096x512 .f32) (V m c main_v34) <| Cert.MixRefIdeal.Read.val_main_v1 (F := Ideal)
    (m ((c : Thread nD τ).loc main_arg0)) (m ((c : Thread nD τ).loc main_arg2)) := by
  entry_read
  rfl

variable {m c} {w : Weights} {a : Fin 4096 → Token} (H : Holds m c w a) (t : Fin cfg0.N)
include H

theorem blk0 (r : Fin 512) (l : Fin 1024) : iblk m c 0 t (ix2 r l) = (((tile a t r).dy l : ℝ) : EReal) := by
  have ht := t.isLt.trans_eq N_0
  rw [tile_eq a t r ⟨t.val * 512 + r.val, by omega⟩ rfl, ← H.dy]
  blk_ext [iblk, V, idx t]

theorem blk1 (r : Fin 512) (l : Fin 1024) : iblk m c 1 t (ix2 r l) = ((mix w (tile a t r) l : ℝ) : EReal) := by
  have ht := t.isLt.trans_eq N_0
  rw [tile_eq a t r ⟨t.val * 512 + r.val, by omega⟩ rfl]
  refine Eq.trans (b := V m c main_v32 (ix2 ⟨t.val * 512 + r.val, by omega⟩ l)) ?_ ?_
  · blk_ext [iblk, idx t]
  · rw [mix_lines]
    pointwise
    exact Reference.v36 H.conv H.pooled H.convB H.lnG H.lnB H.poolW H.scale _ _

theorem blk2 (r : Fin 512) (l : Fin 512) : iblk m c 2 t (ix2 r l) = ((u1 w (tile a t r) l : ℝ) : EReal) := by
  have ht := t.isLt.trans_eq N_0
  rw [tile_eq a t r ⟨t.val * 512 + r.val, by omega⟩ rfl, u1, EReal.coe_add, ← H.conv, ← H.convB 0]
  refine Eq.trans (b := V m c main_v34 (ix2 ⟨t.val * 512 + r.val, by omega⟩ l)) ?_ ?_
  · blk_ext [iblk, idx t]
  · rw [norm_lines]
    pointwise [Cert.MixRefIdeal.Read.val_main_v1, Cert.MixRefIdeal.Read.val_main_v0]

theorem blk3 (r : Fin 512) (l : Fin 512) : iblk m c 3 t (ix2 r l) = (((tile a t r).pooled l : ℝ) : EReal) := by
  have ht := t.isLt.trans_eq N_0
  rw [tile_eq a t r ⟨t.val * 512 + r.val, by omega⟩ rfl, ← H.pooled]
  blk_ext! [iblk, V, idx t]

theorem blk4 (k l : Fin 1024) : iblk m c 4 t (ix2 k l) = ((w.wOut k l : ℝ) : EReal) := by
  rw [← H.wOut]
  blk_ext! [iblk, V, idx t]

theorem blk5 (z : Fin 1) (l : Fin 512) : iblk m c 5 t (ix2 z l) = ((w.lnG l : ℝ) : EReal) := by
  rw [← H.lnG z]
  blk_ext [iblk, V, idx t]

theorem blk6 (z : Fin 1) (l : Fin 512) : iblk m c 6 t (ix2 z l) = ((w.lnB l : ℝ) : EReal) := by
  rw [← H.lnB z]
  blk_ext [iblk, V, idx t]

theorem blk7 (g : Fin 4) (k l : Fin 128) : iblk m c 7 t (ix3 g k l) = ((w.poolW g k l : ℝ) : EReal) := by
  rw [← H.poolW]
  blk_ext [iblk, V, idx t]

theorem blk8 (z : Fin 1) (l : Fin 512) : iblk m c 8 t (ix2 z l) = ((w.scale l : ℝ) : EReal) := by
  rw [← H.scale z]
  blk_ext [iblk, V, idx t]

end Cert.Mix.Kernel
-- ==== Proof.Mix.Tile.lean ====
/- The values a grid point computes from its tile, each the real formula at the tile's tokens. -/
module

public import proofs.«01_k».proof.Proof.Mix.Blocks
public import proofs.«01_k».proof.Proof.Real.Rows

@[expose] public section

set_option maxRecDepth 16384

noncomputable section

namespace Cert.Mix.Kernel

open Idealize.ShloMosaic Idealize.ShloMosaic.TcCoe Idealize.SL.Sem
open Cert.MixIdeal Cert.MixIdeal.Gen Cert.MixIdeal.Body Cert.Lift Cert.Mix.Spec Cert.Mix.Payloads Cert.Rows

variable (m : (ℓ : Loc nD τ sig) → Buf (Elt Ideal) ℓ) (c : Dev nD) (t : Fin cfg0.N)

/-- The mixed row's cotangent, the norm's inverse deviation and its unit row, and the gradients through gate and norm. -/
abbrev kD : FVec Ideal S512x1024 .f32 := k0_pay6 (iblk m c 0 t) (iblk m c 4 t)
abbrev kInv : FVec Ideal S512x1 .f32 := k0_pay9 (iblk m c 2 t)
abbrev kHat : FVec Ideal S512x512 .f32 := k0_pay10 (iblk m c 2 t)
abbrev kDu2 : FVec Ideal S512x512 .f32 := k0_pay11 (kD m c t) (kHat m c t) (iblk m c 5 t) (iblk m c 6 t)
abbrev kDu1 : FVec Ideal S512x512 .f32 :=
  k0_pay12 (kD m c t) (kInv m c t) (kHat m c t) (iblk m c 5 t) (iblk m c 6 t) (iblk m c 5 t)

/-- The groups' matrices, pooled columns and scales. -/
abbrev kW0 : Vec Ideal S1x128x128 .f32 := View.ld (iblk m c 7 t) (Rect.unit ![0, 0, 0] ![1, 128, 128] inb_S4x128x128_S1x128x128_0_0_0)
abbrev kW1 : Vec Ideal S1x128x128 .f32 := View.ld (iblk m c 7 t) (Rect.unit ![1, 0, 0] ![1, 128, 128] inb_S4x128x128_S1x128x128_1_0_0)
abbrev kW2 : Vec Ideal S1x128x128 .f32 := View.ld (iblk m c 7 t) (Rect.unit ![2, 0, 0] ![1, 128, 128] inb_S4x128x128_S1x128x128_2_0_0)
abbrev kW3 : Vec Ideal S1x128x128 .f32 := View.ld (iblk m c 7 t) (Rect.unit ![3, 0, 0] ![1, 128, 128] inb_S4x128x128_S1x128x128_3_0_0)
abbrev kP0 : Vec Ideal S512x128 .bf16 := View.ld (iblk m c 3 t) (Rect.unit ![0, 0] ![512, 128] inb_S512x512_S512x128_0_0)
abbrev kP1 : Vec Ideal S512x128 .bf16 := View.ld (iblk m c 3 t) (Rect.unit ![0, 128] ![512, 128] inb_S512x512_S512x128_0_128)
abbrev kP2 : Vec Ideal S512x128 .bf16 := View.ld (iblk m c 3 t) (Rect.unit ![0, 256] ![512, 128] inb_S512x512_S512x128_0_256)
abbrev kP3 : Vec Ideal S512x128 .bf16 := View.ld (iblk m c 3 t) (Rect.unit ![0, 384] ![512, 128] inb_S512x512_S512x128_0_384)
abbrev kS0 : Vec Ideal S1x128 .f32 := View.ld (iblk m c 8 t) (Rect.unit ![0, 0] ![1, 128] inb_S1x512_S1x128_0_0)
abbrev kS1 : Vec Ideal S1x128 .f32 := View.ld (iblk m c 8 t) (Rect.unit ![0, 128] ![1, 128] inb_S1x512_S1x128_0_128)
abbrev kS2 : Vec Ideal S1x128 .f32 := View.ld (iblk m c 8 t) (Rect.unit ![0, 256] ![1, 128] inb_S1x512_S1x128_0_256)
abbrev kS3 : Vec Ideal S1x128 .f32 := View.ld (iblk m c 8 t) (Rect.unit ![0, 384] ![1, 128] inb_S1x512_S1x128_0_384)

variable {m c t} {w : Weights} {a : Fin 4096 → Token} (H : Holds m c w a)
include H

theorem kD_eq (r k) : kD m c t (ix2 r k) = ((dmix w (tile a t r) k : ℝ) : EReal) := pay6 (blk0 H t) (blk4 H t) r k
theorem kInv_eq (r z) : kInv m c t (ix2 r z) = ((rinv (cen (u1 w (tile a t r))) : ℝ) : EReal) := pay9 (blk2 H t) r z
theorem kHat_eq (r l) : kHat m c t (ix2 r l) = ((uh w (tile a t r) l : ℝ) : EReal) := pay10 (blk2 H t) r l
theorem kDu2_eq (r l) : kDu2 m c t (ix2 r l) = ((du2 w (tile a t r) l : ℝ) : EReal) :=
  pay11 (kD_eq H) (kHat_eq H) (blk5 H t) (blk6 H t) r l
theorem kDu1_eq (r l) : kDu1 m c t (ix2 r l) = ((du1 w (tile a t r) l : ℝ) : EReal) :=
  pay12 (kD_eq H) (kHat_eq H) (blk5 H t) (blk6 H t) (kInv_eq H) r l

theorem kW0_eq (z k l) : kW0 m c t (ix3 z k l) = ((w.poolW 0 k l : ℝ) : EReal) :=
  (ld_plane _ 0 _ z k l 0 rfl).trans (blk7 H t 0 k l)
theorem kW1_eq (z k l) : kW1 m c t (ix3 z k l) = ((w.poolW 1 k l : ℝ) : EReal) :=
  (ld_plane _ 1 _ z k l 1 rfl).trans (blk7 H t 1 k l)
theorem kW2_eq (z k l) : kW2 m c t (ix3 z k l) = ((w.poolW 2 k l : ℝ) : EReal) :=
  (ld_plane _ 2 _ z k l 2 rfl).trans (blk7 H t 2 k l)
theorem kW3_eq (z k l) : kW3 m c t (ix3 z k l) = ((w.poolW 3 k l : ℝ) : EReal) :=
  (ld_plane _ 3 _ z k l 3 rfl).trans (blk7 H t 3 k l)
theorem kP0_eq (r k) : kP0 m c t (ix2 r k) = (((tile a t r).pooled (lane 0 k) : ℝ) : EReal) :=
  (ld_block _ 0 0 _ _ _ r k r (lane 0 k) (by simp) (by simp [lane])).trans (blk3 H t _ _)
theorem kP1_eq (r k) : kP1 m c t (ix2 r k) = (((tile a t r).pooled (lane 1 k) : ℝ) : EReal) :=
  (ld_block _ 0 128 _ _ _ r k r (lane 1 k) (by simp) (by simp [lane])).trans (blk3 H t _ _)
theorem kP2_eq (r k) : kP2 m c t (ix2 r k) = (((tile a t r).pooled (lane 2 k) : ℝ) : EReal) :=
  (ld_block _ 0 256 _ _ _ r k r (lane 2 k) (by simp) (by simp [lane])).trans (blk3 H t _ _)
theorem kP3_eq (r k) : kP3 m c t (ix2 r k) = (((tile a t r).pooled (lane 3 k) : ℝ) : EReal) :=
  (ld_block _ 0 384 _ _ _ r k r (lane 3 k) (by simp) (by simp [lane])).trans (blk3 H t _ _)
theorem kS0_eq (z l) : kS0 m c t (ix2 z l) = ((w.scale (lane 0 l) : ℝ) : EReal) :=
  (ld_block _ 0 0 _ _ _ z l 0 (lane 0 l) (by simp) (by simp [lane])).trans (blk8 H t _ _)
theorem kS1_eq (z l) : kS1 m c t (ix2 z l) = ((w.scale (lane 1 l) : ℝ) : EReal) :=
  (ld_block _ 0 128 _ _ _ z l 0 (lane 1 l) (by simp) (by simp [lane])).trans (blk8 H t _ _)
theorem kS2_eq (z l) : kS2 m c t (ix2 z l) = ((w.scale (lane 2 l) : ℝ) : EReal) :=
  (ld_block _ 0 256 _ _ _ z l 0 (lane 2 l) (by simp) (by simp [lane])).trans (blk8 H t _ _)
theorem kS3_eq (z l) : kS3 m c t (ix2 z l) = ((w.scale (lane 3 l) : ℝ) : EReal) :=
  (ld_block _ 0 384 _ _ _ z l 0 (lane 3 l) (by simp) (by simp [lane])).trans (blk8 H t _ _)

end Cert.Mix.Kernel
-- ==== Proof.Mix.Points.lean ====
/- What a grid point leaves: its rows of the two row gradients, and the running sums of the weights' gradients. -/
module

public import proofs.«01_k».proof.Proof.Mix.Tile

@[expose] public section

set_option maxRecDepth 16384

noncomputable section

namespace Cert.Mix.Kernel

open Idealize.ShloMosaic Idealize.ShloMosaic.TcCoe Idealize.SL.Sem
open Cert.MixIdeal Cert.MixIdeal.Gen Cert.MixIdeal.Body Cert.Lift Cert.Mix.Spec Cert.Mix.Payloads Cert.Rows

variable {m : (ℓ : Loc nD τ sig) → Buf (Elt Ideal) ℓ} {c : Dev nD} {w : Weights} {a : Fin 4096 → Token} (H : Holds m c w a)
  (t : Fin cfg0.N)

theorem not_last (h : t.val = 0) : ¬last (grid0.coords t) := fun k => by have := (last_iff t).mp k; omega
theorem not_first (h : ¬t.val = 0) : ¬first (grid0.coords t) := fun k => h ((first_iff t).mp k)

include H

theorem out9_of (X : Vec Ideal S512x512 .f32) (hX : X = kDu1 m c t) (k : Fin 512) (l : Fin 512) :
    X (ix2 k l) = ((du1 w (tile a t k) l : ℝ) : EReal) := by
  subst hX
  exact kDu1_eq H k l

set_option maxHeartbeats 4000000 in
/-- Every grid point stores the convolved rows' gradient of its tile. -/
theorem out9 (k : Fin 512) (l : Fin 512) :
    (outs m c t.val t.isLt).1 (ix2 k l) = ((du1 w (tile a t k) l : ℝ) : EReal) := by
  refine out9_of H t _ ?_ k l
  by_cases h0 : t.val = 0
  · rw [outs_A m c t h0 ((first_iff t).mpr h0) (not_last t h0)]
    frame_out
    rfl
  by_cases h1 : t.val = 7
  · rw [outs_C m c t h1 (not_first t h0) ((last_iff t).mpr h1)]
    frame_out
    rfl
  · rw [outs_B m c t h0 h1 (not_first t h0) (fun k => h1 ((last_iff t).mp k))]
    frame_out
    rfl

/-- Four column blocks, a group's each. -/
theorem out10_of (X : Vec Ideal S512x512 .f32) {J : EReal} (k : Fin 512) (l : Fin 512)
    (hX : X (ix2 k l) =
      if h : (0 ≤ k.val ∧ k.val < 0 + 512) ∧ 384 ≤ l.val ∧ l.val < 384 + 128 then
        k0_pay44 (kD m c t) (kW3 m c t) (kS3 m c t) (ix2 ⟨k.val - 0, by omega⟩ ⟨l.val - 384, by omega⟩)
      else if h : (0 ≤ k.val ∧ k.val < 0 + 512) ∧ 256 ≤ l.val ∧ l.val < 256 + 128 then
        k0_pay37 (kD m c t) (kW2 m c t) (kS2 m c t) (ix2 ⟨k.val - 0, by omega⟩ ⟨l.val - 256, by omega⟩)
      else if h : (0 ≤ k.val ∧ k.val < 0 + 512) ∧ 128 ≤ l.val ∧ l.val < 128 + 128 then
        k0_pay30 (k0_pay24 (kW1 m c t)) (k0_pay27 (kD m c t) (kS1 m c t)) (ix2 ⟨k.val - 0, by omega⟩ ⟨l.val - 128, by omega⟩)
      else if h : (0 ≤ k.val ∧ k.val < 0 + 512) ∧ 0 ≤ l.val ∧ l.val < 0 + 128 then
        k0_pay22 (k0_pay17 (kW0 m c t)) (k0_pay20 (kD m c t) (kS0 m c t)) (ix2 ⟨k.val - 0, by omega⟩ ⟨l.val - 0, by omega⟩)
      else J) :
    X (ix2 k l) = ((dpo w (tile a t k) (grp l) (pos l) : ℝ) : EReal) := by
  rw [hX]
  clear hX
  split
  · next h =>
    obtain ⟨l', rfl⟩ : ∃ l', l = lane 3 l' := ⟨⟨l.val - 384, by omega⟩, Fin.ext (by simp only [lane]; show l.val = 3 * 128 + (l.val - 384); omega)⟩
    rw [grp_lane, pos_lane]
    refine Eq.trans ?_ (col3 (kD_eq H) (kW3_eq (t := t) H) (kS3_eq (t := t) H) rfl k l')
    exact congrArg _ (congrArg₂ ix2 rfl (Fin.ext (by simp [lane])))
  split
  · next h =>
    obtain ⟨l', rfl⟩ : ∃ l', l = lane 2 l' := ⟨⟨l.val - 256, by omega⟩, Fin.ext (by simp only [lane]; show l.val = 2 * 128 + (l.val - 256); omega)⟩
    rw [grp_lane, pos_lane]
    refine Eq.trans ?_ (col2 (kD_eq H) (kW2_eq (t := t) H) (kS2_eq (t := t) H) rfl k l')
    exact congrArg _ (congrArg₂ ix2 rfl (Fin.ext (by simp [lane])))
  split
  · next h =>
    obtain ⟨l', rfl⟩ : ∃ l', l = lane 1 l' := ⟨⟨l.val - 128, by omega⟩, Fin.ext (by simp only [lane]; show l.val = 1 * 128 + (l.val - 128); omega)⟩
    rw [grp_lane, pos_lane]
    refine Eq.trans ?_ (col1 (kD_eq H) (kW1_eq (t := t) H) (kS1_eq (t := t) H) rfl k l')
    exact congrArg _ (congrArg₂ ix2 rfl (Fin.ext (by simp [lane])))
  split
  · next h =>
    obtain ⟨l', rfl⟩ : ∃ l', l = lane 0 l' := ⟨⟨l.val - 0, by omega⟩, Fin.ext (by simp only [lane]; show l.val = 0 * 128 + (l.val - 0); omega)⟩
    rw [grp_lane, pos_lane]
    refine Eq.trans ?_ (col0 (kD_eq H) (kW0_eq (t := t) H) (kS0_eq (t := t) H) rfl k l')
    exact congrArg _ (congrArg₂ ix2 rfl (Fin.ext (by simp [lane])))
  · omega

set_option maxHeartbeats 4000000 in
/-- Every grid point stores the pooled rows' gradient of its tile. -/
theorem out10 (k : Fin 512) (l : Fin 512) :
    (outs m c t.val t.isLt).2.1 (ix2 k l) = ((dpo w (tile a t k) (grp l) (pos l) : ℝ) : EReal) := by
  by_cases h0 : t.val = 0
  · rw [outs_A m c t h0 ((first_iff t).mpr h0) (not_last t h0)]
    frame_out
    refine out10_of H t _ (J := View.canon (Val := Elt Ideal) (e := .f32) [] (ix2 k l)) k l ?_
    rw [canon_block, canon_block, canon_block, canon_block]
    rfl
  by_cases h1 : t.val = 7
  · rw [outs_C m c t h1 (not_first t h0) ((last_iff t).mpr h1)]
    frame_out
    refine out10_of H t _ (J := View.canon (Val := Elt Ideal) (e := .f32) [] (ix2 k l)) k l ?_
    rw [canon_block, canon_block, canon_block, canon_block]
    rfl
  · rw [outs_B m c t h0 h1 (not_first t h0) (fun k => h1 ((last_iff t).mp k))]
    frame_out
    refine out10_of H t _ (J := View.canon (Val := Elt Ideal) (e := .f32) [] (ix2 k l)) k l ?_
    rw [canon_block, canon_block, canon_block, canon_block]
    rfl

/-- The output matrix's gradient: the first point starts the sum, -/
theorem scr_zero (h0 : t.val = 0) (k l : Fin 1024) :
    (outs m c t.val t.isLt).2.2.2.2.2 (ix2 k l) = ((∑ r, mix w (tile a t r) k * (tile a t r).dy l : ℝ) : EReal) := by
  rw [outs_A m c t h0 ((first_iff t).mpr h0) (not_last t h0)]
  frame_open
  frame_out
  refine (pay7 (blk0 H t) (blk1 H t) _ k l).trans ?_
  pointwise [k0_pay2]

/-- and the others add to it. -/
theorem scr_succ (h0 : ¬ t.val = 0) (k l : Fin 1024) :
    (outs m c t.val t.isLt).2.2.2.2.2 (ix2 k l)
      = (prev m c t).2.2.2.2.2 (ix2 k l) + ((∑ r, mix w (tile a t r) k * (tile a t r).dy l : ℝ) : EReal) := by
  by_cases h1 : t.val = 7
  · rw [outs_C m c t h1 (not_first t h0) ((last_iff t).mpr h1)]
    frame_out
    exact pay7 (blk0 H t) (blk1 H t) _ k l
  · rw [outs_B m c t h0 h1 (not_first t h0) (fun k => h1 ((last_iff t).mp k))]
    frame_out
    exact pay7 (blk0 H t) (blk1 H t) _ k l

/-- Four planes rewritten, each with its tile's sum added, over a buffer `Y`. -/
theorem planes_add (X Y : Vec Ideal S4x128x128 .f32) {J : EReal} (b : Fin 4) (k l : Fin 128)
    (hX : X (ix3 b k l) =
      if b.val = 3 then k0_pay43 (kD m c t) (kP3 m c t) (kS3 m c t)
        (View.ld Y (Rect.unit ![3, 0, 0] ![1, 128, 128] inb_S4x128x128_S1x128x128_3_0_0)) (ix3 (0 : Fin 1) k l)
      else if b.val = 2 then k0_pay36 (kD m c t) (kP2 m c t) (kS2 m c t)
        (View.ld Y (Rect.unit ![2, 0, 0] ![1, 128, 128] inb_S4x128x128_S1x128x128_2_0_0)) (ix3 (0 : Fin 1) k l)
      else if b.val = 1 then k0_pay29 (k0_pay28 (kD m c t) (kP1 m c t) (kS1 m c t)
        (View.ld Y (Rect.unit ![1, 0, 0] ![1, 128, 128] inb_S4x128x128_S1x128x128_1_0_0))) (ix3 (0 : Fin 1) k l)
      else if b.val = 0 then k0_pay21 (k0_pay18 (kP0 m c t)) (k0_pay20 (kD m c t) (kS0 m c t))
        (View.ld Y (Rect.unit ![0, 0, 0] ![1, 128, 128] inb_S4x128x128_S1x128x128_0_0_0)) (ix3 (0 : Fin 1) k l)
      else J) :
    X (ix3 b k l) = Y (ix3 b k l)
      + ((∑ r, (tile a t r).pooled (lane b k) * dmixed w (tile a t r) (lane b l) : ℝ) : EReal) := by
  rw [hX]
  clear hX
  split
  · next h =>
    obtain rfl : b = 3 := Fin.ext h
    refine (mat3 (kD_eq H) (kP3_eq (t := t) H) (kS3_eq (t := t) H) _ rfl 0 k l).trans ?_
    rw [ld_plane Y 3 _ 0 k l 3 rfl]
  split
  · next h =>
    obtain rfl : b = 2 := Fin.ext h
    refine (mat2 (kD_eq H) (kP2_eq (t := t) H) (kS2_eq (t := t) H) _ rfl 0 k l).trans ?_
    rw [ld_plane Y 2 _ 0 k l 2 rfl]
  split
  · next h =>
    obtain rfl : b = 1 := Fin.ext h
    refine (mat1 (kD_eq H) (kP1_eq (t := t) H) (kS1_eq (t := t) H) _ rfl 0 k l).trans ?_
    rw [ld_plane Y 1 _ 0 k l 1 rfl]
  split
  · next h =>
    obtain rfl : b = 0 := Fin.ext h
    refine (mat0 (kD_eq H) (kP0_eq (t := t) H) (kS0_eq (t := t) H) _ rfl 0 k l).trans ?_
    rw [ld_plane Y 0 _ 0 k l 0 rfl]
  · omega

set_option maxHeartbeats 4000000 in
/-- The groups' matrices' gradient: the first point starts the sums, -/
theorem out12_zero (h0 : t.val = 0) (b : Fin 4) (k l : Fin 128) : (outs m c t.val t.isLt).2.2.2.1 (ix3 b k l)
    = ((∑ r, (tile a t r).pooled (lane b k) * dmixed w (tile a t r) (lane b l) : ℝ) : EReal) := by
  refine (planes_add H t _ (k0_pay3 (F := Ideal)) (J := k0_pay3 (F := Ideal) (ix3 b k l)) b k l ?_).trans ?_
  · rw [outs_A m c t h0 ((first_iff t).mpr h0) (not_last t h0)]
    frame_open
    simp (disch := decide) only [↓ View.readCov_skip, ↓ View.readCov_cons_toLoadRect, ↓ View.readCov_fill]
    frame_out
    rw [canon_plane, canon_plane, canon_plane, canon_plane, View.canon_cons_unit_lit inb_S4x128x128_S4x128x128_0_0_0 _ _ (by decide)]
    rfl
  · pointwise [k0_pay3]

set_option maxHeartbeats 4000000 in
/-- and the others add to them. -/
theorem out12_succ (h0 : ¬t.val = 0) (b : Fin 4) (k l : Fin 128) : (outs m c t.val t.isLt).2.2.2.1 (ix3 b k l)
    = (prev m c t).2.2.2.1 (ix3 b k l)
      + ((∑ r, (tile a t r).pooled (lane b k) * dmixed w (tile a t r) (lane b l) : ℝ) : EReal) := by
  refine planes_add H t _ _ (J := (prev m c t).2.2.2.1 (ix3 b k l)) b k l ?_
  by_cases h1 : t.val = 7
  · rw [outs_C m c t h1 (not_first t h0) ((last_iff t).mpr h1)]
    frame_out
    rw [read_plane, read_plane, read_plane, read_plane, View.writes_nil, Memref.IsWhole.read_unread]
    rfl
  · rw [outs_B m c t h0 h1 (not_first t h0) (fun k => h1 ((last_iff t).mp k))]
    frame_out
    rw [read_plane, read_plane, read_plane, read_plane, View.writes_nil, Memref.IsWhole.read_unread]
    rfl

/-- Four rows rewritten, the last a group at a time, each with its tile's sum added, over a buffer `Y`. -/
theorem small_add (X Y : Vec Ideal S8x512 .f32) (k : Fin 8) (l : Fin 512)
    (hX : X (ix2 k l) =
      if h : (3 ≤ k.val ∧ k.val < 3 + 1) ∧ 384 ≤ l.val ∧ l.val < 384 + 128 then
        k0_pay41 (kD m c t) (kW3 m c t) (kP3 m c t) (View.ld Y (Rect.unit ![3, 384] ![1, 128] inb_S8x512_S1x128_3_384))
          (ix2 ⟨k.val - 3, by omega⟩ ⟨l.val - 384, by omega⟩)
      else if h : (3 ≤ k.val ∧ k.val < 3 + 1) ∧ 256 ≤ l.val ∧ l.val < 256 + 128 then
        k0_pay34 (kD m c t) (kW2 m c t) (kP2 m c t) (View.ld Y (Rect.unit ![3, 256] ![1, 128] inb_S8x512_S1x128_3_256))
          (ix2 ⟨k.val - 3, by omega⟩ ⟨l.val - 256, by omega⟩)
      else if h : (3 ≤ k.val ∧ k.val < 3 + 1) ∧ 128 ≤ l.val ∧ l.val < 128 + 128 then
        k0_pay26 (kD m c t) (kW1 m c t) (kP1 m c t) (View.ld Y (Rect.unit ![3, 128] ![1, 128] inb_S8x512_S1x128_3_128))
          (ix2 ⟨k.val - 3, by omega⟩ ⟨l.val - 128, by omega⟩)
      else if h : (3 ≤ k.val ∧ k.val < 3 + 1) ∧ 0 ≤ l.val ∧ l.val < 0 + 128 then
        k0_pay19 (kD m c t) (kW0 m c t) (kP0 m c t) (View.ld Y (Rect.unit ![3, 0] ![1, 128] inb_S8x512_S1x128_3_0))
          (ix2 ⟨k.val - 3, by omega⟩ ⟨l.val - 0, by omega⟩)
      else if k.val = 2 then
        k0_pay15 (kDu1 m c t) (View.ld Y (Rect.unit ![2, 0] ![1, 512] inb_S8x512_S1x512_2_0)) (ix2 (0 : Fin 1) l)
      else if k.val = 1 then
        k0_pay14 (kDu2 m c t) (View.ld Y (Rect.unit ![1, 0] ![1, 512] inb_S8x512_S1x512_1_0)) (ix2 (0 : Fin 1) l)
      else if k.val = 0 then
        k0_pay13 (kD m c t) (kHat m c t) (iblk m c 5 t) (iblk m c 6 t)
          (View.ld Y (Rect.unit ![0, 0] ![1, 512] inb_S8x512_S1x512_0_0)) (ix2 (0 : Fin 1) l)
      else Y (ix2 k l)) :
    X (ix2 k l) = Y (ix2 k l) + ((small w (tile a t) k l : ℝ) : EReal) := by
  have scale (k : Fin 8) (h : k.val = 3) (g : Fin 4) (l' : Fin 128) : small w (tile a t) k (lane g l')
      = ∑ r, dq w (tile a t r) (lane g l') * mixed w (tile a t r) g l' := by
    obtain rfl : k = 3 := Fin.ext h
    show (∑ r, dq w (tile a t r) (lane g l') * mixed w (tile a t r) (grp (lane g l')) (pos (lane g l'))) = _
    rw [grp_lane, pos_lane]
  rw [hX]
  clear hX
  split
  · next h =>
    obtain ⟨l', rfl⟩ : ∃ l', l = lane 3 l' := ⟨⟨l.val - 384, by omega⟩, Fin.ext (by simp only [lane]; show l.val = 3 * 128 + (l.val - 384); omega)⟩
    refine (row3 (kD_eq H) (kW3_eq (t := t) H) (kP3_eq (t := t) H) _ rfl _ _).trans ?_
    rw [scale k (by omega), ld_block Y 3 384 1 128 _ _ _ k (lane 3 l') (by simp; omega) (by simp [lane])]
    simp [lane]
  split
  · next h =>
    obtain ⟨l', rfl⟩ : ∃ l', l = lane 2 l' := ⟨⟨l.val - 256, by omega⟩, Fin.ext (by simp only [lane]; show l.val = 2 * 128 + (l.val - 256); omega)⟩
    refine (row2 (kD_eq H) (kW2_eq (t := t) H) (kP2_eq (t := t) H) _ rfl _ _).trans ?_
    rw [scale k (by omega), ld_block Y 3 256 1 128 _ _ _ k (lane 2 l') (by simp; omega) (by simp [lane])]
    simp [lane]
  split
  · next h =>
    obtain ⟨l', rfl⟩ : ∃ l', l = lane 1 l' := ⟨⟨l.val - 128, by omega⟩, Fin.ext (by simp only [lane]; show l.val = 1 * 128 + (l.val - 128); omega)⟩
    refine (row1 (kD_eq H) (kW1_eq (t := t) H) (kP1_eq (t := t) H) _ rfl _ _).trans ?_
    rw [scale k (by omega), ld_block Y 3 128 1 128 _ _ _ k (lane 1 l') (by simp; omega) (by simp [lane])]
    simp [lane]
  split
  · next h =>
    obtain ⟨l', rfl⟩ : ∃ l', l = lane 0 l' := ⟨⟨l.val - 0, by omega⟩, Fin.ext (by simp only [lane]; show l.val = 0 * 128 + (l.val - 0); omega)⟩
    refine (row0 (kD_eq H) (kW0_eq (t := t) H) (kP0_eq (t := t) H) _ rfl _ _).trans ?_
    rw [scale k (by omega), ld_block Y 3 0 1 128 _ _ _ k (lane 0 l') (by simp; omega) (by simp [lane])]
    simp [lane]
  split
  · next h =>
    obtain rfl : k = 2 := Fin.ext h
    refine (pay15 (kDu1_eq H) _ _ _).trans ?_
    exact congrArg₂ (fun x y : EReal => x + y) (ld_row Y 2 inb_S8x512_S1x512_2_0 0 l) rfl
  split
  · next h =>
    obtain rfl : k = 1 := Fin.ext h
    refine (pay14 (kDu2_eq H) _ _ _).trans ?_
    exact congrArg₂ (fun x y : EReal => x + y) (ld_row Y 1 inb_S8x512_S1x512_1_0 0 l) rfl
  split
  · next h =>
    obtain rfl : k = 0 := Fin.ext h
    refine (pay13 (kD_eq H) (kHat_eq H) (blk5 H t) (blk6 H t) _ _ _).trans ?_
    exact congrArg₂ (fun x y : EReal => x + y) (ld_row Y 0 inb_S8x512_S1x512_0_0 0 l) rfl
  · rw [small_rest w (tile a t) k l (by omega)]
    simp

set_option maxHeartbeats 4000000 in
/-- The small gradients: the first point starts the sums, -/
theorem out13_zero (h0 : t.val = 0) (k : Fin 8) (l : Fin 512) :
    (outs m c t.val t.isLt).2.2.2.2.1 (ix2 k l) = ((small w (tile a t) k l : ℝ) : EReal) := by
  refine (small_add H t _ (k0_pay4 (F := Ideal)) k l ?_).trans ?_
  · rw [outs_A m c t h0 ((first_iff t).mpr h0) (not_last t h0)]
    frame_open
    simp (disch := decide) only [↓ View.readCov_skip, ↓ View.readCov_cons_toLoadRect, ↓ View.readCov_fill]
    frame_out
    rw [canon_block, canon_block, canon_block, canon_block, canon_row, canon_row, canon_row,
      View.canon_cons_unit_lit inb_S8x512_S8x512_0_0 _ _ (by decide)]
    rfl
  · pointwise [k0_pay4]

set_option maxHeartbeats 4000000 in
/-- and the others add to them. -/
theorem out13_succ (h0 : ¬t.val = 0) (k : Fin 8) (l : Fin 512) :
    (outs m c t.val t.isLt).2.2.2.2.1 (ix2 k l)
      = (prev m c t).2.2.2.2.1 (ix2 k l) + ((small w (tile a t) k l : ℝ) : EReal) := by
  refine small_add H t _ _ k l ?_
  by_cases h1 : t.val = 7
  · rw [outs_C m c t h1 (not_first t h0) ((last_iff t).mpr h1)]
    frame_out
    rw [read_block, read_block, read_block, read_block, read_row, read_row, read_row, View.writes_nil, Memref.IsWhole.read_unread]
    rfl
  · rw [outs_B m c t h0 h1 (not_first t h0) (fun k => h1 ((last_iff t).mp k))]
    frame_out
    rw [read_block, read_block, read_block, read_block, read_row, read_row, read_row, View.writes_nil, Memref.IsWhole.read_unread]
    rfl

omit H in
/-- What the last point copies from its sum. -/
theorem out11_last (h1 : t.val = 7) (k l : Fin 1024) :
    (outs m c t.val t.isLt).2.2.1 (ix2 k l) = (outs m c t.val t.isLt).2.2.2.2.2 (ix2 k l) := by
  rw [outs_C m c t h1 (not_first t (by omega)) ((last_iff t).mpr h1)]
  frame_out
  pointwise [k0_pay1]

end Cert.Mix.Kernel
-- ==== Proof.Mix.Arrays.lean ====
/- The kernel's five results, when its arguments are real: the two row gradients token by token, and the weights' gradients
   as sums over all the tokens. -/
module

public import proofs.«01_k».proof.Proof.Mix.Points

@[expose] public section

set_option maxRecDepth 16384

noncomputable section

namespace Cert.Mix.Kernel

open Idealize.ShloMosaic Idealize.ShloMosaic.TcCoe Idealize.SL.Sem
open Cert.MixIdeal Cert.MixIdeal.Gen Cert.MixIdeal.Body Cert.Lift Cert.Mix.Spec Cert.Rows

/-- Sums over the tiles' tokens, tile after tile, are sums over all the tokens. -/
theorem sum_tiles (a : Fin 4096 → Token) (f : Token → ℝ) :
    ∑ j ∈ Finset.range 8, ∑ r, f (tile a j r) = ∑ r, f (a r) := by
  rw [Fin.sum_univ_tiles 8 512 rfl fun r => f (a r), Finset.sum_range]
  exact Finset.sum_congr rfl fun j _ => Finset.sum_congr rfl fun r _ => congrArg f (tile_eq a j r _ rfl)

theorem small_tiles (w : Weights) (a : Fin 4096 → Token) (b : Fin 8) (l : Fin 512) :
    ∑ j ∈ Finset.range 8, small w (tile a j) b l = small w a b l := by
  unfold small
  split
  · exact sum_tiles a fun v => du2 w v l * uh w v l
  · exact sum_tiles a fun v => du2 w v l
  · exact sum_tiles a fun v => du1 w v l
  · exact sum_tiles a fun v => dq w v l * mixed w v (grp l) (pos l)
  · exact Finset.sum_const_zero

variable {m : (ℓ : Loc nD τ sig) → Buf (Elt Ideal) ℓ} {c : Dev nD} {w : Weights} {a : Fin 4096 → Token} (H : Holds m c w a)

/-- A quantity the first point starts and the others add to. -/
theorem sum_of_steps (f : (n : ℕ) → n < cfg0.N → EReal) (s : ℕ → ℝ) (h0 : ∀ h, f 0 h = ((s 0 : ℝ) : EReal))
    (hs : ∀ n h, f (n + 1) h = f n (by omega) + ((s (n + 1) : ℝ) : EReal)) (n : ℕ) (h : n < cfg0.N) :
    f n h = ((∑ j ∈ Finset.range (n + 1), s j : ℝ) : EReal) := by
  induction n with
  | zero => rw [h0, Finset.sum_range_one]
  | succ n ih => rw [hs, ih, Finset.sum_range_succ _ (n + 1), up_add]

include H

theorem scr_eq (n : ℕ) (h : n < cfg0.N) (k l : Fin 1024) : (outs m c n h).2.2.2.2.2 (ix2 k l)
    = ((∑ j ∈ Finset.range (n + 1), ∑ r, mix w (tile a j r) k * (tile a j r).dy l : ℝ) : EReal) :=
  sum_of_steps (fun n h => (outs m c n h).2.2.2.2.2 (ix2 k l)) (fun j => ∑ r, mix w (tile a j r) k * (tile a j r).dy l)
    (fun h => scr_zero H ⟨0, h⟩ rfl k l) (fun n h => scr_succ H ⟨n + 1, h⟩ (Nat.succ_ne_zero n) k l) n h

theorem out12_eq (n : ℕ) (h : n < cfg0.N) (b : Fin 4) (k l : Fin 128) : (outs m c n h).2.2.2.1 (ix3 b k l)
    = ((∑ j ∈ Finset.range (n + 1), ∑ r, (tile a j r).pooled (lane b k) * dmixed w (tile a j r) (lane b l) : ℝ) : EReal) :=
  sum_of_steps (fun n h => (outs m c n h).2.2.2.1 (ix3 b k l))
    (fun j => ∑ r, (tile a j r).pooled (lane b k) * dmixed w (tile a j r) (lane b l))
    (fun h => out12_zero H ⟨0, h⟩ rfl b k l) (fun n h => out12_succ H ⟨n + 1, h⟩ (Nat.succ_ne_zero n) b k l) n h

theorem out13_eq (n : ℕ) (h : n < cfg0.N) (k : Fin 8) (l : Fin 512) : (outs m c n h).2.2.2.2.1 (ix2 k l)
    = ((∑ j ∈ Finset.range (n + 1), small w (tile a j) k l : ℝ) : EReal) :=
  sum_of_steps (fun n h => (outs m c n h).2.2.2.2.1 (ix2 k l)) (fun j => small w (tile a j) k l)
    (fun h => out13_zero H ⟨0, h⟩ rfl k l) (fun n h => out13_succ H ⟨n + 1, h⟩ (Nat.succ_ne_zero n) k l) n h

/-- The last grid point. -/
def tLast : Fin cfg0.N := ⟨7, lt_of_lt_of_eq (by decide) N_0.symm⟩

/-- The convolved rows' gradient. -/
theorem final9 : (dats m 0 c).arrAt 9 cfg0.N = fun i : S4096x512.Idx => ((du1 w (a (i 0)) (i 1) : ℝ) : EReal) := by
  refine (dats m 0 c).arrAt_eq_of_covers 9 _ (by decide +kernel) fun t hf y => ?_
  blk_simp
  rw [after0_9]
  have e0 : ((win0_9.blk t).view.emb y 0).val = t.val * 512 + (y 0).val := by blk_simp [idx t]
  have e1 : ((win0_9.blk t).view.emb y 1).val = (y 1).val := by blk_simp [idx t]
  rw [← tile_eq a t.val (y 0) _ e0]
  refine (congrArg _ ?_).trans ((out9 H t (y 0) (y 1)).trans (congrArg _ (congrArg _ ?_)))
  · funext x
    fin_cases x <;> rfl
  · exact Fin.ext e1.symm

/-- The pooled rows' gradient. -/
theorem final10 : (dats m 0 c).arrAt 10 cfg0.N
    = fun i : S4096x512.Idx => ((dpo w (a (i 0)) (grp (i 1)) (pos (i 1)) : ℝ) : EReal) := by
  refine (dats m 0 c).arrAt_eq_of_covers 10 _ (by decide +kernel) fun t hf y => ?_
  blk_simp
  rw [after0_10]
  have e0 : ((win0_10.blk t).view.emb y 0).val = t.val * 512 + (y 0).val := by blk_simp [idx t]
  have e1 : ((win0_10.blk t).view.emb y 1).val = (y 1).val := by blk_simp [idx t]
  rw [← tile_eq a t.val (y 0) _ e0, show (win0_10.blk t).view.emb y 1 = y 1 from Fin.ext e1]
  refine (congrArg _ ?_).trans (out10 H t (y 0) (y 1))
  funext x
  fin_cases x <;> rfl

/-- The output matrix's gradient. -/
theorem final11 : (dats m 0 c).arrAt 11 cfg0.N
    = fun i : S1024x1024.Idx => ((∑ r, mix w (a r) (i 0) * (a r).dy (i 1) : ℝ) : EReal) := by
  refine (dats m 0 c).arrAt_eq_of_after_last 11 tLast (by decide +kernel) _ fun j => ?_
  blk_simp
  rw [after0_11]
  refine (congrArg _ (show _ = ix2 (j 0) (j 1) from ?_)).trans ((out11_last tLast rfl (j 0) (j 1)).trans ((scr_eq H _ _ _ _).trans
    (congrArg _ (sum_tiles a fun v => mix w v (j 0) * v.dy (j 1)))))
  funext x
  fin_cases x <;> rfl

/-- The groups' matrices' gradient. -/
theorem final12 : (dats m 0 c).arrAt 12 cfg0.N = fun i : S4x128x128.Idx =>
    ((∑ r, (a r).pooled (lane (i 0) (i 1)) * dmixed w (a r) (lane (i 0) (i 2)) : ℝ) : EReal) := by
  refine (dats m 0 c).arrAt_eq_of_after_last 12 tLast (by decide +kernel) _ fun j => ?_
  blk_simp
  rw [after0_12]
  refine (congrArg _ (show _ = ix3 (j 0) (j 1) (j 2) from ?_)).trans ((out12_eq H _ _ (j 0) (j 1) (j 2)).trans
    (congrArg _ (sum_tiles a fun v => v.pooled (lane (j 0) (j 1)) * dmixed w v (lane (j 0) (j 2)))))
  funext x
  fin_cases x <;> rfl

/-- The small gradients. -/
theorem final13 : (dats m 0 c).arrAt 13 cfg0.N = fun i : S8x512.Idx => ((small w a (i 0) (i 1) : ℝ) : EReal) := by
  refine (dats m 0 c).arrAt_eq_of_after_last 13 tLast (by decide +kernel) _ fun j => ?_
  blk_simp
  rw [after0_13]
  refine (congrArg _ (show _ = ix2 (j 0) (j 1) from ?_)).trans ((out13_eq H _ _ (j 0) (j 1)).trans
    (congrArg _ (small_tiles w a (j 0) (j 1))))
  funext x
  fin_cases x <;> rfl

end Cert.Mix.Kernel
-- ==== Proof.Mix.Claim.lean ====
/- The mixers' output gradients' kernel and the derivative of the plain forward lines end with equal results. -/
module

public import proofs.«01_k».proof.Proof.Mix.RefRun
public import proofs.«01_k».proof.Defs
public import proofs.«01_k».proof.Proof.Gen.Pre_finite_mix
public import proofs.«01_k».proof.Proof.Mix.Arrays
public import proofs.«01_k».proof.Proof.Mix.Reference
public import proofs.«01_k».proof.Proof.Real.Finite

@[expose] public section

set_option maxRecDepth 16384

noncomputable section

namespace Cert.Mix.Claim

open Idealize.ShloMosaic Idealize.ShloMosaic.TcCoe Idealize.SL.Sem
open Cert.Mix.Spec Cert.Finite

variable (m : (ℓ : Loc MixIdeal.nD MixIdeal.τ MixIdeal.sig) → Buf (Elt Ideal) ℓ) (c : Dev MixIdeal.nD)

/-- The real weights and tokens a device's arguments hold. -/
def weights : Weights where
  convB l := (m ((c.tc : Thread MixIdeal.nD MixIdeal.τ).loc MixIdeal.main_arg2) (ix2 (0 : Fin 1) l)).toReal
  lnG l := (m ((c.tc : Thread MixIdeal.nD MixIdeal.τ).loc MixIdeal.main_arg3) (ix2 (0 : Fin 1) l)).toReal
  lnB l := (m ((c.tc : Thread MixIdeal.nD MixIdeal.τ).loc MixIdeal.main_arg4) (ix2 (0 : Fin 1) l)).toReal
  poolW g k l := (m ((c.tc : Thread MixIdeal.nD MixIdeal.τ).loc MixIdeal.main_arg5) (ix3 g k l)).toReal
  scale l := (m ((c.tc : Thread MixIdeal.nD MixIdeal.τ).loc MixIdeal.main_arg6) (ix2 (0 : Fin 1) l)).toReal
  wOut k l := (m ((c.tc : Thread MixIdeal.nD MixIdeal.τ).loc MixIdeal.main_arg7) (ix2 k l)).toReal

def tokens (r : Fin 4096) : Token where
  c l := (m ((c.tc : Thread MixIdeal.nD MixIdeal.τ).loc MixIdeal.main_arg0) (ix2 r l)).toReal
  pooled l := (m ((c.tc : Thread MixIdeal.nD MixIdeal.τ).loc MixIdeal.main_arg1) (ix2 r l)).toReal
  dy l := (m ((c.tc : Thread MixIdeal.nD MixIdeal.τ).loc MixIdeal.main_arg8) (ix2 r l)).toReal

theorem holds (h : Cert.Pre_MixIdeal_finite_mix (hPre_finite_mix := Cert.Pre_finite_mix.Gen.facts) m) :
    Kernel.Holds m c (weights m c) (tokens m c) := by
  obtain ⟨h0, h1, h2, h3, h4, h5, h6, h7, h8⟩ := h c
  exact {
    conv := fun r l => real_of_cmp h0 (ix2 r l)
    pooled := fun r l => real_of_cmp h1 (ix2 r l)
    convB := fun z l => by rw [Subsingleton.elim z 0]; exact real_of_cmp h2 (ix2 (0 : Fin 1) l)
    lnG := fun z l => by rw [Subsingleton.elim z 0]; exact real_of_cmp h3 (ix2 (0 : Fin 1) l)
    lnB := fun z l => by rw [Subsingleton.elim z 0]; exact real_of_cmp h4 (ix2 (0 : Fin 1) l)
    poolW := fun g k l => real_of_cmp h5 (ix3 g k l)
    scale := fun z l => by rw [Subsingleton.elim z 0]; exact real_of_cmp h6 (ix2 (0 : Fin 1) l)
    wOut := fun k l => real_of_cmp h7 (ix2 k l)
    dy := fun r l => real_of_cmp h8 (ix2 r l) }

set_option maxHeartbeats 4000000 in
/-- The kernel's run: its results are the arrays after the last point, its arguments are as they were. -/
theorem kernel_run (ρ : Dev MixIdeal.nD → PrngReg) : θ_run (MixIdeal.defs (F := Ideal)) (onTc (τ := MixIdeal.τ)
    (MixIdeal.main (F := Ideal))) ⟨m, fun _ => 0, ρ⟩ fun r => ∀ c : Dev MixIdeal.nD,
      let at' := fun b : Ref MixIdeal.sig .tc => r.2.mem ((c.tc : Thread MixIdeal.nD MixIdeal.τ).loc b)
      let A := fun b : Ref MixIdeal.sig .tc => m ((c.tc : Thread MixIdeal.nD MixIdeal.τ).loc b)
      at' MixIdeal.main_v37_0 = (MixIdeal.Body.dats m 0 c).arrAt 9 MixIdeal.cfg0.N
      ∧ at' MixIdeal.main_v37_1 = (MixIdeal.Body.dats m 0 c).arrAt 10 MixIdeal.cfg0.N
      ∧ at' MixIdeal.main_v37_2 = (MixIdeal.Body.dats m 0 c).arrAt 11 MixIdeal.cfg0.N
      ∧ at' MixIdeal.main_v37_3 = (MixIdeal.Body.dats m 0 c).arrAt 12 MixIdeal.cfg0.N
      ∧ at' MixIdeal.main_v37_4 = (MixIdeal.Body.dats m 0 c).arrAt 13 MixIdeal.cfg0.N
      ∧ at' MixIdeal.main_arg0 = A MixIdeal.main_arg0 ∧ at' MixIdeal.main_arg1 = A MixIdeal.main_arg1
      ∧ at' MixIdeal.main_arg2 = A MixIdeal.main_arg2 ∧ at' MixIdeal.main_arg3 = A MixIdeal.main_arg3
      ∧ at' MixIdeal.main_arg4 = A MixIdeal.main_arg4 ∧ at' MixIdeal.main_arg5 = A MixIdeal.main_arg5
      ∧ at' MixIdeal.main_arg6 = A MixIdeal.main_arg6 ∧ at' MixIdeal.main_arg7 = A MixIdeal.main_arg7
      ∧ at' MixIdeal.main_arg8 = A MixIdeal.main_arg8 :=
  (θ_run MixIdeal.defs _ _).mono (fun _ h c => ⟨(h.1 c).1 9, (h.1 c).1 10, (h.1 c).1 11, (h.1 c).1 12, (h.1 c).1 13, h.2.1 c⟩)
    (θ_run_and (MixIdeal.Body.run_main m ρ) (MixIdeal.Body.frame_holds m ρ))

set_option maxHeartbeats 4000000 in
theorem algebraic : Cert.algebraic_MixIdeal_MixRefIdeal_pre_finite_mix (hMixIdeal := Cert.MixIdeal.Gen.facts)
    (hMixRefIdeal := Cert.MixRefIdeal.Gen.facts) (hPre_finite_mix := Cert.Pre_finite_mix.Gen.facts) := by
  pair_intro
  · run_from kernel_run m g
  · run_from Cert.MixRefIdeal.Whole.reference_run m' g'
    · have H := holds m c hpre
      refine Eq.trans (funext fun i => ?_) (Kernel.final9 H).symm
      rw [Cert.Rows.ix2_eta i]
      exact Reference.v86 H.conv H.convB H.lnG H.lnB H.wOut H.dy (i 0) (i 1)
    · have H := holds m c hpre
      refine Eq.trans (funext fun i => ?_) (Kernel.final10 H).symm
      rw [Cert.Rows.ix2_eta i]
      exact Reference.v54 H.scale H.wOut H.dy H.poolW (i 0) (i 1)
    · have H := holds m c hpre
      refine Eq.trans (funext fun i => ?_) (Kernel.final11 H).symm
      rw [Cert.Rows.ix2_eta i]
      exact Reference.v91 H.conv H.pooled H.convB H.lnG H.lnB H.poolW H.scale H.dy (i 0) (i 1)
    · have H := holds m c hpre
      refine Eq.trans (funext fun i => ?_) (Kernel.final12 H).symm
      rw [Cert.Rows.ix3_eta i]
      exact Reference.v53 H.scale H.wOut H.dy H.pooled (i 0) (i 1) (i 2)
    · have H := holds m c hpre
      refine Eq.trans (funext fun i => ?_) (Kernel.final13 H).symm
      rw [Cert.Rows.ix2_eta i]
      exact Reference.v90 H.conv H.pooled H.convB H.lnG H.lnB H.poolW H.wOut H.dy (i 0) (i 1)

end Cert.Mix.Claim
-- ==== Proof.Mix.Machine.lean ====
/- The machine-float program has the exact program's text, so the exact program's run, at any floats, gives its frame. -/
module

public import proofs.«01_k».proof.Defs
public import proofs.«01_k».proof.Proof.Gen.Mix
public import proofs.«01_k».proof.Proof.Mix.Frame

@[expose] public section

set_option maxRecDepth 16384

namespace Cert.Mix.Machine

open Idealize.ShloMosaic Idealize.SL.Sem

/-- Every run of the machine-float program leaves its arguments as they were and its counters at zero. -/
theorem frame : Cert.quiescent_Mix (hMix := Cert.Mix.Gen.facts) :=
  have h : ∀ (m : (ℓ : Loc MixIdeal.nD MixIdeal.τ MixIdeal.sig) → Buf (Elt Bits) ℓ) (ρ : Dev MixIdeal.nD → PrngReg), True → _ :=
    fun m ρ _ => Cert.MixIdeal.Body.frame_holds (F := Bits) m ρ
  Eq.mp (by sl_kernel_rfl) h

end Cert.Mix.Machine
-- ==== Proof.Ffn.RefRun.lean ====
/- The reference's run, stated in the named stages of its arguments. -/
module

public import proofs.«01_k».proof.Proof.Gen.FfnRefIdeal.Run
public import proofs.«01_k».proof.Proof.Gen.FfnRefIdeal.Read

@[expose] public section

namespace Cert.FfnRefIdeal.Whole

open Idealize.ShloMosaic Idealize.ShloMosaic.TcCoe Idealize.SL.Sem

/-- The reference's run, its results as the named stages of its arguments. -/
theorem reference_run (m' : (ℓ : Loc nD τ sig) → Buf (Elt Ideal) ℓ) (g' : Dev nD → PrngReg) :
    θ_run defs (onTc (τ := τ) (main (F := Ideal))) ⟨m', fun _ => 0, g'⟩ fun r => ∀ c : Dev nD,
      let A := fun b : Ref sig .tc => m' ((c : Thread nD τ).loc b)
      r.2.mem ((c : Thread nD τ).loc main_v50) = Read.val_main_v50 (F := Ideal) (A main_arg0) (A main_arg1) (A main_arg2)
          (A main_arg3) (A main_arg4)
      ∧ r.2.mem ((c : Thread nD τ).loc main_v78) = Read.val_main_v78 (F := Ideal) (A main_arg0) (A main_arg1) (A main_arg2)
          (A main_arg3) (A main_arg4)
      ∧ r.2.mem ((c : Thread nD τ).loc main_v80) = Read.val_main_v80 (F := Ideal) (A main_arg0) (A main_arg1) (A main_arg2)
          (A main_arg3) (A main_arg4)
      ∧ r.2.mem ((c : Thread nD τ).loc main_arg0) = A main_arg0 ∧ r.2.mem ((c : Thread nD τ).loc main_arg1) = A main_arg1
      ∧ r.2.mem ((c : Thread nD τ).loc main_arg2) = A main_arg2 ∧ r.2.mem ((c : Thread nD τ).loc main_arg3) = A main_arg3
      ∧ r.2.mem ((c : Thread nD τ).loc main_arg4) = A main_arg4 :=
  (θ_run defs _ _).mono (fun r h c => ⟨(h c).1.trans (Read.val_main_v50_eq _ c), (h c).2.1.trans (Read.val_main_v78_eq _ c),
    (h c).2.2.1.trans (Read.val_main_v80_eq _ c), (h c).2.2.2⟩) (Value.run m' g')

/-- The reference runs, leaves its arguments as they were and ends with every counter at zero. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c => (h c).2.2.2, Idealize.ShloMosaic.sem_eq_zero_of_no_sems (by decide) r.2⟩)
    (Value.run m ρ)

end Cert.FfnRefIdeal.Whole
-- ==== Proof.Ffn.Spec.lean ====
/- The gradient through the feed-forward layer at one token, as formulas over the real numbers: the row normed by its root
   mean square, its two products (gate and up), the gated product `silu gate * up`, and the product back.

   The kernel and the derivative of the reference both compute these. The second half of the module cuts the sum over the
   2816 channels into the kernel's pieces: two halves of 1408, each in columns of 512, 512 and 384. -/
module

public import proofs.«01_k».proof.Proof.Real.LayerNorm

@[expose] public section

noncomputable section

namespace Cert.Ffn.Spec

open Cert.Lift

/-- The weights: the norm's gain, the two matrices in beside each other, the matrix out. -/
structure Weights where
  gain : Fin 1024 → ℝ
  wIn : Fin 1024 → Fin 5632 → ℝ
  wOut : Fin 2816 → Fin 1024 → ℝ

/-- One token: its row and the cotangent of its result. -/
structure Token where
  x : Fin 1024 → ℝ
  dy : Fin 1024 → ℝ

/-- A channel's column of the gate's matrix, and of the up matrix. -/
def lo (k : Fin 2816) : Fin 5632 := ⟨k, by omega⟩
def hi (k : Fin 2816) : Fin 5632 := ⟨2816 + k, by omega⟩

variable (w : Weights) (a : Token)

def normed (l : Fin 1024) : ℝ := unit a.x l * w.gain l
def gate (k : Fin 2816) : ℝ := ∑ l, normed w a l * w.wIn l (lo k)
def up (k : Fin 2816) : ℝ := ∑ l, normed w a l * w.wIn l (hi k)
/-- The cotangent of the gated product. -/
def df (k : Fin 2816) : ℝ := ∑ l, a.dy l * w.wOut k l
/-- The gradients of the gate's product and of the up product. -/
def dgate (k : Fin 2816) : ℝ := df w a k * up w a k * siluGrad (gate w a k)
def dup (k : Fin 2816) : ℝ := df w a k * gate w a k * sig (gate w a k)
/-- The cotangent of the normed row. -/
def dn (l : Fin 1024) : ℝ := ∑ k, (dgate w a k * w.wIn l (lo k) + dup w a k * w.wIn l (hi k))
/-- The gradient of the row: directly, and through the norm. -/
def dx (l : Fin 1024) : ℝ := a.dy l + rmsBack a.x (fun k => dn w a k * w.gain k) l
/-- The gradients of the two products, one plane each. -/
def dgu (b : Fin 2) (k : Fin 2816) : ℝ := if b.val = 0 then dgate w a k else dup w a k

/-- The gain's gradient over some tokens, above seven rows of zeros. -/
def small {n : ℕ} (a : Fin n → Token) (b : Fin 8) (l : Fin 1024) : ℝ :=
  if b.val = 0 then ∑ r, dn w (a r) l * unit (a r).x l else 0

/-- What the channels `o` add to the cotangent of the normed row. -/
def part {n : ℕ} (o : Fin n → Fin 2816) (l : Fin 1024) : ℝ :=
  ∑ k, dgate w a (o k) * w.wIn l (lo (o k)) + ∑ k, dup w a (o k) * w.wIn l (hi (o k))

/-- Channel `k` of a half. -/
def half (c : ℕ) (k : Fin 1408) : Fin 2816 := ⟨c % 2 * 1408 + k, by omega⟩
/-- The three bands of columns of a half. -/
def band0 (k : Fin 512) : Fin 1408 := ⟨k, by omega⟩
def band1 (k : Fin 512) : Fin 1408 := ⟨512 + k, by omega⟩
def band2 (k : Fin 384) : Fin 1408 := ⟨1024 + k, by omega⟩

/-- What a half adds, in the kernel's order. -/
def halfPart (c : ℕ) (l : Fin 1024) : ℝ :=
  part w a (half c ∘ band0) l + part w a (half c ∘ band1) l + part w a (half c ∘ band2) l

theorem sum_half (f : Fin 1408 → ℝ) :
    ∑ k, f k = ∑ k, f (band0 k) + ∑ k, f (band1 k) + ∑ k, f (band2 k) := by
  have h : ∑ k : Fin (1024 + 384), f k = ∑ k : Fin 1024, f (Fin.castAdd 384 k) + ∑ k, f (band2 k) := by
    rw [Fin.sum_univ_add]; rfl
  have h' : ∑ k : Fin (512 + 512), f (Fin.castAdd 384 k) = ∑ k, f (band0 k) + ∑ k, f (band1 k) := by
    rw [Fin.sum_univ_add]; rfl
  exact h.trans (congrArg (· + _) h')

theorem sum_halves (f : Fin 2816 → ℝ) : ∑ k, f k = ∑ k, f (half 0 k) + ∑ k, f (half 1 k) := by
  have h : ∑ k : Fin (1408 + 1408), f k = ∑ k : Fin 1408, f (Fin.castAdd 1408 k) + ∑ k : Fin 1408, f (Fin.natAdd 1408 k) :=
    Fin.sum_univ_add _
  refine h.trans (congrArg₂ (· + ·) ?_ ?_) <;>
    exact Finset.sum_congr rfl fun k _ => congrArg f (Fin.ext (by simp [half] <;> omega))

theorem dn_eq (l : Fin 1024) : dn w a l = halfPart w a 0 l + halfPart w a 1 l := by
  have h : ∀ c, ∑ k, (dgate w a (half c k) * w.wIn l (lo (half c k)) + dup w a (half c k) * w.wIn l (hi (half c k)))
      = halfPart w a c l := fun c => by
    rw [sum_half, halfPart, part, part, part, Finset.sum_add_distrib, Finset.sum_add_distrib, Finset.sum_add_distrib]
    rfl
  rw [dn, sum_halves, h, h]

/-- The gradients of the two products beside each other. -/
def dcols (k : Fin 5632) : ℝ :=
  if h : k.val < 2816 then dgate w a ⟨k, h⟩ else dup w a ⟨k - 2816, by omega⟩

theorem sum_dcols (l : Fin 1024) : ∑ k, dcols w a k * w.wIn l k = dn w a l := by
  have h : ∑ k : Fin (2816 + 2816), dcols w a k * w.wIn l k
      = ∑ k, dgate w a k * w.wIn l (lo k) + ∑ k, dup w a k * w.wIn l (hi k) := by
    rw [Fin.sum_univ_add]
    refine congrArg₂ (· + ·) (Finset.sum_congr rfl fun k _ => ?_) (Finset.sum_congr rfl fun k _ => ?_)
    · exact congrArg (· * _) (dif_pos k.isLt)
    · refine congrArg₂ (· * ·) ?_ (congrArg _ rfl)
      refine (dif_neg (by simp)).trans (congrArg _ (Fin.ext ?_))
      simp
  exact h.trans (Finset.sum_add_distrib.symm)

theorem dcols_dgu (b : Fin 2) (k : Fin 2816) (h : b.val * 2816 + k.val < 5632) :
    dcols w a ⟨b.val * 2816 + k.val, h⟩ = dgu w a b k := by
  unfold dcols dgu
  by_cases hb : b.val = 0
  · rw [dif_pos (show b.val * 2816 + k.val < 2816 by omega), if_pos hb]
    exact congrArg _ (Fin.ext (by show b.val * 2816 + k.val = k.val; omega))
  · rw [dif_neg (show ¬b.val * 2816 + k.val < 2816 by omega), if_neg hb]
    exact congrArg _ (Fin.ext (by show b.val * 2816 + k.val - 2816 = k.val; omega))

end Cert.Ffn.Spec
-- ==== Proof.Ffn.Payloads.lean ====
/- The kernel's values on a tile of 512 tokens: when what they are computed from is real, each is the real formula of
   `Cert.Ffn.Spec` at its token. The channels come in three bands of a half, each with its own values; `o` says which
   channels a band holds. -/
module

public import proofs.«01_k».proof.Proof.Ffn.Spec
public import proofs.«01_k».proof.Proof.Gen.FfnIdeal.Skeleton

@[expose] public section

set_option maxRecDepth 16384

noncomputable section

namespace Cert.Ffn.Payloads

open Idealize.ShloMosaic Idealize.ShloMosaic.TcCoe Idealize.SL.Sem
open Cert.FfnIdeal Cert.FfnIdeal.Gen Cert.Lift Cert.Ffn.Spec

variable {w : Weights} {a : Fin 512 → Token}

section Norm
variable {x : Vec Ideal S512x1024 .f32} (hx : ∀ r l, x (ix2 r l) = (((a r).x l : ℝ) : EReal))
include hx

theorem pay1 (r : Fin 512) (z : Fin 1) : k0_pay1 x (ix2 r z) = ((rinv (a r).x : ℝ) : EReal) := by
  pointwise [k0_pay1]
  simp only [hx, up_mul, up_sum, lit_1024, lit_eps, up_div_1024, up_add, up_rinv]

theorem pay2 (r : Fin 512) (l : Fin 1024) : k0_pay2 x (ix2 r l) = ((unit (a r).x l : ℝ) : EReal) := by
  pointwise [k0_pay2]
  simp only [hx, pay1 hx, up_mul, unit]

variable {s : Vec Ideal S512x1024 .f32} (hs : ∀ r l, s (ix2 r l) = ((dn w (a r) l : ℝ) : EReal))
include hs

theorem pay3 {g : Vec Ideal S1x1024 .f32} (hg : ∀ z l, g (ix2 z l) = ((w.gain l : ℝ) : EReal))
    {d : Vec Ideal S512x1024 .f32} (hd : ∀ r l, d (ix2 r l) = (((a r).dy l : ℝ) : EReal))
    (r : Fin 512) (l : Fin 1024) : k0_pay3 x s g d (ix2 r l) = ((dx w (a r) l : ℝ) : EReal) := by
  pointwise [k0_pay3]
  simp only [pay1 hx, pay2 hx, hs, hg, hd, up_mul, up_sum, lit_1024, up_div_1024, up_sub, up_add, dx, rmsBack, Nat.cast_ofNat]

theorem pay4 (y : Vec Ideal S1x1024 .f32) (z : Fin 1) (l : Fin 1024) : k0_pay4 x s y (ix2 z l)
    = y (ix2 z l) + ((∑ r, dn w (a r) l * unit (a r).x l : ℝ) : EReal) := by
  pointwise [k0_pay4]
  simp only [pay2 hx, hs, up_mul, up_sum]

end Norm

section Bands
variable {d : Vec Ideal S512x1024 .f32} (hd : ∀ r l, d (ix2 r l) = (((a r).dy l : ℝ) : EReal))
include hd

theorem pay7 (r : Fin 512) (l : Fin 1024) : k0_pay7 d (ix2 r l) = (((a r).dy l : ℝ) : EReal) := by
  pointwise [k0_pay7]
  exact hd r l

section Wide
variable {o : Fin 512 → Fin 2816}
  {v : Vec Ideal S512x1024 .bf16} (hv : ∀ k l, v (ix2 k l) = ((w.wOut (o k) l : ℝ) : EReal))
  {p : Vec Ideal S1x512x512 .bf16} (hp : ∀ z r k, p (ix3 z r k) = ((gate w (a r) (o k) : ℝ) : EReal))
  {q : Vec Ideal S1x512x512 .bf16} (hq : ∀ z r k, q (ix3 z r k) = ((up w (a r) (o k) : ℝ) : EReal))
  {g : Vec Ideal S1x1024x512 .bf16} (hg : ∀ z l k, g (ix3 z l k) = ((w.wIn l (lo (o k)) : ℝ) : EReal))
  {u : Vec Ideal S1x1024x512 .bf16} (hu : ∀ z l k, u (ix3 z l k) = ((w.wIn l (hi (o k)) : ℝ) : EReal))

include hv hp hq in
theorem gate0 (r : Fin 512) (k : Fin 512) : k0_pay11 d v p q (ix2 r k) = ((dgate w (a r) (o k) : ℝ) : EReal) := by
  pointwise [k0_pay11, k0_pay10, k0_pay9, k0_pay8]
  simp only [pay7 hd, hv, hp, hq, up_mul, up_sum, up_logistic, lit_1, up_sub, up_add, dgate, df, siluGrad]
  rfl

include hv hp in
theorem up0 (r : Fin 512) (k : Fin 512) : k0_pay12 d v p (ix2 r k) = ((dup w (a r) (o k) : ℝ) : EReal) := by
  pointwise [k0_pay12, k0_pay10, k0_pay9, k0_pay8]
  simp only [pay7 hd, hv, hp, up_mul, up_sum, up_logistic, dup, df]

include hv hp hq in
theorem gatePlane0 (z : Fin 1) (r : Fin 512) (k : Fin 512) :
    k0_pay13 d v p q (ix3 z r k) = ((dgate w (a r) (o k) : ℝ) : EReal) := by
  rw [Subsingleton.elim z 0]
  pointwise [k0_pay13]
  exact gate0 hd hv hp hq r k

include hv hp in
theorem upPlane0 (z : Fin 1) (r : Fin 512) (k : Fin 512) :
    k0_pay14 (k0_pay12 d v p) (ix3 z r k) = ((dup w (a r) (o k) : ℝ) : EReal) := by
  rw [Subsingleton.elim z 0]
  pointwise [k0_pay14]
  exact up0 hd hv hp r k

include hv hp hq hg hu in
theorem acc0 (s : Vec Ideal S512x1024 .f32) (r : Fin 512) (l : Fin 1024) :
    k0_pay15 (k0_pay11 d v p q) (k0_pay12 d v p) s g u (ix2 r l) = s (ix2 r l) + ((part w (a r) o l : ℝ) : EReal) := by
  pointwise [k0_pay15]
  simp only [gate0 hd hv hp hq, up0 hd hv hp, hg, hu, up_mul, up_sum, up_add, part]

include hv hp hq in
theorem gate1 (r : Fin 512) (k : Fin 512) : k0_pay21 (k0_pay18 p) (k0_pay19 (k0_pay7 d) v q) (k0_pay20 p) (ix2 r k)
    = ((dgate w (a r) (o k) : ℝ) : EReal) := by
  pointwise [k0_pay21, k0_pay20, k0_pay19, k0_pay18, k0_pay17, k0_pay16]
  simp only [pay7 hd, hv, hp, hq, up_mul, up_sum, up_logistic, lit_1, up_sub, up_add, dgate, df, siluGrad]
  rfl

include hv hp in
theorem up1 (r : Fin 512) (k : Fin 512) : k0_pay22 (k0_pay16 (k0_pay7 d) v) (k0_pay17 p) (k0_pay18 p) (ix2 r k)
    = ((dup w (a r) (o k) : ℝ) : EReal) := by
  pointwise [k0_pay22, k0_pay18, k0_pay17, k0_pay16]
  simp only [pay7 hd, hv, hp, up_mul, up_sum, up_logistic, dup, df]

include hv hp hq in
theorem gatePlane1 (z : Fin 1) (r : Fin 512) (k : Fin 512) :
    k0_pay23 (k0_pay18 p) (k0_pay19 (k0_pay7 d) v q) (k0_pay20 p) (ix3 z r k) = ((dgate w (a r) (o k) : ℝ) : EReal) := by
  rw [Subsingleton.elim z 0]
  pointwise [k0_pay23]
  exact gate1 hd hv hp hq r k

include hv hp in
theorem upPlane1 (z : Fin 1) (r : Fin 512) (k : Fin 512) :
    k0_pay24 (k0_pay16 (k0_pay7 d) v) (k0_pay17 p) (k0_pay18 p) (ix3 z r k) = ((dup w (a r) (o k) : ℝ) : EReal) := by
  rw [Subsingleton.elim z 0]
  pointwise [k0_pay24]
  exact up1 hd hv hp r k

include hv hp hq hg hu in
theorem acc1 (s : Vec Ideal S512x1024 .f32) (r : Fin 512) (l : Fin 1024) :
    k0_pay25 (k0_pay16 (k0_pay7 d) v) (k0_pay17 p) (k0_pay18 p) (k0_pay19 (k0_pay7 d) v q) (k0_pay20 p) s g u (ix2 r l)
      = s (ix2 r l) + ((part w (a r) o l : ℝ) : EReal) := by
  pointwise [k0_pay25]
  simp only [gate1 hd hv hp hq, up1 hd hv hp, hg, hu, up_mul, up_sum, up_add, part]

end Wide

section Narrow
variable {o : Fin 384 → Fin 2816}
  {v : Vec Ideal S384x1024 .bf16} (hv : ∀ k l, v (ix2 k l) = ((w.wOut (o k) l : ℝ) : EReal))
  {p : Vec Ideal S1x512x384 .bf16} (hp : ∀ z r k, p (ix3 z r k) = ((gate w (a r) (o k) : ℝ) : EReal))
  {q : Vec Ideal S1x512x384 .bf16} (hq : ∀ z r k, q (ix3 z r k) = ((up w (a r) (o k) : ℝ) : EReal))
  {g : Vec Ideal S1x1024x384 .bf16} (hg : ∀ z l k, g (ix3 z l k) = ((w.wIn l (lo (o k)) : ℝ) : EReal))
  {u : Vec Ideal S1x1024x384 .bf16} (hu : ∀ z l k, u (ix3 z l k) = ((w.wIn l (hi (o k)) : ℝ) : EReal))

include hv hp hq in
theorem gate2 (r : Fin 512) (k : Fin 384) : k0_pay29 (k0_pay26 (k0_pay7 d) v) (k0_pay27 p) q (ix2 r k)
    = ((dgate w (a r) (o k) : ℝ) : EReal) := by
  pointwise [k0_pay29, k0_pay28, k0_pay27, k0_pay26]
  simp only [pay7 hd, hv, hp, hq, up_mul, up_sum, up_logistic, lit_1, up_sub, up_add, dgate, df, siluGrad]
  rfl

include hv hp in
theorem up2 (r : Fin 512) (k : Fin 384) : k0_pay30 (k0_pay26 (k0_pay7 d) v) (k0_pay27 p) (ix2 r k)
    = ((dup w (a r) (o k) : ℝ) : EReal) := by
  pointwise [k0_pay30, k0_pay28, k0_pay27, k0_pay26]
  simp only [pay7 hd, hv, hp, up_mul, up_sum, up_logistic, dup, df]

include hv hp hq in
theorem gatePlane2 (z : Fin 1) (r : Fin 512) (k : Fin 384) :
    k0_pay31 (k0_pay26 (k0_pay7 d) v) (k0_pay27 p) q (ix3 z r k) = ((dgate w (a r) (o k) : ℝ) : EReal) := by
  rw [Subsingleton.elim z 0]
  pointwise [k0_pay31]
  exact gate2 hd hv hp hq r k

include hv hp in
theorem upPlane2 (z : Fin 1) (r : Fin 512) (k : Fin 384) :
    k0_pay32 (k0_pay26 (k0_pay7 d) v) (k0_pay27 p) (ix3 z r k) = ((dup w (a r) (o k) : ℝ) : EReal) := by
  rw [Subsingleton.elim z 0]
  pointwise [k0_pay32]
  exact up2 hd hv hp r k

include hv hp hq hg hu in
theorem acc2 (s : Vec Ideal S512x1024 .f32) (r : Fin 512) (l : Fin 1024) :
    k0_pay33 (k0_pay26 (k0_pay7 d) v) (k0_pay27 p) q s g u (ix2 r l) = s (ix2 r l) + ((part w (a r) o l : ℝ) : EReal) := by
  pointwise [k0_pay33]
  simp only [gate2 hd hv hp hq, up2 hd hv hp, hg, hu, up_mul, up_sum, up_add, part]

end Narrow

end Bands

end Cert.Ffn.Payloads
-- ==== Proof.Ffn.Reference.lean ====
/- The reference's values on all 4096 tokens: when its arguments are real, each is the real formula of `Cert.Ffn.Spec`
   at its token; the gain's gradient is that formula summed over the tokens. -/
module

public import proofs.«01_k».proof.Proof.Ffn.Spec
public import proofs.«01_k».proof.Proof.Gen.FfnRefIdeal.Read

@[expose] public section

set_option maxRecDepth 16384

noncomputable section

namespace Cert.Ffn.Reference

open Idealize.ShloMosaic Idealize.ShloMosaic.TcCoe Idealize.SL.Sem
open Cert.FfnRefIdeal Cert.FfnRefIdeal.Gen Cert.FfnRefIdeal.Read Cert.Lift Cert.Ffn.Spec

variable {w : Weights} {a : Fin 4096 → Token}
  {x0 : FVec Ideal S4096x1024 .f32} (h0 : ∀ r l, x0 (ix2 r l) = (((a r).x l : ℝ) : EReal))
  {x1 : FVec Ideal S1x1024 .f32} (h1 : ∀ z l, x1 (ix2 z l) = ((w.gain l : ℝ) : EReal))
  {x2 : FVec Ideal S1024x5632 .f32} (h2 : ∀ l k, x2 (ix2 l k) = ((w.wIn l k : ℝ) : EReal))
  {x3 : FVec Ideal S2816x1024 .f32} (h3 : ∀ k l, x3 (ix2 k l) = ((w.wOut k l : ℝ) : EReal))
  {x4 : FVec Ideal S4096x1024 .f32} (h4 : ∀ r l, x4 (ix2 r l) = (((a r).dy l : ℝ) : EReal))

section Norm
include h0

theorem v6 (r : Fin 4096) (z : Fin 1) :
    val_main_v6 (F := Ideal) x0 (ix2 r z) = ((meanSq (a r).x + eps : ℝ) : EReal) := by
  pointwise [val_main_v6, val_main_v5, val_main_v4, val_main_v3, val_main_v2, val_main_v1, val_main_v0, val_main_cst,
    val_main_cst_0, val_main_cst_1]
  simp only [h0, up_mul, up_sum, lit_1024, lit_eps, up_div_1024, up_add, meanSq, Nat.cast_ofNat]

theorem v7 (r : Fin 4096) (z : Fin 1) : val_main_v7 (F := Ideal) x0 (ix2 r z) = ((rinv (a r).x : ℝ) : EReal) := by
  pointwise [val_main_v7]
  simp only [v6 h0, up_rsqrt_meanSq]

theorem v10 (r : Fin 4096) (z : Fin 1) : val_main_v10 (F := Ideal) x0 (ix2 r z)
    = ((-(1 / 2) * (rinv (a r).x / (meanSq (a r).x + eps)) : ℝ) : EReal) := by
  pointwise [val_main_v10, val_main_v9, val_main_cst_2, val_main_v8]
  simp only [v6 h0, v7 h0, lit_neg_half, up_div_meanSq, up_mul]

theorem v12 (r : Fin 4096) (l : Fin 1024) : val_main_v12 (F := Ideal) x0 (ix2 r l) = ((unit (a r).x l : ℝ) : EReal) := by
  pointwise [val_main_v12, val_main_v11]
  simp only [h0, v7 h0, up_mul, unit]

include h1

theorem v14 (r : Fin 4096) (l : Fin 1024) :
    val_main_v14 (F := Ideal) x0 x1 (ix2 r l) = ((normed w (a r) l : ℝ) : EReal) := by
  pointwise [val_main_v14, val_main_v13]
  simp only [h1, v12 h0, up_mul, normed]

include h2

theorem v16 (r : Fin 4096) (k : Fin 2816) :
    val_main_v16 (F := Ideal) x0 x1 x2 (ix2 r k) = ((gate w (a r) k : ℝ) : EReal) := by
  pointwise [val_main_v16, val_main_v15]
  simp only [v14 h0 h1, h2, up_mul, up_sum, gate]
  rfl

theorem v18 (r : Fin 4096) (k : Fin 2816) :
    val_main_v18 (F := Ideal) x0 x1 x2 (ix2 r k) = ((up w (a r) k : ℝ) : EReal) := by
  pointwise [val_main_v18, val_main_v15]
  simp only [v14 h0 h1, h2, up_mul, up_sum, up]
  rfl

theorem sigm (r : Fin 4096) (k : Fin 2816) :
    val_main_v17_2 (F := Ideal) x0 x1 x2 (ix2 r k) = ((sig (gate w (a r) k) : ℝ) : EReal) := by
  pointwise [val_main_v17_2, val_main_call0_v4, val_main_call0_v3, val_main_call0_v2, val_main_call0_v1, val_main_call0_v0,
    val_main_call0_cst, val_main_call0_cst_0]
  simp only [v16 h0 h1 h2, up_neg, up_exp, up_one_add, up_sig]

theorem silu (r : Fin 4096) (k : Fin 2816) : val_main_v17_0 (F := Ideal) x0 x1 x2 (ix2 r k)
    = ((gate w (a r) k * sig (gate w (a r) k) : ℝ) : EReal) := by
  pointwise [val_main_v17_0]
  simp only [v16 h0 h1 h2, sigm h0 h1 h2, up_mul]

theorem slope (r : Fin 4096) (k : Fin 2816) : val_main_v17_1 (F := Ideal) x0 x1 x2 (ix2 r k)
    = ((sig (gate w (a r) k) * (1 - sig (gate w (a r) k)) : ℝ) : EReal) := by
  pointwise [val_main_v17_1, val_main_call0_v7, val_main_call0_v6, val_main_call0_cst_1]
  simp only [sigm h0 h1 h2, up_one_sub, up_mul]

end Norm

theorem v22 : val_main_v22 (F := Ideal) x4 = x4 := by
  funext i
  pointwise [val_main_v22]

section Back
include h3 h4

theorem v23 (r : Fin 4096) (k : Fin 2816) : val_main_v23 (F := Ideal) x3 x4 (ix2 r k) = ((df w (a r) k : ℝ) : EReal) := by
  pointwise [val_main_v23]
  simp only [v22, h3, h4, up_mul, up_sum, df]

include h0 h1 h2

theorem v24 (r : Fin 4096) (k : Fin 2816) :
    val_main_v24 (F := Ideal) x0 x1 x2 x3 x4 (ix2 r k) = ((dup w (a r) k : ℝ) : EReal) := by
  pointwise [val_main_v24]
  simp only [silu h0 h1 h2, v23 h3 h4, up_mul, dup]
  congr 1
  ring

theorem v27 (r : Fin 4096) (k : Fin 2816) :
    val_main_v27 (F := Ideal) x0 x1 x2 x3 x4 (ix2 r k) = ((dgate w (a r) k : ℝ) : EReal) := by
  pointwise [val_main_v27, val_main_call1_v0, val_main_call1_v1, val_main_call1_v2, val_main_v25]
  simp only [v16 h0 h1 h2, v18 h0 h1 h2, v23 h3 h4, sigm h0 h1 h2, slope h0 h1 h2, up_mul, up_add, dgate, siluGrad]
  congr 1
  ring

theorem v29 (r : Fin 4096) (k : Fin 5632) :
    val_main_v29 (F := Ideal) x0 x1 x2 x3 x4 (ix2 r k) = ((dcols w (a r) k : ℝ) : EReal) := by
  pointwise [val_main_v29, val_main_v28, val_main_v26, val_main_cst_3, val_main_cst_4]
  unfold dcols
  by_cases c : k.val < 2816
  · have c' : ¬2816 ≤ k.val := by omega
    simp only [c, c', v27 h0 h1 h2 h3 h4, lit_0, zero_add, and_true, true_and, false_and, and_false, dite_true, dite_false]
  · have c' : 2816 ≤ k.val := by omega
    have d : k.val - 2816 < 2816 := by omega
    simp only [c, c', d, v24 h0 h1 h2 h3 h4, lit_0, add_zero, and_true, true_and, dite_true, dite_false]

theorem v30 (r : Fin 4096) (l : Fin 1024) :
    val_main_v30 (F := Ideal) x0 x1 x2 x3 x4 (ix2 r l) = ((dn w (a r) l : ℝ) : EReal) := by
  pointwise [val_main_v30]
  simp only [v29 h0 h1 h2 h3 h4, h2, up_mul, up_sum, sum_dcols]

theorem v33 (z : Fin 1) (l : Fin 1024) : val_main_v33 (F := Ideal) x0 x1 x2 x3 x4 (ix2 z l)
    = ((∑ r, dn w (a r) l * unit (a r).x l : ℝ) : EReal) := by
  pointwise [val_main_v33, val_main_v32, val_main_v31, val_main_cst_5]
  simp only [v30 h0 h1 h2 h3 h4, v12 h0, up_mul, up_sum, mul_comm]

/-- The gain's gradient above seven rows of zeros. -/
theorem v80 (b : Fin 8) (l : Fin 1024) : val_main_v80 (F := Ideal) x0 x1 x2 x3 x4 (ix2 b l) = ((small w a b l : ℝ) : EReal) := by
  pointwise [val_main_v80]
  unfold small
  by_cases c : b.val < 1
  · obtain rfl : b = 0 := Fin.ext (by simpa using c)
    rw [dif_pos c]
    exact (v33 h0 h1 h2 h3 h4 _ l).trans (congrArg _ (if_pos rfl).symm)
  · rw [dif_neg c]
    refine Eq.trans ?_ (congrArg _ (if_neg (by omega)).symm)
    pointwise [val_main_v79, val_main_cst_14]
    exact EReal.coe_zero.symm

theorem v35 (r : Fin 4096) (l : Fin 1024) :
    val_main_v35 (F := Ideal) x0 x1 x2 x3 x4 (ix2 r l) = ((dn w (a r) l * w.gain l : ℝ) : EReal) := by
  pointwise [val_main_v35, val_main_v34]
  simp only [v30 h0 h1 h2 h3 h4, h1, up_mul]

theorem v46 (r : Fin 4096) (l : Fin 1024) : val_main_v46 (F := Ideal) x0 x1 x2 x3 x4 (ix2 r l)
    = (((∑ k, (a r).x k * (dn w (a r) k * w.gain k)) * (-(1 / 2) * (rinv (a r).x / (meanSq (a r).x + eps))) / 1024 : ℝ)
        : EReal) := by
  pointwise [val_main_v46, val_main_v45, val_main_v44, val_main_v43, val_main_v42, val_main_v38, val_main_v37, val_main_v36,
    val_main_cst_6, val_main_cst_7, val_main_cst_8]
  simp only [h0, v10 h0, v35 h0 h1 h2 h3 h4, up_mul, up_sum, lit_1024, up_div_1024, Finset.univ_unique, Finset.sum_singleton]

/-- The rows' gradient. -/
theorem v50 (r : Fin 4096) (l : Fin 1024) :
    val_main_v50 (F := Ideal) x0 x1 x2 x3 x4 (ix2 r l) = ((dx w (a r) l : ℝ) : EReal) := by
  pointwise [val_main_v50, val_main_v49, val_main_v48, val_main_v47, val_main_v41, val_main_v40, val_main_v39]
  simp only [h0, h4, v7 h0, v35 h0 h1 h2 h3 h4, v46 h0 h1 h2 h3 h4, up_mul, up_add]
  rw [dx, ← rmsBack_chain]
  simp only [Nat.cast_ofNat]
  congr 1
  ring

/- The reference computes the gradients of the two products a second time, for their own result. -/
omit h0 h1 h2 h3 h4 in
theorem v69 : val_main_v69 (F := Ideal) x3 x4 = val_main_v23 (F := Ideal) x3 x4 := by
  unfold val_main_v69 val_main_v23
  rw [v22]

omit h0 h1 h2 h3 h4 in
theorem v75 : val_main_v75 (F := Ideal) x0 x1 x2 x3 x4 = val_main_v29 (F := Ideal) x0 x1 x2 x3 x4 := by
  unfold val_main_v75 val_main_v74 val_main_v73 val_main_v72 val_main_v70 val_main_call3_v1 val_main_call3_v2
    val_main_call3_v0 val_main_v71
  rw [v69]
  rfl

/-- The gradients of the two products, a plane each. -/
theorem v78 (b : Fin 2) (r : Fin 4096) (k : Fin 2816) :
    val_main_v78 (F := Ideal) x0 x1 x2 x3 x4 (ix3 b r k) = ((dgu w (a r) b k : ℝ) : EReal) := by
  pointwise [val_main_v78, val_main_v77, val_main_v76]
  rw [v75]
  refine (v29 h0 h1 h2 h3 h4 _ _).trans ?_
  rw [dcols_dgu]

end Back

end Cert.Ffn.Reference
-- ==== Proof.Ffn.Blocks.lean ====
/- What the kernel reads at a grid point: the tile's tokens, and its half of the channels, when the arguments are real. -/
module

public import proofs.«01_k».proof.Proof.Ffn.Payloads
public import proofs.«01_k».proof.Proof.Ffn.Reference
public import proofs.«01_k».proof.Proof.Gen.FfnIdeal.Value
public import Idealize.ShloMosaic.Lib.Pipeline.ValueKit
public import Idealize.ShloMosaic.Lib.Claim

@[expose] public section

set_option maxRecDepth 16384

noncomputable section

namespace Cert.Ffn.Kernel

open Idealize.ShloMosaic Idealize.ShloMosaic.TcCoe Idealize.SL.Sem
open Idealize.ShloMosaic.Pipeline (Dat)
open Cert.FfnIdeal Cert.FfnIdeal.Gen Cert.Lift Cert.Ffn.Spec

variable (m : (ℓ : Loc nD τ sig) → Buf (Elt Ideal) ℓ) (c : Dev nD)

/-- Device `c`'s arguments hold the real weights `w` and the real tokens `a`. -/
structure Holds (w : Weights) (a : Fin 4096 → Token) : Prop where
  x : ∀ r l, m ((c : Thread nD τ).loc main_arg0) (ix2 r l) = (((a r).x l : ℝ) : EReal)
  gain : ∀ z l, m ((c : Thread nD τ).loc main_arg1) (ix2 z l) = ((w.gain l : ℝ) : EReal)
  wIn : ∀ l k, m ((c : Thread nD τ).loc main_arg2) (ix2 l k) = ((w.wIn l k : ℝ) : EReal)
  wOut : ∀ k l, m ((c : Thread nD τ).loc main_arg3) (ix2 k l) = ((w.wOut k l : ℝ) : EReal)
  dy : ∀ r l, m ((c : Thread nD τ).loc main_arg4) (ix2 r l) = (((a r).dy l : ℝ) : EReal)

/-- The tokens of tile `j`. -/
def tile (a : Fin 4096 → Token) (j : ℕ) (r : Fin 512) : Token := a ⟨(j * 512 + r) % 4096, Nat.mod_lt _ (by norm_num)⟩

theorem tile_eq (a : Fin 4096 → Token) (j : ℕ) (r : Fin 512) (i : Fin 4096) (h : i.val = j * 512 + r.val) : tile a j r = a i :=
  congrArg a (Fin.ext (by simp only [← h, Nat.mod_eq_of_lt i.isLt]))

/-- The grid's second coordinate, the half of the channels, runs within the first, the tile. -/
theorem idx : ∀ t : Fin cfg0.N, win0_0.index t = ![t.val / 2, 0] ∧ win0_1.index t = ![t.val / 2, 0]
    ∧ win0_2.index t = ![0, t.val / 2, t.val % 2] ∧ win0_3.index t = ![0, 0] ∧ win0_4.index t = ![t.val % 2, 0, 0]
    ∧ win0_5.index t = ![2 + t.val % 2, 0, 0] ∧ win0_6.index t = ![t.val % 2, 0] ∧ win0_7.index t = ![t.val / 2, 0]
    ∧ win0_8.index t = ![0, t.val / 2, t.val % 2] ∧ win0_9.index t = ![0, 0] :=
  (by decide +kernel : ∀ t : Fin grid0.N, _)

/-- The two products the host saves are those of the reference's forward lines, a plane each. -/
theorem product_lines : @Eq (FVec Ideal S2x4096x2816 .bf16) (V m c main_v15) <| truncf .bf16
    (transpose S2x4096x2816 [1, 0, 2] (shapeCast S4096x2x2816 (Cert.FfnRefIdeal.Read.val_main_v15 (F := Ideal)
      (m ((c : Thread nD τ).loc main_arg0)) (m ((c : Thread nD τ).loc main_arg1)) (m ((c : Thread nD τ).loc main_arg2)))
      shapeCasts_S4096x5632_S4096x2x2816) transposes_S4096x2x2816_S2x4096x2816_1_0_2) bitsLt_bf16_f32 := by
  entry_read
  rfl

/-- The matrix in, its columns in four groups. -/
theorem wIn_lines : @Eq (FVec Ideal S4x1024x1408 .bf16) (V m c main_v18) <|
    transpose S4x1024x1408 [1, 0, 2] (shapeCast S1024x4x1408 (truncf .bf16 (F := Ideal) (show FVec Ideal S1024x5632 .f32 from m ((c : Thread nD τ).loc main_arg2)) bitsLt_bf16_f32)
      shapeCasts_S1024x5632_S1024x4x1408) transposes_S1024x4x1408_S4x1024x1408_1_0_2 := by
  entry_read
  rfl

variable {m c} {w : Weights} {a : Fin 4096 → Token} (H : Holds m c w a) (t : Fin cfg0.N)
include H

theorem blk0 (r : Fin 512) (l : Fin 1024) : iblk m c 0 t (ix2 r l) = (((tile a (t / 2) r).dy l : ℝ) : EReal) := by
  have ht := t.isLt.trans_eq N_0
  rw [tile_eq a (t / 2) r ⟨t.val / 2 * 512 + r.val, by omega⟩ rfl, ← H.dy]
  blk_ext [iblk, V, idx t]

theorem blk1 (r : Fin 512) (l : Fin 1024) : iblk m c 1 t (ix2 r l) = (((tile a (t / 2) r).x l : ℝ) : EReal) := by
  have ht := t.isLt.trans_eq N_0
  rw [tile_eq a (t / 2) r ⟨t.val / 2 * 512 + r.val, by omega⟩ rfl, ← H.x]
  blk_ext [iblk, V, idx t]

/-- The saved products. -/
theorem blk2 (b : Fin 2) (r : Fin 512) (k : Fin 1408) : iblk m c 2 t (ix3 b r k)
    = (((if b.val = 0 then gate else up) w (tile a (t / 2) r) (half t k) : ℝ) : EReal) := by
  have ht := t.isLt.trans_eq N_0
  rw [tile_eq a (t / 2) r ⟨t.val / 2 * 512 + r.val, by omega⟩ rfl]
  refine Eq.trans (b := V m c main_v15 (ix3 b ⟨t.val / 2 * 512 + r.val, by omega⟩ ⟨t.val % 2 * 1408 + k.val, by omega⟩)) ?_ ?_
  · blk_ext [iblk, idx t]
  · rw [product_lines]
    pointwise
    by_cases hb : b.val = 0
    · rw [if_pos hb]
      refine Eq.trans ?_ (Reference.v16 H.x H.gain H.wIn _ _)
      pointwise [Cert.FfnRefIdeal.Read.val_main_v16]
      refine congrArg _ (congrArg₂ ix2 rfl (Fin.ext ?_))
      simp [half, hb]
    · rw [if_neg hb]
      refine Eq.trans ?_ (Reference.v18 H.x H.gain H.wIn _ _)
      pointwise [Cert.FfnRefIdeal.Read.val_main_v18]
      refine congrArg _ (congrArg₂ ix2 rfl (Fin.ext ?_))
      simp [half, show b.val = 1 by omega]

theorem blk3 (z : Fin 1) (l : Fin 1024) : iblk m c 3 t (ix2 z l) = ((w.gain l : ℝ) : EReal) := by
  rw [← H.gain z]
  blk_ext [iblk, V, idx t]

theorem blk4 (z : Fin 1) (l : Fin 1024) (k : Fin 1408) :
    iblk m c 4 t (ix3 z l k) = ((w.wIn l (lo (half t k)) : ℝ) : EReal) := by
  rw [← H.wIn]
  refine Eq.trans (b := V m c main_v18 (ix3 ⟨t.val % 2, by omega⟩ l k)) ?_ ?_
  · rw [Subsingleton.elim z 0]
    blk_ext [iblk, idx t]
  · rw [wIn_lines]
    pointwise
    rfl

theorem blk5 (z : Fin 1) (l : Fin 1024) (k : Fin 1408) :
    iblk m c 5 t (ix3 z l k) = ((w.wIn l (hi (half t k)) : ℝ) : EReal) := by
  rw [← H.wIn]
  refine Eq.trans (b := V m c main_v18 (ix3 ⟨2 + t.val % 2, by omega⟩ l k)) ?_ ?_
  · rw [Subsingleton.elim z 0]
    blk_ext [iblk, idx t]
  · rw [wIn_lines]
    pointwise
    refine congrArg _ (congrArg₂ ix2 rfl (Fin.ext ?_))
    simp [hi, half]
    omega

theorem blk6 (k : Fin 1408) (l : Fin 1024) : iblk m c 6 t (ix2 k l) = ((w.wOut (half t k) l : ℝ) : EReal) := by
  rw [← H.wOut]
  blk_ext! [iblk, V, idx t, half]

end Cert.Ffn.Kernel
-- ==== Proof.Real.Bands.lean ====
/- Reading a window of some planes' columns: one plane, all its rows, a band of columns. -/
module

public import proofs.«01_k».proof.Proof.Real.Rows

@[expose] public section

noncomputable section

namespace Cert.Rows

open Idealize.ShloMosaic Idealize.ShloMosaic.View

variable {Val : EltTy → Type} {e : EltTy} {m n p : ℕ}

/-- A load of a band of a plane's columns. -/
theorem ld_band (X : (⟨3, ![p, m, n]⟩ : Shape).Idx → Val e) (o c b : ℕ)
    (inb : ∀ x : Fin 3, (![o, 0, c] : Fin 3 → ℕ) x + (![1, m, b] : Fin 3 → ℕ) x ≤ (![p, m, n] : Fin 3 → ℕ) x)
    (z : Fin 1) (k : Fin m) (l : Fin b) (o' : Fin p) (l' : Fin n) (ho : o'.val = o) (hl : l'.val = c + l.val) :
    View.ld X (Rect.unit (s := ⟨3, ![p, m, n]⟩) ![o, 0, c] ![1, m, b] inb) (ix3 z k l) = X (ix3 o' k l') := by
  refine congrArg X (funext fun x => Fin.ext ?_)
  fin_cases x
  · show o + 1 * z.val = o'.val; omega
  · show 0 + 1 * k.val = k.val; omega
  · show c + 1 * l.val = l'.val; omega

/-- A band of a plane's columns stored last: it is read at its own places, and the older writes elsewhere. -/
theorem canon_band [∀ e, Nonempty (Val e)] (o c b : ℕ)
    (inb : ∀ x : Fin 3, (![o, 0, c] : Fin 3 → ℕ) x + (![1, m, b] : Fin 3 → ℕ) x ≤ (![p, m, n] : Fin 3 → ℕ) x)
    (w : (⟨3, ![1, m, b]⟩ : Shape).Idx → Val e) (L : List (Piece Val (⟨3, ![p, m, n]⟩ : Shape) e))
    (z : Fin p) (k : Fin m) (l : Fin n) :
    View.canon ((⟨Rect.unit (s := ⟨3, ![p, m, n]⟩) ![o, 0, c] ![1, m, b] inb, w⟩ :
        Piece Val (⟨3, ![p, m, n]⟩ : Shape) e) :: L) (ix3 z k l)
      = if h : z.val = o ∧ c ≤ l.val ∧ l.val < c + b then w (ix3 (0 : Fin 1) k ⟨l.val - c, by omega⟩)
        else View.canon L (ix3 z k l) := by
  split
  · next h =>
    have he : (Rect.unit (s := ⟨3, ![p, m, n]⟩) ![o, 0, c] ![1, m, b] inb).emb (ix3 (0 : Fin 1) k ⟨l.val - c, by omega⟩)
        = ix3 z k l := by
      funext x; apply Fin.ext
      fin_cases x
      · show o + 1 * 0 = z.val; omega
      · show 0 + 1 * k.val = k.val; omega
      · show c + 1 * (l.val - c) = l.val; omega
    conv_lhs => rw [← he]
    exact View.canon_cons_emb (Rect.unit (s := ⟨3, ![p, m, n]⟩) ![o, 0, c] ![1, m, b] inb) w L _
  · next h =>
    refine View.canon_cons_of_not_mem _ L fun hm => h ?_
    obtain ⟨i, hi, he⟩ := (LoadRect.mem_set _).mp hm (0 : Fin 3)
    obtain ⟨j, hj, he'⟩ := (LoadRect.mem_set _).mp hm (2 : Fin 3)
    have hi1 : i < 1 := hi
    have hj1 : j < b := hj
    have ei : z.val = o + 1 * i := he
    have ej : l.val = c + 1 * j := he'
    omega

end Cert.Rows
-- ==== Proof.Ffn.Tile.lean ====
/- The values a grid point computes from its tile and its half of the channels, each the real formula at the tile's
   tokens. -/
module

public import proofs.«01_k».proof.Proof.Ffn.Blocks
public import proofs.«01_k».proof.Proof.Real.Bands

@[expose] public section

set_option maxRecDepth 16384

noncomputable section

namespace Cert.Ffn.Kernel

open Idealize.ShloMosaic Idealize.ShloMosaic.TcCoe Idealize.SL.Sem
open Cert.FfnIdeal Cert.FfnIdeal.Gen Cert.Lift Cert.Ffn.Spec Cert.Ffn.Payloads Cert.Rows

variable (m : (ℓ : Loc nD τ sig) → Buf (Elt Ideal) ℓ) (c : Dev nD) (t : Fin cfg0.N)

/-- The three bands of the half: of the matrix out, of the two saved products, and of the two matrices in. -/
abbrev kV0 : Vec Ideal S512x1024 .bf16 := View.ld (iblk m c 6 t) (Rect.unit ![0, 0] ![512, 1024] inb_S1408x1024_S512x1024_0_0)
abbrev kV1 : Vec Ideal S512x1024 .bf16 := View.ld (iblk m c 6 t) (Rect.unit ![512, 0] ![512, 1024] inb_S1408x1024_S512x1024_512_0)
abbrev kV2 : Vec Ideal S384x1024 .bf16 := View.ld (iblk m c 6 t) (Rect.unit ![1024, 0] ![384, 1024] inb_S1408x1024_S384x1024_1024_0)
abbrev kP0 : Vec Ideal S1x512x512 .bf16 := View.ld (iblk m c 2 t) (Rect.unit ![0, 0, 0] ![1, 512, 512] inb_S2x512x1408_S1x512x512_0_0_0)
abbrev kP1 : Vec Ideal S1x512x512 .bf16 := View.ld (iblk m c 2 t) (Rect.unit ![0, 0, 512] ![1, 512, 512] inb_S2x512x1408_S1x512x512_0_0_512)
abbrev kP2 : Vec Ideal S1x512x384 .bf16 := View.ld (iblk m c 2 t) (Rect.unit ![0, 0, 1024] ![1, 512, 384] inb_S2x512x1408_S1x512x384_0_0_1024)
abbrev kQ0 : Vec Ideal S1x512x512 .bf16 := View.ld (iblk m c 2 t) (Rect.unit ![1, 0, 0] ![1, 512, 512] inb_S2x512x1408_S1x512x512_1_0_0)
abbrev kQ1 : Vec Ideal S1x512x512 .bf16 := View.ld (iblk m c 2 t) (Rect.unit ![1, 0, 512] ![1, 512, 512] inb_S2x512x1408_S1x512x512_1_0_512)
abbrev kQ2 : Vec Ideal S1x512x384 .bf16 := View.ld (iblk m c 2 t) (Rect.unit ![1, 0, 1024] ![1, 512, 384] inb_S2x512x1408_S1x512x384_1_0_1024)
abbrev kG0 : Vec Ideal S1x1024x512 .bf16 := View.ld (iblk m c 4 t) (Rect.unit ![0, 0, 0] ![1, 1024, 512] inb_S1x1024x1408_S1x1024x512_0_0_0)
abbrev kG1 : Vec Ideal S1x1024x512 .bf16 := View.ld (iblk m c 4 t) (Rect.unit ![0, 0, 512] ![1, 1024, 512] inb_S1x1024x1408_S1x1024x512_0_0_512)
abbrev kG2 : Vec Ideal S1x1024x384 .bf16 := View.ld (iblk m c 4 t) (Rect.unit ![0, 0, 1024] ![1, 1024, 384] inb_S1x1024x1408_S1x1024x384_0_0_1024)
abbrev kU0 : Vec Ideal S1x1024x512 .bf16 := View.ld (iblk m c 5 t) (Rect.unit ![0, 0, 0] ![1, 1024, 512] inb_S1x1024x1408_S1x1024x512_0_0_0)
abbrev kU1 : Vec Ideal S1x1024x512 .bf16 := View.ld (iblk m c 5 t) (Rect.unit ![0, 0, 512] ![1, 1024, 512] inb_S1x1024x1408_S1x1024x512_0_0_512)
abbrev kU2 : Vec Ideal S1x1024x384 .bf16 := View.ld (iblk m c 5 t) (Rect.unit ![0, 0, 1024] ![1, 1024, 384] inb_S1x1024x1408_S1x1024x384_0_0_1024)

/-- What a point leaves in the sum of the normed rows' cotangents, over `s`: the three bands added in turn. -/
abbrev kAcc (s : Vec Ideal S512x1024 .f32) : FVec Ideal S512x1024 .f32 :=
  k0_pay33 (k0_pay26 (k0_pay7 (iblk m c 0 t)) (kV2 m c t)) (k0_pay27 (kP2 m c t)) (kQ2 m c t)
    (k0_pay25 (k0_pay16 (k0_pay7 (iblk m c 0 t)) (kV1 m c t)) (k0_pay17 (kP1 m c t)) (k0_pay18 (kP1 m c t))
      (k0_pay19 (k0_pay7 (iblk m c 0 t)) (kV1 m c t) (kQ1 m c t)) (k0_pay20 (kP1 m c t))
      (k0_pay15 (k0_pay11 (iblk m c 0 t) (kV0 m c t) (kP0 m c t) (kQ0 m c t))
        (k0_pay12 (iblk m c 0 t) (kV0 m c t) (kP0 m c t)) s (kG0 m c t) (kU0 m c t))
      (kG1 m c t) (kU1 m c t))
    (kG2 m c t) (kU2 m c t)

variable {m c t} {w : Weights} {a : Fin 4096 → Token} (H : Holds m c w a)
include H

theorem kV0_eq (k l) : kV0 m c t (ix2 k l) = ((w.wOut ((half t ∘ band0) k) l : ℝ) : EReal) :=
  (ld_block _ 0 0 _ _ _ k l (band0 k) l (by simp [band0]) (by simp)).trans (blk6 H t _ _)
theorem kV1_eq (k l) : kV1 m c t (ix2 k l) = ((w.wOut ((half t ∘ band1) k) l : ℝ) : EReal) :=
  (ld_block _ 512 0 _ _ _ k l (band1 k) l (by simp [band1]) (by simp)).trans (blk6 H t _ _)
theorem kV2_eq (k l) : kV2 m c t (ix2 k l) = ((w.wOut ((half t ∘ band2) k) l : ℝ) : EReal) :=
  (ld_block _ 1024 0 _ _ _ k l (band2 k) l (by simp [band2]) (by simp)).trans (blk6 H t _ _)
theorem kP0_eq (z r k) : kP0 m c t (ix3 z r k) = ((gate w (tile a (t / 2) r) ((half t ∘ band0) k) : ℝ) : EReal) :=
  (ld_band _ 0 0 _ _ z r k 0 (band0 k) rfl (by simp [band0])).trans (blk2 H t 0 r _)
theorem kP1_eq (z r k) : kP1 m c t (ix3 z r k) = ((gate w (tile a (t / 2) r) ((half t ∘ band1) k) : ℝ) : EReal) :=
  (ld_band _ 0 512 _ _ z r k 0 (band1 k) rfl (by simp [band1])).trans (blk2 H t 0 r _)
theorem kP2_eq (z r k) : kP2 m c t (ix3 z r k) = ((gate w (tile a (t / 2) r) ((half t ∘ band2) k) : ℝ) : EReal) :=
  (ld_band _ 0 1024 _ _ z r k 0 (band2 k) rfl (by simp [band2])).trans (blk2 H t 0 r _)
theorem kQ0_eq (z r k) : kQ0 m c t (ix3 z r k) = ((up w (tile a (t / 2) r) ((half t ∘ band0) k) : ℝ) : EReal) :=
  (ld_band _ 1 0 _ _ z r k 1 (band0 k) rfl (by simp [band0])).trans (blk2 H t 1 r _)
theorem kQ1_eq (z r k) : kQ1 m c t (ix3 z r k) = ((up w (tile a (t / 2) r) ((half t ∘ band1) k) : ℝ) : EReal) :=
  (ld_band _ 1 512 _ _ z r k 1 (band1 k) rfl (by simp [band1])).trans (blk2 H t 1 r _)
theorem kQ2_eq (z r k) : kQ2 m c t (ix3 z r k) = ((up w (tile a (t / 2) r) ((half t ∘ band2) k) : ℝ) : EReal) :=
  (ld_band _ 1 1024 _ _ z r k 1 (band2 k) rfl (by simp [band2])).trans (blk2 H t 1 r _)
theorem kG0_eq (z l k) : kG0 m c t (ix3 z l k) = ((w.wIn l (lo ((half t ∘ band0) k)) : ℝ) : EReal) :=
  (ld_band _ 0 0 _ _ z l k 0 (band0 k) rfl (by simp [band0])).trans (blk4 H t 0 l _)
theorem kG1_eq (z l k) : kG1 m c t (ix3 z l k) = ((w.wIn l (lo ((half t ∘ band1) k)) : ℝ) : EReal) :=
  (ld_band _ 0 512 _ _ z l k 0 (band1 k) rfl (by simp [band1])).trans (blk4 H t 0 l _)
theorem kG2_eq (z l k) : kG2 m c t (ix3 z l k) = ((w.wIn l (lo ((half t ∘ band2) k)) : ℝ) : EReal) :=
  (ld_band _ 0 1024 _ _ z l k 0 (band2 k) rfl (by simp [band2])).trans (blk4 H t 0 l _)
theorem kU0_eq (z l k) : kU0 m c t (ix3 z l k) = ((w.wIn l (hi ((half t ∘ band0) k)) : ℝ) : EReal) :=
  (ld_band _ 0 0 _ _ z l k 0 (band0 k) rfl (by simp [band0])).trans (blk5 H t 0 l _)
theorem kU1_eq (z l k) : kU1 m c t (ix3 z l k) = ((w.wIn l (hi ((half t ∘ band1) k)) : ℝ) : EReal) :=
  (ld_band _ 0 512 _ _ z l k 0 (band1 k) rfl (by simp [band1])).trans (blk5 H t 0 l _)
theorem kU2_eq (z l k) : kU2 m c t (ix3 z l k) = ((w.wIn l (hi ((half t ∘ band2) k)) : ℝ) : EReal) :=
  (ld_band _ 0 1024 _ _ z l k 0 (band2 k) rfl (by simp [band2])).trans (blk5 H t 0 l _)

theorem kAcc_eq (s : Vec Ideal S512x1024 .f32) (r : Fin 512) (l : Fin 1024) :
    kAcc m c t s (ix2 r l) = s (ix2 r l) + ((halfPart w (tile a (t / 2) r) t l : ℝ) : EReal) := by
  refine (acc2 (blk0 H t) (kV2_eq H) (kP2_eq H) (kQ2_eq H) (kG2_eq H) (kU2_eq H) _ r l).trans ?_
  rw [acc1 (blk0 H t) (kV1_eq H) (kP1_eq H) (kQ1_eq H) (kG1_eq H) (kU1_eq H),
    acc0 (blk0 H t) (kV0_eq H) (kP0_eq H) (kQ0_eq H) (kG0_eq H) (kU0_eq H), add_assoc, up_add, add_assoc, up_add, halfPart,
    add_assoc]

end Cert.Ffn.Kernel
-- ==== Proof.Ffn.Points.lean ====
/- What a grid point leaves: its half of the products' gradients, the running sum over the halves of the normed rows'
   cotangents, and, at a tile's second half, the rows' gradient and the tile's part of the gain's gradient. -/
module

public import proofs.«01_k».proof.Proof.Ffn.Tile

@[expose] public section

set_option maxRecDepth 16384

noncomputable section

namespace Cert.Ffn.Kernel

open Idealize.ShloMosaic Idealize.ShloMosaic.TcCoe Idealize.SL.Sem
open Cert.FfnIdeal Cert.FfnIdeal.Gen Cert.Lift Cert.Ffn.Spec Cert.Ffn.Payloads Cert.Rows

theorem half_even {n : ℕ} (h : n % 2 = 0) : half n = half 0 := funext fun k => Fin.ext (by simp [half, h])
theorem half_odd {n : ℕ} (h : n % 2 = 1) : half n = half 1 := funext fun k => Fin.ext (by simp [half, h])

variable {m : (ℓ : Loc nD τ sig) → Buf (Elt Ideal) ℓ} {c : Dev nD} {w : Weights} {a : Fin 4096 → Token} (H : Holds m c w a)
  (t : Fin cfg0.N)

/-- What the point before left. -/
abbrev prev (m : (ℓ : Loc nD τ sig) → Buf (Elt Ideal) ℓ) (c : Dev nD) (t : Fin cfg0.N) :=
  outsAt0 m c (t.val - 1) (Nat.lt_of_le_of_lt (Nat.sub_le _ _) t.isLt)

include H

/-- The first half starts the sum, -/
theorem acc_even (h : t.val % 2 = 0) (r : Fin 512) (l : Fin 1024) :
    (outsAt0 m c t.val t.isLt).2.2.2 (ix2 r l) = ((halfPart w (tile a (t / 2) r) 0 l : ℝ) : EReal) := by
  have e : halfPart w (tile a (t / 2) r) 0 l = halfPart w (tile a (t / 2) r) t l := by
    unfold halfPart; rw [half_even h]
  have z : kAcc m c t (k0_pay6 (F := Ideal)) (ix2 r l) = ((halfPart w (tile a (t / 2) r) 0 l : ℝ) : EReal) := by
    rw [kAcc_eq H, e]
    pointwise [k0_pay6]
  by_cases h0 : t.val % 16 = 0
  · rw [outsAt0_A m c t h0 h (by omega)]
    frame_open
    simp (disch := decide) only [↓ View.readCov_skip, ↓ View.readCov_cons_toLoadRect, ↓ View.readCov_fill]
    frame_out
    exact z
  · rw [outsAt0_C m c t h0 h (by omega)]
    frame_open
    simp (disch := decide) only [↓ View.readCov_skip, ↓ View.readCov_cons_toLoadRect, ↓ View.readCov_fill]
    frame_out
    exact z

/-- and the second completes it. -/
theorem acc_odd (h : t.val % 2 = 1) (r : Fin 512) (l : Fin 1024) :
    kAcc m c t (prev m c t).2.2.2 (ix2 r l) = ((dn w (tile a (t / 2) r) l : ℝ) : EReal) := by
  rw [kAcc_eq H]
  refine (congrArg (· + _) (acc_even H ⟨t.val - 1, by omega⟩ (by show (t.val - 1) % 2 = 0; omega) r l)).trans ?_
  rw [dn_eq, up_add]
  have e : (t.val - 1) / 2 = t.val / 2 := by omega
  show ((halfPart w (tile a ((t.val - 1) / 2) r) 0 l + _ : ℝ) : EReal) = _
  rw [e]
  unfold halfPart
  rw [half_odd h]

/-- The rows' gradient. -/
theorem out7 (h : t.val % 2 = 1) (r : Fin 512) (l : Fin 1024) :
    (outsAt0 m c t.val t.isLt).1 (ix2 r l) = ((dx w (tile a (t / 2) r) l : ℝ) : EReal) := by
  rw [outsAt0_B m c t (by omega) (by omega) h]
  frame_open
  simp (disch := decide) only [↓ View.readCov_skip, ↓ View.readCov_cons_toLoadRect, ↓ View.readCov_fill]
  frame_out
  simp only [read_unread_whole]
  exact pay3 (blk1 H t) (acc_odd H t h) (blk3 H t) (blk0 H t) r l

/-- The gain's gradient: a tile's first half leaves the sum as it is, -/
theorem out9_even (h0 : ¬t.val % 16 = 0) (h : t.val % 2 = 0) (b : Fin 8) (l : Fin 1024) :
    (outsAt0 m c t.val t.isLt).2.2.1 (ix2 b l) = (prev m c t).2.2.1 (ix2 b l) := by
  rw [outsAt0_C m c t h0 h (by omega)]
  rfl

/-- the first point clears it, -/
theorem out9_zero (h0 : t.val % 16 = 0) (b : Fin 8) (l : Fin 1024) :
    (outsAt0 m c t.val t.isLt).2.2.1 (ix2 b l) = ((0 : ℝ) : EReal) := by
  rw [outsAt0_A m c t h0 (by omega) (by omega)]
  frame_out
  pointwise [k0_pay5]
  exact EReal.coe_zero.symm

/-- and a tile's second half adds the tile's tokens. -/
theorem out9_odd (h : t.val % 2 = 1) (b : Fin 8) (l : Fin 1024) : (outsAt0 m c t.val t.isLt).2.2.1 (ix2 b l)
    = (prev m c t).2.2.1 (ix2 b l) + ((small w (tile a (t / 2)) b l : ℝ) : EReal) := by
  rw [outsAt0_B m c t (by omega) (by omega) h]
  frame_open
  simp (disch := decide) only [↓ View.readCov_skip, ↓ View.readCov_cons_toLoadRect, ↓ View.readCov_fill]
  frame_out
  simp only [read_unread_whole]
  rw [read_row, View.writes_nil, Memref.IsWhole.read_unread]
  unfold small
  split
  · next hb =>
    obtain rfl : b = 0 := Fin.ext hb
    refine (pay4 (blk1 H t) (acc_odd H t h) _ _ _).trans ?_
    exact congrArg₂ (fun x y : EReal => x + y) (ld_row _ 0 inb_S8x1024_S1x1024_0_0 0 l) rfl
  · simp

/-- Two planes of three bands, a half of the channels. -/
theorem out8_of (X : Vec Ideal S2x512x1408 .bf16) {J : EReal} (b : Fin 2) (r : Fin 512) (k : Fin 1408)
    (hX : X (ix3 b r k) =
      if h : b.val = 1 ∧ 1024 ≤ k.val ∧ k.val < 1024 + 384 then
        k0_pay32 (k0_pay26 (k0_pay7 (iblk m c 0 t)) (kV2 m c t)) (k0_pay27 (kP2 m c t)) (ix3 (0 : Fin 1) r ⟨k.val - 1024, by omega⟩)
      else if h : b.val = 0 ∧ 1024 ≤ k.val ∧ k.val < 1024 + 384 then
        k0_pay31 (k0_pay26 (k0_pay7 (iblk m c 0 t)) (kV2 m c t)) (k0_pay27 (kP2 m c t)) (kQ2 m c t)
          (ix3 (0 : Fin 1) r ⟨k.val - 1024, by omega⟩)
      else if h : b.val = 1 ∧ 512 ≤ k.val ∧ k.val < 512 + 512 then
        k0_pay24 (k0_pay16 (k0_pay7 (iblk m c 0 t)) (kV1 m c t)) (k0_pay17 (kP1 m c t)) (k0_pay18 (kP1 m c t))
          (ix3 (0 : Fin 1) r ⟨k.val - 512, by omega⟩)
      else if h : b.val = 0 ∧ 512 ≤ k.val ∧ k.val < 512 + 512 then
        k0_pay23 (k0_pay18 (kP1 m c t)) (k0_pay19 (k0_pay7 (iblk m c 0 t)) (kV1 m c t) (kQ1 m c t)) (k0_pay20 (kP1 m c t))
          (ix3 (0 : Fin 1) r ⟨k.val - 512, by omega⟩)
      else if h : b.val = 1 ∧ 0 ≤ k.val ∧ k.val < 0 + 512 then
        k0_pay14 (k0_pay12 (iblk m c 0 t) (kV0 m c t) (kP0 m c t)) (ix3 (0 : Fin 1) r ⟨k.val - 0, by omega⟩)
      else if h : b.val = 0 ∧ 0 ≤ k.val ∧ k.val < 0 + 512 then
        k0_pay13 (iblk m c 0 t) (kV0 m c t) (kP0 m c t) (kQ0 m c t) (ix3 (0 : Fin 1) r ⟨k.val - 0, by omega⟩)
      else J) :
    X (ix3 b r k) = ((dgu w (tile a (t / 2) r) b (half t k) : ℝ) : EReal) := by
  rw [hX]
  clear hX
  unfold dgu
  split
  · next h =>
    rw [if_neg (by omega)]
    refine (upPlane2 (blk0 H t) (kV2_eq H) (kP2_eq H) _ _ _).trans ?_
    exact congrArg _ (congrArg _ (congrArg (half t) (Fin.ext (by simp [band2]; omega))))
  split
  · next h =>
    rw [if_pos h.1]
    refine (gatePlane2 (blk0 H t) (kV2_eq H) (kP2_eq H) (kQ2_eq H) _ _ _).trans ?_
    exact congrArg _ (congrArg _ (congrArg (half t) (Fin.ext (by simp [band2]; omega))))
  split
  · next h =>
    rw [if_neg (by omega)]
    refine (upPlane1 (blk0 H t) (kV1_eq H) (kP1_eq H) _ _ _).trans ?_
    exact congrArg _ (congrArg _ (congrArg (half t) (Fin.ext (by simp [band1]; omega))))
  split
  · next h =>
    rw [if_pos h.1]
    refine (gatePlane1 (blk0 H t) (kV1_eq H) (kP1_eq H) (kQ1_eq H) _ _ _).trans ?_
    exact congrArg _ (congrArg _ (congrArg (half t) (Fin.ext (by simp [band1]; omega))))
  split
  · next h =>
    rw [if_neg (by omega)]
    refine (upPlane0 (blk0 H t) (kV0_eq H) (kP0_eq H) _ _ _).trans ?_
    exact congrArg _ (congrArg _ (congrArg (half t) (Fin.ext (by simp [band0]))))
  split
  · next h =>
    rw [if_pos h.1]
    refine (gatePlane0 (blk0 H t) (kV0_eq H) (kP0_eq H) (kQ0_eq H) _ _ _).trans ?_
    exact congrArg _ (congrArg _ (congrArg (half t) (Fin.ext (by simp [band0]))))
  · omega

set_option maxHeartbeats 4000000 in
/-- Every grid point stores its half of the products' gradients of its tile. -/
theorem out8 (b : Fin 2) (r : Fin 512) (k : Fin 1408) :
    (outsAt0 m c t.val t.isLt).2.1 (ix3 b r k) = ((dgu w (tile a (t / 2) r) b (half t k) : ℝ) : EReal) := by
  refine out8_of H t _ (J := View.canon (Val := Elt Ideal) (e := .bf16) [] (ix3 b r k)) b r k ?_
  by_cases h : t.val % 2 = 1
  · rw [outsAt0_B m c t (by omega) (by omega) h]
    frame_out
    rw [canon_band, canon_band, canon_band, canon_band, canon_band, canon_band]
    rfl
  by_cases h0 : t.val % 16 = 0
  · rw [outsAt0_A m c t h0 (by omega) h]
    frame_out
    rw [canon_band, canon_band, canon_band, canon_band, canon_band, canon_band]
    rfl
  · rw [outsAt0_C m c t h0 (by omega) h]
    frame_out
    rw [canon_band, canon_band, canon_band, canon_band, canon_band, canon_band]
    rfl

end Cert.Ffn.Kernel
-- ==== Proof.Ffn.Arrays.lean ====
/- The kernel's three results, when its arguments are real: the rows' gradient and the products' gradients token by token,
   and the gain's gradient as a sum over all the tokens. -/
module

public import proofs.«01_k».proof.Proof.Ffn.Points

@[expose] public section

set_option maxRecDepth 16384

noncomputable section

namespace Cert.Ffn.Kernel

open Idealize.ShloMosaic Idealize.ShloMosaic.TcCoe Idealize.SL.Sem
open Cert.FfnIdeal Cert.FfnIdeal.Gen Cert.Lift Cert.Ffn.Spec Cert.Rows

/-- Sums over the tiles' tokens, tile after tile, are sums over all the tokens. -/
theorem small_tiles (w : Weights) (a : Fin 4096 → Token) (b : Fin 8) (l : Fin 1024) :
    ∑ j ∈ Finset.range 8, small w (tile a j) b l = small w a b l := by
  unfold small
  split
  · rw [Fin.sum_univ_tiles 8 512 rfl fun r => _, Finset.sum_range]
    exact Finset.sum_congr rfl fun j _ => Finset.sum_congr rfl fun r _ =>
      congrArg (fun v => dn w v l * unit v.x l) (tile_eq a j r _ rfl)
  · exact Finset.sum_const_zero

variable {m : (ℓ : Loc nD τ sig) → Buf (Elt Ideal) ℓ} {c : Dev nD} {w : Weights} {a : Fin 4096 → Token} (H : Holds m c w a)
include H

/-- After `n` points the tiles whose second half has been reached are summed. -/
theorem out9_eq (n : ℕ) (h : n < cfg0.N) (b : Fin 8) (l : Fin 1024) : (outsAt0 m c n h).2.2.1 (ix2 b l)
    = ((∑ j ∈ Finset.range ((n + 1) / 2), small w (tile a j) b l : ℝ) : EReal) := by
  have hN := h.trans_eq N_0
  induction n with
  | zero => exact out9_zero H ⟨0, h⟩ rfl b l
  | succ n ih =>
    by_cases hn : (n + 1) % 2 = 1
    · refine (out9_odd H ⟨n + 1, h⟩ hn b l).trans ?_
      refine (congrArg (· + _) (ih (by omega) (by omega))).trans ?_
      rw [up_add, show (n + 1 + 1) / 2 = (n + 1) / 2 + 1 by omega, Finset.sum_range_succ]
    · refine (out9_even H ⟨n + 1, h⟩ (by show ¬(n + 1) % 16 = 0; omega) (by show (n + 1) % 2 = 0; omega) b l).trans ?_
      rw [show (n + 1 + 1) / 2 = (n + 1) / 2 by omega]
      exact ih (by omega) (by omega)

/-- The last grid point. -/
def tLast : Fin cfg0.N := ⟨15, lt_of_lt_of_eq (by decide) N_0.symm⟩

/-- The rows' gradient. -/
theorem final7 : (dats m 0 c).arrAt 7 cfg0.N = fun i : S4096x1024.Idx => ((dx w (a (i 0)) (i 1) : ℝ) : EReal) := by
  refine (dats m 0 c).arrAt_eq_of_covers 7 _ (by decide +kernel) fun t hf y => ?_
  have ho := (flush0_7 t).mp hf
  blk_simp
  rw [after0_7]
  have e0 : ((win0_7.blk t).view.emb y 0).val = t.val / 2 * 512 + (y 0).val := by blk_simp [idx t]
  have e1 : ((win0_7.blk t).view.emb y 1).val = (y 1).val := by blk_simp [idx t]
  rw [← tile_eq a (t.val / 2) (y 0) _ e0]
  refine (congrArg _ ?_).trans ((out7 H t ho (y 0) (y 1)).trans (congrArg _ (congrArg _ ?_)))
  · funext x
    fin_cases x <;> rfl
  · exact Fin.ext e1.symm

/-- The products' gradients, the gate's plane and the other's. -/
theorem final8 : (dats m 0 c).arrAt 8 cfg0.N
    = fun i : S2x4096x2816.Idx => ((dgu w (a (i 1)) (i 0) (i 2) : ℝ) : EReal) := by
  refine (dats m 0 c).arrAt_eq_of_covers 8 _ (by decide +kernel) fun t hf y => ?_
  blk_simp
  rw [after0_8]
  have e0 : ((win0_8.blk t).view.emb y 0).val = (y 0).val := by blk_simp [idx t]
  have e1 : ((win0_8.blk t).view.emb y 1).val = t.val / 2 * 512 + (y 1).val := by blk_simp [idx t]
  have e2 : ((win0_8.blk t).view.emb y 2).val = t.val % 2 * 1408 + (y 2).val := by blk_simp [idx t]
  rw [← tile_eq a (t.val / 2) (y 1) _ e1, show (win0_8.blk t).view.emb y 0 = y 0 from Fin.ext e0,
    show (win0_8.blk t).view.emb y 2 = half t (y 2) from Fin.ext e2]
  refine (congrArg _ ?_).trans (out8 H t (y 0) (y 1) (y 2))
  funext x
  fin_cases x <;> rfl

/-- The gain's gradient. -/
theorem final9 : (dats m 0 c).arrAt 9 cfg0.N = fun i : S8x1024.Idx => ((small w a (i 0) (i 1) : ℝ) : EReal) := by
  refine (dats m 0 c).arrAt_eq_of_after_last 9 tLast (by decide +kernel) _ fun j => ?_
  blk_simp
  rw [after0_9]
  refine (congrArg _ (show _ = ix2 (j 0) (j 1) from ?_)).trans ((out9_eq H _ _ (j 0) (j 1)).trans
    (congrArg _ (small_tiles w a (j 0) (j 1))))
  funext x
  fin_cases x <;> rfl

end Cert.Ffn.Kernel
-- ==== Proof.Ffn.Claim.lean ====
/- The feed-forward gradients' kernel and the derivative of the plain forward lines end with equal results. -/
module

public import proofs.«01_k».proof.Proof.Ffn.RefRun
public import proofs.«01_k».proof.Defs
public import proofs.«01_k».proof.Proof.Gen.Pre_finite_ffn
public import proofs.«01_k».proof.Proof.Ffn.Arrays
public import proofs.«01_k».proof.Proof.Ffn.Reference
public import proofs.«01_k».proof.Proof.Real.Finite

@[expose] public section

set_option maxRecDepth 16384

noncomputable section

namespace Cert.Ffn.Claim

open Idealize.ShloMosaic Idealize.ShloMosaic.TcCoe Idealize.SL.Sem
open Cert.Ffn.Spec Cert.Finite

variable (m : (ℓ : Loc FfnIdeal.nD FfnIdeal.τ FfnIdeal.sig) → Buf (Elt Ideal) ℓ) (c : Dev FfnIdeal.nD)

/-- The real weights and tokens a device's arguments hold. -/
def weights : Weights where
  gain l := (m ((c.tc : Thread FfnIdeal.nD FfnIdeal.τ).loc FfnIdeal.main_arg1) (ix2 (0 : Fin 1) l)).toReal
  wIn l k := (m ((c.tc : Thread FfnIdeal.nD FfnIdeal.τ).loc FfnIdeal.main_arg2) (ix2 l k)).toReal
  wOut k l := (m ((c.tc : Thread FfnIdeal.nD FfnIdeal.τ).loc FfnIdeal.main_arg3) (ix2 k l)).toReal

def tokens (r : Fin 4096) : Token where
  x l := (m ((c.tc : Thread FfnIdeal.nD FfnIdeal.τ).loc FfnIdeal.main_arg0) (ix2 r l)).toReal
  dy l := (m ((c.tc : Thread FfnIdeal.nD FfnIdeal.τ).loc FfnIdeal.main_arg4) (ix2 r l)).toReal

theorem holds (h : Cert.Pre_FfnIdeal_finite_ffn (hPre_finite_ffn := Cert.Pre_finite_ffn.Gen.facts) m) :
    Kernel.Holds m c (weights m c) (tokens m c) := by
  obtain ⟨h0, h1, h2, h3, h4⟩ := h c
  exact {
    x := fun r l => real_of_cmp h0 (ix2 r l)
    gain := fun z l => by rw [Subsingleton.elim z 0]; exact real_of_cmp h1 (ix2 (0 : Fin 1) l)
    wIn := fun l k => real_of_cmp h2 (ix2 l k)
    wOut := fun k l => real_of_cmp h3 (ix2 k l)
    dy := fun r l => real_of_cmp h4 (ix2 r l) }

theorem algebraic : Cert.algebraic_FfnIdeal_FfnRefIdeal_pre_finite_ffn (hFfnIdeal := Cert.FfnIdeal.Gen.facts)
    (hFfnRefIdeal := Cert.FfnRefIdeal.Gen.facts) (hPre_finite_ffn := Cert.Pre_finite_ffn.Gen.facts) := by
  pair_intro
  · run_from Cert.FfnIdeal.Gen.run_main m g
  · run_from Cert.FfnRefIdeal.Whole.reference_run m' g'
    · have H := holds m c hpre
      refine Eq.trans (funext fun i => ?_) (Kernel.final7 H).symm
      rw [Cert.Rows.ix2_eta i]
      exact Reference.v50 H.x H.gain H.wIn H.wOut H.dy (i 0) (i 1)
    · have H := holds m c hpre
      refine Eq.trans (funext fun i => ?_) (Kernel.final8 H).symm
      rw [Cert.Rows.ix3_eta i]
      exact Reference.v78 H.x H.gain H.wIn H.wOut H.dy (i 0) (i 1) (i 2)
    · have H := holds m c hpre
      refine Eq.trans (funext fun i => ?_) (Kernel.final9 H).symm
      rw [Cert.Rows.ix2_eta i]
      exact Reference.v80 H.x H.gain H.wIn H.wOut H.dy (i 0) (i 1)

end Cert.Ffn.Claim
-- ==== Proof.Up.RefRun.lean ====
/- The reference's run, stated in the named stages of its arguments. -/
module

public import proofs.«01_k».proof.Proof.Gen.UpRefIdeal.Run
public import proofs.«01_k».proof.Proof.Gen.UpRefIdeal.Read

@[expose] public section

namespace Cert.UpRefIdeal.Whole

open Idealize.ShloMosaic Idealize.ShloMosaic.TcCoe Idealize.SL.Sem

/-- The reference's run, its results as the named stages of its arguments. -/
theorem reference_run (m' : (ℓ : Loc nD τ sig) → Buf (Elt Ideal) ℓ) (g' : Dev nD → PrngReg) :
    θ_run defs (onTc (τ := τ) (main (F := Ideal))) ⟨m', fun _ => 0, g'⟩ fun r => ∀ c : Dev nD,
      let A := fun b : Ref sig .tc => m' ((c : Thread nD τ).loc b)
      r.2.mem ((c : Thread nD τ).loc main_v7) = Read.val_main_v7 (F := Ideal) (A main_arg0) (A main_arg1)
      ∧ r.2.mem ((c : Thread nD τ).loc main_v8) = Read.val_main_v8 (F := Ideal) (A main_arg0) (A main_arg1)
      ∧ r.2.mem ((c : Thread nD τ).loc main_arg0) = A main_arg0 ∧ r.2.mem ((c : Thread nD τ).loc main_arg1) = A main_arg1 :=
  (θ_run defs _ _).mono (fun r h c => ⟨(h c).1.trans (Read.val_main_v7_eq _ _), (h c).2.1.trans (Read.val_main_v8_eq _ _),
    (h c).2.2⟩) (Value.run m' g')

/-- The reference runs, leaves its arguments as they were and ends with every counter at zero. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2.2, Idealize.ShloMosaic.sem_eq_zero_of_no_sems (by decide) r.2⟩)
    (Value.run m ρ)

end Cert.UpRefIdeal.Whole
-- ==== Proof.Up.Products.lean ====
/- The two products and the gated one, entry by entry, of a tile's rows and the bands of columns the kernel takes in turn. -/
module

public import proofs.«01_k».proof.Proof.Gen.UpIdeal.Skeleton
public import proofs.«01_k».proof.Proof.Gen.UpRefIdeal.Read
public import proofs.«01_k».proof.Proof.Real.Lift
public import Idealize.ShloMosaic.Lib.Pointwise

@[expose] public section

set_option maxRecDepth 16384

noncomputable section

namespace Cert.Up

open Idealize.ShloMosaic Idealize.ShloMosaic.TcCoe
open Cert.UpIdeal Cert.UpIdeal.Gen

/-- A number times its logistic value, times another. -/
def gated (p q : EReal) : EReal := p * Ideal.logistic p * q

/-- A row of the tile times a column of a weight band. -/
def prod {n : ℕ} (x : Vec Ideal S1024x1024 .bf16) (w : (⟨3, ![1, 1024, n]⟩ : Shape).Idx → EReal) (r : Fin 1024) (k : Fin n) : EReal :=
  ∑ l : Fin 1024, x (ix2 r l) * w (ix3 (0 : Fin 1) l k)

namespace Kernel

section First
variable (x : Vec Ideal S1024x1024 .bf16) (g u : Vec Ideal S1x1024x512 .bf16) (r : Fin 1024) (k : Fin 512)

theorem pay2 : k0_pay2 x g (ix2 r k) = prod x g r k := by
  pointwise [k0_pay2, k0_pay1]
  rfl

theorem pay3 : k0_pay3 x g (ix2 r k) = prod x g r k := by
  pointwise [k0_pay3, k0_pay1]
  rfl

theorem pay7 : k0_pay7 x g (ix2 r k) = prod x g r k := by
  pointwise [k0_pay7, k0_pay1]
  rfl

theorem pay8 : k0_pay8 x g (ix2 r k) = prod x g r k := by
  pointwise [k0_pay8, k0_pay1]
  rfl

theorem gate0 (z : Fin 1) : k0_pay4 x g (ix3 z r k) = prod x g r k := by
  rw [Subsingleton.elim z 0]
  pointwise [k0_pay4]
  exact pay2 x g r k

theorem up0 (z : Fin 1) : k0_pay5 x u (ix3 z r k) = prod x u r k := by
  rw [Subsingleton.elim z 0]
  pointwise [k0_pay5]
  exact pay3 x u r k

theorem out0 : k0_pay6 x g u (ix2 r k) = gated (prod x g r k) (prod x u r k) := by
  pointwise [k0_pay6]
  rw [pay2, pay3]
  rfl

theorem gate1 (z : Fin 1) : k0_pay10 (k0_pay9 x g) (ix3 z r k) = prod x g r k := by
  rw [Subsingleton.elim z 0]
  pointwise [k0_pay10, k0_pay9]
  exact pay7 x g r k

theorem up1 (z : Fin 1) : k0_pay11 (k0_pay8 x u) (ix3 z r k) = prod x u r k := by
  rw [Subsingleton.elim z 0]
  pointwise [k0_pay11]
  exact pay8 x u r k

theorem out1 : k0_pay12 (k0_pay7 x g) (k0_pay8 x u) (ix2 r k) = gated (prod x g r k) (prod x u r k) := by
  pointwise [k0_pay12]
  rw [pay7, pay8]
  rfl

end First

section Last
variable (x : Vec Ideal S1024x1024 .bf16) (g u : Vec Ideal S1x1024x384 .bf16) (r : Fin 1024) (k : Fin 384)

theorem pay13 : k0_pay13 (k0_pay1 x) g (ix2 r k) = prod x g r k := by
  pointwise [k0_pay13, k0_pay1]
  rfl

theorem pay14 : k0_pay14 (k0_pay1 x) g (ix2 r k) = prod x g r k := by
  pointwise [k0_pay14, k0_pay1]
  rfl

theorem gate2 (z : Fin 1) : k0_pay15 (k0_pay1 x) g (ix3 z r k) = prod x g r k := by
  rw [Subsingleton.elim z 0]
  pointwise [k0_pay15]
  exact pay13 x g r k

theorem up2 (z : Fin 1) : k0_pay16 (k0_pay1 x) u (ix3 z r k) = prod x u r k := by
  rw [Subsingleton.elim z 0]
  pointwise [k0_pay16]
  exact pay14 x u r k

theorem out2 : k0_pay17 (k0_pay1 x) g u (ix2 r k) = gated (prod x g r k) (prod x u r k) := by
  pointwise [k0_pay17]
  rw [pay13, pay14]
  rfl

end Last

end Kernel

namespace Reference

open Cert.UpRefIdeal.Read

variable (X : Vec Ideal S4096x1024 .f32) (W : Vec Ideal S1024x5632 .f32)

/-- A row times a column of the whole matrix. -/
def whole (r : Fin 4096) (k : Fin 5632) : EReal := ∑ l : Fin 1024, X (ix2 r l) * W (ix2 l k)

theorem v0 (r : Fin 4096) (k : Fin 5632) : val_main_v0 (F := Ideal) X W (ix2 r k) = whole X W r k := by
  pointwise [val_main_v0]
  rfl

/-- The two planes are the two halves of the product's columns. -/
theorem v7 (b : Fin 2) (r : Fin 4096) (k : Fin 2816) :
    val_main_v7 (F := Ideal) X W (ix3 b r k) = whole X W r ⟨b.val * 2816 + k.val, by omega⟩ := by
  pointwise [val_main_v7, val_main_v6, val_main_v5]
  exact v0 X W r _

/-- The gated product. -/
theorem v8 (r : Fin 4096) (k : Fin 2816) : val_main_v8 (F := Ideal) X W (ix2 r k)
    = gated (whole X W r ⟨k.val, by omega⟩) (whole X W r ⟨2816 + k.val, by omega⟩) := by
  pointwise [val_main_v8, val_main_v4, val_main_v3, val_main_v2, val_main_v1, val_main_call0_v5, val_main_call0_v4,
    val_main_call0_v3, val_main_call0_v2, val_main_call0_v1, val_main_call0_v0, val_main_call0_cst, val_main_call0_cst_0]
  rw [v0, v0]
  rfl

end Reference

end Cert.Up
-- ==== Proof.Up.Blocks.lean ====
/- What the kernel reads at a grid point: a tile of a quarter of the rows, and half of the columns of each of the two matrices. -/
module

public import proofs.«01_k».proof.Proof.Up.Products
public import proofs.«01_k».proof.Proof.Gen.UpIdeal.Value
public import proofs.«01_k».proof.Proof.Real.Bands
public import proofs.«01_k».proof.Proof.Real.Rows
public import Idealize.ShloMosaic.Lib.Pipeline.ValueKit
public import Idealize.ShloMosaic.Lib.Claim

@[expose] public section

set_option maxRecDepth 16384

noncomputable section

namespace Cert.Up.Kernel

open Idealize.ShloMosaic Idealize.ShloMosaic.TcCoe Idealize.SL.Sem
open Idealize.ShloMosaic.Pipeline (Dat)
open Cert.UpIdeal Cert.UpIdeal.Gen Cert.Rows

variable (m : (ℓ : Loc nD τ sig) → Buf (Elt Ideal) ℓ) (c : Dev nD)

/-- Device `c`'s rows and its matrix. -/
abbrev rows : Vec Ideal S4096x1024 .f32 := m ((c : Thread nD τ).loc main_arg0)
abbrev matrix : Vec Ideal S1024x5632 .f32 := m ((c : Thread nD τ).loc main_arg1)

/-- The grid's second coordinate, the tile of rows, runs within the first, the half of the columns. -/
theorem idx : ∀ t : Fin cfg0.N, win0_0.index t = ![t.val % 4, 0] ∧ win0_1.index t = ![t.val / 4, 0, 0]
    ∧ win0_2.index t = ![2 + t.val / 4, 0, 0] ∧ win0_3.index t = ![0, t.val % 4, t.val / 4]
    ∧ win0_4.index t = ![t.val % 4, t.val / 4] :=
  (by decide +kernel : ∀ t : Fin grid0.N, _)

/-- The matrix, its columns in four groups. -/
theorem matrix_lines : @Eq (FVec Ideal S4x1024x1408 .bf16) (V m c main_v2) <|
    transpose S4x1024x1408 [1, 0, 2] (shapeCast S1024x4x1408 (truncf .bf16 (F := Ideal) (show FVec Ideal S1024x5632 .f32 from matrix m c) bitsLt_bf16_f32)
      shapeCasts_S1024x5632_S1024x4x1408) transposes_S1024x4x1408_S4x1024x1408_1_0_2 := by
  entry_read
  rfl

variable {m c} (t : Fin cfg0.N)

/-- Row `r` of the tile read at point `t`, and column `k` of the half read there, in the whole arrays. -/
def row (r : Fin 1024) : Fin 4096 := ⟨t.val % 4 * 1024 + r.val, by omega⟩
def col (k : Fin 1408) : Fin 2816 := ⟨t.val / 4 * 1408 + k.val, by have ht := t.isLt.trans_eq N_0; omega⟩

theorem blk0 (r : Fin 1024) (l : Fin 1024) : iblk m c 0 t (ix2 r l) = rows m c (ix2 (row t r) l) := by
  blk_ext! [iblk, V, idx t, row]

theorem blk1 (z : Fin 1) (l : Fin 1024) (k : Fin 1408) :
    iblk m c 1 t (ix3 z l k) = matrix m c (ix2 l ⟨(col t k).val, by omega⟩) := by
  have ht := t.isLt.trans_eq N_0
  refine Eq.trans (b := V m c main_v2 (ix3 ⟨t.val / 4, by omega⟩ l k)) ?_ ?_
  · rw [Subsingleton.elim z 0]
    blk_ext [iblk, idx t]
  · rw [matrix_lines]
    pointwise
    rfl

theorem blk2 (z : Fin 1) (l : Fin 1024) (k : Fin 1408) :
    iblk m c 2 t (ix3 z l k) = matrix m c (ix2 l ⟨2816 + (col t k).val, by omega⟩) := by
  have ht := t.isLt.trans_eq N_0
  refine Eq.trans (b := V m c main_v2 (ix3 ⟨2 + t.val / 4, by omega⟩ l k)) ?_ ?_
  · rw [Subsingleton.elim z 0]
    blk_ext [iblk, idx t]
  · rw [matrix_lines]
    pointwise
    refine congrArg _ (congrArg₂ ix2 rfl (Fin.ext ?_))
    simp [col]
    omega

end Cert.Up.Kernel
-- ==== Proof.Up.Points.lean ====
/- What one grid point stores: of the two products the tile's rows and its half of the columns, a plane each, and the gated product. -/
module

public import proofs.«01_k».proof.Proof.Up.Blocks
public import Idealize.ShloMosaic.Lib.Pipeline.ValueKit

@[expose] public section

set_option maxRecDepth 16384

noncomputable section

namespace Cert.Up.Kernel

open Idealize.ShloMosaic Idealize.ShloMosaic.TcCoe Idealize.SL.Sem
open Cert.UpIdeal Cert.UpIdeal.Gen Cert.Rows Cert.Up.Reference

variable (m : (ℓ : Loc nD τ sig) → Buf (Elt Ideal) ℓ) (c : Dev nD) (t : Fin cfg0.N)

/-- The first matrix's half of the columns in its three bands. -/
abbrev g0 : Vec Ideal S1x1024x512 .bf16 :=
  View.ld (iblk m c 1 t) (Rect.unit (s := S1x1024x1408) ![0, 0, 0] S1x1024x512.size inb_S1x1024x1408_S1x1024x512_0_0_0)
abbrev g1 : Vec Ideal S1x1024x512 .bf16 :=
  View.ld (iblk m c 1 t) (Rect.unit (s := S1x1024x1408) ![0, 0, 512] S1x1024x512.size inb_S1x1024x1408_S1x1024x512_0_0_512)
abbrev g2 : Vec Ideal S1x1024x384 .bf16 :=
  View.ld (iblk m c 1 t) (Rect.unit (s := S1x1024x1408) ![0, 0, 1024] S1x1024x384.size inb_S1x1024x1408_S1x1024x384_0_0_1024)

/-- The second's. -/
abbrev u0 : Vec Ideal S1x1024x512 .bf16 :=
  View.ld (iblk m c 2 t) (Rect.unit (s := S1x1024x1408) ![0, 0, 0] S1x1024x512.size inb_S1x1024x1408_S1x1024x512_0_0_0)
abbrev u1 : Vec Ideal S1x1024x512 .bf16 :=
  View.ld (iblk m c 2 t) (Rect.unit (s := S1x1024x1408) ![0, 0, 512] S1x1024x512.size inb_S1x1024x1408_S1x1024x512_0_0_512)
abbrev u2 : Vec Ideal S1x1024x384 .bf16 :=
  View.ld (iblk m c 2 t) (Rect.unit (s := S1x1024x1408) ![0, 0, 1024] S1x1024x384.size inb_S1x1024x1408_S1x1024x384_0_0_1024)

/-- A column of the first half, and its partner in the second. -/
abbrev gateAt (r : Fin 1024) (k : Fin 1408) : EReal := whole (rows m c) (matrix m c) (row t r) ⟨(col t k).val, by omega⟩
abbrev upAt (r : Fin 1024) (k : Fin 1408) : EReal := whole (rows m c) (matrix m c) (row t r) ⟨2816 + (col t k).val, by omega⟩

section Bands
variable {m c} (r : Fin 1024)

theorem prod_gate {n : ℕ} (o : ℕ) (inb : ∀ x : Fin 3, (![0, 0, o] : Fin 3 → ℕ) x + (![1, 1024, n] : Fin 3 → ℕ) x ≤ (![1, 1024, 1408] : Fin 3 → ℕ) x)
    (k : Fin n) (k' : Fin 1408) (hk : k'.val = o + k.val) :
    prod (iblk m c 0 t) (View.ld (iblk m c 1 t) (Rect.unit (s := ⟨3, ![1, 1024, 1408]⟩) ![0, 0, o] ![1, 1024, n] inb)) r k
      = gateAt m c t r k' :=
  Finset.sum_congr rfl fun l _ => congrArg₂ (· * ·) (blk0 t r l)
    ((ld_band _ 0 o n inb 0 l k 0 k' rfl hk).trans (blk1 t 0 l k'))

theorem prod_up {n : ℕ} (o : ℕ) (inb : ∀ x : Fin 3, (![0, 0, o] : Fin 3 → ℕ) x + (![1, 1024, n] : Fin 3 → ℕ) x ≤ (![1, 1024, 1408] : Fin 3 → ℕ) x)
    (k : Fin n) (k' : Fin 1408) (hk : k'.val = o + k.val) :
    prod (iblk m c 0 t) (View.ld (iblk m c 2 t) (Rect.unit (s := ⟨3, ![1, 1024, 1408]⟩) ![0, 0, o] ![1, 1024, n] inb)) r k
      = upAt m c t r k' :=
  Finset.sum_congr rfl fun l _ => congrArg₂ (· * ·) (blk0 t r l)
    ((ld_band _ 0 o n inb 0 l k 0 k' rfl hk).trans (blk2 t 0 l k'))

end Bands

variable {m c}

/-- Six bands of the two planes, the last stored first. -/
theorem planes_of (X : Vec Ideal S2x1024x1408 .bf16) {J : EReal} (b : Fin 2) (r : Fin 1024) (k : Fin 1408)
    (hX : X (ix3 b r k) =
      if h : b.val = 1 ∧ 1024 ≤ k.val ∧ k.val < 1024 + 384 then
        k0_pay16 (k0_pay1 (iblk m c 0 t)) (u2 m c t) (ix3 (0 : Fin 1) r ⟨k.val - 1024, by omega⟩)
      else if h : b.val = 0 ∧ 1024 ≤ k.val ∧ k.val < 1024 + 384 then
        k0_pay15 (k0_pay1 (iblk m c 0 t)) (g2 m c t) (ix3 (0 : Fin 1) r ⟨k.val - 1024, by omega⟩)
      else if h : b.val = 1 ∧ 512 ≤ k.val ∧ k.val < 512 + 512 then
        k0_pay11 (k0_pay8 (iblk m c 0 t) (u1 m c t)) (ix3 (0 : Fin 1) r ⟨k.val - 512, by omega⟩)
      else if h : b.val = 0 ∧ 512 ≤ k.val ∧ k.val < 512 + 512 then
        k0_pay10 (k0_pay9 (iblk m c 0 t) (g1 m c t)) (ix3 (0 : Fin 1) r ⟨k.val - 512, by omega⟩)
      else if h : b.val = 1 ∧ 0 ≤ k.val ∧ k.val < 0 + 512 then
        k0_pay5 (iblk m c 0 t) (u0 m c t) (ix3 (0 : Fin 1) r ⟨k.val - 0, by omega⟩)
      else if h : b.val = 0 ∧ 0 ≤ k.val ∧ k.val < 0 + 512 then
        k0_pay4 (iblk m c 0 t) (g0 m c t) (ix3 (0 : Fin 1) r ⟨k.val - 0, by omega⟩)
      else J) :
    X (ix3 b r k) = if b.val = 0 then gateAt m c t r k else upAt m c t r k := by
  rw [hX]
  clear hX
  split
  · next h =>
    rw [if_neg (by omega)]
    exact (up2 _ _ r _ 0).trans (prod_up t r 1024 _ _ k (by show k.val = 1024 + (k.val - 1024); omega))
  split
  · next h =>
    rw [if_pos h.1]
    exact (gate2 _ _ r _ 0).trans (prod_gate t r 1024 _ _ k (by show k.val = 1024 + (k.val - 1024); omega))
  split
  · next h =>
    rw [if_neg (by omega)]
    exact (up1 _ _ r _ 0).trans (prod_up t r 512 _ _ k (by show k.val = 512 + (k.val - 512); omega))
  split
  · next h =>
    rw [if_pos h.1]
    exact (gate1 _ _ r _ 0).trans (prod_gate t r 512 _ _ k (by show k.val = 512 + (k.val - 512); omega))
  split
  · next h =>
    rw [if_neg (by omega)]
    exact (up0 _ _ r _ 0).trans (prod_up t r 0 _ _ k (by show k.val = 0 + (k.val - 0); omega))
  split
  · next h =>
    rw [if_pos h.1]
    exact (gate0 _ _ r _ 0).trans (prod_gate t r 0 _ _ k (by show k.val = 0 + (k.val - 0); omega))
  · omega

/-- Three bands of the gated product, the last stored first. -/
theorem gated_of (X : Vec Ideal S1024x1408 .bf16) {J : EReal} (r : Fin 1024) (k : Fin 1408)
    (hX : X (ix2 r k) =
      if h : (0 ≤ r.val ∧ r.val < 0 + 1024) ∧ 1024 ≤ k.val ∧ k.val < 1024 + 384 then
        k0_pay17 (k0_pay1 (iblk m c 0 t)) (g2 m c t) (u2 m c t) (ix2 ⟨r.val - 0, by omega⟩ ⟨k.val - 1024, by omega⟩)
      else if h : (0 ≤ r.val ∧ r.val < 0 + 1024) ∧ 512 ≤ k.val ∧ k.val < 512 + 512 then
        k0_pay12 (k0_pay7 (iblk m c 0 t) (g1 m c t)) (k0_pay8 (iblk m c 0 t) (u1 m c t))
          (ix2 ⟨r.val - 0, by omega⟩ ⟨k.val - 512, by omega⟩)
      else if h : (0 ≤ r.val ∧ r.val < 0 + 1024) ∧ 0 ≤ k.val ∧ k.val < 0 + 512 then
        k0_pay6 (iblk m c 0 t) (g0 m c t) (u0 m c t) (ix2 ⟨r.val - 0, by omega⟩ ⟨k.val - 0, by omega⟩)
      else J) :
    X (ix2 r k) = gated (gateAt m c t r k) (upAt m c t r k) := by
  rw [hX]
  clear hX
  split
  · next h =>
    exact (out2 _ _ _ _ _).trans (congrArg₂ gated
      (prod_gate t _ 1024 _ _ k (by show k.val = 1024 + (k.val - 1024); omega))
      (prod_up t _ 1024 _ _ k (by show k.val = 1024 + (k.val - 1024); omega)))
  split
  · next h =>
    exact (out1 _ _ _ _ _).trans (congrArg₂ gated
      (prod_gate t _ 512 _ _ k (by show k.val = 512 + (k.val - 512); omega))
      (prod_up t _ 512 _ _ k (by show k.val = 512 + (k.val - 512); omega)))
  split
  · next h =>
    exact (out0 _ _ _ _ _).trans (congrArg₂ gated
      (prod_gate t _ 0 _ _ k (by show k.val = 0 + (k.val - 0); omega))
      (prod_up t _ 0 _ _ k (by show k.val = 0 + (k.val - 0); omega)))
  · omega

set_option maxHeartbeats 4000000 in
theorem planes (b : Fin 2) (r : Fin 1024) (k : Fin 1408) :
    (outsAt0 m c t).1 (ix3 b r k) = if b.val = 0 then gateAt m c t r k else upAt m c t r k := by
  refine planes_of t _ (J := View.canon (Val := Elt Ideal) (e := .bf16) [] (ix3 b r k)) b r k ?_
  simp only [outsAt0]
  frame_out
  rw [canon_band, canon_band, canon_band, canon_band, canon_band, canon_band]
  rfl

set_option maxHeartbeats 4000000 in
theorem product (r : Fin 1024) (k : Fin 1408) :
    (outsAt0 m c t).2 (ix2 r k) = gated (gateAt m c t r k) (upAt m c t r k) := by
  refine gated_of t _ (J := View.canon (Val := Elt Ideal) (e := .bf16) [] (ix2 r k)) r k ?_
  simp only [outsAt0]
  frame_out
  rw [canon_block, canon_block, canon_block]
  rfl

end Cert.Up.Kernel
-- ==== Proof.Up.Arrays.lean ====
/- The kernel's two results: the product with all the columns, a plane for each half, and the gated product. -/
module

public import proofs.«01_k».proof.Proof.Up.Points

@[expose] public section

set_option maxRecDepth 16384

noncomputable section

namespace Cert.Up.Kernel

open Idealize.ShloMosaic Idealize.ShloMosaic.TcCoe Idealize.SL.Sem
open Cert.UpIdeal Cert.UpIdeal.Gen Cert.Rows Cert.Up.Reference

variable (m : (ℓ : Loc nD τ sig) → Buf (Elt Ideal) ℓ) (c : Dev nD)

theorem final3 : (dats m 0 c).arrAt 3 cfg0.N = fun i : S2x4096x2816.Idx =>
    whole (rows m c) (matrix m c) (i 1) ⟨(i 0).val * 2816 + (i 2).val, by have := (i 0).isLt; have := (i 2).isLt; dsimp at *; omega⟩ := by
  refine (dats m 0 c).arrAt_eq_of_covers 3 _ (by decide +kernel) fun t hf y => ?_
  blk_simp
  rw [after0_3]
  have e0 : ((win0_3.blk t).view.emb y 0).val = (y 0).val := by blk_simp [idx t]
  have e1 : ((win0_3.blk t).view.emb y 1).val = t.val % 4 * 1024 + (y 1).val := by blk_simp [idx t]
  have e2 : ((win0_3.blk t).view.emb y 2).val = t.val / 4 * 1408 + (y 2).val := by blk_simp [idx t]
  have i0 : win0_3.index t 0 = 0 := by rw [(idx t).2.2.2.1]; rfl
  have i2 : win0_3.index t 2 = t.val / 4 := by rw [(idx t).2.2.2.1]; rfl
  have hb : (y 0).val < 2 := (y 0).isLt
  refine (congrArg _ (show _ = ix3 (y 0) (y 1) (y 2) from ?_)).trans ((planes t (y 0) (y 1) (y 2)).trans ?_)
  · funext x
    fin_cases x <;> rfl
  · split
    · refine congrArg₂ (whole _ _) (Fin.ext e1.symm) (Fin.ext ?_)
      simp only [i0, i2, col]
      omega
    · refine congrArg₂ (whole _ _) (Fin.ext e1.symm) (Fin.ext ?_)
      simp only [i0, i2, col]
      omega

theorem final4 : (dats m 0 c).arrAt 4 cfg0.N = fun i : S4096x2816.Idx =>
    gated (whole (rows m c) (matrix m c) (i 0) ⟨(i 1).val, by have := (i 1).isLt; dsimp at *; omega⟩)
      (whole (rows m c) (matrix m c) (i 0) ⟨2816 + (i 1).val, by have := (i 1).isLt; dsimp at *; omega⟩) := by
  refine (dats m 0 c).arrAt_eq_of_covers 4 _ (by decide +kernel) fun t hf y => ?_
  blk_simp
  rw [after0_4]
  have e0 : ((win0_4.blk t).view.emb y 0).val = t.val % 4 * 1024 + (y 0).val := by blk_simp [idx t]
  have e1 : ((win0_4.blk t).view.emb y 1).val = t.val / 4 * 1408 + (y 1).val := by blk_simp [idx t]
  have i1 : win0_4.index t 1 = t.val / 4 := by rw [(idx t).2.2.2.2]; rfl
  refine (congrArg _ (show _ = ix2 (y 0) (y 1) from ?_)).trans ((product t (y 0) (y 1)).trans
    (congrArg₂ gated (congrArg₂ (whole _ _) (Fin.ext e0.symm) (Fin.ext ?_))
      (congrArg₂ (whole _ _) (Fin.ext e0.symm) (Fin.ext ?_))))
  · funext x
    fin_cases x <;> rfl
  · simp only [i1, col]
  · simp only [i1, col]

end Cert.Up.Kernel
-- ==== Proof.Up.Claim.lean ====
/- The kernel of the feed-forward's first half and the plain lines end with equal results, whatever the arguments hold. -/
module

public import proofs.«01_k».proof.Proof.Up.RefRun
public import proofs.«01_k».proof.Defs
public import proofs.«01_k».proof.Proof.Up.Arrays

@[expose] public section

set_option maxRecDepth 16384

noncomputable section

namespace Cert.Up.Claim

open Idealize.ShloMosaic Idealize.ShloMosaic.TcCoe Idealize.SL.Sem

theorem algebraic : Cert.algebraic_UpIdeal_UpRefIdeal (hUpIdeal := Cert.UpIdeal.Gen.facts)
    (hUpRefIdeal := Cert.UpRefIdeal.Gen.facts) := by
  pair_intro
  · run_from Cert.UpIdeal.Gen.run_main m g
  · run_from Cert.UpRefIdeal.Whole.reference_run m' g'
    · refine Eq.trans (funext fun i => ?_) (Kernel.final3 m c).symm
      rw [Cert.Rows.ix3_eta i]
      exact Reference.v7 _ _ (i 0) (i 1) (i 2)
    · refine Eq.trans (funext fun i => ?_) (Kernel.final4 m c).symm
      rw [Cert.Rows.ix2_eta i]
      exact Reference.v8 _ _ (i 0) (i 1)

end Cert.Up.Claim
-- ==== Proof.Straight.lean ====
/- Programs of loads and stores over buffers a core owns, written with loops, each with the function of the buffers' contents it computes. -/
module

public import Idealize.ShloMosaic.Lib.Pipeline.FrameBody
public import Idealize.ShloMosaic.Lib.Tactic

@[expose] public section

noncomputable section

namespace Cert.Straight

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Contents with a rectangle stored -/

section Put

variable {s : Shape} {β : Type}

open Classical in
/-- `X` with the rectangle's elements replaced by `w`. -/
def put (r : Rect s) (w : r.shape.Idx → β) (X : s.Idx → β) : s.Idx → β :=
  fun y => if h : ∃ x, r.emb x = y then w h.choose else X y

/-- What a load reads. -/
abbrev got (r : LoadRect s) (X : s.Idx → β) : r.shape.Idx → β := fun x => X (r.idx x)

theorem put_emb (r : Rect s) (w : r.shape.Idx → β) (X : s.Idx → β) (x : r.shape.Idx) : put r w X (r.emb x) = w x := by
  have h : ∃ x', r.emb x' = r.emb x := ⟨x, rfl⟩
  rw [put, dif_pos h, r.emb.injective h.choose_spec]

theorem put_of_not (r : Rect s) (w : r.shape.Idx → β) (X : s.Idx → β) (y : s.Idx) (h : ∀ x, r.emb x ≠ y) : put r w X y = X y :=
  dif_neg fun ⟨x, hx⟩ => h x hx

/-- Where the old contents and the stored values are those of `G`, so are the new contents. -/
theorem put_agree (r : Rect s) (w : r.shape.Idx → β) (X G : s.Idx → β) (hw : ∀ x, w x = G (r.emb x)) (y : s.Idx)
    (hy : (∀ x, r.emb x ≠ y) → X y = G y) : put r w X y = G y := by
  by_cases h : ∃ x, r.emb x = y
  · obtain ⟨x, rfl⟩ := h
    rw [put_emb, hw]
  · rw [put_of_not r w X y fun x hx => h ⟨x, hx⟩, hy fun x hx => h ⟨x, hx⟩]

end Put

/-! ## Buffers owned together -/

variable {nD : ℕ} {τ : Topo} {sig : RefSig} {Val : EltTy → Type} {Λ : Labels} {U : Type} [URA U] {St : Type}

local notation "𝕄" => MT nD τ sig Unit Val ℕ U ℕ

/-- A buffer and the part of the state that says what it holds. -/
structure Part (sig : RefSig) (Val : EltTy → Type) (St : Type) where
  s : Shape
  e : EltTy
  mem : Memref sig .tc .vmem s e
  get : St → s.Idx → Val e

/-- The buffers of a list, each at what the state says. -/
def own (c : Dev nD) : List (Part sig Val St) → St → sProp 𝕄
  | [], _ => iprop(emp)
  | a :: l, σ => iprop(owns (c : Thread nD τ) a.mem fullShare (a.get σ) ∗ own c l σ)

/-- One buffer of a list taken out. -/
theorem own_take (c : Dev nD) (l : List (Part sig Val St)) (k : ℕ) (a : Part sig Val St) (h : l[k]? = some a) (σ : St) :
    (own c l σ : sProp 𝕄) ⊢ iprop(owns (c : Thread nD τ) a.mem fullShare (a.get σ) ∗ own c (l.eraseIdx k) σ) := by
  induction l generalizing k with
  | nil => simp at h
  | cons b l ih =>
    cases k with
    | zero =>
      obtain rfl : b = a := by simpa using h
      exact .rfl
    | succ k =>
      have := ih k (by simpa using h)
      simp only [own, List.eraseIdx_cons_succ]
      iintro ⟨Hb, Hl⟩
      ihave Hl := this $$ Hl
      icases Hl with ⟨Ha, Hl⟩
      isplitl [Ha]; · iexact Ha
      isplitl [Hb]; · iexact Hb
      iexact Hl

/-- And put back. -/
theorem own_back (c : Dev nD) (l : List (Part sig Val St)) (k : ℕ) (a : Part sig Val St) (h : l[k]? = some a) (σ : St) :
    iprop(owns (c : Thread nD τ) a.mem fullShare (a.get σ) ∗ own c (l.eraseIdx k) σ) ⊢ (own c l σ : sProp 𝕄) := by
  induction l generalizing k with
  | nil => simp at h
  | cons b l ih =>
    cases k with
    | zero =>
      obtain rfl : b = a := by simpa using h
      exact .rfl
    | succ k =>
      have := ih k (by simpa using h)
      simp only [own, List.eraseIdx_cons_succ]
      iintro ⟨Ha, Hb, Hl⟩
      isplitl [Hb]; · iexact Hb
      iapply this
      isplitl [Ha]; · iexact Ha
      iexact Hl

/-- A buffer of the list `l`, with how its part of the state is read and replaced. -/
structure Slot (l : List (Part sig Val St)) (s : Shape) (e : EltTy) where
  mem : Memref sig .tc .vmem s e
  get : St → s.Idx → Val e
  set : St → (s.Idx → Val e) → St
  pos : ℕ
  at_pos : l[pos]? = some ⟨s, e, mem, get⟩
  get_set : ∀ σ X, get (set σ X) = X
  others : ∀ (c : Dev nD) σ X, (own c (l.eraseIdx pos) (set σ X) : sProp (MT nD τ sig Unit Val ℕ U ℕ)) = own c (l.eraseIdx pos) σ

variable (defs : Defs nD τ sig Val Λ) (l : List (Part sig Val St))

/-- A program over the buffers of `l`, with the function of the state it computes. -/
structure Act (α : Type) where
  prog : Prog (TpuEff nD τ sig Val Λ .tc) α
  sem : St → α × St
  sound : ∀ (c : Dev nD) (σ : St) (K : α → sProp (MT nD τ sig Unit Val ℕ U ℕ)),
    iprop(own c l σ ∗ (own c l (sem σ).2 -∗ K (sem σ).1)) ⊢ wp frame (wpE defs Variants.none (c : Thread nD τ) none) Set.univ prog K

variable {defs l} {α β : Type}

namespace Act

/-- A value and nothing done. -/
def ret (a : α) : Act (U := U) defs l α where
  prog := .ret a
  sem σ := (a, σ)
  sound c σ K := by
    iintro ⟨H, Hk⟩
    iapply (le_wp_ret frame (wpE defs Variants.none (c : Thread nD τ) none) Set.univ a K)
    iapply Hk; iexact H

/-- One program after another. -/
def bind (p : Act (U := U) defs l α) (f : α → Act (U := U) defs l β) : Act (U := U) defs l β where
  prog := p.prog >>= fun a => (f a).prog
  sem σ := (f (p.sem σ).1).sem (p.sem σ).2
  sound c σ K := by
    rw [wp_bind]
    iintro ⟨H, Hk⟩
    iapply (p.sound c σ _)
    isplitl [H]; · iexact H
    iintro H
    iapply ((f (p.sem σ).1).sound c _ K)
    isplitl [H]; · iexact H
    iexact Hk

/-- A load. -/
def load {s : Shape} {e : EltTy} (S : Slot (nD := nD) (τ := τ) (U := U) l s e) (r : LoadRect s) (h : 0 < r.shape.numel) :
    Act (U := U) defs l (r.shape.Idx → Val e) where
  prog := Prog.lift (.load S.mem r (View.loadsAt_vmem h))
  sem σ := (got r (S.get σ), σ)
  sound c σ K := by
    refine (sep_mono_left (own_take c l S.pos _ S.at_pos σ)).trans ?_
    have hb := own_back (nD := nD) (τ := τ) (U := U) c l S.pos _ S.at_pos σ
    simp only [owns] at hb ⊢
    iintro ⟨⟨⟨%f, %hf, H⟩, Hl⟩, Hk⟩
    iapply (wp_load Variants.none (c : Thread nD τ) none Set.univ (S := S.mem.view.set) (f := f)
      (Finset.map_subset_map.mpr (Finset.subset_univ _))) $$ H
    iintro H
    rw [show S.mem.view.readAt Val r f = got r (S.get σ) from funext fun x => by rw [View.readAt_apply, hf]]
    iapply (le_wp_ret frame (wpE defs Variants.none (c : Thread nD τ) none) Set.univ _ K)
    iapply Hk
    iapply hb
    isplitl [H]
    · iexists f; isplitr
      · ipureintro; exact hf
      iexact H
    iexact Hl

/-- A store. -/
def store {s : Shape} {e : EltTy} (S : Slot (nD := nD) (τ := τ) (U := U) l s e) (r : Rect s) (w : r.shape.Idx → Val e)
    (hx : (S.mem.access r).Stores Finset.univ) :
    Act (U := U) defs l PUnit where
  prog := Prog.lift (.store S.mem r w Finset.univ hx (.inl rfl))
  sem σ := (⟨⟩, S.set σ (put r w (S.get σ)))
  sound c σ K := by
    refine (sep_mono_left (own_take c l S.pos _ S.at_pos σ)).trans ?_
    have hb := own_back (nD := nD) (τ := τ) (U := U) c l S.pos _ S.at_pos (S.set σ (put r w (S.get σ)))
    rw [S.others] at hb
    simp only [owns] at hb ⊢
    iintro ⟨⟨⟨%f, %hf, H⟩, Hl⟩, Hk⟩
    iapply (wp_store Variants.none (c : Thread nD τ) none Set.univ (m := S.mem) (r := r) (w := w) (S := S.mem.view.set) (f := f)
      (View.set_slice_subset _ r)) $$ H
    iintro H
    iapply (le_wp_ret frame (wpE defs Variants.none (c : Thread nD τ) none) Set.univ _ K)
    iapply Hk
    iapply hb
    isplitl [H]
    · iexists _; isplitr
      swap; · iexact H
      ipureintro
      rw [S.get_set]
      funext y
      by_cases hy : ∃ x, r.emb x = y
      · obtain ⟨x, rfl⟩ := hy
        rw [put_emb]
        exact View.read_slice_write_emb r f w (Finset.mem_univ x)
      · rw [put_of_not r w _ y fun x hx => hy ⟨x, hx⟩, ← hf]
        exact View.read_slice_write_of_not_mem r f w _ (by simpa using fun x hx => hy ⟨x, hx⟩)
    iexact Hl

/-- A program run where a condition holds. -/
def when (p : Prop) [Decidable p] (a : Act (U := U) defs l PUnit) : Act (U := U) defs l PUnit where
  prog := if _h : p then a.prog else pure ⟨⟩
  sem σ := if p then a.sem σ else (⟨⟩, σ)
  sound c σ K := by
    by_cases h : p
    · rw [dif_pos h, if_pos h]; exact a.sound c σ K
    · rw [dif_neg h, if_neg h]; exact (ret ⟨⟩ : Act (U := U) defs l PUnit).sound c σ K

/-- `f` at the `m` numbers from `a` on, in order. -/
def span (n : ℕ) (f : Fin n → α → Act (U := U) defs l α) (m : ℕ) : (a : ℕ) → a + m ≤ n → α → Act (U := U) defs l α :=
  Nat.rec (fun _ _ x => ret x)
    (fun m ih a h x => bind (f ⟨a, by omega⟩ x) (ih (a + 1) (by omega))) m

/-- `f` at the numbers below `n`, in order. -/
def each (n : ℕ) (f : Fin n → α → Act (U := U) defs l α) (x : α) : Act (U := U) defs l α := span n f n 0 (by omega) x

instance : Monad (Act (U := U) defs l) where
  pure := ret
  bind := bind

theorem ext {p q : Act (U := U) defs l α} (h : p.prog = q.prog) (h' : p.sem = q.sem) : p = q := by
  cases p; cases q; simp only at h h'; subst h; subst h'; rfl

theorem assoc {γ : Type} (p : Act (U := U) defs l α) (f : α → Act (U := U) defs l β) (g : β → Act (U := U) defs l γ) :
    (p >>= f) >>= g = p >>= fun x => f x >>= g :=
  ext (bind_assoc p.prog (fun a => (f a).prog) fun b => (g b).prog) rfl

theorem ret_bind (a : α) (f : α → Act (U := U) defs l β) : (pure a : Act (U := U) defs l α) >>= f = f a :=
  ext (pure_bind a fun a => (f a).prog) rfl

theorem prog_bind (p : Act (U := U) defs l α) (f : α → Act (U := U) defs l β) : (p >>= f).prog = p.prog >>= fun a => (f a).prog := rfl

theorem prog_pure (a : α) : (pure a : Act (U := U) defs l α).prog = pure a := rfl

/-- A loop cut at one of its steps. -/
theorem span_cut (n : ℕ) (f : Fin n → α → Act (U := U) defs l α) (k : ℕ) : ∀ (m a : ℕ) (h : a + (m + (k + 1)) ≤ n) (x : α),
    span n f (m + (k + 1)) a h x
      = span n f m a (by omega) x >>= fun y => f ⟨a + m, by omega⟩ y >>= fun z => span n f k (a + m + 1) (by omega) z
  | 0, a, h, x => by
    rw [show (span n f 0 a (by omega) x : Act (U := U) defs l α) = pure x from rfl, ret_bind]
    simp only [Nat.zero_add]; rfl
  | m + 1, a, h, x => by
    have e : ∀ y, span n f (m + (k + 1)) (a + 1) (by omega) y = _ := span_cut n f k m (a + 1) (by omega)
    rw [show span n f (m + 1) a (by omega) x = f ⟨a, by omega⟩ x >>= span n f m (a + 1) (by omega) from rfl, assoc]
    simp only [Nat.add_right_comm m 1 (k + 1)]
    rw [show span n f (m + (k + 1) + 1) a (by omega) x = f ⟨a, by omega⟩ x >>= span n f (m + (k + 1)) (a + 1) (by omega) from rfl]
    congr 1; funext y
    rw [e]
    simp only [Nat.add_right_comm a 1 m, Nat.add_assoc, Nat.add_comm 1 m]

/-- The same, at a given step. -/
theorem span_at (n : ℕ) (f : Fin n → α → Act (U := U) defs l α) (t a : ℕ) (h : a + t ≤ n) (k : Fin n) (m j b : ℕ) (hm : m + (j + 1) = t)
    (hk : a + m = k.val) (hb : b = k.val + 1) (h1 : a + m ≤ n) (h2 : b + j ≤ n) (x : α) :
    span n f t a h x = span n f m a h1 x >>= fun y => f k y >>= fun z => span n f j b h2 z := by
  obtain ⟨k, hkn⟩ := k
  simp only at hk hb
  subst hk hb hm
  exact span_cut n f j m a h x

/-! ## What a program leaves -/

/-- `Q` of what the program gives and leaves. -/
structure Ends (p : Act (U := U) defs l α) (σ : St) (Q : α → St → Prop) : Prop where
  holds : Q (p.sem σ).1 (p.sem σ).2

theorem Ends.mono {p : Act (U := U) defs l α} {σ : St} {Q Q' : α → St → Prop} (h : Ends p σ Q) (hQ : ∀ a σ', Q a σ' → Q' a σ') : Ends p σ Q' :=
  ⟨hQ _ _ h.holds⟩

theorem ends_bind {p : Act (U := U) defs l α} {f : α → Act (U := U) defs l β} {σ : St} {Q : β → St → Prop}
    (h : Ends p σ fun a σ' => Ends (f a) σ' Q) : Ends (p >>= f) σ Q := ⟨h.holds.holds⟩

theorem ends_pure {a : α} {σ : St} {Q : α → St → Prop} (h : Q a σ) : Ends (pure a : Act (U := U) defs l α) σ Q := ⟨h⟩

theorem ends_load {s : Shape} {e : EltTy} {S : Slot (nD := nD) (τ := τ) (U := U) l s e} {r : LoadRect s} {h : 0 < r.shape.numel} {σ : St}
    {Q : (r.shape.Idx → Val e) → St → Prop} (hQ : Q (got r (S.get σ)) σ) : Ends (load (defs := defs) S r h) σ Q := ⟨hQ⟩

theorem ends_store {s : Shape} {e : EltTy} {S : Slot (nD := nD) (τ := τ) (U := U) l s e} {r : Rect s} {w : r.shape.Idx → Val e}
    {hx : (S.mem.access r).Stores Finset.univ} {σ : St} {Q : PUnit → St → Prop} (hQ : Q ⟨⟩ (S.set σ (put r w (S.get σ)))) :
    Ends (store (defs := defs) S r w hx) σ Q := ⟨hQ⟩

theorem ends_seq {p : Act (U := U) defs l α} {f : α → Act (U := U) defs l β} {σ : St} {Q : β → St → Prop} (R : α → St → Prop)
    (h : Ends p σ R) (h' : ∀ a σ', R a σ' → Ends (f a) σ' Q) : Ends (p >>= f) σ Q := ⟨(h' _ _ h.holds).holds⟩

theorem ends_when {p : Prop} [Decidable p] {a : Act (U := U) defs l PUnit} {σ : St} {Q : PUnit → St → Prop}
    (h : p → Ends a σ Q) (h' : ¬p → Q ⟨⟩ σ) : Ends (when p a) σ Q := by
  by_cases hp : p
  · exact ⟨by simpa [when, hp] using (h hp).holds⟩
  · exact ⟨by simpa [when, hp] using h' hp⟩

/-- An invariant carried through a stretch of a loop. -/
theorem ends_span {n : ℕ} {f : Fin n → α → Act (U := U) defs l α} (I : ℕ → α → St → Prop)
    (h : ∀ k x σ, I k.val x σ → Ends (f k x) σ (I (k.val + 1))) :
    ∀ (m a b : ℕ) (hm : a + m ≤ n) (_ : a + m = b) (x : α) (σ : St), I a x σ → Ends (span n f m a hm x) σ (I b)
  | 0, a, _, _, rfl, x, σ, hI => ⟨hI⟩
  | m + 1, a, b, hm, hb, x, σ, hI =>
    ends_seq (p := f ⟨a, by omega⟩ x) (I (a + 1)) (h ⟨a, by omega⟩ x σ hI) fun y σ' hy =>
      ends_span I h m (a + 1) b (by omega) (by omega) y σ' hy

/-- An invariant carried through a loop. -/
theorem ends_each {n : ℕ} {f : Fin n → α → Act (U := U) defs l α} (I : ℕ → α → St → Prop) {a : α} {σ : St} {Q : α → St → Prop}
    (h0 : I 0 a σ) (h : ∀ k a σ, I k.val a σ → Ends (f k a) σ (I (k.val + 1))) (hQ : ∀ a σ, I n a σ → Q a σ) :
    Ends (each n f a) σ Q :=
  (ends_span I h n 0 n (by omega) (by omega) a σ h0).mono hQ

end Act

end Cert.Straight

end
-- ==== Proof.InBwd.Body.lean ====
/- The body of the mixers' input gradient at one grid point, written with loops over the lanes' groups, the blocks of rows and the taps. -/
module

public import proofs.«01_k».proof.Proof.Gen.InBwdIdeal.Frame.Runs
public import proofs.«01_k».proof.Proof.Straight

@[expose] public section

set_option maxRecDepth 16384

noncomputable section

namespace Cert.InBwdIdeal.Body

open Cert.InBwdIdeal Cert.InBwdIdeal.Gen Cert.Straight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The buffers of one point: eleven inputs, four outputs and eight scratch buffers. -/
structure Bufs where
  du : Memref sig .tc .vmem S512x512 .f32
  dun : Memref sig .tc .vmem S32x512 .f32
  dp : Memref sig .tc .vmem S512x512 .f32
  dpn : Memref sig .tc .vmem S32x512 .f32
  z : Memref sig .tc .vmem S512x1536 .f32
  zp : Memref sig .tc .vmem S32x1536 .f32
  x : Memref sig .tc .vmem S512x1024 .f32
  dx : Memref sig .tc .vmem S512x1024 .f32
  cw : Memref sig .tc .vmem S32x512 .f32
  g : Memref sig .tc .vmem S1x1024 .f32
  w : Memref sig .tc .vmem S4x1024x384 .bf16
  gx : Memref sig .tc .vmem S512x1024 .f32
  dw : Memref sig .tc .vmem S4x1024x384 .bf16
  dc : Memref sig .tc .vmem S32x512 .f32
  dg : Memref sig .tc .vmem S8x1024 .f32
  eu : Memref sig .tc .vmem S4x768x128 .f32
  ed : Memref sig .tc .vmem S4x768x128 .f32
  ep : Memref sig .tc .vmem S4x768x128 .f32
  ss : Memref sig .tc .vmem S2x512x128 .f32
  u0 : Memref sig .tc .vmem S512x512 .f32
  dz : Memref sig .tc .vmem S512x1536 .bf16
  acc : Memref sig .tc .vmem S1024x1536 .f32
  dca : Memref sig .tc .vmem S32x8x512 .f32
  du_whole : du.IsWhole
  dun_whole : dun.IsWhole
  dp_whole : dp.IsWhole
  dpn_whole : dpn.IsWhole
  z_whole : z.IsWhole
  zp_whole : zp.IsWhole
  x_whole : x.IsWhole
  dx_whole : dx.IsWhole
  cw_whole : cw.IsWhole
  g_whole : g.IsWhole
  w_whole : w.IsWhole
  gx_whole : gx.IsWhole
  dw_whole : dw.IsWhole
  dc_whole : dc.IsWhole
  dg_whole : dg.IsWhole
  eu_whole : eu.IsWhole
  ed_whole : ed.IsWhole
  ep_whole : ep.IsWhole
  ss_whole : ss.IsWhole
  u0_whole : u0.IsWhole
  dz_whole : dz.IsWhole
  acc_whole : acc.IsWhole
  dca_whole : dca.IsWhole

/-- What they hold. -/
@[ext] structure St (F : FTy → Type) where
  du : Vec F S512x512 .f32
  dun : Vec F S32x512 .f32
  dp : Vec F S512x512 .f32
  dpn : Vec F S32x512 .f32
  z : Vec F S512x1536 .f32
  zp : Vec F S32x1536 .f32
  x : Vec F S512x1024 .f32
  dx : Vec F S512x1024 .f32
  cw : Vec F S32x512 .f32
  g : Vec F S1x1024 .f32
  w : Vec F S4x1024x384 .bf16
  gx : Vec F S512x1024 .f32
  dw : Vec F S4x1024x384 .bf16
  dc : Vec F S32x512 .f32
  dg : Vec F S8x1024 .f32
  eu : Vec F S4x768x128 .f32
  ed : Vec F S4x768x128 .f32
  ep : Vec F S4x768x128 .f32
  ss : Vec F S2x512x128 .f32
  u0 : Vec F S512x512 .f32
  dz : Vec F S512x1536 .bf16
  acc : Vec F S1024x1536 .f32
  dca : Vec F S32x8x512 .f32

/-- The buffers, in order. -/
def parts (A : Bufs) : List (Part sig (Elt F) (St F)) :=
  [⟨_, _, A.du, (·.du)⟩,
   ⟨_, _, A.dun, (·.dun)⟩,
   ⟨_, _, A.dp, (·.dp)⟩,
   ⟨_, _, A.dpn, (·.dpn)⟩,
   ⟨_, _, A.z, (·.z)⟩,
   ⟨_, _, A.zp, (·.zp)⟩,
   ⟨_, _, A.x, (·.x)⟩,
   ⟨_, _, A.dx, (·.dx)⟩,
   ⟨_, _, A.cw, (·.cw)⟩,
   ⟨_, _, A.g, (·.g)⟩,
   ⟨_, _, A.w, (·.w)⟩,
   ⟨_, _, A.gx, (·.gx)⟩,
   ⟨_, _, A.dw, (·.dw)⟩,
   ⟨_, _, A.dc, (·.dc)⟩,
   ⟨_, _, A.dg, (·.dg)⟩,
   ⟨_, _, A.eu, (·.eu)⟩,
   ⟨_, _, A.ed, (·.ed)⟩,
   ⟨_, _, A.ep, (·.ep)⟩,
   ⟨_, _, A.ss, (·.ss)⟩,
   ⟨_, _, A.u0, (·.u0)⟩,
   ⟨_, _, A.dz, (·.dz)⟩,
   ⟨_, _, A.acc, (·.acc)⟩,
   ⟨_, _, A.dca, (·.dca)⟩]

/-- A buffer of the body. -/
abbrev Buf1 (A : Bufs) (s : Shape) (e : EltTy) := Slot (nD := nD) (τ := τ) (U := UR sig nD τ) (parts (F := F) A) s e

/-- A part of the body. -/
abbrev P (F : FTy → Type) [FloatOps F] (A : Bufs) (α : Type) := Act (U := UR sig nD τ) (defs₀ (F := F)) (parts A) α

variable (A : Bufs)

def b_du : Buf1 (F := F) A S512x512 .f32 := ⟨A.du, (·.du), fun σ X => {σ with du := X}, 0, rfl, fun _ _ => rfl, fun _ _ _ => rfl⟩
def b_dun : Buf1 (F := F) A S32x512 .f32 := ⟨A.dun, (·.dun), fun σ X => {σ with dun := X}, 1, rfl, fun _ _ => rfl, fun _ _ _ => rfl⟩
def b_dp : Buf1 (F := F) A S512x512 .f32 := ⟨A.dp, (·.dp), fun σ X => {σ with dp := X}, 2, rfl, fun _ _ => rfl, fun _ _ _ => rfl⟩
def b_dpn : Buf1 (F := F) A S32x512 .f32 := ⟨A.dpn, (·.dpn), fun σ X => {σ with dpn := X}, 3, rfl, fun _ _ => rfl, fun _ _ _ => rfl⟩
def b_z : Buf1 (F := F) A S512x1536 .f32 := ⟨A.z, (·.z), fun σ X => {σ with z := X}, 4, rfl, fun _ _ => rfl, fun _ _ _ => rfl⟩
def b_zp : Buf1 (F := F) A S32x1536 .f32 := ⟨A.zp, (·.zp), fun σ X => {σ with zp := X}, 5, rfl, fun _ _ => rfl, fun _ _ _ => rfl⟩
def b_x : Buf1 (F := F) A S512x1024 .f32 := ⟨A.x, (·.x), fun σ X => {σ with x := X}, 6, rfl, fun _ _ => rfl, fun _ _ _ => rfl⟩
def b_dx : Buf1 (F := F) A S512x1024 .f32 := ⟨A.dx, (·.dx), fun σ X => {σ with dx := X}, 7, rfl, fun _ _ => rfl, fun _ _ _ => rfl⟩
def b_cw : Buf1 (F := F) A S32x512 .f32 := ⟨A.cw, (·.cw), fun σ X => {σ with cw := X}, 8, rfl, fun _ _ => rfl, fun _ _ _ => rfl⟩
def b_g : Buf1 (F := F) A S1x1024 .f32 := ⟨A.g, (·.g), fun σ X => {σ with g := X}, 9, rfl, fun _ _ => rfl, fun _ _ _ => rfl⟩
def b_w : Buf1 (F := F) A S4x1024x384 .bf16 := ⟨A.w, (·.w), fun σ X => {σ with w := X}, 10, rfl, fun _ _ => rfl, fun _ _ _ => rfl⟩
def b_gx : Buf1 (F := F) A S512x1024 .f32 := ⟨A.gx, (·.gx), fun σ X => {σ with gx := X}, 11, rfl, fun _ _ => rfl, fun _ _ _ => rfl⟩
def b_dw : Buf1 (F := F) A S4x1024x384 .bf16 := ⟨A.dw, (·.dw), fun σ X => {σ with dw := X}, 12, rfl, fun _ _ => rfl, fun _ _ _ => rfl⟩
def b_dc : Buf1 (F := F) A S32x512 .f32 := ⟨A.dc, (·.dc), fun σ X => {σ with dc := X}, 13, rfl, fun _ _ => rfl, fun _ _ _ => rfl⟩
def b_dg : Buf1 (F := F) A S8x1024 .f32 := ⟨A.dg, (·.dg), fun σ X => {σ with dg := X}, 14, rfl, fun _ _ => rfl, fun _ _ _ => rfl⟩
def b_eu : Buf1 (F := F) A S4x768x128 .f32 := ⟨A.eu, (·.eu), fun σ X => {σ with eu := X}, 15, rfl, fun _ _ => rfl, fun _ _ _ => rfl⟩
def b_ed : Buf1 (F := F) A S4x768x128 .f32 := ⟨A.ed, (·.ed), fun σ X => {σ with ed := X}, 16, rfl, fun _ _ => rfl, fun _ _ _ => rfl⟩
def b_ep : Buf1 (F := F) A S4x768x128 .f32 := ⟨A.ep, (·.ep), fun σ X => {σ with ep := X}, 17, rfl, fun _ _ => rfl, fun _ _ _ => rfl⟩
def b_ss : Buf1 (F := F) A S2x512x128 .f32 := ⟨A.ss, (·.ss), fun σ X => {σ with ss := X}, 18, rfl, fun _ _ => rfl, fun _ _ _ => rfl⟩
def b_u0 : Buf1 (F := F) A S512x512 .f32 := ⟨A.u0, (·.u0), fun σ X => {σ with u0 := X}, 19, rfl, fun _ _ => rfl, fun _ _ _ => rfl⟩
def b_dz : Buf1 (F := F) A S512x1536 .bf16 := ⟨A.dz, (·.dz), fun σ X => {σ with dz := X}, 20, rfl, fun _ _ => rfl, fun _ _ _ => rfl⟩
def b_acc : Buf1 (F := F) A S1024x1536 .f32 := ⟨A.acc, (·.acc), fun σ X => {σ with acc := X}, 21, rfl, fun _ _ => rfl, fun _ _ _ => rfl⟩
def b_dca : Buf1 (F := F) A S32x8x512 .f32 := ⟨A.dca, (·.dca), fun σ X => {σ with dca := X}, 22, rfl, fun _ _ => rfl, fun _ _ _ => rfl⟩

/-! ## Rectangles -/

theorem le2 {s t : Fin 2 → ℕ} {x y : ℕ} (h0 : x + t 0 ≤ s 0) (h1 : y + t 1 ≤ s 1) : ∀ a, (![x, y] : Fin 2 → ℕ) a + t a ≤ s a :=
  Fin.forall_fin_two.mpr ⟨h0, h1⟩

theorem le3 {s t : Fin 3 → ℕ} {x y z : ℕ} (h0 : x + t 0 ≤ s 0) (h1 : y + t 1 ≤ s 1) (h2 : z + t 2 ≤ s 2) :
    ∀ a, (![x, y, z] : Fin 3 → ℕ) a + t a ≤ s a := by
  intro a; match a with | 0 => exact h0 | 1 => exact h1 | 2 => exact h2

/-- Rows `r …` and lanes `l …` of a matrix. -/
abbrev rows64 (r l : ℕ) (hr : r + 64 ≤ 512) (hl : l + 128 ≤ 512) : Rect S512x512 := Rect.unit (s := S512x512) ![r, l] S64x128.size (le2 hr hl)
abbrev rows32 (r l : ℕ) (hr : r + 32 ≤ 512) (hl : l + 128 ≤ 512) : Rect S512x512 := Rect.unit (s := S512x512) ![r, l] S32x128.size (le2 hr hl)
abbrev lanes32 (l : ℕ) (hl : l + 128 ≤ 512) : Rect S32x512 := Rect.unit (s := S32x512) ![0, l] S32x128.size (le2 (show 0 + 32 ≤ 32 by omega) hl)
abbrev tap (k l : ℕ) (hk : k + 1 ≤ 32) (hl : l + 128 ≤ 512) : Rect S32x512 := Rect.unit (s := S32x512) ![k, l] S1x128.size (le2 hk hl)
abbrev block (r l : ℕ) (hr : r + 64 ≤ 512) (hl : l + 128 ≤ 1536) : Rect S512x1536 :=
  Rect.unit (s := S512x1536) ![r, l] S64x128.size (le2 hr hl)
abbrev half (l : ℕ) (hl : l + 512 ≤ 1536) : Rect S512x1536 := Rect.unit (s := S512x1536) ![0, l] S512x512.size (le2 (show 0 + 512 ≤ 512 by omega) hl)

/-- Every eighth row from `r` on, of a group of lanes. -/
abbrev comb64 (c r : ℕ) (hc : c + 1 ≤ 4) (hr : r + 8 * 63 < 768) : Rect S4x768x128 :=
  ⟨(⟨![c, r, 0], S1x64x128.size, ![1, 8, 1], by
    intro a; match a with | 0 => exact .inr (show c + 1 * 0 < 4 by omega) | 1 => exact .inr hr | 2 => exact .inr (show 0 + 1 * 127 < 128 by omega)⟩ : LoadRect S4x768x128), spos_1_8_1⟩
abbrev comb32 (c r : ℕ) (hc : c + 1 ≤ 4) (hr : r + 8 * 31 < 768) : Rect S4x768x128 :=
  ⟨(⟨![c, r, 0], S1x32x128.size, ![1, 8, 1], by
    intro a; match a with | 0 => exact .inr (show c + 1 * 0 < 4 by omega) | 1 => exact .inr hr | 2 => exact .inr (show 0 + 1 * 127 < 128 by omega)⟩ : LoadRect S4x768x128), spos_1_8_1⟩
abbrev combS (p r : ℕ) (hp : p + 1 ≤ 2) (hr : r + 8 * 63 < 512) : Rect S2x512x128 :=
  ⟨(⟨![p, r, 0], S1x64x128.size, ![1, 8, 1], by
    intro a; match a with | 0 => exact .inr (show p + 1 * 0 < 2 by omega) | 1 => exact .inr hr | 2 => exact .inr (show 0 + 1 * 127 < 128 by omega)⟩ : LoadRect S2x512x128), spos_1_8_1⟩
/-- A stretch of 128 rows of a group of lanes. -/
abbrev run (c r : ℕ) (hc : c + 1 ≤ 4) (hr : r + 128 ≤ 768) : Rect S4x768x128 :=
  Rect.unit (s := S4x768x128) ![c, r, 0] S1x128x128.size (le3 hc hr (show 0 + 128 ≤ 128 by omega))
abbrev runS (p r : ℕ) (hp : p + 1 ≤ 2) (hr : r + 128 ≤ 512) : Rect S2x512x128 :=
  Rect.unit (s := S2x512x128) ![p, r, 0] S1x128x128.size (le3 hp hr (show 0 + 128 ≤ 128 by omega))
abbrev tapAcc (k l : ℕ) (hk : k + 1 ≤ 32) (hl : l + 128 ≤ 512) : Rect S32x8x512 :=
  Rect.unit (s := S32x8x512) ![k, 0, l] S1x8x128.size (le3 hk (show 0 + 8 ≤ 8 by omega) hl)

variable {A}

/-- A rectangle stored, after a load of it that nothing reads. -/
def put1 {s : Shape} {e : EltTy} (S : Buf1 (F := F) A s e) (r : Rect s) (h : 0 < r.shape.numel) (w : r.shape.Idx → Elt F e)
    (hx : (S.mem.access r).Stores Finset.univ) : P F A PUnit :=
  Act.load S r.toLoadRect h >>= fun _ => Act.store S r w hx

variable (A)

/-! ## The values -/

/-- The word of the point. -/
abbrev pt (i : grid0.Coords) : BitVec 32 := BitVec.ofNat 32 (i 0).val
/-- One from the second point on, else zero. -/
abbrev kept (i : grid0.Coords) : F .f32 := Scalar.sitofp .f32 (Scalar.extui (Scalar.cmpi .sgt (pt i) 0#32))
/-- One up to the point before the last, else zero. -/
abbrev follows (i : grid0.Coords) : F .f32 := Scalar.sitofp .f32 (Scalar.extui (Scalar.cmpi .slt (pt i) 7#32))

/-- The pools' windows. -/
def win (c : Fin 4) : BitVec 32 := (![0x40000000#32, 0x40800000#32, 0x41000000#32, 0x41800000#32] : Fin 4 → BitVec 32) c
/-- Their lengths less one. -/
def more (c : Fin 4) : ℕ := (![1, 3, 7, 15] : Fin 4 → ℕ) c

theorem more_le (c : Fin 4) : more c ≤ 15 := by revert c; decide

/-- How many rows a pool's window holds at 64 rows from `b` on. -/
def count64 (b : BitVec 32) (c : Fin 4) : FVec F S64x128 .f32 :=
  broadcastTo S64x128 (minimumf (sitofp .f32 (addi (addi (iota .tc S64x1 32 [0] iota_S64x1_d0_w32) (broadcast S64x1 b)) (broadcast S64x1 1#32)))
    (broadcast S64x1 (Scalar.ofBits .f32 (win c)))) broadcasts_S64x1_S64x128
/-- And at 32 rows. -/
def count32 (b : BitVec 32) (c : Fin 4) : FVec F S32x128 .f32 :=
  broadcastTo S32x128 (minimumf (sitofp .f32 (addi (addi (iota .tc S32x1 32 [0] iota_S32x1_d0_w32) (broadcast S32x1 b)) (broadcast S32x1 1#32)))
    (broadcast S32x1 (Scalar.ofBits .f32 (win c)))) broadcasts_S32x1_S32x128
/-- The word of a row of the point. -/
abbrev rowWord (i : grid0.Coords) (r : ℕ) : BitVec 32 := Scalar.addi (Scalar.muli (pt i) 512#32) (BitVec.ofNat 32 r)
/-- The word of the next point's first row. -/
abbrev nextWord (i : grid0.Coords) : BitVec 32 := Scalar.muli (Scalar.addi (pt i) 1#32) 512#32

theorem slice_lanes (c : Fin 4) : S32x512.Slices ![0, 128 * c.val] S32x128 := by revert c; decide
theorem slice_rows (m : ℕ) (h : m < 16) : S128x128.Slices ![8 * m, 0] S8x128 := by
  have : ∀ m : Fin 16, S128x128.Slices ![8 * m.val, 0] S8x128 := by decide
  exact this ⟨m, h⟩
theorem slice_cols (j : Fin 4) : S512x1536.Slices ![0, 384 * j.val] S512x384 := by revert j; decide

/-- Eight rows of a product. -/
abbrev eight (p : FVec F S128x128 .f32) (m : ℕ) (h : m < 16) : FVec F S8x128 .f32 := extractStridedSlice S8x128 ![8 * m, 0] p (slice_rows m h)
/-- The first groups of eight rows of a product, added up. -/
def folded (p : FVec F S128x128 .f32) (m : ℕ) : m < 16 → FVec F S8x128 .f32 :=
  Nat.rec (fun h => eight p 0 h) (fun m ih h => addf (ih (by omega)) (eight p (m + 1) h)) m

/-! ## The start of a point -/

/-- The accumulators cleared. -/
def clearAll : P F A PUnit := do
  put1 (b_acc A) (Rect.unit (s := S1024x1536) ![0, 0] S1024x1536.size inb_S1024x1536_S1024x1536_0_0) h_S1024x1536
    (shapeCast S1024x1536 (broadcast S1024x1536 (Scalar.ofBits .f32 0x00000000#32)) shapeCasts_S1024x1536_S1024x1536)
    (View.stores_vmem_bits_univ h_S1024x1536 rfl)
  put1 (b_dca A) (Rect.unit (s := S32x8x512) ![0, 0, 0] S32x8x512.size inb_S32x8x512_S32x8x512_0_0_0) h_S32x8x512
    (shapeCast S32x8x512 (broadcast S32x8x512 (Scalar.ofBits .f32 0x00000000#32)) shapeCasts_S32x8x512_S32x8x512)
    (View.stores_vmem_bits_univ h_S32x8x512 rfl)
  put1 (b_dg A) (Rect.unit (s := S8x1024) ![0, 0] S8x1024.size inb_S8x1024_S8x1024_0_0) h_S8x1024
    (broadcast S8x1024 (Scalar.ofBits .f32 0x00000000#32)) (View.stores_vmem_bits_univ h_S8x1024 rfl)

abbrev first (i : grid0.Coords) : Prop := Scalar.cmpi .ne (Scalar.extui (Scalar.cmpi .eq (pt i) 0#32)) 0#32 = 1#1

/-- At the first point the accumulators are cleared. -/
def clear (i : grid0.Coords) : P F A PUnit := Act.when (first i) (clearAll A)

/-- The gated rows before the point. -/
def gateBefore (i : grid0.Coords) (v : Vec F S32x1536 .f32) : FVec F S32x512 .f32 :=
  mulf (extractStridedSlice S32x512 ![0, 0] (mulf (shapeCast S32x1536 v shapeCasts_S32x1536_S32x1536) (broadcast S32x1536 (kept i))) slices_S32x1536_o0_0_S32x512)
    (logistic (extractStridedSlice S32x512 ![0, 512] (mulf (shapeCast S32x1536 v shapeCasts_S32x1536_S32x1536) (broadcast S32x1536 (kept i))) slices_S32x1536_o0_512_S32x512))

/-- The gated rows, stored; the rows before and the cotangent after are returned. -/
def gates (i : grid0.Coords) : P F A (FVec F S32x512 .f32 × FVec F S32x512 .f32) := do
  let v ← Act.load (b_zp A) (Rect.unit (s := S32x1536) ![0, 0] S32x1536.size inb_S32x1536_S32x1536_0_0).toLoadRect h_S32x1536
  let a : Vec F S512x512 .f32 ← Act.load (b_z A) (half 0 (by omega)).toLoadRect h_S512x512
  let b : Vec F S512x512 .f32 ← Act.load (b_z A) (half 512 (by omega)).toLoadRect h_S512x512
  put1 (b_u0 A) (Rect.unit (s := S512x512) ![0, 0] S512x512.size inb_S512x512_S512x512_0_0) h_S512x512
    (shapeCast S512x512 (mulf (shapeCast S512x512 a shapeCasts_S512x512_S512x512) (logistic (shapeCast S512x512 b shapeCasts_S512x512_S512x512))) shapeCasts_S512x512_S512x512)
    (View.stores_vmem_bits_univ h_S512x512 rfl)
  let n : Vec F S32x512 .f32 ← Act.load (b_dun A) (Rect.unit (s := S32x512) ![0, 0] S32x512.size inb_S32x512_S32x512_0_0).toLoadRect h_S32x512
  pure (gateBefore i v, mulf n (broadcast S32x512 (follows i)))

/-! ## The shifted copies -/

/-- The rows before and after the point. -/
def around (i : grid0.Coords) (before after : FVec F S32x512 .f32) (c : Fin 4) : P F A PUnit := do
  put1 (b_eu A) (comb32 c 0 (by omega) (by omega)) h_S1x32x128
    (shapeCast S1x32x128 (extractStridedSlice S32x128 ![0, 128 * c.val] before (slice_lanes c)) shapeCasts_S32x128_S1x32x128) (View.stores_vmem_bits_univ h_S1x32x128 rfl)
  put1 (b_ed A) (comb32 c 519 (by omega) (by omega)) h_S1x32x128
    (shapeCast S1x32x128 (extractStridedSlice S32x128 ![0, 128 * c.val] after (slice_lanes c)) shapeCasts_S32x128_S1x32x128) (View.stores_vmem_bits_univ h_S1x32x128 rfl)
  let n : Vec F S32x128 .f32 ← Act.load (b_dpn A) (lanes32 (128 * c) (by omega)).toLoadRect h_S32x128
  put1 (b_ep A) (comb32 c 519 (by omega) (by omega)) h_S1x32x128
    (shapeCast S1x32x128 (divf (mulf n (broadcast S32x128 (follows i))) (count32 (nextWord i) c)) shapeCasts_S32x128_S1x32x128) (View.stores_vmem_bits_univ h_S1x32x128 rfl)

/-- The last rows of the block before. -/
def edgeBefore (c : Fin 4) (j : Fin 8) (hj : 1 ≤ j.val) : P F A PUnit := do
  let v : Vec F S32x128 .f32 ← Act.load (b_u0 A) (rows32 (64 * j - 32) (128 * c) (by omega) (by omega)).toLoadRect h_S32x128
  put1 (b_eu A) (comb32 c j (by omega) (by omega)) h_S1x32x128 (shapeCast S1x32x128 v shapeCasts_S32x128_S1x32x128) (View.stores_vmem_bits_univ h_S1x32x128 rfl)

/-- The first rows of the block after. -/
def edgeAfter (i : grid0.Coords) (c : Fin 4) (j : Fin 8) (hj : j.val ≤ 6) : P F A PUnit := do
  let v : Vec F S32x128 .f32 ← Act.load (b_du A) (rows32 (64 * (j + 1)) (128 * c) (by omega) (by omega)).toLoadRect h_S32x128
  put1 (b_ed A) (comb32 c (512 + j) (by omega) (by omega)) h_S1x32x128 (shapeCast S1x32x128 v shapeCasts_S32x128_S1x32x128) (View.stores_vmem_bits_univ h_S1x32x128 rfl)
  let p : Vec F S32x128 .f32 ← Act.load (b_dp A) (rows32 (64 * (j + 1)) (128 * c) (by omega) (by omega)).toLoadRect h_S32x128
  put1 (b_ep A) (comb32 c (512 + j) (by omega) (by omega)) h_S1x32x128
    (shapeCast S1x32x128 (divf p (count32 (rowWord i (64 * (j + 1))) c)) shapeCasts_S32x128_S1x32x128) (View.stores_vmem_bits_univ h_S1x32x128 rfl)

/-- One block of rows. -/
def copy (i : grid0.Coords) (c : Fin 4) (j : Fin 8) : P F A PUnit := do
  let u : Vec F S64x128 .f32 ← Act.load (b_u0 A) (rows64 (64 * j) (128 * c) (by omega) (by omega)).toLoadRect h_S64x128
  put1 (b_eu A) (comb64 c (256 + j) (by omega) (by omega)) h_S1x64x128 (shapeCast S1x64x128 u shapeCasts_S64x128_S1x64x128) (View.stores_vmem_bits_univ h_S1x64x128 rfl)
  let d : Vec F S64x128 .f32 ← Act.load (b_du A) (rows64 (64 * j) (128 * c) (by omega) (by omega)).toLoadRect h_S64x128
  put1 (b_ed A) (comb64 c j (by omega) (by omega)) h_S1x64x128 (shapeCast S1x64x128 d shapeCasts_S64x128_S1x64x128) (View.stores_vmem_bits_univ h_S1x64x128 rfl)
  let p : Vec F S64x128 .f32 ← Act.load (b_dp A) (rows64 (64 * j) (128 * c) (by omega) (by omega)).toLoadRect h_S64x128
  put1 (b_ep A) (comb64 c j (by omega) (by omega)) h_S1x64x128
    (shapeCast S1x64x128 (divf p (count64 (rowWord i (64 * j)) c)) shapeCasts_S64x128_S1x64x128) (View.stores_vmem_bits_univ h_S1x64x128 rfl)
  (if h : 1 ≤ j.val then edgeBefore A c j h else pure ⟨⟩)
  (if h : j.val ≤ 6 then edgeAfter A i c j h else pure ⟨⟩)

/-! ## The convolution, the pools and the taps' gradient -/

/-- One tap added. -/
def convAdd (acc : FVec F S128x128 .f32) (row : FVec F S1x128 .f32) (e : FVec F S128x128 .f32) : FVec F S128x128 .f32 :=
  addf acc (mulf (broadcastTo S128x128 row broadcasts_S1x128_S128x128) e)

/-- A tap's weights and the shifted cotangent. -/
def convLoad (c v : Fin 4) (k : Fin 31) : P F A (Vec F S1x128 .f32 × Vec F S1x128x128 .f32) := do
  let r : Vec F S1x128 .f32 ← Act.load (b_cw A) (tap k (128 * c) (by omega) (by omega)).toLoadRect h_S1x128
  let e : Vec F S1x128x128 .f32 ← Act.load (b_ed A) (run c (8 * (16 * v + 30 - k)) (by omega) (by omega)).toLoadRect h_S1x128x128
  pure (r, e)

def convStep (c v : Fin 4) (k : Fin 31) (acc : FVec F S128x128 .f32) : P F A (FVec F S128x128 .f32) := do
  let q ← convLoad A c v k
  pure (convAdd acc (shapeCast S1x128 q.1 shapeCasts_S1x128_S1x128) (shapeCast S128x128 q.2 shapeCasts_S1x128x128_S128x128))

/-- A sum stored for its plane. -/
def keepSum (p : ℕ) (hp : p + 1 ≤ 2) (v : Fin 4) (acc : FVec F S128x128 .f32) : P F A PUnit :=
  put1 (b_ss A) (runS p (128 * v) hp (by omega)) h_S1x128x128 (shapeCast S1x128x128 acc shapeCasts_S128x128_S1x128x128) (View.stores_vmem_bits_univ h_S1x128x128 rfl)

/-- A stretch of the shifted pool cotangent. -/
def poolLoad (c v : Fin 4) (d : ℕ) (hd : d ≤ 15) : P F A (FVec F S128x128 .f32) := do
  let e : Vec F S1x128x128 .f32 ← Act.load (b_ep A) (run c (8 * (16 * v + d)) (by omega) (by omega)).toLoadRect h_S1x128x128
  pure (shapeCast S128x128 e shapeCasts_S1x128x128_S128x128)

def pool (c v : Fin 4) : P F A (FVec F S128x128 .f32) := do
  let e ← poolLoad A c v 0 (by omega)
  Act.each (more c) (fun d acc => do
    let e ← poolLoad A c v (d + 1) (by have := more_le c; omega)
    pure (addf acc e)) e

/-- The cotangent's own rows. -/
def own1 (c v : Fin 4) : P F A (FVec F S128x128 .f32) := do
  let e : Vec F S1x128x128 .f32 ← Act.load (b_ed A) (run c (128 * v) (by omega) (by omega)).toLoadRect h_S1x128x128
  pure (shapeCast S128x128 e shapeCasts_S1x128x128_S128x128)

/-- The cotangent times the shifted gated rows. -/
def tapProd (c v : Fin 4) (d1 : FVec F S128x128 .f32) (k : Fin 31) : P F A (FVec F S128x128 .f32) := do
  let e : Vec F S1x128x128 .f32 ← Act.load (b_eu A) (run c (8 * (2 + 16 * v + k)) (by omega) (by omega)).toLoadRect h_S1x128x128
  pure (mulf d1 (shapeCast S128x128 e shapeCasts_S1x128x128_S128x128))

/-- Added to the tap's gradient. -/
def tapAdd (c : Fin 4) (k : Fin 31) (p : FVec F S128x128 .f32) : P F A PUnit := do
  let o : Vec F S1x8x128 .f32 ← Act.load (b_dca A) (tapAcc k (128 * c) (by omega) (by omega)).toLoadRect h_S1x8x128
  put1 (b_dca A) (tapAcc k (128 * c) (by omega) (by omega)) h_S1x8x128
    (shapeCast S1x8x128 (addf (shapeCast S8x128 o shapeCasts_S1x8x128_S8x128) (folded p 15 (by omega))) shapeCasts_S8x128_S1x8x128) (View.stores_vmem_bits_univ h_S1x8x128 rfl)

def tapStep (c v : Fin 4) (d1 : FVec F S128x128 .f32) (k : Fin 31) : P F A PUnit := do
  let p ← tapProd A c v d1 k
  tapAdd A c k p

/-- A stretch of the taps. -/
abbrev convs (c v : Fin 4) (m a : ℕ) (h : a + m ≤ 31) (acc : FVec F S128x128 .f32) : P F A (FVec F S128x128 .f32) := Act.span 31 (convStep A c v) m a h acc
abbrev taps (c v : Fin 4) (d1 : FVec F S128x128 .f32) (m a : ℕ) (h : a + m ≤ 31) : P F A PUnit :=
  Act.span 31 (fun k _ => tapStep A c v d1 k) m a h ⟨⟩

/-- The sum of the pool and what follows it. -/
def unitPool (c v : Fin 4) (acc : FVec F S128x128 .f32) : P F A (FVec F S128x128 .f32) := do
  keepSum A 1 (by omega) v acc
  own1 A c v

/-- The sum of the convolution and what follows it, up to the cotangent's own rows. -/
def unitConv (c v : Fin 4) (acc : FVec F S128x128 .f32) : P F A (FVec F S128x128 .f32) := do
  keepSum A 0 (by omega) v acc
  pool A c v

def zero128 : FVec F S128x128 .f32 := broadcast S128x128 (Scalar.ofBits .f32 0x00000000#32)

/-- A stretch of 128 places of a group of lanes. -/
def unit (c v : Fin 4) : P F A PUnit := do
  let acc ← convs A c v 31 0 (by omega) zero128
  let q ← unitConv A c v acc
  let d1 ← unitPool A c v q
  taps A c v d1 31 0 (by omega)

/-! ## The gradient of the projection -/

theorem packed (r l : ℕ) (hr : r + 64 ≤ 512) (hl : l + 128 ≤ 1536) (h : 8 ∣ r) : (block r l hr hl).PackedRows (EltTy.packing .bf16) := by
  refine .inr ⟨by decide, rfl, .inl ⟨?_, ?_⟩⟩
  · show 2 ∣ r; omega
  · show 2 ∣ 64; omega

/-- A block of the projection's gradient, stored. -/
def keepBlock (r l : ℕ) (hr : r + 64 ≤ 512) (hl : l + 128 ≤ 1536) (h : 8 ∣ r) (w : FVec F S64x128 .f32) : P F A PUnit :=
  put1 (b_dz A) (block r l hr hl) h_S64x128 (shapeCast S64x128 (truncf .bf16 w bitsLt_bf16_f32) shapeCasts_S64x128_S64x128)
    (View.stores_vmem h_S64x128 (A.dz_whole.storeExact_slice rfl _ (packed r l hr hl h)) fun _ => rfl)

def gateGrad (c : Fin 4) (j : Fin 8) : P F A PUnit := do
  let s : Vec F S1x64x128 .f32 ← Act.load (b_ss A) (combS 0 j (by omega) (by omega)).toLoadRect h_S1x64x128
  let a : Vec F S64x128 .f32 ← Act.load (b_z A) (block (64 * j) (128 * c) (by omega) (by omega)).toLoadRect h_S64x128
  let b : Vec F S64x128 .f32 ← Act.load (b_z A) (block (64 * j) (512 + 128 * c) (by omega) (by omega)).toLoadRect h_S64x128
  keepBlock A (64 * j) (128 * c) (by omega) (by omega) (by omega)
    (mulf (shapeCast S64x128 s shapeCasts_S1x64x128_S64x128) (logistic (shapeCast S64x128 b shapeCasts_S64x128_S64x128)))
  keepBlock A (64 * j) (512 + 128 * c) (by omega) (by omega) (by omega)
    (mulf (mulf (mulf (shapeCast S64x128 s shapeCasts_S1x64x128_S64x128) (shapeCast S64x128 a shapeCasts_S64x128_S64x128))
        (logistic (shapeCast S64x128 b shapeCasts_S64x128_S64x128)))
      (subf (broadcast S64x128 (Scalar.ofBits .f32 0x3F800000#32)) (logistic (shapeCast S64x128 b shapeCasts_S64x128_S64x128))))

def poolGrad (c : Fin 4) (j : Fin 8) : P F A PUnit := do
  let s : Vec F S1x64x128 .f32 ← Act.load (b_ss A) (combS 1 j (by omega) (by omega)).toLoadRect h_S1x64x128
  let p : Vec F S64x128 .f32 ← Act.load (b_dp A) (rows64 (64 * j) (128 * c) (by omega) (by omega)).toLoadRect h_S64x128
  keepBlock A (64 * j) (1024 + 128 * c) (by omega) (by omega) (by omega) (subf (shapeCast S64x128 s shapeCasts_S1x64x128_S64x128) p)

def grads (c : Fin 4) : P F A PUnit := Act.each 8 (fun j _ => do gateGrad A c j; poolGrad A c j) ⟨⟩

/-! ## The products and the norm -/

/-- The squares' mean of each row, inverted and rooted. -/
def rootInv (x : Vec F S512x1024 .f32) : FVec F S512x1 .f32 :=
  rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))
def unitRows (x : Vec F S512x1024 .f32) : FVec F S512x1024 .f32 := mulf x (broadcastTo S512x1024 (rootInv x) broadcasts_S512x1_S512x1024)

/-- A chunk of the projection's gradient times a chunk of the weights. -/
def chunk (dz : Vec F S512x1536 .bf16) (j : Fin 4) (w : Vec F S1x1024x384 .bf16) : FVec F S512x1024 .f32 :=
  matmul dot_S512x384_S1024x384_S512x1024_1_1_0_0_n_n none (extractStridedSlice S512x384 ![0, 384 * j.val] dz (slice_cols j))
    (shapeCast S1024x384 w shapeCasts_S1x1024x384_S1024x384) (constant S512x1024 .f32 0x00000000#32)

abbrev wBlock (j : Fin 4) : Rect S4x1024x384 :=
  Rect.unit (s := S4x1024x384) ![j.val, 0, 0] S1x1024x384.size (le3 (show j.val + 1 ≤ 4 by omega) (show 0 + 1024 ≤ 1024 by omega) (show 0 + 384 ≤ 384 by omega))
abbrev accBlock (j : Fin 4) : Rect S1024x1536 :=
  Rect.unit (s := S1024x1536) ![0, 384 * j.val] S1024x384.size (le2 (show 0 + 1024 ≤ 1024 by omega) (show 384 * j.val + 384 ≤ 1536 by omega))
abbrev allAcc : Rect S1024x1536 := Rect.unit (s := S1024x1536) ![0, 0] S1024x1536.size inb_S1024x1536_S1024x1536_0_0
abbrev allRows : Rect S512x1024 := Rect.unit (s := S512x1024) ![0, 0] S512x1024.size inb_S512x1024_S512x1024_0_0
abbrev allScale : Rect S1x1024 := Rect.unit (s := S1x1024) ![0, 0] S1x1024.size inb_S1x1024_S1x1024_0_0
abbrev topRow : Rect S8x1024 := Rect.unit (s := S8x1024) ![0, 0] S1x1024.size inb_S8x1024_S1x1024_0_0

/-- The norm's gradient. -/
def normGrad (x : Vec F S512x1024 .f32) (dh : FVec F S512x1024 .f32) (g : Vec F S1x1024 .f32) : FVec F S512x1024 .f32 :=
  mulf (broadcastTo S512x1024 (rootInv x) broadcasts_S512x1_S512x1024)
    (subf (mulf dh (broadcastTo S512x1024 g broadcasts_S1x1024_S512x1024))
      (mulf (unitRows x) (broadcastTo S512x1024 (divf (shapeCast S512x1 (multiReduction .add [1] S512
        (mulf (mulf dh (broadcastTo S512x1024 g broadcasts_S1x1024_S512x1024)) (unitRows x)) 0x00000000#32 reduces_S512x1024_S512 (.inl rfl) rfl) shapeCasts_S512_S512x1)
        (broadcast S512x1 (Scalar.ofBits .f32 0x44800000#32))) broadcasts_S512x1_S512x1024)))

/-- The products with the projection's gradient. -/
def products (x : Vec F S512x1024 .f32) (g : Vec F S1x1024 .f32) : P F A (FVec F S512x1024 .f32) := do
  let dz : Vec F S512x1536 .bf16 ← Act.load (b_dz A) (Rect.unit (s := S512x1536) ![0, 0] S512x1536.size inb_S512x1536_S512x1536_0_0).toLoadRect h_S512x1536
  let acc : Vec F S1024x1536 .f32 ← Act.load (b_acc A) allAcc.toLoadRect h_S1024x1536
  put1 (b_acc A) allAcc h_S1024x1536
    (shapeCast S1024x1536 (addf acc (matmul dot_S512x1024_S512x1536_S1024x1536_0_0_1_1_n_n none
      (truncf .bf16 (mulf (unitRows x) (broadcastTo S512x1024 g broadcasts_S1x1024_S512x1024)) bitsLt_bf16_f32) dz (constant S1024x1536 .f32 0x00000000#32)))
      shapeCasts_S1024x1536_S1024x1536) (View.stores_vmem_bits_univ h_S1024x1536 rfl)
  let w0 : Vec F S1x1024x384 .bf16 ← Act.load (b_w A) (wBlock 0).toLoadRect h_S1x1024x384
  let w1 : Vec F S1x1024x384 .bf16 ← Act.load (b_w A) (wBlock 1).toLoadRect h_S1x1024x384
  let w2 : Vec F S1x1024x384 .bf16 ← Act.load (b_w A) (wBlock 2).toLoadRect h_S1x1024x384
  let w3 : Vec F S1x1024x384 .bf16 ← Act.load (b_w A) (wBlock 3).toLoadRect h_S1x1024x384
  pure (addf (addf (addf (chunk dz 0 w0) (chunk dz 1 w1)) (chunk dz 2 w2)) (chunk dz 3 w3))

theorem packedW (j : Fin 4) : (wBlock j).PackedRows (EltTy.packing .bf16) := by
  refine .inr ⟨by decide, rfl, .inl ⟨?_, ?_⟩⟩
  · show 2 ∣ 0; omega
  · show 2 ∣ 1024; omega

def storeW (j : Fin 4) : P F A PUnit := do
  let a : Vec F S1024x384 .f32 ← Act.load (b_acc A) (accBlock j).toLoadRect h_S1024x384
  put1 (b_dw A) (wBlock j) h_S1x1024x384 (shapeCast S1x1024x384 (truncf .bf16 a bitsLt_bf16_f32) shapeCasts_S1024x384_S1x1024x384)
    (View.stores_vmem h_S1x1024x384 (A.dw_whole.storeExact_slice rfl _ (packedW j)) fun _ => rfl)

/-- At the last point the weights' gradients are stored. -/
def finish (i : grid0.Coords) : P F A PUnit :=
  Act.when (k0_cond2 i = 1#1) do
    Act.each 4 (fun j _ => storeW A j) ⟨⟩
    let d : Vec F S32x8x512 .f32 ← Act.load (b_dca A) (Rect.unit (s := S32x8x512) ![0, 0, 0] S32x8x512.size inb_S32x8x512_S32x8x512_0_0_0).toLoadRect h_S32x8x512
    put1 (b_dc A) (Rect.unit (s := S32x512) ![0, 0] S32x512.size inb_S32x512_S32x512_0_0) h_S32x512
      (multiReduction .add [1] S32x512 d 0x00000000#32 reduces_S32x8x512_S32x512 (.inl rfl) rfl) (View.stores_vmem_bits_univ h_S32x512 rfl)

/-- The rest of a point. -/
def tail (i : grid0.Coords) : P F A PUnit := do
  let x : Vec F S512x1024 .f32 ← Act.load (b_x A) allRows.toLoadRect h_S512x1024
  let g : Vec F S1x1024 .f32 ← Act.load (b_g A) allScale.toLoadRect h_S1x1024
  let dh ← products A x g
  let g : Vec F S1x1024 .f32 ← Act.load (b_g A) allScale.toLoadRect h_S1x1024
  let dx : Vec F S512x1024 .f32 ← Act.load (b_dx A) allRows.toLoadRect h_S512x1024
  put1 (b_gx A) allRows h_S512x1024 (addf dx (normGrad x dh g)) (View.stores_vmem_bits_univ h_S512x1024 rfl)
  let o : Vec F S1x1024 .f32 ← Act.load (b_dg A) topRow.toLoadRect h_S1x1024
  put1 (b_dg A) topRow h_S1x1024
    (addf (shapeCast S1x1024 o shapeCasts_S1x1024_S1x1024)
      (shapeCast S1x1024 (multiReduction .add [0] S1024 (mulf dh (unitRows x)) 0x00000000#32 reduces_S512x1024_S1024 (.inl rfl) rfl) shapeCasts_S1024_S1x1024))
    (View.stores_vmem_bits_univ h_S1x1024 rfl)
  finish A i

/-! ## The whole point -/

/-- The copies of one group of lanes. -/
def copies (i : grid0.Coords) (q : FVec F S32x512 .f32 × FVec F S32x512 .f32) (c : Fin 4) : P F A PUnit := do
  around A i q.1 q.2 c
  Act.each 8 (fun j _ => copy A i c j) ⟨⟩

/-- What comes before the sums. -/
def start (i : grid0.Coords) : P F A PUnit := do
  clear A i
  let q ← gates A i
  Act.each 4 (fun c _ => copies A i q c) ⟨⟩

/-- The sums and the projection's gradient of one group of lanes. -/
def group (c : Fin 4) : P F A PUnit := do
  Act.each 4 (fun v _ => unit A c v) ⟨⟩
  grads A c

/-- The body of a point. -/
def whole (i : grid0.Coords) : P F A PUnit := do
  start A i
  Act.each 4 (fun c _ => group A c) ⟨⟩
  tail A i

end Cert.InBwdIdeal.Body

end
-- ==== Proof.InBwd.Copies.lean ====
/- What the shifted copies hold: every eighth row from `j` on is the block of 64 rows number `j`, with 32 rows of the block beside it. -/
module

public import proofs.«01_k».proof.Proof.InBwd.Body
public import Idealize.ShloMosaic.Lib.Pointwise

@[expose] public section

set_option maxRecDepth 16384

noncomputable section

namespace Cert.InBwdIdeal.Body

open Cert.InBwdIdeal Cert.InBwdIdeal.Gen Cert.Straight
open Idealize.ShloMosaic Idealize.ShloMosaic.TcCoe Idealize.ShloMosaic.Tactic
open Idealize.SL Idealize.SL.RA Idealize.SL.BI

variable {F : FTy → Type} [FloatOps F] {A : Bufs}

/-! ## What the steps leave -/

theorem get_du (σ : St F) : (b_du A).get σ = σ.du := rfl
theorem get_dun (σ : St F) : (b_dun A).get σ = σ.dun := rfl
theorem get_dp (σ : St F) : (b_dp A).get σ = σ.dp := rfl
theorem get_dpn (σ : St F) : (b_dpn A).get σ = σ.dpn := rfl
theorem get_z (σ : St F) : (b_z A).get σ = σ.z := rfl
theorem get_zp (σ : St F) : (b_zp A).get σ = σ.zp := rfl
theorem get_x (σ : St F) : (b_x A).get σ = σ.x := rfl
theorem get_dx (σ : St F) : (b_dx A).get σ = σ.dx := rfl
theorem get_cw (σ : St F) : (b_cw A).get σ = σ.cw := rfl
theorem get_g (σ : St F) : (b_g A).get σ = σ.g := rfl
theorem get_w (σ : St F) : (b_w A).get σ = σ.w := rfl
theorem get_gx (σ : St F) : (b_gx A).get σ = σ.gx := rfl
theorem get_dw (σ : St F) : (b_dw A).get σ = σ.dw := rfl
theorem get_dc (σ : St F) : (b_dc A).get σ = σ.dc := rfl
theorem get_dg (σ : St F) : (b_dg A).get σ = σ.dg := rfl
theorem get_eu (σ : St F) : (b_eu A).get σ = σ.eu := rfl
theorem get_ed (σ : St F) : (b_ed A).get σ = σ.ed := rfl
theorem get_ep (σ : St F) : (b_ep A).get σ = σ.ep := rfl
theorem get_ss (σ : St F) : (b_ss A).get σ = σ.ss := rfl
theorem get_u0 (σ : St F) : (b_u0 A).get σ = σ.u0 := rfl
theorem get_dz (σ : St F) : (b_dz A).get σ = σ.dz := rfl
theorem get_acc (σ : St F) : (b_acc A).get σ = σ.acc := rfl
theorem get_dca (σ : St F) : (b_dca A).get σ = σ.dca := rfl
theorem set_gx (σ : St F) X : (b_gx A).set σ X = {σ with gx := X} := rfl
theorem set_dw (σ : St F) X : (b_dw A).set σ X = {σ with dw := X} := rfl
theorem set_dc (σ : St F) X : (b_dc A).set σ X = {σ with dc := X} := rfl
theorem set_dg (σ : St F) X : (b_dg A).set σ X = {σ with dg := X} := rfl
theorem set_eu (σ : St F) X : (b_eu A).set σ X = {σ with eu := X} := rfl
theorem set_ed (σ : St F) X : (b_ed A).set σ X = {σ with ed := X} := rfl
theorem set_ep (σ : St F) X : (b_ep A).set σ X = {σ with ep := X} := rfl
theorem set_ss (σ : St F) X : (b_ss A).set σ X = {σ with ss := X} := rfl
theorem set_u0 (σ : St F) X : (b_u0 A).set σ X = {σ with u0 := X} := rfl
theorem set_dz (σ : St F) X : (b_dz A).set σ X = {σ with dz := X} := rfl
theorem set_acc (σ : St F) X : (b_acc A).set σ X = {σ with acc := X} := rfl
theorem set_dca (σ : St F) X : (b_dca A).set σ X = {σ with dca := X} := rfl

theorem ends_put1 {s : Shape} {e : EltTy} {S : Buf1 (F := F) A s e} {r : Rect s} {h : 0 < r.shape.numel} {w : r.shape.Idx → Elt F e}
    {hx : (S.mem.access r).Stores Finset.univ} {σ : St F} {Q : PUnit → St F → Prop} (hQ : Q ⟨⟩ (S.set σ (put r w (S.get σ)))) :
    Act.Ends (put1 S r h w hx) σ Q := ⟨hQ⟩

/-! ## Rectangles' members -/

theorem ext2 {m n : ℕ} {p q : (⟨2, ![m, n]⟩ : Shape).Idx} (h0 : (p 0).val = (q 0).val) (h1 : (p 1).val = (q 1).val) : p = q := by
  funext a; match a with | 0 => exact Fin.ext h0 | 1 => exact Fin.ext h1

theorem ext3 {m n k : ℕ} {p q : (⟨3, ![m, n, k]⟩ : Shape).Idx} (h0 : (p 0).val = (q 0).val) (h1 : (p 1).val = (q 1).val) (h2 : (p 2).val = (q 2).val) :
    p = q := by
  funext a; match a with | 0 => exact Fin.ext h0 | 1 => exact Fin.ext h1 | 2 => exact Fin.ext h2

/-- An element of a comb of 64 rows. -/
theorem comb64_mem {c r : ℕ} {hc : c + 1 ≤ 4} {hr : r + 8 * 63 < 768} (y : S4x768x128.Idx) (h0 : (y 0).val = c) (h : r ≤ (y 1).val)
    (h1 : (y 1).val % 8 = r % 8) (h2 : (y 1).val < r + 8 * 64) : ∃ x, (comb64 c r hc hr).emb x = y :=
  ⟨ix3 (0 : Fin 1) (⟨((y 1).val - r) / 8, by omega⟩ : Fin 64) (y 2),
    ext3 (show c + 1 * 0 = _ by omega) (show r + 8 * (((y 1).val - r) / 8) = _ by omega) (show 0 + 1 * (y 2).val = _ by omega)⟩

/-- Of 32 rows. -/
theorem comb32_mem {c r : ℕ} {hc : c + 1 ≤ 4} {hr : r + 8 * 31 < 768} (y : S4x768x128.Idx) (h0 : (y 0).val = c) (h : r ≤ (y 1).val)
    (h1 : (y 1).val % 8 = r % 8) (h2 : (y 1).val < r + 8 * 32) : ∃ x, (comb32 c r hc hr).emb x = y :=
  ⟨ix3 (0 : Fin 1) (⟨((y 1).val - r) / 8, by omega⟩ : Fin 32) (y 2),
    ext3 (show c + 1 * 0 = _ by omega) (show r + 8 * (((y 1).val - r) / 8) = _ by omega) (show 0 + 1 * (y 2).val = _ by omega)⟩

theorem up64 (u : FVec F S64x128 .f32) (x : S1x64x128.Idx) : shapeCast S1x64x128 u shapeCasts_S64x128_S1x64x128 x = u (ix2 (x 1) (x 2)) := by
  pointwise
theorem up32 (u : FVec F S32x128 .f32) (x : S1x32x128.Idx) : shapeCast S1x32x128 u shapeCasts_S32x128_S1x32x128 x = u (ix2 (x 1) (x 2)) := by
  pointwise

/-! ## The contents -/

/-- The gated rows with those before, shifted. -/
def EU (bef : FVec F S32x512 .f32) (u0 : Vec F S512x512 .f32) : Vec F S4x768x128 .f32 := fun y =>
  if h : 64 * ((y 1).val % 8) + (y 1).val / 8 < 32 then
    bef (ix2 (⟨64 * ((y 1).val % 8) + (y 1).val / 8, h⟩ : Fin 32) (⟨128 * (y 0).val + (y 2).val, by have : (y 0).val < 4 := (y 0).isLt; have : (y 2).val < 128 := (y 2).isLt; omega⟩ : Fin 512))
  else u0 (ix2 (⟨64 * ((y 1).val % 8) + (y 1).val / 8 - 32, by have : (y 1).val < 768 := (y 1).isLt; omega⟩ : Fin 512)
    (⟨128 * (y 0).val + (y 2).val, by have : (y 0).val < 4 := (y 0).isLt; have : (y 2).val < 128 := (y 2).isLt; omega⟩ : Fin 512))

/-- The cotangent with its rows after, shifted. -/
def ED (aft : FVec F S32x512 .f32) (du : Vec F S512x512 .f32) : Vec F S4x768x128 .f32 := fun y =>
  if h : 64 * ((y 1).val % 8) + (y 1).val / 8 < 512 then
    du (ix2 (⟨64 * ((y 1).val % 8) + (y 1).val / 8, h⟩ : Fin 512) (⟨128 * (y 0).val + (y 2).val, by have : (y 0).val < 4 := (y 0).isLt; have : (y 2).val < 128 := (y 2).isLt; omega⟩ : Fin 512))
  else aft (ix2 (⟨64 * ((y 1).val % 8) + (y 1).val / 8 - 512, by have : (y 1).val < 768 := (y 1).isLt; omega⟩ : Fin 32)
    (⟨128 * (y 0).val + (y 2).val, by have : (y 0).val < 4 := (y 0).isLt; have : (y 2).val < 128 := (y 2).isLt; omega⟩ : Fin 512))

/-- The pools' cotangent over the counts, with its rows after, shifted. -/
def EP (i : grid0.Coords) (dp : Vec F S512x512 .f32) (dpn : Vec F S32x512 .f32) : Vec F S4x768x128 .f32 := fun y =>
  if h : 64 * ((y 1).val % 8) + (y 1).val / 8 < 512 then
    FloatOps.divf (dp (ix2 (⟨64 * ((y 1).val % 8) + (y 1).val / 8, h⟩ : Fin 512) (⟨128 * (y 0).val + (y 2).val, by have : (y 0).val < 4 := (y 0).isLt; have : (y 2).val < 128 := (y 2).isLt; omega⟩ : Fin 512)))
      (if h : (y 1).val / 8 < 64 then count64 (rowWord i (64 * ((y 1).val % 8))) (y 0) (ix2 (⟨(y 1).val / 8, h⟩ : Fin 64) (y 2))
       else count32 (rowWord i (64 * ((y 1).val % 8 + 1))) (y 0) (ix2 (⟨(y 1).val / 8 - 64, by have : (y 1).val < 768 := (y 1).isLt; omega⟩ : Fin 32) (y 2)))
  else
    FloatOps.divf (FloatOps.mulf (dpn (ix2 (⟨64 * ((y 1).val % 8) + (y 1).val / 8 - 512, by have : (y 1).val < 768 := (y 1).isLt; omega⟩ : Fin 32)
        (⟨128 * (y 0).val + (y 2).val, by have : (y 0).val < 4 := (y 0).isLt; have : (y 2).val < 128 := (y 2).isLt; omega⟩ : Fin 512))) (follows i))
      (count32 (nextWord i) (y 0) (ix2 (⟨64 * ((y 1).val % 8) + (y 1).val / 8 - 512, by have : (y 1).val < 768 := (y 1).isLt; omega⟩ : Fin 32) (y 2)))

/-! ## One block -/

variable (i : grid0.Coords) (bef aft : FVec F S32x512 .f32) (σ₀ : St F)

def doneU (c j : ℕ) (y : S4x768x128.Idx) : Prop :=
  (y 0).val < c ∨ (y 0).val = c ∧ ((y 1).val % 8 < j ∨ (y 1).val % 8 = 0 ∧ (y 1).val < 256)
def doneD (c j : ℕ) (y : S4x768x128.Idx) : Prop :=
  (y 0).val < c ∨ (y 0).val = c ∧ ((y 1).val % 8 < j ∨ (y 1).val % 8 = 7 ∧ 512 ≤ (y 1).val)

/-- The copies up to a block of a group. -/
def Copied (c j : ℕ) (_ : PUnit) (σ : St F) : Prop :=
  ∃ X Y Z, σ = {σ₀ with eu := X, ed := Y, ep := Z} ∧ (∀ y, doneU c j y → X y = EU bef σ₀.u0 y) ∧ (∀ y, doneD c j y → Y y = ED aft σ₀.du y)
    ∧ ∀ y, doneD c j y → Z y = EP i σ₀.dp σ₀.dpn y

section Pieces

variable {c : Fin 4} {j : Fin 8} (u0 du dp : Vec F S512x512 .f32) (dpn : Vec F S32x512 .f32)

theorem eu64 {hr hl hc hk} (x : S1x64x128.Idx) :
    shapeCast S1x64x128 (got (rows64 (64 * j.val) (128 * c.val) hr hl).toLoadRect u0 : FVec F S64x128 .f32) shapeCasts_S64x128_S1x64x128 x
      = EU bef u0 ((comb64 c.val (256 + j.val) hc hk).emb x) := by
  have h0 : (x 0).val = 0 := by have : (x 0).val < 1 := (x 0).isLt; omega
  have h1 : (x 1).val < 64 := (x 1).isLt
  have e0 : ((comb64 c.val (256 + j.val) hc hk).emb x 0).val = c.val + 1 * (x 0).val := rfl
  have e1 : ((comb64 c.val (256 + j.val) hc hk).emb x 1).val = 256 + j.val + 8 * (x 1).val := rfl
  have e2 : ((comb64 c.val (256 + j.val) hc hk).emb x 2).val = 0 + 1 * (x 2).val := rfl
  rw [up64, EU, dif_neg (by omega)]
  refine congrArg u0 (ext2 ?_ ?_)
  · show 64 * j.val + 1 * (x 1).val = _; simp only [ix2_0]; omega
  · show 128 * c.val + 1 * (x 2).val = _; simp only [ix2_1]; omega

theorem eu32 (h : 1 ≤ j.val) {hr hl hc hk} (x : S1x32x128.Idx) :
    shapeCast S1x32x128 (got (rows32 (64 * j.val - 32) (128 * c.val) hr hl).toLoadRect u0 : FVec F S32x128 .f32) shapeCasts_S32x128_S1x32x128 x
      = EU bef u0 ((comb32 c.val j.val hc hk).emb x) := by
  have h0 : (x 0).val = 0 := by have : (x 0).val < 1 := (x 0).isLt; omega
  have h1 : (x 1).val < 32 := (x 1).isLt
  have e0 : ((comb32 c.val j.val hc hk).emb x 0).val = c.val + 1 * (x 0).val := rfl
  have e1 : ((comb32 c.val j.val hc hk).emb x 1).val = j.val + 8 * (x 1).val := rfl
  have e2 : ((comb32 c.val j.val hc hk).emb x 2).val = 0 + 1 * (x 2).val := rfl
  rw [up32, EU, dif_neg (by omega)]
  refine congrArg u0 (ext2 ?_ ?_)
  · show 64 * j.val - 32 + 1 * (x 1).val = _; simp only [ix2_0]; omega
  · show 128 * c.val + 1 * (x 2).val = _; simp only [ix2_1]; omega

theorem eu_before {hc hk} (x : S1x32x128.Idx) :
    shapeCast S1x32x128 (extractStridedSlice S32x128 ![0, 128 * c.val] bef (slice_lanes c)) shapeCasts_S32x128_S1x32x128 x
      = EU bef u0 ((comb32 c.val 0 hc hk).emb x) := by
  have h0 : (x 0).val = 0 := by have : (x 0).val < 1 := (x 0).isLt; omega
  have h1 : (x 1).val < 32 := (x 1).isLt
  have e0 : ((comb32 c.val 0 hc hk).emb x 0).val = c.val + 1 * (x 0).val := rfl
  have e1 : ((comb32 c.val 0 hc hk).emb x 1).val = 0 + 8 * (x 1).val := rfl
  have e2 : ((comb32 c.val 0 hc hk).emb x 2).val = 0 + 1 * (x 2).val := rfl
  rw [up32, EU, dif_pos (by omega)]
  refine congrArg bef (ext2 ?_ ?_)
  · show 0 + (x 1).val = _; simp only [ix2_0]; omega
  · show 128 * c.val + (x 2).val = _; simp only [ix2_1]; omega

theorem ed64 {hr hl hc hk} (x : S1x64x128.Idx) :
    shapeCast S1x64x128 (got (rows64 (64 * j.val) (128 * c.val) hr hl).toLoadRect du : FVec F S64x128 .f32) shapeCasts_S64x128_S1x64x128 x
      = ED aft du ((comb64 c.val j.val hc hk).emb x) := by
  have h0 : (x 0).val = 0 := by have : (x 0).val < 1 := (x 0).isLt; omega
  have h1 : (x 1).val < 64 := (x 1).isLt
  have e0 : ((comb64 c.val j.val hc hk).emb x 0).val = c.val + 1 * (x 0).val := rfl
  have e1 : ((comb64 c.val j.val hc hk).emb x 1).val = j.val + 8 * (x 1).val := rfl
  have e2 : ((comb64 c.val j.val hc hk).emb x 2).val = 0 + 1 * (x 2).val := rfl
  rw [up64, ED, dif_pos (by omega)]
  refine congrArg du (ext2 ?_ ?_)
  · show 64 * j.val + 1 * (x 1).val = _; simp only [ix2_0]; omega
  · show 128 * c.val + 1 * (x 2).val = _; simp only [ix2_1]; omega

theorem ed32 (h : j.val ≤ 6) {hr hl hc hk} (x : S1x32x128.Idx) :
    shapeCast S1x32x128 (got (rows32 (64 * (j.val + 1)) (128 * c.val) hr hl).toLoadRect du : FVec F S32x128 .f32) shapeCasts_S32x128_S1x32x128 x
      = ED aft du ((comb32 c.val (512 + j.val) hc hk).emb x) := by
  have h0 : (x 0).val = 0 := by have : (x 0).val < 1 := (x 0).isLt; omega
  have h1 : (x 1).val < 32 := (x 1).isLt
  have e0 : ((comb32 c.val (512 + j.val) hc hk).emb x 0).val = c.val + 1 * (x 0).val := rfl
  have e1 : ((comb32 c.val (512 + j.val) hc hk).emb x 1).val = 512 + j.val + 8 * (x 1).val := rfl
  have e2 : ((comb32 c.val (512 + j.val) hc hk).emb x 2).val = 0 + 1 * (x 2).val := rfl
  rw [up32, ED, dif_pos (by omega)]
  refine congrArg du (ext2 ?_ ?_)
  · show 64 * (j.val + 1) + 1 * (x 1).val = _; simp only [ix2_0]; omega
  · show 128 * c.val + 1 * (x 2).val = _; simp only [ix2_1]; omega

theorem ed_after {hc hk} (x : S1x32x128.Idx) :
    shapeCast S1x32x128 (extractStridedSlice S32x128 ![0, 128 * c.val] aft (slice_lanes c)) shapeCasts_S32x128_S1x32x128 x
      = ED aft du ((comb32 c.val 519 hc hk).emb x) := by
  have h0 : (x 0).val = 0 := by have : (x 0).val < 1 := (x 0).isLt; omega
  have h1 : (x 1).val < 32 := (x 1).isLt
  have e0 : ((comb32 c.val 519 hc hk).emb x 0).val = c.val + 1 * (x 0).val := rfl
  have e1 : ((comb32 c.val 519 hc hk).emb x 1).val = 519 + 8 * (x 1).val := rfl
  have e2 : ((comb32 c.val 519 hc hk).emb x 2).val = 0 + 1 * (x 2).val := rfl
  rw [up32, ED, dif_neg (by omega)]
  refine congrArg aft (ext2 ?_ ?_)
  · show 0 + (x 1).val = _; simp only [ix2_0]; omega
  · show 128 * c.val + (x 2).val = _; simp only [ix2_1]; omega

theorem EP_own (y : S4x768x128.Idx) (c : Fin 4) (j : Fin 8) (q : Fin 64) (l : Fin 128) (h : y = ix3 c (⟨j.val + 8 * q.val, by omega⟩ : Fin 768) l) :
    EP i dp dpn y = FloatOps.divf (dp (ix2 (⟨64 * j.val + q.val, by omega⟩ : Fin 512) (⟨128 * c.val + l.val, by omega⟩ : Fin 512)))
      (count64 (rowWord i (64 * j.val)) c (ix2 q l)) := by
  subst h
  have a1 : ((ix3 c (⟨j.val + 8 * q.val, by omega⟩ : Fin 768) l : S4x768x128.Idx) 1).val = j.val + 8 * q.val := rfl
  have b1 : ((ix3 c (⟨j.val + 8 * q.val, by omega⟩ : Fin 768) l : S4x768x128.Idx) 1).val % 8 = j.val := by omega
  rw [EP, dif_pos (by omega), dif_pos (by omega)]
  refine congrArg₂ FloatOps.divf (congrArg dp (ext2 ?_ rfl)) (congr (congrArg (fun w => count64 (rowWord i (64 * w)) c) b1) (ext2 ?_ rfl))
  · simp only [ix2_0]; omega
  · show (j.val + 8 * q.val) / 8 = q.val; omega

theorem EP_edge (y : S4x768x128.Idx) (c : Fin 4) (j : Fin 8) (q : Fin 32) (l : Fin 128) (hj : j.val ≤ 6)
    (h : y = ix3 c (⟨512 + j.val + 8 * q.val, by omega⟩ : Fin 768) l) :
    EP i dp dpn y = FloatOps.divf (dp (ix2 (⟨64 * (j.val + 1) + q.val, by omega⟩ : Fin 512) (⟨128 * c.val + l.val, by omega⟩ : Fin 512)))
      (count32 (rowWord i (64 * (j.val + 1))) c (ix2 q l)) := by
  subst h
  have a1 : ((ix3 c (⟨512 + j.val + 8 * q.val, by omega⟩ : Fin 768) l : S4x768x128.Idx) 1).val = 512 + j.val + 8 * q.val := rfl
  have b1 : ((ix3 c (⟨512 + j.val + 8 * q.val, by omega⟩ : Fin 768) l : S4x768x128.Idx) 1).val % 8 = j.val := by omega
  rw [EP, dif_pos (by omega), dif_neg (by omega)]
  refine congrArg₂ FloatOps.divf (congrArg dp (ext2 ?_ rfl)) (congr (congrArg (fun w => count32 (rowWord i (64 * (w + 1))) c) b1) (ext2 ?_ rfl))
  · simp only [ix2_0]; omega
  · show (512 + j.val + 8 * q.val) / 8 - 64 = q.val; omega

theorem EP_after (y : S4x768x128.Idx) (c : Fin 4) (q : Fin 32) (l : Fin 128) (h : y = ix3 c (⟨519 + 8 * q.val, by omega⟩ : Fin 768) l) :
    EP i dp dpn y = FloatOps.divf (FloatOps.mulf (dpn (ix2 q (⟨128 * c.val + l.val, by omega⟩ : Fin 512))) (follows i))
      (count32 (nextWord i) c (ix2 q l)) := by
  subst h
  have a1 : ((ix3 c (⟨519 + 8 * q.val, by omega⟩ : Fin 768) l : S4x768x128.Idx) 1).val = 519 + 8 * q.val := rfl
  rw [EP, dif_neg (by omega)]
  refine congrArg₂ FloatOps.divf (congrArg₂ FloatOps.mulf (congrArg dpn (ext2 ?_ rfl)) rfl) (congrArg (count32 _ _) (ext2 ?_ rfl))
  · show 64 * ((519 + 8 * q.val) % 8) + (519 + 8 * q.val) / 8 - 512 = q.val; omega
  · show 64 * ((519 + 8 * q.val) % 8) + (519 + 8 * q.val) / 8 - 512 = q.val; omega

theorem ep64 {hr hl hc hk} (x : S1x64x128.Idx) :
    shapeCast S1x64x128 (divf (got (rows64 (64 * j.val) (128 * c.val) hr hl).toLoadRect dp : FVec F S64x128 .f32) (count64 (rowWord i (64 * j.val)) c))
        shapeCasts_S64x128_S1x64x128 x
      = EP i dp dpn ((comb64 c.val j.val hc hk).emb x) := by
  have h0 : (x 0).val = 0 := by have : (x 0).val < 1 := (x 0).isLt; omega
  rw [up64, EP_own i dp dpn _ c j (x 1) (x 2) (ext3 (show c.val + 1 * (x 0).val = c.val by omega) (show j.val + 8 * (x 1).val = _ from rfl)
    (show 0 + 1 * (x 2).val = (x 2).val by omega))]
  refine congrArg₂ FloatOps.divf (congrArg dp (ext2 ?_ ?_)) rfl
  · show 64 * j.val + 1 * (x 1).val = _; simp only [ix2_0]; omega
  · show 128 * c.val + 1 * (x 2).val = _; simp only [ix2_1]; omega

theorem ep32 (h : j.val ≤ 6) {hr hl hc hk} (x : S1x32x128.Idx) :
    shapeCast S1x32x128 (divf (got (rows32 (64 * (j.val + 1)) (128 * c.val) hr hl).toLoadRect dp : FVec F S32x128 .f32) (count32 (rowWord i (64 * (j.val + 1))) c))
        shapeCasts_S32x128_S1x32x128 x
      = EP i dp dpn ((comb32 c.val (512 + j.val) hc hk).emb x) := by
  have h0 : (x 0).val = 0 := by have : (x 0).val < 1 := (x 0).isLt; omega
  rw [up32, EP_edge i dp dpn _ c j (x 1) (x 2) h (ext3 (show c.val + 1 * (x 0).val = c.val by omega) (show 512 + j.val + 8 * (x 1).val = _ from rfl)
    (show 0 + 1 * (x 2).val = (x 2).val by omega))]
  refine congrArg₂ FloatOps.divf (congrArg dp (ext2 ?_ ?_)) rfl
  · show 64 * (j.val + 1) + 1 * (x 1).val = _; simp only [ix2_0]; omega
  · show 128 * c.val + 1 * (x 2).val = _; simp only [ix2_1]; omega

theorem ep_after {hl hc hk} (x : S1x32x128.Idx) :
    shapeCast S1x32x128 (divf (mulf (got (lanes32 (128 * c.val) hl).toLoadRect dpn : FVec F S32x128 .f32) (broadcast S32x128 (follows i))) (count32 (nextWord i) c))
        shapeCasts_S32x128_S1x32x128 x
      = EP i dp dpn ((comb32 c.val 519 hc hk).emb x) := by
  have h0 : (x 0).val = 0 := by have : (x 0).val < 1 := (x 0).isLt; omega
  rw [up32, EP_after i dp dpn _ c (x 1) (x 2) (ext3 (show c.val + 1 * (x 0).val = c.val by omega) (show 519 + 8 * (x 1).val = _ from rfl)
    (show 0 + 1 * (x 2).val = (x 2).val by omega))]
  refine congrArg₂ FloatOps.divf (congrArg₂ FloatOps.mulf (congrArg dpn (ext2 ?_ ?_)) rfl) rfl
  · show 0 + 1 * (x 1).val = (x 1).val; omega
  · show 128 * c.val + 1 * (x 2).val = 128 * c.val + (x 2).val; omega

end Pieces

theorem comb64_out {c r : ℕ} {hc : c + 1 ≤ 4} {hr : r + 8 * 63 < 768} {y : S4x768x128.Idx} (h : ∀ x, (comb64 c r hc hr).emb x ≠ y) :
    ¬((y 0).val = c ∧ r ≤ (y 1).val ∧ (y 1).val % 8 = r % 8 ∧ (y 1).val < r + 8 * 64) :=
  fun ⟨h0, h1, h2, h3⟩ => let ⟨x, hx⟩ := comb64_mem y h0 h1 h2 h3; h x hx

theorem comb32_out {c r : ℕ} {hc : c + 1 ≤ 4} {hr : r + 8 * 31 < 768} {y : S4x768x128.Idx} (h : ∀ x, (comb32 c r hc hr).emb x ≠ y) :
    ¬((y 0).val = c ∧ r ≤ (y 1).val ∧ (y 1).val % 8 = r % 8 ∧ (y 1).val < r + 8 * 32) :=
  fun ⟨h0, h1, h2, h3⟩ => let ⟨x, hx⟩ := comb32_mem y h0 h1 h2 h3; h x hx

theorem copy_ends (c : Fin 4) (j : Fin 8) (σ : St F) (h : Copied i bef aft σ₀ c.val j.val ⟨⟩ σ) :
    Act.Ends (copy A i c j) σ (Copied i bef aft σ₀ c.val (j.val + 1)) := by
  obtain ⟨X, Y, Z, rfl, hX, hY, hZ⟩ := h
  unfold copy
  have hj := j.isLt
  by_cases h1 : 1 ≤ j.val <;> by_cases h6 : j.val ≤ 6
  · rw [dif_pos h1, dif_pos h6]
    unfold edgeBefore edgeAfter
    repeat first | refine ends_put1 ?_ | refine Act.ends_load ?_ | refine Act.ends_bind ?_
    simp only [get_u0, get_du, get_dp, get_eu, get_ed, get_ep, set_eu, set_ed, set_ep]
    refine ⟨_, _, _, rfl, fun y hy => ?_, fun y hy => ?_, fun y hy => ?_⟩
    · refine put_agree _ _ _ _ (eu32 bef σ₀.u0 h1) y fun n1 => put_agree _ _ _ _ (eu64 bef σ₀.u0) y fun n2 => hX y ?_
      have n1 := comb32_out n1; have n2 := comb64_out n2
      have : (y 1).val < 768 := (y 1).isLt
      unfold doneU at hy ⊢; omega
    · refine put_agree _ _ _ _ (ed32 aft σ₀.du h6) y fun n1 => put_agree _ _ _ _ (ed64 aft σ₀.du) y fun n2 => hY y ?_
      have n1 := comb32_out n1; have n2 := comb64_out n2
      have : (y 1).val < 768 := (y 1).isLt
      unfold doneD at hy ⊢; omega
    · refine put_agree _ _ _ _ (ep32 i σ₀.dp σ₀.dpn h6) y fun n1 => put_agree _ _ _ _ (ep64 i σ₀.dp σ₀.dpn) y fun n2 => hZ y ?_
      have n1 := comb32_out n1; have n2 := comb64_out n2
      have : (y 1).val < 768 := (y 1).isLt
      unfold doneD at hy ⊢; omega
  · rw [dif_pos h1, dif_neg h6]
    unfold edgeBefore
    repeat first | refine ends_put1 ?_ | refine Act.ends_load ?_ | refine Act.ends_pure ?_ | refine Act.ends_bind ?_
    simp only [get_u0, get_du, get_dp, get_eu, get_ed, get_ep, set_eu, set_ed, set_ep]
    refine ⟨_, _, _, rfl, fun y hy => ?_, fun y hy => ?_, fun y hy => ?_⟩
    · refine put_agree _ _ _ _ (eu32 bef σ₀.u0 h1) y fun n1 => put_agree _ _ _ _ (eu64 bef σ₀.u0) y fun n2 => hX y ?_
      have n1 := comb32_out n1; have n2 := comb64_out n2
      have : (y 1).val < 768 := (y 1).isLt
      unfold doneU at hy ⊢; omega
    · refine put_agree _ _ _ _ (ed64 aft σ₀.du) y fun n2 => hY y ?_
      have n2 := comb64_out n2
      have : (y 1).val < 768 := (y 1).isLt
      unfold doneD at hy ⊢; omega
    · refine put_agree _ _ _ _ (ep64 i σ₀.dp σ₀.dpn) y fun n2 => hZ y ?_
      have n2 := comb64_out n2
      have : (y 1).val < 768 := (y 1).isLt
      unfold doneD at hy ⊢; omega
  · rw [dif_neg h1, dif_pos h6]
    unfold edgeAfter
    repeat first | refine ends_put1 ?_ | refine Act.ends_load ?_ | refine Act.ends_pure ?_ | refine Act.ends_bind ?_
    simp only [get_u0, get_du, get_dp, get_eu, get_ed, get_ep, set_eu, set_ed, set_ep]
    refine ⟨_, _, _, rfl, fun y hy => ?_, fun y hy => ?_, fun y hy => ?_⟩
    · refine put_agree _ _ _ _ (eu64 bef σ₀.u0) y fun n2 => hX y ?_
      have n2 := comb64_out n2
      have : (y 1).val < 768 := (y 1).isLt
      unfold doneU at hy ⊢; omega
    · refine put_agree _ _ _ _ (ed32 aft σ₀.du h6) y fun n1 => put_agree _ _ _ _ (ed64 aft σ₀.du) y fun n2 => hY y ?_
      have n1 := comb32_out n1; have n2 := comb64_out n2
      have : (y 1).val < 768 := (y 1).isLt
      unfold doneD at hy ⊢; omega
    · refine put_agree _ _ _ _ (ep32 i σ₀.dp σ₀.dpn h6) y fun n1 => put_agree _ _ _ _ (ep64 i σ₀.dp σ₀.dpn) y fun n2 => hZ y ?_
      have n1 := comb32_out n1; have n2 := comb64_out n2
      have : (y 1).val < 768 := (y 1).isLt
      unfold doneD at hy ⊢; omega
  · omega

/-- What is known after the groups up to `c`. -/
def AllCopied (c : ℕ) (_ : PUnit) (σ : St F) : Prop :=
  ∃ X Y Z, σ = {σ₀ with eu := X, ed := Y, ep := Z}
    ∧ ∀ y : S4x768x128.Idx, (y 0).val < c → X y = EU bef σ₀.u0 y ∧ Y y = ED aft σ₀.du y ∧ Z y = EP i σ₀.dp σ₀.dpn y

theorem copies_ends (c : Fin 4) (σ : St F) (h : AllCopied i bef aft σ₀ c.val ⟨⟩ σ) :
    Act.Ends (copies A i (bef, aft) c) σ (AllCopied i bef aft σ₀ (c.val + 1)) := by
  obtain ⟨X, Y, Z, rfl, h⟩ := h
  unfold copies around
  refine Act.ends_seq (Copied i bef aft σ₀ c.val 0) ?_ fun _ σ hσ => ?_
  · repeat first | refine ends_put1 ?_ | refine Act.ends_load ?_ | refine Act.ends_bind ?_
    simp only [get_dpn, get_eu, get_ed, get_ep, set_eu, set_ed, set_ep]
    refine ⟨_, _, _, rfl, fun y hy => ?_, fun y hy => ?_, fun y hy => ?_⟩
    · refine put_agree _ _ _ _ (eu_before bef σ₀.u0) y fun n1 => (h y ?_).1
      have n1 := comb32_out n1
      unfold doneU at hy; omega
    · refine put_agree _ _ _ _ (ed_after aft σ₀.du) y fun n1 => (h y ?_).2.1
      have n1 := comb32_out n1
      have : (y 1).val < 768 := (y 1).isLt
      unfold doneD at hy; omega
    · refine put_agree _ _ _ _ (ep_after i σ₀.dp σ₀.dpn) y fun n1 => (h y ?_).2.2
      have n1 := comb32_out n1
      have : (y 1).val < 768 := (y 1).isLt
      unfold doneD at hy; omega
  · refine Act.ends_each (fun j => Copied i bef aft σ₀ c.val j) hσ (fun j _ σ hσ => copy_ends i bef aft σ₀ c j σ hσ) fun _ σ hσ => ?_
    obtain ⟨X, Y, Z, rfl, hX, hY, hZ⟩ := hσ
    refine ⟨X, Y, Z, rfl, fun y hy => ⟨hX y ?_, hY y ?_, hZ y ?_⟩⟩
    · unfold doneU; omega
    · unfold doneD; omega
    · unfold doneD; omega

theorem copies_all (σ : St F) :
    Act.Ends (Act.each 4 (fun c _ => copies A i (bef, aft) c) ⟨⟩) σ fun _ σ' =>
      σ' = {σ with eu := EU bef σ.u0, ed := ED aft σ.du, ep := EP i σ.dp σ.dpn} := by
  refine Act.ends_each (AllCopied i bef aft σ) ⟨σ.eu, σ.ed, σ.ep, rfl, fun y hy => absurd hy (by omega)⟩ (fun c _ σ' h => copies_ends i bef aft σ c σ' h) fun _ σ' h => ?_
  obtain ⟨X, Y, Z, rfl, h⟩ := h
  rw [show X = EU bef σ.u0 from funext fun y => (h y (y 0).isLt).1, show Y = ED aft σ.du from funext fun y => (h y (y 0).isLt).2.1,
    show Z = EP i σ.dp σ.dpn from funext fun y => (h y (y 0).isLt).2.2]

end Cert.InBwdIdeal.Body

end
-- ==== Proof.InBwd.Sums.lean ====
/- What the sums over the shifted copies leave: the convolution's and the pools' sums, the projection's gradient and the taps' partial sums. -/
module

public import proofs.«01_k».proof.Proof.InBwd.Copies

@[expose] public section

set_option maxRecDepth 16384

noncomputable section

namespace Cert.InBwdIdeal.Body

open Cert.InBwdIdeal Cert.InBwdIdeal.Gen Cert.Straight
open Idealize.ShloMosaic Idealize.ShloMosaic.TcCoe Idealize.ShloMosaic.Tactic
open Idealize.SL Idealize.SL.RA Idealize.SL.BI

variable {F : FTy → Type} [FloatOps F] {A : Bufs}

/-! ## The values -/

section Values

variable (cw : Vec F S32x512 .f32) (eu ed ep : Vec F S4x768x128 .f32) (z : Vec F S512x1536 .f32) (dp : Vec F S512x512 .f32) (c v : Fin 4)

/-- A stretch of a shifted copy from a group of eight rows on. -/
def stretch (e : Vec F S4x768x128 .f32) (c : Fin 4) (g : ℕ) (h : g ≤ 80) : FVec F S128x128 .f32 :=
  shapeCast S128x128 (got (run c (8 * g) (by omega) (by omega)).toLoadRect e : Vec F S1x128x128 .f32) shapeCasts_S1x128x128_S128x128

/-- The cotangent's own rows of a stretch. -/
def ownVal (e : Vec F S4x768x128 .f32) (c v : Fin 4) : FVec F S128x128 .f32 :=
  shapeCast S128x128 (got (run c (128 * v) (by omega) (by omega)).toLoadRect e : Vec F S1x128x128 .f32) shapeCasts_S1x128x128_S128x128

def tapRow (c : Fin 4) (k : ℕ) (h : k < 31) : FVec F S1x128 .f32 :=
  shapeCast S1x128 (got (tap k (128 * c) (by omega) (by omega)).toLoadRect cw : Vec F S1x128 .f32) shapeCasts_S1x128_S1x128

/-- The sum of the first taps. -/
def convVal : ℕ → FVec F S128x128 .f32
  | 0 => zero128
  | k + 1 => if h : k < 31 then convAdd (convVal k) (tapRow cw c k h) (stretch ed c (16 * v + 30 - k) (by omega)) else convVal k

/-- The sum of the first rows of the pool's window. -/
def poolVal : ℕ → FVec F S128x128 .f32
  | 0 => stretch ep c (16 * v) (by omega)
  | d + 1 => if h : d < 15 then addf (poolVal d) (stretch ep c (16 * v + (d + 1)) (by omega)) else poolVal d

/-- Eight rows of a tap's gradient. -/
def foldVal (k : ℕ) (h : k < 31) : FVec F S8x128 .f32 :=
  folded (mulf (ownVal ed c v) (stretch eu c (2 + 16 * v + k) (by omega))) 15 (by omega)

/-- The two planes of sums of a group of lanes. -/
def SS : Vec F S2x512x128 .f32 := fun y =>
  if (y 0).val = 0 then convVal cw ed c ⟨(y 1).val / 128, by have : (y 1).val < 512 := (y 1).isLt; omega⟩ 31
    (ix2 (⟨(y 1).val % 128, by omega⟩ : Fin 128) (y 2))
  else poolVal ep c ⟨(y 1).val / 128, by have : (y 1).val < 512 := (y 1).isLt; omega⟩ (more c) (ix2 (⟨(y 1).val % 128, by omega⟩ : Fin 128) (y 2))

/-- The taps' partial sums with the first taps of a stretch added. -/
def dcaTaps (m : ℕ) (d : Vec F S32x8x512 .f32) : Vec F S32x8x512 .f32 := fun y =>
  if h : (y 0).val < m ∧ (y 0).val < 31 ∧ 128 * c.val ≤ (y 2).val ∧ (y 2).val < 128 * c.val + 128 then
    FloatOps.addf (d y) (foldVal eu ed c v (y 0).val h.2.1 (ix2 (y 1) (⟨(y 2).val - 128 * c.val, by omega⟩ : Fin 128)))
  else d y

/-- With the first stretches of a group of lanes added. -/
def dcaUnits : ℕ → Vec F S32x8x512 .f32 → Vec F S32x8x512 .f32
  | 0, d => d
  | v + 1, d => if h : v < 4 then dcaTaps eu ed c ⟨v, h⟩ 31 (dcaUnits v d) else dcaUnits v d

end Values

section Groups

variable (eu ed : Vec F S4x768x128 .f32)

/-- With the first groups of lanes added. -/
def dcaGroups : ℕ → Vec F S32x8x512 .f32 → Vec F S32x8x512 .f32
  | 0, d => d
  | c + 1, d => if h : c < 4 then dcaUnits eu ed ⟨c, h⟩ 4 (dcaGroups c d) else dcaGroups c d

end Groups

/-- The blocks of the projection's gradient. -/
def dzA (ss : Vec F S2x512x128 .f32) (z : Vec F S512x1536 .f32) (c : Fin 4) (j : Fin 8) : FVec F S64x128 .bf16 :=
  truncf .bf16 (mulf (shapeCast S64x128 (got (combS 0 j (by omega) (by omega)).toLoadRect ss : Vec F S1x64x128 .f32) shapeCasts_S1x64x128_S64x128)
    (logistic (shapeCast S64x128 (got (block (64 * j) (512 + 128 * c) (by omega) (by omega)).toLoadRect z : Vec F S64x128 .f32) shapeCasts_S64x128_S64x128))) bitsLt_bf16_f32
def dzB (ss : Vec F S2x512x128 .f32) (z : Vec F S512x1536 .f32) (c : Fin 4) (j : Fin 8) : FVec F S64x128 .bf16 :=
  truncf .bf16 (mulf (mulf (mulf (shapeCast S64x128 (got (combS 0 j (by omega) (by omega)).toLoadRect ss : Vec F S1x64x128 .f32) shapeCasts_S1x64x128_S64x128)
      (shapeCast S64x128 (got (block (64 * j) (128 * c) (by omega) (by omega)).toLoadRect z : Vec F S64x128 .f32) shapeCasts_S64x128_S64x128))
      (logistic (shapeCast S64x128 (got (block (64 * j) (512 + 128 * c) (by omega) (by omega)).toLoadRect z : Vec F S64x128 .f32) shapeCasts_S64x128_S64x128)))
    (subf (broadcast S64x128 (Scalar.ofBits .f32 0x3F800000#32))
      (logistic (shapeCast S64x128 (got (block (64 * j) (512 + 128 * c) (by omega) (by omega)).toLoadRect z : Vec F S64x128 .f32) shapeCasts_S64x128_S64x128)))) bitsLt_bf16_f32
def dzV (ss : Vec F S2x512x128 .f32) (dp : Vec F S512x512 .f32) (c : Fin 4) (j : Fin 8) : FVec F S64x128 .bf16 :=
  truncf .bf16 (subf (shapeCast S64x128 (got (combS 1 j (by omega) (by omega)).toLoadRect ss : Vec F S1x64x128 .f32) shapeCasts_S1x64x128_S64x128)
    (got (rows64 (64 * j) (128 * c) (by omega) (by omega)).toLoadRect dp : Vec F S64x128 .f32)) bitsLt_bf16_f32

/-- The projection's gradient, from the sums of each group. -/
def DZ (S : Fin 4 → Vec F S2x512x128 .f32) (z : Vec F S512x1536 .f32) (dp : Vec F S512x512 .f32) : Vec F S512x1536 .bf16 := fun y =>
  let c : Fin 4 := ⟨(y 1).val % 512 / 128, by omega⟩
  let j : Fin 8 := ⟨(y 0).val / 64, by have : (y 0).val < 512 := (y 0).isLt; omega⟩
  let x : S64x128.Idx := ix2 (⟨(y 0).val % 64, by omega⟩ : Fin 64) (⟨(y 1).val % 128, by omega⟩ : Fin 128)
  if (y 1).val < 512 then dzA (S c) z c j x else if (y 1).val < 1024 then dzB (S c) z c j x else dzV (S c) dp c j x

/-! ## The stretches -/

variable (σ₀ : St F) (c v : Fin 4)

theorem convs_ends : Act.Ends (convs A c v 31 0 (by omega) zero128) σ₀ fun x σ => x = convVal σ₀.cw σ₀.ed c v 31 ∧ σ = σ₀ := by
  refine Act.ends_span (fun k x σ => x = convVal σ₀.cw σ₀.ed c v k ∧ σ = σ₀) (fun k x σ h => ?_) 31 0 31 _ rfl _ _ ⟨rfl, rfl⟩
  obtain ⟨rfl, rfl⟩ := h
  unfold convStep convLoad
  repeat first | refine Act.ends_load ?_ | refine Act.ends_pure ?_ | refine Act.ends_bind ?_
  refine ⟨?_, rfl⟩
  rw [convVal, dif_pos k.isLt]; rfl

theorem pool_ends : Act.Ends (pool A c v) σ₀ fun x σ => x = poolVal σ₀.ep c v (more c) ∧ σ = σ₀ := by
  unfold pool poolLoad
  repeat first | refine Act.ends_load ?_ | refine Act.ends_pure ?_ | refine Act.ends_bind ?_
  refine Act.ends_each (fun k x σ => x = poolVal σ₀.ep c v k ∧ σ = σ₀) ⟨rfl, rfl⟩ (fun k x σ h => ?_) fun _ _ h => h
  obtain ⟨rfl, rfl⟩ := h
  repeat first | refine Act.ends_load ?_ | refine Act.ends_pure ?_ | refine Act.ends_bind ?_
  refine ⟨?_, rfl⟩
  have := more_le c; have := k.isLt
  rw [poolVal, dif_pos (by omega)]; rfl

theorem up8 (u : FVec F S8x128 .f32) (x : S1x8x128.Idx) : shapeCast S1x8x128 u shapeCasts_S8x128_S1x8x128 x = u (ix2 (x 1) (x 2)) := by
  pointwise
theorem down8 (u : Vec F S1x8x128 .f32) (x : S8x128.Idx) : shapeCast S8x128 u shapeCasts_S1x8x128_S8x128 x = u (ix3 0 (x 0) (x 1)) := by
  pointwise
theorem up128 (u : FVec F S128x128 .f32) (x : S1x128x128.Idx) : shapeCast S1x128x128 u shapeCasts_S128x128_S1x128x128 x = u (ix2 (x 1) (x 2)) := by
  pointwise

theorem tap_agree (eu ed : Vec F S4x768x128 .f32) (d : Vec F S32x8x512 .f32) (k : Fin 31) {hk hl} (x : S1x8x128.Idx) :
    shapeCast S1x8x128 (addf (shapeCast S8x128 (got (tapAcc k.val (128 * c.val) hk hl).toLoadRect d : Vec F S1x8x128 .f32) shapeCasts_S1x8x128_S8x128)
      (foldVal eu ed c v k.val k.isLt)) shapeCasts_S8x128_S1x8x128 x
      = FloatOps.addf (d ((tapAcc k.val (128 * c.val) hk hl).emb x)) (foldVal eu ed c v k.val k.isLt (ix2 (x 1) (x 2))) := by
  have h0 : (x 0).val = 0 := by have : (x 0).val < 1 := (x 0).isLt; omega
  rw [up8]
  refine congrArg₂ FloatOps.addf ((down8 _ _).trans (congrArg d (ext3 ?_ rfl rfl))) rfl
  show k.val + 1 * 0 = k.val + 1 * (x 0).val; omega

theorem tapAcc_out {k l : ℕ} {hk : k + 1 ≤ 32} {hl : l + 128 ≤ 512} {y : S32x8x512.Idx} (h : ∀ x, (tapAcc k l hk hl).emb x ≠ y) :
    ¬((y 0).val = k ∧ l ≤ (y 2).val ∧ (y 2).val < l + 128) :=
  fun ⟨h0, h1, h2⟩ => h (ix3 (0 : Fin 1) (y 1) (⟨(y 2).val - l, by omega⟩ : Fin 128))
    (ext3 (show k + 1 * 0 = _ by omega) (show 0 + 1 * (y 1).val = _ by omega) (show l + 1 * ((y 2).val - l) = _ by omega))

theorem foldVal_congr (eu ed : Vec F S4x768x128 .f32) {k k' : ℕ} {h h'} {p p' : S8x128.Idx} (e : k = k') (e' : p = p') :
    foldVal eu ed c v k h p = foldVal eu ed c v k' h' p' := by
  subst e e'; rfl

theorem tap_step (eu ed : Vec F S4x768x128 .f32) (D : Vec F S32x8x512 .f32) (k : Fin 31) {hk hl} :
    put (tapAcc k.val (128 * c.val) hk hl)
      (shapeCast S1x8x128 (addf (shapeCast S8x128 (got (tapAcc k.val (128 * c.val) hk hl).toLoadRect (dcaTaps eu ed c v k.val D) : Vec F S1x8x128 .f32) shapeCasts_S1x8x128_S8x128)
        (foldVal eu ed c v k.val k.isLt)) shapeCasts_S8x128_S1x8x128) (dcaTaps eu ed c v k.val D)
      = dcaTaps eu ed c v (k.val + 1) D := by
  funext y
  refine put_agree _ _ _ _ (fun x => ?_) y fun hy => ?_
  · refine (tap_agree c v eu ed _ k x).trans ?_
    have h0 : (x 0).val = 0 := by have : (x 0).val < 1 := (x 0).isLt; omega
    have h2 : (x 2).val < 128 := (x 2).isLt
    have e0 : ((tapAcc k.val (128 * c.val) hk hl).emb x 0).val = k.val + 1 * (x 0).val := rfl
    have e1 : ((tapAcc k.val (128 * c.val) hk hl).emb x 1).val = 0 + 1 * (x 1).val := rfl
    have e2 : ((tapAcc k.val (128 * c.val) hk hl).emb x 2).val = 128 * c.val + 1 * (x 2).val := rfl
    generalize (tapAcc k.val (128 * c.val) hk hl).emb x = y at e0 e1 e2
    have hk := k.isLt
    rw [dcaTaps, dif_neg (by omega), dcaTaps, dif_pos ⟨by omega, by omega, by omega, by omega⟩]
    refine congrArg₂ FloatOps.addf rfl (foldVal_congr c v eu ed (by omega) (ext2 ?_ ?_))
    · show (x 1).val = (y 1).val; omega
    · show (x 2).val = (y 2).val - 128 * c.val; omega
  · have := tapAcc_out hy
    by_cases h : (y 0).val < k.val ∧ (y 0).val < 31 ∧ 128 * c.val ≤ (y 2).val ∧ (y 2).val < 128 * c.val + 128
    · rw [dcaTaps, dif_pos h, dcaTaps, dif_pos ⟨by omega, h.2⟩]
    · rw [dcaTaps, dif_neg h, dcaTaps, dif_neg (by omega)]

theorem taps_ends :
    Act.Ends (taps A c v (ownVal σ₀.ed c v) 31 0 (by omega) : P F A PUnit) σ₀ fun _ σ =>
      σ = {σ₀ with dca := dcaTaps σ₀.eu σ₀.ed c v 31 σ₀.dca} := by
  refine Act.ends_span (U := UR sig nD τ) (defs := defs₀ (F := F)) (l := parts A) (fun k _ σ => σ = {σ₀ with dca := dcaTaps σ₀.eu σ₀.ed c v k σ₀.dca}) (fun k x σ h => ?_) 31 0 31 _ rfl _ _ ?_
  · subst h
    unfold tapStep tapProd tapAdd
    repeat first | refine ends_put1 ?_ | refine Act.ends_load ?_ | refine Act.ends_pure ?_ | refine Act.ends_bind ?_
    simp only [get_eu, get_dca, set_dca]
    rw [← tap_step]
    rfl
  · rw [show dcaTaps σ₀.eu σ₀.ed c v 0 σ₀.dca = σ₀.dca from funext fun y => by rw [dcaTaps, dif_neg (by omega)]]

theorem runS_out {p r : ℕ} {hp : p + 1 ≤ 2} {hr : r + 128 ≤ 512} {y : S2x512x128.Idx} (h : ∀ x, (runS p r hp hr).emb x ≠ y) :
    ¬((y 0).val = p ∧ r ≤ (y 1).val ∧ (y 1).val < r + 128) :=
  fun ⟨h0, h1, h2⟩ => h (ix3 (0 : Fin 1) (⟨(y 1).val - r, by omega⟩ : Fin 128) (y 2))
    (ext3 (show p + 1 * 0 = _ by omega) (show r + 1 * ((y 1).val - r) = _ by omega) (show 0 + 1 * (y 2).val = _ by omega))

theorem ss_conv (cw : Vec F S32x512 .f32) (ed ep : Vec F S4x768x128 .f32) {hp hr} (x : S1x128x128.Idx) :
    shapeCast S1x128x128 (convVal cw ed c v 31) shapeCasts_S128x128_S1x128x128 x = SS cw ed ep c ((runS 0 (128 * v.val) hp hr).emb x) := by
  have h0 : (x 0).val = 0 := by have : (x 0).val < 1 := (x 0).isLt; omega
  have h1 : (x 1).val < 128 := (x 1).isLt
  have e0 : ((runS 0 (128 * v.val) hp hr).emb x 0).val = 0 + 1 * (x 0).val := rfl
  have e1 : ((runS 0 (128 * v.val) hp hr).emb x 1).val = 128 * v.val + 1 * (x 1).val := rfl
  have e2 : ((runS 0 (128 * v.val) hp hr).emb x 2).val = 0 + 1 * (x 2).val := rfl
  rw [up128, SS, if_pos (by omega)]
  refine congr (congrArg (fun v => convVal cw ed c v 31) (Fin.ext ?_)) (ext2 ?_ ?_)
  · show v.val = _ / 128; omega
  · show (x 1).val = _ % 128; omega
  · show (x 2).val = ((runS _ (128 * v.val) hp hr).emb x 2).val; omega

theorem ss_pool (cw : Vec F S32x512 .f32) (ed ep : Vec F S4x768x128 .f32) {hp hr} (x : S1x128x128.Idx) :
    shapeCast S1x128x128 (poolVal ep c v (more c)) shapeCasts_S128x128_S1x128x128 x = SS cw ed ep c ((runS 1 (128 * v.val) hp hr).emb x) := by
  have h0 : (x 0).val = 0 := by have : (x 0).val < 1 := (x 0).isLt; omega
  have h1 : (x 1).val < 128 := (x 1).isLt
  have e0 : ((runS 1 (128 * v.val) hp hr).emb x 0).val = 1 + 1 * (x 0).val := rfl
  have e1 : ((runS 1 (128 * v.val) hp hr).emb x 1).val = 128 * v.val + 1 * (x 1).val := rfl
  have e2 : ((runS 1 (128 * v.val) hp hr).emb x 2).val = 0 + 1 * (x 2).val := rfl
  rw [up128, SS, if_neg (by omega)]
  refine congr (congrArg (fun v => poolVal ep c v (more c)) (Fin.ext ?_)) (ext2 ?_ ?_)
  · show v.val = _ / 128; omega
  · show (x 1).val = _ % 128; omega
  · show (x 2).val = ((runS _ (128 * v.val) hp hr).emb x 2).val; omega

/-- What is known after the first stretches of a group. -/
def Summed (v : ℕ) (_ : PUnit) (σ : St F) : Prop :=
  ∃ S, σ = {σ₀ with ss := S, dca := dcaUnits σ₀.eu σ₀.ed c v σ₀.dca} ∧ ∀ y : S2x512x128.Idx, (y 1).val < 128 * v → S y = SS σ₀.cw σ₀.ed σ₀.ep c y

theorem unit_ends (σ : St F) (h : Summed σ₀ c v.val ⟨⟩ σ) : Act.Ends (unit A c v) σ (Summed σ₀ c (v.val + 1)) := by
  obtain ⟨S, rfl, hS⟩ := h
  unfold unit
  refine Act.ends_seq _ (convs_ends (A := A) _ c v) fun x σ h => ?_
  obtain ⟨rfl, rfl⟩ := h
  unfold unitConv unitPool keepSum own1
  refine Act.ends_bind (Act.ends_bind (ends_put1 ?_))
  refine (pool_ends (A := A) _ c v).mono fun x σ h => ?_
  obtain ⟨rfl, rfl⟩ := h
  refine Act.ends_bind (Act.ends_bind (ends_put1 (Act.ends_bind (Act.ends_load (Act.ends_pure ?_)))))
  refine Act.Ends.mono (taps_ends (A := A) _ c v) fun _ σ h => ?_
  subst h
  simp only [get_ed, get_ss, set_ss]
  rw [← show dcaUnits σ₀.eu σ₀.ed c (v.val + 1) σ₀.dca = dcaTaps σ₀.eu σ₀.ed c v 31 (dcaUnits σ₀.eu σ₀.ed c v σ₀.dca) by
    rw [dcaUnits, dif_pos v.isLt]]
  refine ⟨_, rfl, fun y hy => ?_⟩
  · refine put_agree _ _ _ _ (ss_pool c v σ₀.cw σ₀.ed σ₀.ep) y fun n1 => put_agree _ _ _ _ (ss_conv c v σ₀.cw σ₀.ed σ₀.ep) y fun n2 => hS y ?_
    have n1 := runS_out n1; have n2 := runS_out n2
    have : (y 0).val < 2 := (y 0).isLt
    omega

theorem block_out {r l : ℕ} {hr : r + 64 ≤ 512} {hl : l + 128 ≤ 1536} {y : S512x1536.Idx} (h : ∀ x, (block r l hr hl).emb x ≠ y) :
    ¬(r ≤ (y 0).val ∧ (y 0).val < r + 64 ∧ l ≤ (y 1).val ∧ (y 1).val < l + 128) :=
  fun ⟨h0, h1, h2, h3⟩ => h (ix2 (⟨(y 0).val - r, by omega⟩ : Fin 64) (⟨(y 1).val - l, by omega⟩ : Fin 128))
    (ext2 (show r + 1 * ((y 0).val - r) = _ by omega) (show l + 1 * ((y 1).val - l) = _ by omega))

section Blocks

variable (S : Fin 4 → Vec F S2x512x128 .f32) (z : Vec F S512x1536 .f32) (dp : Vec F S512x512 .f32) (j : Fin 8)

theorem dz_a (y : S512x1536.Idx) (x : S64x128.Idx) (h0 : (y 0).val = 64 * j.val + (x 0).val) (h1 : (y 1).val = 128 * c.val + (x 1).val) :
    dzA (S c) z c j x = DZ S z dp y := by
  have b0 : (x 0).val < 64 := (x 0).isLt
  have b1 : (x 1).val < 128 := (x 1).isLt
  have hc : (⟨(y 1).val % 512 / 128, by omega⟩ : Fin 4) = c := Fin.ext (show (y 1).val % 512 / 128 = c.val by omega)
  have hj : (⟨(y 0).val / 64, by omega⟩ : Fin 8) = j := Fin.ext (show (y 0).val / 64 = j.val by omega)
  have hx : (ix2 (⟨(y 0).val % 64, by omega⟩ : Fin 64) (⟨(y 1).val % 128, by omega⟩ : Fin 128) : S64x128.Idx) = x :=
    ext2 (show (y 0).val % 64 = _ by omega) (show (y 1).val % 128 = _ by omega)
  unfold DZ
  simp only [hc, hj, hx]
  rw [if_pos (by omega)]

theorem dz_b (y : S512x1536.Idx) (x : S64x128.Idx) (h0 : (y 0).val = 64 * j.val + (x 0).val) (h1 : (y 1).val = 512 + 128 * c.val + (x 1).val) :
    dzB (S c) z c j x = DZ S z dp y := by
  have b0 : (x 0).val < 64 := (x 0).isLt
  have b1 : (x 1).val < 128 := (x 1).isLt
  have hc : (⟨(y 1).val % 512 / 128, by omega⟩ : Fin 4) = c := Fin.ext (show (y 1).val % 512 / 128 = c.val by omega)
  have hj : (⟨(y 0).val / 64, by omega⟩ : Fin 8) = j := Fin.ext (show (y 0).val / 64 = j.val by omega)
  have hx : (ix2 (⟨(y 0).val % 64, by omega⟩ : Fin 64) (⟨(y 1).val % 128, by omega⟩ : Fin 128) : S64x128.Idx) = x :=
    ext2 (show (y 0).val % 64 = _ by omega) (show (y 1).val % 128 = _ by omega)
  unfold DZ
  simp only [hc, hj, hx]
  rw [if_neg (by omega), if_pos (by omega)]

theorem dz_v (y : S512x1536.Idx) (x : S64x128.Idx) (h0 : (y 0).val = 64 * j.val + (x 0).val) (h1 : (y 1).val = 1024 + 128 * c.val + (x 1).val) :
    dzV (S c) dp c j x = DZ S z dp y := by
  have b0 : (x 0).val < 64 := (x 0).isLt
  have b1 : (x 1).val < 128 := (x 1).isLt
  have hc : (⟨(y 1).val % 512 / 128, by omega⟩ : Fin 4) = c := Fin.ext (show (y 1).val % 512 / 128 = c.val by omega)
  have hj : (⟨(y 0).val / 64, by omega⟩ : Fin 8) = j := Fin.ext (show (y 0).val / 64 = j.val by omega)
  have hx : (ix2 (⟨(y 0).val % 64, by omega⟩ : Fin 64) (⟨(y 1).val % 128, by omega⟩ : Fin 128) : S64x128.Idx) = x :=
    ext2 (show (y 0).val % 64 = _ by omega) (show (y 1).val % 128 = _ by omega)
  unfold DZ
  simp only [hc, hj, hx]
  rw [if_neg (by omega), if_neg (by omega)]

end Blocks

/-- What is known after the first blocks of rows of a group. -/
def Graded (S : Fin 4 → Vec F S2x512x128 .f32) (j : ℕ) (_ : PUnit) (σ : St F) : Prop :=
  ∃ Z, σ = {σ₀ with dz := Z} ∧ ∀ y : S512x1536.Idx,
    (y 1).val % 512 / 128 < c ∨ (y 1).val % 512 / 128 = c ∧ (y 0).val < 64 * j → Z y = DZ S σ₀.z σ₀.dp y

theorem grad_ends (S : Fin 4 → Vec F S2x512x128 .f32) (hS : σ₀.ss = S c) (j : Fin 8) (σ : St F) (h : Graded σ₀ c S j.val ⟨⟩ σ) :
    Act.Ends (gateGrad A c j >>= fun _ => poolGrad A c j) σ (Graded σ₀ c S (j.val + 1)) := by
  obtain ⟨Z, rfl, hZ⟩ := h
  unfold gateGrad poolGrad keepBlock
  repeat first | refine ends_put1 ?_ | refine Act.ends_load ?_ | refine Act.ends_pure ?_ | refine Act.ends_bind ?_
  simp only [get_ss, get_z, get_dp, get_dz, set_dz]
  refine ⟨_, rfl, fun y hy => ?_⟩
  simp only [hS]
  refine put_agree _ _ _ _ (fun x => (congrFun (shapeCast_id _ _) x).trans (dz_v c S σ₀.z σ₀.dp j _ x (show 64 * j.val + 1 * (x 0).val = _ by omega)
    (show 1024 + 128 * c.val + 1 * (x 1).val = _ by omega))) y fun n1 =>
    put_agree _ _ _ _ (fun x => (congrFun (shapeCast_id _ _) x).trans (dz_b c S σ₀.z σ₀.dp j _ x (show 64 * j.val + 1 * (x 0).val = _ by omega)
    (show 512 + 128 * c.val + 1 * (x 1).val = _ by omega))) y fun n2 =>
    put_agree _ _ _ _ (fun x => (congrFun (shapeCast_id _ _) x).trans (dz_a c S σ₀.z σ₀.dp j _ x (show 64 * j.val + 1 * (x 0).val = _ by omega)
    (show 128 * c.val + 1 * (x 1).val = _ by omega))) y fun n3 => hZ y ?_
  have n1 := block_out n1; have n2 := block_out n2; have n3 := block_out n3
  have : (y 1).val < 1536 := (y 1).isLt
  omega

/-- What is known after the first groups. -/
def Grouped (S : Fin 4 → Vec F S2x512x128 .f32) (c : ℕ) (_ : PUnit) (σ : St F) : Prop :=
  ∃ R Z, σ = {σ₀ with ss := R, dz := Z, dca := dcaGroups σ₀.eu σ₀.ed c σ₀.dca} ∧ ∀ y : S512x1536.Idx, (y 1).val % 512 / 128 < c → Z y = DZ S σ₀.z σ₀.dp y

theorem group_ends (σ : St F) (h : Grouped σ₀ (SS σ₀.cw σ₀.ed σ₀.ep) c.val ⟨⟩ σ) :
    Act.Ends (group A c) σ (Grouped σ₀ (SS σ₀.cw σ₀.ed σ₀.ep) (c.val + 1)) := by
  obtain ⟨R, Z, rfl, hZ⟩ := h
  unfold group grads
  refine Act.ends_seq _ (Act.ends_each (Summed {σ₀ with ss := R, dz := Z, dca := dcaGroups σ₀.eu σ₀.ed c σ₀.dca} c) ⟨R, rfl, fun y hy => absurd hy (by omega)⟩ (fun v _ σ h => unit_ends _ c v σ h) fun _ _ h => h) fun _ σ h => ?_
  obtain ⟨R', rfl, hR⟩ := h
  have eR : R' = SS σ₀.cw σ₀.ed σ₀.ep c := funext fun y => hR y (by have : (y 1).val < 512 := (y 1).isLt; omega)
  rw [← show dcaGroups σ₀.eu σ₀.ed (c.val + 1) σ₀.dca = dcaUnits σ₀.eu σ₀.ed c 4 (dcaGroups σ₀.eu σ₀.ed c σ₀.dca) by
    rw [dcaGroups, dif_pos c.isLt]]
  refine Act.ends_each (Graded {σ₀ with ss := R', dz := Z, dca := dcaGroups σ₀.eu σ₀.ed (c.val + 1) σ₀.dca} c (SS σ₀.cw σ₀.ed σ₀.ep)) ⟨Z, rfl, fun y hy => hZ y (by omega)⟩
    (fun j _ σ h => grad_ends _ c (SS σ₀.cw σ₀.ed σ₀.ep) eR j σ h) fun _ σ h => ?_
  obtain ⟨Z', rfl, hZ'⟩ := h
  exact ⟨_, _, rfl, fun y hy => hZ' y (by have : (y 0).val < 512 := (y 0).isLt; omega)⟩

theorem groups_all (σ : St F) :
    Act.Ends (Act.each 4 (fun c _ => group A c) ⟨⟩) σ fun _ σ' => ∃ R,
      σ' = {σ with ss := R, dz := DZ (SS σ.cw σ.ed σ.ep) σ.z σ.dp, dca := dcaGroups σ.eu σ.ed 4 σ.dca} := by
  refine Act.ends_each (Grouped σ (SS σ.cw σ.ed σ.ep)) ⟨σ.ss, σ.dz, rfl, fun y hy => absurd hy (by omega)⟩
    (fun c _ σ' h => group_ends σ c σ' h) fun _ σ' h => ?_
  obtain ⟨R, Z, rfl, h⟩ := h
  rw [show Z = DZ (SS σ.cw σ.ed σ.ep) σ.z σ.dp from funext fun y => h y (by omega)]
  exact ⟨R, rfl⟩

end Cert.InBwdIdeal.Body

end
-- ==== Proof.InBwd.Point.lean ====
/- What one point leaves in its buffers. -/
module

public import proofs.«01_k».proof.Proof.InBwd.Copies
public import proofs.«01_k».proof.Proof.InBwd.Sums

@[expose] public section

set_option maxRecDepth 16384

noncomputable section

namespace Cert.InBwdIdeal.Body

open Cert.InBwdIdeal Cert.InBwdIdeal.Gen Cert.Straight
open Idealize.ShloMosaic Idealize.ShloMosaic.TcCoe Idealize.ShloMosaic.Tactic
open Idealize.SL Idealize.SL.RA Idealize.SL.BI

variable {F : FTy → Type} [FloatOps F] {A : Bufs}

/-! ## Whole rectangles -/

section Whole

variable {β : Type} {s : Shape} {off : Fin s.rank → ℕ} {inb : ∀ a, off a + s.size a ≤ s.size a}

theorem emb_full (h0 : ∀ a, off a = 0) (y : s.Idx) : (Rect.unit (s := s) off s.size inb).emb y = y :=
  funext fun a => Fin.ext (show off a + 1 * (y a).val = (y a).val by rw [h0]; omega)

theorem put_full (h0 : ∀ a, off a = 0) (w : (Rect.unit (s := s) off s.size inb).shape.Idx → β) (X : s.Idx → β) :
    put (Rect.unit (s := s) off s.size inb) w X = w :=
  funext fun y => (congrArg (put _ w X) (emb_full h0 y).symm).trans (put_emb _ w X y)

theorem got_full (h0 : ∀ a, off a = 0) (X : s.Idx → β) : got (Rect.unit (s := s) off s.size inb).toLoadRect X = X :=
  funext fun y => congrArg X (emb_full h0 y)

end Whole

theorem zero2 : ∀ a : Fin 2, (![0, 0] : Fin 2 → ℕ) a = 0 := by decide
theorem zero3 : ∀ a : Fin 3, (![0, 0, 0] : Fin 3 → ℕ) a = 0 := by decide

theorem ends_put_full {s : Shape} {e : EltTy} {S : Buf1 (F := F) A s e} {off : Fin s.rank → ℕ} {inb : ∀ a, off a + s.size a ≤ s.size a}
    {h : 0 < (Rect.unit (s := s) off s.size inb).shape.numel} {w : (Rect.unit (s := s) off s.size inb).shape.Idx → Elt F e}
    {hx : (S.mem.access (Rect.unit (s := s) off s.size inb)).Stores Finset.univ} {σ : St F} {Q : PUnit → St F → Prop} (h0 : ∀ a, off a = 0)
    (hQ : Q ⟨⟩ (S.set σ w)) : Act.Ends (put1 S (Rect.unit (s := s) off s.size inb) h w hx) σ Q :=
  ends_put1 (by rw [put_full h0]; exact hQ)

theorem ends_load_full {s : Shape} {e : EltTy} {S : Buf1 (F := F) A s e} {off : Fin s.rank → ℕ} {inb : ∀ a, off a + s.size a ≤ s.size a}
    {h : 0 < (Rect.unit (s := s) off s.size inb).toLoadRect.shape.numel} {σ : St F} {Q : (s.Idx → Elt F e) → St F → Prop} (h0 : ∀ a, off a = 0)
    (hQ : Q (S.get σ) σ) : Act.Ends (Act.load S (Rect.unit (s := s) off s.size inb).toLoadRect h : P F A _) σ Q :=
  Act.ends_load (by rw [got_full h0]; exact hQ)

/-! ## The values a point leaves -/

/-- The gated rows. -/
def U0 (z : Vec F S512x1536 .f32) : Vec F S512x512 .f32 :=
  mulf (got (half 0 (by omega)).toLoadRect z : Vec F S512x512 .f32) (logistic (got (half 512 (by omega)).toLoadRect z : Vec F S512x512 .f32))

def zeros (s : Shape) : Vec F s .f32 := broadcast s (Scalar.ofBits .f32 0x00000000#32)

/-- The rows of a point with the accumulators cleared at the first. -/
def opened (i : grid0.Coords) (σ : St F) : St F := if first i then {σ with acc := zeros S1024x1536, dca := zeros S32x8x512, dg := zeros S8x1024} else σ

def eu0 (i : grid0.Coords) (σ : St F) : Vec F S4x768x128 .f32 := EU (gateBefore i σ.zp) (U0 σ.z)
def ed0 (i : grid0.Coords) (σ : St F) : Vec F S4x768x128 .f32 := ED (mulf σ.dun (broadcast S32x512 (follows i))) σ.du
def ep0 (i : grid0.Coords) (σ : St F) : Vec F S4x768x128 .f32 := EP i σ.dp σ.dpn
/-- The projection's gradient. -/
def dz0 (i : grid0.Coords) (σ : St F) : Vec F S512x1536 .bf16 := DZ (SS σ.cw (ed0 i σ) (ep0 i σ)) σ.z σ.dp

/-- The weights' sum with the point's rows added. -/
def accAdd (x : Vec F S512x1024 .f32) (g : Vec F S1x1024 .f32) (dz : Vec F S512x1536 .bf16) (acc : Vec F S1024x1536 .f32) : Vec F S1024x1536 .f32 :=
  addf acc (matmul dot_S512x1024_S512x1536_S1024x1536_0_0_1_1_n_n none
    (truncf .bf16 (mulf (unitRows x) (broadcastTo S512x1024 g broadcasts_S1x1024_S512x1024)) bitsLt_bf16_f32) dz (constant S1024x1536 .f32 0x00000000#32))

/-- The normed rows' gradient. -/
def dh0 (w : Vec F S4x1024x384 .bf16) (dz : Vec F S512x1536 .bf16) : FVec F S512x1024 .f32 :=
  addf (addf (addf (chunk dz 0 (got (wBlock 0).toLoadRect w)) (chunk dz 1 (got (wBlock 1).toLoadRect w))) (chunk dz 2 (got (wBlock 2).toLoadRect w)))
    (chunk dz 3 (got (wBlock 3).toLoadRect w))

/-- The scale's sum with the point's rows added. -/
def dgAdd (x : Vec F S512x1024 .f32) (dh : FVec F S512x1024 .f32) (d : Vec F S8x1024 .f32) : Vec F S8x1024 .f32 :=
  put topRow (addf (shapeCast S1x1024 (got topRow.toLoadRect d : Vec F S1x1024 .f32) shapeCasts_S1x1024_S1x1024)
    (shapeCast S1x1024 (multiReduction .add [0] S1024 (mulf dh (unitRows x)) 0x00000000#32 reduces_S512x1024_S1024 (.inl rfl) rfl) shapeCasts_S1024_S1x1024)) d

/-- The weights' sum, rounded, in its four blocks. -/
def dwOut (acc : Vec F S1024x1536 .f32) : Vec F S4x1024x384 .bf16 := fun y =>
  truncf .bf16 (got (accBlock (y 0)).toLoadRect acc : Vec F S1024x384 .f32) bitsLt_bf16_f32 (ix2 (y 1) (y 2))

/-- The taps' sum. -/
def dcOut (d : Vec F S32x8x512 .f32) : Vec F S32x512 .f32 := multiReduction .add [1] S32x512 d 0x00000000#32 reduces_S32x8x512_S32x512 (.inl rfl) rfl

/-- What a point leaves, but for the planes of sums. -/
def closed (i : grid0.Coords) (σ : St F) : St F :=
  let dz := dz0 i σ
  let acc := accAdd σ.x σ.g dz σ.acc
  let dca := dcaGroups (eu0 i σ) (ed0 i σ) 4 σ.dca
  {σ with
    gx := addf σ.dx (normGrad σ.x (dh0 σ.w dz) σ.g)
    dw := if k0_cond2 i = 1#1 then dwOut acc else σ.dw
    dc := if k0_cond2 i = 1#1 then dcOut dca else σ.dc
    dg := dgAdd σ.x (dh0 σ.w dz) σ.dg
    eu := eu0 i σ, ed := ed0 i σ, ep := ep0 i σ, u0 := U0 σ.z, dz := dz, acc := acc, dca := dca}

/-! ## The start -/

theorem clear_ends (i : grid0.Coords) (σ : St F) : Act.Ends (clear A i) σ fun _ σ' => σ' = opened i σ := by
  unfold clear
  refine Act.ends_when (fun h => ?_) (fun h => ?_)
  · unfold clearAll
    repeat first | (refine ends_put_full ?_ ?_; (first | exact zero2 | exact zero3)) | (refine ends_load_full ?_ ?_; (first | exact zero2 | exact zero3)) | refine ends_put1 ?_ | refine Act.ends_load ?_ | refine Act.ends_pure ?_ | refine Act.ends_bind ?_
    rw [opened, if_pos h]
    simp only [set_acc, set_dca, set_dg, shapeCast_id]
    rfl
  · rw [opened, if_neg h]

theorem gates_ends (i : grid0.Coords) (σ : St F) : Act.Ends (gates A i) σ fun q σ' =>
    q = (gateBefore i σ.zp, mulf σ.dun (broadcast S32x512 (follows i))) ∧ σ' = {σ with u0 := U0 σ.z} := by
  unfold gates
  repeat first | (refine ends_put_full ?_ ?_; (first | exact zero2 | exact zero3)) | (refine ends_load_full ?_ ?_; (first | exact zero2 | exact zero3)) | refine ends_put1 ?_ | refine Act.ends_load ?_ | refine Act.ends_pure ?_ | refine Act.ends_bind ?_
  simp only [get_zp, get_z, get_dun, set_u0, shapeCast_id]
  exact ⟨trivial, rfl⟩

theorem start_ends (i : grid0.Coords) (σ : St F) : Act.Ends (start A i) σ fun _ σ' =>
    σ' = {opened i σ with eu := eu0 i (opened i σ), ed := ed0 i (opened i σ), ep := ep0 i (opened i σ), u0 := U0 (opened i σ).z} := by
  unfold start
  refine Act.ends_seq _ (clear_ends i σ) fun _ σ' h => ?_
  subst h
  refine Act.ends_seq _ (gates_ends i (opened i σ)) fun q σ' h => ?_
  obtain ⟨rfl, rfl⟩ := h
  exact (copies_all i _ _ _).mono fun _ σ' h => h

/-! ## The end -/

/-- What is known after the first blocks of the weights' gradient. -/
def Stored (σ₀ : St F) (j : ℕ) (_ : PUnit) (σ : St F) : Prop :=
  ∃ W, σ = {σ₀ with dw := W} ∧ ∀ y : S4x1024x384.Idx, (y 0).val < j → W y = dwOut σ₀.acc y

theorem upW (u : FVec F S1024x384 .bf16) (x : S1x1024x384.Idx) : shapeCast S1x1024x384 u shapeCasts_S1024x384_S1x1024x384 x = u (ix2 (x 1) (x 2)) := by
  pointwise

theorem storeW_ends (σ₀ : St F) (j : Fin 4) (σ : St F) (h : Stored σ₀ j.val ⟨⟩ σ) : Act.Ends (storeW A j) σ (Stored σ₀ (j.val + 1)) := by
  obtain ⟨W, rfl, hW⟩ := h
  unfold storeW
  repeat first | (refine ends_put_full ?_ ?_; (first | exact zero2 | exact zero3)) | (refine ends_load_full ?_ ?_; (first | exact zero2 | exact zero3)) | refine ends_put1 ?_ | refine Act.ends_load ?_ | refine Act.ends_pure ?_ | refine Act.ends_bind ?_
  simp only [get_acc, get_dw, set_dw]
  refine ⟨_, rfl, fun y hy => ?_⟩
  have e : ∀ x : S1x1024x384.Idx, (wBlock j).emb x = ix3 j (x 1) (x 2) := fun x =>
    ext3 (show j.val + 1 * (x 0).val = j.val from by rw [Fin.val_eq_zero (x 0)]; rfl) ((Nat.zero_add _).trans (Nat.one_mul _)) ((Nat.zero_add _).trans (Nat.one_mul _))
  have hw : ∀ x : S1x1024x384.Idx, shapeCast S1x1024x384 (truncf .bf16 (got (accBlock j).toLoadRect σ₀.acc : Vec F S1024x384 .f32) bitsLt_bf16_f32)
      shapeCasts_S1024x384_S1x1024x384 x = dwOut σ₀.acc ((wBlock j).emb x) := fun x => by rw [e x]; exact upW _ x
  refine put_agree _ _ _ _ hw y fun n => hW y ?_
  · by_contra hn
    have hj : (y 0).val = j.val := by omega
    exact n (ix3 0 (y 1) (y 2)) ((e _).trans (ext3 hj.symm rfl rfl))

theorem finish_ends (i : grid0.Coords) (σ : St F) : Act.Ends (finish A i) σ fun _ σ' =>
    σ' = {σ with dw := if k0_cond2 i = 1#1 then dwOut σ.acc else σ.dw, dc := if k0_cond2 i = 1#1 then dcOut σ.dca else σ.dc} := by
  unfold finish
  refine Act.ends_when (fun h => ?_) (fun h => ?_)
  · simp only [if_pos h]
    refine Act.ends_seq _ (Act.ends_each (Stored σ) ⟨σ.dw, rfl, fun y hy => absurd hy (by omega)⟩ (fun j _ σ' h => storeW_ends σ j σ' h)
      (Q := fun _ σ' => σ' = {σ with dw := dwOut σ.acc}) fun _ σ' h => ?_) fun _ σ' h => ?_
    · obtain ⟨W, rfl, hW⟩ := h
      rw [show W = dwOut σ.acc from funext fun y => hW y (y 0).isLt]
    · subst h
      repeat first | (refine ends_put_full ?_ ?_; (first | exact zero2 | exact zero3)) | (refine ends_load_full ?_ ?_; (first | exact zero2 | exact zero3)) | refine ends_put1 ?_ | refine Act.ends_load ?_ | refine Act.ends_pure ?_ | refine Act.ends_bind ?_
      rfl
  · simp only [if_neg h]

theorem products_ends (σ : St F) (x : Vec F S512x1024 .f32) (g : Vec F S1x1024 .f32) : Act.Ends (products A x g) σ fun q σ' =>
    q = dh0 σ.w σ.dz ∧ σ' = {σ with acc := accAdd x g σ.dz σ.acc} := by
  unfold products
  repeat first | (refine ends_put_full ?_ ?_; (first | exact zero2 | exact zero3)) | (refine ends_load_full ?_ ?_; (first | exact zero2 | exact zero3)) | refine ends_put1 ?_ | refine Act.ends_load ?_ | refine Act.ends_pure ?_ | refine Act.ends_bind ?_
  simp only [get_dz, get_acc, get_w, set_acc, shapeCast_id]
  exact ⟨rfl, rfl⟩

theorem tail_ends (i : grid0.Coords) (σ : St F) : Act.Ends (tail A i) σ fun _ σ' =>
    σ' = {σ with
      gx := addf σ.dx (normGrad σ.x (dh0 σ.w σ.dz) σ.g)
      dw := if k0_cond2 i = 1#1 then dwOut (accAdd σ.x σ.g σ.dz σ.acc) else σ.dw
      dc := if k0_cond2 i = 1#1 then dcOut σ.dca else σ.dc
      dg := dgAdd σ.x (dh0 σ.w σ.dz) σ.dg
      acc := accAdd σ.x σ.g σ.dz σ.acc} := by
  unfold tail
  refine Act.ends_bind (ends_load_full zero2 (Act.ends_bind (ends_load_full zero2 ?_)))
  refine Act.ends_seq _ (products_ends σ _ _) fun q σ' h => ?_
  obtain ⟨rfl, rfl⟩ := h
  repeat first | (refine ends_put_full ?_ ?_; (first | exact zero2 | exact zero3)) | (refine ends_load_full ?_ ?_; (first | exact zero2 | exact zero3)) | refine ends_put1 ?_ | refine Act.ends_load ?_ | refine Act.ends_pure ?_ | refine Act.ends_bind ?_
  simp only [get_x, get_g, get_dx, get_gx, get_dg, set_gx, set_dg]
  exact (finish_ends i _).mono fun _ σ' h => h

/-- What a point leaves. -/
theorem whole_ends (i : grid0.Coords) (σ : St F) : Act.Ends (whole A i) σ fun _ σ' => ∃ R, σ' = {closed i (opened i σ) with ss := R} := by
  unfold whole
  refine Act.ends_seq _ (start_ends i σ) fun _ σ' h => ?_
  subst h
  refine Act.ends_seq _ (groups_all _) fun _ σ' h => ?_
  obtain ⟨R, rfl⟩ := h
  exact (tail_ends i _).mono fun _ σ' h => ⟨R, h⟩

end Cert.InBwdIdeal.Body

end
-- ==== Proof.InBwd.Cut.lean ====
/- The printed body of the mixers' input gradient is the body written with loops: stretch by stretch, a stretch ending where a part of the print ends. -/
module

public import proofs.«01_k».proof.Proof.InBwd.Body

@[expose] public section

set_option maxRecDepth 16384

noncomputable section

namespace Cert.InBwdIdeal.Body

open Cert.InBwdIdeal Cert.InBwdIdeal.Gen Cert.Straight
open Idealize.ShloMosaic Idealize.ShloMosaic.TcCoe Idealize.ShloMosaic.Tactic
open Idealize.SL Idealize.SL.RA Idealize.SL.BI Idealize.SL.Sem

variable {F : FTy → Type} [FloatOps F] (A : Bufs)

/-! ## A stretch cut in two -/

/-- The pool's sum up to the cotangent's own rows. -/
def toOwn (c v : Fin 4) : P F A (FVec F S128x128 .f32) := do
  let acc ← convs A c v 31 0 (by omega) zero128
  let q ← unitConv A c v acc
  unitPool A c v q

/-- Up to a tap's product. -/
def toTap (c v : Fin 4) (k : ℕ) (h : k < 31) : P F A (FVec F S128x128 .f32 × FVec F S128x128 .f32) := do
  let d1 ← toOwn A c v
  taps A c v d1 k 0 (by omega)
  let p ← tapProd A c v d1 ⟨k, h⟩
  pure (d1, p)

def fromTap (c v : Fin 4) (k : ℕ) (h : k < 31) (q : FVec F S128x128 .f32 × FVec F S128x128 .f32) : P F A PUnit := do
  tapAdd A c ⟨k, h⟩ q.2
  taps A c v q.1 (30 - k) (k + 1) (by omega)

/-- Up to the loads of one tap of the convolution. -/
def toConv (c v : Fin 4) (k : ℕ) (h : k < 31) : P F A (FVec F S128x128 .f32 × Vec F S1x128 .f32 × Vec F S1x128x128 .f32) := do
  let acc ← convs A c v k 0 (by omega) zero128
  let q ← convLoad A c v ⟨k, h⟩
  pure (acc, q)

def fromConv (c v : Fin 4) (k : ℕ) (h : k < 31) (acc : FVec F S128x128 .f32) (row : FVec F S128x128 .f32) (e : FVec F S128x128 .f32) : P F A PUnit := do
  let acc ← convs A c v (30 - k) (k + 1) (by omega) (addf acc (mulf row e))
  let q ← unitConv A c v acc
  let d1 ← unitPool A c v q
  taps A c v d1 31 0 (by omega)

/-- Up to the pool's sum. -/
def toPool (c v : Fin 4) : P F A (FVec F S128x128 .f32) := do
  let acc ← convs A c v 31 0 (by omega) zero128
  unitConv A c v acc

def fromPool (c v : Fin 4) (q : FVec F S128x128 .f32) : P F A PUnit := do
  let d1 ← unitPool A c v q
  taps A c v d1 31 0 (by omega)

/-- Up to a tap done. -/
def toDone (c v : Fin 4) (k : ℕ) (h : k < 31) : P F A (FVec F S128x128 .f32) := do
  let d1 ← toOwn A c v
  taps A c v d1 (k + 1) 0 (by omega)
  pure d1

def fromDone (c v : Fin 4) (k : ℕ) (h : k < 31) (d1 : FVec F S128x128 .f32) : P F A PUnit := taps A c v d1 (30 - k) (k + 1) (by omega)

abbrev rowB (r : Vec F S1x128 .f32) : FVec F S128x128 .f32 := broadcastTo S128x128 (shapeCast S1x128 r shapeCasts_S1x128_S1x128) broadcasts_S1x128_S128x128
abbrev plane (e : Vec F S1x128x128 .f32) : FVec F S128x128 .f32 := shapeCast S128x128 e shapeCasts_S1x128x128_S128x128

variable (i : grid0.Coords)

/-! ## The stretches -/

/-- The first part of the print after the accumulators' clearing. -/
def start1 : P F A (FVec F S32x512 .f32 × FVec F S32x512 .f32) := do
  let q ← gates A i
  put1 (b_eu A) (comb32 0 0 (by omega) (by omega)) h_S1x32x128
    (shapeCast S1x32x128 (extractStridedSlice S32x128 ![0, 128 * (0 : Fin 4).val] q.1 (slice_lanes 0)) shapeCasts_S32x128_S1x32x128) (View.stores_vmem_bits_univ h_S1x32x128 rfl)
  let _ ← Act.load (b_ed A) (comb32 0 519 (by omega) (by omega)).toLoadRect h_S1x32x128
  pure q

theorem if_bind {α : Type} (p : Prop) [Decidable p] (a : Prog (TpuEff nD τ sig (Elt F) Λ₀ .tc) PUnit)
    (rest : Prog (TpuEff nD τ sig (Elt F) Λ₀ .tc) α) :
    (if _h : p then a >>= fun _ => rest else rest) = (if _h : p then a else pure ⟨⟩) >>= fun _ => rest := by
  by_cases h : p
  · rw [dif_pos h, dif_pos h]
  · rw [dif_neg h, dif_neg h, pure_bind]

theorem first_part : k0_part1 (F := F) i
    A.du A.du_whole A.dun A.dun_whole A.dp A.dp_whole A.dpn A.dpn_whole A.z A.z_whole A.zp A.zp_whole A.x A.x_whole A.dx A.dx_whole A.cw A.cw_whole
    A.g A.g_whole A.w A.w_whole A.gx A.gx_whole A.dw A.dw_whole A.dc A.dc_whole A.dg A.dg_whole A.eu A.eu_whole A.ed A.ed_whole A.ep A.ep_whole
    A.ss A.ss_whole A.u0 A.u0_whole A.dz A.dz_whole A.acc A.acc_whole A.dca A.dca_whole
    = (clear A i : P F A PUnit).prog >>= fun _ => (start1 A i).prog >>= fun q =>
      pure ⟨pt i, follows i, q.1, q.2, extractStridedSlice S32x128 ![0, 128 * (0 : Fin 4).val] q.2 (slice_lanes 0)⟩ :=
  (show _ = if _h : first i then (clearAll A : P F A PUnit).prog >>= fun _ => (start1 A i).prog >>= fun q =>
      pure ⟨pt i, follows i, q.1, q.2, extractStridedSlice S32x128 ![0, 128 * (0 : Fin 4).val] q.2 (slice_lanes 0)⟩
    else (start1 A i).prog >>= fun q =>
      pure ⟨pt i, follows i, q.1, q.2, extractStridedSlice S32x128 ![0, 128 * (0 : Fin 4).val] q.2 (slice_lanes 0)⟩ by sl_kernel_rfl).trans
    (if_bind _ _ _)

/-- The start after the accumulators' clearing. -/
def started : P F A PUnit := gates A i >>= fun q => Act.each 4 (fun c _ => copies A i q c) ⟨⟩

theorem part0 : k0_part609 (F := F) i
    A.du A.du_whole A.dun A.dun_whole A.dp A.dp_whole A.dpn A.dpn_whole A.z A.z_whole A.zp A.zp_whole A.x A.x_whole A.dx A.dx_whole A.cw A.cw_whole
    A.g A.g_whole A.w A.w_whole A.gx A.gx_whole A.dw A.dw_whole A.dc A.dc_whole A.dg A.dg_whole A.eu A.eu_whole A.ed A.ed_whole A.ep A.ep_whole
    A.ss A.ss_whole A.u0 A.u0_whole A.dz A.dz_whole A.acc A.acc_whole A.dca A.dca_whole
    = (clear A i : P F A PUnit).prog >>= fun _ => (started A i >>= fun _ => toTap A 0 0 4 (by omega)).prog >>= fun q =>
      pure ⟨pt i, q.1, q.2, folded q.2 3 (by omega), eight q.2 4 (by omega)⟩ := by
  unfold k0_part609
  rw [first_part]
  simp only [bind_assoc]
  refine congrArg (fun k => (clear A i : P F A PUnit).prog >>= k) (funext fun _ => ?_)
  sl_kernel_rfl

theorem part1 (q : FVec F S128x128 .f32 × FVec F S128x128 .f32) : k0_part610 (F := F) i
    A.du A.du_whole A.dun A.dun_whole A.dp A.dp_whole A.dpn A.dpn_whole A.z A.z_whole A.zp A.zp_whole A.x A.x_whole A.dx A.dx_whole A.cw A.cw_whole
    A.g A.g_whole A.w A.w_whole A.gx A.gx_whole A.dw A.dw_whole A.dc A.dc_whole A.dg A.dg_whole A.eu A.eu_whole A.ed A.ed_whole A.ep A.ep_whole
    A.ss A.ss_whole A.u0 A.u0_whole A.dz A.dz_whole A.acc A.acc_whole A.dca A.dca_whole q.1 q.2 (folded q.2 3 (by omega)) (eight q.2 4 (by omega))
    = (fromTap A 0 0 4 (by omega) q >>= fun _ => unit A 0 1 >>= fun _ => toConv A 0 2 25 (by omega) : P F A _).prog >>= fun q => pure ⟨q.1, shapeCast S1x128 q.2.1 shapeCasts_S1x128_S1x128, q.2.2⟩ := by
  sl_kernel_rfl

theorem part2 (q : FVec F S128x128 .f32 × Vec F S1x128 .f32 × Vec F S1x128x128 .f32) : k0_part611 (F := F) i
    A.du A.du_whole A.dun A.dun_whole A.dp A.dp_whole A.dpn A.dpn_whole A.z A.z_whole A.zp A.zp_whole A.x A.x_whole A.dx A.dx_whole A.cw A.cw_whole
    A.g A.g_whole A.w A.w_whole A.gx A.gx_whole A.dw A.dw_whole A.dc A.dc_whole A.dg A.dg_whole A.eu A.eu_whole A.ed A.ed_whole A.ep A.ep_whole
    A.ss A.ss_whole A.u0 A.u0_whole A.dz A.dz_whole A.acc A.acc_whole A.dca A.dca_whole q.1 (shapeCast S1x128 q.2.1 shapeCasts_S1x128_S1x128) q.2.2
    = (fromConv A 0 2 25 (by omega) q.1 (rowB q.2.1) (plane q.2.2) >>= fun _ => unit A 0 3 : P F A _).prog >>= fun q => pure ⟨⟩ := by
  sl_kernel_rfl

theorem part3  : k0_part612 (F := F) i
    A.du A.du_whole A.dun A.dun_whole A.dp A.dp_whole A.dpn A.dpn_whole A.z A.z_whole A.zp A.zp_whole A.x A.x_whole A.dx A.dx_whole A.cw A.cw_whole
    A.g A.g_whole A.w A.w_whole A.gx A.gx_whole A.dw A.dw_whole A.dc A.dc_whole A.dg A.dg_whole A.eu A.eu_whole A.ed A.ed_whole A.ep A.ep_whole
    A.ss A.ss_whole A.u0 A.u0_whole A.dz A.dz_whole A.acc A.acc_whole A.dca A.dca_whole
    = (grads A 0 >>= fun _ => unit A 1 0 >>= fun _ => toTap A 1 1 16 (by omega) : P F A _).prog >>= fun q => pure ⟨q.1, q.2, folded q.2 2 (by omega), eight q.2 3 (by omega)⟩ := by
  sl_kernel_rfl

theorem part4 (q : FVec F S128x128 .f32 × FVec F S128x128 .f32) : k0_part613 (F := F) i
    A.du A.du_whole A.dun A.dun_whole A.dp A.dp_whole A.dpn A.dpn_whole A.z A.z_whole A.zp A.zp_whole A.x A.x_whole A.dx A.dx_whole A.cw A.cw_whole
    A.g A.g_whole A.w A.w_whole A.gx A.gx_whole A.dw A.dw_whole A.dc A.dc_whole A.dg A.dg_whole A.eu A.eu_whole A.ed A.ed_whole A.ep A.ep_whole
    A.ss A.ss_whole A.u0 A.u0_whole A.dz A.dz_whole A.acc A.acc_whole A.dca A.dca_whole q.1 q.2 (folded q.2 2 (by omega)) (eight q.2 3 (by omega))
    = (fromTap A 1 1 16 (by omega) q >>= fun _ => unit A 1 2 >>= fun _ => toTap A 1 3 9 (by omega) : P F A _).prog >>= fun q => pure ⟨q.1, q.2, folded q.2 11 (by omega), eight q.2 12 (by omega)⟩ := by
  sl_kernel_rfl

theorem part5 (q : FVec F S128x128 .f32 × FVec F S128x128 .f32) : k0_part614 (F := F) i
    A.du A.du_whole A.dun A.dun_whole A.dp A.dp_whole A.dpn A.dpn_whole A.z A.z_whole A.zp A.zp_whole A.x A.x_whole A.dx A.dx_whole A.cw A.cw_whole
    A.g A.g_whole A.w A.w_whole A.gx A.gx_whole A.dw A.dw_whole A.dc A.dc_whole A.dg A.dg_whole A.eu A.eu_whole A.ed A.ed_whole A.ep A.ep_whole
    A.ss A.ss_whole A.u0 A.u0_whole A.dz A.dz_whole A.acc A.acc_whole A.dca A.dca_whole q.1 q.2 (folded q.2 11 (by omega)) (eight q.2 12 (by omega))
    = (fromTap A 1 3 9 (by omega) q >>= fun _ => grads A 1 >>= fun _ => unit A 2 0 >>= fun _ => toConv A 2 1 10 (by omega) : P F A _).prog >>= fun q => pure ⟨q.1, plane q.2.2, rowB q.2.1⟩ := by
  sl_kernel_rfl

theorem part6 (q : FVec F S128x128 .f32 × Vec F S1x128 .f32 × Vec F S1x128x128 .f32) : k0_part615 (F := F) i
    A.du A.du_whole A.dun A.dun_whole A.dp A.dp_whole A.dpn A.dpn_whole A.z A.z_whole A.zp A.zp_whole A.x A.x_whole A.dx A.dx_whole A.cw A.cw_whole
    A.g A.g_whole A.w A.w_whole A.gx A.gx_whole A.dw A.dw_whole A.dc A.dc_whole A.dg A.dg_whole A.eu A.eu_whole A.ed A.ed_whole A.ep A.ep_whole
    A.ss A.ss_whole A.u0 A.u0_whole A.dz A.dz_whole A.acc A.acc_whole A.dca A.dca_whole q.1 (plane q.2.2) (rowB q.2.1)
    = (fromConv A 2 1 10 (by omega) q.1 (rowB q.2.1) (plane q.2.2) >>= fun _ => toDone A 2 2 25 (by omega) : P F A _).prog >>= fun q => pure q := by
  sl_kernel_rfl

theorem part7 (q : FVec F S128x128 .f32) : k0_part616 (F := F) i
    A.du A.du_whole A.dun A.dun_whole A.dp A.dp_whole A.dpn A.dpn_whole A.z A.z_whole A.zp A.zp_whole A.x A.x_whole A.dx A.dx_whole A.cw A.cw_whole
    A.g A.g_whole A.w A.w_whole A.gx A.gx_whole A.dw A.dw_whole A.dc A.dc_whole A.dg A.dg_whole A.eu A.eu_whole A.ed A.ed_whole A.ep A.ep_whole
    A.ss A.ss_whole A.u0 A.u0_whole A.dz A.dz_whole A.acc A.acc_whole A.dca A.dca_whole q
    = (fromDone A 2 2 25 (by omega) q >>= fun _ => unit A 2 3 >>= fun _ => grads A 2 >>= fun _ => toTap A 3 0 9 (by omega) : P F A _).prog >>= fun q => pure ⟨q.1, q.2, folded q.2 4 (by omega), eight q.2 5 (by omega)⟩ := by
  sl_kernel_rfl

theorem part8 (q : FVec F S128x128 .f32 × FVec F S128x128 .f32) : k0_part617 (F := F) i
    A.du A.du_whole A.dun A.dun_whole A.dp A.dp_whole A.dpn A.dpn_whole A.z A.z_whole A.zp A.zp_whole A.x A.x_whole A.dx A.dx_whole A.cw A.cw_whole
    A.g A.g_whole A.w A.w_whole A.gx A.gx_whole A.dw A.dw_whole A.dc A.dc_whole A.dg A.dg_whole A.eu A.eu_whole A.ed A.ed_whole A.ep A.ep_whole
    A.ss A.ss_whole A.u0 A.u0_whole A.dz A.dz_whole A.acc A.acc_whole A.dca A.dca_whole q.1 q.2 (folded q.2 4 (by omega)) (eight q.2 5 (by omega))
    = (fromTap A 3 0 9 (by omega) q >>= fun _ => unit A 3 1 >>= fun _ => toPool A 3 2 : P F A _).prog >>= fun q => pure q := by
  sl_kernel_rfl

theorem part9 (q : FVec F S128x128 .f32) : k0_part618 (F := F) i
    A.du A.du_whole A.dun A.dun_whole A.dp A.dp_whole A.dpn A.dpn_whole A.z A.z_whole A.zp A.zp_whole A.x A.x_whole A.dx A.dx_whole A.cw A.cw_whole
    A.g A.g_whole A.w A.w_whole A.gx A.gx_whole A.dw A.dw_whole A.dc A.dc_whole A.dg A.dg_whole A.eu A.eu_whole A.ed A.ed_whole A.ep A.ep_whole
    A.ss A.ss_whole A.u0 A.u0_whole A.dz A.dz_whole A.acc A.acc_whole A.dca A.dca_whole q
    = (fromPool A 3 2 q >>= fun _ => unit A 3 3 : P F A _).prog >>= fun q => pure ⟨⟩ := by
  sl_kernel_rfl

/-- The body cut where the print is cut. -/
theorem cut : k0_part619 (F := F) i
    A.du A.du_whole A.dun A.dun_whole A.dp A.dp_whole A.dpn A.dpn_whole A.z A.z_whole A.zp A.zp_whole A.x A.x_whole A.dx A.dx_whole A.cw A.cw_whole
    A.g A.g_whole A.w A.w_whole A.gx A.gx_whole A.dw A.dw_whole A.dc A.dc_whole A.dg A.dg_whole A.eu A.eu_whole A.ed A.ed_whole A.ep A.ep_whole
    A.ss A.ss_whole A.u0 A.u0_whole A.dz A.dz_whole A.acc A.acc_whole A.dca A.dca_whole
    = (clear A i : P F A PUnit).prog >>= fun _ =>
      (started A i >>= fun _ => toTap A 0 0 4 (by omega) : P F A _).prog >>= fun q =>
      (fromTap A 0 0 4 (by omega) q >>= fun _ => unit A 0 1 >>= fun _ => toConv A 0 2 25 (by omega) : P F A _).prog >>= fun q =>
      (fromConv A 0 2 25 (by omega) q.1 (rowB q.2.1) (plane q.2.2) >>= fun _ => unit A 0 3 : P F A _).prog >>= fun _ =>
      (grads A 0 >>= fun _ => unit A 1 0 >>= fun _ => toTap A 1 1 16 (by omega) : P F A _).prog >>= fun q =>
      (fromTap A 1 1 16 (by omega) q >>= fun _ => unit A 1 2 >>= fun _ => toTap A 1 3 9 (by omega) : P F A _).prog >>= fun q =>
      (fromTap A 1 3 9 (by omega) q >>= fun _ => grads A 1 >>= fun _ => unit A 2 0 >>= fun _ => toConv A 2 1 10 (by omega) : P F A _).prog >>= fun q =>
      (fromConv A 2 1 10 (by omega) q.1 (rowB q.2.1) (plane q.2.2) >>= fun _ => toDone A 2 2 25 (by omega) : P F A _).prog >>= fun q =>
      (fromDone A 2 2 25 (by omega) q >>= fun _ => unit A 2 3 >>= fun _ => grads A 2 >>= fun _ => toTap A 3 0 9 (by omega) : P F A _).prog >>= fun q =>
      (fromTap A 3 0 9 (by omega) q >>= fun _ => unit A 3 1 >>= fun _ => toPool A 3 2 : P F A _).prog >>= fun q =>
      (fromPool A 3 2 q >>= fun _ => unit A 3 3 : P F A _).prog >>= fun _ =>
      (grads A 3 >>= fun _ => tail A i : P F A _).prog := by
  unfold k0_part619
  rw [part0]
  simp only [bind_assoc, pure_bind]
  refine bind_congr fun _ => bind_congr fun q => ?_
  simp only [part1, bind_assoc, pure_bind]
  refine bind_congr fun q => ?_
  simp only [part2, bind_assoc, pure_bind]
  refine bind_congr fun _ => ?_
  simp only [part3, bind_assoc, pure_bind]
  refine bind_congr fun q => ?_
  simp only [part4, bind_assoc, pure_bind]
  refine bind_congr fun q => ?_
  simp only [part5, bind_assoc, pure_bind]
  refine bind_congr fun q => ?_
  simp only [part6, bind_assoc, pure_bind]
  refine bind_congr fun q => ?_
  simp only [part7, bind_assoc, pure_bind]
  refine bind_congr fun q => ?_
  simp only [part8, bind_assoc, pure_bind]
  refine bind_congr fun q => ?_
  simp only [part9, bind_assoc, pure_bind]
  refine bind_congr fun _ => ?_
  sl_kernel_rfl

/-! ## The cuts closed -/

variable {A i}

theorem unit_tap (c v : Fin 4) (k : ℕ) (h : k < 31) {β : Type} (f : P F A β) :
    (toTap A c v k h >>= fun q => fromTap A c v k h q >>= fun _ => f) = unit A c v >>= fun _ => f := by
  unfold toTap fromTap toOwn unit
  simp only [Act.assoc, Act.ret_bind]
  congr 1; funext acc; congr 1; funext q; congr 1; funext d1
  rw [show (taps A c v d1 31 0 (by omega) : P F A PUnit) = taps A c v d1 k 0 (by omega) >>= fun _ => tapStep A c v d1 ⟨k, h⟩ >>= fun _ =>
      taps A c v d1 (30 - k) (k + 1) (by omega) from
    Act.span_at 31 (fun k _ => tapStep A c v d1 k) 31 0 (by omega) ⟨k, h⟩ k (30 - k) (k + 1) (by omega) (by simp) rfl (by omega) (by omega) ⟨⟩]
  unfold tapStep
  simp only [Act.assoc]

theorem unit_done (c v : Fin 4) (k : ℕ) (h : k < 31) {β : Type} (f : P F A β) :
    (toDone A c v k h >>= fun q => fromDone A c v k h q >>= fun _ => f) = unit A c v >>= fun _ => f := by
  unfold toDone fromDone toOwn unit
  simp only [Act.assoc, Act.ret_bind]
  congr 1; funext acc; congr 1; funext q; congr 1; funext d1
  rw [show (taps A c v d1 31 0 (by omega) : P F A PUnit) = taps A c v d1 k 0 (by omega) >>= fun _ => tapStep A c v d1 ⟨k, h⟩ >>= fun _ =>
      taps A c v d1 (30 - k) (k + 1) (by omega) from
    Act.span_at 31 (fun k _ => tapStep A c v d1 k) 31 0 (by omega) ⟨k, h⟩ k (30 - k) (k + 1) (by omega) (by simp) rfl (by omega) (by omega) ⟨⟩]
  have e : (taps A c v d1 (k + 1) 0 (by omega) : P F A PUnit) = taps A c v d1 k 0 (by omega) >>= fun _ => tapStep A c v d1 ⟨k, h⟩ >>= fun z => Act.ret z :=
    Act.span_at 31 (fun k _ => tapStep A c v d1 k) (k + 1) 0 (by omega) ⟨k, h⟩ k 0 (k + 1) (by omega) (by simp) rfl (by omega) (by omega) ⟨⟩
  rw [e]
  simp only [Act.assoc]
  congr 1

theorem unit_conv (c v : Fin 4) (k : ℕ) (h : k < 31) {β : Type} (f : P F A β) :
    (toConv A c v k h >>= fun q => fromConv A c v k h q.1 (rowB q.2.1) (plane q.2.2) >>= fun _ => f) = unit A c v >>= fun _ => f := by
  unfold toConv fromConv unit
  rw [show (convs A c v 31 0 (by omega) zero128 : P F A _) = convs A c v k 0 (by omega) zero128 >>= fun y => convStep A c v ⟨k, h⟩ y >>= fun z =>
      convs A c v (30 - k) (k + 1) (by omega) z from
    Act.span_at 31 (convStep A c v) 31 0 (by omega) ⟨k, h⟩ k (30 - k) (k + 1) (by omega) (by simp) rfl (by omega) (by omega) zero128]
  unfold convStep
  simp only [Act.assoc, Act.ret_bind]
  rfl

theorem unit_pool (c v : Fin 4) {β : Type} (f : P F A β) :
    (toPool A c v >>= fun q => fromPool A c v q >>= fun _ => f) = unit A c v >>= fun _ => f := by
  unfold toPool fromPool unit
  simp only [Act.assoc]

theorem four {f : Fin 4 → PUnit → P F A PUnit} {β : Type} (g : P F A β) :
    (Act.each 4 f ⟨⟩ >>= fun _ => g) = f 0 ⟨⟩ >>= fun _ => f 1 ⟨⟩ >>= fun _ => f 2 ⟨⟩ >>= fun _ => f 3 ⟨⟩ >>= fun _ => g := by
  refine Act.ext ?_ rfl
  show (_ >>= fun _ => (_ >>= fun _ => (_ >>= fun _ => _ >>= fun _ => pure _))) >>= _ = _
  simp only [bind_assoc, pure_bind, Act.prog_bind]
  rfl

theorem whole_eq : (whole A i : P F A PUnit) = clear A i >>= fun _ => started A i >>= fun _ =>
    unit A 0 0 >>= fun _ => unit A 0 1 >>= fun _ => unit A 0 2 >>= fun _ => unit A 0 3 >>= fun _ => grads A 0 >>= fun _ =>
    unit A 1 0 >>= fun _ => unit A 1 1 >>= fun _ => unit A 1 2 >>= fun _ => unit A 1 3 >>= fun _ => grads A 1 >>= fun _ =>
    unit A 2 0 >>= fun _ => unit A 2 1 >>= fun _ => unit A 2 2 >>= fun _ => unit A 2 3 >>= fun _ => grads A 2 >>= fun _ =>
    unit A 3 0 >>= fun _ => unit A 3 1 >>= fun _ => unit A 3 2 >>= fun _ => unit A 3 3 >>= fun _ => grads A 3 >>= fun _ => tail A i := by
  unfold whole start group started
  simp only [Act.assoc, four]

variable (A i)

/-- The printed body is the body written with loops. -/
theorem body_eq : cc0_in_bwd (F := F) i
    A.du A.du_whole A.dun A.dun_whole A.dp A.dp_whole A.dpn A.dpn_whole A.z A.z_whole A.zp A.zp_whole A.x A.x_whole A.dx A.dx_whole A.cw A.cw_whole
    A.g A.g_whole A.w A.w_whole A.gx A.gx_whole A.dw A.dw_whole A.dc A.dc_whole A.dg A.dg_whole A.eu A.eu_whole A.ed A.ed_whole A.ep A.ep_whole
    A.ss A.ss_whole A.u0 A.u0_whole A.dz A.dz_whole A.acc A.acc_whole A.dca A.dca_whole = (whole A i).prog := by
  unfold cc0_in_bwd
  rw [cut, whole_eq]
  rw [← unit_tap 0 0 4 (by omega), ← unit_conv 0 2 25 (by omega), ← unit_tap 1 1 16 (by omega), ← unit_tap 1 3 9 (by omega), ← unit_conv 2 1 10 (by omega),
    ← unit_done 2 2 25 (by omega), ← unit_tap 3 0 9 (by omega), ← unit_pool 3 2]
  simp only [Act.prog_bind, bind_assoc, bind_pure_unit]

end Cert.InBwdIdeal.Body

end
-- ==== Proof.InBwd.Frame.lean ====
/- The projection's and the mixers' gradient: what every point leaves, the pipeline's proof data, the run of the program and its frame. -/
module

public import proofs.«01_k».proof.Proof.InBwd.Point
public import proofs.«01_k».proof.Proof.InBwd.Cut
public import proofs.«01_k».proof.Proof.Gen.InBwdIdeal.Frame.Runs
public import Idealize.ShloMosaic.Lib.Claim

@[expose] public section

set_option maxRecDepth 16384

noncomputable section

namespace Cert.InBwdIdeal.Body

open Cert.InBwdIdeal Cert.InBwdIdeal.Gen Cert.Straight
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers at point `t`. -/
def bufs (t : Fin cfg0.N) : Bufs where
  du := win0_0.stage (cfg0.slots t 0)
  dun := win0_1.stage (cfg0.slots t 1)
  dp := win0_2.stage (cfg0.slots t 2)
  dpn := win0_3.stage (cfg0.slots t 3)
  z := win0_4.stage (cfg0.slots t 4)
  zp := win0_5.stage (cfg0.slots t 5)
  x := win0_6.stage (cfg0.slots t 6)
  dx := win0_7.stage (cfg0.slots t 7)
  cw := win0_8.stage (cfg0.slots t 8)
  g := win0_9.stage (cfg0.slots t 9)
  w := win0_10.stage (cfg0.slots t 10)
  gx := win0_11.stage (cfg0.slots t 11)
  dw := win0_12.stage (cfg0.slots t 12)
  dc := win0_13.stage (cfg0.slots t 13)
  dg := win0_14.stage (cfg0.slots t 14)
  eu := scM0_0
  ed := scM0_1
  ep := scM0_2
  ss := scM0_3
  u0 := scM0_4
  dz := scM0_5
  acc := scM0_6
  dca := scM0_7
  du_whole := hstage0_0 ((cfg0.slots t 0).cast nbuf0_0)
  dun_whole := hstage0_1 ((cfg0.slots t 1).cast nbuf0_1)
  dp_whole := hstage0_2 ((cfg0.slots t 2).cast nbuf0_2)
  dpn_whole := hstage0_3 ((cfg0.slots t 3).cast nbuf0_3)
  z_whole := hstage0_4 ((cfg0.slots t 4).cast nbuf0_4)
  zp_whole := hstage0_5 ((cfg0.slots t 5).cast nbuf0_5)
  x_whole := hstage0_6 ((cfg0.slots t 6).cast nbuf0_6)
  dx_whole := hstage0_7 ((cfg0.slots t 7).cast nbuf0_7)
  cw_whole := hstage0_8 ((cfg0.slots t 8).cast nbuf0_8)
  g_whole := hstage0_9 ((cfg0.slots t 9).cast nbuf0_9)
  w_whole := hstage0_10 ((cfg0.slots t 10).cast nbuf0_10)
  gx_whole := hstage0_11 ((cfg0.slots t 11).cast nbuf0_11)
  dw_whole := hstage0_12 ((cfg0.slots t 12).cast nbuf0_12)
  dc_whole := hstage0_13 ((cfg0.slots t 13).cast nbuf0_13)
  dg_whole := hstage0_14 ((cfg0.slots t 14).cast nbuf0_14)
  eu_whole := Memref.isWhole_whole _
  ed_whole := Memref.isWhole_whole _
  ep_whole := Memref.isWhole_whole _
  ss_whole := Memref.isWhole_whole _
  u0_whole := Memref.isWhole_whole _
  dz_whole := Memref.isWhole_whole _
  acc_whole := Memref.isWhole_whole _
  dca_whole := Memref.isWhole_whole _

theorem first_iff (t : Fin cfg0.N) : first (grid0.coords t) ↔ t.val = 0 := by
  have ht : t.val < 8 := lt_of_lt_of_eq t.isLt N_0
  exact (hcond0_0 t).trans (by omega)

theorem last_iff (t : Fin cfg0.N) : k0_cond2 (grid0.coords t) = 1#1 ↔ t.val = 7 := by
  have ht : t.val < 8 := lt_of_lt_of_eq t.isLt N_0
  exact (hcond0_1 t).trans (by omega)

/-! ## What the points leave -/

section Same

variable (i : grid0.Coords) (σ τ : St F)

/-- Two contents with the same inputs. -/
structure SameIns : Prop where
  du : σ.du = τ.du
  dun : σ.dun = τ.dun
  dp : σ.dp = τ.dp
  dpn : σ.dpn = τ.dpn
  z : σ.z = τ.z
  zp : σ.zp = τ.zp
  x : σ.x = τ.x
  dx : σ.dx = τ.dx
  cw : σ.cw = τ.cw
  g : σ.g = τ.g
  w : σ.w = τ.w

/-- And the same sums. -/
structure SameSums : Prop where
  acc : σ.acc = τ.acc
  dca : σ.dca = τ.dca
  dg : σ.dg = τ.dg

variable {σ τ}

theorem opened_ins (h : SameIns σ τ) : SameIns (opened i σ) (opened i τ) := by
  obtain ⟨h0, h1, h2, h3, h4, h5, h6, h7, h8, h9, h10⟩ := h
  unfold opened
  split <;> constructor <;> assumption

theorem opened_sums (h : ¬first i → SameSums σ τ) : SameSums (opened i σ) (opened i τ) := by
  unfold opened
  split
  · exact ⟨rfl, rfl, rfl⟩
  · next hn => exact h hn

/-- What a point leaves depends on no more. -/
theorem closed_same (h : SameIns σ τ) (h' : SameSums σ τ) :
    (closed i σ).gx = (closed i τ).gx ∧ SameSums (closed i σ) (closed i τ)
      ∧ (k0_cond2 i = 1#1 → (closed i σ).dw = (closed i τ).dw ∧ (closed i σ).dc = (closed i τ).dc) := by
  obtain ⟨h0, h1, h2, h3, h4, h5, h6, h7, h8, h9, h10⟩ := h
  obtain ⟨h11, h12, h13⟩ := h'
  obtain ⟨du1, dun1, dp1, dpn1, z1, zp1, x1, dx1, cw1, g1, w1, gx1, dw1, dc1, dg1, eu1, ed1, ep1, ss1, u01, dz1, acc1, dca1⟩ := σ
  obtain ⟨du2, dun2, dp2, dpn2, z2, zp2, x2, dx2, cw2, g2, w2, gx2, dw2, dc2, dg2, eu2, ed2, ep2, ss2, u02, dz2, acc2, dca2⟩ := τ
  dsimp only at *
  subst h0 h1 h2 h3 h4 h5 h6 h7 h8 h9 h10 h11 h12 h13
  refine ⟨rfl, ⟨rfl, rfl, rfl⟩, fun hl => ⟨?_, ?_⟩⟩
  · exact (if_pos hl).trans (if_pos hl).symm
  · exact (if_pos hl).trans (if_pos hl).symm

end Same

variable (m : (ℓ : Loc nD τ sig) → Buf (Elt F) ℓ) (ρ : Dev nD → PrngReg) (c : Dev nD)

/-- Contents with the inputs of point `t`. -/
def fed (t : Fin cfg0.N) (σ : St F) : St F :=
  {σ with
    du := iblk m c 0 t
    dun := iblk m c 1 t
    dp := iblk m c 2 t
    dpn := iblk m c 3 t
    z := iblk m c 4 t
    zp := iblk m c 5 t
    x := iblk m c 6 t
    dx := iblk m c 7 t
    cw := iblk m c 8 t
    g := iblk m c 9 t
    w := iblk m c 10 t}

/-- Contents to begin with. -/
def blank (t : Fin cfg0.N) : St F where
  du := iblk m c 0 t
  dun := iblk m c 1 t
  dp := iblk m c 2 t
  dpn := iblk m c 3 t
  z := iblk m c 4 t
  zp := iblk m c 5 t
  x := iblk m c 6 t
  dx := iblk m c 7 t
  cw := iblk m c 8 t
  g := iblk m c 9 t
  w := iblk m c 10 t
  gx := zeros _
  dw := truncf .bf16 (zeros _) bitsLt_bf16_f32
  dc := zeros _
  dg := zeros _
  eu := zeros _
  ed := zeros _
  ep := zeros _
  ss := zeros _
  u0 := zeros _
  dz := truncf .bf16 (zeros _) bitsLt_bf16_f32
  acc := zeros _
  dca := zeros _

/-- What point `n` leaves, of the contents before it. -/
def step (t : Fin cfg0.N) (σ : St F) : St F := closed (grid0.coords t) (opened (grid0.coords t) (fed m c t σ))

/-- What the points leave, one after another. -/
def outs : (n : ℕ) → n < cfg0.N → St F
  | 0, hn => step m c ⟨0, hn⟩ (blank m c ⟨0, hn⟩)
  | n + 1, hn => step m c ⟨n + 1, hn⟩ (outs n (Nat.lt_of_succ_lt hn))

/-- The contents the point before left. -/
abbrev prev (t : Fin cfg0.N) : St F := outs m c (t.val - 1) (Nat.lt_of_le_of_lt (Nat.sub_le _ _) t.isLt)

theorem outs_pos (t : Fin cfg0.N) (h : t.val ≠ 0) : outs m c t.val t.isLt = step m c t (prev m c t) := by
  obtain ⟨n, hn⟩ := t
  cases n with
  | zero => exact absurd rfl h
  | succ n => rfl

/-- What a point leaves of contents with its inputs and the sums before it. -/
theorem left_same (t : Fin cfg0.N) (σ : St F) (h : SameIns σ (fed m c t σ)) (h' : t.val ≠ 0 → SameSums σ (prev m c t)) :
    (closed (grid0.coords t) (opened (grid0.coords t) σ)).gx = (outs m c t.val t.isLt).gx
      ∧ SameSums (closed (grid0.coords t) (opened (grid0.coords t) σ)) (outs m c t.val t.isLt)
      ∧ (t.val = 7 → (closed (grid0.coords t) (opened (grid0.coords t) σ)).dw = (outs m c t.val t.isLt).dw
        ∧ (closed (grid0.coords t) (opened (grid0.coords t) σ)).dc = (outs m c t.val t.isLt).dc) := by
  have key : ∀ π : St F, (t.val ≠ 0 → SameSums σ π) →
      (closed (grid0.coords t) (opened (grid0.coords t) σ)).gx = (step m c t π).gx
      ∧ SameSums (closed (grid0.coords t) (opened (grid0.coords t) σ)) (step m c t π)
      ∧ (t.val = 7 → (closed (grid0.coords t) (opened (grid0.coords t) σ)).dw = (step m c t π).dw
        ∧ (closed (grid0.coords t) (opened (grid0.coords t) σ)).dc = (step m c t π).dc) := fun π hπ => by
    have hi : SameIns σ (fed m c t π) := ⟨h.du, h.dun, h.dp, h.dpn, h.z, h.zp, h.x, h.dx, h.cw, h.g, h.w⟩
    obtain ⟨k1, k2, k3⟩ := closed_same (grid0.coords t) (opened_ins _ hi) (opened_sums _ fun hn => by
      have hs := hπ fun h0 => hn ((first_iff t).mpr h0)
      exact ⟨hs.acc, hs.dca, hs.dg⟩)
    exact ⟨k1, k2, fun h7 => k3 ((last_iff t).mpr h7)⟩
  by_cases h0 : t.val = 0
  · have := key (blank m c t) (fun h => absurd h0 h)
    obtain ⟨n, hn⟩ := t
    obtain rfl : n = 0 := h0
    exact this
  · rw [outs_pos m c t h0]
    exact key _ h'

/-! ## The proof data -/

/-- Between the points: the scratch, with the sums at what the point before left, and the generator. -/
def Inv (n : ℕ) (hn : n ≤ cfg0.N) : sProp 𝕄 :=
  iprop((∃ d, owns (c : Thread nD τ) scM0_0 fullShare d) ∗ (∃ d, owns (c : Thread nD τ) scM0_1 fullShare d)
    ∗ (∃ d, owns (c : Thread nD τ) scM0_2 fullShare d) ∗ (∃ d, owns (c : Thread nD τ) scM0_3 fullShare d)
    ∗ (∃ d, owns (c : Thread nD τ) scM0_4 fullShare d) ∗ (∃ d, owns (c : Thread nD τ) scM0_5 fullShare d)
    ∗ (∃ d, ⌜∀ h : n ≠ 0, d = (outs m c (n - 1) (by omega)).acc⌝ ∗ owns (c : Thread nD τ) scM0_6 fullShare d)
    ∗ (∃ d, ⌜∀ h : n ≠ 0, d = (outs m c (n - 1) (by omega)).dca⌝ ∗ owns (c : Thread nD τ) scM0_7 fullShare d)
    ∗ (∃ r, prngReg c r))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outs m c t.val t.isLt).gx
    | ⟨12, _⟩ => (outs m c t.val t.isLt).dw
    | ⟨13, _⟩ => (outs m c t.val t.isLt).dc
    | ⟨14, _⟩ => (outs m c t.val t.isLt).dg
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

section

variable (t : Fin cfg0.N)

theorem Inv_at : (dats m 0 c).Φ t.castSucc = Inv m c t.val (Nat.le_of_lt t.isLt) := by
  dsimp only [dats]; exact Pipeline.Dat.Φ_castSucc (Inv m c) t

theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = iblk m c 6 t := by dsimp only [dats]
theorem after0_7 : (dats m 0 c).after 7 t = iblk m c 7 t := by dsimp only [dats]
theorem after0_8 : (dats m 0 c).after 8 t = iblk m c 8 t := by dsimp only [dats]
theorem after0_9 : (dats m 0 c).after 9 t = iblk m c 9 t := by dsimp only [dats]
theorem after0_10 : (dats m 0 c).after 10 t = iblk m c 10 t := by dsimp only [dats]
theorem after0_11 : (dats m 0 c).after 11 t = (outs m c t.val t.isLt).gx := by dsimp only [dats]
theorem after0_12 : (dats m 0 c).after 12 t = (outs m c t.val t.isLt).dw := by dsimp only [dats]
theorem after0_13 : (dats m 0 c).after 13 t = (outs m c t.val t.isLt).dc := by dsimp only [dats]
theorem after0_14 : (dats m 0 c).after 14 t = (outs m c t.val t.isLt).dg := by dsimp only [dats]

/-- A window that is live at the point is left at what `after` says. -/
theorem leaves_live (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]

theorem before0_14 (h0 : t.val ≠ 0) (d) : (dats m 0 c).before 14 t d = (prev m c t).dg := by
  have hN : t.val < 8 := lt_of_lt_of_eq t.isLt N_0
  rw [Dat.before_out_kept _ 14 rfl t (by omega) (Bool.eq_false_iff.mpr fun h => by have := (flush0_14 _).mp h; dsimp only at this; omega)
    (fun _ => rfl) (fun _ _ => rfl)]
  dsimp only [dats]

theorem idle_12 : ∀ t : Fin cfg0.N, ¬t.val = 7 → cfg0.idle 12 (grid0.coords t) = true := by decide +kernel
theorem noFlush_12 : ∀ t : Fin cfg0.N, ¬t.val = 7 → (cfg0.win 12).flush t = false := by decide +kernel
theorem live_12 : ∀ t : Fin cfg0.N, t.val = 7 → cfg0.idle 12 (grid0.coords t) = false := by decide +kernel
theorem idle_13 : ∀ t : Fin cfg0.N, ¬t.val = 7 → cfg0.idle 13 (grid0.coords t) = true := by decide +kernel
theorem noFlush_13 : ∀ t : Fin cfg0.N, ¬t.val = 7 → (cfg0.win 13).flush t = false := by decide +kernel
theorem live_13 : ∀ t : Fin cfg0.N, t.val = 7 → cfg0.idle 13 (grid0.coords t) = false := by decide +kernel

/-- What the pipeline hands the body, and what the body hands back. -/
def pre : sProp 𝕄 :=
  iprop((dats m 0 c).Φ t.castSucc ∗ (dats m 0 c).owesAt () t.castSucc
    ∗ bigSep Finset.univ fun w : Fin 15 => iprop(∃ d, owns (c : Thread nD τ) ((cfg0.win w).stage (cfg0.slots t w)) fullShare ((dats m 0 c).before w t d)))

def post : sProp 𝕄 :=
  iprop((dats m 0 c).Φ t.succ ∗ (dats m 0 c).owesAt () t.succ
    ∗ bigSep Finset.univ fun w : Fin 15 => (dats m 0 c).leavesExact w t)

/-- Contents the body may find. -/
structure Fits (σ : St F) : Prop where
  ins : SameIns σ (fed m c t σ)
  sums : t.val ≠ 0 → SameSums σ (prev m c t)
  dw : ∃ d, σ.dw = (dats m 0 c).before 12 t d
  dc : ∃ d, σ.dc = (dats m 0 c).before 13 t d

/-- And contents it may leave. -/
structure Leaves (σ : St F) : Prop where
  ins : SameIns σ (fed m c t σ)
  gx : σ.gx = (outs m c t.val t.isLt).gx
  sums : SameSums σ (outs m c t.val t.isLt)
  last : t.val = 7 → σ.dw = (outs m c t.val t.isLt).dw ∧ σ.dc = (outs m c t.val t.isLt).dc
  idle : ¬t.val = 7 → (∃ d, σ.dw = (dats m 0 c).before 12 t d) ∧ ∃ d, σ.dc = (dats m 0 c).before 13 t d

theorem leaves_of (σ : St F) (h : Fits m c t σ) (R : Vec F S2x512x128 .f32) :
    Leaves m c t {closed (grid0.coords t) (opened (grid0.coords t) σ) with ss := R} := by
  obtain ⟨k1, k2, k3⟩ := left_same m c t σ h.ins h.sums
  have ho : SameIns (opened (grid0.coords t) σ) (fed m c t σ) := by
    obtain ⟨h0, h1, h2, h3, h4, h5, h6, h7, h8, h9, h10⟩ := h.ins
    unfold opened
    split <;> constructor <;> assumption
  refine ⟨⟨ho.du, ho.dun, ho.dp, ho.dpn, ho.z, ho.zp, ho.x, ho.dx, ho.cw, ho.g, ho.w⟩, k1, ⟨k2.acc, k2.dca, k2.dg⟩, k3, fun h7 => ?_⟩
  have hl : ¬k0_cond2 (grid0.coords t) = 1#1 := fun h => h7 ((last_iff t).mp h)
  have e1 : (closed (grid0.coords t) (opened (grid0.coords t) σ)).dw = σ.dw := (if_neg hl).trans (by unfold opened; split <;> rfl)
  have e2 : (closed (grid0.coords t) (opened (grid0.coords t) σ)).dc = σ.dc := (if_neg hl).trans (by unfold opened; split <;> rfl)
  exact ⟨h.dw.imp fun d hd => e1.trans hd, h.dc.imp fun d hd => e2.trans hd⟩

set_option maxHeartbeats 4000000 in
/-- The buffers at the point, together. -/
theorem pre_own : (pre m c t : sProp 𝕄) ⊢ iprop((dats m 0 c).owesAt () t.castSucc ∗ (∃ r, prngReg c r)
    ∗ ∃ σ, ⌜Fits m c t σ⌝ ∗ own c (parts (F := F) (bufs t)) σ) := by
  unfold pre
  rw [bigSep_W0, Inv_at]
  unfold Inv parts
  simp only [Straight.own]
  dsimp only [bufs]
  simp only [before0_0_of m (dats m 0 c) (A_eq m c 0) (after0_0 m c) t,
    before0_1_of m (dats m 0 c) (A_eq m c 1) (after0_1 m c) t,
    before0_2_of m (dats m 0 c) (A_eq m c 2) (after0_2 m c) t,
    before0_3_of m (dats m 0 c) (A_eq m c 3) (after0_3 m c) t,
    before0_4_of m (dats m 0 c) (A_eq m c 4) (after0_4 m c) t,
    before0_5_of m (dats m 0 c) (A_eq m c 5) (after0_5 m c) t,
    before0_6_of m (dats m 0 c) (A_eq m c 6) (after0_6 m c) t,
    before0_7_of m (dats m 0 c) (A_eq m c 7) (after0_7 m c) t,
    before0_8_of m (dats m 0 c) (A_eq m c 8) (after0_8 m c) t,
    before0_9_of m (dats m 0 c) (A_eq m c 9) (after0_9 m c) t,
    before0_10_of m (dats m 0 c) (A_eq m c 10) (after0_10 m c) t]
  iintro ⟨⟨⟨%e0, S0⟩, ⟨%e1, S1⟩, ⟨%e2, S2⟩, ⟨%e3, S3⟩, ⟨%e4, S4⟩, ⟨%e5, S5⟩, ⟨%e6, %q6, S6⟩, ⟨%e7, %q7, S7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  isplitl [Ho]; · iexact Ho
  isplitl [Hg]; · iexact Hg
  iexists (⟨iblk m c 0 t, iblk m c 1 t, iblk m c 2 t, iblk m c 3 t, iblk m c 4 t, iblk m c 5 t, iblk m c 6 t, iblk m c 7 t, iblk m c 8 t, iblk m c 9 t, iblk m c 10 t, _, _, _, _, e0, e1, e2, e3, e4, e5, e6, e7⟩ : St F)
  isplitr
  swap
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iempintro
  ipureintro
  exact ⟨⟨rfl, rfl, rfl, rfl, rfl, rfl, rfl, rfl, rfl, rfl, rfl⟩, fun h => ⟨q6 h, q7 h, before0_14 m c t h _⟩, ⟨_, rfl⟩, ⟨_, rfl⟩⟩

set_option maxHeartbeats 4000000 in
/-- And back. -/
theorem own_post (σ : St F) (h : Leaves m c t σ) : iprop((dats m 0 c).owesAt () t.succ ∗ (∃ r, prngReg c r) ∗ own c (parts (F := F) (bufs t)) σ)
    ⊢ (post m c t : sProp 𝕄) := by
  have hs : (dats m 0 c).Φ t.succ = Inv m c (t.val + 1) t.isLt := rfl
  unfold post
  rw [bigSep_W0, hs, leaves_live m c t 0 rfl, leaves_live m c t 1 rfl, leaves_live m c t 2 rfl, leaves_live m c t 3 rfl, leaves_live m c t 4 rfl, leaves_live m c t 5 rfl, leaves_live m c t 6 rfl, leaves_live m c t 7 rfl, leaves_live m c t 8 rfl, leaves_live m c t 9 rfl, leaves_live m c t 10 rfl, leaves_live m c t 11 rfl, leaves_live m c t 14 rfl]
  simp only [after0_0, after0_1, after0_2, after0_3, after0_4, after0_5, after0_6, after0_7, after0_8, after0_9, after0_10, after0_11, after0_14]
  have hl12 : owns (c : Thread nD τ) (bufs t).dw fullShare σ.dw ⊢ ((dats m 0 c).leavesExact 12 t : sProp 𝕄) := by
    by_cases h7 : t.val = 7
    · rw [leaves_live m c t 12 (live_12 t h7), after0_12, (h.last h7).1]
      exact .rfl
    · rw [Dat.leavesExact_idle (dats m 0 c) 12 t (idle_12 t h7) (noFlush_12 t h7)]
      obtain ⟨d, hd⟩ := (h.idle h7).1
      rw [hd]
      iintro H
      iexists d; iexact H
  have hl13 : owns (c : Thread nD τ) (bufs t).dc fullShare σ.dc ⊢ ((dats m 0 c).leavesExact 13 t : sProp 𝕄) := by
    by_cases h7 : t.val = 7
    · rw [leaves_live m c t 13 (live_13 t h7), after0_13, (h.last h7).2]
      exact .rfl
    · rw [Dat.leavesExact_idle (dats m 0 c) 13 t (idle_13 t h7) (noFlush_13 t h7)]
      obtain ⟨d, hd⟩ := (h.idle h7).2
      rw [hd]
      iintro H
      iexists d; iexact H
  rw [← h.gx, ← h.sums.dg]
  rw [show iblk m c 0 t = σ.du from h.ins.du.symm, show iblk m c 1 t = σ.dun from h.ins.dun.symm, show iblk m c 2 t = σ.dp from h.ins.dp.symm, show iblk m c 3 t = σ.dpn from h.ins.dpn.symm, show iblk m c 4 t = σ.z from h.ins.z.symm, show iblk m c 5 t = σ.zp from h.ins.zp.symm, show iblk m c 6 t = σ.x from h.ins.x.symm, show iblk m c 7 t = σ.dx from h.ins.dx.symm, show iblk m c 8 t = σ.cw from h.ins.cw.symm, show iblk m c 9 t = σ.g from h.ins.g.symm, show iblk m c 10 t = σ.w from h.ins.w.symm]
  unfold Inv parts
  simp only [Straight.own]
  iintro ⟨Ho, Hg, H0, H1, H2, H3, H4, H5, H6, H7, H8, H9, H10, H11, H12, H13, H14, S0, S1, S2, S3, S4, S5, S6, S7, He⟩
  isplitl [S0 S1 S2 S3 S4 S5 S6 S7 Hg]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]
    · iexists σ.acc
      isplitr
      swap; · iexact S6
      ipureintro; exact fun _ => h.sums.acc
    isplitl [S7]
    · iexists σ.dca
      isplitr
      swap; · iexact S7
      ipureintro; exact fun _ => h.sums.dca
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iapply hl12; iexact H12
  isplitl [H13]; · iapply hl13; iexact H13
  iexact H14

/-- The body at any point. -/
theorem sound : pre m c t ⊢ wp frame (wpE (defs₀ (F := F)) Variants.none c none) Set.univ (bodyAt0 t) (fun _ => post m c t) := by
  refine (pre_own m c t).trans ?_
  have hb : bodyAt0 (F := F) t = (whole (bufs t) (grid0.coords t)).prog := body_eq (bufs t) (grid0.coords t)
  have ho : (dats m 0 c).owesAt () t.succ = (dats m 0 c).owesAt () t.castSucc := rfl
  rw [hb]
  iintro ⟨Ho, Hg, %σ, %hσ, H⟩
  obtain ⟨R, hR⟩ := (whole_ends (A := bufs t) (grid0.coords t) σ).holds
  iapply ((whole (bufs t) (grid0.coords t)).sound c σ fun _ => post m c t)
  isplitl [H]; · iexact H
  rw [hR]
  iintro H
  iapply (own_post m c t _ (leaves_of m c t σ hσ R))
  rw [ho]
  isplitl [Ho]; · iexact Ho
  isplitl [Hg]; · iexact Hg
  iexact H

end

theorem row_eq (t : Fin cfg0.N) : defs₀ (F := F) .tc cfg0.body (cfg0.bodyArgs t (cfg0.slots t)) = bodyAt0 t := by
  unfold defs₀; rw [Defs.onTc_tc]

theorem obligation : BodyObligation (dats (F := F) m 0 c) (defs₀ (F := F)) Variants.none () Set.univ := fun t => by
  rw [row_eq]
  exact triple_restated (sound m c t) rfl .rfl fun _ => .rfl

theorem enter : Pipeline.ΦA spec0 c ⊢ (dats m 0 c).Φ 0 := by
  rw [show (dats m 0 c).Φ 0 = Inv m c 0 (Nat.zero_le _) from rfl, PhiA0_eq]
  unfold Inv
  iintro ⟨⟨S0, S1, S2, S3, S4, S5, ⟨%d6, S6⟩, ⟨%d7, S7⟩⟩, Hg⟩
  isplitl [S0]; · iexact S0
  isplitl [S1]; · iexact S1
  isplitl [S2]; · iexact S2
  isplitl [S3]; · iexact S3
  isplitl [S4]; · iexact S4
  isplitl [S5]; · iexact S5
  isplitl [S6]
  · iexists d6
    isplitr
    swap; · iexact S6
    ipureintro; exact fun h => absurd rfl h
  isplitl [S7]
  · iexists d7
    isplitr
    swap; · iexact S7
    ipureintro; exact fun h => absurd rfl h
  iexact Hg

theorem leave : (dats m 0 c).Φ (Fin.last cfg0.N) ⊢ Pipeline.ΦA spec0 c := by
  rw [show (dats m 0 c).Φ (Fin.last cfg0.N) = Inv m c cfg0.N (Nat.le_refl _) from rfl, PhiA0_eq]
  unfold Inv
  iintro ⟨S0, S1, S2, S3, S4, S5, ⟨%d6, %q6, S6⟩, ⟨%d7, %q7, S7⟩, Hg⟩
  isplitr [Hg]
  swap; · iexact Hg
  isplitl [S0]; · iexact S0
  isplitl [S1]; · iexact S1
  isplitl [S2]; · iexact S2
  isplitl [S3]; · iexact S3
  isplitl [S4]; · iexact S4
  isplitl [S5]; · iexact S5
  isplitl [S6]; · iexists _; iexact S6
  iexists _; iexact S7

set_option backward.isDefEq.respectTransparency.types false in
theorem run_main_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enter m) (hout := leave m)

/-- Every run ends with the arrays at what the points left. -/
theorem run_main : θ_run defs (onTc (τ := τ) (main (F := F))) (s₀ m ρ) (Pipeline.FramePost cfgs (dats m) 0 (V m)) :=
  (θ_run defs _ _).mono (fun _ h => h.1) (run_main_quiescent m ρ)

/-- The program runs, leaves its arguments as they were and ends with every counter at zero. -/
theorem frame_holds : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  θ_run_and (frame_of m ρ (dats m) (A_eq m) (run_main m ρ))
    ((θ_run defs _ _).mono (fun _ h => h.2) (run_main_quiescent m ρ))

end Cert.InBwdIdeal.Body

end
-- ==== Proof.InBwd.Machine.lean ====
/- The machine-float program has the exact program's text, so the exact program's run, at any floats, gives its frame. -/
module

public import proofs.«01_k».proof.Defs
public import proofs.«01_k».proof.Proof.Gen.InBwd
public import proofs.«01_k».proof.Proof.InBwd.Frame

@[expose] public section

set_option maxRecDepth 16384

namespace Cert.InBwd.Machine

open Idealize.ShloMosaic Idealize.SL.Sem

/-- Every run of the machine-float program leaves its arguments as they were and its counters at zero. -/
theorem frame : Cert.quiescent_InBwd (hInBwd := Cert.InBwd.Gen.facts) :=
  have h : ∀ (m : (ℓ : Loc InBwdIdeal.nD InBwdIdeal.τ InBwdIdeal.sig) → Buf (Elt Bits) ℓ) (ρ : Dev InBwdIdeal.nD → PrngReg), True → _ :=
    fun m ρ _ => Cert.InBwdIdeal.Body.frame_holds (F := Bits) m ρ
  Eq.mp (by sl_kernel_rfl) h

end Cert.InBwd.Machine
-- ==== Proof.InBwd.RefRun.lean ====
/- The reference's run, stated in the named stages of its arguments. -/
module

public import proofs.«01_k».proof.Proof.Gen.InRefIdeal.Run
public import proofs.«01_k».proof.Proof.Gen.InRefIdeal.Read

@[expose] public section

namespace Cert.InRefIdeal.Whole

open Idealize.ShloMosaic Idealize.ShloMosaic.TcCoe Idealize.SL.Sem

/-- The reference's run, its results as the named stages of its arguments. -/
theorem reference_run (m' : (ℓ : Loc nD τ sig) → Buf (Elt Ideal) ℓ) (g' : Dev nD → PrngReg) :
    θ_run defs (onTc (τ := τ) (main (F := Ideal))) ⟨m', fun _ => 0, g'⟩ fun r => ∀ c : Dev nD,
      let A := fun b : Ref sig .tc => m' ((c : Thread nD τ).loc b)
      r.2.mem ((c : Thread nD τ).loc main_v731) = Read.val_main_v731 (F := Ideal) (A main_arg0) (A main_arg1) (A main_arg2)
          (A main_arg3) (A main_arg5) (A main_arg6) (A main_arg7)
      ∧ r.2.mem ((c : Thread nD τ).loc main_v734) = Read.val_main_v734 (F := Ideal) (A main_arg0) (A main_arg1) (A main_arg2)
          (A main_arg3) (A main_arg6) (A main_arg7)
      ∧ r.2.mem ((c : Thread nD τ).loc main_v736) = Read.val_main_v736 (F := Ideal) (A main_arg0) (A main_arg1) (A main_arg2)
          (A main_arg6)
      ∧ r.2.mem ((c : Thread nD τ).loc main_v738) = Read.val_main_v738 (F := Ideal) (A main_arg0) (A main_arg1) (A main_arg2)
          (A main_arg3) (A main_arg6) (A main_arg7)
      ∧ r.2.mem ((c : Thread nD τ).loc main_arg0) = A main_arg0 ∧ r.2.mem ((c : Thread nD τ).loc main_arg1) = A main_arg1
      ∧ r.2.mem ((c : Thread nD τ).loc main_arg2) = A main_arg2 ∧ r.2.mem ((c : Thread nD τ).loc main_arg3) = A main_arg3
      ∧ r.2.mem ((c : Thread nD τ).loc main_arg4) = A main_arg4 ∧ r.2.mem ((c : Thread nD τ).loc main_arg5) = A main_arg5
      ∧ r.2.mem ((c : Thread nD τ).loc main_arg6) = A main_arg6 ∧ r.2.mem ((c : Thread nD τ).loc main_arg7) = A main_arg7 :=
  (θ_run defs _ _).mono (fun r h c => ⟨(h c).1.trans (Read.val_main_v731_eq _), (h c).2.1.trans (Read.val_main_v734_eq _),
    (h c).2.2.1.trans (Read.val_main_v736_eq _), (h c).2.2.2.1.trans (Read.val_main_v738_eq _), (h c).2.2.2.2⟩) (Value.run m' g')

/-- The reference runs, leaves its arguments as they were and ends with every counter at zero. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0 :=
  (θ_run defs _ _).mono (fun r h => ⟨fun c => (h c).2.2.2.2, Idealize.ShloMosaic.sem_eq_zero_of_no_sems (by decide) r.2⟩)
    (Value.run m ρ)

end Cert.InRefIdeal.Whole
-- ==== Proof.InBwd.Spec.lean ====
/- The gradient through the first part of a mixing layer, as formulas over the real numbers: the row normed by its root mean
   square, the projection `z` in three parts `a`, `b`, `v`, the gated rows `u = a * sig b` under a causal convolution of 31
   taps, and the parts `v` under four causal means of 2, 4, 8 and 16 rows, each less the row itself.

   The arrays are functions of two natural numbers; the cotangents are zero past the last of the 4096 rows. -/
module

public import proofs.«01_k».proof.Proof.Real.Norm

@[expose] public section

noncomputable section

namespace Cert.InBwd.Spec

open Cert.Lift

/-- The inputs, the weights, and the cotangents of the three results. -/
structure Data where
  x : ℕ → ℕ → ℝ
  gain : ℕ → ℝ
  wIn : ℕ → ℕ → ℝ
  cw : ℕ → ℕ → ℝ
  dx : ℕ → ℕ → ℝ
  du : ℕ → ℕ → ℝ
  dp : ℕ → ℕ → ℝ
  du_out : ∀ n e, 4096 ≤ n → du n e = 0
  dp_out : ∀ n e, 4096 ≤ n → dp n e = 0

variable (D : Data)

def row (n : ℕ) : Fin 1024 → ℝ := fun l => D.x n l
def normed (n l : ℕ) : ℝ := D.x n l * rinv (row D n)
def z (n k : ℕ) : ℝ := ∑ l : Fin 1024, normed D n l * D.gain l * D.wIn l k
def u (n e : ℕ) : ℝ := z D n e * sig (z D n (512 + e))
/-- The gated rows after 32 rows of zeros. -/
def uB (n e : ℕ) : ℝ := if 32 ≤ n then u D (n - 32) e else 0
/-- The gated rows' gradient: the convolution turned around. -/
def du0 (n e : ℕ) : ℝ := ∑ k ∈ Finset.range 31, D.cw k e * D.du (n + 30 - k) e
/-- A lane's window, and how many rows it holds. -/
def wlen (e : ℕ) : ℕ := 2 ^ (e / 128 + 1)
def q (n e : ℕ) : ℝ := D.dp n e / ((min (n + 1) (wlen e) : ℕ) : ℝ)
def pl (n e : ℕ) : ℝ := ∑ d ∈ Finset.range (wlen e), q D (n + d) e
/-- The projection's gradient. -/
def dz (n k : ℕ) : ℝ :=
  if k < 512 then du0 D n k * sig (z D n (512 + k))
  else if k < 1024 then du0 D n (k - 512) * z D n (k - 512) * sig (z D n k) * (1 - sig (z D n k))
  else pl D n (k - 1024) - D.dp n (k - 1024)
/-- The normed rows' gradient. -/
def dh (n l : ℕ) : ℝ := ∑ k : Fin 1536, dz D n k * D.wIn l k
/-- The rows' gradient: directly, and through the norm. -/
def gx (n : ℕ) (l : Fin 1024) : ℝ := D.dx n l + rmsBack (row D n) (fun k => dh D n k * D.gain k) l
/-- What one row adds to the gradients of the weights, of a tap and of the gain. -/
def dwAt (l k n : ℕ) : ℝ := normed D n l * D.gain l * dz D n k
def dcAt (k e n : ℕ) : ℝ := D.du n e * uB D (n + 2 + k) e
def dgAt (l n : ℕ) : ℝ := dh D n l * normed D n l
def dw (l k : ℕ) : ℝ := ∑ n ∈ Finset.range 4096, dwAt D l k n
def dc (k e : ℕ) : ℝ := if k < 31 then ∑ n ∈ Finset.range 4096, dcAt D k e n else 0
def dg (b l : ℕ) : ℝ := if b = 0 then ∑ n ∈ Finset.range 4096, dgAt D l n else 0

/-! ## Sums in pieces -/

theorem q_out {n e : ℕ} (h : 4096 ≤ n) : q D n e = 0 := by rw [q, D.dp_out _ _ h, zero_div]

/-- A sum of differences at distance `w` keeps the first `w` terms, less those past the end. -/
theorem sum_shift (f : ℕ → ℝ) (N w : ℕ) :
    ∑ n ∈ Finset.range N, (f n - f (n + w)) = ∑ n ∈ Finset.range w, f n - ∑ n ∈ Finset.range w, f (N + n) := by
  have h1 := Finset.sum_range_add f N w
  have h2 := Finset.sum_range_add f w N
  rw [Finset.sum_sub_distrib]
  rw [add_comm w N, h1] at h2
  have h3 : ∑ n ∈ Finset.range N, f (n + w) = ∑ n ∈ Finset.range N, f (w + n) := Finset.sum_congr rfl fun n _ => by rw [add_comm]
  linarith

/-- A pool's sum as a sum to the end of the differences. -/
theorem pl_tail (n e : ℕ) : ∑ k ∈ Finset.range 4096, (q D (n + k) e - q D (n + k + wlen e) e) = pl D n e := by
  have h := sum_shift (fun k => q D (n + k) e) 4096 (wlen e)
  have h0 : ∑ k ∈ Finset.range (wlen e), q D (n + (4096 + k)) e = 0 := Finset.sum_eq_zero fun k _ => q_out D (by omega)
  rw [h0, sub_zero] at h
  simp only [← add_assoc] at h
  exact h

/-- Sums over rows in `a` tiles of `b`. -/
theorem sum_tiles (a b : ℕ) (f : ℕ → ℝ) :
    ∑ i ∈ Finset.range a, ∑ r ∈ Finset.range b, f (b * i + r) = ∑ n ∈ Finset.range (a * b), f n := by
  induction a with
  | zero => simp
  | succ a ih => rw [Finset.sum_range_succ, ih, Nat.succ_mul, Finset.sum_range_add, mul_comm a b]

end Cert.InBwd.Spec
-- ==== Proof.InBwd.Values.lean ====
/- The sums over a point's shifted copies when the copies hold real rows. -/
module

public import proofs.«01_k».proof.Proof.InBwd.Spec
public import proofs.«01_k».proof.Proof.InBwd.Point

@[expose] public section

set_option maxRecDepth 16384

noncomputable section

namespace Cert.InBwd.Kernel

open Idealize.ShloMosaic Idealize.ShloMosaic.TcCoe Idealize.SL.Sem
open Cert.InBwdIdeal Cert.InBwdIdeal.Gen Cert.InBwdIdeal.Body Cert.Straight Cert.Lift Cert.InBwd.Spec

variable {D : Data} {T : ℕ}

/-- The row an entry of a shifted copy holds. -/
abbrev place (T y : ℕ) : ℕ := 512 * T + 64 * (y % 8) + y / 8

theorem plane128 (u : Vec Ideal S1x128x128 .f32) (r l : Fin 128) : shapeCast S128x128 u shapeCasts_S1x128x128_S128x128 (ix2 r l) = u (ix3 0 r l) := by
  pointwise

theorem stretch_at (e : Vec Ideal S4x768x128 .f32) (c : Fin 4) (g : ℕ) (h : g ≤ 80) (r l : Fin 128) :
    stretch e c g h (ix2 r l) = e (ix3 c (⟨8 * g + r, by omega⟩ : Fin 768) l) := by
  unfold stretch
  rw [plane128]
  exact congrArg e (ext3 (show c.val + 1 * 0 = c.val by omega) (show 8 * g + 1 * r.val = 8 * g + r.val by omega) (show 0 + 1 * l.val = l.val by omega))

theorem ownVal_at (e : Vec Ideal S4x768x128 .f32) (c v : Fin 4) (r l : Fin 128) :
    ownVal e c v (ix2 r l) = e (ix3 c (⟨128 * v + r, by omega⟩ : Fin 768) l) := by
  unfold ownVal
  rw [plane128]
  exact congrArg e (ext3 (show c.val + 1 * 0 = c.val by omega) (show 128 * v.val + 1 * r.val = 128 * v.val + r.val by omega) (show 0 + 1 * l.val = l.val by omega))

theorem tapRow_at (w : Vec Ideal S32x512 .f32) (c : Fin 4) (k : ℕ) (h : k < 31) (o : Fin 1) (l : Fin 128) :
    tapRow w c k h (ix2 o l) = w (ix2 (⟨k, by omega⟩ : Fin 32) (⟨128 * c + l, by omega⟩ : Fin 512)) := by
  unfold tapRow
  pointwise
  exact congrArg w (ext2 (show k + 1 * 0 = k by omega) (show 128 * c.val + 1 * l.val = 128 * c.val + l.val by omega))

section Sums

variable {cw : Vec Ideal S32x512 .f32} (hcw : ∀ (k : Fin 32) (e : Fin 512), k.val < 31 → cw (ix2 k e) = ((D.cw k e : ℝ) : EReal))
  {eu ed ep : Vec Ideal S4x768x128 .f32}
  (hed : ∀ (c : Fin 4) (y : Fin 768) (l : Fin 128), ed (ix3 c y l) = ((D.du (place T y) (128 * c + l) : ℝ) : EReal))
  (hep : ∀ (c : Fin 4) (y : Fin 768) (l : Fin 128), ep (ix3 c y l) = ((q D (place T y) (128 * c + l) : ℝ) : EReal))
  (heu : ∀ (c : Fin 4) (y : Fin 768) (l : Fin 128), eu (ix3 c y l) = ((uB D (place T y) (128 * c + l) : ℝ) : EReal))
  (c v : Fin 4)

include hcw hed in
theorem convVal_at (k : ℕ) (hk : k ≤ 31) (r l : Fin 128) : convVal cw ed c v k (ix2 r l)
    = ((∑ j ∈ Finset.range k, D.cw j (128 * c + l) * D.du (512 * T + 64 * (r % 8) + (16 * v + r / 8) + 30 - j) (128 * c + l) : ℝ) : EReal) := by
  induction k with
  | zero => rw [convVal]; unfold zero128; pointwise; rw [Finset.sum_range_zero]; exact EReal.coe_zero.symm
  | succ k ih =>
    rw [convVal, dif_pos (by omega), Finset.sum_range_succ]
    unfold convAdd
    pointwise
    rw [ih (by omega), stretch_at, tapRow_at, hcw _ _ (show k < 31 by omega), hed, up_mul, up_add]
    have e : place T (8 * (16 * v.val + 30 - k) + r.val) = 512 * T + 64 * (r % 8) + (16 * v + r / 8) + 30 - k := by
      unfold place; omega
    simp only [e]

include hep in
theorem poolVal_at (k : ℕ) (hk : k ≤ 15) (r l : Fin 128) : poolVal ep c v k (ix2 r l)
    = ((∑ d ∈ Finset.range (k + 1), q D (512 * T + 64 * (r % 8) + (16 * v + r / 8) + d) (128 * c + l) : ℝ) : EReal) := by
  induction k with
  | zero =>
    rw [poolVal, stretch_at, hep, Finset.sum_range_one]
    have e : place T (8 * (16 * v.val) + r.val) = 512 * T + 64 * (r % 8) + (16 * v + r / 8) + 0 := by unfold place; omega
    simp only [e]
  | succ k ih =>
    rw [poolVal, dif_pos (by omega), Finset.sum_range_succ]
    pointwise
    rw [ih (by omega), stretch_at, hep, up_add]
    have e : place T (8 * (16 * v.val + (k + 1)) + r.val) = 512 * T + 64 * (r % 8) + (16 * v + r / 8) + (k + 1) := by
      unfold place; omega
    simp only [e]

theorem folded_at (p : FVec Ideal S128x128 .f32) (f : ℕ → Fin 128 → ℝ) (hp : ∀ r l : Fin 128, p (ix2 r l) = ((f r l : ℝ) : EReal))
    (m : ℕ) (hm : m < 16) (s : Fin 8) (l : Fin 128) :
    folded p m hm (ix2 s l) = ((∑ j ∈ Finset.range (m + 1), f (8 * j + s) l : ℝ) : EReal) := by
  induction m with
  | zero =>
    rw [Finset.sum_range_one]
    refine Eq.trans ?_ (hp ⟨8 * 0 + s, by omega⟩ l)
    show eight p 0 hm (ix2 s l) = _
    unfold eight
    pointwise
  | succ m ih =>
    rw [Finset.sum_range_succ, ← up_add, ← ih (by omega)]
    refine congrArg (_ + ·) ((Eq.trans ?_ (hp ⟨8 * (m + 1) + s, by omega⟩ l)))
    show eight p (m + 1) hm (ix2 s l) = _
    unfold eight
    pointwise

include hed heu in
/-- Eight rows of a tap's gradient. -/
theorem foldVal_at (k : ℕ) (hk : k < 31) (s : Fin 8) (l : Fin 128) : foldVal eu ed c v k hk (ix2 s l)
    = ((∑ j ∈ Finset.range 16, dcAt D k (128 * c + l) (512 * T + 64 * s + 16 * v + j) : ℝ) : EReal) := by
  unfold foldVal
  refine (folded_at _ (fun r l => D.du (512 * T + 64 * (r % 8) + 16 * v + r / 8) (128 * c + l)
    * uB D (512 * T + 64 * (r % 8) + 16 * v + r / 8 + 2 + k) (128 * c + l)) (fun r l => ?_) 15 _ s l).trans ?_
  · pointwise
    rw [ownVal_at, stretch_at, hed, heu, up_mul]
    have e : place T (128 * v.val + r.val) = 512 * T + 64 * (r % 8) + 16 * v + r / 8 := by unfold place; omega
    have e' : place T (8 * (2 + 16 * v.val + k) + r.val) = 512 * T + 64 * (r % 8) + 16 * v + r / 8 + 2 + k := by unfold place; omega
    simp only [e, e']
  · refine congrArg _ (Finset.sum_congr rfl fun j _ => ?_)
    have e : (8 * j + s.val) % 8 = s := by omega
    have e' : (8 * j + s.val) / 8 = j := by omega
    simp only [e, e', dcAt]

end Sums

end Cert.InBwd.Kernel
-- ==== Proof.InBwd.Planes.lean ====
/- The planes of sums, the projection's gradient and the taps' partial sums of a point, over the real rows. -/
module

public import proofs.«01_k».proof.Proof.InBwd.Values

@[expose] public section

set_option maxRecDepth 16384

noncomputable section

namespace Cert.InBwd.Kernel

open Idealize.ShloMosaic Idealize.ShloMosaic.TcCoe Idealize.SL.Sem
open Cert.InBwdIdeal Cert.InBwdIdeal.Gen Cert.InBwdIdeal.Body Cert.Straight Cert.Lift Cert.InBwd.Spec

variable {D : Data} {T : ℕ}

/-! ## The planes of sums -/

section Planes

variable {cw : Vec Ideal S32x512 .f32} (hcw : ∀ (k : Fin 32) (e : Fin 512), k.val < 31 → cw (ix2 k e) = ((D.cw k e : ℝ) : EReal))
  {ed ep : Vec Ideal S4x768x128 .f32}
  (hed : ∀ (c : Fin 4) (y : Fin 768) (l : Fin 128), ed (ix3 c y l) = ((D.du (place T y) (128 * c + l) : ℝ) : EReal))
  (hep : ∀ (c : Fin 4) (y : Fin 768) (l : Fin 128), ep (ix3 c y l) = ((q D (place T y) (128 * c + l) : ℝ) : EReal))

include hcw hed in
theorem sums_conv (c : Fin 4) (y : Fin 512) (l : Fin 128) : SS cw ed ep c (ix3 0 y l) = ((du0 D (place T y) (128 * c + l) : ℝ) : EReal) := by
  refine (if_pos rfl).trans ((convVal_at hcw hed c ⟨y.val / 128, by omega⟩ 31 le_rfl (⟨y.val % 128, by omega⟩ : Fin 128) l).trans ?_)
  have e : 512 * T + 64 * (y.val % 128 % 8) + (16 * (y.val / 128) + y.val % 128 / 8) = place T y := by unfold place; omega
  simp only [e, du0]

theorem more_wlen (c : Fin 4) (l : Fin 128) : more c + 1 = wlen (128 * c + l) := by
  have h : (128 * c.val + l.val) / 128 = c.val := by omega
  rw [wlen, h]
  exact (by decide : ∀ c : Fin 4, more c + 1 = 2 ^ (c.val + 1)) c

include hep in
theorem sums_pool (c : Fin 4) (y : Fin 512) (l : Fin 128) : SS cw ed ep c (ix3 1 y l) = ((pl D (place T y) (128 * c + l) : ℝ) : EReal) := by
  refine (if_neg (show ¬(1 : ℕ) = 0 by decide)).trans ((poolVal_at hep c ⟨y.val / 128, by omega⟩ (more c) (more_le c) (⟨y.val % 128, by omega⟩ : Fin 128) l).trans ?_)
  have e : 512 * T + 64 * (y.val % 128 % 8) + (16 * (y.val / 128) + y.val % 128 / 8) = place T y := by unfold place; omega
  simp only [e, pl, more_wlen c l]

end Planes

/-! ## The projection's gradient -/

theorem plane64 (u : Vec Ideal S1x64x128 .f32) (r : Fin 64) (l : Fin 128) : shapeCast S64x128 u shapeCasts_S1x64x128_S64x128 (ix2 r l) = u (ix3 0 r l) := by
  pointwise

theorem same64 (u : Vec Ideal S64x128 .f32) (r : Fin 64) (l : Fin 128) : shapeCast S64x128 u shapeCasts_S64x128_S64x128 (ix2 r l) = u (ix2 r l) := by
  rw [shapeCast_id]

section Blocks

variable {ss : Vec Ideal S2x512x128 .f32} {z : Vec Ideal S512x1536 .f32} {dp : Vec Ideal S512x512 .f32} {c : Fin 4}
  (h0 : ∀ (y : Fin 512) (l : Fin 128), ss (ix3 0 y l) = ((du0 D (place T y) (128 * c + l) : ℝ) : EReal))
  (h1 : ∀ (y : Fin 512) (l : Fin 128), ss (ix3 1 y l) = ((pl D (place T y) (128 * c + l) : ℝ) : EReal))
  (hz : ∀ (r : Fin 512) (k : Fin 1536), z (ix2 r k) = ((Spec.z D (512 * T + r) k : ℝ) : EReal))
  (hdp : ∀ (r : Fin 512) (k : Fin 512), dp (ix2 r k) = ((D.dp (512 * T + r) k : ℝ) : EReal))
  (j : Fin 8) (r : Fin 64) (l : Fin 128)

theorem comb_at (p : ℕ) (hp hr) : shapeCast S64x128 (got (combS p j hp hr).toLoadRect ss : Vec Ideal S1x64x128 .f32) shapeCasts_S1x64x128_S64x128 (ix2 r l)
    = ss (ix3 (⟨p, by omega⟩ : Fin 2) (⟨j + 8 * r, by omega⟩ : Fin 512) l) := by
  rw [plane64]
  exact congrArg ss (ext3 (show p + 1 * 0 = p by omega) (show j.val + 8 * r.val = j.val + 8 * r.val from rfl) (show 0 + 1 * l.val = l.val by omega))

include h0 in
theorem comb0_at (hp hr) : shapeCast S64x128 (got (combS 0 j hp hr).toLoadRect ss : Vec Ideal S1x64x128 .f32) shapeCasts_S1x64x128_S64x128 (ix2 r l)
    = ((du0 D (512 * T + (64 * j + r)) (128 * c + l) : ℝ) : EReal) := by
  refine (comb_at j r l 0 hp hr).trans ((h0 _ l).trans ?_)
  have e : place T (j.val + 8 * r.val) = 512 * T + (64 * j + r) := by unfold place; omega
  simp only [e]

include h1 in
theorem comb1_at (hp hr) : shapeCast S64x128 (got (combS 1 j hp hr).toLoadRect ss : Vec Ideal S1x64x128 .f32) shapeCasts_S1x64x128_S64x128 (ix2 r l)
    = ((pl D (512 * T + (64 * j + r)) (128 * c + l) : ℝ) : EReal) := by
  refine (comb_at j r l 1 hp hr).trans ((h1 _ l).trans ?_)
  have e : place T (j.val + 8 * r.val) = 512 * T + (64 * j + r) := by unfold place; omega
  simp only [e]

include hz in
theorem block_at (o : ℕ) (hr ho) : shapeCast S64x128 (got (block (64 * j) o hr ho).toLoadRect z : Vec Ideal S64x128 .f32) shapeCasts_S64x128_S64x128 (ix2 r l)
    = ((Spec.z D (512 * T + (64 * j + r)) (o + l) : ℝ) : EReal) :=
  (same64 _ r l).trans ((congrArg z (ext2 (q := ix2 (⟨64 * j + r, by omega⟩ : Fin 512) (⟨o + l, by omega⟩ : Fin 1536))
    (show 64 * j.val + 1 * r.val = 64 * j.val + r.val by omega) (show o + 1 * l.val = o + l.val by omega))).trans (hz _ _))

include h0 hz in
theorem dzA_at : dzA ss z c j (ix2 r l)
    = ((du0 D (512 * T + (64 * j + r)) (128 * c + l) * sig (Spec.z D (512 * T + (64 * j + r)) (512 + (128 * c + l))) : ℝ) : EReal) := by
  unfold dzA
  show FloatOps.mulf (F := Ideal) (shapeCast _ _ _ _) (Ideal.logistic (shapeCast _ _ _ _)) = _
  rw [comb0_at h0, block_at hz, up_logistic]
  refine (up_mul _ _).trans ?_
  simp only [Nat.add_assoc]

include h0 hz in
theorem dzB_at : dzB ss z c j (ix2 r l)
    = ((du0 D (512 * T + (64 * j + r)) (128 * c + l) * Spec.z D (512 * T + (64 * j + r)) (128 * c + l)
      * sig (Spec.z D (512 * T + (64 * j + r)) (512 + (128 * c + l)))
      * (1 - sig (Spec.z D (512 * T + (64 * j + r)) (512 + (128 * c + l)))) : ℝ) : EReal) := by
  unfold dzB
  show (((shapeCast _ _ _ _ * shapeCast _ _ _ _) * Ideal.logistic (shapeCast _ _ _ _)) * (Ideal.ofBits .f32 0x3F800000#32 - Ideal.logistic (shapeCast _ _ _ _)) : EReal) = _
  rw [comb0_at h0, block_at hz, block_at hz, up_logistic, lit_1, up_sub]
  simp only [up_mul, Nat.add_assoc]

include h1 hdp in
theorem dzV_at : dzV ss dp c j (ix2 r l) = ((pl D (512 * T + (64 * j + r)) (128 * c + l) - D.dp (512 * T + (64 * j + r)) (128 * c + l) : ℝ) : EReal) := by
  unfold dzV
  show (shapeCast _ _ _ _ - got _ _ _ : EReal) = _
  rw [comb1_at h1, show got (rows64 (64 * j.val) (128 * c.val) (by omega) (by omega)).toLoadRect dp (ix2 r l)
      = dp (ix2 (⟨64 * j + r, by omega⟩ : Fin 512) (⟨128 * c + l, by omega⟩ : Fin 512)) from
    congrArg dp (ext2 (show 64 * j.val + 1 * r.val = 64 * j.val + r.val by omega) (show 128 * c.val + 1 * l.val = 128 * c.val + l.val by omega)), hdp, up_sub]

end Blocks

/-- The projection's gradient at a row of the point. -/
theorem DZ_at {S : Fin 4 → Vec Ideal S2x512x128 .f32} {z : Vec Ideal S512x1536 .f32} {dp : Vec Ideal S512x512 .f32}
    (h0 : ∀ (c : Fin 4) (y : Fin 512) (l : Fin 128), S c (ix3 0 y l) = ((du0 D (place T y) (128 * c + l) : ℝ) : EReal))
    (h1 : ∀ (c : Fin 4) (y : Fin 512) (l : Fin 128), S c (ix3 1 y l) = ((pl D (place T y) (128 * c + l) : ℝ) : EReal))
    (hz : ∀ (r : Fin 512) (k : Fin 1536), z (ix2 r k) = ((Spec.z D (512 * T + r) k : ℝ) : EReal))
    (hdp : ∀ (r : Fin 512) (k : Fin 512), dp (ix2 r k) = ((D.dp (512 * T + r) k : ℝ) : EReal)) (r : Fin 512) (k : Fin 1536) :
    DZ S z dp (ix2 r k) = ((dz D (512 * T + r) k : ℝ) : EReal) := by
  have er : 64 * (r.val / 64) + r.val % 64 = r.val := by omega
  unfold DZ
  show (if k.val < 512 then dzA (S ⟨k.val % 512 / 128, _⟩) z ⟨k.val % 512 / 128, _⟩ ⟨r.val / 64, _⟩ (ix2 ⟨r.val % 64, _⟩ ⟨k.val % 128, _⟩)
    else if k.val < 1024 then dzB (S ⟨k.val % 512 / 128, _⟩) z ⟨k.val % 512 / 128, _⟩ ⟨r.val / 64, _⟩ (ix2 ⟨r.val % 64, _⟩ ⟨k.val % 128, _⟩)
    else dzV (S ⟨k.val % 512 / 128, _⟩) dp ⟨k.val % 512 / 128, _⟩ ⟨r.val / 64, _⟩ (ix2 ⟨r.val % 64, _⟩ ⟨k.val % 128, _⟩)) = _
  unfold dz
  by_cases hk : k.val < 512
  · rw [if_pos hk, if_pos hk, dzA_at (h0 _) hz]
    have e : 128 * (k.val % 512 / 128) + k.val % 128 = k.val := by omega
    simp only [e, er]
  rw [if_neg hk, if_neg hk]
  by_cases hk' : k.val < 1024
  · rw [if_pos hk', if_pos hk', dzB_at (h0 _) hz]
    have e : 128 * (k.val % 512 / 128) + k.val % 128 = k.val - 512 := by omega
    have e' : 512 + (k.val - 512) = k.val := by omega
    simp only [e, er, e']
  · rw [if_neg hk', if_neg hk', dzV_at (h1 _) hdp]
    have e : 128 * (k.val % 512 / 128) + k.val % 128 = k.val - 1024 := by omega
    simp only [e, er]

/-! ## The taps' partial sums -/

section Taps

variable {eu ed : Vec Ideal S4x768x128 .f32}
  (hed : ∀ (c : Fin 4) (y : Fin 768) (l : Fin 128), ed (ix3 c y l) = ((D.du (place T y) (128 * c + l) : ℝ) : EReal))
  (heu : ∀ (c : Fin 4) (y : Fin 768) (l : Fin 128), eu (ix3 c y l) = ((uB D (place T y) (128 * c + l) : ℝ) : EReal))

include hed heu in
theorem units_at (c : Fin 4) (d : Vec Ideal S32x8x512 .f32) (v : ℕ) (hv : v ≤ 4) (k : Fin 32) (s : Fin 8) (e : Fin 512) :
    dcaUnits eu ed c v d (ix3 k s e) = if k.val < 31 ∧ 128 * c.val ≤ e.val ∧ e.val < 128 * c.val + 128
      then d (ix3 k s e) + ((∑ j ∈ Finset.range (v * 16), dcAt D k e (512 * T + 64 * s + j) : ℝ) : EReal) else d (ix3 k s e) := by
  induction v with
  | zero => rw [dcaUnits]; simp
  | succ v ih =>
    rw [dcaUnits, dif_pos (by omega)]
    unfold dcaTaps
    by_cases h : k.val < 31 ∧ 128 * c.val ≤ e.val ∧ e.val < 128 * c.val + 128
    · rw [dif_pos ⟨h.1, h.1, h.2⟩, if_pos h, ih (by omega), if_pos h]
      refine (congrArg (fun a : EReal => _ + a) (foldVal_at hed heu c ⟨v, by omega⟩ k.val h.1 s (⟨e - 128 * c, by omega⟩ : Fin 128))).trans ?_
      have he : 128 * c.val + (e.val - 128 * c.val) = e.val := by omega
      rw [add_mul, one_mul, Finset.sum_range_add, EReal.coe_add, ← add_assoc]
      refine congrArg₂ (fun a b : EReal => a + b) rfl (congrArg Real.toEReal (Finset.sum_congr rfl fun j _ => ?_))
      have e' : 512 * T + 64 * s.val + 16 * v + j = 512 * T + 64 * s.val + (v * 16 + j) := by omega
      simp only [he, e']
    · rw [dif_neg fun h' => h ⟨h'.1, h'.2.2⟩, if_neg h, ih (by omega), if_neg h]

include hed heu in
theorem groups_at (d : Vec Ideal S32x8x512 .f32) (c : ℕ) (hc : c ≤ 4) (k : Fin 32) (s : Fin 8) (e : Fin 512) :
    dcaGroups eu ed c d (ix3 k s e) = if k.val < 31 ∧ e.val < 128 * c
      then d (ix3 k s e) + ((∑ j ∈ Finset.range 64, dcAt D k e (512 * T + 64 * s + j) : ℝ) : EReal) else d (ix3 k s e) := by
  induction c with
  | zero => rw [dcaGroups]; simp
  | succ c ih =>
    rw [dcaGroups, dif_pos (by omega), units_at hed heu _ _ 4 le_rfl, ih (by omega)]
    by_cases hk : k.val < 31
    · by_cases h1 : e.val < 128 * c
      · rw [if_neg (by show ¬(_ ∧ 128 * c ≤ _ ∧ _); omega), if_pos ⟨hk, h1⟩, if_pos ⟨hk, by omega⟩]
      · by_cases h2 : e.val < 128 * (c + 1)
        · rw [if_pos ⟨hk, by show 128 * c ≤ _ ∧ _ < 128 * c + 128; omega⟩, if_neg fun h => h1 h.2, if_pos ⟨hk, h2⟩]
        · rw [if_neg (by show ¬(_ ∧ 128 * c ≤ _ ∧ _ < 128 * c + 128); omega), if_neg fun h => h1 h.2, if_neg fun h => h2 h.2]
    · rw [if_neg fun h => hk h.1, if_neg fun h => hk h.1, if_neg fun h => hk h.1]

end Taps

end Cert.InBwd.Kernel
-- ==== Proof.InBwd.Fill.lean ====
/- What the shifted copies of a point hold: the gated rows from 32 before the point on, and the two cotangents up to 32 rows
   after it, the pools' over the counts; zero before the first row and past the last. -/
module

public import proofs.«01_k».proof.Proof.InBwd.Planes

@[expose] public section

set_option maxRecDepth 16384

noncomputable section

namespace Cert.InBwd.Kernel

open Idealize.ShloMosaic Idealize.ShloMosaic.TcCoe Idealize.SL.Sem
open Cert.InBwdIdeal Cert.InBwdIdeal.Gen Cert.InBwdIdeal.Body Cert.Straight Cert.Lift Cert.InBwd.Spec

/-- The point's inputs hold its real rows, and those around it. -/
structure At (D : Data) (T : ℕ) (σ : St Ideal) : Prop where
  du : ∀ (r : Fin 512) (e : Fin 512), σ.du (ix2 r e) = ((D.du (512 * T + r) e : ℝ) : EReal)
  dun : T < 7 → ∀ (r : Fin 32) (e : Fin 512), σ.dun (ix2 r e) = ((D.du (512 * (T + 1) + r) e : ℝ) : EReal)
  dp : ∀ (r : Fin 512) (e : Fin 512), σ.dp (ix2 r e) = ((D.dp (512 * T + r) e : ℝ) : EReal)
  dpn : T < 7 → ∀ (r : Fin 32) (e : Fin 512), σ.dpn (ix2 r e) = ((D.dp (512 * (T + 1) + r) e : ℝ) : EReal)
  z : ∀ (r : Fin 512) (k : Fin 1536), σ.z (ix2 r k) = ((Spec.z D (512 * T + r) k : ℝ) : EReal)
  zp : 0 < T → ∀ (r : Fin 32) (k : Fin 1536), σ.zp (ix2 r k) = ((Spec.z D (512 * T + r - 32) k : ℝ) : EReal)
  x : ∀ (r : Fin 512) (l : Fin 1024), σ.x (ix2 r l) = ((D.x (512 * T + r) l : ℝ) : EReal)
  dx : ∀ (r : Fin 512) (l : Fin 1024), σ.dx (ix2 r l) = ((D.dx (512 * T + r) l : ℝ) : EReal)
  cw : ∀ (k : Fin 32) (e : Fin 512), k.val < 31 → σ.cw (ix2 k e) = ((D.cw k e : ℝ) : EReal)
  g : ∀ (o : Fin 1) (l : Fin 1024), σ.g (ix2 o l) = ((D.gain l : ℝ) : EReal)
  w : ∀ (j : Fin 4) (l : Fin 1024) (k : Fin 384), σ.w (ix3 j l k) = ((D.wIn l (384 * j + k) : ℝ) : EReal)

/-! ## The words -/

section Words

variable {i : grid0.Coords} {T : ℕ} (hi : (i 0).val = T) (hT : T < 8)
include hi hT

theorem kept_at : kept (F := Ideal) i = (((if 0 < T then 1 else 0 : ℤ) : ℝ) : EReal) := by
  have h : ∀ T : Fin 8, (Scalar.extui (Scalar.cmpi .sgt (BitVec.ofNat 32 T.val) 0#32) : BitVec 32).toInt = if 0 < T.val then 1 else 0 := by decide
  subst hi
  exact congrArg (fun n : ℤ => ((n : ℝ) : EReal)) (h ⟨_, hT⟩)

theorem follows_at : follows (F := Ideal) i = (((if T < 7 then 1 else 0 : ℤ) : ℝ) : EReal) := by
  have h : ∀ T : Fin 8, (Scalar.extui (Scalar.cmpi .slt (BitVec.ofNat 32 T.val) 7#32) : BitVec 32).toInt = if T.val < 7 then 1 else 0 := by decide
  subst hi
  exact congrArg (fun n : ℤ => ((n : ℝ) : EReal)) (h ⟨_, hT⟩)

omit hT in
theorem rowWord_at (r : ℕ) : rowWord i r = BitVec.ofNat 32 (512 * T + r) := by
  subst hi
  unfold rowWord
  show BitVec.ofNat 32 _ * BitVec.ofNat 32 512 + _ = _
  rw [BitVec.ofNat_add, BitVec.ofNat_mul, BitVec.mul_comm]

omit hT in
theorem nextWord_at : nextWord i = BitVec.ofNat 32 (512 * (T + 1)) := by
  subst hi
  unfold nextWord
  show (BitVec.ofNat 32 _ + BitVec.ofNat 32 1) * BitVec.ofNat 32 512 = _
  rw [BitVec.ofNat_mul, BitVec.ofNat_add, BitVec.mul_comm]

end Words

theorem lit_win (c : Fin 4) : Ideal.ofBits .f32 (win c) = (((2 ^ (c.val + 1) : ℕ) : ℝ) : EReal) := by
  match c with
  | 0 => show Ideal.ofBits .f32 0x40000000#32 = _; rw [lit_2]; norm_num
  | 1 => show Ideal.ofBits .f32 0x40800000#32 = _; simp [Ideal.ofBits, Ideal.ieee]; rw [← EReal.coe_mul]; norm_num
  | 2 => show Ideal.ofBits .f32 0x41000000#32 = _; simp [Ideal.ofBits, Ideal.ieee]; rw [← EReal.coe_mul]; norm_num
  | 3 => show Ideal.ofBits .f32 0x41800000#32 = _; simp [Ideal.ofBits, Ideal.ieee]; rw [← EReal.coe_mul]; norm_num

theorem min_up (a b : ℕ) : min (((a : ℝ)) : EReal) ((b : ℝ) : EReal) = (((min a b : ℕ) : ℝ) : EReal) := by
  rw [Nat.cast_min]
  exact (EReal.coe_strictMono.monotone.map_min).symm

theorem word_toInt (n : ℕ) (h : n < 2 ^ 31) : (BitVec.ofNat 32 n).toInt = n := by
  rw [BitVec.toInt_eq_toNat_of_lt (by rw [BitVec.toNat_ofNat]; omega), BitVec.toNat_ofNat]
  omega

theorem count_word (n r : ℕ) (h : n + r + 1 < 2 ^ 31) : ((((BitVec.ofNat 32 r + BitVec.ofNat 32 n + 1#32 : BitVec 32).toInt : ℤ) : ℝ) : EReal)
    = (((n + r + 1 : ℕ) : ℝ) : EReal) := by
  rw [show (BitVec.ofNat 32 r + BitVec.ofNat 32 n + 1#32 : BitVec 32) = BitVec.ofNat 32 (n + r + 1) by
    rw [BitVec.ofNat_add, BitVec.ofNat_add, BitVec.add_comm (BitVec.ofNat 32 n)], word_toInt _ h]
  rfl

theorem count64_at (n : ℕ) (hn : n < 2 ^ 30) (c : Fin 4) (r : Fin 64) (l : Fin 128) :
    count64 (F := Ideal) (BitVec.ofNat 32 n) c (ix2 r l) = (((min (n + r + 1) (wlen (128 * c + l)) : ℕ) : ℝ) : EReal) := by
  have h : (128 * c.val + l.val) / 128 = c.val := by omega
  rw [wlen, h, ← min_up, ← lit_win, ← count_word n r (by omega)]
  unfold count64
  pointwise
  rfl

theorem count32_at (n : ℕ) (hn : n < 2 ^ 30) (c : Fin 4) (r : Fin 32) (l : Fin 128) :
    count32 (F := Ideal) (BitVec.ofNat 32 n) c (ix2 r l) = (((min (n + r + 1) (wlen (128 * c + l)) : ℕ) : ℝ) : EReal) := by
  have h : (128 * c.val + l.val) / 128 = c.val := by omega
  rw [wlen, h, ← min_up, ← lit_win, ← count_word n r (by omega)]
  unfold count32
  pointwise
  rfl

/-! ## The copies -/

theorem wlen_pos (e : ℕ) : 0 < wlen e := Nat.pow_pos two_pos

theorem up_count (a : ℝ) (n e : ℕ) : Ideal.div (a : EReal) (((min (n + 1) (wlen e) : ℕ) : ℝ) : EReal) = ((a / ((min (n + 1) (wlen e) : ℕ) : ℝ) : ℝ) : EReal) :=
  up_div a (Nat.cast_ne_zero.mpr (by have := wlen_pos e; omega))

theorem U0_at {D : Data} {T : ℕ} {zb : Vec Ideal S512x1536 .f32} (hz : ∀ (r : Fin 512) (k : Fin 1536), zb (ix2 r k) = ((Spec.z D (512 * T + r) k : ℝ) : EReal))
    (r : Fin 512) (e : Fin 512) : U0 zb (ix2 r e) = ((Spec.u D (512 * T + r) e : ℝ) : EReal) := by
  have h : ∀ (o : ℕ) (ho : o + 512 ≤ 1536), (got (half o ho).toLoadRect zb : Vec Ideal S512x512 .f32) (ix2 r e) = ((Spec.z D (512 * T + r) (o + e) : ℝ) : EReal) :=
    fun o ho => (congrArg zb (ext2 (q := ix2 r (⟨o + e, by omega⟩ : Fin 1536)) (show 0 + 1 * r.val = r.val by omega) (show o + 1 * e.val = o + e.val by omega))).trans (hz _ _)
  unfold U0
  show (got (half 0 _).toLoadRect zb (ix2 r e) * Ideal.logistic (got (half 512 _).toLoadRect zb (ix2 r e)) : EReal) = _
  rw [h 0, h 512, up_logistic, up_mul, Nat.zero_add, Spec.u]

section Copies

variable {D : Data} {T : ℕ} {σ : St Ideal} (H : At D T σ) {i : grid0.Coords} (hi : (i 0).val = T) (hT : T < 8)
include H hi hT

theorem before_at (r : Fin 32) (e : Fin 512) : gateBefore i σ.zp (ix2 r e) = ((if 0 < T then Spec.u D (512 * T + r - 32) e else 0 : ℝ) : EReal) := by
  have hk := kept_at hi hT
  unfold gateBefore
  rw [hk]
  pointwise
  by_cases h : 0 < T
  · rw [if_pos h, if_pos h, H.zp h, H.zp h]
    simp only [Int.cast_one, EReal.coe_one, mul_one, up_logistic, up_mul, Spec.u, Nat.zero_add]
  · rw [if_neg h, if_neg h]
    simp only [Int.cast_zero, EReal.coe_zero, mul_zero, zero_mul]

theorem eu_at (c : Fin 4) (y : Fin 768) (l : Fin 128) : eu0 i σ (ix3 c y l) = ((uB D (place T y) (128 * c + l) : ℝ) : EReal) := by
  unfold eu0 EU
  show (if h : 64 * (y.val % 8) + y.val / 8 < 32 then gateBefore i σ.zp (ix2 ⟨64 * (y.val % 8) + y.val / 8, h⟩ ⟨128 * c.val + l.val, _⟩)
    else U0 σ.z (ix2 ⟨64 * (y.val % 8) + y.val / 8 - 32, _⟩ ⟨128 * c.val + l.val, _⟩)) = _
  unfold uB
  by_cases h : 64 * (y.val % 8) + y.val / 8 < 32
  · rw [dif_pos h, before_at H hi hT]
    refine congrArg _ ?_
    by_cases h0 : 0 < T
    · have e : 512 * T + (64 * (y.val % 8) + y.val / 8) - 32 = place T y - 32 := by unfold place; omega
      rw [if_pos h0, if_pos (by unfold place; omega), ← e]
    · rw [if_neg h0, if_neg (by unfold place; omega)]
  · have e : 512 * T + (64 * (y.val % 8) + y.val / 8 - 32) = place T y - 32 := by unfold place; omega
    rw [dif_neg h, U0_at H.z, if_pos (by unfold place; omega)]
    simp only [e]

theorem ed_at (c : Fin 4) (y : Fin 768) (l : Fin 128) : ed0 i σ (ix3 c y l) = ((D.du (place T y) (128 * c + l) : ℝ) : EReal) := by
  unfold ed0 ED
  show (if h : 64 * (y.val % 8) + y.val / 8 < 512 then σ.du (ix2 ⟨64 * (y.val % 8) + y.val / 8, h⟩ ⟨128 * c.val + l.val, _⟩)
    else (σ.dun (ix2 ⟨64 * (y.val % 8) + y.val / 8 - 512, _⟩ ⟨128 * c.val + l.val, _⟩) * follows (F := Ideal) i : EReal)) = _
  by_cases h : 64 * (y.val % 8) + y.val / 8 < 512
  · rw [dif_pos h, H.du]
    have e : 512 * T + (64 * (y.val % 8) + y.val / 8) = place T y := by unfold place; omega
    simp only [e]
  · rw [dif_neg h, follows_at hi hT]
    by_cases h7 : T < 7
    · have e : 512 * (T + 1) + (64 * (y.val % 8) + y.val / 8 - 512) = place T y := by unfold place; omega
      rw [if_pos h7, H.dun h7, Int.cast_one, EReal.coe_one, mul_one]
      simp only [e]
    · rw [if_neg h7, Int.cast_zero, EReal.coe_zero, mul_zero, D.du_out _ _ (by unfold place; omega), EReal.coe_zero]

theorem ep_at (c : Fin 4) (y : Fin 768) (l : Fin 128) : ep0 i σ (ix3 c y l) = ((q D (place T y) (128 * c + l) : ℝ) : EReal) := by
  unfold ep0 EP
  show (if h : 64 * (y.val % 8) + y.val / 8 < 512 then
      Ideal.div (σ.dp (ix2 ⟨64 * (y.val % 8) + y.val / 8, h⟩ ⟨128 * c.val + l.val, _⟩))
        (if h : y.val / 8 < 64 then count64 (F := Ideal) (rowWord i (64 * (y.val % 8))) c (ix2 ⟨y.val / 8, h⟩ l)
          else count32 (F := Ideal) (rowWord i (64 * (y.val % 8 + 1))) c (ix2 ⟨y.val / 8 - 64, _⟩ l))
    else Ideal.div (σ.dpn (ix2 ⟨64 * (y.val % 8) + y.val / 8 - 512, _⟩ ⟨128 * c.val + l.val, _⟩) * follows (F := Ideal) i)
      (count32 (F := Ideal) (nextWord i) c (ix2 ⟨64 * (y.val % 8) + y.val / 8 - 512, _⟩ l))) = _
  unfold q
  by_cases h : 64 * (y.val % 8) + y.val / 8 < 512
  · have e : 512 * T + (64 * (y.val % 8) + y.val / 8) = place T y := by unfold place; omega
    rw [dif_pos h, H.dp]
    by_cases h' : y.val / 8 < 64
    · rw [dif_pos h', rowWord_at hi, count64_at _ (by omega)]
      refine (up_count _ (512 * T + 64 * (y.val % 8) + y.val / 8) _).trans ?_
      simp only [e]
    · rw [dif_neg h', rowWord_at hi, count32_at _ (by omega)]
      have e' : 512 * T + 64 * (y.val % 8 + 1) + (y.val / 8 - 64) = place T y := by unfold place; omega
      refine (up_count _ (512 * T + 64 * (y.val % 8 + 1) + (y.val / 8 - 64)) _).trans ?_
      simp only [e, e']
  · rw [dif_neg h, follows_at hi hT, nextWord_at hi, count32_at _ (by omega)]
    have e : 512 * (T + 1) + (64 * (y.val % 8) + y.val / 8 - 512) = place T y := by unfold place; omega
    by_cases h7 : T < 7
    · rw [if_pos h7, H.dpn h7, Int.cast_one, EReal.coe_one, mul_one]
      refine (up_count _ (512 * (T + 1) + (64 * (y.val % 8) + y.val / 8 - 512)) _).trans ?_
      simp only [e]
    · rw [if_neg h7, Int.cast_zero, EReal.coe_zero, mul_zero, D.dp_out _ _ (by unfold place; omega), zero_div, ← EReal.coe_zero]
      refine (up_count 0 (512 * (T + 1) + (64 * (y.val % 8) + y.val / 8 - 512)) _).trans ?_
      rw [zero_div]

end Copies

end Cert.InBwd.Kernel
-- ==== Proof.InBwd.Tile.lean ====
/- What a point computes from its rows, each entry the real formula at its row: the projection's gradient, the rows'
   gradient, and what the point adds to the weights', the taps' and the gain's sums. -/
module

public import proofs.«01_k».proof.Proof.InBwd.Fill

@[expose] public section

set_option maxRecDepth 16384

noncomputable section

namespace Cert.InBwd.Kernel

open Idealize.ShloMosaic Idealize.ShloMosaic.TcCoe Idealize.SL.Sem
open Cert.InBwdIdeal Cert.InBwdIdeal.Gen Cert.InBwdIdeal.Body Cert.Straight Cert.Lift Cert.InBwd.Spec

variable {D : Data} {T : ℕ}

section Norm

variable {x : Vec Ideal S512x1024 .f32} (hx : ∀ (r : Fin 512) (l : Fin 1024), x (ix2 r l) = ((D.x (512 * T + r) l : ℝ) : EReal))
  {g : Vec Ideal S1x1024 .f32} (hg : ∀ (o : Fin 1) (l : Fin 1024), g (ix2 o l) = ((D.gain l : ℝ) : EReal))
  {dz : Vec Ideal S512x1536 .bf16} (hdz : ∀ (r : Fin 512) (k : Fin 1536), dz (ix2 r k) = ((Spec.dz D (512 * T + r) k : ℝ) : EReal))
  {w : Vec Ideal S4x1024x384 .bf16} (hw : ∀ (j : Fin 4) (l : Fin 1024) (k : Fin 384), w (ix3 j l k) = ((D.wIn l (384 * j + k) : ℝ) : EReal))
  {dh : FVec Ideal S512x1024 .f32} (hdh : ∀ (r : Fin 512) (l : Fin 1024), dh (ix2 r l) = ((Spec.dh D (512 * T + r) l : ℝ) : EReal))

include hx

theorem rootInv_at (r : Fin 512) (o : Fin 1) : rootInv x (ix2 r o) = ((rinv (row D (512 * T + r)) : ℝ) : EReal) := by
  unfold rootInv
  pointwise
  simp only [hx, up_mul, up_sum, lit_1024, lit_eps, up_div_1024, up_add]
  exact up_rinv (row D (512 * T + r))

theorem unitRows_at (r : Fin 512) (l : Fin 1024) : unitRows x (ix2 r l) = ((normed D (512 * T + r) l : ℝ) : EReal) := by
  unfold unitRows
  pointwise
  rw [rootInv_at hx, hx, up_mul, normed]

include hg hdz in
theorem accAdd_at (acc : Vec Ideal S1024x1536 .f32) (l : Fin 1024) (k : Fin 1536) :
    accAdd x g dz acc (ix2 l k) = acc (ix2 l k) + ((∑ r ∈ Finset.range 512, dwAt D l k (512 * T + r) : ℝ) : EReal) := by
  rw [Finset.sum_range]
  unfold accAdd
  pointwise
  simp only [unitRows_at hx, hg, hdz, up_mul, up_sum]
  rfl

include hdh in
theorem dgAdd_at (d : Vec Ideal S8x1024 .f32) (b : Fin 8) (l : Fin 1024) :
    dgAdd x dh d (ix2 b l) = d (ix2 b l) + ((if b.val = 0 then ∑ r ∈ Finset.range 512, dgAt D l (512 * T + r) else 0 : ℝ) : EReal) := by
  unfold dgAdd
  by_cases hb : b.val = 0
  · have e : ix2 b l = topRow.emb (ix2 0 l) := ext2 (show b.val = 0 + 1 * 0 by omega) (show l.val = 0 + 1 * l.val by omega)
    rw [if_pos hb, Finset.sum_range, e, put_emb]
    pointwise
    simp only [unitRows_at hx, hdh, up_mul, up_sum]
    rfl
  · rw [if_neg hb, EReal.coe_zero, add_zero]
    refine put_of_not _ _ _ _ fun z h => hb ?_
    have h0 := congrArg (fun p : S8x1024.Idx => (p 0).val) h
    exact h0.symm.trans (show 0 + 1 * (z 0).val = 0 by have : (z 0).val < 1 := (z 0).isLt; omega)

include hg hdh in
theorem normGrad_at (r : Fin 512) (l : Fin 1024) : normGrad x dh g (ix2 r l)
    = ((rmsBack (row D (512 * T + r)) (fun k => Spec.dh D (512 * T + r) k * D.gain k) l : ℝ) : EReal) := by
  unfold normGrad
  pointwise
  simp only [rootInv_at hx, unitRows_at hx, hg, hdh, up_mul, up_sum, lit_1024, up_div_1024, up_sub, rmsBack, Lift.unit, normed, Nat.cast_ofNat]
  rfl

omit hx
include hdz hw in
theorem chunk_at (j : Fin 4) (r : Fin 512) (l : Fin 1024) : chunk dz j (got (wBlock j).toLoadRect w) (ix2 r l)
    = ((∑ k : Fin 384, Spec.dz D (512 * T + r) (384 * j + k) * D.wIn l (384 * j + k) : ℝ) : EReal) := by
  have hW : ∀ (o : Fin 1) (l : Fin 1024) (k : Fin 384), (got (wBlock j).toLoadRect w : Vec Ideal S1x1024x384 .bf16) (ix3 o l k) = ((D.wIn l (384 * j + k) : ℝ) : EReal) :=
    fun o l k => (congrArg w (ext3 (q := ix3 j l k) (show j.val + 1 * o.val = j.val by omega) (show 0 + 1 * l.val = l.val by omega) (show 0 + 1 * k.val = k.val by omega))).trans (hw _ _ _)
  unfold chunk
  generalize (got (wBlock j).toLoadRect w : Vec Ideal S1x1024x384 .bf16) = W at hW
  pointwise
  simp only [hdz, hW, up_mul, up_sum]

include hdz hw in
theorem dh0_at (r : Fin 512) (l : Fin 1024) : dh0 w dz (ix2 r l) = ((Spec.dh D (512 * T + r) l : ℝ) : EReal) := by
  unfold dh0
  show (((chunk dz 0 _ _ + chunk dz 1 _ _) + chunk dz 2 _ _) + chunk dz 3 _ _ : EReal) = _
  rw [chunk_at hdz hw, chunk_at hdz hw, chunk_at hdz hw, chunk_at hdz hw, up_add, up_add, up_add, Spec.dh,
    Fin.sum_univ_tiles 4 384 rfl, Fin.sum_univ_four]
  refine congrArg _ (congrArg₂ _ (congrArg₂ _ (congrArg₂ _ ?_ ?_) ?_) ?_) <;>
    exact Finset.sum_congr rfl fun k _ => rfl

end Norm

end Cert.InBwd.Kernel
-- ==== Proof.InBwd.Window.lean ====
/- A running sum of the rows from each row on, as a sum of real numbers. -/
module

public import proofs.«01_k».proof.Proof.InBwd.Fill
public import proofs.«01_k».proof.Proof.Gen.InRefIdeal.Read

@[expose] public section

set_option maxRecDepth 16384

noncomputable section

namespace Cert.InBwd.Window

open Idealize.ShloMosaic Idealize.ShloMosaic.TcCoe Idealize.SL.Sem
open Cert.InRefIdeal Cert.InRefIdeal.Gen Cert.InRefIdeal.Read Cert.Lift Cert.InBwd.Spec

/-- A window sum with initial value zero is the sum over the window's positions. -/
theorem window_sum {s t u : Shape} (window strides lo hi : Fin s.rank → ℕ) (x : FVec Ideal s .f32) (ini : FVec Ideal u .f32)
    (h : s.ReduceWindows window strides lo hi t) (hu : 0 < u.numel) (hz : ini (Shape.Idx.first hu) = 0) (j : t.Idx) :
    Host.reduceWindowAdd (F := Ideal) window strides lo hi x ini h hu j
      = ∑ w : (⟨s.rank, window⟩ : Shape).Idx,
          if hin : ∀ a, lo a ≤ (j (a.cast h.1.symm)).val * strides a + (w a).val
              ∧ (j (a.cast h.1.symm)).val * strides a + (w a).val - lo a < s.size a
            then x (fun a => ⟨(j (a.cast h.1.symm)).val * strides a + (w a).val - lo a, (hin a).2⟩) else (0 : EReal) := by
  rw [sum_idx_eq_foldl, ← hz]
  unfold Host.reduceWindowAdd
  rw [Ideal.hostReduceWindowAdd_def]
  unfold Ideal.hostReduceWindowAdd Host.reduceWindow
  dsimp only
  congr 1
  funext r n
  refine congrArg (r + ·) ?_
  split
  next => rfl
  next => rfl

/-- A sum of every row from row `t` on, the rows past the last counted as zero. -/
theorem tail_sum {x : FVec Ideal S4096x128 .f32} {ini : FVec Ideal S_ .f32} (hu : 0 < S_.numel)
    (h : S4096x128.ReduceWindows ![4096, 1] ![1, 1] ![0, 0] ![4095, 0] S4096x128)
    (hz : ini (Shape.Idx.first hu) = 0) {f : ℕ → ℕ → ℝ} (hx : ∀ (r : Fin 4096) (l : Fin 128), x (ix2 r l) = ((f r.val l.val : ℝ) : EReal))
    (hf : ∀ n l, 4096 ≤ n → f n l = 0) (t : Fin 4096) (l : Fin 128) :
    Host.reduceWindowAdd (F := Ideal) ![4096, 1] ![1, 1] ![0, 0] ![4095, 0] x ini h hu (ix2 t l)
      = ((∑ k ∈ Finset.range 4096, f (t.val + k) l.val : ℝ) : EReal) := by
  refine (window_sum _ _ _ _ x ini h hu hz _).trans ?_
  refine (sum_idx2 (n0 := 4096) (n1 := 1) _).trans ?_
  rw [Finset.sum_range, ← up_sum]
  refine Finset.sum_congr rfl fun k _ => ?_
  rw [Finset.univ_unique, Finset.sum_singleton]
  by_cases hk : t.val + k.val < 4096
  · refine (dif_pos ?_).trans ?_
    · intro a
      refine ⟨?_, ?_⟩
      · match a with
        | 0 => exact Nat.zero_le _
        | 1 => exact Nat.zero_le _
      · match a with
        | 0 => show t.val * 1 + k.val - 0 < 4096; omega
        | 1 => show l.val * 1 + 0 - 0 < 128; have := l.isLt; omega
    · refine Eq.trans (congrArg x ?_) (hx ⟨t.val + k.val, hk⟩ l)
      funext a
      match a with
      | 0 => exact Fin.ext (show t.val * 1 + k.val - 0 = t.val + k.val by omega)
      | 1 => exact Fin.ext (show l.val * 1 + 0 - 0 = l.val by omega)
  · refine (dif_neg ?_).trans ?_
    · intro hin
      have h2 : t.val * 1 + k.val - 0 < 4096 := (hin 0).2
      omega
    · rw [hf _ _ (by omega), EReal.coe_zero]

variable {D : Data}

/-- A row's share of a mean, less the share that has left the window, before the running sum. -/
theorem shares {part : FVec Ideal S4096x128 .f32} {cnt : FVec Ideal S4096x1 .f32} {w m o : ℕ} (hm : m + w = 4096)
    (hpart : ∀ (t : Fin 4096) (l : Fin 128), part (ix2 t l) = ((D.dp t.val (o + l.val) : ℝ) : EReal))
    (hcnt : ∀ (t : Fin 4096) (z : Fin 1), cnt (ix2 t z) = (((min (t.val + 1) w : ℕ) : ℝ) : EReal))
    (hw : ∀ l : Fin 128, wlen (o + l.val) = w)
    (hb : S4096x1.BroadcastsInDim S4096x128 ![0, 1]) (hs : S4096x128.Slices ![w, 0] ⟨2, ![m, 128]⟩)
    (hp : (⟨2, ![m, 128]⟩ : Shape).Pads (![0, 0] : Fin 2 → ℕ) ![w, 0] ![0, 0] S4096x128) (hu : 0 < S_.numel) (t : Fin 4096) (l : Fin 128) :
    addf (F := Ideal) (Host.divf (F := Ideal) part (broadcastInDim S4096x128 ![0, 1] hb cnt))
      (pad S4096x128 ![0, 0] ![w, 0] ![0, 0] (extractStridedSlice ⟨2, ![m, 128]⟩ ![w, 0]
        (Host.negf (F := Ideal) (Host.divf (F := Ideal) part (broadcastInDim S4096x128 ![0, 1] hb cnt))) hs)
        (constant (F := Ideal) S_ .f32 0x00000000#32) hp hu) (ix2 t l)
      = ((q D t.val (o + l.val) - q D (t.val + w) (o + l.val) : ℝ) : EReal) := by
  have hq : ∀ (t : Fin 4096) (l : Fin 128), Host.divf (F := Ideal) part (broadcastInDim S4096x128 ![0, 1] hb cnt) (ix2 t l)
      = ((q D t.val (o + l.val) : ℝ) : EReal) := by
    intro t l
    pointwise
    rw [hpart, hcnt, ← hw l, Kernel.up_count]
    rfl
  generalize Host.divf (F := Ideal) part (broadcastInDim S4096x128 ![0, 1] hb cnt) = qq at hq ⊢
  pointwise
  simp only [hq, up_neg]
  by_cases c : t.val < m
  · rw [dif_pos c]
    have hi : ∀ i : S4096x128.Idx, (i 0).val = w + t.val → (i 1).val = l.val → qq i = ((q D (t.val + w) (o + l.val) : ℝ) : EReal) := by
      intro i i0 i1
      refine (congrArg qq ?_).trans ((hq ⟨w + t.val, by omega⟩ l).trans (by show ((q D (w + t.val) _ : ℝ) : EReal) = _; rw [Nat.add_comm w]))
      funext a
      match a with
      | 0 => exact Fin.ext i0
      | 1 => exact Fin.ext i1
    refine (congrArg (fun y : EReal => ((q D t.val (o + l.val) : ℝ) : EReal) + -y) (hi _ ?_ ?_)).trans ?_
    · show w + (t.val - 0) / (0 + 1) = w + t.val
      omega
    · show (l.val - 0) / (0 + 1) = l.val
      omega
    · rw [up_neg, up_add, ← sub_eq_add_neg]
  · rw [dif_neg c, q_out D (n := t.val + w) (by omega), sub_zero, add_zero]

theorem pool_part {part : FVec Ideal S4096x128 .f32} {cnt : FVec Ideal S4096x1 .f32} {w m o : ℕ} (hm : m + w = 4096)
    (hpart : ∀ (t : Fin 4096) (l : Fin 128), part (ix2 t l) = ((D.dp t.val (o + l.val) : ℝ) : EReal))
    (hcnt : ∀ (t : Fin 4096) (z : Fin 1), cnt (ix2 t z) = (((min (t.val + 1) w : ℕ) : ℝ) : EReal))
    (hw : ∀ l : Fin 128, wlen (o + l.val) = w)
    (hb : S4096x1.BroadcastsInDim S4096x128 ![0, 1]) (hs : S4096x128.Slices ![w, 0] ⟨2, ![m, 128]⟩)
    (hp : (⟨2, ![m, 128]⟩ : Shape).Pads (![0, 0] : Fin 2 → ℕ) ![w, 0] ![0, 0] S4096x128) (hu : 0 < S_.numel)
    (h : S4096x128.ReduceWindows ![4096, 1] ![1, 1] ![0, 0] ![4095, 0] S4096x128) {ini : FVec Ideal S_ .f32}
    (hz : ini (Shape.Idx.first hu) = 0) (t : Fin 4096) (l : Fin 128) :
    addf (F := Ideal) (Host.negf (F := Ideal) part) (Host.reduceWindowAdd (F := Ideal) ![4096, 1] ![1, 1] ![0, 0] ![4095, 0]
      (addf (F := Ideal) (Host.divf (F := Ideal) part (broadcastInDim S4096x128 ![0, 1] hb cnt))
        (pad S4096x128 ![0, 0] ![w, 0] ![0, 0] (extractStridedSlice ⟨2, ![m, 128]⟩ ![w, 0]
          (Host.negf (F := Ideal) (Host.divf (F := Ideal) part (broadcastInDim S4096x128 ![0, 1] hb cnt))) hs)
          (constant (F := Ideal) S_ .f32 0x00000000#32) hp hu)) ini h hu) (ix2 t l)
      = ((pl D t.val (o + l.val) - D.dp t.val (o + l.val) : ℝ) : EReal) := by
  have e := tail_sum hu h hz (f := fun n l => q D n (o + l) - q D (n + w) (o + l)) (shares hm hpart hcnt hw hb hs hp hu)
    (fun n l hn => by rw [q_out D hn, q_out D (n := n + w) (by omega), sub_zero]) t l
  have e' := pl_tail D t.val (o + l.val)
  rw [hw l] at e'
  refine (congrArg₂ (fun a b : EReal => -a + b) (hpart t l) (e.trans (congrArg _ e'))).trans ?_
  rw [up_neg, up_add, neg_add_eq_sub]

end Cert.InBwd.Window
-- ==== Proof.InBwd.Chain.lean ====
/- The reference's chains over the 31 taps, as recursions over the taps: the cotangent's rows shifted down by each tap and
   summed, and each tap's gradient set at its row. -/
module

public import proofs.«01_k».proof.Proof.InBwd.Window

@[expose] public section

set_option maxRecDepth 16384

noncomputable section

namespace Cert.InBwd.Chain

open Idealize.ShloMosaic Idealize.ShloMosaic.TcCoe Idealize.SL.Sem
open Cert.InRefIdeal Cert.InRefIdeal.Gen Cert.InRefIdeal.Read Cert.Lift Cert.InBwd.Spec

theorem slices_tap (k : Fin 31) : S31x512.Slices ![k.val, 0] S1x512 := by revert k; decide
theorem slices_rows (k : Fin 31) : S4126x512.Slices ![k.val, 0] S4096x512 := by revert k; decide
theorem pads_rows (k : Fin 31) : S4096x512.Pads (![k.val, 0] : Fin 2 → ℕ) ![30 - k.val, 0] ![0, 0] S4126x512 := by revert k; decide
theorem pads_tap (k : Fin 31) : S1x512.Pads (![k.val, 0] : Fin 2 → ℕ) ![30 - k.val, 0] ![0, 0] S31x512 := by revert k; decide

/-- Columns set in a wider array of zeros. -/
theorem band {m n o hi : ℕ} {y : FVec Ideal ⟨2, ![4096, m]⟩ .f32} {f : ℕ → ℕ → ℝ}
    (hy : ∀ (t : Fin 4096) (l : Fin m), y (ix2 t l) = ((f t.val (o + l.val) : ℝ) : EReal))
    (hp : (⟨2, ![4096, m]⟩ : Shape).Pads (![0, o] : Fin 2 → ℕ) ![0, hi] ![0, 0] ⟨2, ![4096, n]⟩) (hu : 0 < S_.numel)
    (t : Fin 4096) (e : Fin n) :
    pad ⟨2, ![4096, n]⟩ ![0, o] ![0, hi] ![0, 0] y (constant (F := Ideal) S_ .f32 0x00000000#32) hp hu (ix2 t e)
      = ((if o ≤ e.val ∧ e.val - o < m then f t.val e.val else 0 : ℝ) : EReal) := by
  pointwise
  by_cases c : o ≤ e.val ∧ e.val - o < m
  · rw [dif_pos c, if_pos c]
    have hi : ∀ i : (⟨2, ![4096, m]⟩ : Shape).Idx, (i 0).val = t.val → (i 1).val = e.val - o → y i = ((f t.val e.val : ℝ) : EReal) := by
      intro i i0 i1
      refine (congrArg y (?_ : i = ix2 t ⟨e.val - o, c.2⟩)).trans ((hy t ⟨e.val - o, c.2⟩).trans (congrArg Real.toEReal (congrArg (f t.val) ?_)))
      · funext a
        match a with
        | 0 => exact Fin.ext i0
        | 1 => exact Fin.ext i1
      · show o + (e.val - o) = e.val
        omega
    refine hi _ ?_ ?_
    · show (t.val - 0) / (0 + 1) = t.val
      omega
    · show (e.val - o) / (0 + 1) = e.val - o
      omega
  · rw [dif_neg c, if_neg c, EReal.coe_zero]

/-- The taps from the last down. -/
def at' (n : ℕ) : Fin 31 := ⟨30 - n, by omega⟩

/-- The cotangent's rows times tap `k`, shifted down by `k` rows. -/
def spread (x3 : FVec Ideal S31x512 .f32) (x6 : FVec Ideal S4096x512 .f32) (k : Fin 31) : FVec Ideal S4126x512 .f32 :=
  pad S4126x512 ![k.val, 0] ![30 - k.val, 0] ![0, 0]
    (mulf (broadcastInDim S4096x512 ![0, 1] bcast_S1x512_S4096x512_0_1 (broadcastInDim S1x512 ![1] bcast_S512_S1x512_1
      (shapeCast _ (extractStridedSlice S1x512 ![k.val, 0] x3 (slices_tap k)) shapeCasts_S1x512_S512)))
      (shapeCast _ x6 shapeCasts_S4096x512_S4096x512))
    (constant (F := Ideal) S_ .f32 0x00000000#32) (pads_rows k) h_S_

/-- The sum of the first `n + 1` shifted rows, from the last tap down. -/
def spreads (x3 : FVec Ideal S31x512 .f32) (x6 : FVec Ideal S4096x512 .f32) : ℕ → FVec Ideal S4126x512 .f32
  | 0 => spread x3 x6 (at' 0)
  | n + 1 => addf (spreads x3 x6 n) (spread x3 x6 (at' (n + 1)))

theorem v696 (x3 : FVec Ideal S31x512 .f32) (x6 : FVec Ideal S4096x512 .f32) : val_main_v696 (F := Ideal) x3 x6 = spreads x3 x6 30 := rfl

/-- Tap `k`'s gradient at its row. -/
def tap (s : FVec Ideal S4126x512 .f32) (x6 : FVec Ideal S4096x512 .f32) (k : Fin 31) : FVec Ideal S31x512 .f32 :=
  pad S31x512 ![k.val, 0] ![30 - k.val, 0] ![0, 0]
    (broadcastInDim S1x512 ![1] bcast_S512_S1x512_1 (Host.reduceAdd (shapeCast _
      (Host.reduceAdd (mulf (shapeCast _ x6 shapeCasts_S4096x512_S4096x512) (extractStridedSlice S4096x512 ![k.val, 0] s (slices_rows k)))
        (constant (F := Ideal) S_ .f32 0x00000000#32) reducesTo_S4096x512_S512_d0 h_S_) shapeCasts_S512_S1x512)
      (constant (F := Ideal) S_ .f32 0x00000000#32) reducesTo_S1x512_S512_d0 h_S_))
    (constant (F := Ideal) S_ .f32 0x00000000#32) (pads_tap k) h_S_

def taps (s : FVec Ideal S4126x512 .f32) (x6 : FVec Ideal S4096x512 .f32) : ℕ → FVec Ideal S31x512 .f32
  | 0 => tap s x6 (at' 0)
  | n + 1 => addf (taps s x6 n) (tap s x6 (at' (n + 1)))

theorem v699 (x0 : FVec Ideal S4096x1024 .f32) (x1 : FVec Ideal S1x1024 .f32) (x2 : FVec Ideal S1024x1536 .f32) (x6 : FVec Ideal S4096x512 .f32) :
    val_main_v699 (F := Ideal) x0 x1 x2 x6 = taps (val_main_v29 (F := Ideal) x0 x1 x2) x6 30 := rfl

variable {D : Data} {x3 : FVec Ideal S31x512 .f32} (h3 : ∀ (k : Fin 31) (e : Fin 512), x3 (ix2 k e) = ((D.cw k.val e.val : ℝ) : EReal))
  {x6 : FVec Ideal S4096x512 .f32} (h6 : ∀ (r : Fin 4096) (e : Fin 512), x6 (ix2 r e) = ((D.du r.val e.val : ℝ) : EReal))

include h3 h6 in
theorem spread_at (k : Fin 31) (n : Fin 4126) (e : Fin 512) : spread x3 x6 k (ix2 n e)
    = ((if k.val ≤ n.val then D.cw k.val e.val * D.du (n.val - k.val) e.val else 0 : ℝ) : EReal) := by
  unfold spread
  have hm : ∀ i : S4096x512.Idx, (i 0).val = n.val - k.val → (i 1).val = e.val → (mulf (broadcastInDim S4096x512 ![0, 1] bcast_S1x512_S4096x512_0_1 (broadcastInDim S1x512 ![1] bcast_S512_S1x512_1
      (shapeCast _ (extractStridedSlice S1x512 ![k.val, 0] x3 (slices_tap k)) shapeCasts_S1x512_S512)))
      (shapeCast _ x6 shapeCasts_S4096x512_S4096x512)) i = ((D.cw k.val e.val * D.du (n.val - k.val) e.val : ℝ) : EReal) := by
    intro i i0 i1
    obtain ⟨r, f, rfl⟩ : ∃ (r : Fin 4096) (f : Fin 512), i = ix2 r f := ⟨i 0, i 1, funext fun a => match a with | 0 => rfl | 1 => rfl⟩
    obtain rfl : f = e := Fin.ext i1
    pointwise
    rw [h3, h6, up_mul, ← i0]
    rfl
  generalize (mulf (broadcastInDim S4096x512 ![0, 1] bcast_S1x512_S4096x512_0_1 (broadcastInDim S1x512 ![1] bcast_S512_S1x512_1
      (shapeCast _ (extractStridedSlice S1x512 ![k.val, 0] x3 (slices_tap k)) shapeCasts_S1x512_S512)))
      (shapeCast _ x6 shapeCasts_S4096x512_S4096x512)) = y at hm ⊢
  pointwise
  by_cases c : k.val ≤ n.val ∧ n.val - k.val < 4096
  · rw [dif_pos c, hm _ rfl rfl, if_pos c.1]
  · rw [dif_neg c]
    split
    next c' => rw [D.du_out _ _ (by omega), mul_zero, EReal.coe_zero]
    next => rfl

include h3 h6 in
theorem spreads_at (m : ℕ) (n : Fin 4126) (e : Fin 512) : spreads x3 x6 m (ix2 n e)
    = ((∑ j ∈ Finset.range (m + 1), if 30 - j ≤ n.val then D.cw (30 - j) e.val * D.du (n.val - (30 - j)) e.val else 0 : ℝ) : EReal) := by
  induction m with
  | zero => rw [spreads, spread_at h3 h6, zero_add, Finset.sum_range_one]; rfl
  | succ m ih =>
    rw [Finset.sum_range_succ, ← up_add, ← ih]
    exact congrArg (fun b : EReal => spreads x3 x6 m (ix2 n e) + b) (spread_at h3 h6 (at' (m + 1)) n e)

include h3 h6 in
/-- The rows' cotangent under the reversed convolution. -/
theorem v701 (t : Fin 4096) (e : Fin 512) : val_main_v701 (F := Ideal) x3 x6 (ix2 t e) = ((du0 D t.val e.val : ℝ) : EReal) := by
  pointwise [val_main_v701]
  rw [v696, spreads_at h3 h6]
  refine congrArg Real.toEReal ?_
  rw [du0, ← Finset.sum_range_reflect]
  refine Finset.sum_congr rfl fun j hj => ?_
  rw [Finset.mem_range] at hj
  rw [show 30 - (30 - j) = j by omega]
  refine (if_pos (show j ≤ 30 + t.val by omega)).trans ?_
  refine congrArg (fun y => D.cw j e.val * D.du y e.val) ?_
  show 30 + t.val - j = t.val + 30 - j
  omega

variable {s : FVec Ideal S4126x512 .f32} (hs : ∀ (n : Fin 4126) (e : Fin 512), s (ix2 n e) = ((uB D (n.val + 2) e.val : ℝ) : EReal))

include hs h6 in
theorem tap_at (k a : Fin 31) (e : Fin 512) : tap s x6 k (ix2 a e)
    = ((if a.val = k.val then ∑ n ∈ Finset.range 4096, dcAt D k.val e.val n else 0 : ℝ) : EReal) := by
  unfold tap
  have hm : ∀ i : S1x512.Idx, (i 1).val = e.val → (broadcastInDim S1x512 ![1] bcast_S512_S1x512_1 (Host.reduceAdd (shapeCast _
      (Host.reduceAdd (mulf (shapeCast _ x6 shapeCasts_S4096x512_S4096x512) (extractStridedSlice S4096x512 ![k.val, 0] s (slices_rows k)))
        (constant (F := Ideal) S_ .f32 0x00000000#32) reducesTo_S4096x512_S512_d0 h_S_) shapeCasts_S512_S1x512)
      (constant (F := Ideal) S_ .f32 0x00000000#32) reducesTo_S1x512_S512_d0 h_S_)) i = ((∑ n ∈ Finset.range 4096, dcAt D k.val e.val n : ℝ) : EReal) := by
    intro i i1
    obtain ⟨r, f, rfl⟩ : ∃ (r : Fin 1) (f : Fin 512), i = ix2 r f := ⟨i 0, i 1, funext fun a => match a with | 0 => rfl | 1 => rfl⟩
    obtain rfl : f = e := Fin.ext i1
    pointwise
    simp only [h6, hs, up_mul, up_sum, Finset.univ_unique, Finset.sum_singleton]
    refine congrArg Real.toEReal ?_
    rw [Finset.sum_range]
    refine Finset.sum_congr rfl fun n _ => ?_
    unfold dcAt
    rw [show n.val + 2 + k.val = k.val + n.val + 2 by omega]
  generalize (broadcastInDim S1x512 ![1] bcast_S512_S1x512_1 (Host.reduceAdd (shapeCast _
      (Host.reduceAdd (mulf (shapeCast _ x6 shapeCasts_S4096x512_S4096x512) (extractStridedSlice S4096x512 ![k.val, 0] s (slices_rows k)))
        (constant (F := Ideal) S_ .f32 0x00000000#32) reducesTo_S4096x512_S512_d0 h_S_) shapeCasts_S512_S1x512)
      (constant (F := Ideal) S_ .f32 0x00000000#32) reducesTo_S1x512_S512_d0 h_S_)) = y at hm ⊢
  pointwise
  split
  next c => rw [hm _ rfl, if_pos (by omega)]
  next c => rw [if_neg (by omega), EReal.coe_zero]

include hs h6 in
theorem taps_at (m : ℕ) (a : Fin 31) (e : Fin 512) : taps s x6 m (ix2 a e)
    = ((∑ j ∈ Finset.range (m + 1), if a.val = 30 - j then ∑ n ∈ Finset.range 4096, dcAt D (30 - j) e.val n else 0 : ℝ) : EReal) := by
  induction m with
  | zero => rw [taps, tap_at h6 hs, zero_add, Finset.sum_range_one]; rfl
  | succ m ih =>
    rw [Finset.sum_range_succ, ← up_add, ← ih]
    exact congrArg (fun b : EReal => taps s x6 m (ix2 a e) + b) (tap_at h6 hs (at' (m + 1)) a e)

include hs h6 in
/-- The taps' gradient. -/
theorem taps_all (a : Fin 31) (e : Fin 512) : taps s x6 30 (ix2 a e) = ((dc D a.val e.val : ℝ) : EReal) := by
  rw [taps_at h6 hs, dc, if_pos a.isLt]
  refine congrArg Real.toEReal ?_
  have := a.isLt
  rw [Finset.sum_eq_single (30 - a.val)]
  · rw [if_pos (by omega), show 30 - (30 - a.val) = a.val by omega]
  · intro b hb hne
    rw [Finset.mem_range] at hb
    exact if_neg (by omega)
  · intro h
    exact absurd (Finset.mem_range.mpr (by omega)) h

end Cert.InBwd.Chain
-- ==== Proof.InBwd.Reference.lean ====
/- The reference's values on all 4096 tokens: when its arguments are real, each result is the real formula of
   `Cert.InBwd.Spec`. -/
module

public import proofs.«01_k».proof.Proof.InBwd.Chain

@[expose] public section

set_option maxRecDepth 16384

noncomputable section

namespace Cert.InBwd.Reference

open Idealize.ShloMosaic Idealize.ShloMosaic.TcCoe Idealize.SL.Sem
open Cert.InRefIdeal Cert.InRefIdeal.Gen Cert.InRefIdeal.Read Cert.Lift Cert.InBwd.Spec

variable {D : Data}
  {x0 : FVec Ideal S4096x1024 .f32} (h0 : ∀ (r : Fin 4096) (l : Fin 1024), x0 (ix2 r l) = ((D.x r.val l.val : ℝ) : EReal))
  {x1 : FVec Ideal S1x1024 .f32} (h1 : ∀ (z : Fin 1) (l : Fin 1024), x1 (ix2 z l) = ((D.gain l.val : ℝ) : EReal))
  {x2 : FVec Ideal S1024x1536 .f32} (h2 : ∀ (l : Fin 1024) (k : Fin 1536), x2 (ix2 l k) = ((D.wIn l.val k.val : ℝ) : EReal))
  {x3 : FVec Ideal S31x512 .f32} (h3 : ∀ (k : Fin 31) (e : Fin 512), x3 (ix2 k e) = ((D.cw k.val e.val : ℝ) : EReal))
  {x5 : FVec Ideal S4096x1024 .f32} (h5 : ∀ (r : Fin 4096) (l : Fin 1024), x5 (ix2 r l) = ((D.dx r.val l.val : ℝ) : EReal))
  {x6 : FVec Ideal S4096x512 .f32} (h6 : ∀ (r : Fin 4096) (e : Fin 512), x6 (ix2 r e) = ((D.du r.val e.val : ℝ) : EReal))
  {x7 : FVec Ideal S4096x512 .f32} (h7 : ∀ (r : Fin 4096) (e : Fin 512), x7 (ix2 r e) = ((D.dp r.val e.val : ℝ) : EReal))

section Norm
include h0

theorem v6 (r : Fin 4096) (z : Fin 1) :
    val_main_v6 (F := Ideal) x0 (ix2 r z) = ((meanSq (row D r.val) + eps : ℝ) : EReal) := by
  pointwise [val_main_v6, val_main_v5, val_main_v4, val_main_v3, val_main_v2, val_main_v1, val_main_v0, val_main_cst,
    val_main_cst_0, val_main_cst_1]
  simp only [h0, up_mul, up_sum, lit_1024, lit_eps, up_div_1024, up_add, meanSq, Nat.cast_ofNat, row]

theorem v7 (r : Fin 4096) (z : Fin 1) : val_main_v7 (F := Ideal) x0 (ix2 r z) = ((rinv (row D r.val) : ℝ) : EReal) := by
  pointwise [val_main_v7]
  simp only [v6 h0, up_rsqrt_meanSq]

theorem v10 (r : Fin 4096) (z : Fin 1) : val_main_v10 (F := Ideal) x0 (ix2 r z)
    = ((-(1 / 2) * (rinv (row D r.val) / (meanSq (row D r.val) + eps)) : ℝ) : EReal) := by
  pointwise [val_main_v10, val_main_v9, val_main_cst_2, val_main_v8]
  simp only [v6 h0, v7 h0, lit_neg_half, up_div_meanSq, up_mul]

theorem v12 (r : Fin 4096) (l : Fin 1024) : val_main_v12 (F := Ideal) x0 (ix2 r l) = ((normed D r.val l.val : ℝ) : EReal) := by
  pointwise [val_main_v12, val_main_v11]
  simp only [h0, v7 h0, up_mul, normed]

include h1

theorem v14 (r : Fin 4096) (l : Fin 1024) :
    val_main_v14 (F := Ideal) x0 x1 (ix2 r l) = ((normed D r.val l.val * D.gain l.val : ℝ) : EReal) := by
  pointwise [val_main_v14, val_main_v13]
  simp only [h1, v12 h0, up_mul]

include h2

theorem v15 (r : Fin 4096) (k : Fin 1536) :
    val_main_v15 (F := Ideal) x0 x1 x2 (ix2 r k) = ((z D r.val k.val : ℝ) : EReal) := by
  pointwise [val_main_v15]
  simp only [v14 h0 h1, h2, up_mul, up_sum, z]

theorem v16 (r : Fin 4096) (e : Fin 512) :
    val_main_v16 (F := Ideal) x0 x1 x2 (ix2 r e) = ((z D r.val e.val : ℝ) : EReal) := by
  pointwise [val_main_v16]
  exact v15 h0 h1 h2 _ _

theorem v17 (r : Fin 4096) (e : Fin 512) :
    val_main_v17 (F := Ideal) x0 x1 x2 (ix2 r e) = ((z D r.val (512 + e.val) : ℝ) : EReal) := by
  pointwise [val_main_v17]
  exact v15 h0 h1 h2 _ _

theorem v23 (r : Fin 4096) (e : Fin 512) :
    val_main_v23 (F := Ideal) x0 x1 x2 (ix2 r e) = ((sig (z D r.val (512 + e.val)) : ℝ) : EReal) := by
  pointwise [val_main_v23, val_main_v22, val_main_v21, val_main_v20, val_main_v19, val_main_v18, val_main_cst_3, val_main_cst_4]
  simp only [v17 h0 h1 h2, up_neg, up_exp, up_one_add, up_sig]

theorem v26 (r : Fin 4096) (e : Fin 512) : val_main_v26 (F := Ideal) x0 x1 x2 (ix2 r e)
    = ((sig (z D r.val (512 + e.val)) * (1 - sig (z D r.val (512 + e.val))) : ℝ) : EReal) := by
  pointwise [val_main_v26, val_main_v25, val_main_v24, val_main_cst_5]
  simp only [v23 h0 h1 h2, up_one_sub, up_mul]

theorem v27 (r : Fin 4096) (e : Fin 512) : val_main_v27 (F := Ideal) x0 x1 x2 (ix2 r e) = ((u D r.val e.val : ℝ) : EReal) := by
  pointwise [val_main_v27]
  rw [v16 h0 h1 h2, v23 h0 h1 h2, up_mul]
  rfl

theorem v29 (n : Fin 4126) (e : Fin 512) : val_main_v29 (F := Ideal) x0 x1 x2 (ix2 n e) = ((uB D (n.val + 2) e.val : ℝ) : EReal) := by
  pointwise [val_main_v29]
  unfold uB
  by_cases c : n.val < 30
  · rw [dif_pos c, if_neg (by omega)]
    pointwise [val_main_v28, val_main_cst_6]
    exact EReal.coe_zero.symm
  · rw [dif_neg c]
    refine (v27 h0 h1 h2 _ _).trans (congrArg Real.toEReal ?_)
    refine Eq.trans ?_ (if_pos (by omega)).symm
    refine congrArg (fun y => u D y e.val) ?_
    show n.val - 30 = n.val + 2 - 32
    omega

end Norm

section Pool

/-- The count of rows behind a row, its own included. -/
theorem v256 (t : Fin 4096) (z : Fin 1) : val_main_v256 (F := Ideal) (ix2 t z) = (((t.val + 1 : ℕ) : ℝ) : EReal) := by
  pointwise [val_main_v256, val_main_v255, val_main_v254, val_main_v253, val_main_v252, val_main_c]
  have h := Kernel.word_toInt (t.val + 1) (by omega)
  rw [BitVec.ofNat_add, BitVec.add_comm] at h
  exact (congrArg (fun i : ℤ => ((i : ℝ) : EReal)) h).trans (by rw [Int.cast_natCast])

omit D in
theorem c_min (b : BitVec 32) (c : Fin 4) (hb : b = Cert.InBwdIdeal.Body.win c) (t : ℕ) :
    min (((t + 1 : ℕ) : ℝ) : EReal) (Ideal.ofBits .f32 b) = (((min (t + 1) (2 ^ (c.val + 1)) : ℕ) : ℝ) : EReal) := by
  rw [hb, Kernel.lit_win, Kernel.min_up]

include h7

theorem v319 (t : Fin 4096) (l : Fin 128) :
    val_main_v319 (F := Ideal) x7 (ix2 t l) = ((pl D t.val (384 + l.val) - D.dp t.val (384 + l.val) : ℝ) : EReal) :=
  Window.pool_part (w := 16) (m := 4080) (part := val_main_v309 (F := Ideal) x7) (cnt := val_main_v301 (F := Ideal)) rfl
    (fun t l => by pointwise [val_main_v309]; exact h7 _ _)
    (fun t z => by pointwise [val_main_v301, val_main_v300, val_main_cst_20]; rw [v256]; exact c_min _ 3 rfl _)
    (fun l => by unfold wlen; rw [show (384 + l.val) / 128 = 3 by omega]; rfl)
    bcast_S4096x1_S4096x128_0_1 slices_S4096x128_S4080x128_16_0 pads_S4080x128_S4096x128_0160_000 h_S_
    reduceWindows_S4096x128_S4096x128_w4096s1p0_4095_w1s1p0_0 (by pointwise [val_main_call4_call0_v0, val_main_call4_call0_cst]) t l

theorem v330 (t : Fin 4096) (l : Fin 128) :
    val_main_v330 (F := Ideal) x7 (ix2 t l) = ((pl D t.val (256 + l.val) - D.dp t.val (256 + l.val) : ℝ) : EReal) :=
  Window.pool_part (w := 8) (m := 4088) (part := val_main_v308 (F := Ideal) x7) (cnt := val_main_v289 (F := Ideal)) rfl
    (fun t l => by pointwise [val_main_v308]; exact h7 _ _)
    (fun t z => by pointwise [val_main_v289, val_main_v288, val_main_cst_17]; rw [v256]; exact c_min _ 2 rfl _)
    (fun l => by unfold wlen; rw [show (256 + l.val) / 128 = 2 by omega]; rfl)
    bcast_S4096x1_S4096x128_0_1 slices_S4096x128_S4088x128_8_0 pads_S4088x128_S4096x128_080_000 h_S_
    reduceWindows_S4096x128_S4096x128_w4096s1p0_4095_w1s1p0_0 (by pointwise [val_main_call5_call0_v0, val_main_call5_call0_cst]) t l

theorem v342 (t : Fin 4096) (l : Fin 128) :
    val_main_v342 (F := Ideal) x7 (ix2 t l) = ((pl D t.val (128 + l.val) - D.dp t.val (128 + l.val) : ℝ) : EReal) :=
  Window.pool_part (w := 4) (m := 4092) (part := val_main_v307 (F := Ideal) x7) (cnt := val_main_v277 (F := Ideal)) rfl
    (fun t l => by pointwise [val_main_v307]; exact h7 _ _)
    (fun t z => by pointwise [val_main_v277, val_main_v276, val_main_cst_14]; rw [v256]; exact c_min _ 1 rfl _)
    (fun l => by unfold wlen; rw [show (128 + l.val) / 128 = 1 by omega]; rfl)
    bcast_S4096x1_S4096x128_0_1 slices_S4096x128_S4092x128_4_0 pads_S4092x128_S4096x128_040_000 h_S_
    reduceWindows_S4096x128_S4096x128_w4096s1p0_4095_w1s1p0_0 (by pointwise [val_main_call6_call0_v0, val_main_call6_call0_cst]) t l

theorem v354 (t : Fin 4096) (l : Fin 128) :
    val_main_v354 (F := Ideal) x7 (ix2 t l) = ((pl D t.val (0 + l.val) - D.dp t.val (0 + l.val) : ℝ) : EReal) :=
  Window.pool_part (w := 2) (m := 4094) (part := val_main_v306 (F := Ideal) x7) (cnt := val_main_v265 (F := Ideal)) rfl
    (fun t l => by pointwise [val_main_v306]; exact h7 _ _)
    (fun t z => by pointwise [val_main_v265, val_main_v264, val_main_cst_11]; rw [v256]; exact c_min _ 0 rfl _)
    (fun l => by unfold wlen; rw [show (0 + l.val) / 128 = 0 by omega]; rfl)
    bcast_S4096x1_S4096x128_0_1 slices_S4096x128_S4094x128_2_0 pads_S4094x128_S4096x128_020_000 h_S_
    reduceWindows_S4096x128_S4096x128_w4096s1p0_4095_w1s1p0_0 (by pointwise [val_main_call7_call0_v0, val_main_call7_call0_cst]) t l

theorem v356 (t : Fin 4096) (e : Fin 512) :
    val_main_v356 (F := Ideal) x7 (ix2 t e) = ((pl D t.val e.val - D.dp t.val e.val : ℝ) : EReal) := by
  have b1 := Chain.band (f := fun t e => pl D t e - D.dp t e) (v319 h7) pads_S4096x128_S4096x512_000_38400 h_S_ t e
  have b2 := Chain.band (f := fun t e => pl D t e - D.dp t e) (v330 h7) pads_S4096x128_S4096x512_000_2561280 h_S_ t e
  have b3 := Chain.band (f := fun t e => pl D t e - D.dp t e) (v342 h7) pads_S4096x128_S4096x512_000_1282560 h_S_ t e
  have b4 := Chain.band (f := fun t e => pl D t e - D.dp t e) (v354 h7) pads_S4096x128_S4096x512_000_03840 h_S_ t e
  refine (congrArg₂ (fun a b : EReal => a + b) (congrArg₂ (fun a b : EReal => a + b) (congrArg₂ (fun a b : EReal => a + b) b1 b2) b3) b4).trans ?_
  rw [up_add, up_add, up_add]
  refine congrArg Real.toEReal ?_
  have := e.isLt
  by_cases c1 : e.val < 128
  · rw [if_neg (by omega), if_neg (by omega), if_neg (by omega), if_pos (by omega)]; ring
  by_cases c2 : e.val < 256
  · rw [if_neg (by omega), if_neg (by omega), if_pos (by omega), if_neg (by omega)]; ring
  by_cases c3 : e.val < 384
  · rw [if_neg (by omega), if_pos (by omega), if_neg (by omega), if_neg (by omega)]; ring
  · rw [if_pos (by omega), if_neg (by omega), if_neg (by omega), if_neg (by omega)]; ring

end Pool

section Back
include h0 h1 h2 h3 h6

theorem v703 (t : Fin 4096) (e : Fin 512) : val_main_v703 (F := Ideal) x0 x1 x2 x3 x6 (ix2 t e)
    = ((du0 D t.val (0 + e.val) * sig (z D t.val (512 + (0 + e.val))) : ℝ) : EReal) := by
  pointwise [val_main_v703]
  rw [Chain.v701 h3 h6, v23 h0 h1 h2, up_mul]

theorem v704 (t : Fin 4096) (e : Fin 512) : val_main_v704 (F := Ideal) x0 x1 x2 x3 x6 (ix2 t e)
    = ((du0 D t.val (512 + e.val - 512) * z D t.val (512 + e.val - 512) * sig (z D t.val (512 + e.val)) * (1 - sig (z D t.val (512 + e.val))) : ℝ) : EReal) := by
  pointwise [val_main_v704, val_main_v702]
  rw [Chain.v701 h3 h6, v16 h0 h1 h2, v26 h0 h1 h2, up_mul, up_mul]
  refine congrArg Real.toEReal ?_
  ring

include h7

theorem v708 (t : Fin 4096) (k : Fin 1536) :
    val_main_v708 (F := Ideal) x0 x1 x2 x3 x6 x7 (ix2 t k) = ((dz D t.val k.val : ℝ) : EReal) := by
  have b1 := Chain.band (n := 1536) (o := 1024) (f := fun t k => pl D t (k - 1024) - D.dp t (k - 1024))
    (fun t l => (v356 h7 t l).trans (by rw [Nat.add_sub_cancel_left])) pads_S4096x512_S4096x1536_000_102400 h_S_ t k
  have b2 := Chain.band (n := 1536) (o := 512) (f := fun t k => du0 D t (k - 512) * z D t (k - 512) * sig (z D t k) * (1 - sig (z D t k)))
    (v704 h0 h1 h2 h3 h6) pads_S4096x512_S4096x1536_000_5125120 h_S_ t k
  have b3 := Chain.band (n := 1536) (o := 0) (f := fun t k => du0 D t k * sig (z D t (512 + k)))
    (v703 h0 h1 h2 h3 h6) pads_S4096x512_S4096x1536_000_010240 h_S_ t k
  refine (congrArg₂ (fun a b : EReal => a + b) (congrArg₂ (fun a b : EReal => a + b) b1 b2) b3).trans ?_
  rw [up_add, up_add, dz]
  refine congrArg Real.toEReal ?_
  have := k.isLt
  by_cases c1 : k.val < 512
  · rw [if_neg (by omega), if_neg (by omega), if_pos (by omega), if_pos c1]; ring
  by_cases c2 : k.val < 1024
  · rw [if_neg (by omega), if_pos (by omega), if_neg (by omega), if_neg c1, if_pos c2]; ring
  · rw [if_pos (by omega), if_neg (by omega), if_neg (by omega), if_neg c1, if_neg c2]; ring

theorem v711 (t : Fin 4096) (l : Fin 1024) :
    val_main_v711 (F := Ideal) x0 x1 x2 x3 x6 x7 (ix2 t l) = ((dh D t.val l.val : ℝ) : EReal) := by
  pointwise [val_main_v711]
  simp only [v708 h0 h1 h2 h3 h6 h7, h2, up_mul, up_sum, dh]

theorem v716 (t : Fin 4096) (l : Fin 1024) :
    val_main_v716 (F := Ideal) x0 x1 x2 x3 x6 x7 (ix2 t l) = ((dh D t.val l.val * D.gain l.val : ℝ) : EReal) := by
  pointwise [val_main_v716, val_main_v715]
  simp only [v711 h0 h1 h2 h3 h6 h7, h1, up_mul]

theorem v727 (r : Fin 4096) (l : Fin 1024) : val_main_v727 (F := Ideal) x0 x1 x2 x3 x6 x7 (ix2 r l)
    = (((∑ k : Fin 1024, row D r.val k * (dh D r.val k.val * D.gain k.val)) * (-(1 / 2) * (rinv (row D r.val) / (meanSq (row D r.val) + eps))) / 1024 : ℝ)
        : EReal) := by
  pointwise [val_main_v727, val_main_v726, val_main_v725, val_main_v724, val_main_v723, val_main_v719, val_main_v718, val_main_v717,
    val_main_cst_158, val_main_cst_159, val_main_cst_160]
  simp only [h0, v10 h0, v716 h0 h1 h2 h3 h6 h7, up_mul, up_sum, lit_1024, up_div_1024, Finset.univ_unique, Finset.sum_singleton, row]

include h5 in
/-- The rows' gradient. -/
theorem v731 (r : Fin 4096) (l : Fin 1024) :
    val_main_v731 (F := Ideal) x0 x1 x2 x3 x5 x6 x7 (ix2 r l) = ((gx D r.val l : ℝ) : EReal) := by
  pointwise [val_main_v731, val_main_v730, val_main_v729, val_main_v728, val_main_v722, val_main_v721, val_main_v720]
  simp only [h0, h5, v7 h0, v716 h0 h1 h2 h3 h6 h7, v727 h0 h1 h2 h3 h6 h7, up_mul, up_add]
  rw [gx, ← rmsBack_chain]
  simp only [Nat.cast_ofNat, row]
  refine congrArg Real.toEReal ?_
  ring

/-- The projection's gradient, a column block a plane. -/
theorem v734 (j : Fin 4) (l : Fin 1024) (k : Fin 384) :
    val_main_v734 (F := Ideal) x0 x1 x2 x3 x6 x7 (ix3 j l k) = ((dw D l.val (384 * j.val + k.val) : ℝ) : EReal) := by
  pointwise [val_main_v734, val_main_v733, val_main_v732, val_main_v710, val_main_v709]
  simp only [v708 h0 h1 h2 h3 h6 h7, v14 h0 h1, up_mul, up_sum]
  refine congrArg Real.toEReal ?_
  rw [dw, Finset.sum_range]
  refine Finset.sum_congr rfl fun n _ => ?_
  unfold dwAt
  rw [mul_comm (dz D _ _), mul_comm 384]

/-- The gain's gradient above seven rows of zeros. -/
theorem v738 (b : Fin 8) (l : Fin 1024) :
    val_main_v738 (F := Ideal) x0 x1 x2 x3 x6 x7 (ix2 b l) = ((dg D b.val l.val : ℝ) : EReal) := by
  pointwise [val_main_v738]
  unfold dg
  by_cases c : b.val < 1
  · rw [dif_pos c, if_pos (by omega)]
    pointwise [val_main_v714, val_main_v713, val_main_v712, val_main_cst_157]
    simp only [v711 h0 h1 h2 h3 h6 h7, v12 h0, up_mul, up_sum]
    refine congrArg Real.toEReal ?_
    rw [Finset.sum_range]
    exact Finset.sum_congr rfl fun n _ => mul_comm _ _
  · rw [dif_neg c]
    refine Eq.trans ?_ (congrArg Real.toEReal (if_neg (by omega)).symm)
    pointwise [val_main_v737, val_main_cst_162]
    exact EReal.coe_zero.symm

omit h3 h7

/-- The taps' gradient above a row of zeros. -/
theorem v736 (k : Fin 32) (e : Fin 512) :
    val_main_v736 (F := Ideal) x0 x1 x2 x6 (ix2 k e) = ((dc D k.val e.val : ℝ) : EReal) := by
  pointwise [val_main_v736]
  by_cases c : k.val < 31
  · rw [dif_pos c, Chain.v699]
    exact Chain.taps_all h6 (v29 h0 h1 h2) _ _
  · rw [dif_neg c, dc, if_neg c]
    pointwise [val_main_v735, val_main_cst_161]
    exact EReal.coe_zero.symm

end Back

end Cert.InBwd.Reference
-- ==== Proof.InBwd.Blocks.lean ====
/- What the kernel reads at a grid point, when the arguments are real: the point's 512 rows, the 32 rows before and after, and the
   weights. -/
module

public import proofs.«01_k».proof.Proof.InBwd.Tile
public import proofs.«01_k».proof.Proof.InBwd.Planes
public import proofs.«01_k».proof.Proof.InBwd.Reference
public import proofs.«01_k».proof.Proof.InBwd.Frame
public import Idealize.ShloMosaic.Lib.Pipeline.ValueKit
public import Idealize.ShloMosaic.Lib.Claim

@[expose] public section

set_option maxRecDepth 16384

noncomputable section

namespace Cert.InBwd.Kernel

open Idealize.ShloMosaic Idealize.ShloMosaic.TcCoe Idealize.SL.Sem
open Idealize.ShloMosaic.Pipeline (Dat)
open Cert.InBwdIdeal Cert.InBwdIdeal.Gen Cert.InBwdIdeal.Body Cert.Lift Cert.InBwd.Spec

variable (m : (ℓ : Loc nD τ sig) → Buf (Elt Ideal) ℓ) (c : Dev nD)

/-- Device `c`'s arguments hold the real arrays of `D`. -/
structure Holds (D : Data) : Prop where
  x : ∀ (r : Fin 4096) (l : Fin 1024), m ((c : Thread nD τ).loc main_arg0) (ix2 r l) = ((D.x r.val l.val : ℝ) : EReal)
  gain : ∀ (z : Fin 1) (l : Fin 1024), m ((c : Thread nD τ).loc main_arg1) (ix2 z l) = ((D.gain l.val : ℝ) : EReal)
  wIn : ∀ (l : Fin 1024) (k : Fin 1536), m ((c : Thread nD τ).loc main_arg2) (ix2 l k) = ((D.wIn l.val k.val : ℝ) : EReal)
  cw : ∀ (k : Fin 31) (e : Fin 512), m ((c : Thread nD τ).loc main_arg3) (ix2 k e) = ((D.cw k.val e.val : ℝ) : EReal)
  dx : ∀ (r : Fin 4096) (l : Fin 1024), m ((c : Thread nD τ).loc main_arg5) (ix2 r l) = ((D.dx r.val l.val : ℝ) : EReal)
  du : ∀ (r : Fin 4096) (e : Fin 512), m ((c : Thread nD τ).loc main_arg6) (ix2 r e) = ((D.du r.val e.val : ℝ) : EReal)
  dp : ∀ (r : Fin 4096) (e : Fin 512), m ((c : Thread nD τ).loc main_arg7) (ix2 r e) = ((D.dp r.val e.val : ℝ) : EReal)

theorem idx : ∀ t : Fin cfg0.N, win0_0.index t = ![t.val, 0] ∧ win0_1.index t = ![min (16 * (t.val + 1)) 127, 0]
    ∧ win0_2.index t = ![t.val, 0] ∧ win0_3.index t = ![min (16 * (t.val + 1)) 127, 0] ∧ win0_4.index t = ![t.val, 0]
    ∧ win0_5.index t = ![16 * t.val - 1, 0] ∧ win0_6.index t = ![t.val, 0] ∧ win0_7.index t = ![t.val, 0] ∧ win0_8.index t = ![0, 0]
    ∧ win0_9.index t = ![0, 0] ∧ win0_10.index t = ![0, 0, 0] ∧ win0_11.index t = ![t.val, 0] ∧ win0_12.index t = ![0, 0, 0]
    ∧ win0_13.index t = ![0, 0] ∧ win0_14.index t = ![0, 0] :=
  (by decide +kernel : ∀ t : Fin grid0.N, _)

/-- The projected rows the host saves are those of the reference's forward lines. -/
theorem z_lines : @Eq (FVec Ideal S4096x1536 .f32) (V m c main_v12) (Cert.InRefIdeal.Read.val_main_v15 (F := Ideal)
    (m ((c : Thread nD τ).loc main_arg0)) (m ((c : Thread nD τ).loc main_arg1)) (m ((c : Thread nD τ).loc main_arg2))) := by
  entry_read
  rfl

/-- The matrix in, its columns in four groups. -/
theorem wIn_lines : @Eq (FVec Ideal S4x1024x384 .bf16) (V m c main_v15) <|
    transpose S4x1024x384 [1, 0, 2] (shapeCast S1024x4x384 (truncf .bf16 (F := Ideal) (show FVec Ideal S1024x1536 .f32 from m ((c : Thread nD τ).loc main_arg2)) bitsLt_bf16_f32)
      shapeCasts_S1024x1536_S1024x4x384) transposes_S1024x4x384_S4x1024x384_1_0_2 := by
  entry_read
  rfl

/-- The taps above a row of zeros. -/
theorem cw_lines : @Eq (FVec Ideal S32x512 .f32) (V m c main_v17) <|
    concatenate S32x512 0 [⟨S31x512, (show FVec Ideal S31x512 .f32 from m ((c : Thread nD τ).loc main_arg3))⟩,
      ⟨S1x512, broadcastInDim S1x512 ![] bcast_S_S1x512 (constant (F := Ideal) S_ .f32 0x00000000#32)⟩] concatenates_S31x512_S1x512_S32x512_d0 := by
  entry_read
  rfl

variable {m c} {D : Data} (H : Holds m c D) (t : Fin cfg0.N)
include H

theorem blk0 (r : Fin 512) (e : Fin 512) : iblk m c 0 t (ix2 r e) = ((D.du (512 * t.val + r.val) e.val : ℝ) : EReal) := by
  have ht := t.isLt.trans_eq N_0
  refine Eq.trans ?_ ((H.du ⟨t.val * 512 + r.val, by omega⟩ e).trans (congrArg (fun n => ((D.du n e.val : ℝ) : EReal)) (by simp only [mul_comm])))
  blk_ext [iblk, V, idx t]

theorem blk1 (h : t.val < 7) (r : Fin 32) (e : Fin 512) : iblk m c 1 t (ix2 r e) = ((D.du (512 * (t.val + 1) + r.val) e.val : ℝ) : EReal) := by
  refine Eq.trans ?_ ((H.du ⟨16 * (t.val + 1) * 32 + r.val, by omega⟩ e).trans (congrArg (fun n => ((D.du n e.val : ℝ) : EReal)) (show 16 * (t.val + 1) * 32 + r.val = _ by omega)))
  have hm : min (16 * (t.val + 1)) 127 = 16 * (t.val + 1) := by omega
  blk_ext [iblk, V, idx t, hm]

theorem blk2 (r : Fin 512) (e : Fin 512) : iblk m c 2 t (ix2 r e) = ((D.dp (512 * t.val + r.val) e.val : ℝ) : EReal) := by
  have ht := t.isLt.trans_eq N_0
  refine Eq.trans ?_ ((H.dp ⟨t.val * 512 + r.val, by omega⟩ e).trans (congrArg (fun n => ((D.dp n e.val : ℝ) : EReal)) (by simp only [mul_comm])))
  blk_ext [iblk, V, idx t]

theorem blk3 (h : t.val < 7) (r : Fin 32) (e : Fin 512) : iblk m c 3 t (ix2 r e) = ((D.dp (512 * (t.val + 1) + r.val) e.val : ℝ) : EReal) := by
  refine Eq.trans ?_ ((H.dp ⟨16 * (t.val + 1) * 32 + r.val, by omega⟩ e).trans (congrArg (fun n => ((D.dp n e.val : ℝ) : EReal)) (show 16 * (t.val + 1) * 32 + r.val = _ by omega)))
  have hm : min (16 * (t.val + 1)) 127 = 16 * (t.val + 1) := by omega
  blk_ext [iblk, V, idx t, hm]

theorem z_at (n : Fin 4096) (k : Fin 1536) : V m c main_v12 (ix2 n k) = ((Spec.z D n.val k.val : ℝ) : EReal) := by
  rw [z_lines]
  exact Reference.v15 H.x H.gain H.wIn n k

theorem blk4 (r : Fin 512) (k : Fin 1536) : iblk m c 4 t (ix2 r k) = ((Spec.z D (512 * t.val + r.val) k.val : ℝ) : EReal) := by
  have ht := t.isLt.trans_eq N_0
  refine Eq.trans ?_ ((z_at H ⟨t.val * 512 + r.val, by omega⟩ k).trans (congrArg (fun n => ((Spec.z D n k.val : ℝ) : EReal)) (by simp only [mul_comm])))
  blk_ext [iblk, idx t]

theorem blk5 (h : 0 < t.val) (r : Fin 32) (k : Fin 1536) : iblk m c 5 t (ix2 r k) = ((Spec.z D (512 * t.val + r.val - 32) k.val : ℝ) : EReal) := by
  have ht := t.isLt.trans_eq N_0
  refine Eq.trans ?_ ((z_at H ⟨(16 * t.val - 1) * 32 + r.val, by omega⟩ k).trans (congrArg (fun n => ((Spec.z D n k.val : ℝ) : EReal)) (show (16 * t.val - 1) * 32 + r.val = _ by omega)))
  blk_ext [iblk, idx t]

theorem blk6 (r : Fin 512) (l : Fin 1024) : iblk m c 6 t (ix2 r l) = ((D.x (512 * t.val + r.val) l.val : ℝ) : EReal) := by
  have ht := t.isLt.trans_eq N_0
  refine Eq.trans ?_ ((H.x ⟨t.val * 512 + r.val, by omega⟩ l).trans (congrArg (fun n => ((D.x n l.val : ℝ) : EReal)) (by simp only [mul_comm])))
  blk_ext [iblk, V, idx t]

theorem blk7 (r : Fin 512) (l : Fin 1024) : iblk m c 7 t (ix2 r l) = ((D.dx (512 * t.val + r.val) l.val : ℝ) : EReal) := by
  have ht := t.isLt.trans_eq N_0
  refine Eq.trans ?_ ((H.dx ⟨t.val * 512 + r.val, by omega⟩ l).trans (congrArg (fun n => ((D.dx n l.val : ℝ) : EReal)) (by simp only [mul_comm])))
  blk_ext [iblk, V, idx t]

theorem blk8 (k : Fin 32) (e : Fin 512) (h : k.val < 31) : iblk m c 8 t (ix2 k e) = ((D.cw k.val e.val : ℝ) : EReal) := by
  refine Eq.trans (b := V m c main_v17 (ix2 k e)) ?_ ?_
  · blk_ext [iblk, idx t]
  · rw [cw_lines]
    pointwise
    rw [dif_pos h]
    exact H.cw _ _

theorem blk9 (z : Fin 1) (l : Fin 1024) : iblk m c 9 t (ix2 z l) = ((D.gain l.val : ℝ) : EReal) := by
  rw [← H.gain z]
  blk_ext [iblk, V, idx t]

theorem blk10 (j : Fin 4) (l : Fin 1024) (k : Fin 384) : iblk m c 10 t (ix3 j l k) = ((D.wIn l.val (384 * j.val + k.val) : ℝ) : EReal) := by
  refine Eq.trans (b := V m c main_v15 (ix3 j l k)) ?_ ?_
  · blk_ext [iblk, idx t]
  · rw [wIn_lines]
    pointwise
    refine (H.wIn _ _).trans ?_
    simp only [mul_comm]

/-- The point's contents. -/
theorem fed_at (σ : St Ideal) : At D t.val (fed m c t σ) where
  du := blk0 H t
  dun := blk1 H t
  dp := blk2 H t
  dpn := blk3 H t
  z := blk4 H t
  zp := blk5 H t
  x := blk6 H t
  dx := blk7 H t
  cw := blk8 H t
  g := blk9 H t
  w := blk10 H t

end Cert.InBwd.Kernel
-- ==== Proof.InBwd.Points.lean ====
/- What a grid point leaves, when the arguments are real: its rows' gradient, and the weights' sums with its rows added. -/
module

public import proofs.«01_k».proof.Proof.InBwd.Blocks

@[expose] public section

set_option maxRecDepth 16384

noncomputable section

namespace Cert.InBwd.Kernel

open Idealize.ShloMosaic Idealize.ShloMosaic.TcCoe Idealize.SL.Sem
open Cert.InBwdIdeal Cert.InBwdIdeal.Gen Cert.InBwdIdeal.Body Cert.Lift Cert.InBwd.Spec

/-! ## A point's values from its contents -/

section Closed

variable {D : Data} {i : grid0.Coords} {T : ℕ} {σ : St Ideal} (hi : (i 0).val = T) (hT : T < 8) (A : At D T σ)
include hi hT A

theorem dz0_at (r : Fin 512) (k : Fin 1536) : dz0 i σ (ix2 r k) = ((dz D (512 * T + r) k : ℝ) : EReal) :=
  DZ_at (sums_conv A.cw (ed_at A hi hT)) (sums_pool (ep_at A hi hT)) A.z A.dp r k

theorem dh_at (r : Fin 512) (l : Fin 1024) : dh0 σ.w (dz0 i σ) (ix2 r l) = ((Spec.dh D (512 * T + r) l : ℝ) : EReal) :=
  dh0_at (dz0_at hi hT A) A.w r l

theorem gx_at (r : Fin 512) (l : Fin 1024) : (closed i σ).gx (ix2 r l) = ((gx D (512 * T + r) l : ℝ) : EReal) := by
  show (σ.dx (ix2 r l) + normGrad σ.x (dh0 σ.w (dz0 i σ)) σ.g (ix2 r l) : EReal) = _
  rw [A.dx, normGrad_at A.x A.g (dh_at hi hT A), up_add, gx]

theorem acc_at (l : Fin 1024) (k : Fin 1536) : (closed i σ).acc (ix2 l k)
    = σ.acc (ix2 l k) + ((∑ r ∈ Finset.range 512, dwAt D l k (512 * T + r) : ℝ) : EReal) :=
  accAdd_at A.x A.g (dz0_at hi hT A) σ.acc l k

theorem dg_at (b : Fin 8) (l : Fin 1024) : (closed i σ).dg (ix2 b l)
    = σ.dg (ix2 b l) + ((if b.val = 0 then ∑ r ∈ Finset.range 512, dgAt D l (512 * T + r) else 0 : ℝ) : EReal) :=
  dgAdd_at A.x (dh_at hi hT A) σ.dg b l

theorem dca_at (k : Fin 32) (s : Fin 8) (e : Fin 512) : (closed i σ).dca (ix3 k s e)
    = σ.dca (ix3 k s e) + ((if k.val < 31 then ∑ j ∈ Finset.range 64, dcAt D k e (512 * T + 64 * s + j) else 0 : ℝ) : EReal) := by
  refine (groups_at (ed_at A hi hT) (eu_at A hi hT) σ.dca 4 le_rfl k s e).trans ?_
  by_cases h : k.val < 31
  · rw [if_pos ⟨h, by omega⟩, if_pos h]
  · rw [if_neg (fun c => h c.1), if_neg h, EReal.coe_zero, add_zero]

end Closed

/-! ## The points in turn -/

variable {m : (ℓ : Loc nD τ sig) → Buf (Elt Ideal) ℓ} {c : Dev nD} {D : Data} (H : Holds m c D)

/-- The contents before point `t`. -/
def before (m : (ℓ : Loc nD τ sig) → Buf (Elt Ideal) ℓ) (c : Dev nD) (t : Fin cfg0.N) : St Ideal :=
  if t.val = 0 then blank m c t else prev m c t

theorem outs_eq (t : Fin cfg0.N) : outs m c t.val t.isLt = closed (grid0.coords t) (opened (grid0.coords t) (fed m c t (before m c t))) := by
  by_cases h : t.val = 0
  · have e : before m c t = blank m c t := if_pos h
    rw [e]
    obtain ⟨n, hn⟩ := t
    obtain rfl : n = 0 := h
    rfl
  · have e : before m c t = prev m c t := if_neg h
    rw [e]
    exact outs_pos m c t h

theorem coords_eq : ∀ t : Fin cfg0.N, ((grid0.coords t) 0).val = t.val := (by decide +kernel : ∀ t : Fin grid0.N, ((grid0.coords t) 0).val = t.val)

include H in
theorem opened_at (t : Fin cfg0.N) (σ : St Ideal) : At D t.val (opened (grid0.coords t) (fed m c t σ)) := by
  have h := fed_at H t σ
  unfold opened
  split
  · exact ⟨h.du, h.dun, h.dp, h.dpn, h.z, h.zp, h.x, h.dx, h.cw, h.g, h.w⟩
  · exact h

theorem opened_first (t : Fin cfg0.N) (h : t.val = 0) (σ : St Ideal) :
    (opened (grid0.coords t) σ).acc = zeros S1024x1536 ∧ (opened (grid0.coords t) σ).dca = zeros S32x8x512 ∧ (opened (grid0.coords t) σ).dg = zeros S8x1024 := by
  unfold opened
  rw [if_pos ((first_iff t).mpr h)]
  exact ⟨rfl, rfl, rfl⟩

theorem opened_later (t : Fin cfg0.N) (h : t.val ≠ 0) (σ : St Ideal) : opened (grid0.coords t) σ = σ := by
  unfold opened
  rw [if_neg fun c => h ((first_iff t).mp c)]

include H

theorem gx_out (t : Fin cfg0.N) (r : Fin 512) (l : Fin 1024) :
    (outs m c t.val t.isLt).gx (ix2 r l) = ((gx D (512 * t.val + r) l : ℝ) : EReal) := by
  rw [outs_eq]
  exact gx_at (coords_eq t) (t.isLt.trans_eq N_0) (opened_at H t _) r l

/-- A quantity that each point adds to, of zero to begin with. -/
theorem sum_of_points (f : St Ideal → EReal) (s : ℕ → ℝ) (hf : ∀ t : Fin cfg0.N, ∀ σ, f (fed m c t σ) = f σ)
    (h0 : ∀ t : Fin cfg0.N, t.val = 0 → ∀ σ, f (opened (grid0.coords t) σ) = 0)
    (hs : ∀ (t : Fin cfg0.N) (σ : St Ideal), At D t.val σ → f (closed (grid0.coords t) σ) = f σ + ((s t.val : ℝ) : EReal))
    (n : ℕ) (h : n < cfg0.N) : f (outs m c n h) = ((∑ j ∈ Finset.range (n + 1), s j : ℝ) : EReal) := by
  induction n with
  | zero =>
    refine (hs ⟨0, h⟩ _ (opened_at H ⟨0, h⟩ _)).trans ?_
    rw [h0 ⟨0, h⟩ rfl, zero_add, zero_add, Finset.sum_range_one]
  | succ n ih =>
    refine (hs ⟨n + 1, h⟩ _ (opened_at H ⟨n + 1, h⟩ (outs m c n (Nat.lt_of_succ_lt h)))).trans ?_
    rw [opened_later ⟨n + 1, h⟩ (Nat.succ_ne_zero n), hf, ih, Finset.sum_range_succ _ (n + 1), up_add]

theorem acc_out (n : ℕ) (h : n < cfg0.N) (l : Fin 1024) (k : Fin 1536) : (outs m c n h).acc (ix2 l k)
    = ((∑ j ∈ Finset.range (n + 1), ∑ r ∈ Finset.range 512, dwAt D l k (512 * j + r) : ℝ) : EReal) :=
  sum_of_points H (fun σ => σ.acc (ix2 l k)) _ (fun _ _ => rfl) (fun t ht σ => by rw [(opened_first t ht σ).1]; exact lit_0.trans EReal.coe_zero)
    (fun t σ A => acc_at (coords_eq t) (t.isLt.trans_eq N_0) A l k) n h

theorem dg_out (n : ℕ) (h : n < cfg0.N) (b : Fin 8) (l : Fin 1024) : (outs m c n h).dg (ix2 b l)
    = ((∑ j ∈ Finset.range (n + 1), if b.val = 0 then ∑ r ∈ Finset.range 512, dgAt D l (512 * j + r) else 0 : ℝ) : EReal) :=
  sum_of_points H (fun σ => σ.dg (ix2 b l)) _ (fun _ _ => rfl) (fun t ht σ => by rw [(opened_first t ht σ).2.2]; exact lit_0.trans EReal.coe_zero)
    (fun t σ A => dg_at (coords_eq t) (t.isLt.trans_eq N_0) A b l) n h

theorem dca_out (n : ℕ) (h : n < cfg0.N) (k : Fin 32) (s : Fin 8) (e : Fin 512) : (outs m c n h).dca (ix3 k s e)
    = ((∑ j ∈ Finset.range (n + 1), if k.val < 31 then ∑ r ∈ Finset.range 64, dcAt D k e (512 * j + 64 * s + r) else 0 : ℝ) : EReal) :=
  sum_of_points H (fun σ => σ.dca (ix3 k s e)) _ (fun _ _ => rfl) (fun t ht σ => by rw [(opened_first t ht σ).2.1]; exact lit_0.trans EReal.coe_zero)
    (fun t σ A => dca_at (coords_eq t) (t.isLt.trans_eq N_0) A k s e) n h

/-- The last grid point. -/
def tLast : Fin cfg0.N := ⟨7, lt_of_lt_of_eq (by decide) N_0.symm⟩

omit H in
theorem last_closed (i : grid0.Coords) (σ : St Ideal) (h : k0_cond2 i = 1#1) :
    (closed i σ).dw = dwOut (closed i σ).acc ∧ (closed i σ).dc = dcOut (closed i σ).dca := ⟨if_pos h, if_pos h⟩

omit H in
theorem last_outs : (outs m c tLast.val tLast.isLt).dw = dwOut (outs m c tLast.val tLast.isLt).acc
    ∧ (outs m c tLast.val tLast.isLt).dc = dcOut (outs m c tLast.val tLast.isLt).dca := by
  rw [outs_eq]
  exact last_closed _ _ ((last_iff tLast).mpr rfl)

theorem dw_last (j : Fin 4) (l : Fin 1024) (k : Fin 384) :
    (outs m c tLast.val tLast.isLt).dw (ix3 j l k) = ((dw D l.val (384 * j.val + k.val) : ℝ) : EReal) := by
  rw [last_outs.1]
  refine (congrArg (outs m c tLast.val tLast.isLt).acc (ext2 (q := ix2 l (⟨384 * j.val + k.val, by omega⟩ : Fin 1536))
    (show 0 + 1 * l.val = l.val by omega) (show 384 * j.val + 1 * k.val = 384 * j.val + k.val by omega))).trans ?_
  refine (acc_out H tLast.val tLast.isLt l ⟨384 * j.val + k.val, by omega⟩).trans (congrArg Real.toEReal ?_)
  exact sum_tiles 8 512 fun n => dwAt D l.val (384 * j.val + k.val) n

theorem dg_last (b : Fin 8) (l : Fin 1024) : (outs m c tLast.val tLast.isLt).dg (ix2 b l) = ((dg D b.val l.val : ℝ) : EReal) := by
  refine (dg_out H 7 _ b l).trans (congrArg Real.toEReal ?_)
  unfold dg
  split
  · exact sum_tiles 8 512 fun n => dgAt D l.val n
  · exact Finset.sum_const_zero

theorem dc_last (k : Fin 32) (e : Fin 512) : (outs m c tLast.val tLast.isLt).dc (ix2 k e) = ((dc D k.val e.val : ℝ) : EReal) := by
  rw [last_outs.2]
  have h := fun s => dca_out H tLast.val tLast.isLt k s e
  generalize (outs m c tLast.val tLast.isLt).dca = d at h ⊢
  unfold dcOut
  pointwise
  simp only [h, up_sum]
  refine congrArg Real.toEReal ?_
  unfold dc
  by_cases hk : k.val < 31
  · simp only [if_pos hk]
    rw [Finset.sum_comm, ← sum_tiles 8 512 fun n => dcAt D k.val e.val n]
    refine Finset.sum_congr rfl fun j _ => ?_
    rw [← Finset.sum_range fun s => ∑ r ∈ Finset.range 64, dcAt D k.val e.val (512 * j + 64 * s + r)]
    have e' := sum_tiles 8 64 fun n => dcAt D k.val e.val (512 * j + n)
    simp only [← add_assoc] at e'
    exact e'
  · simp only [if_neg hk, Finset.sum_const_zero]

end Cert.InBwd.Kernel
-- ==== Proof.InBwd.Arrays.lean ====
/- The kernel's four results, when its arguments are real: the rows' gradient row by row, and the weights' gradients as sums over
   all the rows. -/
module

public import proofs.«01_k».proof.Proof.InBwd.Points
public import proofs.«01_k».proof.Proof.Real.Rows

@[expose] public section

set_option maxRecDepth 16384

noncomputable section

namespace Cert.InBwd.Kernel

open Idealize.ShloMosaic Idealize.ShloMosaic.TcCoe Idealize.SL.Sem
open Cert.InBwdIdeal Cert.InBwdIdeal.Gen Cert.InBwdIdeal.Body Cert.Lift Cert.InBwd.Spec

variable {m : (ℓ : Loc nD τ sig) → Buf (Elt Ideal) ℓ} {c : Dev nD} {D : Data} (H : Holds m c D)
include H

/-- The rows' gradient. -/
theorem final11 : (dats m 0 c).arrAt 11 cfg0.N = fun i : S4096x1024.Idx => ((gx D (i 0).val (i 1) : ℝ) : EReal) := by
  refine (dats m 0 c).arrAt_eq_of_covers 11 _ (by decide +kernel) fun t hf y => ?_
  blk_simp
  rw [after0_11]
  have e1 : ((win0_11.blk t).view.emb y 1).val = (y 1).val := by blk_simp [idx t]
  refine (congrArg _ ?_).trans ((gx_out H t (y 0) (y 1)).trans (congrArg₂ (fun n l => ((gx D n l : ℝ) : EReal)) ?_ ?_))
  · funext x
    fin_cases x <;> rfl
  · rw [(idx t).2.2.2.2.2.2.2.2.2.2.2.1]
    show 512 * t.val + (y 0).val = t.val * 512 + (y 0).val
    rw [mul_comm]
  · exact Fin.ext e1.symm

/-- The projection's gradient. -/
theorem final12 : (dats m 0 c).arrAt 12 cfg0.N
    = fun i : S4x1024x384.Idx => ((dw D (i 1).val (384 * (i 0).val + (i 2).val) : ℝ) : EReal) := by
  refine (dats m 0 c).arrAt_eq_of_after_last 12 tLast (by decide +kernel) _ fun j => ?_
  blk_simp
  rw [after0_12]
  refine (congrArg _ (show _ = ix3 (j 0) (j 1) (j 2) from ?_)).trans (dw_last H (j 0) (j 1) (j 2))
  funext x
  fin_cases x <;> rfl

/-- The taps' gradient. -/
theorem final13 : (dats m 0 c).arrAt 13 cfg0.N = fun i : S32x512.Idx => ((dc D (i 0).val (i 1).val : ℝ) : EReal) := by
  refine (dats m 0 c).arrAt_eq_of_after_last 13 tLast (by decide +kernel) _ fun j => ?_
  blk_simp
  rw [after0_13]
  refine (congrArg _ (show _ = ix2 (j 0) (j 1) from ?_)).trans (dc_last H (j 0) (j 1))
  funext x
  fin_cases x <;> rfl

/-- The gain's gradient. -/
theorem final14 : (dats m 0 c).arrAt 14 cfg0.N = fun i : S8x1024.Idx => ((dg D (i 0).val (i 1).val : ℝ) : EReal) := by
  refine (dats m 0 c).arrAt_eq_of_after_last 14 tLast (by decide +kernel) _ fun j => ?_
  blk_simp
  rw [after0_14]
  refine (congrArg _ (show _ = ix2 (j 0) (j 1) from ?_)).trans (dg_last H (j 0) (j 1))
  funext x
  fin_cases x <;> rfl

end Cert.InBwd.Kernel
-- ==== Proof.InBwd.Claim.lean ====
/- The mixers' input gradients' kernel and the derivative of the plain forward lines end with equal results. -/
module

public import proofs.«01_k».proof.Proof.InBwd.RefRun
public import proofs.«01_k».proof.Defs
public import proofs.«01_k».proof.Proof.Gen.Pre_finite_in
public import proofs.«01_k».proof.Proof.InBwd.Arrays
public import proofs.«01_k».proof.Proof.InBwd.Reference
public import proofs.«01_k».proof.Proof.Real.Finite

@[expose] public section

set_option maxRecDepth 16384

noncomputable section

namespace Cert.InBwd.Claim

open Idealize.ShloMosaic Idealize.ShloMosaic.TcCoe Idealize.SL.Sem
open Cert.InBwd.Spec Cert.Finite

/-- A matrix's real entries, zero outside it. -/
def entries {a b : ℕ} (A : (⟨2, ![a, b]⟩ : Shape).Idx → EReal) (n l : ℕ) : ℝ :=
  if h : n < a ∧ l < b then (A (ix2 ⟨n, h.1⟩ ⟨l, h.2⟩)).toReal else 0

theorem entries_out {a b : ℕ} (A : (⟨2, ![a, b]⟩ : Shape).Idx → EReal) (n l : ℕ) (h : a ≤ n) : entries A n l = 0 :=
  dif_neg fun k => absurd k.1 (not_lt.mpr h)

theorem entries_at {a b : ℕ} (A : (⟨2, ![a, b]⟩ : Shape).Idx → EReal) (n : Fin a) (l : Fin b)
    (h : A (ix2 n l) = (((A (ix2 n l)).toReal : ℝ) : EReal)) : A (ix2 n l) = ((entries A n.val l.val : ℝ) : EReal) :=
  have e : entries A n.val l.val = (A (ix2 n l)).toReal := dif_pos (⟨n.isLt, l.isLt⟩ : n.val < a ∧ l.val < b)
  h.trans (congrArg Real.toEReal e.symm)

variable (m : (ℓ : Loc InBwdIdeal.nD InBwdIdeal.τ InBwdIdeal.sig) → Buf (Elt Ideal) ℓ) (c : Dev InBwdIdeal.nD)

/-- The real arrays a device's arguments hold. -/
def data : Data where
  x := entries (a := 4096) (b := 1024) (m ((c.tc : Thread InBwdIdeal.nD InBwdIdeal.τ).loc InBwdIdeal.main_arg0))
  gain := entries (a := 1) (b := 1024) (m ((c.tc : Thread InBwdIdeal.nD InBwdIdeal.τ).loc InBwdIdeal.main_arg1)) 0
  wIn := entries (a := 1024) (b := 1536) (m ((c.tc : Thread InBwdIdeal.nD InBwdIdeal.τ).loc InBwdIdeal.main_arg2))
  cw := entries (a := 31) (b := 512) (m ((c.tc : Thread InBwdIdeal.nD InBwdIdeal.τ).loc InBwdIdeal.main_arg3))
  dx := entries (a := 4096) (b := 1024) (m ((c.tc : Thread InBwdIdeal.nD InBwdIdeal.τ).loc InBwdIdeal.main_arg5))
  du := entries (a := 4096) (b := 512) (m ((c.tc : Thread InBwdIdeal.nD InBwdIdeal.τ).loc InBwdIdeal.main_arg6))
  dp := entries (a := 4096) (b := 512) (m ((c.tc : Thread InBwdIdeal.nD InBwdIdeal.τ).loc InBwdIdeal.main_arg7))
  du_out n e := entries_out _ n e
  dp_out n e := entries_out _ n e

theorem holds (h : Cert.Pre_InBwdIdeal_finite_in (hPre_finite_in := Cert.Pre_finite_in.Gen.facts) m) :
    Kernel.Holds m c (data m c) := by
  obtain ⟨h0, h1, h2, h3, h5, h6, h7⟩ := h c
  exact {
    x := fun r l => entries_at _ r l (real_of_cmp h0 (ix2 r l))
    gain := fun z l => by rw [Subsingleton.elim z 0]; exact entries_at _ (0 : Fin 1) l (real_of_cmp h1 (ix2 (0 : Fin 1) l))
    wIn := fun l k => entries_at _ l k (real_of_cmp h2 (ix2 l k))
    cw := fun k e => entries_at _ k e (real_of_cmp h3 (ix2 k e))
    dx := fun r l => entries_at _ r l (real_of_cmp h5 (ix2 r l))
    du := fun r e => entries_at _ r e (real_of_cmp h6 (ix2 r e))
    dp := fun r e => entries_at _ r e (real_of_cmp h7 (ix2 r e)) }

set_option maxHeartbeats 4000000 in
/-- The kernel's run: its results are the arrays after the last point, its arguments are as they were. -/
theorem kernel_run (ρ : Dev InBwdIdeal.nD → PrngReg) : θ_run (InBwdIdeal.defs (F := Ideal)) (onTc (τ := InBwdIdeal.τ)
    (InBwdIdeal.main (F := Ideal))) ⟨m, fun _ => 0, ρ⟩ fun r => ∀ c : Dev InBwdIdeal.nD,
      let at' := fun b : Ref InBwdIdeal.sig .tc => r.2.mem ((c.tc : Thread InBwdIdeal.nD InBwdIdeal.τ).loc b)
      let A := fun b : Ref InBwdIdeal.sig .tc => m ((c.tc : Thread InBwdIdeal.nD InBwdIdeal.τ).loc b)
      at' InBwdIdeal.main_v18_0 = (InBwdIdeal.Body.dats m 0 c).arrAt 11 InBwdIdeal.cfg0.N
      ∧ at' InBwdIdeal.main_v18_1 = (InBwdIdeal.Body.dats m 0 c).arrAt 12 InBwdIdeal.cfg0.N
      ∧ at' InBwdIdeal.main_v18_2 = (InBwdIdeal.Body.dats m 0 c).arrAt 13 InBwdIdeal.cfg0.N
      ∧ at' InBwdIdeal.main_v18_3 = (InBwdIdeal.Body.dats m 0 c).arrAt 14 InBwdIdeal.cfg0.N
      ∧ at' InBwdIdeal.main_arg0 = A InBwdIdeal.main_arg0 ∧ at' InBwdIdeal.main_arg1 = A InBwdIdeal.main_arg1
      ∧ at' InBwdIdeal.main_arg2 = A InBwdIdeal.main_arg2 ∧ at' InBwdIdeal.main_arg3 = A InBwdIdeal.main_arg3
      ∧ at' InBwdIdeal.main_arg4 = A InBwdIdeal.main_arg4 ∧ at' InBwdIdeal.main_arg5 = A InBwdIdeal.main_arg5
      ∧ at' InBwdIdeal.main_arg6 = A InBwdIdeal.main_arg6 ∧ at' InBwdIdeal.main_arg7 = A InBwdIdeal.main_arg7 :=
  (θ_run InBwdIdeal.defs _ _).mono (fun _ h c => ⟨(h.1 c).1 11, (h.1 c).1 12, (h.1 c).1 13, (h.1 c).1 14, h.2.1 c⟩)
    (θ_run_and (InBwdIdeal.Body.run_main m ρ) (InBwdIdeal.Body.frame_holds m ρ))

set_option maxHeartbeats 4000000 in
theorem algebraic : Cert.algebraic_InBwdIdeal_InRefIdeal_pre_finite_in (hInBwdIdeal := Cert.InBwdIdeal.Gen.facts)
    (hInRefIdeal := Cert.InRefIdeal.Gen.facts) (hPre_finite_in := Cert.Pre_finite_in.Gen.facts) := by
  pair_intro
  · run_from kernel_run m g
  · run_from Cert.InRefIdeal.Whole.reference_run m' g'
    · have H := holds m c hpre
      refine Eq.trans (funext fun i => ?_) (Kernel.final11 H).symm
      rw [Cert.Rows.ix2_eta i]
      exact Reference.v731 H.x H.gain H.wIn H.cw H.dx H.du H.dp (i 0) (i 1)
    · have H := holds m c hpre
      refine Eq.trans (funext fun i => ?_) (Kernel.final12 H).symm
      rw [Cert.Rows.ix3_eta i]
      exact Reference.v734 H.x H.gain H.wIn H.cw H.du H.dp (i 0) (i 1) (i 2)
    · have H := holds m c hpre
      refine Eq.trans (funext fun i => ?_) (Kernel.final13 H).symm
      rw [Cert.Rows.ix2_eta i]
      exact Reference.v736 H.x H.gain H.wIn H.du (i 0) (i 1)
    · have H := holds m c hpre
      refine Eq.trans (funext fun i => ?_) (Kernel.final14 H).symm
      rw [Cert.Rows.ix2_eta i]
      exact Reference.v738 H.x H.gain H.wIn H.cw H.du H.dp (i 0) (i 1)

end Cert.InBwd.Claim
-- ==== Proof.Cp.Body.lean ====
/- The body of the mixers' forward call at one grid point, written with loops over the lanes' groups, the blocks of rows and the taps. -/
module

public import proofs.«01_k».proof.Proof.Gen.CpIdeal.Frame.Runs
public import proofs.«01_k».proof.Proof.InBwd.Sums

@[expose] public section

set_option maxRecDepth 16384

noncomputable section

namespace Cert.CpIdeal.Body

open Cert.CpIdeal Cert.CpIdeal.Gen Cert.Straight
open Cert.InBwdIdeal.Body (le2 le3 rows64 rows32 tap block half comb64 comb32 combS run runS win more more_le count64 slice_lanes convAdd zero128)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The buffers of one point: eleven inputs, five outputs and four scratch buffers. -/
structure Bufs where
  z : Memref sig .tc .vmem S512x1536 .f32
  zp : Memref sig .tc .vmem S32x1536 .f32
  x : Memref sig .tc .vmem S512x1024 .f32
  cw : Memref sig .tc .vmem S32x512 .f32
  cb : Memref sig .tc .vmem S1x512 .f32
  lg : Memref sig .tc .vmem S1x512 .f32
  lb : Memref sig .tc .vmem S1x512 .f32
  pw : Memref sig .tc .vmem S4x128x128 .f32
  ps : Memref sig .tc .vmem S1x512 .f32
  wo : Memref sig .tc .vmem S1024x1024 .bf16
  gf : Memref sig .tc .vmem S1x1024 .f32
  x1 : Memref sig .tc .vmem S512x1024 .f32
  mix : Memref sig .tc .vmem S512x1024 .bf16
  u1 : Memref sig .tc .vmem S512x512 .f32
  po : Memref sig .tc .vmem S512x512 .bf16
  h2 : Memref sig .tc .vmem S512x1024 .bf16
  eu : Memref sig .tc .vmem S4x768x128 .f32
  ev : Memref sig .tc .vmem S4x768x128 .f32
  ss : Memref sig .tc .vmem S2x512x128 .f32
  u0 : Memref sig .tc .vmem S512x512 .f32
  z_whole : z.IsWhole
  zp_whole : zp.IsWhole
  x_whole : x.IsWhole
  cw_whole : cw.IsWhole
  cb_whole : cb.IsWhole
  lg_whole : lg.IsWhole
  lb_whole : lb.IsWhole
  pw_whole : pw.IsWhole
  ps_whole : ps.IsWhole
  wo_whole : wo.IsWhole
  gf_whole : gf.IsWhole
  x1_whole : x1.IsWhole
  mix_whole : mix.IsWhole
  u1_whole : u1.IsWhole
  po_whole : po.IsWhole
  h2_whole : h2.IsWhole
  eu_whole : eu.IsWhole
  ev_whole : ev.IsWhole
  ss_whole : ss.IsWhole
  u0_whole : u0.IsWhole

/-- What they hold. -/
@[ext] structure St (F : FTy → Type) where
  z : Vec F S512x1536 .f32
  zp : Vec F S32x1536 .f32
  x : Vec F S512x1024 .f32
  cw : Vec F S32x512 .f32
  cb : Vec F S1x512 .f32
  lg : Vec F S1x512 .f32
  lb : Vec F S1x512 .f32
  pw : Vec F S4x128x128 .f32
  ps : Vec F S1x512 .f32
  wo : Vec F S1024x1024 .bf16
  gf : Vec F S1x1024 .f32
  x1 : Vec F S512x1024 .f32
  mix : Vec F S512x1024 .bf16
  u1 : Vec F S512x512 .f32
  po : Vec F S512x512 .bf16
  h2 : Vec F S512x1024 .bf16
  eu : Vec F S4x768x128 .f32
  ev : Vec F S4x768x128 .f32
  ss : Vec F S2x512x128 .f32
  u0 : Vec F S512x512 .f32

/-- The buffers, in order. -/
def parts (A : Bufs) : List (Part sig (Elt F) (St F)) :=
  [⟨_, _, A.z, (·.z)⟩, ⟨_, _, A.zp, (·.zp)⟩, ⟨_, _, A.x, (·.x)⟩, ⟨_, _, A.cw, (·.cw)⟩, ⟨_, _, A.cb, (·.cb)⟩,
   ⟨_, _, A.lg, (·.lg)⟩, ⟨_, _, A.lb, (·.lb)⟩, ⟨_, _, A.pw, (·.pw)⟩, ⟨_, _, A.ps, (·.ps)⟩, ⟨_, _, A.wo, (·.wo)⟩,
   ⟨_, _, A.gf, (·.gf)⟩, ⟨_, _, A.x1, (·.x1)⟩, ⟨_, _, A.mix, (·.mix)⟩, ⟨_, _, A.u1, (·.u1)⟩, ⟨_, _, A.po, (·.po)⟩,
   ⟨_, _, A.h2, (·.h2)⟩, ⟨_, _, A.eu, (·.eu)⟩, ⟨_, _, A.ev, (·.ev)⟩, ⟨_, _, A.ss, (·.ss)⟩, ⟨_, _, A.u0, (·.u0)⟩]

/-- A buffer of the body. -/
abbrev Buf1 (A : Bufs) (s : Shape) (e : EltTy) := Slot (nD := nD) (τ := τ) (U := UR sig nD τ) (parts (F := F) A) s e

/-- A part of the body. -/
abbrev P (F : FTy → Type) [FloatOps F] (A : Bufs) (α : Type) := Act (U := UR sig nD τ) (defs₀ (F := F)) (parts A) α

variable (A : Bufs)

def b_z : Buf1 (F := F) A S512x1536 .f32 := ⟨A.z, (·.z), fun σ X => {σ with z := X}, 0, rfl, fun _ _ => rfl, fun _ _ _ => rfl⟩
def b_zp : Buf1 (F := F) A S32x1536 .f32 := ⟨A.zp, (·.zp), fun σ X => {σ with zp := X}, 1, rfl, fun _ _ => rfl, fun _ _ _ => rfl⟩
def b_x : Buf1 (F := F) A S512x1024 .f32 := ⟨A.x, (·.x), fun σ X => {σ with x := X}, 2, rfl, fun _ _ => rfl, fun _ _ _ => rfl⟩
def b_cw : Buf1 (F := F) A S32x512 .f32 := ⟨A.cw, (·.cw), fun σ X => {σ with cw := X}, 3, rfl, fun _ _ => rfl, fun _ _ _ => rfl⟩
def b_cb : Buf1 (F := F) A S1x512 .f32 := ⟨A.cb, (·.cb), fun σ X => {σ with cb := X}, 4, rfl, fun _ _ => rfl, fun _ _ _ => rfl⟩
def b_lg : Buf1 (F := F) A S1x512 .f32 := ⟨A.lg, (·.lg), fun σ X => {σ with lg := X}, 5, rfl, fun _ _ => rfl, fun _ _ _ => rfl⟩
def b_lb : Buf1 (F := F) A S1x512 .f32 := ⟨A.lb, (·.lb), fun σ X => {σ with lb := X}, 6, rfl, fun _ _ => rfl, fun _ _ _ => rfl⟩
def b_pw : Buf1 (F := F) A S4x128x128 .f32 := ⟨A.pw, (·.pw), fun σ X => {σ with pw := X}, 7, rfl, fun _ _ => rfl, fun _ _ _ => rfl⟩
def b_ps : Buf1 (F := F) A S1x512 .f32 := ⟨A.ps, (·.ps), fun σ X => {σ with ps := X}, 8, rfl, fun _ _ => rfl, fun _ _ _ => rfl⟩
def b_wo : Buf1 (F := F) A S1024x1024 .bf16 := ⟨A.wo, (·.wo), fun σ X => {σ with wo := X}, 9, rfl, fun _ _ => rfl, fun _ _ _ => rfl⟩
def b_gf : Buf1 (F := F) A S1x1024 .f32 := ⟨A.gf, (·.gf), fun σ X => {σ with gf := X}, 10, rfl, fun _ _ => rfl, fun _ _ _ => rfl⟩
def b_x1 : Buf1 (F := F) A S512x1024 .f32 := ⟨A.x1, (·.x1), fun σ X => {σ with x1 := X}, 11, rfl, fun _ _ => rfl, fun _ _ _ => rfl⟩
def b_mix : Buf1 (F := F) A S512x1024 .bf16 := ⟨A.mix, (·.mix), fun σ X => {σ with mix := X}, 12, rfl, fun _ _ => rfl, fun _ _ _ => rfl⟩
def b_u1 : Buf1 (F := F) A S512x512 .f32 := ⟨A.u1, (·.u1), fun σ X => {σ with u1 := X}, 13, rfl, fun _ _ => rfl, fun _ _ _ => rfl⟩
def b_po : Buf1 (F := F) A S512x512 .bf16 := ⟨A.po, (·.po), fun σ X => {σ with po := X}, 14, rfl, fun _ _ => rfl, fun _ _ _ => rfl⟩
def b_h2 : Buf1 (F := F) A S512x1024 .bf16 := ⟨A.h2, (·.h2), fun σ X => {σ with h2 := X}, 15, rfl, fun _ _ => rfl, fun _ _ _ => rfl⟩
def b_eu : Buf1 (F := F) A S4x768x128 .f32 := ⟨A.eu, (·.eu), fun σ X => {σ with eu := X}, 16, rfl, fun _ _ => rfl, fun _ _ _ => rfl⟩
def b_ev : Buf1 (F := F) A S4x768x128 .f32 := ⟨A.ev, (·.ev), fun σ X => {σ with ev := X}, 17, rfl, fun _ _ => rfl, fun _ _ _ => rfl⟩
def b_ss : Buf1 (F := F) A S2x512x128 .f32 := ⟨A.ss, (·.ss), fun σ X => {σ with ss := X}, 18, rfl, fun _ _ => rfl, fun _ _ _ => rfl⟩
def b_u0 : Buf1 (F := F) A S512x512 .f32 := ⟨A.u0, (·.u0), fun σ X => {σ with u0 := X}, 19, rfl, fun _ _ => rfl, fun _ _ _ => rfl⟩

variable {A}

/-- A rectangle stored, after a load of it that nothing reads. -/
def put1 {s : Shape} {e : EltTy} (S : Buf1 (F := F) A s e) (r : Rect s) (h : 0 < r.shape.numel) (w : r.shape.Idx → Elt F e)
    (hx : (S.mem.access r).Stores Finset.univ) : P F A PUnit :=
  Act.load S r.toLoadRect h >>= fun _ => Act.store S r w hx

theorem ends_put1 {s : Shape} {e : EltTy} {S : Buf1 (F := F) A s e} {r : Rect s} {h : 0 < r.shape.numel} {w : r.shape.Idx → Elt F e}
    {hx : (S.mem.access r).Stores Finset.univ} {σ : St F} {Q : PUnit → St F → Prop} (hQ : Q ⟨⟩ (S.set σ (put r w (S.get σ)))) :
    Act.Ends (put1 S r h w hx) σ Q := ⟨hQ⟩

variable (A)

/-- Lanes `l …` of a row. -/
abbrev lanes1 (l : ℕ) (hl : l + 128 ≤ 512) : Rect S1x512 := Rect.unit (s := S1x512) ![0, l] S1x128.size (le2 (show 0 + 1 ≤ 1 by omega) hl)
abbrev block32 (r l : ℕ) (hr : r + 32 ≤ 512) (hl : l + 128 ≤ 1536) : Rect S512x1536 := Rect.unit (s := S512x1536) ![r, l] S32x128.size (le2 hr hl)
abbrev lanes512 (l : ℕ) (hl : l + 128 ≤ 512) : Rect S512x512 := Rect.unit (s := S512x512) ![0, l] S512x128.size (le2 (show 0 + 512 ≤ 512 by omega) hl)
abbrev mixLanes (l : ℕ) (hl : l + 128 ≤ 1024) : Rect S512x1024 := Rect.unit (s := S512x1024) ![0, l] S512x128.size (le2 (show 0 + 512 ≤ 512 by omega) hl)
abbrev heads (c : ℕ) (hc : c + 1 ≤ 4) : Rect S4x128x128 :=
  Rect.unit (s := S4x128x128) ![c, 0, 0] S1x128x128.size (le3 hc (show 0 + 128 ≤ 128 by omega) (show 0 + 128 ≤ 128 by omega))
abbrev all512 : Rect S512x512 := Rect.unit (s := S512x512) ![0, 0] S512x512.size inb_S512x512_S512x512_0_0
abbrev allRows : Rect S512x1024 := Rect.unit (s := S512x1024) ![0, 0] S512x1024.size inb_S512x1024_S512x1024_0_0
abbrev allScale : Rect S1x1024 := Rect.unit (s := S1x1024) ![0, 0] S1x1024.size inb_S1x1024_S1x1024_0_0
abbrev allRow : Rect S1x512 := Rect.unit (s := S1x512) ![0, 0] S1x512.size inb_S1x512_S1x512_0_0
abbrev mixFirst : Rect S512x1024 := Rect.unit (s := S512x1024) ![0, 0] S512x512.size inb_S512x1024_S512x512_0_0

/-! ## The values -/

/-- The word of the point. -/
abbrev pt (i : grid0.Coords) : BitVec 32 := BitVec.ofNat 32 (i 0).val
/-- One from the second point on, else zero. -/
abbrev kept (i : grid0.Coords) : F .f32 := Scalar.sitofp .f32 (Scalar.extui (Scalar.cmpi .sgt (pt i) 0#32))
/-- The word of a row of the point. -/
abbrev rowWord (i : grid0.Coords) (r : ℕ) : BitVec 32 := Scalar.addi (Scalar.muli (pt i) 512#32) (BitVec.ofNat 32 r)

theorem slice_pool (c : Fin 4) : S32x1536.Slices ![0, 1024 + 128 * c.val] S32x128 := by revert c; decide

/-- The projection's rows before the point. -/
def before (i : grid0.Coords) (v : Vec F S32x1536 .f32) : FVec F S32x1536 .f32 := mulf v (broadcast S32x1536 (kept i))
/-- The gated rows before the point. -/
def gateBefore (b : FVec F S32x1536 .f32) : FVec F S32x512 .f32 :=
  mulf (extractStridedSlice S32x512 ![0, 0] b slices_S32x1536_o0_0_S32x512) (logistic (extractStridedSlice S32x512 ![0, 512] b slices_S32x1536_o0_512_S32x512))
/-- The gated rows. -/
def gated (a b : Vec F S512x512 .f32) : FVec F S512x512 .f32 := shapeCast S512x512 (mulf a (logistic b)) shapeCasts_S512x512_S512x512

/-- The gated rows, stored; the rows before are returned. -/
def gates (i : grid0.Coords) : P F A (FVec F S32x1536 .f32 × FVec F S32x512 .f32) := do
  let v ← Act.load (b_zp A) (Rect.unit (s := S32x1536) ![0, 0] S32x1536.size inb_S32x1536_S32x1536_0_0).toLoadRect h_S32x1536
  let a : Vec F S512x512 .f32 ← Act.load (b_z A) (half 0 (by omega)).toLoadRect h_S512x512
  let b : Vec F S512x512 .f32 ← Act.load (b_z A) (half 512 (by omega)).toLoadRect h_S512x512
  put1 (b_u0 A) all512 h_S512x512 (gated a b) (View.stores_vmem_bits_univ h_S512x512 rfl)
  pure (before i v, gateBefore (before i v))

/-! ## The shifted copies -/

/-- The rows before the point. -/
def around (q : FVec F S32x1536 .f32 × FVec F S32x512 .f32) (c : Fin 4) : P F A PUnit := do
  put1 (b_eu A) (comb32 c 0 (by omega) (by omega)) h_S1x32x128
    (shapeCast S1x32x128 (extractStridedSlice S32x128 ![0, 128 * c.val] q.2 (slice_lanes c)) shapeCasts_S32x128_S1x32x128) (View.stores_vmem_bits_univ h_S1x32x128 rfl)
  put1 (b_ev A) (comb32 c 0 (by omega) (by omega)) h_S1x32x128
    (shapeCast S1x32x128 (extractStridedSlice S32x128 ![0, 1024 + 128 * c.val] q.1 (slice_pool c)) shapeCasts_S32x128_S1x32x128) (View.stores_vmem_bits_univ h_S1x32x128 rfl)

/-- The last rows of the block before. -/
def edge (c : Fin 4) (j : Fin 8) (hj : 1 ≤ j.val) : P F A PUnit := do
  let v : Vec F S32x128 .f32 ← Act.load (b_u0 A) (rows32 (64 * j - 32) (128 * c) (by omega) (by omega)).toLoadRect h_S32x128
  put1 (b_eu A) (comb32 c j (by omega) (by omega)) h_S1x32x128 (shapeCast S1x32x128 v shapeCasts_S32x128_S1x32x128) (View.stores_vmem_bits_univ h_S1x32x128 rfl)
  let p : Vec F S32x128 .f32 ← Act.load (b_z A) (block32 (64 * j - 32) (1024 + 128 * c) (by omega) (by omega)).toLoadRect h_S32x128
  put1 (b_ev A) (comb32 c j (by omega) (by omega)) h_S1x32x128 (shapeCast S1x32x128 p shapeCasts_S32x128_S1x32x128) (View.stores_vmem_bits_univ h_S1x32x128 rfl)

/-- One block of gated rows. -/
def copyU (c : Fin 4) (j : Fin 8) : P F A PUnit := do
  let u : Vec F S64x128 .f32 ← Act.load (b_u0 A) (rows64 (64 * j) (128 * c) (by omega) (by omega)).toLoadRect h_S64x128
  put1 (b_eu A) (comb64 c (256 + j) (by omega) (by omega)) h_S1x64x128 (shapeCast S1x64x128 u shapeCasts_S64x128_S1x64x128) (View.stores_vmem_bits_univ h_S1x64x128 rfl)

/-- And of the pools' rows. -/
def copyV (c : Fin 4) (j : Fin 8) : P F A PUnit := do
  let p : Vec F S64x128 .f32 ← Act.load (b_z A) (block (64 * j) (1024 + 128 * c) (by omega) (by omega)).toLoadRect h_S64x128
  put1 (b_ev A) (comb64 c (256 + j) (by omega) (by omega)) h_S1x64x128 (shapeCast S1x64x128 p shapeCasts_S64x128_S1x64x128) (View.stores_vmem_bits_univ h_S1x64x128 rfl)
  (if h : 1 ≤ j.val then edge A c j h else pure ⟨⟩)

def copy (c : Fin 4) (j : Fin 8) : P F A PUnit := copyU A c j >>= fun _ => copyV A c j

/-- The copies of one group of lanes. -/
def copies (q : FVec F S32x1536 .f32 × FVec F S32x512 .f32) (c : Fin 4) : P F A PUnit := do
  around A q c
  Act.each 8 (fun j _ => copy A c j) ⟨⟩

/-! ## The convolution and the pools -/

/-- The bias. -/
def bias (r : Vec F S1x128 .f32) : FVec F S128x128 .f32 := addf zero128 (broadcastTo S128x128 r broadcasts_S1x128_S128x128)

def convRow (c : Fin 4) (k : Fin 31) : P F A (FVec F S1x128 .f32) := do
  let r : Vec F S1x128 .f32 ← Act.load (b_cw A) (tap k (128 * c) (by omega) (by omega)).toLoadRect h_S1x128
  pure (shapeCast S1x128 r shapeCasts_S1x128_S1x128)

def convTap (c v : Fin 4) (k : Fin 31) (acc : FVec F S128x128 .f32) (row : FVec F S1x128 .f32) : P F A (FVec F S128x128 .f32) := do
  let e : Vec F S1x128x128 .f32 ← Act.load (b_eu A) (run c (8 * (2 + 16 * v + k)) (by omega) (by omega)).toLoadRect h_S1x128x128
  pure (convAdd acc row (shapeCast S128x128 e shapeCasts_S1x128x128_S128x128))

def convStep (c v : Fin 4) (k : Fin 31) (acc : FVec F S128x128 .f32) : P F A (FVec F S128x128 .f32) :=
  convRow A c k >>= fun r => convTap A c v k acc r

abbrev convs (c v : Fin 4) (m a : ℕ) (h : a + m ≤ 31) (acc : FVec F S128x128 .f32) : P F A (FVec F S128x128 .f32) := Act.span 31 (convStep A c v) m a h acc

/-- A sum stored for its plane. -/
def keepSum (p : ℕ) (hp : p + 1 ≤ 2) (v : Fin 4) (acc : FVec F S128x128 .f32) : P F A PUnit :=
  put1 (b_ss A) (runS p (128 * v) hp (by omega)) h_S1x128x128 (shapeCast S1x128x128 acc shapeCasts_S128x128_S1x128x128) (View.stores_vmem_bits_univ h_S1x128x128 rfl)

/-- A stretch of the pools' rows, `d` rows before. -/
def poolLoad (c v : Fin 4) (d : ℕ) (hd : d ≤ 15) : P F A (FVec F S128x128 .f32) := do
  let e : Vec F S1x128x128 .f32 ← Act.load (b_ev A) (run c (8 * (32 + 16 * v - d)) (by omega) (by omega)).toLoadRect h_S1x128x128
  pure (shapeCast S128x128 e shapeCasts_S1x128x128_S128x128)

def pool (c v : Fin 4) : P F A (FVec F S128x128 .f32) := do
  let e ← poolLoad A c v 0 (by omega)
  Act.each (more c) (fun d acc => do
    let e ← poolLoad A c v (d + 1) (by have := more_le c; omega)
    pure (addf acc e)) e

/-- What follows the convolution's sum. -/
def unitEnd (c v : Fin 4) (acc : FVec F S128x128 .f32) : P F A PUnit := do
  keepSum A 0 (by omega) v acc
  let q ← pool A c v
  keepSum A 1 (by omega) v q

def unitStart (c : Fin 4) : P F A (FVec F S128x128 .f32) := do
  let b : Vec F S1x128 .f32 ← Act.load (b_cb A) (lanes1 (128 * c) (by omega)).toLoadRect h_S1x128
  pure (bias b)

/-- A stretch of 128 places of a group of lanes. -/
def unit (c v : Fin 4) : P F A PUnit := do
  let b ← unitStart A c
  let acc ← convs A c v 31 0 (by omega) b
  unitEnd A c v acc

/-! ## The sums put back in order -/

theorem packed (r l : ℕ) (hr : r + 64 ≤ 512) (hl : l + 128 ≤ 512) (h : 8 ∣ r) : (rows64 r l hr hl).PackedRows (EltTy.packing .bf16) := by
  refine .inr ⟨by decide, rfl, .inl ⟨?_, ?_⟩⟩
  · show 2 ∣ r; omega
  · show 2 ∣ 64; omega

def convOut (c : Fin 4) (j : Fin 8) : P F A PUnit := do
  let s : Vec F S1x64x128 .f32 ← Act.load (b_ss A) (combS 0 j (by omega) (by omega)).toLoadRect h_S1x64x128
  put1 (b_u1 A) (rows64 (64 * j) (128 * c) (by omega) (by omega)) h_S64x128 (shapeCast S64x128 s shapeCasts_S1x64x128_S64x128) (View.stores_vmem_bits_univ h_S64x128 rfl)

/-- A pool's mean less the row itself. -/
def pooled (i : grid0.Coords) (c : Fin 4) (j : Fin 8) (s : Vec F S1x64x128 .f32) (p : Vec F S64x128 .f32) : FVec F S64x128 .bf16 :=
  truncf .bf16 (subf (divf (shapeCast S64x128 s shapeCasts_S1x64x128_S64x128) (count64 (rowWord i (64 * j)) c)) p) bitsLt_bf16_f32

def poolOut (i : grid0.Coords) (c : Fin 4) (j : Fin 8) : P F A PUnit := do
  let s : Vec F S1x64x128 .f32 ← Act.load (b_ss A) (combS 1 j (by omega) (by omega)).toLoadRect h_S1x64x128
  let p : Vec F S64x128 .f32 ← Act.load (b_z A) (block (64 * j) (1024 + 128 * c) (by omega) (by omega)).toLoadRect h_S64x128
  put1 (b_po A) (rows64 (64 * j) (128 * c) (by omega) (by omega)) h_S64x128 (pooled i c j s p)
    (View.stores_vmem h_S64x128 (A.po_whole.storeExact_slice rfl _ (packed (64 * j) (128 * c) (by omega) (by omega) (by omega))) fun _ => rfl)

def outs (i : grid0.Coords) (c : Fin 4) : P F A PUnit := Act.each 8 (fun j _ => do convOut A c j; poolOut A i c j) ⟨⟩

/-- The sums of one group of lanes. -/
def sums (i : grid0.Coords) (c : Fin 4) : P F A PUnit := do
  Act.each 4 (fun v _ => unit A c v) ⟨⟩
  outs A i c

/-! ## The norm, the heads and the products -/

def rowMean (u : FVec F S512x512 .f32) : FVec F S512x1 .f32 :=
  divf (shapeCast S512x1 (multiReduction .add [1] S512 u 0x00000000#32 reduces_S512x512_S512 (.inl rfl) rfl) shapeCasts_S512_S512x1)
    (broadcast S512x1 (Scalar.ofBits .f32 0x44000000#32))
def centred (u : FVec F S512x512 .f32) : FVec F S512x512 .f32 := subf u (broadcastTo S512x512 (rowMean u) broadcasts_S512x1_S512x512)
def normed (u : FVec F S512x512 .f32) : FVec F S512x512 .f32 :=
  mulf (centred u) (broadcastTo S512x512 (rsqrt (addf (rowMean (mulf (centred u) (centred u))) (broadcast S512x1 (Scalar.ofBits .f32 0x358637BD#32)))) broadcasts_S512x1_S512x512)
def affine (u : FVec F S512x512 .f32) (g b : Vec F S1x512 .f32) : FVec F S512x512 .f32 :=
  addf (mulf (normed u) (broadcastTo S512x512 g broadcasts_S1x512_S512x512)) (broadcastTo S512x512 b broadcasts_S1x512_S512x512)
/-- The norm's gated value. -/
def silu (u : FVec F S512x512 .f32) (g b : Vec F S1x512 .f32) : FVec F S512x512 .bf16 :=
  truncf .bf16 (mulf (affine u g b) (logistic (affine u g b))) bitsLt_bf16_f32

def first : P F A PUnit := do
  let u : Vec F S512x512 .f32 ← Act.load (b_u1 A) all512.toLoadRect h_S512x512
  let g : Vec F S1x512 .f32 ← Act.load (b_lg A) allRow.toLoadRect h_S1x512
  let b : Vec F S1x512 .f32 ← Act.load (b_lb A) allRow.toLoadRect h_S1x512
  put1 (b_mix A) mixFirst h_S512x512 (silu (shapeCast S512x512 u shapeCasts_S512x512_S512x512) g b)
    (View.stores_vmem h_S512x512 (A.mix_whole.storeExact_slice rfl _ packedbf16_S512x1024_S512x512_0_0) fun _ => rfl)

theorem packedMix (l : ℕ) (hl : l + 128 ≤ 1024) : (mixLanes l hl).PackedRows (EltTy.packing .bf16) := by
  refine .inr ⟨by decide, rfl, .inl ⟨?_, ?_⟩⟩
  · show 2 ∣ 0; omega
  · show 2 ∣ 512; omega

/-- One group's pooled lanes times its weights, scaled. -/
def headVal (p : Vec F S512x128 .bf16) (w : Vec F S1x128x128 .f32) (s : Vec F S1x128 .f32) : FVec F S512x128 .bf16 :=
  truncf .bf16 (mulf (matmul dot_S512x128_S128x128_S512x128_1_0_0_1_n_n none (shapeCast S512x128 p shapeCasts_S512x128_S512x128)
      (truncf .bf16 (shapeCast S128x128 w shapeCasts_S1x128x128_S128x128) bitsLt_bf16_f32) (constant S512x128 .f32 0x00000000#32))
    (broadcastTo S512x128 s broadcasts_S1x128_S512x128)) bitsLt_bf16_f32

def head (c : Fin 4) : P F A PUnit := do
  let p : Vec F S512x128 .bf16 ← Act.load (b_po A) (lanes512 (128 * c) (by omega)).toLoadRect h_S512x128
  let w : Vec F S1x128x128 .f32 ← Act.load (b_pw A) (heads c (by omega)).toLoadRect h_S1x128x128
  let s : Vec F S1x128 .f32 ← Act.load (b_ps A) (lanes1 (128 * c) (by omega)).toLoadRect h_S1x128
  put1 (b_mix A) (mixLanes (512 + 128 * c) (by omega)) h_S512x128 (headVal p w s)
    (View.stores_vmem h_S512x128 (A.mix_whole.storeExact_slice rfl _ (packedMix (512 + 128 * c) (by omega))) fun _ => rfl)

/-- The residual. -/
def resid (x : Vec F S512x1024 .f32) (m : Vec F S512x1024 .bf16) (w : Vec F S1024x1024 .bf16) : FVec F S512x1024 .f32 :=
  addf x (matmul dot_S512x1024_S1024x1024_S512x1024_1_0_0_1_n_n none (shapeCast S512x1024 m shapeCasts_S512x1024_S512x1024)
    (shapeCast S1024x1024 w shapeCasts_S1024x1024_S1024x1024) (constant S512x1024 .f32 0x00000000#32))

/-- The residual's norm. -/
def scaled (x : FVec F S512x1024 .f32) (g : Vec F S1x1024 .f32) : FVec F S512x1024 .bf16 :=
  truncf .bf16 (mulf (mulf x (broadcastTo S512x1024 (rsqrt (addf (divf (shapeCast S512x1 (multiReduction .add [1] S512 (mulf x x) 0x00000000#32 reduces_S512x1024_S512 (.inl rfl) rfl)
    shapeCasts_S512_S512x1) (broadcast S512x1 (Scalar.ofBits .f32 0x44800000#32))) (broadcast S512x1 (Scalar.ofBits .f32 0x358637BD#32)))) broadcasts_S512x1_S512x1024))
    (broadcastTo S512x1024 g broadcasts_S1x1024_S512x1024)) bitsLt_bf16_f32

def second : P F A (FVec F S512x1024 .f32) := do
  let x : Vec F S512x1024 .f32 ← Act.load (b_x A) allRows.toLoadRect h_S512x1024
  let m : Vec F S512x1024 .bf16 ← Act.load (b_mix A) allRows.toLoadRect h_S512x1024
  let w : Vec F S1024x1024 .bf16 ← Act.load (b_wo A) (Rect.unit (s := S1024x1024) ![0, 0] S1024x1024.size inb_S1024x1024_S1024x1024_0_0).toLoadRect h_S1024x1024
  let _ ← Act.load (b_x1 A) allRows.toLoadRect h_S512x1024
  pure (resid x m w)

def third (x : FVec F S512x1024 .f32) : P F A PUnit := do
  Act.store (b_x1 A) allRows x (View.stores_vmem_bits_univ h_S512x1024 rfl)
  let g : Vec F S1x1024 .f32 ← Act.load (b_gf A) allScale.toLoadRect h_S1x1024
  put1 (b_h2 A) allRows h_S512x1024 (scaled x g) (View.stores_vmem h_S512x1024 (A.h2_whole.storeExact_slice rfl _ packedbf16_S512x1024_S512x1024_0_0) fun _ => rfl)

/-- What follows the groups, up to the residual. -/
def mixed : P F A (FVec F S512x1024 .f32) := do
  first A
  Act.each 4 (fun c _ => head A c) ⟨⟩
  second A

def group (i : grid0.Coords) (q : FVec F S32x1536 .f32 × FVec F S32x512 .f32) (c : Fin 4) : P F A PUnit := copies A q c >>= fun _ => sums A i c

/-- The body of a point. -/
def whole (i : grid0.Coords) : P F A PUnit := do
  let q ← gates A i
  Act.each 4 (fun c _ => group A i q c) ⟨⟩
  let x ← mixed A
  third A x

end Cert.CpIdeal.Body

end
-- ==== Proof.Cp.Sums.lean ====
/- What one point of the mixers' forward call leaves: the shifted copies, the convolution, the pools, the heads and the residual. -/
module

public import proofs.«01_k».proof.Proof.Cp.Body
public import proofs.«01_k».proof.Proof.InBwd.Point

@[expose] public section

set_option maxRecDepth 16384

noncomputable section

namespace Cert.CpIdeal.Body

open Cert.CpIdeal Cert.CpIdeal.Gen Cert.Straight
open Cert.InBwdIdeal.Body (le2 le3 rows64 rows32 tap block half comb64 comb32 combS run runS more more_le count64 slice_lanes convAdd zero128
  ext2 ext3 comb64_out comb32_out up64 up32 EU eu64 eu32 eu_before doneU stretch tapRow up128 runS_out put_full got_full zero2)
open Idealize.ShloMosaic Idealize.ShloMosaic.TcCoe Idealize.ShloMosaic.Tactic
open Idealize.SL Idealize.SL.RA Idealize.SL.BI

variable {F : FTy → Type} [FloatOps F] {A : Bufs}

/-! ## What the steps leave -/

theorem get_z (σ : St F) : (b_z A).get σ = σ.z := rfl
theorem get_zp (σ : St F) : (b_zp A).get σ = σ.zp := rfl
theorem get_x (σ : St F) : (b_x A).get σ = σ.x := rfl
theorem get_cw (σ : St F) : (b_cw A).get σ = σ.cw := rfl
theorem get_cb (σ : St F) : (b_cb A).get σ = σ.cb := rfl
theorem get_lg (σ : St F) : (b_lg A).get σ = σ.lg := rfl
theorem get_lb (σ : St F) : (b_lb A).get σ = σ.lb := rfl
theorem get_pw (σ : St F) : (b_pw A).get σ = σ.pw := rfl
theorem get_ps (σ : St F) : (b_ps A).get σ = σ.ps := rfl
theorem get_wo (σ : St F) : (b_wo A).get σ = σ.wo := rfl
theorem get_gf (σ : St F) : (b_gf A).get σ = σ.gf := rfl
theorem get_mix (σ : St F) : (b_mix A).get σ = σ.mix := rfl
theorem get_u1 (σ : St F) : (b_u1 A).get σ = σ.u1 := rfl
theorem get_po (σ : St F) : (b_po A).get σ = σ.po := rfl
theorem get_eu (σ : St F) : (b_eu A).get σ = σ.eu := rfl
theorem get_ev (σ : St F) : (b_ev A).get σ = σ.ev := rfl
theorem get_ss (σ : St F) : (b_ss A).get σ = σ.ss := rfl
theorem get_u0 (σ : St F) : (b_u0 A).get σ = σ.u0 := rfl
theorem set_x1 (σ : St F) X : (b_x1 A).set σ X = {σ with x1 := X} := rfl
theorem set_mix (σ : St F) X : (b_mix A).set σ X = {σ with mix := X} := rfl
theorem set_u1 (σ : St F) X : (b_u1 A).set σ X = {σ with u1 := X} := rfl
theorem set_po (σ : St F) X : (b_po A).set σ X = {σ with po := X} := rfl
theorem set_h2 (σ : St F) X : (b_h2 A).set σ X = {σ with h2 := X} := rfl
theorem set_eu (σ : St F) X : (b_eu A).set σ X = {σ with eu := X} := rfl
theorem set_ev (σ : St F) X : (b_ev A).set σ X = {σ with ev := X} := rfl
theorem set_ss (σ : St F) X : (b_ss A).set σ X = {σ with ss := X} := rfl
theorem set_u0 (σ : St F) X : (b_u0 A).set σ X = {σ with u0 := X} := rfl

/-! ## The values -/

/-- The pools' lanes of the rows before the point. -/
def poolBefore (b : FVec F S32x1536 .f32) : FVec F S32x512 .f32 := fun y =>
  b (ix2 (y 0) (⟨1024 + (y 1).val, by have : (y 1).val < 512 := (y 1).isLt; omega⟩ : Fin 1536))
/-- And of the point's rows. -/
def poolRows (z : Vec F S512x1536 .f32) : Vec F S512x512 .f32 := fun y =>
  z (ix2 (y 0) (⟨1024 + (y 1).val, by have : (y 1).val < 512 := (y 1).isLt; omega⟩ : Fin 1536))
/-- The pools' rows, shifted. -/
def EV (b : FVec F S32x1536 .f32) (z : Vec F S512x1536 .f32) : Vec F S4x768x128 .f32 := EU (poolBefore b) (poolRows z)

section Pieces

variable {c : Fin 4} {j : Fin 8} (b : FVec F S32x1536 .f32) (z : Vec F S512x1536 .f32)

theorem ev64 {hr hl hc hk} (x : S1x64x128.Idx) :
    shapeCast S1x64x128 (got (block (64 * j.val) (1024 + 128 * c.val) hr hl).toLoadRect z : FVec F S64x128 .f32) shapeCasts_S64x128_S1x64x128 x
      = EV b z ((comb64 c.val (256 + j.val) hc hk).emb x) := by
  have hr' : 64 * j.val + 64 ≤ 512 := hr
  rw [← show _ = EV b z _ from eu64 (poolBefore b) (poolRows z) (hr := hr') (hl := by omega) x, up64, up64]
  refine congrArg z (ext2 rfl ?_)
  show 1024 + 128 * c.val + 1 * (x 2).val = 1024 + (128 * c.val + 1 * (x 2).val); omega

theorem ev32 (h : 1 ≤ j.val) {hr hl hc hk} (x : S1x32x128.Idx) :
    shapeCast S1x32x128 (got (block32 (64 * j.val - 32) (1024 + 128 * c.val) hr hl).toLoadRect z : FVec F S32x128 .f32) shapeCasts_S32x128_S1x32x128 x
      = EV b z ((comb32 c.val j.val hc hk).emb x) := by
  have hr' : 64 * j.val - 32 + 32 ≤ 512 := hr
  rw [← show _ = EV b z _ from eu32 (poolBefore b) (poolRows z) h (hr := hr') (hl := by omega) x, up32, up32]
  refine congrArg z (ext2 rfl ?_)
  show 1024 + 128 * c.val + 1 * (x 2).val = 1024 + (128 * c.val + 1 * (x 2).val); omega

theorem ev_before {hc hk} (x : S1x32x128.Idx) :
    shapeCast S1x32x128 (extractStridedSlice S32x128 ![0, 1024 + 128 * c.val] b (slice_pool c)) shapeCasts_S32x128_S1x32x128 x
      = EV b z ((comb32 c.val 0 hc hk).emb x) := by
  rw [← show _ = EV b z _ from eu_before (poolBefore b) (poolRows z) x, up32, up32]
  refine congrArg b (ext2 rfl ?_)
  show 1024 + 128 * c.val + (x 2).val = 1024 + (128 * c.val + (x 2).val); omega

end Pieces

section Values

variable (i : grid0.Coords) (cw : Vec F S32x512 .f32) (cb : Vec F S1x512 .f32) (eu ev : Vec F S4x768x128 .f32) (z : Vec F S512x1536 .f32) (c v : Fin 4)

/-- The bias and the first taps. -/
def convVal : ℕ → FVec F S128x128 .f32
  | 0 => bias (got (lanes1 (128 * c) (by omega)).toLoadRect cb)
  | k + 1 => if h : k < 31 then convAdd (convVal k) (tapRow cw c k h) (stretch eu c (2 + 16 * v + k) (by omega)) else convVal k

/-- The first rows of a pool's window. -/
def poolVal : ℕ → FVec F S128x128 .f32
  | 0 => stretch ev c (32 + 16 * v) (by omega)
  | d + 1 => if h : d < 15 then addf (poolVal d) (stretch ev c (32 + 16 * v - (d + 1)) (by omega)) else poolVal d

/-- The two planes of sums of a group of lanes. -/
def SS : Vec F S2x512x128 .f32 := fun y =>
  if (y 0).val = 0 then convVal cw cb eu c ⟨(y 1).val / 128, by have : (y 1).val < 512 := (y 1).isLt; omega⟩ 31
    (ix2 (⟨(y 1).val % 128, by omega⟩ : Fin 128) (y 2))
  else poolVal ev c ⟨(y 1).val / 128, by have : (y 1).val < 512 := (y 1).isLt; omega⟩ (more c) (ix2 (⟨(y 1).val % 128, by omega⟩ : Fin 128) (y 2))

/-- A block of the convolution. -/
def convBlock (s : Vec F S2x512x128 .f32) (j : Fin 8) : FVec F S64x128 .f32 :=
  shapeCast S64x128 (got (combS 0 j (by omega) (by omega)).toLoadRect s : Vec F S1x64x128 .f32) shapeCasts_S1x64x128_S64x128
/-- A block of the pools. -/
def poolBlock (s : Vec F S2x512x128 .f32) (j : Fin 8) : FVec F S64x128 .bf16 :=
  pooled i c j (got (combS 1 j (by omega) (by omega)).toLoadRect s) (got (block (64 * j) (1024 + 128 * c) (by omega) (by omega)).toLoadRect z)

end Values

abbrev laneOf (y : S512x512.Idx) : Fin 4 := ⟨(y 1).val / 128, by have : (y 1).val < 512 := (y 1).isLt; omega⟩
abbrev rowOf (y : S512x512.Idx) : Fin 8 := ⟨(y 0).val / 64, by have : (y 0).val < 512 := (y 0).isLt; omega⟩
abbrev inner (y : S512x512.Idx) : S64x128.Idx := ix2 (⟨(y 0).val % 64, by omega⟩ : Fin 64) (⟨(y 1).val % 128, by omega⟩ : Fin 128)

/-- The convolution's rows from the sums of each group. -/
def U1 (S : Fin 4 → Vec F S2x512x128 .f32) : Vec F S512x512 .f32 := fun y => convBlock (S (laneOf y)) (rowOf y) (inner y)
/-- And the pools'. -/
def PO (i : grid0.Coords) (S : Fin 4 → Vec F S2x512x128 .f32) (z : Vec F S512x1536 .f32) : Vec F S512x512 .bf16 := fun y =>
  poolBlock i z (laneOf y) (S (laneOf y)) (rowOf y) (inner y)

section At

variable {c : Fin 4} {j : Fin 8} {hr : 64 * j.val + 64 ≤ 512} {hl : 128 * c.val + 128 ≤ 512} (x : S64x128.Idx)

theorem lane_at : laneOf ((rows64 (64 * j.val) (128 * c.val) hr hl).emb x) = c := by
  have : (x 1).val < 128 := (x 1).isLt
  exact Fin.ext (show (128 * c.val + 1 * (x 1).val) / 128 = c.val by omega)
theorem row_at : rowOf ((rows64 (64 * j.val) (128 * c.val) hr hl).emb x) = j := by
  have : (x 0).val < 64 := (x 0).isLt
  exact Fin.ext (show (64 * j.val + 1 * (x 0).val) / 64 = j.val by omega)
theorem inner_at : inner ((rows64 (64 * j.val) (128 * c.val) hr hl).emb x) = x := by
  have : (x 0).val < 64 := (x 0).isLt
  have : (x 1).val < 128 := (x 1).isLt
  exact ext2 (show (64 * j.val + 1 * (x 0).val) % 64 = _ by omega) (show (128 * c.val + 1 * (x 1).val) % 128 = _ by omega)

theorem U1_at (S : Fin 4 → Vec F S2x512x128 .f32) : convBlock (S c) j x = U1 S ((rows64 (64 * j.val) (128 * c.val) hr hl).emb x) := by
  rw [U1, lane_at, row_at, inner_at]
theorem PO_at (i : grid0.Coords) (S : Fin 4 → Vec F S2x512x128 .f32) (z : Vec F S512x1536 .f32) :
    poolBlock i z c (S c) j x = PO i S z ((rows64 (64 * j.val) (128 * c.val) hr hl).emb x) := by
  rw [PO, lane_at, row_at, inner_at]

end At

theorem rows64_out {r l : ℕ} {hr : r + 64 ≤ 512} {hl : l + 128 ≤ 512} {y : S512x512.Idx} (h : ∀ x, (rows64 r l hr hl).emb x ≠ y) :
    ¬(r ≤ (y 0).val ∧ (y 0).val < r + 64 ∧ l ≤ (y 1).val ∧ (y 1).val < l + 128) :=
  fun ⟨h0, h1, h2, h3⟩ => h (ix2 (⟨(y 0).val - r, by omega⟩ : Fin 64) (⟨(y 1).val - l, by omega⟩ : Fin 128))
    (ext2 (show r + 1 * ((y 0).val - r) = _ by omega) (show l + 1 * ((y 1).val - l) = _ by omega))

/-! ## The shifted copies -/

variable (i : grid0.Coords) (q : FVec F S32x1536 .f32 × FVec F S32x512 .f32) (σ₀ : St F) (c v : Fin 4)

/-- The copies up to a block of a group. -/
def Copied (c j : ℕ) (_ : PUnit.{1}) (σ : St F) : Prop :=
  ∃ X Y, σ = {σ₀ with eu := X, ev := Y} ∧ (∀ y, doneU c j y → X y = EU q.2 σ₀.u0 y) ∧ ∀ y, doneU c j y → Y y = EV q.1 σ₀.z y

theorem copy_ends (j : Fin 8) (σ : St F) (h : Copied q σ₀ c.val j.val ⟨⟩ σ) : Act.Ends (copy A c j) σ (Copied q σ₀ c.val (j.val + 1)) := by
  obtain ⟨X, Y, rfl, hX, hY⟩ := h
  unfold copy copyU copyV
  have hj := j.isLt
  by_cases h1 : 1 ≤ j.val
  · rw [dif_pos h1]
    unfold edge
    repeat first | refine ends_put1 ?_ | refine Act.ends_load ?_ | refine Act.ends_bind ?_
    simp only [get_u0, get_z, get_eu, get_ev, set_eu, set_ev]
    refine ⟨_, _, rfl, fun y hy => ?_, fun y hy => ?_⟩
    · refine put_agree _ _ _ _ (eu32 q.2 σ₀.u0 h1) y fun n1 => put_agree _ _ _ _ (eu64 q.2 σ₀.u0) y fun n2 => hX y ?_
      have n1 := comb32_out n1; have n2 := comb64_out n2
      have : (y 1).val < 768 := (y 1).isLt
      unfold doneU at hy ⊢; omega
    · refine put_agree _ _ _ _ (ev32 q.1 σ₀.z h1) y fun n1 => put_agree _ _ _ _ (ev64 q.1 σ₀.z) y fun n2 => hY y ?_
      have n1 := comb32_out n1; have n2 := comb64_out n2
      have : (y 1).val < 768 := (y 1).isLt
      unfold doneU at hy ⊢; omega
  · rw [dif_neg h1]
    repeat first | refine ends_put1 ?_ | refine Act.ends_load ?_ | refine Act.ends_pure ?_ | refine Act.ends_bind ?_
    simp only [get_u0, get_z, get_eu, get_ev, set_eu, set_ev]
    refine ⟨_, _, rfl, fun y hy => ?_, fun y hy => ?_⟩
    · refine put_agree _ _ _ _ (eu64 q.2 σ₀.u0) y fun n2 => hX y ?_
      have n2 := comb64_out n2
      have : (y 1).val < 768 := (y 1).isLt
      unfold doneU at hy ⊢; omega
    · refine put_agree _ _ _ _ (ev64 q.1 σ₀.z) y fun n2 => hY y ?_
      have n2 := comb64_out n2
      have : (y 1).val < 768 := (y 1).isLt
      unfold doneU at hy ⊢; omega

/-- What is known of the copies after the groups up to `c`. -/
def AllCopied (c : ℕ) (_ : PUnit.{1}) (σ : St F) : Prop :=
  ∃ X Y, σ = {σ₀ with eu := X, ev := Y} ∧ ∀ y : S4x768x128.Idx, (y 0).val < c → X y = EU q.2 σ₀.u0 y ∧ Y y = EV q.1 σ₀.z y

theorem copies_ends (σ : St F) (h : AllCopied q σ₀ c.val ⟨⟩ σ) : Act.Ends (copies A q c) σ (AllCopied q σ₀ (c.val + 1)) := by
  obtain ⟨X, Y, rfl, h⟩ := h
  unfold copies around
  refine Act.ends_seq (Copied q σ₀ c.val 0) ?_ fun _ σ hσ => ?_
  · repeat first | refine ends_put1 ?_ | refine Act.ends_load ?_ | refine Act.ends_bind ?_
    simp only [get_eu, get_ev, set_eu, set_ev]
    refine ⟨_, _, rfl, fun y hy => ?_, fun y hy => ?_⟩
    · refine put_agree _ _ _ _ (eu_before q.2 σ₀.u0) y fun n1 => (h y ?_).1
      have n1 := comb32_out n1
      unfold doneU at hy; omega
    · refine put_agree _ _ _ _ (ev_before q.1 σ₀.z) y fun n1 => (h y ?_).2
      have n1 := comb32_out n1
      unfold doneU at hy; omega
  · refine Act.ends_each (fun j => Copied q σ₀ c.val j) hσ (fun j _ σ hσ => copy_ends q σ₀ c j σ hσ) fun _ σ hσ => ?_
    obtain ⟨X, Y, rfl, hX, hY⟩ := hσ
    refine ⟨X, Y, rfl, fun y hy => ⟨hX y ?_, hY y ?_⟩⟩ <;> (unfold doneU; omega)

/-! ## The sums -/

theorem stretch_congr {X Y : Vec F S4x768x128 .f32} (h : ∀ y : S4x768x128.Idx, (y 0).val = c.val → X y = Y y) (g : ℕ) (hg : g ≤ 80) :
    stretch X c g hg = stretch Y c g hg := by
  unfold stretch
  refine congrArg (fun e : Vec F S1x128x128 .f32 => shapeCast S128x128 e shapeCasts_S1x128x128_S128x128) (funext fun x => h _ ?_)
  have : (x 0).val < 1 := (x 0).isLt
  show c.val + 1 * (x 0).val = c.val; omega

theorem convVal_congr {X Y : Vec F S4x768x128 .f32} (h : ∀ y : S4x768x128.Idx, (y 0).val = c.val → X y = Y y) (cw : Vec F S32x512 .f32) (cb : Vec F S1x512 .f32)
    (n : ℕ) : convVal cw cb X c v n = convVal cw cb Y c v n := by
  induction n with
  | zero => rfl
  | succ k ih => unfold convVal; rw [ih]; simp only [stretch_congr c h]

theorem poolVal_congr {X Y : Vec F S4x768x128 .f32} (h : ∀ y : S4x768x128.Idx, (y 0).val = c.val → X y = Y y)
    (n : ℕ) : poolVal X c v n = poolVal Y c v n := by
  induction n with
  | zero => unfold poolVal; exact stretch_congr c h _ _
  | succ k ih => unfold poolVal; rw [ih]; simp only [stretch_congr c h]

theorem SS_congr {X Y X' Y' : Vec F S4x768x128 .f32} (h : ∀ y : S4x768x128.Idx, (y 0).val = c.val → X y = Y y)
    (h' : ∀ y : S4x768x128.Idx, (y 0).val = c.val → X' y = Y' y) (cw : Vec F S32x512 .f32) (cb : Vec F S1x512 .f32) :
    SS cw cb X X' c = SS cw cb Y Y' c := by
  funext y
  unfold SS
  rw [convVal_congr c _ h, poolVal_congr c _ h']

theorem convs_ends : Act.Ends (convs A c v 31 0 (by omega) (bias (got (lanes1 (128 * c) (by omega)).toLoadRect σ₀.cb))) σ₀
    fun x σ => x = convVal σ₀.cw σ₀.cb σ₀.eu c v 31 ∧ σ = σ₀ := by
  refine Act.ends_span (fun k x σ => x = convVal σ₀.cw σ₀.cb σ₀.eu c v k ∧ σ = σ₀) (fun k x σ h => ?_) 31 0 31 _ rfl _ _ ⟨rfl, rfl⟩
  obtain ⟨rfl, rfl⟩ := h
  unfold convStep convRow convTap
  repeat first | refine Act.ends_load ?_ | refine Act.ends_pure ?_ | refine Act.ends_bind ?_
  refine ⟨?_, rfl⟩
  rw [convVal, dif_pos k.isLt]; rfl

theorem pool_ends : Act.Ends (pool A c v) σ₀ fun x σ => x = poolVal σ₀.ev c v (more c) ∧ σ = σ₀ := by
  unfold pool poolLoad
  repeat first | refine Act.ends_load ?_ | refine Act.ends_pure ?_ | refine Act.ends_bind ?_
  refine Act.ends_each (fun k x σ => x = poolVal σ₀.ev c v k ∧ σ = σ₀) ⟨rfl, rfl⟩ (fun k x σ h => ?_) fun _ _ h => h
  obtain ⟨rfl, rfl⟩ := h
  repeat first | refine Act.ends_load ?_ | refine Act.ends_pure ?_ | refine Act.ends_bind ?_
  refine ⟨?_, rfl⟩
  have := more_le c; have := k.isLt
  rw [poolVal, dif_pos (by omega)]; rfl

theorem ss_conv (cw : Vec F S32x512 .f32) (cb : Vec F S1x512 .f32) (eu ev : Vec F S4x768x128 .f32) {hp hr} (x : S1x128x128.Idx) :
    shapeCast S1x128x128 (convVal cw cb eu c v 31) shapeCasts_S128x128_S1x128x128 x = SS cw cb eu ev c ((runS 0 (128 * v.val) hp hr).emb x) := by
  have h0 : (x 0).val = 0 := by have : (x 0).val < 1 := (x 0).isLt; omega
  have h1 : (x 1).val < 128 := (x 1).isLt
  have e0 : ((runS 0 (128 * v.val) hp hr).emb x 0).val = 0 + 1 * (x 0).val := rfl
  have e1 : ((runS 0 (128 * v.val) hp hr).emb x 1).val = 128 * v.val + 1 * (x 1).val := rfl
  have e2 : ((runS 0 (128 * v.val) hp hr).emb x 2).val = 0 + 1 * (x 2).val := rfl
  rw [up128, SS, if_pos (by omega)]
  refine congr (congrArg (fun v => convVal cw cb eu c v 31) (Fin.ext ?_)) (ext2 ?_ ?_)
  · show v.val = _ / 128; omega
  · show (x 1).val = _ % 128; omega
  · show (x 2).val = ((runS _ (128 * v.val) hp hr).emb x 2).val; omega

theorem ss_pool (cw : Vec F S32x512 .f32) (cb : Vec F S1x512 .f32) (eu ev : Vec F S4x768x128 .f32) {hp hr} (x : S1x128x128.Idx) :
    shapeCast S1x128x128 (poolVal ev c v (more c)) shapeCasts_S128x128_S1x128x128 x = SS cw cb eu ev c ((runS 1 (128 * v.val) hp hr).emb x) := by
  have h0 : (x 0).val = 0 := by have : (x 0).val < 1 := (x 0).isLt; omega
  have h1 : (x 1).val < 128 := (x 1).isLt
  have e0 : ((runS 1 (128 * v.val) hp hr).emb x 0).val = 1 + 1 * (x 0).val := rfl
  have e1 : ((runS 1 (128 * v.val) hp hr).emb x 1).val = 128 * v.val + 1 * (x 1).val := rfl
  have e2 : ((runS 1 (128 * v.val) hp hr).emb x 2).val = 0 + 1 * (x 2).val := rfl
  rw [up128, SS, if_neg (by omega)]
  refine congr (congrArg (fun v => poolVal ev c v (more c)) (Fin.ext ?_)) (ext2 ?_ ?_)
  · show v.val = _ / 128; omega
  · show (x 1).val = _ % 128; omega
  · show (x 2).val = ((runS _ (128 * v.val) hp hr).emb x 2).val; omega

/-- What is known after the first stretches of a group. -/
def Summed (v : ℕ) (_ : PUnit.{1}) (σ : St F) : Prop :=
  ∃ S, σ = {σ₀ with ss := S} ∧ ∀ y : S2x512x128.Idx, (y 1).val < 128 * v → S y = SS σ₀.cw σ₀.cb σ₀.eu σ₀.ev c y

theorem unit_ends (σ : St F) (h : Summed σ₀ c v.val ⟨⟩ σ) : Act.Ends (unit A c v) σ (Summed σ₀ c (v.val + 1)) := by
  obtain ⟨S, rfl, hS⟩ := h
  unfold unit unitStart
  refine Act.ends_bind (Act.ends_bind (Act.ends_load (Act.ends_pure ?_)))
  refine Act.ends_seq _ (convs_ends (A := A) {σ₀ with ss := S} c v) fun x σ h => ?_
  obtain ⟨rfl, rfl⟩ := h
  unfold unitEnd keepSum
  refine Act.ends_bind (ends_put1 ?_)
  refine Act.ends_seq _ (pool_ends (A := A) _ c v) fun x σ h => ?_
  obtain ⟨rfl, rfl⟩ := h
  refine ends_put1 ?_
  simp only [get_ss, set_ss]
  refine ⟨_, rfl, fun y hy => ?_⟩
  refine put_agree _ _ _ _ (ss_pool c v σ₀.cw σ₀.cb σ₀.eu σ₀.ev) y fun n1 => put_agree _ _ _ _ (ss_conv c v σ₀.cw σ₀.cb σ₀.eu σ₀.ev) y fun n2 => hS y ?_
  have n1 := runS_out n1; have n2 := runS_out n2
  have : (y 0).val < 2 := (y 0).isLt
  omega

/-- What is known after the first blocks of rows of a group. -/
def Written (S : Fin 4 → Vec F S2x512x128 .f32) (j : ℕ) (_ : PUnit.{1}) (σ : St F) : Prop :=
  ∃ U V, σ = {σ₀ with u1 := U, po := V} ∧ ∀ y : S512x512.Idx,
    (y 1).val < 128 * c ∨ (y 1).val < 128 * c + 128 ∧ (y 0).val < 64 * j → U y = U1 S y ∧ V y = PO i S σ₀.z y

theorem out_ends (S : Fin 4 → Vec F S2x512x128 .f32) (hS : σ₀.ss = S c) (j : Fin 8) (σ : St F) (h : Written i σ₀ c S j.val ⟨⟩ σ) :
    Act.Ends (convOut A c j >>= fun _ => poolOut A i c j) σ (Written i σ₀ c S (j.val + 1)) := by
  obtain ⟨U, V, rfl, h⟩ := h
  unfold convOut poolOut
  repeat first | refine ends_put1 ?_ | refine Act.ends_load ?_ | refine Act.ends_pure ?_ | refine Act.ends_bind ?_
  simp only [get_ss, get_z, get_u1, get_po, set_u1, set_po]
  refine ⟨_, _, rfl, fun y hy => ?_⟩
  simp only [hS]
  refine ⟨?_, ?_⟩
  · refine put_agree _ _ _ _ (fun x => U1_at x S) y fun n => (h y ?_).1
    have n := rows64_out n; omega
  · refine put_agree _ _ _ _ (fun x => PO_at x i S σ₀.z) y fun n => (h y ?_).2
    have n := rows64_out n; omega

/-! ## The groups -/

abbrev sumsOf (q : FVec F S32x1536 .f32 × FVec F S32x512 .f32) (σ : St F) : Fin 4 → Vec F S2x512x128 .f32 :=
  SS σ.cw σ.cb (EU q.2 σ.u0) (EV q.1 σ.z)

/-- What is known after the first groups. -/
def Grouped (c : ℕ) (_ : PUnit.{1}) (σ : St F) : Prop :=
  ∃ X Y R U V, σ = {σ₀ with eu := X, ev := Y, ss := R, u1 := U, po := V}
    ∧ (∀ y : S4x768x128.Idx, (y 0).val < c → X y = EU q.2 σ₀.u0 y ∧ Y y = EV q.1 σ₀.z y)
    ∧ ∀ y : S512x512.Idx, (y 1).val < 128 * c → U y = U1 (sumsOf q σ₀) y ∧ V y = PO i (sumsOf q σ₀) σ₀.z y

theorem group_ends (σ : St F) (h : Grouped i q σ₀ c.val ⟨⟩ σ) : Act.Ends (group A i q c) σ (Grouped i q σ₀ (c.val + 1)) := by
  obtain ⟨X, Y, R, U, V, rfl, hE, hU⟩ := h
  unfold group sums outs
  refine Act.ends_seq _ (copies_ends (A := A) q {σ₀ with eu := X, ev := Y, ss := R, u1 := U, po := V} c _ ⟨X, Y, rfl, hE⟩) fun _ σ h => ?_
  obtain ⟨X', Y', rfl, hE'⟩ := h
  refine Act.ends_seq _ (Act.ends_each (Summed {σ₀ with eu := X', ev := Y', ss := R, u1 := U, po := V} c) ⟨R, rfl, fun y hy => absurd hy (by omega)⟩
    (fun v _ σ h => unit_ends _ c v σ h) fun _ _ h => h) fun _ σ h => ?_
  obtain ⟨R', rfl, hR⟩ := h
  have eR : R' = sumsOf q σ₀ c := by
    refine (funext fun y => hR y (by have : (y 1).val < 512 := (y 1).isLt; omega)).trans ?_
    exact SS_congr c (fun y hy => (hE' y (by omega)).1) (fun y hy => (hE' y (by omega)).2) _ _
  refine Act.ends_each (Written i {σ₀ with eu := X', ev := Y', ss := R', u1 := U, po := V} c (sumsOf q σ₀)) ⟨U, V, rfl, fun y hy => hU y (by omega)⟩
    (fun j _ σ h => out_ends i _ c (sumsOf q σ₀) eR j σ h) fun _ σ h => ?_
  obtain ⟨U', V', rfl, hU'⟩ := h
  exact ⟨_, _, _, _, _, rfl, hE', fun y hy => hU' y (by have : (y 0).val < 512 := (y 0).isLt; omega)⟩

theorem groups_all (σ : St F) :
    Act.Ends (Act.each 4 (fun c _ => group A i q c) ⟨⟩) σ fun _ σ' => ∃ R,
      σ' = {σ with eu := EU q.2 σ.u0, ev := EV q.1 σ.z, ss := R, u1 := U1 (sumsOf q σ), po := PO i (sumsOf q σ) σ.z} := by
  refine Act.ends_each (Grouped i q σ) ⟨σ.eu, σ.ev, σ.ss, σ.u1, σ.po, rfl, fun y hy => absurd hy (by omega), fun y hy => absurd hy (by omega)⟩
    (fun c _ σ' h => group_ends i q σ c σ' h) fun _ σ' h => ?_
  obtain ⟨X, Y, R, U, V, rfl, hE, hU⟩ := h
  rw [show X = EU q.2 σ.u0 from funext fun y => (hE y (y 0).isLt).1, show Y = EV q.1 σ.z from funext fun y => (hE y (y 0).isLt).2,
    show U = U1 (sumsOf q σ) from funext fun y => (hU y (by have : (y 1).val < 512 := (y 1).isLt; omega)).1,
    show V = PO i (sumsOf q σ) σ.z from funext fun y => (hU y (by have : (y 1).val < 512 := (y 1).isLt; omega)).2]
  exact ⟨R, rfl⟩

/-! ## The norm, the heads and the residual -/

/-- The mixers' lanes. -/
def MIX (u : Vec F S512x512 .f32) (p : Vec F S512x512 .bf16) (g b : Vec F S1x512 .f32) (w : Vec F S4x128x128 .f32) (s : Vec F S1x512 .f32) : Vec F S512x1024 .bf16 := fun y =>
  if h : (y 1).val < 512 then silu u g b (ix2 (y 0) (⟨(y 1).val, h⟩ : Fin 512))
  else
    let c : Fin 4 := ⟨((y 1).val - 512) / 128, by have : (y 1).val < 1024 := (y 1).isLt; omega⟩
    headVal (got (lanes512 (128 * c) (by omega)).toLoadRect p) (got (heads c (by omega)).toLoadRect w) (got (lanes1 (128 * c) (by omega)).toLoadRect s)
      (ix2 (y 0) (⟨(y 1).val % 128, by omega⟩ : Fin 128))

theorem mixFirst_out {y : S512x1024.Idx} (h : ∀ x, mixFirst.emb x ≠ y) : ¬(y 1).val < 512 :=
  fun h0 => h (ix2 (y 0) (⟨(y 1).val, h0⟩ : Fin 512)) (ext2 (show 0 + 1 * (y 0).val = _ by omega) (show 0 + 1 * (y 1).val = _ by omega))

theorem mixLanes_out {l : ℕ} {hl : l + 128 ≤ 1024} {y : S512x1024.Idx} (h : ∀ x, (mixLanes l hl).emb x ≠ y) : ¬(l ≤ (y 1).val ∧ (y 1).val < l + 128) :=
  fun ⟨h0, h1⟩ => h (ix2 (y 0) (⟨(y 1).val - l, by omega⟩ : Fin 128)) (ext2 (show 0 + 1 * (y 0).val = _ by omega) (show l + 1 * ((y 1).val - l) = _ by omega))

theorem MIX_first (u : Vec F S512x512 .f32) (p : Vec F S512x512 .bf16) (g b : Vec F S1x512 .f32) (w : Vec F S4x128x128 .f32) (s : Vec F S1x512 .f32) (x : S512x512.Idx) :
    silu u g b x = MIX u p g b w s (mixFirst.emb x) := by
  have e0 : (mixFirst.emb x 0).val = 0 + 1 * (x 0).val := rfl
  have e1 : (mixFirst.emb x 1).val = 0 + 1 * (x 1).val := rfl
  have : (x 1).val < 512 := (x 1).isLt
  rw [MIX, dif_pos (by omega)]
  exact congrArg (silu u g b) (ext2 (show (x 0).val = (mixFirst.emb x 0).val by omega) (show (x 1).val = (mixFirst.emb x 1).val by omega))

theorem MIX_head (u : Vec F S512x512 .f32) (p : Vec F S512x512 .bf16) (g b : Vec F S1x512 .f32) (w : Vec F S4x128x128 .f32) (s : Vec F S1x512 .f32) {hl hp hw hs} (x : S512x128.Idx) :
    headVal (got (lanes512 (128 * c.val) hp).toLoadRect p) (got (heads c.val hw).toLoadRect w) (got (lanes1 (128 * c.val) hs).toLoadRect s) x
      = MIX u p g b w s ((mixLanes (512 + 128 * c.val) hl).emb x) := by
  have e0 : ((mixLanes (512 + 128 * c.val) hl).emb x 0).val = 0 + 1 * (x 0).val := rfl
  have e1 : ((mixLanes (512 + 128 * c.val) hl).emb x 1).val = 512 + 128 * c.val + 1 * (x 1).val := rfl
  have : (x 1).val < 128 := (x 1).isLt
  generalize (mixLanes (512 + 128 * c.val) hl).emb x = y at e0 e1
  rw [MIX, dif_neg (by omega)]
  have key : ∀ (k : ℕ) (hk : k = c.val) h1 h2 h3 h4,
      headVal (got (lanes512 (128 * c.val) hp).toLoadRect p) (got (heads c.val hw).toLoadRect w) (got (lanes1 (128 * c.val) hs).toLoadRect s) x
        = headVal (got (lanes512 (128 * k) h1).toLoadRect p) (got (heads k h2).toLoadRect w) (got (lanes1 (128 * k) h3).toLoadRect s)
          (ix2 (y 0) (⟨(y 1).val % 128, h4⟩ : Fin 128)) := by
    rintro _ rfl h1 h2 h3 h4
    refine congrArg _ (ext2 (m := 512) (n := 128) ?_ ?_)
    · show (x 0).val = (y 0).val; omega
    · show (x 1).val = (y 1).val % 128; omega
  exact key _ (show ((y 1).val - 512) / 128 = c.val by omega) _ _ _ _

/-- What is known after the first heads. -/
def Headed (c : ℕ) (_ : PUnit.{1}) (σ : St F) : Prop :=
  ∃ M, σ = {σ₀ with mix := M} ∧ ∀ y : S512x1024.Idx, (y 1).val < 512 + 128 * c → M y = MIX σ₀.u1 σ₀.po σ₀.lg σ₀.lb σ₀.pw σ₀.ps y

theorem head_ends (σ : St F) (h : Headed σ₀ c.val ⟨⟩ σ) : Act.Ends (head A c) σ (Headed σ₀ (c.val + 1)) := by
  obtain ⟨M, rfl, h⟩ := h
  unfold head
  repeat first | refine ends_put1 ?_ | refine Act.ends_load ?_ | refine Act.ends_bind ?_
  simp only [get_po, get_pw, get_ps, get_mix, set_mix]
  refine ⟨_, rfl, fun y hy => put_agree _ _ _ _ (fun x => MIX_head c σ₀.u1 σ₀.po σ₀.lg σ₀.lb σ₀.pw σ₀.ps x) y fun n => h y ?_⟩
  have n := mixLanes_out n; omega

theorem ends_load_full {s : Shape} {e : EltTy} {S : Buf1 (F := F) A s e} {off : Fin s.rank → ℕ} {inb : ∀ a, off a + s.size a ≤ s.size a}
    {h : 0 < (Rect.unit (s := s) off s.size inb).toLoadRect.shape.numel} {σ : St F} {Q : (s.Idx → Elt F e) → St F → Prop} (h0 : ∀ a, off a = 0)
    (hQ : Q (S.get σ) σ) : Act.Ends (Act.load S (Rect.unit (s := s) off s.size inb).toLoadRect h : P F A _) σ Q :=
  Act.ends_load (by rw [got_full h0]; exact hQ)

theorem ends_put_full {s : Shape} {e : EltTy} {S : Buf1 (F := F) A s e} {off : Fin s.rank → ℕ} {inb : ∀ a, off a + s.size a ≤ s.size a}
    {h : 0 < (Rect.unit (s := s) off s.size inb).shape.numel} {w : (Rect.unit (s := s) off s.size inb).shape.Idx → Elt F e}
    {hx : (S.mem.access (Rect.unit (s := s) off s.size inb)).Stores Finset.univ} {σ : St F} {Q : PUnit → St F → Prop} (h0 : ∀ a, off a = 0)
    (hQ : Q ⟨⟩ (S.set σ w)) : Act.Ends (put1 S (Rect.unit (s := s) off s.size inb) h w hx) σ Q :=
  ends_put1 (by rw [put_full h0]; exact hQ)

theorem ends_store_full {s : Shape} {e : EltTy} {S : Buf1 (F := F) A s e} {off : Fin s.rank → ℕ} {inb : ∀ a, off a + s.size a ≤ s.size a}
    {w : (Rect.unit (s := s) off s.size inb).shape.Idx → Elt F e}
    {hx : (S.mem.access (Rect.unit (s := s) off s.size inb)).Stores Finset.univ} {σ : St F} {Q : PUnit → St F → Prop} (h0 : ∀ a, off a = 0)
    (hQ : Q ⟨⟩ (S.set σ w)) : Act.Ends (Act.store S (Rect.unit (s := s) off s.size inb) w hx : P F A PUnit) σ Q :=
  Act.ends_store (by rw [put_full h0]; exact hQ)

/-- The gated rows. -/
def U0 (z : Vec F S512x1536 .f32) : Vec F S512x512 .f32 :=
  mulf (got (half 0 (by omega)).toLoadRect z : Vec F S512x512 .f32) (logistic (got (half 512 (by omega)).toLoadRect z : Vec F S512x512 .f32))

theorem gates_ends (σ : St F) : Act.Ends (gates A i) σ fun q σ' => q = (before i σ.zp, gateBefore (before i σ.zp)) ∧ σ' = {σ with u0 := U0 σ.z} := by
  unfold gates
  repeat first | (refine ends_put_full ?_ ?_; exact zero2) | (refine ends_load_full ?_ ?_; exact zero2) | refine ends_put1 ?_ | refine Act.ends_load ?_ | refine Act.ends_pure ?_ | refine Act.ends_bind ?_
  simp only [get_zp, get_z, set_u0, gated, shapeCast_id]
  exact ⟨trivial, rfl⟩

theorem mixed_ends (σ : St F) : Act.Ends (mixed A) σ fun x σ' =>
    x = resid σ.x (MIX σ.u1 σ.po σ.lg σ.lb σ.pw σ.ps) σ.wo ∧ σ' = {σ with mix := MIX σ.u1 σ.po σ.lg σ.lb σ.pw σ.ps} := by
  unfold mixed first
  refine Act.ends_seq (Headed σ 0) ?_ fun _ σ' h => ?_
  · repeat first | (refine ends_load_full ?_ ?_; exact zero2) | refine ends_put1 ?_ | refine Act.ends_bind ?_
    simp only [get_u1, get_lg, get_lb, get_mix, set_mix, shapeCast_id]
    refine ⟨_, rfl, fun y hy => put_agree _ _ _ _ (fun x => MIX_first σ.u1 σ.po σ.lg σ.lb σ.pw σ.ps x) y fun n => absurd hy ?_⟩
    have n := mixFirst_out n; omega
  refine Act.ends_seq _ (Act.ends_each (Headed σ) h (fun c _ σ' h => head_ends σ c σ' h) fun _ _ h => h) fun _ σ' h => ?_
  obtain ⟨M, rfl, h⟩ := h
  obtain rfl : M = MIX σ.u1 σ.po σ.lg σ.lb σ.pw σ.ps := funext fun y => h y (by have : (y 1).val < 1024 := (y 1).isLt; omega)
  unfold second
  repeat first | (refine ends_load_full ?_ ?_; exact zero2) | refine Act.ends_pure ?_ | refine Act.ends_bind ?_
  exact ⟨rfl, rfl⟩

theorem third_ends (x : FVec F S512x1024 .f32) (σ : St F) : Act.Ends (third A x) σ fun _ σ' => σ' = {σ with x1 := x, h2 := scaled x σ.gf} := by
  unfold third
  repeat first | (refine ends_put_full ?_ ?_; exact zero2) | (refine ends_load_full ?_ ?_; exact zero2) | (refine ends_store_full ?_ ?_; exact zero2) | refine Act.ends_bind ?_
  rfl

/-! ## The point -/

section Point

variable (σ : St F)

def eu0 : Vec F S4x768x128 .f32 := EU (gateBefore (before i σ.zp)) (U0 σ.z)
def ev0 : Vec F S4x768x128 .f32 := EV (before i σ.zp) σ.z
def ss0 : Fin 4 → Vec F S2x512x128 .f32 := SS σ.cw σ.cb (eu0 i σ) (ev0 i σ)
def mix0 : Vec F S512x1024 .bf16 := MIX (U1 (ss0 i σ)) (PO i (ss0 i σ) σ.z) σ.lg σ.lb σ.pw σ.ps
def res0 : Vec F S512x1024 .f32 := resid σ.x (mix0 i σ) σ.wo

/-- What a point leaves, but for the planes of sums. -/
def closed : St F :=
  {σ with
    x1 := res0 i σ
    mix := mix0 i σ
    u1 := U1 (ss0 i σ)
    po := PO i (ss0 i σ) σ.z
    h2 := scaled (res0 i σ) σ.gf
    eu := eu0 i σ, ev := ev0 i σ, u0 := U0 σ.z}

theorem whole_ends : Act.Ends (whole A i) σ fun _ σ' => ∃ R, σ' = {closed i σ with ss := R} := by
  unfold whole
  refine Act.ends_seq _ (gates_ends i σ) fun q σ' h => ?_
  obtain ⟨rfl, rfl⟩ := h
  refine Act.ends_seq _ (groups_all i _ _) fun _ σ' h => ?_
  obtain ⟨R, rfl⟩ := h
  refine Act.ends_seq _ (mixed_ends _) fun x σ' h => ?_
  obtain ⟨rfl, rfl⟩ := h
  refine (third_ends _ _).mono fun _ σ' h => ?_
  subst h
  exact ⟨R, rfl⟩

end Point

end Cert.CpIdeal.Body

end
-- ==== Proof.Cp.Cut.lean ====
/- The printed body of the mixers' forward call is the body written with loops: three stretches, each ending where a part of the print ends, and the rest. -/
module

public import proofs.«01_k».proof.Proof.Cp.Body
public import proofs.«01_k».proof.Proof.InBwd.Cut

@[expose] public section

set_option maxRecDepth 16384

noncomputable section

namespace Cert.CpIdeal.Body

open Cert.CpIdeal Cert.CpIdeal.Gen Cert.Straight
open Cert.InBwdIdeal.Body (rows64 rows32 tap block half comb64 comb32 combS run runS win more more_le count64 slice_lanes convAdd zero128)
open Idealize.ShloMosaic Idealize.ShloMosaic.TcCoe Idealize.ShloMosaic.Tactic
open Idealize.SL Idealize.SL.RA Idealize.SL.BI Idealize.SL.Sem

variable {F : FTy → Type} [FloatOps F] (A : Bufs)

/-! ## A stretch cut in two -/

/-- Up to the row of one tap. -/
def toRow (c v : Fin 4) (k : ℕ) (h : k < 31) : P F A (FVec F S128x128 .f32 × FVec F S1x128 .f32) := do
  let b ← unitStart A c
  let acc ← convs A c v k 0 (by omega) b
  let r ← convRow A c ⟨k, h⟩
  pure (acc, r)

def fromRow (c v : Fin 4) (k : ℕ) (h : k < 31) (q : FVec F S128x128 .f32 × FVec F S1x128 .f32) : P F A PUnit := do
  let acc ← convTap A c v ⟨k, h⟩ q.1 q.2
  let acc ← convs A c v (30 - k) (k + 1) (by omega) acc
  unitEnd A c v acc

/-- The copies up to the middle of one block. -/
def toCopy (q : FVec F S32x1536 .f32 × FVec F S32x512 .f32) (c : Fin 4) (j : ℕ) (h : j < 8) : P F A PUnit := do
  around A q c
  Act.span 8 (fun j _ => copy A c j) j 0 (by omega) ⟨⟩
  copyU A c ⟨j, h⟩

def fromCopy (c : Fin 4) (j : ℕ) (h : j < 8) : P F A PUnit := do
  copyV A c ⟨j, h⟩
  Act.span 8 (fun j _ => copy A c j) (7 - j) (j + 1) (by omega) ⟨⟩

variable (i : grid0.Coords)

/-! ## The stretches -/

def stretch0 : P F A ((FVec F S32x1536 .f32 × FVec F S32x512 .f32) × FVec F S128x128 .f32 × FVec F S1x128 .f32) := do
  let q ← gates A i
  group A i q 0
  copies A q 1
  unit A 1 0
  unit A 1 1
  let r ← toRow A 1 2 14 (by omega)
  pure (q, r)

def stretch1 (q : FVec F S32x1536 .f32 × FVec F S32x512 .f32) (r : FVec F S128x128 .f32 × FVec F S1x128 .f32) : P F A PUnit := do
  fromRow A 1 2 14 (by omega) r
  unit A 1 3
  outs A i 1
  group A i q 2
  toCopy A q 3 6 (by omega)

def stretch2 : P F A (FVec F S512x1024 .f32) := do
  fromCopy A 3 6 (by omega)
  sums A i 3
  mixed A

theorem part0 : k0_part162 (F := F) i
    A.z A.z_whole A.zp A.zp_whole A.x A.x_whole A.cw A.cw_whole A.cb A.cb_whole A.lg A.lg_whole A.lb A.lb_whole A.pw A.pw_whole A.ps A.ps_whole
    A.wo A.wo_whole A.gf A.gf_whole A.x1 A.x1_whole A.mix A.mix_whole A.u1 A.u1_whole A.po A.po_whole A.h2 A.h2_whole
    A.eu A.eu_whole A.ev A.ev_whole A.ss A.ss_whole A.u0 A.u0_whole
    = (stretch0 A i : P F A _).prog >>= fun q => pure ⟨pt i, q.1.1, q.1.2, q.2.1, q.2.2⟩ := by
  sl_kernel_rfl

theorem part1 (q : FVec F S32x1536 .f32 × FVec F S32x512 .f32) (r : FVec F S128x128 .f32 × FVec F S1x128 .f32) : k0_part163 (F := F) i
    A.z A.z_whole A.zp A.zp_whole A.x A.x_whole A.cw A.cw_whole A.cb A.cb_whole A.lg A.lg_whole A.lb A.lb_whole A.pw A.pw_whole A.ps A.ps_whole
    A.wo A.wo_whole A.gf A.gf_whole A.x1 A.x1_whole A.mix A.mix_whole A.u1 A.u1_whole A.po A.po_whole A.h2 A.h2_whole
    A.eu A.eu_whole A.ev A.ev_whole A.ss A.ss_whole A.u0 A.u0_whole (pt i) q.1 q.2 r.1 r.2
    = (stretch1 A i q r : P F A _).prog >>= fun _ => pure ⟨⟩ := by
  sl_kernel_rfl

theorem part2 : k0_part164 (F := F) i
    A.z A.z_whole A.zp A.zp_whole A.x A.x_whole A.cw A.cw_whole A.cb A.cb_whole A.lg A.lg_whole A.lb A.lb_whole A.pw A.pw_whole A.ps A.ps_whole
    A.wo A.wo_whole A.gf A.gf_whole A.x1 A.x1_whole A.mix A.mix_whole A.u1 A.u1_whole A.po A.po_whole A.h2 A.h2_whole
    A.eu A.eu_whole A.ev A.ev_whole A.ss A.ss_whole A.u0 A.u0_whole (pt i)
    = (stretch2 A i : P F A _).prog >>= fun x => pure x := by
  sl_kernel_rfl

/-- The body cut where the print is cut. -/
theorem cut : cc0_conv_pool_out (F := F) i
    A.z A.z_whole A.zp A.zp_whole A.x A.x_whole A.cw A.cw_whole A.cb A.cb_whole A.lg A.lg_whole A.lb A.lb_whole A.pw A.pw_whole A.ps A.ps_whole
    A.wo A.wo_whole A.gf A.gf_whole A.x1 A.x1_whole A.mix A.mix_whole A.u1 A.u1_whole A.po A.po_whole A.h2 A.h2_whole
    A.eu A.eu_whole A.ev A.ev_whole A.ss A.ss_whole A.u0 A.u0_whole
    = (stretch0 A i : P F A _).prog >>= fun q => (stretch1 A i q.1 q.2 : P F A _).prog >>= fun _ => (stretch2 A i : P F A _).prog >>= fun x => (third A x : P F A _).prog := by
  unfold cc0_conv_pool_out
  rw [part0]
  simp only [bind_assoc, pure_bind]
  refine bind_congr fun q => ?_
  simp only [part1, bind_assoc, pure_bind]
  refine bind_congr fun _ => ?_
  simp only [part2, bind_assoc, pure_bind]
  refine bind_congr fun x => ?_
  sl_kernel_rfl

/-! ## The cuts closed -/

variable {A i}

theorem unit_row (c v : Fin 4) (k : ℕ) (h : k < 31) {β : Type} (f : P F A β) :
    (toRow A c v k h >>= fun q => fromRow A c v k h q >>= fun _ => f) = unit A c v >>= fun _ => f := by
  unfold toRow fromRow unit
  simp only [Act.assoc, Act.ret_bind]
  congr 1; funext b
  rw [show (convs A c v 31 0 (by omega) b : P F A _) = convs A c v k 0 (by omega) b >>= fun y => convStep A c v ⟨k, h⟩ y >>= fun z =>
      convs A c v (30 - k) (k + 1) (by omega) z from
    Act.span_at 31 (convStep A c v) 31 0 (by omega) ⟨k, h⟩ k (30 - k) (k + 1) (by omega) (by simp) rfl (by omega) (by omega) b]
  unfold convStep
  simp only [Act.assoc]

theorem copies_mid (q : FVec F S32x1536 .f32 × FVec F S32x512 .f32) (c : Fin 4) (j : ℕ) (h : j < 8) {β : Type} (f : P F A β) :
    (toCopy A q c j h >>= fun _ => fromCopy A c j h >>= fun _ => f) = copies A q c >>= fun _ => f := by
  unfold toCopy fromCopy copies
  rw [show (Act.each 8 (fun j _ => copy A c j) ⟨⟩ : P F A PUnit) = Act.span 8 (fun j _ => copy A c j) j 0 (by omega) ⟨⟩ >>= fun _ => copy A c ⟨j, h⟩ >>= fun _ =>
      Act.span 8 (fun j _ => copy A c j) (7 - j) (j + 1) (by omega) ⟨⟩ from
    Act.span_at 8 (fun j _ => copy A c j) 8 0 (by omega) ⟨j, h⟩ j (7 - j) (j + 1) (by omega) (by simp) rfl (by omega) (by omega) ⟨⟩]
  unfold copy
  simp only [Act.assoc]

theorem four {f : Fin 4 → PUnit → P F A PUnit} {β : Type} (g : P F A β) :
    (Act.each 4 f ⟨⟩ >>= fun _ => g) = f 0 ⟨⟩ >>= fun _ => f 1 ⟨⟩ >>= fun _ => f 2 ⟨⟩ >>= fun _ => f 3 ⟨⟩ >>= fun _ => g := by
  refine Act.ext ?_ rfl
  show (_ >>= fun _ => (_ >>= fun _ => (_ >>= fun _ => _ >>= fun _ => pure _))) >>= _ = _
  simp only [bind_assoc, pure_bind, Act.prog_bind]
  rfl

theorem whole_eq : (whole A i : P F A PUnit) = gates A i >>= fun q => group A i q 0 >>= fun _ =>
    copies A q 1 >>= fun _ => unit A 1 0 >>= fun _ => unit A 1 1 >>= fun _ => unit A 1 2 >>= fun _ => unit A 1 3 >>= fun _ => outs A i 1 >>= fun _ =>
    group A i q 2 >>= fun _ => copies A q 3 >>= fun _ => sums A i 3 >>= fun _ => mixed A >>= fun x => third A x := by
  have e (q) (f : P F A PUnit) : (group A i q 1 >>= fun _ => f) = copies A q 1 >>= fun _ => unit A 1 0 >>= fun _ => unit A 1 1 >>= fun _ => unit A 1 2 >>= fun _ =>
      unit A 1 3 >>= fun _ => outs A i 1 >>= fun _ => f := by
    unfold group sums
    simp only [Act.assoc, four]
  have e3 (q) (f : P F A PUnit) : (group A i q 3 >>= fun _ => f) = copies A q 3 >>= fun _ => sums A i 3 >>= fun _ => f := by
    unfold group
    simp only [Act.assoc]
  unfold whole
  simp only [four, e, e3]

variable (A i)

/-- The printed body is the body written with loops. -/
theorem body_eq : cc0_conv_pool_out (F := F) i
    A.z A.z_whole A.zp A.zp_whole A.x A.x_whole A.cw A.cw_whole A.cb A.cb_whole A.lg A.lg_whole A.lb A.lb_whole A.pw A.pw_whole A.ps A.ps_whole
    A.wo A.wo_whole A.gf A.gf_whole A.x1 A.x1_whole A.mix A.mix_whole A.u1 A.u1_whole A.po A.po_whole A.h2 A.h2_whole
    A.eu A.eu_whole A.ev A.ev_whole A.ss A.ss_whole A.u0 A.u0_whole = (whole A i).prog := by
  rw [cut, whole_eq]
  simp only [← copies_mid _ 3 6 (by omega), ← unit_row 1 2 14 (by omega)]
  unfold stretch0 stretch1 stretch2
  simp only [Act.prog_bind, Act.prog_pure, bind_assoc, pure_bind]

end Cert.CpIdeal.Body

end
-- ==== Proof.Cp.Frame.lean ====
/- The mixers' forward call: what every point leaves, the pipeline's proof data, the run of the program and its frame. -/
module

public import proofs.«01_k».proof.Proof.Cp.Sums
public import proofs.«01_k».proof.Proof.Cp.Cut
public import proofs.«01_k».proof.Proof.Gen.CpIdeal.Frame.Runs
public import Idealize.ShloMosaic.Lib.Claim

@[expose] public section

set_option maxRecDepth 16384

noncomputable section

namespace Cert.CpIdeal.Body

open Cert.CpIdeal Cert.CpIdeal.Gen Cert.Straight
open Cert.InBwdIdeal.Body (zeros)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers at point `t`. -/
def bufs (t : Fin cfg0.N) : Bufs where
  z := win0_0.stage (cfg0.slots t 0)
  zp := win0_1.stage (cfg0.slots t 1)
  x := win0_2.stage (cfg0.slots t 2)
  cw := win0_3.stage (cfg0.slots t 3)
  cb := win0_4.stage (cfg0.slots t 4)
  lg := win0_5.stage (cfg0.slots t 5)
  lb := win0_6.stage (cfg0.slots t 6)
  pw := win0_7.stage (cfg0.slots t 7)
  ps := win0_8.stage (cfg0.slots t 8)
  wo := win0_9.stage (cfg0.slots t 9)
  gf := win0_10.stage (cfg0.slots t 10)
  x1 := win0_11.stage (cfg0.slots t 11)
  mix := win0_12.stage (cfg0.slots t 12)
  u1 := win0_13.stage (cfg0.slots t 13)
  po := win0_14.stage (cfg0.slots t 14)
  h2 := win0_15.stage (cfg0.slots t 15)
  eu := scM0_0
  ev := scM0_1
  ss := scM0_2
  u0 := scM0_3
  z_whole := hstage0_0 ((cfg0.slots t 0).cast nbuf0_0)
  zp_whole := hstage0_1 ((cfg0.slots t 1).cast nbuf0_1)
  x_whole := hstage0_2 ((cfg0.slots t 2).cast nbuf0_2)
  cw_whole := hstage0_3 ((cfg0.slots t 3).cast nbuf0_3)
  cb_whole := hstage0_4 ((cfg0.slots t 4).cast nbuf0_4)
  lg_whole := hstage0_5 ((cfg0.slots t 5).cast nbuf0_5)
  lb_whole := hstage0_6 ((cfg0.slots t 6).cast nbuf0_6)
  pw_whole := hstage0_7 ((cfg0.slots t 7).cast nbuf0_7)
  ps_whole := hstage0_8 ((cfg0.slots t 8).cast nbuf0_8)
  wo_whole := hstage0_9 ((cfg0.slots t 9).cast nbuf0_9)
  gf_whole := hstage0_10 ((cfg0.slots t 10).cast nbuf0_10)
  x1_whole := hstage0_11 ((cfg0.slots t 11).cast nbuf0_11)
  mix_whole := hstage0_12 ((cfg0.slots t 12).cast nbuf0_12)
  u1_whole := hstage0_13 ((cfg0.slots t 13).cast nbuf0_13)
  po_whole := hstage0_14 ((cfg0.slots t 14).cast nbuf0_14)
  h2_whole := hstage0_15 ((cfg0.slots t 15).cast nbuf0_15)
  eu_whole := Memref.isWhole_whole _
  ev_whole := Memref.isWhole_whole _
  ss_whole := Memref.isWhole_whole _
  u0_whole := Memref.isWhole_whole _

/-! ## What the points leave -/

variable (m : (ℓ : Loc nD τ sig) → Buf (Elt F) ℓ) (ρ : Dev nD → PrngReg) (c : Dev nD)

/-- The inputs of point `t`, over blank buffers. -/
def ins (t : Fin cfg0.N) : St F where
  z := iblk m c 0 t
  zp := iblk m c 1 t
  x := iblk m c 2 t
  cw := iblk m c 3 t
  cb := iblk m c 4 t
  lg := iblk m c 5 t
  lb := iblk m c 6 t
  pw := iblk m c 7 t
  ps := iblk m c 8 t
  wo := iblk m c 9 t
  gf := iblk m c 10 t
  x1 := zeros _
  mix := truncf .bf16 (zeros _) bitsLt_bf16_f32
  u1 := zeros _
  po := truncf .bf16 (zeros _) bitsLt_bf16_f32
  h2 := truncf .bf16 (zeros _) bitsLt_bf16_f32
  eu := zeros _
  ev := zeros _
  ss := zeros _
  u0 := zeros _

/-- What point `t` leaves. -/
def left (t : Fin cfg0.N) : St F := closed (grid0.coords t) (ins m c t)

/-- Contents with the inputs of point `t`. -/
structure Fits (t : Fin cfg0.N) (σ : St F) : Prop where
  z : σ.z = iblk m c 0 t
  zp : σ.zp = iblk m c 1 t
  x : σ.x = iblk m c 2 t
  cw : σ.cw = iblk m c 3 t
  cb : σ.cb = iblk m c 4 t
  lg : σ.lg = iblk m c 5 t
  lb : σ.lb = iblk m c 6 t
  pw : σ.pw = iblk m c 7 t
  ps : σ.ps = iblk m c 8 t
  wo : σ.wo = iblk m c 9 t
  gf : σ.gf = iblk m c 10 t

/-- And with its outputs too. -/
structure Leaves (t : Fin cfg0.N) (σ : St F) : Prop extends Fits m c t σ where
  x1 : σ.x1 = (left m c t).x1
  mix : σ.mix = (left m c t).mix
  u1 : σ.u1 = (left m c t).u1
  po : σ.po = (left m c t).po
  h2 : σ.h2 = (left m c t).h2

theorem leaves_of (t : Fin cfg0.N) (σ : St F) (h : Fits m c t σ) (R : Vec F S2x512x128 .f32) :
    Leaves m c t {closed (grid0.coords t) σ with ss := R} := by
  obtain ⟨h0, h1, h2, h3, h4, h5, h6, h7, h8, h9, h10⟩ := h
  obtain ⟨z', zp', x', cw', cb', lg', lb', pw', ps', wo', gf', x1', mix', u1', po', h2', eu', ev', ss', u0'⟩ := σ
  dsimp only at *
  subst h0 h1 h2 h3 h4 h5 h6 h7 h8 h9 h10
  exact ⟨⟨rfl, rfl, rfl, rfl, rfl, rfl, rfl, rfl, rfl, rfl, rfl⟩, rfl, rfl, rfl, rfl, rfl⟩

/-! ## The proof data -/

/-- The pipeline's proof data: between the points the scratch buffers hold anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (left m c t).x1
    | ⟨12, _⟩ => (left m c t).mix
    | ⟨13, _⟩ => (left m c t).u1
    | ⟨14, _⟩ => (left m c t).po
    | ⟨15, _⟩ => (left m c t).h2
    | ⟨_ + 16, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

section

variable (t : Fin cfg0.N)

theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = iblk m c 6 t := by dsimp only [dats]
theorem after0_7 : (dats m 0 c).after 7 t = iblk m c 7 t := by dsimp only [dats]
theorem after0_8 : (dats m 0 c).after 8 t = iblk m c 8 t := by dsimp only [dats]
theorem after0_9 : (dats m 0 c).after 9 t = iblk m c 9 t := by dsimp only [dats]
theorem after0_10 : (dats m 0 c).after 10 t = iblk m c 10 t := by dsimp only [dats]
theorem after0_11 : (dats m 0 c).after 11 t = (left m c t).x1 := by dsimp only [dats]
theorem after0_12 : (dats m 0 c).after 12 t = (left m c t).mix := by dsimp only [dats]
theorem after0_13 : (dats m 0 c).after 13 t = (left m c t).u1 := by dsimp only [dats]
theorem after0_14 : (dats m 0 c).after 14 t = (left m c t).po := by dsimp only [dats]
theorem after0_15 : (dats m 0 c).after 15 t = (left m c t).h2 := by dsimp only [dats]

/-- A window that is live at the point is left at what `after` says. -/
theorem leaves_live (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- What the pipeline hands the body, and what the body hands back. -/
def pre : sProp 𝕄 :=
  iprop((dats m 0 c).Φ t.castSucc ∗ (dats m 0 c).owesAt () t.castSucc
    ∗ bigSep Finset.univ fun w : Fin 16 => iprop(∃ d, owns (c : Thread nD τ) ((cfg0.win w).stage (cfg0.slots t w)) fullShare ((dats m 0 c).before w t d)))

def post : sProp 𝕄 :=
  iprop((dats m 0 c).Φ t.succ ∗ (dats m 0 c).owesAt () t.succ
    ∗ bigSep Finset.univ fun w : Fin 16 => (dats m 0 c).leavesExact w t)

set_option maxHeartbeats 4000000 in
/-- The buffers at the point, together. -/
theorem pre_own : (pre m c t : sProp 𝕄) ⊢ iprop((dats m 0 c).owesAt () t.castSucc ∗ (∃ r, prngReg c r)
    ∗ ∃ σ, ⌜Fits m c t σ⌝ ∗ own c (parts (F := F) (bufs t)) σ) := by
  unfold pre
  rw [bigSep_W0, show (dats m 0 c).Φ t.castSucc = Pipeline.ΦA spec0 c from rfl, PhiA0_eq]
  unfold parts
  simp only [Straight.own]
  dsimp only [bufs]
  simp only [before0_0_of m (dats m 0 c) (A_eq m c 0) (after0_0 m c) t,
    before0_1_of m (dats m 0 c) (A_eq m c 1) (after0_1 m c) t,
    before0_2_of m (dats m 0 c) (A_eq m c 2) (after0_2 m c) t,
    before0_3_of m (dats m 0 c) (A_eq m c 3) (after0_3 m c) t,
    before0_4_of m (dats m 0 c) (A_eq m c 4) (after0_4 m c) t,
    before0_5_of m (dats m 0 c) (A_eq m c 5) (after0_5 m c) t,
    before0_6_of m (dats m 0 c) (A_eq m c 6) (after0_6 m c) t,
    before0_7_of m (dats m 0 c) (A_eq m c 7) (after0_7 m c) t,
    before0_8_of m (dats m 0 c) (A_eq m c 8) (after0_8 m c) t,
    before0_9_of m (dats m 0 c) (A_eq m c 9) (after0_9 m c) t,
    before0_10_of m (dats m 0 c) (A_eq m c 10) (after0_10 m c) t]
  iintro ⟨⟨⟨⟨%e0, S0⟩, ⟨%e1, S1⟩, ⟨%e2, S2⟩, ⟨%e3, S3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  isplitl [Ho]; · iexact Ho
  isplitl [Hg]; · iexact Hg
  iexists (⟨iblk m c 0 t, iblk m c 1 t, iblk m c 2 t, iblk m c 3 t, iblk m c 4 t, iblk m c 5 t, iblk m c 6 t, iblk m c 7 t, iblk m c 8 t, iblk m c 9 t, iblk m c 10 t, _, _, _, _, _, e0, e1, e2, e3⟩ : St F)
  isplitr
  swap
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [S0]; · iexact S0
    isplitl [S1]; · iexact S1
    isplitl [S2]; · iexact S2
    isplitl [S3]; · iexact S3
    iempintro
  ipureintro
  exact ⟨rfl, rfl, rfl, rfl, rfl, rfl, rfl, rfl, rfl, rfl, rfl⟩

set_option maxHeartbeats 4000000 in
/-- And back. -/
theorem own_post (σ : St F) (h : Leaves m c t σ) : iprop((dats m 0 c).owesAt () t.succ ∗ (∃ r, prngReg c r) ∗ own c (parts (F := F) (bufs t)) σ)
    ⊢ (post m c t : sProp 𝕄) := by
  unfold post
  rw [bigSep_W0, show (dats m 0 c).Φ t.succ = Pipeline.ΦA spec0 c from rfl, PhiA0_eq, leaves_live m c t 0 rfl, leaves_live m c t 1 rfl, leaves_live m c t 2 rfl, leaves_live m c t 3 rfl, leaves_live m c t 4 rfl, leaves_live m c t 5 rfl, leaves_live m c t 6 rfl, leaves_live m c t 7 rfl, leaves_live m c t 8 rfl, leaves_live m c t 9 rfl, leaves_live m c t 10 rfl, leaves_live m c t 11 rfl, leaves_live m c t 12 rfl, leaves_live m c t 13 rfl, leaves_live m c t 14 rfl, leaves_live m c t 15 rfl]
  simp only [after0_0, after0_1, after0_2, after0_3, after0_4, after0_5, after0_6, after0_7, after0_8, after0_9, after0_10, after0_11, after0_12, after0_13, after0_14, after0_15]
  rw [← h.z, ← h.zp, ← h.x, ← h.cw, ← h.cb, ← h.lg, ← h.lb, ← h.pw, ← h.ps, ← h.wo, ← h.gf, ← h.x1, ← h.mix, ← h.u1, ← h.po, ← h.h2]
  unfold parts
  simp only [Straight.own]
  iintro ⟨Ho, Hg, H0, H1, H2, H3, H4, H5, H6, H7, H8, H9, H10, H11, H12, H13, H14, H15, S0, S1, S2, S3, He⟩
  isplitl [S0 S1 S2 S3 Hg]
  · isplitr [Hg]
    swap; · iexact Hg
    isplitl [S0]; · iexists _; iexact S0
    isplitl [S1]; · iexists _; iexact S1
    isplitl [S2]; · iexists _; iexact S2
    iexists _; iexact S3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body at any point. -/
theorem sound : pre m c t ⊢ wp frame (wpE (defs₀ (F := F)) Variants.none c none) Set.univ (bodyAt0 t) (fun _ => post m c t) := by
  refine (pre_own m c t).trans ?_
  have hb : bodyAt0 (F := F) t = (whole (bufs t) (grid0.coords t)).prog := body_eq (bufs t) (grid0.coords t)
  have ho : (dats m 0 c).owesAt () t.succ = (dats m 0 c).owesAt () t.castSucc := rfl
  rw [hb]
  iintro ⟨Ho, Hg, %σ, %hσ, H⟩
  obtain ⟨R, hR⟩ := (whole_ends (A := bufs t) (grid0.coords t) σ).holds
  iapply ((whole (bufs t) (grid0.coords t)).sound c σ fun _ => post m c t)
  isplitl [H]; · iexact H
  rw [hR]
  iintro H
  iapply (own_post m c t _ (leaves_of m c t σ hσ R))
  rw [ho]
  isplitl [Ho]; · iexact Ho
  isplitl [Hg]; · iexact Hg
  iexact H

end

theorem row_eq (t : Fin cfg0.N) : defs₀ (F := F) .tc cfg0.body (cfg0.bodyArgs t (cfg0.slots t)) = bodyAt0 t := by
  unfold defs₀; rw [Defs.onTc_tc]

theorem obligation : BodyObligation (dats (F := F) m 0 c) (defs₀ (F := F)) Variants.none () Set.univ := fun t => by
  rw [row_eq]
  exact triple_restated (sound m c t) rfl .rfl fun _ => .rfl

set_option backward.isDefEq.respectTransparency.types false in
theorem run_main_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := fun _ => .rfl) (hout := fun _ => .rfl)

/-- Every run ends with the arrays at what the points left. -/
theorem run_main : θ_run defs (onTc (τ := τ) (main (F := F))) (s₀ m ρ) (Pipeline.FramePost cfgs (dats m) 0 (V m)) :=
  (θ_run defs _ _).mono (fun _ h => h.1) (run_main_quiescent m ρ)

/-- The program runs, leaves its arguments as they were and ends with every counter at zero. -/
theorem frame_holds : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  θ_run_and (frame_of m ρ (dats m) (A_eq m) (run_main m ρ))
    ((θ_run defs _ _).mono (fun _ h => h.2) (run_main_quiescent m ρ))

end Cert.CpIdeal.Body

end
-- ==== Proof.Cp.Machine.lean ====
/- The machine-float program has the exact program's text, so the exact program's run, at any floats, gives its frame. -/
module

public import proofs.«01_k».proof.Defs
public import proofs.«01_k».proof.Proof.Gen.Cp
public import proofs.«01_k».proof.Proof.Cp.Frame

@[expose] public section

set_option maxRecDepth 16384

namespace Cert.Cp.Machine

open Idealize.ShloMosaic Idealize.SL.Sem

/-- Every run of the machine-float program leaves its arguments as they were and its counters at zero. -/
theorem frame : Cert.quiescent_Cp (hCp := Cert.Cp.Gen.facts) :=
  have h : ∀ (m : (ℓ : Loc CpIdeal.nD CpIdeal.τ CpIdeal.sig) → Buf (Elt Bits) ℓ) (ρ : Dev CpIdeal.nD → PrngReg), True → _ :=
    fun m ρ _ => Cert.CpIdeal.Body.frame_holds (F := Bits) m ρ
  Eq.mp (by sl_kernel_rfl) h

end Cert.Cp.Machine
-- ==== Proof.Cp.RefRun.lean ====
/- The reference's run, stated in the named stages of its arguments. -/
module

public import proofs.«01_k».proof.Proof.Gen.CpRefIdeal.Run
public import proofs.«01_k».proof.Proof.Gen.CpRefIdeal.Read

@[expose] public section

namespace Cert.CpRefIdeal.Whole

open Idealize.ShloMosaic Idealize.ShloMosaic.TcCoe Idealize.SL.Sem

/-- The reference's run, its results as the named stages of its arguments. -/
theorem reference_run (m' : (ℓ : Loc nD τ sig) → Buf (Elt Ideal) ℓ) (g' : Dev nD → PrngReg) :
    θ_run defs (onTc (τ := τ) (main (F := Ideal))) ⟨m', fun _ => 0, g'⟩ fun r => ∀ c : Dev nD,
      let A := fun b : Ref sig .tc => m' ((c : Thread nD τ).loc b)
      r.2.mem ((c : Thread nD τ).loc main_v313) = Read.val_main_v313 (F := Ideal) (A main_arg0) (A main_arg1) (A main_arg2)
          (A main_arg3) (A main_arg4) (A main_arg5) (A main_arg6) (A main_arg7) (A main_arg8)
      ∧ r.2.mem ((c : Thread nD τ).loc main_v314) = Read.val_main_v314 (F := Ideal) (A main_arg0) (A main_arg2)
          (A main_arg3) (A main_arg4) (A main_arg5) (A main_arg6) (A main_arg7)
      ∧ r.2.mem ((c : Thread nD τ).loc main_v230) = Read.val_main_v230 (F := Ideal) (A main_arg0) (A main_arg2) (A main_arg3)
      ∧ r.2.mem ((c : Thread nD τ).loc main_v316) = Read.val_main_v316 (F := Ideal) (A main_arg0)
      ∧ r.2.mem ((c : Thread nD τ).loc main_v329) = Read.val_main_v329 (F := Ideal) (A main_arg0) (A main_arg1) (A main_arg2)
          (A main_arg3) (A main_arg4) (A main_arg5) (A main_arg6) (A main_arg7) (A main_arg8) (A main_arg9)
      ∧ r.2.mem ((c : Thread nD τ).loc main_arg0) = A main_arg0
      ∧ r.2.mem ((c : Thread nD τ).loc main_arg1) = A main_arg1
      ∧ r.2.mem ((c : Thread nD τ).loc main_arg2) = A main_arg2
      ∧ r.2.mem ((c : Thread nD τ).loc main_arg3) = A main_arg3
      ∧ r.2.mem ((c : Thread nD τ).loc main_arg4) = A main_arg4
      ∧ r.2.mem ((c : Thread nD τ).loc main_arg5) = A main_arg5
      ∧ r.2.mem ((c : Thread nD τ).loc main_arg6) = A main_arg6
      ∧ r.2.mem ((c : Thread nD τ).loc main_arg7) = A main_arg7
      ∧ r.2.mem ((c : Thread nD τ).loc main_arg8) = A main_arg8
      ∧ r.2.mem ((c : Thread nD τ).loc main_arg9) = A main_arg9 := by
  refine (θ_run defs _ _).mono (fun r h c => ?_) (Value.run m' g')
  obtain ⟨h0, h1, h2, h3, h4, a0, a1, a2, a3, a4, a5, a6, a7, a8, a9⟩ := h c
  refine ⟨h0.trans (Read.val_main_v313_eq _), h1.trans (Read.val_main_v314_eq _), h2.trans (Read.val_main_v230_eq _), h3.trans (Read.val_main_v316_eq _),
    h4.trans (Read.val_main_v329_eq _), a0, a1, a2, a3, a4, a5, a6, a7, a8, a9⟩

/-- Every run leaves its arguments as they were and its counters at zero. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0 :=
  (θ_run defs _ _).mono (fun r h => ⟨fun c => (h c).2.2.2.2.2, Idealize.ShloMosaic.sem_eq_zero_of_no_sems (by decide) r.2⟩)
    (Value.run m ρ)

end Cert.CpRefIdeal.Whole
-- ==== Proof.Cp.Spec.lean ====
/- The mixers' forward call as formulas: the gated rows `u = a * sig b` under a causal convolution of 31 taps, then a layer norm
   and a gate; the rows `v` under causal means of 2, 4, 8 and 16 rows, each less the row itself, then one matrix for each group of
   lanes; both side by side times the output weights, added to the residual, and the residual's norm.

   The projection is real; every other array is of extended reals. Arrays are functions of natural numbers. -/
module

public import proofs.«01_k».proof.Proof.InBwd.Spec

@[expose] public section

noncomputable section

namespace Cert.Cp.Spec

open Cert.Lift Idealize.ShloMosaic
open Cert.InBwd.Spec (wlen)

structure Data where
  z : ℕ → ℕ → ℝ
  x : ℕ → ℕ → EReal
  cw : ℕ → ℕ → EReal
  cb : ℕ → EReal
  lg : ℕ → EReal
  lb : ℕ → EReal
  pw : ℕ → ℕ → ℕ → EReal
  ps : ℕ → EReal
  wo : ℕ → ℕ → EReal
  gf : ℕ → EReal

variable (D : Data)

def u (n e : ℕ) : ℝ := D.z n e * sig (D.z n (512 + e))
/-- The gated rows after 32 rows of zeros. -/
def uB (n e : ℕ) : ℝ := if 32 ≤ n then u D (n - 32) e else 0
/-- And the pools' rows. -/
def vB (n e : ℕ) : ℝ := if 32 ≤ n then D.z (n - 32) (1024 + e) else 0
/-- The bias and the first taps of the convolution. -/
def conv (n e : ℕ) : ℕ → EReal
  | 0 => D.cb e
  | k + 1 => conv n e k + D.cw k e * ((uB D (n + 2 + k) e : ℝ) : EReal)
/-- A pool's sum. -/
def pl (n e : ℕ) : ℝ := ∑ d ∈ Finset.range (wlen e), vB D (n + 32 - d) e
/-- A pool's mean less the row itself. -/
def po (n e : ℕ) : ℝ := pl D n e / ((min (n + 1) (wlen e) : ℕ) : ℝ) - D.z n (1024 + e)

def mean (f : Fin 512 → EReal) : EReal := Ideal.div (∑ k, f k) (Ideal.ofBits .f32 0x44000000#32)
def spread (f : Fin 512 → EReal) : EReal := mean fun k => (f k - mean f) * (f k - mean f)
/-- The layer norm. -/
def norm (f : Fin 512 → EReal) (g b : ℕ → EReal) (e : Fin 512) : EReal :=
  (f e - mean f) * Ideal.rsqrt (spread f + Ideal.ofBits .f32 0x358637BD#32) * g e + b e
def silu (a : EReal) : EReal := a * Ideal.logistic a
/-- One group's pooled lanes times a column of its weights, scaled. -/
def head (n l : ℕ) : EReal := (∑ k : Fin 128, ((po D n (128 * (l / 128) + k) : ℝ) : EReal) * D.pw (l / 128) k (l % 128)) * D.ps l
def mix (n : ℕ) (l : Fin 1024) : EReal :=
  if h : l.val < 512 then silu (norm (fun e => conv D n e 31) D.lg D.lb ⟨l.val, h⟩) else head D n (l - 512)
/-- The residual. -/
def res (n l : ℕ) : EReal := D.x n l + ∑ k : Fin 1024, mix D n k * D.wo k l
/-- The residual's norm. -/
def scaled (n l : ℕ) : EReal :=
  res D n l * Ideal.rsqrt (Ideal.div (∑ k : Fin 1024, res D n k * res D n k) (Ideal.ofBits .f32 0x44800000#32) + Ideal.ofBits .f32 0x358637BD#32) * D.gf l

end Cert.Cp.Spec
-- ==== Proof.Cp.Kernel.lean ====
/- What one point of the mixers' forward call leaves, entry by entry, when its projection holds real rows. -/
module

public import proofs.«01_k».proof.Proof.Cp.Spec
public import proofs.«01_k».proof.Proof.Cp.Sums
public import proofs.«01_k».proof.Proof.InBwd.Fill

@[expose] public section

set_option maxRecDepth 16384

noncomputable section

namespace Cert.Cp.Kernel

open Idealize.ShloMosaic Idealize.ShloMosaic.TcCoe Idealize.SL.Sem
open Cert.CpIdeal Cert.CpIdeal.Gen Cert.CpIdeal.Body Cert.Straight Cert.Lift Cert.Cp.Spec
open Cert.InBwd.Spec (wlen)
open Cert.InBwdIdeal.Body (le2 le3 rows64 rows32 tap block half comb64 comb32 combS run runS more more_le count64 slice_lanes convAdd zero128
  ext2 ext3 EU stretch tapRow zero2)
open Cert.InBwd.Kernel (place stretch_at tapRow_at comb_at count64_at up_count more_wlen)

/-- The point's inputs hold its rows, and those before. -/
structure At (D : Data) (T : ℕ) (σ : St Ideal) : Prop where
  z : ∀ (r : Fin 512) (k : Fin 1536), σ.z (ix2 r k) = ((D.z (512 * T + r) k : ℝ) : EReal)
  zp : 0 < T → ∀ (r : Fin 32) (k : Fin 1536), σ.zp (ix2 r k) = ((D.z (512 * T + r - 32) k : ℝ) : EReal)
  x : ∀ (r : Fin 512) (l : Fin 1024), σ.x (ix2 r l) = D.x (512 * T + r) l
  cw : ∀ (k : Fin 32) (e : Fin 512), k.val < 31 → σ.cw (ix2 k e) = D.cw k e
  cb : ∀ (o : Fin 1) (e : Fin 512), σ.cb (ix2 o e) = D.cb e
  lg : ∀ (o : Fin 1) (e : Fin 512), σ.lg (ix2 o e) = D.lg e
  lb : ∀ (o : Fin 1) (e : Fin 512), σ.lb (ix2 o e) = D.lb e
  pw : ∀ (c : Fin 4) (k l : Fin 128), σ.pw (ix3 c k l) = D.pw c k l
  ps : ∀ (o : Fin 1) (e : Fin 512), σ.ps (ix2 o e) = D.ps e
  wo : ∀ (k l : Fin 1024), σ.wo (ix2 k l) = D.wo k l
  gf : ∀ (o : Fin 1) (l : Fin 1024), σ.gf (ix2 o l) = D.gf l

/-! ## The copies -/

theorem U0_at {D : Data} {T : ℕ} {zb : Vec Ideal S512x1536 .f32} (hz : ∀ (r : Fin 512) (k : Fin 1536), zb (ix2 r k) = ((D.z (512 * T + r) k : ℝ) : EReal))
    (r : Fin 512) (e : Fin 512) : U0 zb (ix2 r e) = ((Spec.u D (512 * T + r) e : ℝ) : EReal) := by
  have h : ∀ (o : ℕ) (ho : o + 512 ≤ 1536), (got (half o ho).toLoadRect zb : Vec Ideal S512x512 .f32) (ix2 r e) = ((D.z (512 * T + r) (o + e) : ℝ) : EReal) :=
    fun o ho => (congrArg zb (ext2 (q := ix2 r (⟨o + e, by omega⟩ : Fin 1536)) (show 0 + 1 * r.val = r.val by omega) (show o + 1 * e.val = o + e.val by omega))).trans (hz _ _)
  unfold U0
  show (got (half 0 _).toLoadRect zb (ix2 r e) * Ideal.logistic (got (half 512 _).toLoadRect zb (ix2 r e)) : EReal) = _
  rw [h 0, h 512, up_logistic, up_mul, Nat.zero_add, Spec.u]

section Copies

variable {D : Data} {T : ℕ} {σ : St Ideal} (H : At D T σ) {i : grid0.Coords} (hi : (i 0).val = T) (hT : T < 8)
include H hi hT

theorem before_at (r : Fin 32) (k : Fin 1536) : before i σ.zp (ix2 r k) = ((if 0 < T then D.z (512 * T + r - 32) k else 0 : ℝ) : EReal) := by
  have hk : kept (F := Ideal) i = (((if 0 < T then 1 else 0 : ℤ) : ℝ) : EReal) := Cert.InBwd.Kernel.kept_at (i := i) hi hT
  unfold before
  rw [hk]
  pointwise
  by_cases h : 0 < T
  · rw [if_pos h, if_pos h, H.zp h, Int.cast_one, EReal.coe_one, mul_one]
  · rw [if_neg h, if_neg h, Int.cast_zero, EReal.coe_zero, mul_zero]

theorem gateBefore_at (r : Fin 32) (e : Fin 512) :
    gateBefore (before i σ.zp) (ix2 r e) = ((if 0 < T then Spec.u D (512 * T + r - 32) e else 0 : ℝ) : EReal) := by
  have hb := before_at H hi hT
  generalize before i σ.zp = b at hb
  pointwise [gateBefore]
  rw [hb, hb]
  by_cases h : 0 < T
  · simp only [if_pos h, up_logistic, up_mul, Spec.u, Nat.zero_add]
  · simp only [if_neg h, EReal.coe_zero, zero_mul]

theorem eu_at (c : Fin 4) (y : Fin 768) (l : Fin 128) : eu0 i σ (ix3 c y l) = ((uB D (place T y) (128 * c + l) : ℝ) : EReal) := by
  unfold eu0 EU
  show (if h : 64 * (y.val % 8) + y.val / 8 < 32 then gateBefore (before i σ.zp) (ix2 ⟨64 * (y.val % 8) + y.val / 8, h⟩ ⟨128 * c.val + l.val, _⟩)
    else U0 σ.z (ix2 ⟨64 * (y.val % 8) + y.val / 8 - 32, _⟩ ⟨128 * c.val + l.val, _⟩)) = _
  unfold uB
  by_cases h : 64 * (y.val % 8) + y.val / 8 < 32
  · rw [dif_pos h, gateBefore_at H hi hT]
    refine congrArg _ ?_
    by_cases h0 : 0 < T
    · have e : 512 * T + (64 * (y.val % 8) + y.val / 8) - 32 = place T y - 32 := by unfold place; omega
      rw [if_pos h0, if_pos (by unfold place; omega), ← e]
    · rw [if_neg h0, if_neg (by unfold place; omega)]
  · have e : 512 * T + (64 * (y.val % 8) + y.val / 8 - 32) = place T y - 32 := by unfold place; omega
    rw [dif_neg h, U0_at H.z, if_pos (by unfold place; omega)]
    simp only [e]

theorem ev_at (c : Fin 4) (y : Fin 768) (l : Fin 128) : ev0 i σ (ix3 c y l) = ((vB D (place T y) (128 * c + l) : ℝ) : EReal) := by
  unfold ev0 EV EU
  show (if h : 64 * (y.val % 8) + y.val / 8 < 32 then before i σ.zp (ix2 ⟨64 * (y.val % 8) + y.val / 8, h⟩ ⟨1024 + (128 * c.val + l.val), _⟩)
    else σ.z (ix2 ⟨64 * (y.val % 8) + y.val / 8 - 32, _⟩ ⟨1024 + (128 * c.val + l.val), _⟩)) = _
  unfold vB
  by_cases h : 64 * (y.val % 8) + y.val / 8 < 32
  · rw [dif_pos h, before_at H hi hT]
    refine congrArg _ ?_
    by_cases h0 : 0 < T
    · have e : 512 * T + (64 * (y.val % 8) + y.val / 8) - 32 = place T y - 32 := by unfold place; omega
      rw [if_pos h0, if_pos (by unfold place; omega), ← e]
    · rw [if_neg h0, if_neg (by unfold place; omega)]
  · have e : 512 * T + (64 * (y.val % 8) + y.val / 8 - 32) = place T y - 32 := by unfold place; omega
    rw [dif_neg h, H.z, if_pos (by unfold place; omega)]
    simp only [e]

end Copies

/-! ## The sums -/

theorem lanes1_at (v : Vec Ideal S1x512 .f32) (l : ℕ) (hl : l + 128 ≤ 512) (o : Fin 1) (k : Fin 128) :
    (got (lanes1 l hl).toLoadRect v : Vec Ideal S1x128 .f32) (ix2 o k) = v (ix2 (0 : Fin 1) (⟨l + k, by omega⟩ : Fin 512)) :=
  congrArg v (ext2 (show 0 + 1 * o.val = 0 by omega) (show l + 1 * k.val = l + k.val by omega))

section Sums

variable {D : Data} {T : ℕ} {cw : Vec Ideal S32x512 .f32} (hcw : ∀ (k : Fin 32) (e : Fin 512), k.val < 31 → cw (ix2 k e) = D.cw k e)
  {cb : Vec Ideal S1x512 .f32} (hcb : ∀ (o : Fin 1) (e : Fin 512), cb (ix2 o e) = D.cb e)
  {eu ev : Vec Ideal S4x768x128 .f32}
  (heu : ∀ (c : Fin 4) (y : Fin 768) (l : Fin 128), eu (ix3 c y l) = ((uB D (place T y) (128 * c + l) : ℝ) : EReal))
  (hev : ∀ (c : Fin 4) (y : Fin 768) (l : Fin 128), ev (ix3 c y l) = ((vB D (place T y) (128 * c + l) : ℝ) : EReal))
  (c v : Fin 4)

theorem bias_at (r : Vec Ideal S1x128 .f32) (p l : Fin 128) : bias r (ix2 p l) = r (ix2 0 l) := by
  unfold bias zero128
  pointwise

include hcw hcb heu in
theorem convVal_at (k : ℕ) (hk : k ≤ 31) (r l : Fin 128) : convVal cw cb eu c v k (ix2 r l)
    = conv D (512 * T + 64 * (r % 8) + (16 * v + r / 8)) (128 * c + l) k := by
  induction k with
  | zero => rw [convVal, bias_at, lanes1_at, hcb]; rfl
  | succ k ih =>
    rw [convVal, dif_pos (by omega), conv, ← ih (by omega)]
    generalize convVal cw cb eu c v k = acc
    unfold convAdd
    pointwise
    rw [stretch_at, tapRow_at, hcw _ _ (show k < 31 by omega), heu]
    have e : place T (8 * (2 + 16 * v.val + k) + r.val) = 512 * T + 64 * (r % 8) + (16 * v + r / 8) + 2 + k := by
      unfold place; omega
    simp only [e]

include hev in
theorem poolVal_at (k : ℕ) (hk : k ≤ 15) (r l : Fin 128) : poolVal ev c v k (ix2 r l)
    = ((∑ d ∈ Finset.range (k + 1), vB D (512 * T + 64 * (r % 8) + (16 * v + r / 8) + 32 - d) (128 * c + l) : ℝ) : EReal) := by
  induction k with
  | zero =>
    rw [poolVal, stretch_at, hev, Finset.sum_range_one]
    have e : place T (8 * (32 + 16 * v.val) + r.val) = 512 * T + 64 * (r % 8) + (16 * v + r / 8) + 32 - 0 := by unfold place; omega
    simp only [e]
  | succ k ih =>
    rw [poolVal, dif_pos (by omega), Finset.sum_range_succ, ← up_add, ← ih (by omega)]
    generalize poolVal ev c v k = acc
    pointwise
    rw [stretch_at, hev]
    have e : place T (8 * (32 + 16 * v.val - (k + 1)) + r.val) = 512 * T + 64 * (r % 8) + (16 * v + r / 8) + 32 - (k + 1) := by
      unfold place; omega
    simp only [e]

include hcw hcb heu in
theorem sums_conv (y : Fin 512) (l : Fin 128) : SS cw cb eu ev c (ix3 0 y l) = conv D (place T y) (128 * c + l) 31 := by
  refine (if_pos rfl).trans ((convVal_at hcw hcb heu c ⟨y.val / 128, by omega⟩ 31 le_rfl (⟨y.val % 128, by omega⟩ : Fin 128) l).trans ?_)
  have e : 512 * T + 64 * (y.val % 128 % 8) + (16 * (y.val / 128) + y.val % 128 / 8) = place T y := by unfold place; omega
  simp only [e]

include hev in
theorem sums_pool (y : Fin 512) (l : Fin 128) : SS cw cb eu ev c (ix3 1 y l) = ((pl D (place T y) (128 * c + l) : ℝ) : EReal) := by
  refine (if_neg (show ¬(1 : ℕ) = 0 by decide)).trans ((poolVal_at hev c ⟨y.val / 128, by omega⟩ (more c) (more_le c) (⟨y.val % 128, by omega⟩ : Fin 128) l).trans ?_)
  have e : 512 * T + 64 * (y.val % 128 % 8) + (16 * (y.val / 128) + y.val % 128 / 8) = place T y := by unfold place; omega
  simp only [e, pl, more_wlen c l]

end Sums

section Rows

variable {D : Data} {T : ℕ} {S : Fin 4 → Vec Ideal S2x512x128 .f32}

theorem u1_at (h0 : ∀ (c : Fin 4) (y : Fin 512) (l : Fin 128), S c (ix3 0 y l) = conv D (place T y) (128 * c + l) 31) (r e : Fin 512) :
    U1 S (ix2 r e) = conv D (512 * T + r) e 31 := by
  show convBlock (S ⟨e.val / 128, _⟩) ⟨r.val / 64, _⟩ (ix2 ⟨r.val % 64, _⟩ ⟨e.val % 128, _⟩) = _
  unfold convBlock
  refine (comb_at _ _ _ 0 _ _).trans ((h0 _ _ _).trans ?_)
  have e1 : 128 * (e.val / 128) + e.val % 128 = e.val := by omega
  have e2 : place T (r.val / 64 + 8 * (r.val % 64)) = 512 * T + r.val := by unfold place; omega
  simp only [e1, e2]

variable {i : grid0.Coords} (hi : (i 0).val = T) (hT : T < 8) {z : Vec Ideal S512x1536 .f32}
  (h1 : ∀ (c : Fin 4) (y : Fin 512) (l : Fin 128), S c (ix3 1 y l) = ((pl D (place T y) (128 * c + l) : ℝ) : EReal))
  (hz : ∀ (r : Fin 512) (k : Fin 1536), z (ix2 r k) = ((D.z (512 * T + r) k : ℝ) : EReal))

include hi hT h1 hz in
theorem po_at (r e : Fin 512) : PO i S z (ix2 r e) = ((po D (512 * T + r) e : ℝ) : EReal) := by
  show poolBlock i z ⟨e.val / 128, _⟩ (S ⟨e.val / 128, _⟩) ⟨r.val / 64, _⟩ (ix2 ⟨r.val % 64, _⟩ ⟨e.val % 128, _⟩) = _
  unfold poolBlock pooled
  show FloatOps.subf (F := Ideal) (Ideal.div (shapeCast _ _ _ _) (count64 (F := Ideal) (rowWord i _) _ _)) (got _ _ _) = _
  have hw : rowWord i (64 * (r.val / 64)) = BitVec.ofNat 32 (512 * T + 64 * (r.val / 64)) := Cert.InBwd.Kernel.rowWord_at (i := i) hi _
  have hg : ∀ (hr hl), (got (block (64 * (r.val / 64)) (1024 + 128 * (e.val / 128)) hr hl).toLoadRect z : Vec Ideal S64x128 .f32)
      (ix2 (⟨r.val % 64, by omega⟩ : Fin 64) (⟨e.val % 128, by omega⟩ : Fin 128)) = ((D.z (512 * T + r) (1024 + e) : ℝ) : EReal) := fun hr hl =>
    (congrArg z (ext2 (q := ix2 r (⟨1024 + e, by omega⟩ : Fin 1536)) (show 64 * (r.val / 64) + 1 * (r.val % 64) = r.val by omega)
      (show 1024 + 128 * (e.val / 128) + 1 * (e.val % 128) = 1024 + e.val by omega))).trans (hz _ _)
  rw [hg, comb_at _ _ _ 1, show rowWord i (64 * ((⟨r.val / 64, by omega⟩ : Fin 8) : ℕ)) = _ from hw, count64_at _ (by omega)]
  have e1 : 128 * (e.val / 128) + e.val % 128 = e.val := by omega
  have e2 : place T (r.val / 64 + 8 * (r.val % 64)) = 512 * T + r.val := by unfold place; omega
  have e3 : 512 * T + 64 * (r.val / 64) + r.val % 64 = 512 * T + r.val := by omega
  refine (congrArg (fun a : EReal => Ideal.div a _ - _) (h1 _ _ _)).trans ?_
  simp only [e1, e2, e3, up_count, up_sub, po]

end Rows

/-! ## The norm, the heads and the residual -/

theorem rowMean_at (u : FVec Ideal S512x512 .f32) (r : Fin 512) (o : Fin 1) : rowMean u (ix2 r o) = mean fun k => u (ix2 r k) := by
  pointwise [rowMean]
  rfl

theorem centred_at (u : FVec Ideal S512x512 .f32) (r e : Fin 512) : centred u (ix2 r e) = u (ix2 r e) - mean fun k => u (ix2 r k) := by
  unfold centred
  have h := rowMean_at u
  generalize rowMean u = m at h
  pointwise
  rw [h]

theorem normed_at (u : FVec Ideal S512x512 .f32) (r e : Fin 512) : normed u (ix2 r e)
    = (u (ix2 r e) - mean fun k => u (ix2 r k)) * Ideal.rsqrt ((spread fun k => u (ix2 r k)) + Ideal.ofBits .f32 0x358637BD#32) := by
  unfold normed
  have h := rowMean_at (mulf (centred u) (centred u))
  generalize rowMean (mulf (centred u) (centred u)) = m at h
  have h' : (mean fun k => mulf (centred u) (centred u) (ix2 r k)) = spread fun k => u (ix2 r k) :=
    congrArg mean (funext fun k => congrArg₂ (fun a b : EReal => a * b) (centred_at u r k) (centred_at u r k))
  have hc := centred_at u r e
  generalize centred u = c at hc
  pointwise
  rw [hc, h, h']

theorem silu_at (u : FVec Ideal S512x512 .f32) (g b : Vec Ideal S1x512 .f32) (G B : ℕ → EReal) (hg : ∀ (o : Fin 1) (e : Fin 512), g (ix2 o e) = G e)
    (hb : ∀ (o : Fin 1) (e : Fin 512), b (ix2 o e) = B e) (r e : Fin 512) :
    Cert.CpIdeal.Body.silu u g b (ix2 r e) = Spec.silu (norm (fun k => u (ix2 r k)) G B e) := by
  have h : affine u g b (ix2 r e) = norm (fun k => u (ix2 r k)) G B e := by
    unfold affine
    have hn := normed_at u r e
    generalize normed u = n at hn
    pointwise
    rw [hn, hg, hb]
    rfl
  unfold Cert.CpIdeal.Body.silu
  generalize affine u g b = a at h
  pointwise
  rw [h]
  rfl

theorem headVal_at (p : Vec Ideal S512x128 .bf16) (w : Vec Ideal S1x128x128 .f32) (s : Vec Ideal S1x128 .f32) (r : Fin 512) (l : Fin 128) :
    headVal p w s (ix2 r l) = (∑ k : Fin 128, p (ix2 r k) * w (ix3 0 k l)) * s (ix2 0 l) := by
  unfold headVal
  pointwise

theorem resid_at (x : Vec Ideal S512x1024 .f32) (m : Vec Ideal S512x1024 .bf16) (w : Vec Ideal S1024x1024 .bf16) (r : Fin 512) (l : Fin 1024) :
    resid x m w (ix2 r l) = x (ix2 r l) + ∑ k : Fin 1024, m (ix2 r k) * w (ix2 k l) := by
  unfold resid
  pointwise

theorem scaled_at (x : FVec Ideal S512x1024 .f32) (g : Vec Ideal S1x1024 .f32) (r : Fin 512) (l : Fin 1024) :
    Cert.CpIdeal.Body.scaled x g (ix2 r l) = x (ix2 r l) * Ideal.rsqrt (Ideal.div (∑ k : Fin 1024, x (ix2 r k) * x (ix2 r k)) (Ideal.ofBits .f32 0x44800000#32)
      + Ideal.ofBits .f32 0x358637BD#32) * g (ix2 0 l) := by
  unfold Cert.CpIdeal.Body.scaled
  pointwise

/-! ## The point -/

section Point

variable {D : Data} {T : ℕ} {σ : St Ideal} (H : At D T σ) {i : grid0.Coords} (hi : (i 0).val = T) (hT : T < 8)
include H hi hT

theorem conv_at (r e : Fin 512) : U1 (ss0 i σ) (ix2 r e) = conv D (512 * T + r) e 31 :=
  u1_at (fun c y l => sums_conv H.cw H.cb (eu_at H hi hT) c y l) r e

theorem pool_at (r e : Fin 512) : PO i (ss0 i σ) σ.z (ix2 r e) = ((po D (512 * T + r) e : ℝ) : EReal) :=
  po_at hi hT (fun c y l => sums_pool (ev_at H hi hT) c y l) H.z r e

theorem mix_at (r : Fin 512) (l : Fin 1024) : mix0 i σ (ix2 r l) = mix D (512 * T + r) l := by
  have hu := conv_at H hi hT r
  have hp := pool_at H hi hT r
  unfold mix0 MIX
  generalize U1 (ss0 i σ) = u at hu ⊢
  generalize PO i (ss0 i σ) σ.z = p at hp ⊢
  unfold mix
  by_cases h : l.val < 512
  · rw [dif_pos h]
    refine (dif_pos h).trans ((silu_at u σ.lg σ.lb D.lg D.lb H.lg H.lb r ⟨l.val, h⟩).trans ?_)
    simp only [hu]
  · rw [dif_neg h]
    refine (dif_neg h).trans ?_
    dsimp only
    refine (headVal_at _ _ _ r _).trans ?_
    unfold Spec.head
    have hl : l.val % 128 = (l.val - 512) % 128 := by omega
    have e : 128 * ((l.val - 512) / 128) + l.val % 128 = l.val - 512 := by omega
    refine congrArg₂ (fun a b : EReal => a * b) (Finset.sum_congr rfl fun k _ => congrArg₂ (fun a b : EReal => a * b) ?_ ?_) ?_
    · exact (congrArg p (ext2 (q := ix2 r (⟨128 * ((l.val - 512) / 128) + k, by omega⟩ : Fin 512)) (show 0 + 1 * r.val = r.val by omega)
        (show 128 * ((l.val - 512) / 128) + 1 * k.val = 128 * ((l.val - 512) / 128) + k.val by omega))).trans (hp _)
    · rw [← hl]
      exact (congrArg σ.pw (ext3 (q := ix3 (⟨(l.val - 512) / 128, by omega⟩ : Fin 4) k (⟨l.val % 128, by omega⟩ : Fin 128))
        (show (l.val - 512) / 128 + 1 * 0 = (l.val - 512) / 128 by omega) (show 0 + 1 * k.val = k.val by omega) (show 0 + 1 * (l.val % 128) = l.val % 128 by omega))).trans (H.pw _ _ _)
    · refine (lanes1_at σ.ps _ _ 0 _).trans ((H.ps _ _).trans ?_)
      exact congrArg D.ps e

theorem res_at (r : Fin 512) (l : Fin 1024) : res0 i σ (ix2 r l) = res D (512 * T + r) l := by
  have hm := mix_at H hi hT r
  unfold res0
  generalize mix0 i σ = m at hm
  rw [resid_at, H.x]
  unfold res
  simp only [hm, H.wo]

theorem h2_at (r : Fin 512) (l : Fin 1024) : Cert.CpIdeal.Body.scaled (res0 i σ) σ.gf (ix2 r l) = Spec.scaled D (512 * T + r) l := by
  have hx := res_at H hi hT r
  generalize res0 i σ = x at hx ⊢
  rw [scaled_at, H.gf]
  unfold Spec.scaled
  simp only [hx]

end Point

end Cert.Cp.Kernel

end
-- ==== Proof.Cp.Arrays.lean ====
/- What the kernel reads at a grid point, and its five results after the last point: the formulas of `Cert.Cp.Spec` on all rows. -/
module

public import proofs.«01_k».proof.Proof.Cp.Kernel
public import proofs.«01_k».proof.Proof.Cp.Frame
public import Idealize.ShloMosaic.Lib.Pipeline.ValueKit
public import Idealize.ShloMosaic.Lib.Claim

@[expose] public section

set_option maxRecDepth 16384

noncomputable section

namespace Cert.Cp.Kernel

open Idealize.ShloMosaic Idealize.ShloMosaic.TcCoe Idealize.SL.Sem
open Idealize.ShloMosaic.Pipeline (Dat)
open Cert.CpIdeal Cert.CpIdeal.Gen Cert.CpIdeal.Body Cert.Lift Cert.Cp.Spec

variable (m : (ℓ : Loc nD τ sig) → Buf (Elt Ideal) ℓ) (c : Dev nD)

/-- Device `c`'s arguments hold the arrays of `D`. -/
structure Holds (D : Data) : Prop where
  z : ∀ (r : Fin 4096) (k : Fin 1536), m ((c : Thread nD τ).loc main_arg0) (ix2 r k) = ((D.z r.val k.val : ℝ) : EReal)
  x : ∀ (r : Fin 4096) (l : Fin 1024), m ((c : Thread nD τ).loc main_arg1) (ix2 r l) = D.x r.val l.val
  cw : ∀ (k : Fin 31) (e : Fin 512), m ((c : Thread nD τ).loc main_arg2) (ix2 k e) = D.cw k.val e.val
  cb : ∀ (o : Fin 1) (e : Fin 512), m ((c : Thread nD τ).loc main_arg3) (ix2 o e) = D.cb e.val
  lg : ∀ (o : Fin 1) (e : Fin 512), m ((c : Thread nD τ).loc main_arg4) (ix2 o e) = D.lg e.val
  lb : ∀ (o : Fin 1) (e : Fin 512), m ((c : Thread nD τ).loc main_arg5) (ix2 o e) = D.lb e.val
  pw : ∀ (g : Fin 4) (k l : Fin 128), m ((c : Thread nD τ).loc main_arg6) (ix3 g k l) = D.pw g.val k.val l.val
  ps : ∀ (o : Fin 1) (e : Fin 512), m ((c : Thread nD τ).loc main_arg7) (ix2 o e) = D.ps e.val
  wo : ∀ (k l : Fin 1024), m ((c : Thread nD τ).loc main_arg8) (ix2 k l) = D.wo k.val l.val
  gf : ∀ (o : Fin 1) (l : Fin 1024), m ((c : Thread nD τ).loc main_arg9) (ix2 o l) = D.gf l.val

theorem idx : ∀ t : Fin cfg0.N, win0_0.index t = ![t.val, 0] ∧ win0_1.index t = ![16 * t.val - 1, 0] ∧ win0_2.index t = ![t.val, 0]
    ∧ win0_3.index t = ![0, 0] ∧ win0_4.index t = ![0, 0] ∧ win0_5.index t = ![0, 0] ∧ win0_6.index t = ![0, 0]
    ∧ win0_7.index t = ![0, 0, 0] ∧ win0_8.index t = ![0, 0] ∧ win0_9.index t = ![0, 0] ∧ win0_10.index t = ![0, 0]
    ∧ win0_11.index t = ![t.val, 0] ∧ win0_12.index t = ![t.val, 0] ∧ win0_13.index t = ![t.val, 0] ∧ win0_14.index t = ![t.val, 0]
    ∧ win0_15.index t = ![t.val, 0] :=
  (by decide +kernel : ∀ t : Fin grid0.N, _)

theorem coords_eq : ∀ t : Fin cfg0.N, ((grid0.coords t) 0).val = t.val := (by decide +kernel : ∀ t : Fin grid0.N, _)

/-- The taps above a row of zeros. -/
theorem cw_lines : @Eq (FVec Ideal S32x512 .f32) (V m c main_v1) <|
    concatenate S32x512 0 [⟨S31x512, (show FVec Ideal S31x512 .f32 from m ((c : Thread nD τ).loc main_arg2))⟩,
      ⟨S1x512, broadcastInDim S1x512 ![] bcast_S_S1x512 (constant (F := Ideal) S_ .f32 0x00000000#32)⟩] concatenates_S31x512_S1x512_S32x512_d0 := by
  entry_read
  rfl

/-- The matrix out, narrowed. -/
theorem wo_lines : @Eq (FVec Ideal S1024x1024 .bf16) (V m c main_v2) <|
    truncf .bf16 (F := Ideal) (show FVec Ideal S1024x1024 .f32 from m ((c : Thread nD τ).loc main_arg8)) bitsLt_bf16_f32 := by
  entry_read
  rfl

variable {m c} {D : Data} (H : Holds m c D) (t : Fin cfg0.N)
include H

theorem blk0 (r : Fin 512) (k : Fin 1536) : iblk m c 0 t (ix2 r k) = ((D.z (512 * t.val + r.val) k.val : ℝ) : EReal) := by
  have ht := t.isLt.trans_eq N_0
  refine Eq.trans ?_ ((H.z ⟨t.val * 512 + r.val, by omega⟩ k).trans (congrArg (fun n => ((D.z n k.val : ℝ) : EReal)) (by simp only [mul_comm])))
  blk_ext [iblk, V, idx t]

theorem blk1 (h : 0 < t.val) (r : Fin 32) (k : Fin 1536) : iblk m c 1 t (ix2 r k) = ((D.z (512 * t.val + r.val - 32) k.val : ℝ) : EReal) := by
  have ht := t.isLt.trans_eq N_0
  refine Eq.trans ?_ ((H.z ⟨(16 * t.val - 1) * 32 + r.val, by omega⟩ k).trans (congrArg (fun n => ((D.z n k.val : ℝ) : EReal)) (show (16 * t.val - 1) * 32 + r.val = _ by omega)))
  blk_ext [iblk, V, idx t]

theorem blk2 (r : Fin 512) (l : Fin 1024) : iblk m c 2 t (ix2 r l) = D.x (512 * t.val + r.val) l.val := by
  have ht := t.isLt.trans_eq N_0
  refine Eq.trans ?_ ((H.x ⟨t.val * 512 + r.val, by omega⟩ l).trans (congrArg (fun n => D.x n l.val) (by simp only [mul_comm])))
  blk_ext [iblk, V, idx t]

theorem blk3 (k : Fin 32) (e : Fin 512) (h : k.val < 31) : iblk m c 3 t (ix2 k e) = D.cw k.val e.val := by
  refine Eq.trans (b := V m c main_v1 (ix2 k e)) ?_ ?_
  · blk_ext [iblk, idx t]
  · rw [cw_lines]
    pointwise
    rw [dif_pos h]
    exact H.cw _ _

theorem blk4 (o : Fin 1) (e : Fin 512) : iblk m c 4 t (ix2 o e) = D.cb e.val := by
  rw [← H.cb o]
  blk_ext [iblk, V, idx t]

theorem blk5 (o : Fin 1) (e : Fin 512) : iblk m c 5 t (ix2 o e) = D.lg e.val := by
  rw [← H.lg o]
  blk_ext [iblk, V, idx t]

theorem blk6 (o : Fin 1) (e : Fin 512) : iblk m c 6 t (ix2 o e) = D.lb e.val := by
  rw [← H.lb o]
  blk_ext [iblk, V, idx t]

theorem blk7 (g : Fin 4) (k l : Fin 128) : iblk m c 7 t (ix3 g k l) = D.pw g.val k.val l.val := by
  rw [← H.pw]
  blk_ext [iblk, V, idx t]

theorem blk8 (o : Fin 1) (e : Fin 512) : iblk m c 8 t (ix2 o e) = D.ps e.val := by
  rw [← H.ps o]
  blk_ext [iblk, V, idx t]

theorem blk9 (k l : Fin 1024) : iblk m c 9 t (ix2 k l) = D.wo k.val l.val := by
  refine Eq.trans (b := V m c main_v2 (ix2 k l)) ?_ ?_
  · blk_ext [iblk, idx t]
  · rw [wo_lines]
    pointwise
    exact H.wo _ _

theorem blk10 (o : Fin 1) (l : Fin 1024) : iblk m c 10 t (ix2 o l) = D.gf l.val := by
  rw [← H.gf o]
  blk_ext [iblk, V, idx t]

/-- The point's contents. -/
theorem ins_at : At D t.val (ins m c t) where
  z := blk0 H t
  zp := blk1 H t
  x := blk2 H t
  cw := blk3 H t
  cb := blk4 H t
  lg := blk5 H t
  lb := blk6 H t
  pw := blk7 H t
  ps := blk8 H t
  wo := blk9 H t
  gf := blk10 H t

theorem x1_out (r : Fin 512) (l : Fin 1024) : (left m c t).x1 (ix2 r l) = res D (512 * t.val + r.val) l.val :=
  res_at (ins_at H t) (coords_eq t) (t.isLt.trans_eq N_0) r l

theorem mix_out (r : Fin 512) (l : Fin 1024) : (left m c t).mix (ix2 r l) = Spec.mix D (512 * t.val + r.val) l :=
  mix_at (ins_at H t) (coords_eq t) (t.isLt.trans_eq N_0) r l

theorem u1_out (r e : Fin 512) : (left m c t).u1 (ix2 r e) = conv D (512 * t.val + r.val) e.val 31 :=
  conv_at (ins_at H t) (coords_eq t) (t.isLt.trans_eq N_0) r e

theorem po_out (r e : Fin 512) : (left m c t).po (ix2 r e) = ((Spec.po D (512 * t.val + r.val) e.val : ℝ) : EReal) :=
  pool_at (ins_at H t) (coords_eq t) (t.isLt.trans_eq N_0) r e

theorem h2_out (r : Fin 512) (l : Fin 1024) : (left m c t).h2 (ix2 r l) = Spec.scaled D (512 * t.val + r.val) l.val :=
  h2_at (ins_at H t) (coords_eq t) (t.isLt.trans_eq N_0) r l

omit t

/-- The residual. -/
theorem final11 : (dats m 0 c).arrAt 11 cfg0.N = fun i : S4096x1024.Idx => res D (i 0).val (i 1).val := by
  refine (dats m 0 c).arrAt_eq_of_covers 11 _ (by decide +kernel) fun t hf y => ?_
  blk_simp
  rw [after0_11]
  refine (congrArg _ ?_).trans ((x1_out H t (y 0) (y 1)).trans (congrArg₂ (fun n l => res D n l) ?_ ?_))
  · funext x
    fin_cases x <;> rfl
  · rw [(idx t).2.2.2.2.2.2.2.2.2.2.2.1]
    show 512 * t.val + (y 0).val = t.val * 512 + (y 0).val
    rw [mul_comm]
  · blk_simp [idx t]

/-- The mixers' lanes. -/
theorem final12 : (dats m 0 c).arrAt 12 cfg0.N = fun i : S4096x1024.Idx => Spec.mix D (i 0).val (i 1) := by
  refine (dats m 0 c).arrAt_eq_of_covers 12 _ (by decide +kernel) fun t hf y => ?_
  blk_simp
  rw [after0_12]
  have e1 : ((win0_12.blk t).view.emb y 1).val = (y 1).val := by blk_simp [idx t]
  refine (congrArg _ ?_).trans ((mix_out H t (y 0) (y 1)).trans (congrArg₂ (fun n l => Spec.mix D n l) ?_ ?_))
  · funext x
    fin_cases x <;> rfl
  · rw [(idx t).2.2.2.2.2.2.2.2.2.2.2.2.1]
    show 512 * t.val + (y 0).val = t.val * 512 + (y 0).val
    rw [mul_comm]
  · exact Fin.ext e1.symm

/-- The convolution's rows. -/
theorem final13 : (dats m 0 c).arrAt 13 cfg0.N = fun i : S4096x512.Idx => conv D (i 0).val (i 1).val 31 := by
  refine (dats m 0 c).arrAt_eq_of_covers 13 _ (by decide +kernel) fun t hf y => ?_
  blk_simp
  rw [after0_13]
  refine (congrArg _ ?_).trans ((u1_out H t (y 0) (y 1)).trans (congrArg₂ (fun n l => conv D n l 31) ?_ ?_))
  · funext x
    fin_cases x <;> rfl
  · rw [(idx t).2.2.2.2.2.2.2.2.2.2.2.2.2.1]
    show 512 * t.val + (y 0).val = t.val * 512 + (y 0).val
    rw [mul_comm]
  · blk_simp [idx t]

/-- The pooled rows. -/
theorem final14 : (dats m 0 c).arrAt 14 cfg0.N = fun i : S4096x512.Idx => ((Spec.po D (i 0).val (i 1).val : ℝ) : EReal) := by
  refine (dats m 0 c).arrAt_eq_of_covers 14 _ (by decide +kernel) fun t hf y => ?_
  blk_simp
  rw [after0_14]
  refine (congrArg _ ?_).trans ((po_out H t (y 0) (y 1)).trans (congrArg₂ (fun n l => ((Spec.po D n l : ℝ) : EReal)) ?_ ?_))
  · funext x
    fin_cases x <;> rfl
  · rw [(idx t).2.2.2.2.2.2.2.2.2.2.2.2.2.2.1]
    show 512 * t.val + (y 0).val = t.val * 512 + (y 0).val
    rw [mul_comm]
  · blk_simp [idx t]

/-- The residual's norm. -/
theorem final15 : (dats m 0 c).arrAt 15 cfg0.N = fun i : S4096x1024.Idx => Spec.scaled D (i 0).val (i 1).val := by
  refine (dats m 0 c).arrAt_eq_of_covers 15 _ (by decide +kernel) fun t hf y => ?_
  blk_simp
  rw [after0_15]
  refine (congrArg _ ?_).trans ((h2_out H t (y 0) (y 1)).trans (congrArg₂ (fun n l => Spec.scaled D n l) ?_ ?_))
  · funext x
    fin_cases x <;> rfl
  · rw [(idx t).2.2.2.2.2.2.2.2.2.2.2.2.2.2.2]
    show 512 * t.val + (y 0).val = t.val * 512 + (y 0).val
    rw [mul_comm]
  · blk_simp [idx t]

end Cert.Cp.Kernel

end
-- ==== Proof.Cp.Pools.lean ====
/- The reference's convolution and pools over all 4096 rows. -/
module

public import proofs.«01_k».proof.Proof.Cp.Spec
public import proofs.«01_k».proof.Proof.InBwd.Window
public import proofs.«01_k».proof.Proof.Gen.CpRefIdeal.Read

@[expose] public section

set_option maxRecDepth 16384

noncomputable section

namespace Cert.Cp.Reference

open Idealize.ShloMosaic Idealize.ShloMosaic.TcCoe Idealize.SL.Sem
open Cert.CpRefIdeal Cert.CpRefIdeal.Gen Cert.CpRefIdeal.Read Cert.Lift Cert.Cp.Spec
open Cert.InBwd.Spec (wlen)

/-! ## The gates -/

section Gates

variable {D : Data} {x0 : FVec Ideal S4096x1536 .f32} (h0 : ∀ (r : Fin 4096) (k : Fin 1536), x0 (ix2 r k) = ((D.z r.val k.val : ℝ) : EReal))
include h0

theorem v8 (r : Fin 4096) (e : Fin 512) : val_main_v8 (F := Ideal) x0 (ix2 r e) = ((Spec.u D r.val e.val : ℝ) : EReal) := by
  pointwise [val_main_v8, val_main_v7, val_main_v6, val_main_v5, val_main_v4, val_main_v3, val_main_v2, val_main_v1, val_main_v0, val_main_cst, val_main_cst_0]
  simp only [h0, up_neg, up_exp, up_one_add, up_sig, up_mul, Spec.u]

theorem v10 (n : Fin 4126) (e : Fin 512) : val_main_v10 (F := Ideal) x0 (ix2 n e) = ((uB D (n.val + 2) e.val : ℝ) : EReal) := by
  pointwise [val_main_v10]
  unfold uB
  by_cases c : n.val < 30
  · rw [dif_pos c, if_neg (by omega)]
    pointwise [val_main_v9, val_main_cst_1]
    exact EReal.coe_zero.symm
  · rw [dif_neg c]
    refine (v8 h0 _ _).trans (congrArg Real.toEReal ?_)
    refine Eq.trans ?_ (if_pos (by omega)).symm
    refine congrArg (fun y => Spec.u D y e.val) ?_
    show n.val - 30 = n.val + 2 - 32
    omega

end Gates

/-! ## The convolution's chain over the taps -/

theorem slices_tap (k : Fin 31) : S31x512.Slices ![k.val, 0] S1x512 := by revert k; decide
theorem slices_rows (k : Fin 31) : S4126x512.Slices ![k.val, 0] S4096x512 := by revert k; decide

/-- One tap times the rows it meets. -/
def tap (w : FVec Ideal S31x512 .f32) (u : FVec Ideal S4126x512 .f32) (k : Fin 31) : FVec Ideal S4096x512 .f32 :=
  mulf (broadcastInDim S4096x512 ![0, 1] bcast_S1x512_S4096x512_0_1 (broadcastInDim S1x512 ![1] bcast_S512_S1x512_1
      (shapeCast _ (extractStridedSlice S1x512 ![k.val, 0] w (slices_tap k)) shapeCasts_S1x512_S512)))
    (extractStridedSlice S4096x512 ![k.val, 0] u (slices_rows k))

/-- The sum of the first taps. -/
def taps (w : FVec Ideal S31x512 .f32) (u : FVec Ideal S4126x512 .f32) : ℕ → FVec Ideal S4096x512 .f32
  | 0 => broadcastInDim S4096x512 ![] bcast_S_S4096x512 (constant (F := Ideal) S_ .f32 0x00000000#32)
  | k + 1 => if h : k < 31 then addf (taps w u k) (tap w u ⟨k, h⟩) else taps w u k

theorem v228 (x0 : FVec Ideal S4096x1536 .f32) (x2 : FVec Ideal S31x512 .f32) :
    val_main_v228 (F := Ideal) x0 x2 = taps x2 (val_main_v10 (F := Ideal) x0) 31 := rfl

section Conv

variable {D : Data} {x2 : FVec Ideal S31x512 .f32} (h2 : ∀ (k : Fin 31) (e : Fin 512), x2 (ix2 k e) = D.cw k.val e.val)
  {u : FVec Ideal S4126x512 .f32} (hu : ∀ (n : Fin 4126) (e : Fin 512), u (ix2 n e) = ((uB D (n.val + 2) e.val : ℝ) : EReal))
include h2 hu

theorem tap_at (k : Fin 31) (t : Fin 4096) (e : Fin 512) :
    tap x2 u k (ix2 t e) = D.cw k.val e.val * ((uB D (t.val + 2 + k.val) e.val : ℝ) : EReal) := by
  unfold tap
  pointwise
  rw [h2, hu]
  refine congrArg₂ (fun a b : EReal => a * b) rfl (congrArg (fun y => ((uB D y e.val : ℝ) : EReal)) ?_)
  show k.val + t.val + 2 = t.val + 2 + k.val
  omega

/-- The taps' sum with the bias is the convolution from the bias on. -/
theorem taps_at (k : ℕ) (hk : k ≤ 31) (t : Fin 4096) (e : Fin 512) : taps x2 u k (ix2 t e) + D.cb e.val = conv D t.val e.val k := by
  induction k with
  | zero =>
    unfold taps
    pointwise
    rfl
  | succ k ih =>
    rw [taps, dif_pos (by omega), conv, ← ih (by omega)]
    refine (congrArg (fun a : EReal => taps x2 u k (ix2 t e) + a + D.cb e.val) (tap_at h2 hu ⟨k, by omega⟩ t e)).trans ?_
    exact add_right_comm _ _ _

end Conv

/-! ## The pools -/

/-- A sum of every row up to row `t`. -/
theorem head_sum {x : FVec Ideal S4096x128 .f32} {ini : FVec Ideal S_ .f32} (hu : 0 < S_.numel)
    (h : S4096x128.ReduceWindows ![4096, 1] ![1, 1] ![4095, 0] ![0, 0] S4096x128)
    (hz : ini (Shape.Idx.first hu) = 0) {f : ℕ → ℕ → ℝ} (hx : ∀ (r : Fin 4096) (l : Fin 128), x (ix2 r l) = ((f r.val l.val : ℝ) : EReal))
    (t : Fin 4096) (l : Fin 128) :
    Host.reduceWindowAdd (F := Ideal) ![4096, 1] ![1, 1] ![4095, 0] ![0, 0] x ini h hu (ix2 t l)
      = ((∑ k ∈ Finset.range (t.val + 1), f k l.val : ℝ) : EReal) := by
  refine (Cert.InBwd.Window.window_sum _ _ _ _ x ini h hu hz _).trans ?_
  refine (sum_idx2 (n0 := 4096) (n1 := 1) _).trans ?_
  have e : ∀ n < 4096, ∑ k ∈ Finset.range (n + 1), f k l.val = ∑ k ∈ Finset.range 4096, if 4095 ≤ n + k then f (n + k - 4095) l.val else 0 := by
    intro n hn
    rw [show 4096 = (4095 - n) + (n + 1) by omega, Finset.sum_range_add _ (4095 - n) (n + 1)]
    refine ((congrArg (fun a : ℝ => a + _) (Finset.sum_eq_zero fun k hk => ?_)).trans ((zero_add _).trans (Finset.sum_congr rfl fun k _ => ?_))).symm
    · rw [Finset.mem_range] at hk
      rw [if_neg (by omega)]
    · rw [if_pos (by omega), show n + (4095 - n + k) - 4095 = k by omega]
  rw [e t.val t.isLt, Finset.sum_range, ← up_sum]
  refine Finset.sum_congr rfl fun k _ => ?_
  rw [Finset.univ_unique, Finset.sum_singleton]
  by_cases hk : 4095 ≤ t.val + k.val
  · rw [if_pos hk]
    refine (dif_pos ?_).trans ?_
    · intro a
      match a with
      | 0 => exact ⟨show 4095 ≤ t.val * 1 + k.val by omega, show t.val * 1 + k.val - 4095 < 4096 by omega⟩
      | 1 => exact ⟨show 0 ≤ l.val * 1 + 0 by omega, show l.val * 1 + 0 - 0 < 128 by have := l.isLt; omega⟩
    · refine Eq.trans (congrArg x ?_) (hx ⟨t.val + k.val - 4095, by omega⟩ l)
      funext a
      match a with
      | 0 => exact Fin.ext (show t.val * 1 + k.val - 4095 = t.val + k.val - 4095 by omega)
      | 1 => exact Fin.ext (show l.val * 1 + 0 - 0 = l.val by omega)
  · rw [if_neg hk]
    refine (dif_neg ?_).trans EReal.coe_zero.symm
    intro hin
    have h2 : 4095 ≤ t.val * 1 + k.val := (hin 0).1
    omega

variable {D : Data}

/-- The running sum less that of the rows that have left the window. -/
theorem window_rows (t e w : ℕ) :
    ∑ k ∈ Finset.range (t + 1), D.z k (1024 + e) - (if t < w then 0 else ∑ k ∈ Finset.range (t - w + 1), D.z k (1024 + e))
      = ∑ d ∈ Finset.range w, vB D (t + 32 - d) e := by
  induction w with
  | zero => rw [if_neg (by omega), Finset.sum_range_zero, Nat.sub_zero, sub_self]
  | succ w ih =>
    rw [Finset.sum_range_succ (fun d => vB D (t + 32 - d) e) w, ← ih, vB]
    by_cases h : t < w
    · rw [if_pos h, if_pos (show t < w + 1 by omega), if_neg (show ¬32 ≤ t + 32 - w by omega), add_zero]
    · rw [if_neg h, if_pos (show 32 ≤ t + 32 - w by omega), show t + 32 - w - 32 = t - w by omega]
      by_cases h' : t < w + 1
      · rw [if_pos h', show t - w = 0 by omega, Finset.sum_range_one]
        ring
      · rw [if_neg h', Finset.sum_range_succ _ (t - w), show t - (w + 1) + 1 = t - w by omega]
        ring

theorem pool_part {part : FVec Ideal S4096x128 .f32} {cnt : FVec Ideal S4096x1 .f32} {w m o : ℕ} (hm : w + m = 4096)
    (hpart : ∀ (t : Fin 4096) (l : Fin 128), part (ix2 t l) = ((D.z t.val (1024 + (o + l.val)) : ℝ) : EReal))
    (hcnt : ∀ (t : Fin 4096) (z : Fin 1), cnt (ix2 t z) = (((min (t.val + 1) w : ℕ) : ℝ) : EReal))
    (hw : ∀ l : Fin 128, wlen (o + l.val) = w)
    (hb : S4096x1.BroadcastsInDim S4096x128 ![0, 1]) (hs : S4096x128.Slices ![0, 0] ⟨2, ![m, 128]⟩) (hzb : S_.BroadcastsInDim ⟨2, ![w, 128]⟩ ![])
    (hc : Shape.Concatenates [⟨2, ![w, 128]⟩, ⟨2, ![m, 128]⟩] S4096x128 0) (hu : 0 < S_.numel)
    (h : S4096x128.ReduceWindows ![4096, 1] ![1, 1] ![4095, 0] ![0, 0] S4096x128) {ini : FVec Ideal S_ .f32}
    (hz : ini (Shape.Idx.first hu) = 0) (t : Fin 4096) (l : Fin 128) :
    subf (F := Ideal) (Host.divf (F := Ideal) (subf (F := Ideal) (Host.reduceWindowAdd (F := Ideal) ![4096, 1] ![1, 1] ![4095, 0] ![0, 0] part ini h hu)
      (concatenate S4096x128 0 [⟨⟨2, ![w, 128]⟩, broadcastInDim ⟨2, ![w, 128]⟩ ![] hzb (constant (F := Ideal) S_ .f32 0x00000000#32)⟩,
        ⟨⟨2, ![m, 128]⟩, extractStridedSlice ⟨2, ![m, 128]⟩ ![0, 0] (Host.reduceWindowAdd (F := Ideal) ![4096, 1] ![1, 1] ![4095, 0] ![0, 0] part ini h hu) hs⟩] hc))
      (broadcastInDim S4096x128 ![0, 1] hb cnt)) part (ix2 t l) = ((po D t.val (o + l.val) : ℝ) : EReal) := by
  have hr := head_sum hu h hz (f := fun n l => D.z n (1024 + (o + l))) hpart
  generalize Host.reduceWindowAdd (F := Ideal) ![4096, 1] ![1, 1] ![4095, 0] ![0, 0] part ini h hu = r at hr ⊢
  have hcat : concatenate S4096x128 0 [⟨⟨2, ![w, 128]⟩, broadcastInDim ⟨2, ![w, 128]⟩ ![] hzb (constant (F := Ideal) S_ .f32 0x00000000#32)⟩,
        ⟨⟨2, ![m, 128]⟩, extractStridedSlice ⟨2, ![m, 128]⟩ ![0, 0] r hs⟩] hc (ix2 t l)
      = ((if t.val < w then 0 else ∑ k ∈ Finset.range (t.val - w + 1), D.z k (1024 + (o + l.val)) : ℝ) : EReal) := by
    pointwise
    by_cases c : t.val < w
    · rw [dif_pos c, if_pos c]
      exact EReal.coe_zero.symm
    · rw [dif_neg c, if_neg c]
      have hi : ∀ i : S4096x128.Idx, (i 0).val = t.val - w → (i 1).val = l.val → r i = ((∑ k ∈ Finset.range (t.val - w + 1), D.z k (1024 + (o + l.val)) : ℝ) : EReal) := by
        intro i i0 i1
        refine (congrArg r ?_).trans (hr ⟨t.val - w, by omega⟩ l)
        funext a
        match a with
        | 0 => exact Fin.ext i0
        | 1 => exact Fin.ext i1
      refine hi _ ?_ ?_
      · simp [Shape.Idx.norm_def]
      · simp [Shape.Idx.norm_def]
  generalize concatenate S4096x128 0 _ _ = k at hcat ⊢
  pointwise
  rw [hr, hcat, hcnt, hpart, up_sub, window_rows, ← hw l, Cert.InBwd.Kernel.up_count, up_sub]
  rfl

end Cert.Cp.Reference

end
-- ==== Proof.Cp.Reference.lean ====
/- The reference's five results are the formulas of `Cert.Cp.Spec` on all 4096 rows. -/
module

public import proofs.«01_k».proof.Proof.Cp.Pools

@[expose] public section

set_option maxRecDepth 16384

noncomputable section

namespace Cert.Cp.Reference

open Idealize.ShloMosaic Idealize.ShloMosaic.TcCoe Idealize.SL.Sem
open Cert.CpRefIdeal Cert.CpRefIdeal.Gen Cert.CpRefIdeal.Read Cert.Lift Cert.Cp.Spec
open Cert.InBwd.Spec (wlen)

variable {D : Data}
  {x0 : FVec Ideal S4096x1536 .f32} (h0 : ∀ (r : Fin 4096) (k : Fin 1536), x0 (ix2 r k) = ((D.z r.val k.val : ℝ) : EReal))
  {x1 : FVec Ideal S4096x1024 .f32} (h1 : ∀ (r : Fin 4096) (l : Fin 1024), x1 (ix2 r l) = D.x r.val l.val)
  {x2 : FVec Ideal S31x512 .f32} (h2 : ∀ (k : Fin 31) (e : Fin 512), x2 (ix2 k e) = D.cw k.val e.val)
  {x3 : FVec Ideal S1x512 .f32} (h3 : ∀ (o : Fin 1) (e : Fin 512), x3 (ix2 o e) = D.cb e.val)
  {x4 : FVec Ideal S1x512 .f32} (h4 : ∀ (o : Fin 1) (e : Fin 512), x4 (ix2 o e) = D.lg e.val)
  {x5 : FVec Ideal S1x512 .f32} (h5 : ∀ (o : Fin 1) (e : Fin 512), x5 (ix2 o e) = D.lb e.val)
  {x6 : FVec Ideal S4x128x128 .f32} (h6 : ∀ (c : Fin 4) (k l : Fin 128), x6 (ix3 c k l) = D.pw c.val k.val l.val)
  {x7 : FVec Ideal S1x512 .f32} (h7 : ∀ (o : Fin 1) (e : Fin 512), x7 (ix2 o e) = D.ps e.val)
  {x8 : FVec Ideal S1024x1024 .f32} (h8 : ∀ (k l : Fin 1024), x8 (ix2 k l) = D.wo k.val l.val)
  {x9 : FVec Ideal S1x1024 .f32} (h9 : ∀ (o : Fin 1) (l : Fin 1024), x9 (ix2 o l) = D.gf l.val)

/-! ## The pools -/

/-- The count of rows behind a row, its own included. -/
theorem v236 (t : Fin 4096) (z : Fin 1) : val_main_v236 (F := Ideal) (ix2 t z) = (((t.val + 1 : ℕ) : ℝ) : EReal) := by
  pointwise [val_main_v236, val_main_v235, val_main_v234, val_main_v233, val_main_v232, val_main_c]
  have h := Cert.InBwd.Kernel.word_toInt (t.val + 1) (by omega)
  rw [BitVec.ofNat_add, BitVec.add_comm] at h
  exact (congrArg (fun i : ℤ => ((i : ℝ) : EReal)) h).trans (by rw [Int.cast_natCast])

theorem c_min (b : BitVec 32) (c : Fin 4) (hb : b = Cert.InBwdIdeal.Body.win c) (t : ℕ) :
    min (((t + 1 : ℕ) : ℝ) : EReal) (Ideal.ofBits .f32 b) = (((min (t + 1) (2 ^ (c.val + 1)) : ℕ) : ℝ) : EReal) := by
  rw [hb, Cert.InBwd.Kernel.lit_win, Cert.InBwd.Kernel.min_up]

section Pool
include h0

theorem v247 (t : Fin 4096) (l : Fin 128) : val_main_v247 (F := Ideal) x0 (ix2 t l) = ((po D t.val (0 + l.val) : ℝ) : EReal) :=
  pool_part (w := 2) (m := 4094) (part := val_main_v237 (F := Ideal) x0) (cnt := val_main_v244 (F := Ideal)) rfl
    (fun t l => by pointwise [val_main_v237, val_main_v231]; exact h0 _ _)
    (fun t z => by pointwise [val_main_v244, val_main_v243, val_main_cst_4]; rw [v236]; exact c_min _ 0 rfl _)
    (fun l => by unfold wlen; rw [show (0 + l.val) / 128 = 0 by omega]; rfl)
    bcast_S4096x1_S4096x128_0_1 slices_S4096x128_S4094x128_0_0 bcast_S_S2x128 concatenates_S2x128_S4094x128_S4096x128_d0 h_S_
    reduceWindows_S4096x128_S4096x128_w4096s1p4095_0_w1s1p0_0 (by pointwise [val_main_call0_call0_v0, val_main_call0_call0_cst]) t l

theorem v258 (t : Fin 4096) (l : Fin 128) : val_main_v258 (F := Ideal) x0 (ix2 t l) = ((po D t.val (128 + l.val) : ℝ) : EReal) :=
  pool_part (w := 4) (m := 4092) (part := val_main_v248 (F := Ideal) x0) (cnt := val_main_v255 (F := Ideal)) rfl
    (fun t l => by pointwise [val_main_v248, val_main_v231]; exact h0 _ _)
    (fun t z => by pointwise [val_main_v255, val_main_v254, val_main_cst_6]; rw [v236]; exact c_min _ 1 rfl _)
    (fun l => by unfold wlen; rw [show (128 + l.val) / 128 = 1 by omega]; rfl)
    bcast_S4096x1_S4096x128_0_1 slices_S4096x128_S4092x128_0_0 bcast_S_S4x128 concatenates_S4x128_S4092x128_S4096x128_d0 h_S_
    reduceWindows_S4096x128_S4096x128_w4096s1p4095_0_w1s1p0_0 (by pointwise [val_main_call1_call0_v0, val_main_call1_call0_cst]) t l

theorem v269 (t : Fin 4096) (l : Fin 128) : val_main_v269 (F := Ideal) x0 (ix2 t l) = ((po D t.val (256 + l.val) : ℝ) : EReal) :=
  pool_part (w := 8) (m := 4088) (part := val_main_v259 (F := Ideal) x0) (cnt := val_main_v266 (F := Ideal)) rfl
    (fun t l => by pointwise [val_main_v259, val_main_v231]; exact h0 _ _)
    (fun t z => by pointwise [val_main_v266, val_main_v265, val_main_cst_8]; rw [v236]; exact c_min _ 2 rfl _)
    (fun l => by unfold wlen; rw [show (256 + l.val) / 128 = 2 by omega]; rfl)
    bcast_S4096x1_S4096x128_0_1 slices_S4096x128_S4088x128_0_0 bcast_S_S8x128 concatenates_S8x128_S4088x128_S4096x128_d0 h_S_
    reduceWindows_S4096x128_S4096x128_w4096s1p4095_0_w1s1p0_0 (by pointwise [val_main_call2_call0_v0, val_main_call2_call0_cst]) t l

theorem v280 (t : Fin 4096) (l : Fin 128) : val_main_v280 (F := Ideal) x0 (ix2 t l) = ((po D t.val (384 + l.val) : ℝ) : EReal) :=
  pool_part (w := 16) (m := 4080) (part := val_main_v270 (F := Ideal) x0) (cnt := val_main_v277 (F := Ideal)) rfl
    (fun t l => by pointwise [val_main_v270, val_main_v231]; exact h0 _ _)
    (fun t z => by pointwise [val_main_v277, val_main_v276, val_main_cst_10]; rw [v236]; exact c_min _ 3 rfl _)
    (fun l => by unfold wlen; rw [show (384 + l.val) / 128 = 3 by omega]; rfl)
    bcast_S4096x1_S4096x128_0_1 slices_S4096x128_S4080x128_0_0 bcast_S_S16x128 concatenates_S16x128_S4080x128_S4096x128_d0 h_S_
    reduceWindows_S4096x128_S4096x128_w4096s1p4095_0_w1s1p0_0 (by pointwise [val_main_call3_call0_v0, val_main_call3_call0_cst]) t l

theorem v281 (t : Fin 4096) (e : Fin 512) : val_main_v281 (F := Ideal) x0 (ix2 t e) = ((po D t.val e.val : ℝ) : EReal) := by
  have g0 := v247 h0; have g1 := v258 h0; have g2 := v269 h0; have g3 := v280 h0
  unfold val_main_v281
  generalize val_main_v247 (F := Ideal) x0 = a0 at g0
  generalize val_main_v258 (F := Ideal) x0 = a1 at g1
  generalize val_main_v269 (F := Ideal) x0 = a2 at g2
  generalize val_main_v280 (F := Ideal) x0 = a3 at g3
  pointwise
  by_cases c0 : e.val < 128
  · rw [dif_pos c0]
    exact (g0 _ _).trans (by rw [Nat.zero_add])
  rw [dif_neg c0]
  by_cases c1 : e.val < 256
  · rw [dif_pos (by omega)]
    refine (g1 _ _).trans (congrArg (fun y => ((po D t.val y : ℝ) : EReal)) ?_)
    show 128 + (e.val - 128) = e.val
    omega
  rw [dif_neg (by omega)]
  by_cases c2 : e.val < 384
  · rw [dif_pos (by omega)]
    refine (g2 _ _).trans (congrArg (fun y => ((po D t.val y : ℝ) : EReal)) ?_)
    show 256 + (e.val - 128 - 128) = e.val
    omega
  · rw [dif_neg (by omega)]
    refine (g3 _ _).trans (congrArg (fun y => ((po D t.val y : ℝ) : EReal)) ?_)
    show 384 + (e.val - 128 - 128 - 128) = e.val
    omega

/-- The pooled rows. -/
theorem v316 (t : Fin 4096) (e : Fin 512) : val_main_v316 (F := Ideal) x0 (ix2 t e) = ((po D t.val e.val : ℝ) : EReal) := by
  pointwise [val_main_v316, val_main_v315, val_main_v282]
  exact (v281 h0 _ _).trans (congrArg₂ (fun n y => ((po D n y : ℝ) : EReal)) rfl rfl)

include h6 h7

theorem v287 (t : Fin 4096) (e : Fin 512) : val_main_v287 (F := Ideal) x0 x6 x7 (ix2 t e) = head D t.val e.val := by
  have g := v281 h0
  pointwise [val_main_v287, val_main_v286, val_main_v285, val_main_v284, val_main_v283, val_main_v282]
  generalize val_main_v281 (F := Ideal) x0 = a at g ⊢
  unfold head
  rw [h7]
  refine congrArg (fun a : EReal => a * D.ps e.val) (Finset.sum_congr rfl fun k _ => ?_)
  rw [mul_comm, g, h6]
  show ((po D t.val (e.val / 128 * 128 + k.val) : ℝ) : EReal) * D.pw (e.val / 128) k.val (e.val % 128) = _
  rw [mul_comm (e.val / 128) 128]

end Pool

/-! ## The convolution, the norm and the residual -/

section Rows
include h0 h2 h3

/-- The convolution's rows. -/
theorem v230 (t : Fin 4096) (e : Fin 512) : val_main_v230 (F := Ideal) x0 x2 x3 (ix2 t e) = conv D t.val e.val 31 := by
  have g := taps_at h2 (v10 h0) 31 le_rfl t e
  rw [← v228] at g
  unfold val_main_v230
  generalize val_main_v228 (F := Ideal) x0 x2 = a at g ⊢
  pointwise [val_main_v229]
  rw [h3]
  exact g

theorem v291 (t : Fin 4096) (z : Fin 1) : val_main_v291 (F := Ideal) x0 x2 x3 (ix2 t z) = mean fun e => conv D t.val e.val 31 := by
  pointwise [val_main_v291, val_main_v290, val_main_v289, val_main_v288, val_main_cst_11, val_main_cst_12]
  simp only [v230 h0 h2 h3]
  rfl

theorem v293 (t : Fin 4096) (e : Fin 512) : val_main_v293 (F := Ideal) x0 x2 x3 (ix2 t e) = conv D t.val e.val 31 - mean fun e => conv D t.val e.val 31 := by
  pointwise [val_main_v293, val_main_v292]
  rw [v230 h0 h2 h3, v291 h0 h2 h3]

theorem v300 (t : Fin 4096) (e : Fin 512) : val_main_v300 (F := Ideal) x0 x2 x3 (ix2 t e) = conv D t.val e.val 31 - mean fun e => conv D t.val e.val 31 := by
  pointwise [val_main_v300, val_main_v299]
  rw [v230 h0 h2 h3, v291 h0 h2 h3]

theorem v298 (t : Fin 4096) (z : Fin 1) : val_main_v298 (F := Ideal) x0 x2 x3 (ix2 t z) = spread fun e => conv D t.val e.val 31 := by
  pointwise [val_main_v298, val_main_v297, val_main_v296, val_main_v295, val_main_v294, val_main_cst_13, val_main_cst_14]
  simp only [v293 h0 h2 h3]
  rfl

include h4 h5

theorem v309 (t : Fin 4096) (e : Fin 512) : val_main_v309 (F := Ideal) x0 x2 x3 x4 x5 (ix2 t e) = norm (fun e => conv D t.val e.val 31) D.lg D.lb e := by
  pointwise [val_main_v309, val_main_v308, val_main_v307, val_main_v306, val_main_v305, val_main_v304, val_main_v303, val_main_v302, val_main_v301, val_main_cst_15]
  rw [v300 h0 h2 h3, v298 h0 h2 h3, h4, h5]
  rfl

theorem v310 (t : Fin 4096) (e : Fin 512) : val_main_v310 (F := Ideal) x0 x2 x3 x4 x5 (ix2 t e) = Spec.silu (norm (fun e => conv D t.val e.val 31) D.lg D.lb e) := by
  pointwise [val_main_v310, val_main_call4_v5, val_main_call4_v4, val_main_call4_v3, val_main_call4_v2, val_main_call4_v1, val_main_call4_v0, val_main_call4_cst, val_main_call4_cst_0]
  rw [v309 h0 h2 h3 h4 h5]
  rfl

include h6 h7

theorem v311 (t : Fin 4096) (l : Fin 1024) : val_main_v311 (F := Ideal) x0 x2 x3 x4 x5 x6 x7 (ix2 t l) = mix D t.val l := by
  have g := v310 h0 h2 h3 h4 h5
  have g' := v287 h0 h6 h7
  unfold val_main_v311
  generalize val_main_v310 (F := Ideal) x0 x2 x3 x4 x5 = a at g ⊢
  generalize val_main_v287 (F := Ideal) x0 x6 x7 = b at g' ⊢
  pointwise
  unfold mix
  by_cases h : l.val < 512
  · rw [dif_pos h, dif_pos h]
    exact g _ _
  · rw [dif_neg h, dif_neg h]
    exact g' _ _

/-- The mixers' lanes. -/
theorem v314 (t : Fin 4096) (l : Fin 1024) : val_main_v314 (F := Ideal) x0 x2 x3 x4 x5 x6 x7 (ix2 t l) = mix D t.val l := by
  pointwise [val_main_v314]
  exact v311 h0 h2 h3 h4 h5 h6 h7 t l

include h1 h8

/-- The residual. -/
theorem v313 (t : Fin 4096) (l : Fin 1024) : val_main_v313 (F := Ideal) x0 x1 x2 x3 x4 x5 x6 x7 x8 (ix2 t l) = res D t.val l.val := by
  pointwise [val_main_v313, val_main_v312]
  simp only [h1, h8, v311 h0 h2 h3 h4 h5 h6 h7]
  rfl

include h9

/-- The residual's norm. -/
theorem v329 (t : Fin 4096) (l : Fin 1024) : val_main_v329 (F := Ideal) x0 x1 x2 x3 x4 x5 x6 x7 x8 x9 (ix2 t l) = Spec.scaled D t.val l.val := by
  pointwise [val_main_v329, val_main_v328, val_main_v327, val_main_v326, val_main_v325, val_main_v324, val_main_v323, val_main_v322, val_main_v321, val_main_v320,
    val_main_v319, val_main_v318, val_main_v317, val_main_cst_16, val_main_cst_17, val_main_cst_18]
  simp only [h9, v313 h0 h1 h2 h3 h4 h5 h6 h7 h8]
  rfl

end Rows

end Cert.Cp.Reference

end
-- ==== Proof.Cp.Claim.lean ====
/- The mixers' forward call and the plain forward lines end with equal results. -/
module

public import proofs.«01_k».proof.Proof.Cp.RefRun
public import proofs.«01_k».proof.Defs
public import proofs.«01_k».proof.Proof.Gen.Pre_finite_cp
public import proofs.«01_k».proof.Proof.Cp.Arrays
public import proofs.«01_k».proof.Proof.Cp.Reference
public import proofs.«01_k».proof.Proof.InBwd.Claim

@[expose] public section

set_option maxRecDepth 16384

noncomputable section

namespace Cert.Cp.Claim

open Idealize.ShloMosaic Idealize.ShloMosaic.TcCoe Idealize.SL.Sem
open Cert.Cp.Spec Cert.Finite

/-- A matrix's entries, zero outside it. -/
def vals {a b : ℕ} (A : (⟨2, ![a, b]⟩ : Shape).Idx → EReal) (n l : ℕ) : EReal :=
  if h : n < a ∧ l < b then A (ix2 ⟨n, h.1⟩ ⟨l, h.2⟩) else 0

theorem vals_at {a b : ℕ} (A : (⟨2, ![a, b]⟩ : Shape).Idx → EReal) (n : Fin a) (l : Fin b) : A (ix2 n l) = vals A n.val l.val :=
  have e : vals A n.val l.val = A (ix2 n l) := dif_pos (⟨n.isLt, l.isLt⟩ : n.val < a ∧ l.val < b)
  e.symm

theorem row_at {b : ℕ} (A : (⟨2, ![1, b]⟩ : Shape).Idx → EReal) (o : Fin 1) (l : Fin b) : A (ix2 o l) = vals A 0 l.val := by
  rw [Subsingleton.elim o 0]
  exact vals_at A 0 l

/-- A stack's entries, zero outside it. -/
def vals3 {a b d : ℕ} (A : (⟨3, ![a, b, d]⟩ : Shape).Idx → EReal) (n k l : ℕ) : EReal :=
  if h : n < a ∧ k < b ∧ l < d then A (ix3 ⟨n, h.1⟩ ⟨k, h.2.1⟩ ⟨l, h.2.2⟩) else 0

theorem vals3_at {a b d : ℕ} (A : (⟨3, ![a, b, d]⟩ : Shape).Idx → EReal) (n : Fin a) (k : Fin b) (l : Fin d) :
    A (ix3 n k l) = vals3 A n.val k.val l.val :=
  have e : vals3 A n.val k.val l.val = A (ix3 n k l) := dif_pos (⟨n.isLt, k.isLt, l.isLt⟩ : n.val < a ∧ k.val < b ∧ l.val < d)
  e.symm

variable (m : (ℓ : Loc CpIdeal.nD CpIdeal.τ CpIdeal.sig) → Buf (Elt Ideal) ℓ) (c : Dev CpIdeal.nD)

/-- The arrays a device's arguments hold. -/
def data : Data where
  z := Cert.InBwd.Claim.entries (a := 4096) (b := 1536) (m ((c.tc : Thread CpIdeal.nD CpIdeal.τ).loc CpIdeal.main_arg0))
  x := vals (a := 4096) (b := 1024) (m ((c.tc : Thread CpIdeal.nD CpIdeal.τ).loc CpIdeal.main_arg1))
  cw := vals (a := 31) (b := 512) (m ((c.tc : Thread CpIdeal.nD CpIdeal.τ).loc CpIdeal.main_arg2))
  cb := vals (a := 1) (b := 512) (m ((c.tc : Thread CpIdeal.nD CpIdeal.τ).loc CpIdeal.main_arg3)) 0
  lg := vals (a := 1) (b := 512) (m ((c.tc : Thread CpIdeal.nD CpIdeal.τ).loc CpIdeal.main_arg4)) 0
  lb := vals (a := 1) (b := 512) (m ((c.tc : Thread CpIdeal.nD CpIdeal.τ).loc CpIdeal.main_arg5)) 0
  pw := vals3 (a := 4) (b := 128) (d := 128) (m ((c.tc : Thread CpIdeal.nD CpIdeal.τ).loc CpIdeal.main_arg6))
  ps := vals (a := 1) (b := 512) (m ((c.tc : Thread CpIdeal.nD CpIdeal.τ).loc CpIdeal.main_arg7)) 0
  wo := vals (a := 1024) (b := 1024) (m ((c.tc : Thread CpIdeal.nD CpIdeal.τ).loc CpIdeal.main_arg8))
  gf := vals (a := 1) (b := 1024) (m ((c.tc : Thread CpIdeal.nD CpIdeal.τ).loc CpIdeal.main_arg9)) 0

theorem holds (h : Cert.Pre_CpIdeal_finite_cp (hPre_finite_cp := Cert.Pre_finite_cp.Gen.facts) m) :
    Kernel.Holds m c (data m c) where
  z r k := Cert.InBwd.Claim.entries_at _ r k (real_of_cmp (h c) (ix2 r k))
  x := vals_at _
  cw := vals_at _
  cb := row_at _
  lg := row_at _
  lb := row_at _
  pw := vals3_at _
  ps := row_at _
  wo := vals_at _
  gf := row_at _

set_option maxHeartbeats 4000000 in
/-- The kernel's run: its results are the arrays after the last point, its arguments are as they were. -/
theorem kernel_run (ρ : Dev CpIdeal.nD → PrngReg) : θ_run (CpIdeal.defs (F := Ideal)) (onTc (τ := CpIdeal.τ)
    (CpIdeal.main (F := Ideal))) ⟨m, fun _ => 0, ρ⟩ fun r => ∀ c : Dev CpIdeal.nD,
      let at' := fun b : Ref CpIdeal.sig .tc => r.2.mem ((c.tc : Thread CpIdeal.nD CpIdeal.τ).loc b)
      let A := fun b : Ref CpIdeal.sig .tc => m ((c.tc : Thread CpIdeal.nD CpIdeal.τ).loc b)
      at' CpIdeal.main_v3_0 = (CpIdeal.Body.dats m 0 c).arrAt 11 CpIdeal.cfg0.N
      ∧ at' CpIdeal.main_v3_1 = (CpIdeal.Body.dats m 0 c).arrAt 12 CpIdeal.cfg0.N
      ∧ at' CpIdeal.main_v3_2 = (CpIdeal.Body.dats m 0 c).arrAt 13 CpIdeal.cfg0.N
      ∧ at' CpIdeal.main_v3_3 = (CpIdeal.Body.dats m 0 c).arrAt 14 CpIdeal.cfg0.N
      ∧ at' CpIdeal.main_v3_4 = (CpIdeal.Body.dats m 0 c).arrAt 15 CpIdeal.cfg0.N
      ∧ at' CpIdeal.main_arg0 = A CpIdeal.main_arg0 ∧ at' CpIdeal.main_arg1 = A CpIdeal.main_arg1
      ∧ at' CpIdeal.main_arg2 = A CpIdeal.main_arg2 ∧ at' CpIdeal.main_arg3 = A CpIdeal.main_arg3
      ∧ at' CpIdeal.main_arg4 = A CpIdeal.main_arg4 ∧ at' CpIdeal.main_arg5 = A CpIdeal.main_arg5
      ∧ at' CpIdeal.main_arg6 = A CpIdeal.main_arg6 ∧ at' CpIdeal.main_arg7 = A CpIdeal.main_arg7
      ∧ at' CpIdeal.main_arg8 = A CpIdeal.main_arg8 ∧ at' CpIdeal.main_arg9 = A CpIdeal.main_arg9 :=
  (θ_run CpIdeal.defs _ _).mono (fun _ h c => ⟨(h.1 c).1 11, (h.1 c).1 12, (h.1 c).1 13, (h.1 c).1 14, (h.1 c).1 15, h.2.1 c⟩)
    (θ_run_and (CpIdeal.Body.run_main m ρ) (CpIdeal.Body.frame_holds m ρ))

set_option maxHeartbeats 4000000 in
theorem algebraic : Cert.algebraic_CpIdeal_CpRefIdeal_pre_finite_cp (hCpIdeal := Cert.CpIdeal.Gen.facts)
    (hCpRefIdeal := Cert.CpRefIdeal.Gen.facts) (hPre_finite_cp := Cert.Pre_finite_cp.Gen.facts) := by
  pair_intro
  · run_from kernel_run m g
  · run_from Cert.CpRefIdeal.Whole.reference_run m' g'
    · have H := holds m c hpre
      refine Eq.trans (funext fun i => ?_) (Kernel.final11 H).symm
      rw [Cert.Rows.ix2_eta i]
      exact Reference.v313 H.z H.x H.cw H.cb H.lg H.lb H.pw H.ps H.wo (i 0) (i 1)
    · have H := holds m c hpre
      refine Eq.trans (funext fun i => ?_) (Kernel.final12 H).symm
      rw [Cert.Rows.ix2_eta i]
      exact Reference.v314 H.z H.cw H.cb H.lg H.lb H.pw H.ps (i 0) (i 1)
    · have H := holds m c hpre
      refine Eq.trans (funext fun i => ?_) (Kernel.final13 H).symm
      rw [Cert.Rows.ix2_eta i]
      exact Reference.v230 H.z H.cw H.cb (i 0) (i 1)
    · have H := holds m c hpre
      refine Eq.trans (funext fun i => ?_) (Kernel.final14 H).symm
      rw [Cert.Rows.ix2_eta i]
      exact Reference.v316 H.z (i 0) (i 1)
    · have H := holds m c hpre
      refine Eq.trans (funext fun i => ?_) (Kernel.final15 H).symm
      rw [Cert.Rows.ix2_eta i]
      exact Reference.v329 H.z H.x H.cw H.cb H.lg H.lb H.pw H.ps H.wo H.gf (i 0) (i 1)

end Cert.Cp.Claim

end
-- ==== Proof.Mi.Body.lean ====
/- The mixers' input: what its body does at one point of the grid. -/
module

public import proofs.«01_k».proof.Proof.Gen.MiIdeal.Skeleton
public import proofs.«01_k».proof.Proof.Gen.MiIdeal.Launch
public import Idealize.ShloMosaic.Lib.Pipeline.Frame
public import Idealize.ShloMosaic.Lib.Exec
public import Idealize.ShloMosaic.Lib.VecWindow
public import Idealize.ShloMosaic.Lib.Tactic

@[expose] public section

set_option maxRecDepth 16384

noncomputable section

namespace Cert.MiIdeal.Body

open Cert.MiIdeal Cert.MiIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The table, the planes of the weight, and the two scratch buffers. -/
abbrev tab : Memref sig .tc .smem S4 .i32 := Memref.whole main_v19
abbrev planes : Memref sig .tc .hbm S4x1024x384 .bf16 := Memref.whole main_v2
abbrev hM : Memref sig .tc .vmem S4x1024x1024 .bf16 := Memref.whole cc0_scratch0
abbrev wM : Memref sig .tc .vmem S1024x384 .bf16 := Memref.whole cc0_scratch1

/-- The contents of a memref's buffer, and the buffer held whole at them. -/
abbrev Cont (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (q : PosShare TreeShare) (f : Cont (F := F) c M) : sProp 𝕄 :=
  M.view.loc (c : Thread nD τ) ↦{q} f

/-- The word of the table at a point. -/
abbrev word (c : Dev nD) (i : grid0.Coords) (h : k0_cond1 i = 1#1) (T : Cont (F := F) c tab) : BitVec 32 :=
  tab.view.readAt (Elt F) (Rect.unit (s := S4) (k0_off2 i) S1.size (k0_off2_inb i h)) T (Shape.Idx.first (numel1_S1.symm ▸ Nat.one_pos))

/-- The plane of the weight that the body fetches at a point. -/
abbrev plane (c : Dev nD) (i : grid0.Coords) (h : k0_cond1 i = 1#1) (T : Cont (F := F) c tab) (P : Cont (F := F) c planes)
    (hw : k0_chk1 i (word c i h T)) : Vec F S1024x384 .bf16 :=
  ((planes.slice (Rect.unit (s := S4x1024x384) (k0_off3 (word c i h T)) S1x1024x384.size (k0_off3_inb i _ hw h)) (fun _ => rfl)).squeeze S1024x384
    squeezes_S1x1024x384_S1024x384).view.read (Elt F) P

/-- The band of the kept rows that a point reads, and the kept rows after a point has written its band. -/
abbrev band (i : grid0.Coords) (H : Vec F S4x1024x1024 .bf16) : Vec F S1x1024x1024 .bf16 := VecWindow.window H (k0_off5 i) S1x1024x1024.size (k0_off5_inb i)
abbrev kept (i : grid0.Coords) (H : Vec F S4x1024x1024 .bf16) (x : Vec F S1024x1024 .f32) (g : Vec F S1x1024 .f32) : Vec F S4x1024x1024 .bf16 :=
  VecWindow.put H (k0_off5 i) S1x1024x1024.size (k0_pay1 x g)

/-- What the body holds besides its output: its two inputs, its two scratch buffers, its semaphore at zero, the planes and the table. -/
def State (c : Dev nD) (a3 : Memref sig .tc .vmem S1024x1024 .f32) (a4 : Memref sig .tc .vmem S1x1024 .f32) (x : Vec F S1024x1024 .f32) (g : Vec F S1x1024 .f32)
    (H : Vec F S4x1024x1024 .bf16) (w : Vec F S1024x384 .bf16) (T : Cont (F := F) c tab) (P : Cont (F := F) c planes) : sProp 𝕄 :=
  iprop(owns (c : Thread nD τ) a3 fullShare x ∗ owns (c : Thread nD τ) a4 fullShare g ∗ owns (c : Thread nD τ) hM fullShare H ∗ owns (c : Thread nD τ) wM fullShare w
    ∗ semVal ((c : Thread nD τ), SemLoc.dma 5) 0 ∗ held c planes fullShare P ∗ held c tab fullShare.right T)

/-- The body run from the state at `H`, `w` ends in the state at `H'`, `w'`, its output the product of its band of `H'` with `w'`. -/
def Runs (c : Dev nD) (i : grid0.Coords) (x : Vec F S1024x1024 .f32) (g : Vec F S1x1024 .f32) (T : Cont (F := F) c tab) (P : Cont (F := F) c planes)
    (H : Vec F S4x1024x1024 .bf16) (w : Vec F S1024x384 .bf16) (H' : Vec F S4x1024x1024 .bf16) (w' : Vec F S1024x384 .bf16) : Prop :=
  ∀ (a3 : Memref sig .tc .vmem S1024x1024 .f32) (w3 : a3.IsWhole) (a4 : Memref sig .tc .vmem S1x1024 .f32) (w4 : a4.IsWhole)
    (a6 : Memref sig .tc .vmem S1024x384 .f32) (w6 : a6.IsWhole) (W : Waits sig Unit) (K : PUnit → sProp 𝕄),
    iprop(State c a3 a4 x g H w T P ∗ (∃ d, owns (c : Thread nD τ) a6 fullShare d) ∗ owes (c : Thread nD τ) 0 W
        ∗ (iprop(State c a3 a4 x g H' w' T P ∗ owns (c : Thread nD τ) a6 fullShare (k0_pay2 (band i H') w') ∗ (∃ W', owes (c : Thread nD τ) 0 W')) -∗ K ⟨⟩))
      ⊢ wp frame (wpE (defs₀ (F := F)) Variants.none c none) Set.univ
          (cc0_mix_in i tab (Memref.isWhole_whole _) a3 w3 a4 w4 planes (Memref.isWhole_whole _) a6 w6 hM (Memref.isWhole_whole _) wM (Memref.isWhole_whole _) cc0_scratch2) K

variable (c : Dev nD) (i : grid0.Coords) (x : Vec F S1024x1024 .f32) (g : Vec F S1x1024 .f32) (T : Cont (F := F) c tab) (P : Cont (F := F) c planes)
  (H : Vec F S4x1024x1024 .bf16) (w : Vec F S1024x384 .bf16)

/-- The band just written reads back. -/
theorem band_kept : band i (kept i H x g) = k0_pay1 x g := VecWindow.window_put_same _ _ _ _ _

/-- The two spellings of a point's offsets among the kept rows agree. -/
theorem off_eq : k0_off4 i = k0_off5 i := rfl

section Reads
variable {a3 : Memref sig .tc .vmem S1024x1024 .f32} (w3 : a3.IsWhole) {a4 : Memref sig .tc .vmem S1x1024 .f32} (w4 : a4.IsWhole) (h2 : k0_cond2 i = 1#1)

/-- The one piece the body stores among the kept rows. -/
abbrev piece : View.Piece (Elt F) S4x1024x1024 .bf16 :=
  ⟨Rect.unit (s := S4x1024x1024) (k0_off4 i) S1x1024x1024.size (k0_off4_inb i h2),
    k0_pay1 (a3.view.readAt (Elt F) (Rect.unit (s := S1024x1024) ![0, 0] S1024x1024.size inb_S1024x1024_S1024x1024_0_0).toLoadRect (w3.unread x))
      (a4.view.readAt (Elt F) (Rect.unit (s := S1x1024) ![0, 0] S1x1024.size inb_S1x1024_S1x1024_0_0).toLoadRect (w4.unread g))⟩

theorem piece_pay : (piece (F := F) i x g w3 w4 h2).2 = k0_pay1 x g :=
  congrArg₂ k0_pay1 ((View.readAt_full _ _ _).trans (w3.read_unread x)) ((View.readAt_full _ _ _).trans (w4.read_unread g))

theorem read_kept {f : Cont (F := F) c hM} (hf : hM.view.read (Elt F) f = H) :
    hM.view.read (Elt F) (hM.view.writes (Elt F) f [piece i x g w3 w4 h2]) = kept i H x g := by
  refine (View.read_writes_cons_put _ _ _ _ _ (off_eq i)).trans ?_
  rw [View.writes_nil, hf]
  exact congrArg (VecWindow.put H (k0_off5 i) S1x1024x1024.size) (piece_pay i x g w3 w4 h2)

theorem cov_kept : hM.view.readCov [piece (F := F) i x g w3 w4 h2] (Rect.unit (s := S4x1024x1024) (k0_off5 i) S1x1024x1024.size (k0_off5_inb i)).toLoadRect = band i (kept i H x g) :=
  (View.readAt_unit _ _ _ rfl (k0_off5_inb i)).trans
    ((congrArg (band i) (read_kept 0 i x g _ w3 w4 h2 rfl)).trans ((band_kept i x g _).trans (band_kept i x g H).symm))

theorem read_band {f : Cont (F := F) c hM} (hf : hM.view.read (Elt F) f = H) :
    hM.view.readAt (Elt F) (Rect.unit (s := S4x1024x1024) (k0_off5 i) S1x1024x1024.size (k0_off5_inb i)).toLoadRect f = band i H :=
  (View.readAt_unit _ _ _ rfl (k0_off5_inb i)).trans (congrArg (band i) hf)

/-- A buffer written whole reads back what was written. -/
theorem read_whole (f : Cont (F := F) c wM) : wM.view.read (Elt F) (wM.view.writes (Elt F) f [⟨Rect.whole S1024x384, w⟩]) = w := by
  funext y
  exact View.read_writes_cons_unit_of_mem wM.view f _ w [] y y rfl fun a => by show _ = 0 + _; omega

theorem cov_whole : wM.view.readCov [⟨Rect.whole S1024x384, w⟩] (Rect.unit (s := S1024x384) ![0, 0] S1024x384.size inb_S1024x384_S1024x384_0_0).toLoadRect = w :=
  (View.readAt_full _ _ _).trans (read_whole 0 w _)

end Reads

set_option maxHeartbeats 1000000 in
/-- The body at the first point of all: it fetches the plane and writes its band. -/
theorem run_A (h1 : k0_cond1 i = 1#1) (hw : k0_chk1 i (word c i h1 T)) (h2 : k0_cond2 i = 1#1) : Runs c i x g T P H w (kept i H x g) (plane c i h1 T P hw) := by
  intro a3 w3 a4 w4 a6 w6 W K
  simp only [cc0_mix_in_eq_skeleton]; unfold cc0_mix_in_skel
  unfold State owns
  iintro ⟨⟨⟨%f0, %hf0, H0⟩, ⟨%f1, %hf1, H1⟩, ⟨%fs0, %hs0, HS0⟩, ⟨%fs1, %hs1, HS1⟩, Hq, Hp, Ht⟩, ⟨%d2, %f2, -, H2⟩, HW, Hk⟩
  obtain rfl := w3.eq_unread hf0; obtain rfl := w4.eq_unread hf1
  sl_exec (disch := first | sl_exact h1 | sl_exact h2 | sl_exact hw)
  sl_step
  iapply Hk
  isplitr [H2 HW]
  · isplitl [H0]; · iexists _; isplitr; swap; iexact H0; ipureintro; exact hf0
    isplitl [H1]; · iexists _; isplitr; swap; iexact H1; ipureintro; exact hf1
    isplitl [HS0]; · iexists _; isplitr; swap; iexact HS0; ipureintro; exact read_kept c i x g H w3 w4 h2 hs0
    isplitl [HS1]; · iexists _; isplitr; swap; iexact HS1; ipureintro; exact read_whole c _ _
    isplitl [Hq]; · iexact Hq
    isplitl [Hp]; · iexact Hp
    iexact Ht
  isplitl [H2]
  · iexists _; isplitr; swap; iexact H2; ipureintro
    exact (View.read_writes_full _ _ _ _ _).trans (congrArg₂ k0_pay2 (cov_kept i x g H w3 w4 h2) (cov_whole _))
  iexists _; iexact HW

set_option maxHeartbeats 1000000 in
/-- The body where it writes its band under the plane fetched before. -/
theorem run_B (h1 : ¬ k0_cond1 i = 1#1) (h2 : k0_cond2 i = 1#1) : Runs c i x g T P H w (kept i H x g) w := by
  intro a3 w3 a4 w4 a6 w6 W K
  simp only [cc0_mix_in_eq_skeleton]; unfold cc0_mix_in_skel
  unfold State owns
  iintro ⟨⟨⟨%f0, %hf0, H0⟩, ⟨%f1, %hf1, H1⟩, ⟨%fs0, %hs0, HS0⟩, ⟨%fs1, %hs1, HS1⟩, Hq, Hp, Ht⟩, ⟨%d2, %f2, -, H2⟩, HW, Hk⟩
  obtain rfl := w3.eq_unread hf0; obtain rfl := w4.eq_unread hf1
  sl_exec (disch := first | sl_exact h1 | sl_exact h2)
  sl_step
  iapply Hk
  isplitr [H2 HW]
  · isplitl [H0]; · iexists _; isplitr; swap; iexact H0; ipureintro; exact hf0
    isplitl [H1]; · iexists _; isplitr; swap; iexact H1; ipureintro; exact hf1
    isplitl [HS0]; · iexists _; isplitr; swap; iexact HS0; ipureintro; exact read_kept c i x g H w3 w4 h2 hs0
    isplitl [HS1]; · iexists _; isplitr; swap; iexact HS1; ipureintro; exact hs1
    isplitl [Hq]; · iexact Hq
    isplitl [Hp]; · iexact Hp
    iexact Ht
  isplitl [H2]
  · iexists _; isplitr; swap; iexact H2; ipureintro
    exact (View.read_writes_full _ _ _ _ _).trans (congrArg₂ k0_pay2 (cov_kept i x g H w3 w4 h2) ((View.readAt_full _ _ _).trans hs1))
  iexists _; iexact HW

set_option maxHeartbeats 1000000 in
/-- The body where it fetches a plane and reads a band written before. -/
theorem run_C (h1 : k0_cond1 i = 1#1) (hw : k0_chk1 i (word c i h1 T)) (h2 : ¬ k0_cond2 i = 1#1) : Runs c i x g T P H w H (plane c i h1 T P hw) := by
  intro a3 w3 a4 w4 a6 w6 W K
  simp only [cc0_mix_in_eq_skeleton]; unfold cc0_mix_in_skel
  unfold State owns
  iintro ⟨⟨⟨%f0, %hf0, H0⟩, ⟨%f1, %hf1, H1⟩, ⟨%fs0, %hs0, HS0⟩, ⟨%fs1, %hs1, HS1⟩, Hq, Hp, Ht⟩, ⟨%d2, %f2, -, H2⟩, HW, Hk⟩
  obtain rfl := w3.eq_unread hf0; obtain rfl := w4.eq_unread hf1
  sl_exec (disch := first | sl_exact h1 | sl_exact h2 | sl_exact hw)
  sl_step
  iapply Hk
  isplitr [H2 HW]
  · isplitl [H0]; · iexists _; isplitr; swap; iexact H0; ipureintro; exact hf0
    isplitl [H1]; · iexists _; isplitr; swap; iexact H1; ipureintro; exact hf1
    isplitl [HS0]; · iexists _; isplitr; swap; iexact HS0; ipureintro; exact hs0
    isplitl [HS1]; · iexists _; isplitr; swap; iexact HS1; ipureintro; exact read_whole c _ _
    isplitl [Hq]; · iexact Hq
    isplitl [Hp]; · iexact Hp
    iexact Ht
  isplitl [H2]
  · iexists _; isplitr; swap; iexact H2; ipureintro
    exact (View.read_writes_full _ _ _ _ _).trans (congrArg₂ k0_pay2 (read_band c i H hs0) (cov_whole _))
  iexists _; iexact HW

set_option maxHeartbeats 1000000 in
/-- The body where it does neither. -/
theorem run_D (h1 : ¬ k0_cond1 i = 1#1) (h2 : ¬ k0_cond2 i = 1#1) : Runs c i x g T P H w H w := by
  intro a3 w3 a4 w4 a6 w6 W K
  simp only [cc0_mix_in_eq_skeleton]; unfold cc0_mix_in_skel
  unfold State owns
  iintro ⟨⟨⟨%f0, %hf0, H0⟩, ⟨%f1, %hf1, H1⟩, ⟨%fs0, %hs0, HS0⟩, ⟨%fs1, %hs1, HS1⟩, Hq, Hp, Ht⟩, ⟨%d2, %f2, -, H2⟩, HW, Hk⟩
  obtain rfl := w3.eq_unread hf0; obtain rfl := w4.eq_unread hf1
  sl_exec (disch := first | sl_exact h1 | sl_exact h2)
  sl_step
  iapply Hk
  isplitr [H2 HW]
  · isplitl [H0]; · iexists _; isplitr; swap; iexact H0; ipureintro; exact hf0
    isplitl [H1]; · iexists _; isplitr; swap; iexact H1; ipureintro; exact hf1
    isplitl [HS0]; · iexists _; isplitr; swap; iexact HS0; ipureintro; exact hs0
    isplitl [HS1]; · iexists _; isplitr; swap; iexact HS1; ipureintro; exact hs1
    isplitl [Hq]; · iexact Hq
    isplitl [Hp]; · iexact Hp
    iexact Ht
  isplitl [H2]
  · iexists _; isplitr; swap; iexact H2; ipureintro
    exact (View.read_writes_full _ _ _ _ _).trans (congrArg₂ k0_pay2 (read_band c i H hs0) ((View.readAt_full _ _ _).trans hs1))
  iexists _; iexact HW

end Cert.MiIdeal.Body

end
-- ==== Proof.Mi.Table.lean ====
/- The mixers' input: the table of planes that its host lines write, and what the region finds in every buffer. -/
module

public import proofs.«01_k».proof.Proof.Mi.Body
public import Idealize.ShloMosaic.Lib.Pipeline.FrameBody
public import Idealize.ShloMosaic.Lib.WordCmp
public import Idealize.ShloMosaic.Lib.Pipeline.ValueKit
public import Idealize.ShloMosaic.Lib.Claim

@[expose] public section

set_option maxRecDepth 16384

noncomputable section

namespace Cert.MiIdeal.Body

open Cert.MiIdeal Cert.MiIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffers when the region is entered: the host lines have run. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The planes in the order the kernel takes them. -/
def order : Fin 4 → Fin 4 := ![0, 2, 1, 3]

/-- The table's words. -/
def words : S4.Idx → BitVec 32 := fun y => BitVec.ofNat 32 (order (y 0)).val

/-- What the table holds. -/
def tbl : pre0.Contents (Elt F) := fun | 0 => words | ⟨_ + 1, h⟩ => absurd h (Nat.not_lt.2 (Nat.le_add_left _ _))

/-- The table's places. -/
def place (n : Fin 4) : S4.Idx := fun a => match a with | 0 => n

theorem place_eta (y : S4.Idx) : place (y 0) = y := funext fun a => by match a with | 0 => rfl

/-- One word, as the host lines spell it. -/
abbrev one (w : BitVec 32) : S1.Idx → BitVec 32 := broadcastInDim (s := S_) S1 ![] bcast_S_S1 (fun _ => w)

theorem word0 (c : Dev nD) : @Eq (S1.Idx → BitVec 32) (V m c main_v15) (one (2#32 * 0#32 + 0#32)) := by rfl
theorem word1 (c : Dev nD) : @Eq (S1.Idx → BitVec 32) (V m c main_v16) (one (2#32 * (1#32 - 0#32) + 0#32)) := by rfl
theorem word2 (c : Dev nD) : @Eq (S1.Idx → BitVec 32) (V m c main_v17) (one (2#32 * 0#32 + 1#32 - 0#32)) := by rfl
theorem word3 (c : Dev nD) : @Eq (S1.Idx → BitVec 32) (V m c main_v18) (one (2#32 * (1#32 - 0#32) + 1#32 - 0#32)) := by rfl

theorem table_concat (c : Dev nD) : @Eq (S4.Idx → BitVec 32) (V m c main_v19)
    (concatenate S4 0 [⟨S1, (show S1.Idx → BitVec 32 from V m c main_v15)⟩, ⟨S1, (show S1.Idx → BitVec 32 from V m c main_v16)⟩,
      ⟨S1, (show S1.Idx → BitVec 32 from V m c main_v17)⟩, ⟨S1, (show S1.Idx → BitVec 32 from V m c main_v18)⟩] concatenates_S1_S1_S1_S1_S4_d0) := by rfl

theorem table_lines (c : Dev nD) : @Eq (S4.Idx → BitVec 32) (V m c main_v19)
    (concatenate S4 0 [⟨S1, one (2#32 * 0#32 + 0#32)⟩, ⟨S1, one (2#32 * (1#32 - 0#32) + 0#32)⟩, ⟨S1, one (2#32 * 0#32 + 1#32 - 0#32)⟩, ⟨S1, one (2#32 * (1#32 - 0#32) + 1#32 - 0#32)⟩] concatenates_S1_S1_S1_S1_S4_d0) := by
  refine (table_concat m c).trans ?_
  have h : ∀ a a' b b' d d' e e' : S1.Idx → BitVec 32, a = a' → b = b' → d = d' → e = e' →
      concatenate S4 0 [⟨S1, a⟩, ⟨S1, b⟩, ⟨S1, d⟩, ⟨S1, e⟩] concatenates_S1_S1_S1_S1_S4_d0 = concatenate S4 0 [⟨S1, a'⟩, ⟨S1, b'⟩, ⟨S1, d'⟩, ⟨S1, e'⟩] concatenates_S1_S1_S1_S1_S4_d0 := by
    rintro a _ b _ d _ e _ rfl rfl rfl rfl; rfl
  exact h _ _ _ _ _ _ _ _ (word0 m c) (word1 m c) (word2 m c) (word3 m c)

theorem table_words (n : Fin 4) : concatenate S4 0 [⟨S1, one (2#32 * 0#32 + 0#32)⟩, ⟨S1, one (2#32 * (1#32 - 0#32) + 0#32)⟩, ⟨S1, one (2#32 * 0#32 + 1#32 - 0#32)⟩, ⟨S1, one (2#32 * (1#32 - 0#32) + 1#32 - 0#32)⟩] concatenates_S1_S1_S1_S1_S4_d0 (place n) = words (place n) :=
  (by decide +kernel : ∀ n, concatenate S4 0 [⟨S1, one (2#32 * 0#32 + 0#32)⟩, ⟨S1, one (2#32 * (1#32 - 0#32) + 0#32)⟩, ⟨S1, one (2#32 * 0#32 + 1#32 - 0#32)⟩, ⟨S1, one (2#32 * (1#32 - 0#32) + 1#32 - 0#32)⟩] concatenates_S1_S1_S1_S1_S4_d0 (place n) = words (place n)) n

theorem V_table (c : Dev nD) : @Eq (S4.Idx → BitVec 32) (V m c main_v19) words :=
  (table_lines m c).trans (funext fun y => place_eta y ▸ table_words (y 0))

/-- The block of the product that a point writes: its tile of the rows, its plane's columns. -/
theorem out_index (i : grid0.Coords) : cc0_transform_3 k0_off1_inb numel1_S1 (tbl (F := F)) i = ![(i 1).val, (order (i 0)).val] :=
  (by decide +kernel : ∀ i : grid0.Coords, ![(BitVec.ofNat 32 (i 1).val).toNat,
    (words ((Rect.unit (s := S4) ![(Scalar.indexCast (BitVec.ofNat 32 (i 0).val)).toNat] S1.size (k0_off1_inb i)).idx (Shape.Idx.first (numel1_S1.symm ▸ Nat.one_pos)))).toNat]
      = ![(i 1).val, (order (i 0)).val]) i

theorem tbl_ok : ok0 (tbl (F := F)) := fun i => by
  refine ⟨fun a => ?_, Or.inl rfl⟩
  rw [out_index i]
  exact (by decide +kernel : ∀ (i : grid0.Coords) (a : Fin 2), ((![(i 1).val, (order (i 0)).val] : Fin 2 → ℕ) a + 1) * S1024x384.size a ≤ S4096x1536.size a) i a

/-- The table's contents, admitted. -/
def adm : (pcfg0 (F := F)).Adm := ⟨tbl, tbl_ok⟩

end Cert.MiIdeal.Body

end
-- ==== Proof.Mi.Frame.lean ====
/- The mixers' input: what its buffers hold between the points of the grid, and its whole run. -/
module

public import proofs.«01_k».proof.Proof.Mi.Table

@[expose] public section

set_option maxRecDepth 16384

noncomputable section

namespace Cert.MiIdeal.Body

open Cert.MiIdeal Cert.MiIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The pipeline at the table's contents. -/
abbrev cfgM : Cfg sig Λ₀ := cfg0 (F := F) adm

/-! ## The grid -/

theorem coord0 (t : Fin grid0.N) : (grid0.coords t 0).val = t.val / 4 := by
  have ht : t.val < 16 := Nat.lt_of_lt_of_eq t.isLt N_0
  have e : (grid0.coords t 0).val = t.val / 4 % 4 := Pipeline.Grid.coords_val t 0 (by decide) rfl
  omega

theorem coord1 (t : Fin grid0.N) : (grid0.coords t 1).val = t.val % 4 := by
  have e : (grid0.coords t 1).val = t.val / 1 % 4 := Pipeline.Grid.coords_val t 1 (by decide) rfl
  omega

theorem cond1_iff (t : Fin grid0.N) : k0_cond1 (grid0.coords t) = 1#1 ↔ t.val % 4 = 0 := by
  have ht : t.val < 16 := Nat.lt_of_lt_of_eq t.isLt N_0
  have e1 := coord1 t
  simp only [k0_cond1, e1]
  word_cmp

theorem cond2_iff (t : Fin grid0.N) : k0_cond2 (grid0.coords t) = 1#1 ↔ t.val < 4 := by
  have ht : t.val < 16 := Nat.lt_of_lt_of_eq t.isLt N_0
  have e0 := coord0 t
  simp only [k0_cond2, e0]
  word_cmp

/-- The number of a point's tile, and of its plane. -/
def tileOf (t : Fin grid0.N) : Fin 4 := ⟨t.val % 4, by omega⟩
def planeOf (t : Fin grid0.N) : Fin 4 := order ⟨t.val / 4, by have := Nat.lt_of_lt_of_eq t.isLt N_0; omega⟩

/-! ## The blocks -/

/-- A window's block at a point. -/
def iblk (c : Dev nD) (w : Fin (cfgM (F := F)).W) (t : Fin (cfgM (F := F)).N) : (((cfgM (F := F)).win w).xblock ((cfgM (F := F)).grid.coords t)).Idx → Elt F ((cfgM (F := F)).win w).elt :=
  (((cfgM (F := F)).win w).blk t).view.read (Elt F) (V m c (Pipeline.arrRef spec0 w))

theorem before0 {c : Dev nD} (dat : Dat τ (Elt F) Unit ℕ (Pipeline.UD sig nD τ) ℕ cfgM c) (hA : dat.A 0 = V m c (Pipeline.arrRef spec0 0))
    (hafter : ∀ t, dat.after 0 t = iblk m c 0 t) (t : Fin (cfgM (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1 {c : Dev nD} (dat : Dat τ (Elt F) Unit ℕ (Pipeline.UD sig nD τ) ℕ cfgM c) (hA : dat.A 1 = V m c (Pipeline.arrRef spec0 1))
    (hafter : ∀ t, dat.after 1 t = iblk m c 1 t) (t : Fin (cfgM (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The tile of the rows at a point, and the gains. -/
abbrev xAt (c : Dev nD) (t : Fin (cfgM (F := F)).N) : Vec F S1024x1024 .f32 := iblk m c 0 t
abbrev gAt (c : Dev nD) (t : Fin (cfgM (F := F)).N) : Vec F S1x1024 .f32 := iblk m c 1 t

/-- The first four points. -/
def early (j : Fin 4) : Fin (cfgM (F := F)).N := ⟨j.val, by have : grid0.N = 16 := N_0; show j.val < grid0.N; omega⟩

/-- The normed rows of a tile: what one of the first four points writes. -/
def normed (c : Dev nD) (j : Fin 4) : Vec F S1x1024x1024 .bf16 := k0_pay1 (xAt m c (early j)) (gAt m c (early j))

/-! ## Bands and planes by number -/

theorem band_inb (j : Fin 4) : ∀ a, (![j.val, 0, 0] : Fin 3 → ℕ) a + S1x1024x1024.size a ≤ S4x1024x1024.size a :=
  (by decide : ∀ (j : Fin 4) (a : Fin 3), (![j.val, 0, 0] : Fin 3 → ℕ) a + S1x1024x1024.size a ≤ S4x1024x1024.size a) j

/-- A band of the kept rows by its number. -/
def bandOf (j : Fin 4) (H : Vec F S4x1024x1024 .bf16) : Vec F S1x1024x1024 .bf16 :=
  VecWindow.window (s := S4x1024x1024) H ![j.val, 0, 0] S1x1024x1024.size (band_inb j)

theorem window_congr {α : Type} {s : Shape} (H : s.Idx → α) {off off' size : Fin s.rank → ℕ} (h : off = off') (inb : ∀ a, off a + size a ≤ s.size a)
    (inb' : ∀ a, off' a + size a ≤ s.size a) : VecWindow.window H off size inb = VecWindow.window H off' size inb' := by
  subst h; rfl

theorem band_off (t : Fin grid0.N) : k0_off5 (grid0.coords t) = ![(tileOf t).val, 0, 0] := by
  rw [k0_off5_eq, coord1]; rfl

theorem band_eq (t : Fin grid0.N) (H : Vec F S4x1024x1024 .bf16) : band (grid0.coords t) H = bandOf (tileOf t) H :=
  window_congr H (band_off t) _ _

theorem bandOf_kept (t : Fin grid0.N) (H : Vec F S4x1024x1024 .bf16) (x : Vec F S1024x1024 .f32) (g : Vec F S1x1024 .f32) :
    bandOf (tileOf t) (kept (grid0.coords t) H x g) = k0_pay1 x g :=
  (band_eq t _).symm.trans (band_kept _ x g H)

theorem bandOf_other (t : Fin grid0.N) (j : Fin 4) (hj : j ≠ tileOf t) (H : Vec F S4x1024x1024 .bf16) (x : Vec F S1024x1024 .f32) (g : Vec F S1x1024 .f32) :
    bandOf j (kept (grid0.coords t) H x g) = bandOf j H := by
  unfold bandOf
  refine VecWindow.window_put_of_disjoint (s := S4x1024x1024) H _ _ _ _ (band_inb j) _ (0 : Fin 3) ?_
  rw [band_off t]
  have : j.val ≠ (tileOf t).val := fun h => hj (Fin.ext h)
  show j.val + 1 ≤ (tileOf t).val ∨ (tileOf t).val + 1 ≤ j.val
  omega

theorem plane_inb (n : Fin 4) : ∀ a, (![n.val, 0, 0] : Fin 3 → ℕ) a + S1x1024x384.size a ≤ S4x1024x384.size a :=
  (by decide : ∀ (n : Fin 4) (a : Fin 3), (![n.val, 0, 0] : Fin 3 → ℕ) a + S1x1024x384.size a ≤ S4x1024x384.size a) n

/-- A plane of the weight by its number. -/
def planeNo (c : Dev nD) (n : Fin 4) (P : Cont (F := F) c planes) : Vec F S1024x384 .bf16 :=
  ((planes.slice (Rect.unit (s := S4x1024x384) ![n.val, 0, 0] S1x1024x384.size (plane_inb n)) (fun _ => rfl)).squeeze S1024x384
    squeezes_S1x1024x384_S1024x384).view.read (Elt F) P

theorem word_eq (c : Dev nD) (t : Fin grid0.N) (h : k0_cond1 (grid0.coords t) = 1#1) : word (F := F) c (grid0.coords t) h words = BitVec.ofNat 32 (planeOf t).val := by
  have e : (planeOf t).val = (order (grid0.coords t 0)).val := congrArg (fun n => (order n).val) (Fin.ext (coord0 t).symm)
  rw [e]
  exact (by decide +kernel : ∀ i : grid0.Coords, words ((Rect.unit (s := S4) (k0_off2 i) S1.size (fun a => k0_off1_inb i a)).idx (Shape.Idx.first (numel1_S1.symm ▸ Nat.one_pos)))
    = BitVec.ofNat 32 (order (i 0)).val) (grid0.coords t)

theorem word_ok (c : Dev nD) (t : Fin grid0.N) (h : k0_cond1 (grid0.coords t) = 1#1) : k0_chk1 (grid0.coords t) (word (F := F) c (grid0.coords t) h words) := by
  rw [word_eq c t h]
  exact (by decide +kernel : ∀ (i : grid0.Coords) (n : Fin 4), k0_chk1 i (BitVec.ofNat 32 n.val)) _ _

theorem plane_congr (c : Dev nD) (P : Cont (F := F) c planes) {off off' : Fin 3 → ℕ} (h : off = off') (inb : ∀ a, off a + S1x1024x384.size a ≤ S4x1024x384.size a)
    (inb' : ∀ a, off' a + S1x1024x384.size a ≤ S4x1024x384.size a) :
    ((planes.slice (Rect.unit (s := S4x1024x384) off S1x1024x384.size inb) (fun _ => rfl)).squeeze S1024x384 squeezes_S1x1024x384_S1024x384).view.read (Elt F) P
      = ((planes.slice (Rect.unit (s := S4x1024x384) off' S1x1024x384.size inb') (fun _ => rfl)).squeeze S1024x384 squeezes_S1x1024x384_S1024x384).view.read (Elt F) P := by
  subst h; rfl

theorem plane_eq (c : Dev nD) (t : Fin grid0.N) (h : k0_cond1 (grid0.coords t) = 1#1) (P : Cont (F := F) c planes) :
    plane c (grid0.coords t) h words P (word_ok c t h) = planeNo c (planeOf t) P :=
  plane_congr c P (by
    rw [word_eq c t h]
    exact (by decide : ∀ n : Fin 4, k0_off3 (BitVec.ofNat 32 n.val) = ![n.val, 0, 0]) (planeOf t)) _ _

/-! ## What is held between the points -/

/-- The host lines' planes. -/
abbrev planesAt (c : Dev nD) : Cont (F := F) c planes := V m c main_v2

/-- After `n` points: the bands of the first `n` tiles are written, and inside a run of four points the plane is the run's. -/
def Good (c : Dev nD) (n : ℕ) (H : Vec F S4x1024x1024 .bf16) (w : Vec F S1024x384 .bf16) : Prop :=
  (∀ j : Fin 4, j.val < n → bandOf j H = normed m c j) ∧ ∀ q : Fin 4, q.val = n / 4 → n % 4 ≠ 0 → w = planeNo c (order q) (planesAt m c)

/-- The product a point leaves. -/
def left (c : Dev nD) (t : Fin (cfgM (F := F)).N) : Vec F S1024x384 .f32 := k0_pay2 (normed m c (tileOf t)) (planeNo c (planeOf t) (planesAt m c))

/-- Between the points. -/
def Inv (c : Dev nD) (n : ℕ) : sProp 𝕄 :=
  iprop(∃ H w, ⌜Good m c n H w⌝ ∗ owns (c : Thread nD τ) hM fullShare H ∗ owns (c : Thread nD τ) wM fullShare w ∗ (∃ r, prngReg c r)
    ∗ semVal ((c : Thread nD τ), SemLoc.dma 5) 0 ∗ held c planes fullShare (planesAt m c) ∗ held c tab fullShare.right words)

def dats (_ : Fin 1) (c : Dev nD) : Dat τ (Elt F) Unit ℕ (Pipeline.UD sig nD τ) ℕ (cfgM (F := F)) c where
  A w := V m c (Pipeline.arrRef spec0 w)
  after w t := match w with
    | ⟨0, _⟩ => iblk m c 0 t
    | ⟨1, _⟩ => iblk m c 1 t
    | ⟨2, _⟩ => left m c t
    | ⟨_ + 3, h⟩ => absurd h (Nat.not_lt.2 (Nat.le_add_left _ _))
  Φ t := Inv m c t.val
  q _ := fullShare
  owed _ := 0

theorem A_eq (c : Dev nD) (w : Fin (cfgM (F := F)).W) : (dats m 0 c).A w = V m c (Pipeline.arrRef spec0 w) := by dsimp only [dats]

section
variable (c : Dev nD) (t : Fin (cfgM (F := F)).N)

theorem after0_0 : (dats m 0 c).after 0 t = iblk m c 0 t := rfl
theorem after0_1 : (dats m 0 c).after 1 t = iblk m c 1 t := rfl
theorem after0_2 : (dats m 0 c).after 2 t = left m c t := rfl

/-- One more point: its band is written among the first four, its plane is in place. -/
theorem good_step (H : Vec F S4x1024x1024 .bf16) (w : Vec F S1024x384 .bf16) (h : Good m c t.val H w) (H' : Vec F S4x1024x1024 .bf16) (w' : Vec F S1024x384 .bf16)
    (hH : H' = if t.val < 4 then kept (grid0.coords t) H (xAt m c t) (gAt m c t) else H)
    (hw : t.val % 4 = 0 → w' = planeNo c (planeOf t) (planesAt m c)) (hw' : t.val % 4 ≠ 0 → w' = w) :
    Good m c (t.val + 1) H' w' ∧ k0_pay2 (band (grid0.coords t) H') w' = left m c t := by
  have ht : t.val < 16 := Nat.lt_of_lt_of_eq t.isLt N_0
  have eB : ∀ j : Fin 4, j.val < t.val + 1 → bandOf j H' = normed m c j := fun j hj => by
    rw [hH]
    by_cases h4 : t.val < 4
    · rw [if_pos h4]
      have et : (tileOf t).val = t.val := by show t.val % 4 = _; omega
      by_cases e : j = tileOf t
      · subst e
        rw [bandOf_kept]
        have ee : early (tileOf t) = t := Fin.ext et
        unfold normed; rw [ee]
      · rw [bandOf_other t j e]
        have : j.val ≠ t.val := fun hh => e (Fin.ext (hh.trans et.symm))
        exact h.1 j (by omega)
    · rw [if_neg h4]; exact h.1 j (by have := j.isLt; omega)
  have eW : w' = planeNo c (planeOf t) (planesAt m c) := by
    by_cases h0 : t.val % 4 = 0
    · exact hw h0
    · exact (hw' h0).trans (h.2 ⟨t.val / 4, by omega⟩ rfl h0)
  refine ⟨⟨eB, fun q hq hn => ?_⟩, ?_⟩
  · rw [eW]
    exact congrArg (fun n => planeNo c n (planesAt m c)) (congrArg order (Fin.ext (by show t.val / 4 = q.val; omega)))
  · rw [band_eq, eB _ (by show t.val % 4 < _; omega), eW]; rfl

/-- The body at any point, from its state before to its state after. -/
theorem runs (H : Vec F S4x1024x1024 .bf16) (w : Vec F S1024x384 .bf16) (h : Good m c t.val H w) :
    ∃ H' w', Runs c (grid0.coords t) (xAt m c t) (gAt m c t) words (planesAt m c) H w H' w' ∧ Good m c (t.val + 1) H' w' ∧ k0_pay2 (band (grid0.coords t) H') w' = left m c t := by
  by_cases h1 : t.val % 4 = 0
  · have c1 := (cond1_iff t).mpr h1
    have e := plane_eq (F := F) c t c1 (planesAt m c)
    by_cases h2 : t.val < 4
    · exact ⟨_, _, run_A c _ _ _ _ _ H w c1 (word_ok c t c1) ((cond2_iff t).mpr h2), good_step m c t H w h _ _ (by rw [if_pos h2]) (fun _ => e) (fun hn => absurd h1 hn)⟩
    · exact ⟨_, _, run_C c _ _ _ _ _ H w c1 (word_ok c t c1) (fun hh => h2 ((cond2_iff t).mp hh)), good_step m c t H w h _ _ (by rw [if_neg h2]) (fun _ => e) (fun hn => absurd h1 hn)⟩
  · have c1 : ¬ k0_cond1 (grid0.coords t) = 1#1 := fun hh => h1 ((cond1_iff t).mp hh)
    by_cases h2 : t.val < 4
    · exact ⟨_, _, run_B c _ _ _ _ _ H w c1 ((cond2_iff t).mpr h2), good_step m c t H w h _ _ (by rw [if_pos h2]) (fun hn => absurd hn h1) (fun _ => rfl)⟩
    · exact ⟨_, _, run_D c _ _ _ _ _ H w c1 (fun hh => h2 ((cond2_iff t).mp hh)), good_step m c t H w h _ _ (by rw [if_neg h2]) (fun hn => absurd hn h1) (fun _ => rfl)⟩

/-- What the pipeline hands the body, and what the body hands back. -/
def pre : sProp 𝕄 :=
  iprop((dats m 0 c).Φ t.castSucc ∗ (dats m 0 c).owesAt () t.castSucc
    ∗ (∃ d, owns (c : Thread nD τ) (((cfgM (F := F)).win 0).stage ((cfgM (F := F)).slots t 0)) fullShare ((dats m 0 c).before 0 t d))
    ∗ (∃ d, owns (c : Thread nD τ) (((cfgM (F := F)).win 1).stage ((cfgM (F := F)).slots t 1)) fullShare ((dats m 0 c).before 1 t d))
    ∗ (∃ d, owns (c : Thread nD τ) (((cfgM (F := F)).win 2).stage ((cfgM (F := F)).slots t 2)) fullShare ((dats m 0 c).before 2 t d)))

def post : sProp 𝕄 :=
  iprop((dats m 0 c).Φ t.succ ∗ (dats m 0 c).owesAt () t.succ
    ∗ owns (c : Thread nD τ) (((cfgM (F := F)).win 0).stage ((cfgM (F := F)).slots t 0)) fullShare ((dats m 0 c).after 0 t)
    ∗ owns (c : Thread nD τ) (((cfgM (F := F)).win 1).stage ((cfgM (F := F)).slots t 1)) fullShare ((dats m 0 c).after 1 t)
    ∗ owns (c : Thread nD τ) (((cfgM (F := F)).win 2).stage ((cfgM (F := F)).slots t 2)) fullShare ((dats m 0 c).after 2 t))

/-- The body's call at a point. -/
abbrev call : Prog (TpuEff nD τ sig (Elt F) Λ₀ .tc) PUnit :=
  cc0_mix_in (grid0.coords t) tab (Memref.isWhole_whole _) (spec0_0.stage ((cfgM (F := F)).slots t 0)) (hstage0_0 (((cfgM (F := F)).slots t 0).cast nbuf0_0))
    (spec0_1.stage ((cfgM (F := F)).slots t 1)) (hstage0_1 (((cfgM (F := F)).slots t 1).cast nbuf0_1)) planes (Memref.isWhole_whole _)
    (spec0_2.stage ((cfgM (F := F)).slots t 2)) (hstage0_2 (((cfgM (F := F)).slots t 2).cast nbuf0_2)) hM (Memref.isWhole_whole _) wM (Memref.isWhole_whole _) cc0_scratch2

set_option maxHeartbeats 1600000 in
theorem sound : pre m c t ⊢ wp frame (wpE (defs₀ (F := F)) Variants.none c none) Set.univ (call t) (fun _ => post m c t) := by
  unfold pre post
  simp only [before0 m (dats m 0 c) (A_eq m c 0) (after0_0 m c), before1 m (dats m 0 c) (A_eq m c 1) (after0_1 m c)]
  rw [after0_0, after0_1, after0_2, show (dats m 0 c).Φ t.castSucc = Inv m c t.val from rfl, show (dats m 0 c).Φ t.succ = Inv m c (t.val + 1) from rfl]
  unfold Dat.owesAt Pipeline.owesWithin
  rw [show (dats m 0 c).owed t.castSucc = 0 from rfl, show (dats m 0 c).owed t.succ = 0 from rfl]
  unfold Inv
  iintro ⟨⟨%H, %w, %hg, HS0, HS1, Hg, Hq, Hp, Ht⟩, ⟨%W, -, HW⟩, ⟨%d0, H0⟩, ⟨%d1, H1⟩, ⟨%d2, H2⟩⟩
  obtain ⟨H', w', hr, hg', he⟩ := runs m c t H w hg
  rw [← he]
  iapply (hr _ (hstage0_0 (((cfgM (F := F)).slots t 0).cast nbuf0_0)) _ (hstage0_1 (((cfgM (F := F)).slots t 1).cast nbuf0_1)) _ (hstage0_2 (((cfgM (F := F)).slots t 2).cast nbuf0_2)) W _)
  unfold State
  isplitl [H0 H1 HS0 HS1 Hq Hp Ht]
  · isplitl [H0]; · iexact H0
    isplitl [H1]; · iexact H1
    isplitl [HS0]; · iexact HS0
    isplitl [HS1]; · iexact HS1
    isplitl [Hq]; · iexact Hq
    isplitl [Hp]; · iexact Hp
    iexact Ht
  isplitl [H2]; · iexists _; iexact H2
  isplitl [HW]; · iexact HW
  iintro ⟨⟨H0, H1, HS0, HS1, Hq, Hp, Ht⟩, H2, ⟨%W', HW⟩⟩
  isplitl [HS0 HS1 Hg Hq Hp Ht]
  · iexists H', w'
    isplitr; · ipureintro; exact hg'
    isplitl [HS0]; · iexact HS0
    isplitl [HS1]; · iexact HS1
    isplitl [Hg]; · iexact Hg
    isplitl [Hq]; · iexact Hq
    isplitl [Hp]; · iexact Hp
    iexact Ht
  isplitl [HW]
  · iexists W'; isplitr; · ipureintro; exact fun _ _ => Or.inl trivial
    iexact HW
  isplitl [H0]; · iexact H0
  isplitl [H1]; · iexact H1
  iexact H2

end

theorem row_eq (t : Fin (cfgM (F := F)).N) : defs₀ (F := F) .tc (cfgM (F := F)).body ((cfgM (F := F)).bodyArgs t ((cfgM (F := F)).slots t)) = call t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (sound m c t) rfl .rfl fun _ => .rfl

/-! ## The launch -/

/-- The body's own semaphore. -/
abbrev osem0 : Fin 1 → SemLoc sig := fun j => (![SemLoc.dma 5] : Fin 1 → SemLoc sig) j
theorem ownSemFacts0 : Pipeline.OwnSemFacts spec0 osem0 := by decide

/-- The operand the body copies from itself. -/
def own0 : Finset (Ref sig .tc) := {main_v2}
theorem own0_sub : own0 ⊆ Pipeline.restRefsP sig pre0 spec0 := by decide

theorem sems_eq (c : Dev nD) : (Pipeline.ownSems0 osem0 c : sProp 𝕄) = semVal ((c : Thread nD τ), SemLoc.dma 5) 0 := by
  rw [Pipeline.ownSems0_eq_of_list c osem0 [0] (by decide) (by decide)]; rfl
theorem own_eq (c : Dev nD) : ((BI.bigSep own0 fun b => ((c : Thread nD τ).loc b) ↦{fullShare} V m c b) : sProp 𝕄) = held c planes fullShare (planesAt m c) := by
  rw [BI.bigSep_eq_bigSepL_of_eq [main_v2] (by decide) (by decide)]; rfl
theorem table_eq (c : Dev nD) : (Pipeline.ΦT (U := Pipeline.UD sig nD τ) pre0 (tbl (F := F)) c : sProp 𝕄) = held c tab fullShare.right words := by
  unfold Pipeline.ΦT Pipeline.prefHeld
  rw [bigSep_univ_eq_bigSepL [(0 : Fin 1)] (by decide) (by decide)]; rfl

theorem held_in (c : Dev nD) : iprop(Pipeline.ΦD osem0 spec0 own0 (V m) c ∗ Pipeline.ΦT (U := Pipeline.UD sig nD τ) pre0 (tbl (F := F)) c) ⊢ (dats m 0 c).Φ 0 := by
  rw [Pipeline.ΦD_eq, scopedRest0_eq, sems_eq, own_eq, table_eq, show (dats m 0 c).Φ 0 = Inv m c 0 from rfl]
  unfold Inv
  simp only [hM, wM, owns_whole]
  iintro ⟨⟨⟨⟨%H, HS0⟩, ⟨%w, HS1⟩⟩, Hg, Hq, Hp⟩, Ht⟩
  iexists H, w
  isplitr; · ipureintro; exact ⟨fun j hj => absurd hj (Nat.not_lt_zero _), fun q _ hn => absurd rfl hn⟩
  isplitl [HS0]; · iexact HS0
  isplitl [HS1]; · iexact HS1
  isplitl [Hg]; · iexact Hg
  isplitl [Hq]; · iexact Hq
  isplitl [Hp]; · iexact Hp
  iexact Ht

theorem held_out (c : Dev nD) : (dats m 0 c).Φ (Fin.last _) ⊢ Pipeline.ΦD osem0 spec0 own0 (V m) c := by
  rw [Pipeline.ΦD_eq, scopedRest0_eq, sems_eq, own_eq, show (dats m 0 c).Φ (Fin.last _) = Inv m c (cfgM (F := F)).N from rfl]
  unfold Inv
  simp only [hM, wM, owns_whole]
  iintro ⟨%H, %w, -, HS0, HS1, Hg, Hq, Hp, -⟩
  isplitl [HS0 HS1]
  · isplitl [HS0]; · iexists H; iexact HS0
    iexists w; iexact HS1
  isplitl [Hg]; · iexact Hg
  isplitl [Hq]; · iexact Hq
  iexact Hp

variable (ρ : Dev nD → PrngReg)

set_option backward.isDefEq.respectTransparency.types false in
theorem run_main_quiescent : θ_run defs (onTc (τ := τ) (main (F := F))) (s₀ m ρ)
    (fun r => (Pipeline.FramePost (Pipeline.pin pcfgs (fun _ => adm)) (dats m) 0 (V m)) r ∧ r.2.sem = fun _ => 0) :=
  Pipeline.θ_run_frameP_dma (Q' := _) pcfgs (fun _ => adm) (dats m) (0 : Fin 1) launch0 osem0 defs₀ Variants.none ownSemFacts0 own0 own0_sub m ρ main
    (hbody := fun c => (obligation m c).loose) (hshare := fun c => (dats m 0 c).share_full fun _ => rfl)
    (howed := fun _ _ => rfl) (V := V m)
    (hmain := Pipeline.hmainP_prefix pcfgs 0 defs₀ Variants.none m main hostOps0 hostOps0_sub hostOps0_fresh main_chain)
    (hA := A_eq m) (hpf := fun c k => by obtain rfl : k = 0 := Subsingleton.elim _ _; exact V_table m c)
    (hin := held_in m) (hout := held_out m)

/-- Every run ends with the arrays at what the points left. -/
theorem run_main : θ_run defs (onTc (τ := τ) (main (F := F))) (s₀ m ρ) (Pipeline.FramePost (Pipeline.pin pcfgs (fun _ => adm)) (dats m) 0 (V m)) :=
  (θ_run defs _ _).mono (fun _ h => h.1) (run_main_quiescent m ρ)

theorem V_main_arg0 (c : Dev nD) : V m c main_arg0 = m ((c.tc : Thread nD τ).loc main_arg0) := rfl
theorem V_main_arg1 (c : Dev nD) : V m c main_arg1 = m ((c.tc : Thread nD τ).loc main_arg1) := rfl
theorem V_main_arg2 (c : Dev nD) : V m c main_arg2 = m ((c.tc : Thread nD τ).loc main_arg2) := rfl

/-- The program runs, leaves its arguments as they were and ends with every counter at zero. -/
theorem frame_holds : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
    ⟨((((h.1 c).1 0).trans ((dats m 0 c).arrAt_in 0 rfl _)).trans (A_eq m c 0)).trans (V_main_arg0 m c),
      ((((h.1 c).1 1).trans ((dats m 0 c).arrAt_in 1 rfl _)).trans (A_eq m c 1)).trans (V_main_arg1 m c),
      (((h.1 c).2 main_arg2 (Pipeline.mem_restRefs_of main_arg2 (by decide) (by decide : ∀ w : Fin 3, (spec0 w).arr.view.ref ≠ main_arg2)))).trans (V_main_arg2 m c)⟩, h.2⟩) (run_main_quiescent m ρ)

end Cert.MiIdeal.Body

end
-- ==== Proof.Mi.Machine.lean ====
/- The machine-float program has the exact program's text, so the exact program's run, at any floats, gives its frame. -/
module

public import proofs.«01_k».proof.Defs
public import proofs.«01_k».proof.Proof.Gen.Mi
public import proofs.«01_k».proof.Proof.Mi.Frame

@[expose] public section

set_option maxRecDepth 16384

namespace Cert.Mi.Machine

open Idealize.ShloMosaic Idealize.SL.Sem

/-- Every run of the machine-float program leaves its arguments as they were and its counters at zero. -/
theorem frame : Cert.quiescent_Mi (hMi := Cert.Mi.Gen.facts) :=
  have h : ∀ (m : (ℓ : Loc MiIdeal.nD MiIdeal.τ MiIdeal.sig) → Buf (Elt Bits) ℓ) (ρ : Dev MiIdeal.nD → PrngReg), True → _ :=
    fun m ρ _ => Cert.MiIdeal.Body.frame_holds (F := Bits) m ρ
  Eq.mp (by sl_kernel_rfl) h

end Cert.Mi.Machine
-- ==== Proof.Mi.RefRun.lean ====
/- The reference's run, stated in the named stages of its arguments. -/
module

public import proofs.«01_k».proof.Proof.Gen.MiRefIdeal.Run
public import proofs.«01_k».proof.Proof.Gen.MiRefIdeal.Read

@[expose] public section

namespace Cert.MiRefIdeal.Whole

open Idealize.ShloMosaic Idealize.ShloMosaic.TcCoe Idealize.SL.Sem

/-- The reference's run, its result as the named stage of its arguments. -/
theorem reference_run (m' : (ℓ : Loc nD τ sig) → Buf (Elt Ideal) ℓ) (g' : Dev nD → PrngReg) :
    θ_run defs (onTc (τ := τ) (main (F := Ideal))) ⟨m', fun _ => 0, g'⟩ fun r => ∀ c : Dev nD,
      let A := fun b : Ref sig .tc => m' ((c : Thread nD τ).loc b)
      r.2.mem ((c : Thread nD τ).loc main_v12) = Read.val_main_v12 (F := Ideal) (A main_arg0) (A main_arg1) (A main_arg2)
      ∧ r.2.mem ((c : Thread nD τ).loc main_arg0) = A main_arg0 ∧ r.2.mem ((c : Thread nD τ).loc main_arg1) = A main_arg1
      ∧ r.2.mem ((c : Thread nD τ).loc main_arg2) = A main_arg2 :=
  (θ_run defs _ _).mono (fun r h c => ⟨(h c).1.trans (Read.val_main_v12_eq _ _ _), (h c).2⟩) (Value.run m' g')

/-- The reference runs, leaves its arguments as they were and ends with every counter at zero. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2, Idealize.ShloMosaic.sem_eq_zero_of_no_sems (by decide) r.2⟩)
    (Value.run m ρ)

end Cert.MiRefIdeal.Whole
-- ==== Proof.Mi.Products.lean ====
/- The normed rows and their product with the weights, entry by entry, as the kernel's point and as the plain lines write them. -/
module

public import proofs.«01_k».proof.Proof.Gen.MiIdeal.Skeleton
public import proofs.«01_k».proof.Proof.Gen.MiRefIdeal.Read
public import Idealize.ShloMosaic.Lib.Pointwise

@[expose] public section

set_option maxRecDepth 16384

noncomputable section

namespace Cert.Mi

open Idealize.ShloMosaic Idealize.ShloMosaic.TcCoe

/-- A row over its root mean square, times the gains. -/
def scaled (v g : Fin 1024 → EReal) (l : Fin 1024) : EReal :=
  v l * Ideal.rsqrt (Ideal.div (∑ k : Fin 1024, v k * v k) (Ideal.ofBits .f32 0x44800000#32) + Ideal.ofBits .f32 0x358637BD#32) * g l

namespace Kernel

open Cert.MiIdeal Cert.MiIdeal.Gen

theorem pay1 (x : Vec Ideal S1024x1024 .f32) (g : Vec Ideal S1x1024 .f32) (z : Fin 1) (r l : Fin 1024) :
    k0_pay1 x g (ix3 z r l) = scaled (fun k => x (ix2 r k)) (fun k => g (ix2 0 k)) l := by
  rw [Subsingleton.elim z 0]
  pointwise [k0_pay1]
  rfl

theorem pay2 (h : Vec Ideal S1x1024x1024 .bf16) (w : Vec Ideal S1024x384 .bf16) (r : Fin 1024) (k : Fin 384) :
    k0_pay2 h w (ix2 r k) = ∑ l : Fin 1024, (h (ix3 0 r l) * w (ix2 l k) : EReal) := by
  pointwise [k0_pay2]

end Kernel

namespace Reference

open Cert.MiRefIdeal Cert.MiRefIdeal.Read

variable (X : Vec Ideal S4096x1024 .f32) (G : Vec Ideal S1x1024 .f32) (W : Vec Ideal S1024x1536 .f32)

/-- An entry of the whole product. -/
def whole (r : Fin 4096) (k : Fin 1536) : EReal :=
  ∑ l : Fin 1024, scaled (fun k => X (ix2 r k)) (fun k => G (ix2 0 k)) l * W (ix2 l k)

theorem v11 (r : Fin 4096) (l : Fin 1024) : val_main_v11 (F := Ideal) X G (ix2 r l) = scaled (fun k => X (ix2 r k)) (fun k => G (ix2 0 k)) l := by
  pointwise [val_main_v11, val_main_v10, val_main_v9, val_main_v8, val_main_v7, val_main_v6, val_main_v5, val_main_v4, val_main_v3, val_main_v2,
    val_main_v1, val_main_v0, val_main_cst, val_main_cst_0, val_main_cst_1]
  rfl

theorem v12 (r : Fin 4096) (k : Fin 1536) : val_main_v12 (F := Ideal) X G W (ix2 r k) = whole X G W r k := by
  unfold whole
  simp only [← v11]
  generalize hY : val_main_v11 (F := Ideal) X G = Y
  rw [val_main_v12_apply, hY]
  refine Finset.sum_congr rfl fun l _ => congrArg₂ (· * ·) (congrArg Y (funext fun a => ?_)) (congrArg W (funext fun a => ?_)) <;> fin_cases a <;> rfl

end Reference

end Cert.Mi
-- ==== Proof.Mi.Arrays.lean ====
/- The kernel's result: at each point a tile of the rows and a group of the columns, all of them together the whole product. -/
module

public import proofs.«01_k».proof.Proof.Mi.Products
public import proofs.«01_k».proof.Proof.Mi.Frame
public import proofs.«01_k».proof.Proof.Real.Rows
public import Idealize.ShloMosaic.Lib.Pipeline.ValueKit
public import Idealize.ShloMosaic.Lib.Claim

@[expose] public section

set_option maxRecDepth 16384

noncomputable section

namespace Cert.Mi.Kernel

open Idealize.ShloMosaic Idealize.ShloMosaic.TcCoe Idealize.SL.Sem
open Idealize.ShloMosaic.Pipeline (Dat)
open Cert.MiIdeal Cert.MiIdeal.Gen Cert.MiIdeal.Body Cert.Rows

variable (m : (ℓ : Loc nD τ sig) → Buf (Elt Ideal) ℓ) (c : Dev nD)

/-- Device `c`'s rows, its gains and its weights. -/
abbrev rows : Vec Ideal S4096x1024 .f32 := m ((c : Thread nD τ).loc main_arg0)
abbrev gains : Vec Ideal S1x1024 .f32 := m ((c : Thread nD τ).loc main_arg1)
abbrev weights : Vec Ideal S1024x1536 .f32 := m ((c : Thread nD τ).loc main_arg2)

/-- The weights, their columns in four groups. -/
theorem weight_lines : @Eq (FVec Ideal S4x1024x384 .bf16) (V m c main_v2) <|
    transpose S4x1024x384 [1, 0, 2] (shapeCast S1024x4x384 (truncf .bf16 (F := Ideal) (show FVec Ideal S1024x1536 .f32 from weights m c) bitsLt_bf16_f32)
      shapeCasts_S1024x1536_S1024x4x384) transposes_S1024x4x384_S4x1024x384_1_0_2 := rfl

theorem weight_at (n : Fin 4) (l : Fin 1024) (k : Fin 384) :
    (V m c main_v2 : FVec Ideal S4x1024x384 .bf16) (ix3 n l k) = weights m c (ix2 l ⟨n.val * 384 + k.val, by omega⟩) := by
  rw [weight_lines]
  pointwise

theorem plane_at (n : Fin 4) (P : Cont (F := Ideal) c planes) (l : Fin 1024) (k : Fin 384) :
    planeNo c n P (ix2 l k) = (show FVec Ideal S4x1024x384 .bf16 from P) (ix3 n l k) := by
  have h1 : planeNo c n P (ix2 l k) = (show FVec Ideal S4x1024x384 .bf16 from P) ((Rect.unit (s := S4x1024x384) ![n.val, 0, 0] S1x1024x384.size
      (plane_inb n)).emb (Shape.reshapeEquiv squeezes_S1x1024x384_S1024x384.numel_eq (ix2 l k))) := rfl
  rw [h1]
  refine congrArg (show FVec Ideal S4x1024x384 .bf16 from P) ?_
  rw [show Shape.reshapeEquiv squeezes_S1x1024x384_S1024x384.numel_eq (ix2 l k) = Fin.cons ⟨0, Nat.one_pos⟩ (ix2 l k) from Shape.reshapeEquiv_cons_one _ _]
  funext a
  apply Fin.ext
  rw [Rect.emb_apply]
  match a with
  | ⟨0, _⟩ => show n.val + 1 * 0 = n.val; omega
  | ⟨1, _⟩ => show 0 + 1 * l.val = l.val; omega
  | ⟨2, _⟩ => show 0 + 1 * k.val = k.val; omega

/-- Window 0's block at one of the first four points. -/
theorem idx0 : ∀ j : Fin 4, ((cfgM (F := Ideal)).win 0).index (early j) = ![j.val, 0] :=
  (by decide +kernel : ∀ j : Fin 4, cc0_transform_0 (grid0.coords ⟨j.val, by have : grid0.N = 16 := N_0; omega⟩) = ![j.val, 0])
theorem idx1 : ∀ t, ((cfgM (F := Ideal)).win 1).index t = ![0, 0] :=
  (by decide +kernel : ∀ t : Fin grid0.N, cc0_transform_1 (grid0.coords t) = ![0, 0])
theorem idx2 (t : Fin (cfgM (F := Ideal)).N) : ((cfgM (F := Ideal)).win 2).index t = ![(tileOf t).val, (planeOf t).val] :=
  (out_index (F := Ideal) (grid0.coords t)).trans (by
    have e0 := coord0 t
    have e1 := coord1 t
    rw [show grid0.coords t 0 = ⟨t.val / 4, _⟩ from Fin.ext e0, e1]
    rfl)

theorem x_at (j : Fin 4) (r l : Fin 1024) : xAt m c (early j) (ix2 r l) = rows m c (ix2 ⟨j.val * 1024 + r.val, by omega⟩ l) := by
  unfold xAt
  blk_ext [iblk, idx0 j]

theorem g_at (t) (z : Fin 1) (l : Fin 1024) : gAt m c t (ix2 z l) = gains m c (ix2 0 l) := by
  unfold gAt
  blk_ext [iblk, idx1 t]

/-- The product at a point. -/
theorem left_at (t) (r : Fin 1024) (k : Fin 384) : left m c t (ix2 r k) = Cert.Mi.Reference.whole (rows m c) (gains m c) (weights m c)
    ⟨(tileOf t).val * 1024 + r.val, by omega⟩ ⟨(planeOf t).val * 384 + k.val, by omega⟩ := by
  unfold left Cert.Mi.Reference.whole
  rw [pay2]
  refine Finset.sum_congr rfl fun l _ => congrArg₂ (· * ·) ?_ ((plane_at c _ _ l k).trans (weight_at m c _ l k))
  unfold normed
  rw [pay1]
  exact congrArg₂ (fun v g => scaled v g l) (funext fun k => x_at m c _ r k) (funext fun k => g_at m c _ 0 k)

/-- The point that writes a tile's rows and a group's columns. -/
theorem point (j n : Fin 4) : ∃ t : Fin (cfgM (F := Ideal)).N, tileOf t = j ∧ planeOf t = n :=
  (by decide +kernel : ∀ j n : Fin 4, ∃ t : Fin grid0.N, tileOf t = j ∧ planeOf t = n) j n

/-- Every point writes its product back. -/
theorem flushes (t) : ((cfgM (F := Ideal)).win 2).flush t = true := by
  rw [Pipeline.Window.flush_eq_flushOf, Pipeline.Window.flushOf, Bool.and_eq_true, Bool.or_eq_true, decide_eq_true_iff, decide_eq_true_iff]
  refine ⟨rfl, ((by decide +kernel : ∀ t : Fin grid0.N, t.val + 1 = grid0.N ∨ ∃ h : t.val + 1 < grid0.N,
    (![(tileOf ⟨t.val + 1, h⟩).val, (planeOf ⟨t.val + 1, h⟩).val] : Fin 2 → ℕ) ≠ ![(tileOf t).val, (planeOf t).val]) t).imp id fun ⟨h, hn⟩ => ⟨h, fun e => hn ?_⟩⟩
  exact (idx2 ⟨t.val + 1, h⟩).symm.trans (e.trans (idx2 t))

theorem final : (dats m 0 c).arrAt 2 (cfgM (F := Ideal)).N = fun i : S4096x1536.Idx =>
    Cert.Mi.Reference.whole (rows m c) (gains m c) (weights m c) (i 0) (i 1) := by
  refine (dats m 0 c).arrAt_eq_of_emb 2 _ (fun t hf y => ?_) (fun i => ?_)
  · blk_simp
    rw [after0_2]
    have e0 : ((((cfgM (F := Ideal)).win 2).blk t).view.emb y 0).val = (tileOf t).val * 1024 + (y 0).val := by blk_simp [idx2 t]
    have e1 : ((((cfgM (F := Ideal)).win 2).blk t).view.emb y 1).val = (planeOf t).val * 384 + (y 1).val := by blk_simp [idx2 t]
    exact (congrArg _ (Cert.Rows.ix2_eta y)).trans ((left_at m c t (y 0) (y 1)).trans (congrArg₂ _ (Fin.ext e0.symm) (Fin.ext e1.symm)))
  · have h0 : (i 0).val < 4096 := (i 0).isLt
    have h1 : (i 1).val < 1536 := (i 1).isLt
    obtain ⟨t, hj, hn⟩ := point ⟨(i 0).val / 1024, by omega⟩ ⟨(i 1).val / 384, by omega⟩
    refine ⟨t, flushes t, ?_⟩
    let y : S1024x384.Idx := ix2 ⟨(i 0).val % 1024, by omega⟩ ⟨(i 1).val % 384, by omega⟩
    have e0 : ((((cfgM (F := Ideal)).win 2).blk t).view.emb y 0).val = (tileOf t).val * 1024 + (y 0).val := by blk_simp [idx2 t]
    have e1 : ((((cfgM (F := Ideal)).win 2).blk t).view.emb y 1).val = (planeOf t).val * 384 + (y 1).val := by blk_simp [idx2 t]
    have e : ((((cfgM (F := Ideal)).win 2).blk t).view.emb y) = i := by
      refine funext fun a => Fin.ext ?_
      match a with
      | ⟨0, _⟩ => refine e0.trans ?_; rw [hj]; show (i 0).val / 1024 * 1024 + (i 0).val % 1024 = (i 0).val; omega
      | ⟨1, _⟩ => refine e1.trans ?_; rw [hn]; show (i 1).val / 384 * 384 + (i 1).val % 384 = (i 1).val; omega
    rw [← e]
    exact View.emb_mem_set _ _

end Cert.Mi.Kernel
-- ==== Proof.Mi.Claim.lean ====
/- The kernel of the mixers' input and the plain lines end with equal results, whatever the arguments hold. -/
module

public import proofs.«01_k».proof.Proof.Mi.RefRun
public import proofs.«01_k».proof.Defs
public import proofs.«01_k».proof.Proof.Mi.Arrays

@[expose] public section

set_option maxRecDepth 16384

noncomputable section

namespace Cert.Mi.Claim

open Idealize.ShloMosaic Idealize.ShloMosaic.TcCoe Idealize.SL.Sem

/-- Every run of the kernel ends with the whole product, its arguments as they were. -/
theorem kernel_run (m : (ℓ : Loc MiIdeal.nD MiIdeal.τ MiIdeal.sig) → Buf (Elt Ideal) ℓ) (g : Dev MiIdeal.nD → PrngReg) :
    θ_run MiIdeal.defs (onTc (τ := MiIdeal.τ) (MiIdeal.main (F := Ideal))) ⟨m, fun _ => 0, g⟩ fun r => ∀ c : Dev MiIdeal.nD,
      r.2.mem ((c : Thread MiIdeal.nD MiIdeal.τ).loc MiIdeal.main_v20)
          = (fun i : MiIdeal.S4096x1536.Idx => Reference.whole (Kernel.rows m c) (Kernel.gains m c) (Kernel.weights m c) (i 0) (i 1))
      ∧ r.2.mem ((c : Thread MiIdeal.nD MiIdeal.τ).loc MiIdeal.main_arg0) = m ((c : Thread MiIdeal.nD MiIdeal.τ).loc MiIdeal.main_arg0)
      ∧ r.2.mem ((c : Thread MiIdeal.nD MiIdeal.τ).loc MiIdeal.main_arg1) = m ((c : Thread MiIdeal.nD MiIdeal.τ).loc MiIdeal.main_arg1)
      ∧ r.2.mem ((c : Thread MiIdeal.nD MiIdeal.τ).loc MiIdeal.main_arg2) = m ((c : Thread MiIdeal.nD MiIdeal.τ).loc MiIdeal.main_arg2) :=
  have h := θ_run_and (MiIdeal.Body.run_main m g) (MiIdeal.Body.frame_holds m g)
  (θ_run MiIdeal.defs _ _).mono (fun _ h c => ⟨((h.1 c).1 2).trans (Kernel.final m c), h.2.1 c⟩) h

theorem algebraic : Cert.algebraic_MiIdeal_MiRefIdeal (hMiIdeal := Cert.MiIdeal.Gen.facts)
    (hMiRefIdeal := Cert.MiRefIdeal.Gen.facts) := by
  pair_intro
  · run_from kernel_run m g
  · run_from Cert.MiRefIdeal.Whole.reference_run m' g'
    · funext i
      rw [Cert.Rows.ix2_eta i]
      exact Reference.v12 _ _ _ (i 0) (i 1)

end Cert.Mi.Claim
-- ==== Proof.Down.RefRun.lean ====
/- The reference's run, stated in the named stages of its arguments. -/
module

public import proofs.«01_k».proof.Proof.Gen.DownRefIdeal.Run
public import proofs.«01_k».proof.Proof.Gen.DownRefIdeal.Read

@[expose] public section

namespace Cert.DownRefIdeal.Whole

open Idealize.ShloMosaic Idealize.ShloMosaic.TcCoe Idealize.SL.Sem

/-- The reference's run, its result as the named stage of its arguments. -/
theorem reference_run (m' : (ℓ : Loc nD τ sig) → Buf (Elt Ideal) ℓ) (g' : Dev nD → PrngReg) :
    θ_run defs (onTc (τ := τ) (main (F := Ideal))) ⟨m', fun _ => 0, g'⟩ fun r => ∀ c : Dev nD,
      let A := fun b : Ref sig .tc => m' ((c : Thread nD τ).loc b)
      r.2.mem ((c : Thread nD τ).loc main_v1) = Read.val_main_v1 (F := Ideal) (A main_arg0) (A main_arg1) (A main_arg2)
      ∧ r.2.mem ((c : Thread nD τ).loc main_arg0) = A main_arg0 ∧ r.2.mem ((c : Thread nD τ).loc main_arg1) = A main_arg1 ∧ r.2.mem ((c : Thread nD τ).loc main_arg2) = A main_arg2 :=
  (θ_run defs _ _).mono (fun r h c => ⟨(h c).1.trans (Read.val_main_v1_eq _ _ _ ), (h c).2⟩) (Value.run m' g')

/-- The reference runs, leaves its arguments as they were and ends with every counter at zero. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2, Idealize.ShloMosaic.sem_eq_zero_of_no_sems (by decide) r.2⟩)
    (Value.run m ρ)

end Cert.DownRefIdeal.Whole
-- ==== Proof.Down.Arrays.lean ====
/- The feed-forward's second product, with the residual: a tile of the rows at each point, all of them together the whole. -/
module

public import proofs.«01_k».proof.Proof.Gen.DownIdeal.Value
public import proofs.«01_k».proof.Proof.Gen.DownRefIdeal.Read
public import proofs.«01_k».proof.Proof.Real.Rows
public import Idealize.ShloMosaic.Lib.Pipeline.ValueKit
public import Idealize.ShloMosaic.Lib.Claim
public import Idealize.ShloMosaic.Lib.Pointwise

@[expose] public section

set_option maxRecDepth 16384

noncomputable section

namespace Cert.Down

open Idealize.ShloMosaic Idealize.ShloMosaic.TcCoe Idealize.SL.Sem

namespace Reference

open Cert.DownRefIdeal Cert.DownRefIdeal.Read

/-- An entry of the rows plus the product. -/
def whole (x : Vec Ideal S4096x1024 .f32) (f : Vec Ideal S4096x2816 .f32) (w : Vec Ideal S2816x1024 .f32) (r : Fin 4096) (k : Fin 1024) : EReal :=
  x (ix2 r k) + ∑ l : Fin 2816, f (ix2 r l) * w (ix2 l k)

theorem v1 (x : Vec Ideal S4096x1024 .f32) (f : Vec Ideal S4096x2816 .f32) (w : Vec Ideal S2816x1024 .f32) (r : Fin 4096) (k : Fin 1024) :
    val_main_v1 (F := Ideal) x f w (ix2 r k) = whole x f w r k := by
  pointwise [val_main_v1, val_main_v0]
  rfl

end Reference

namespace Kernel

open Idealize.ShloMosaic.Pipeline (Dat)
open Cert.DownIdeal Cert.DownIdeal.Gen

theorem pay1 (x : Vec Ideal S1024x1024 .f32) (f : Vec Ideal S1024x2816 .bf16) (w : Vec Ideal S2816x1024 .bf16) (r k : Fin 1024) :
    k0_pay1 x f w (ix2 r k) = (x (ix2 r k) + ∑ l : Fin 2816, f (ix2 r l) * w (ix2 l k) : EReal) := by
  pointwise [k0_pay1]

variable (m : (ℓ : Loc nD τ sig) → Buf (Elt Ideal) ℓ) (c : Dev nD)

/-- Device `c`'s arguments. -/
abbrev x1 : Vec Ideal S4096x1024 .f32 := m ((c : Thread nD τ).loc main_arg0)
abbrev rows : Vec Ideal S4096x2816 .f32 := m ((c : Thread nD τ).loc main_arg1)
abbrev matrix : Vec Ideal S2816x1024 .f32 := m ((c : Thread nD τ).loc main_arg2)

theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

theorem row_lines : @Eq (FVec Ideal S4096x2816 .bf16) (V m c main_v0) (truncf .bf16 (F := Ideal) (show FVec Ideal S4096x2816 .f32 from rows m c) bitsLt_bf16_f32) := rfl
theorem matrix_lines : @Eq (FVec Ideal S2816x1024 .bf16) (V m c main_v1) (truncf .bf16 (F := Ideal) (show FVec Ideal S2816x1024 .f32 from matrix m c) bitsLt_bf16_f32) := rfl

variable {m c} (t : Fin cfg0.N)

/-- Row `r` of the tile read at point `t`, in the whole array. -/
def row (r : Fin 1024) : Fin 4096 := ⟨t.val * 1024 + r.val, by have ht := t.isLt.trans_eq N_0; omega⟩

theorem blk0 (r l : Fin 1024) : iblk m c 0 t (ix2 r l) = x1 m c (ix2 (row t r) l) := by
  blk_ext! [iblk, V, idx t, row]

theorem blk1 (r : Fin 1024) (l : Fin 2816) : iblk m c 1 t (ix2 r l) = rows m c (ix2 (row t r) l) := by
  refine Eq.trans (b := V m c main_v0 (ix2 (row t r) l)) ?_ ?_
  · blk_ext [iblk, idx t, row]
  · rw [row_lines]; pointwise

theorem blk2 (l : Fin 2816) (k : Fin 1024) : iblk m c 2 t (ix2 l k) = matrix m c (ix2 l k) := by
  refine Eq.trans (b := V m c main_v1 (ix2 l k)) ?_ ?_
  · blk_ext [iblk, idx t]
  · rw [matrix_lines]; pointwise

variable (m c)

theorem final3 : (dats m 0 c).arrAt 3 cfg0.N = fun i : S4096x1024.Idx => Reference.whole (x1 m c) (rows m c) (matrix m c) (i 0) (i 1) := by
  refine (dats m 0 c).arrAt_eq_of_covers 3 _ (by decide +kernel) fun t hf y => ?_
  blk_simp
  rw [after0_3]
  have e0 : ((win0_3.blk t).view.emb y 0).val = t.val * 1024 + (y 0).val := by blk_simp [idx t]
  have e1 : ((win0_3.blk t).view.emb y 1).val = (y 1).val := by blk_simp [idx t]
  frame_out
  refine (congrArg _ (Cert.Rows.ix2_eta y)).trans ((pay1 _ _ _ (y 0) (y 1)).trans ?_)
  refine Eq.trans ?_ (congrArg₂ (Reference.whole (x1 m c) (rows m c) (matrix m c)) (show row t (y 0) = _ from Fin.ext e0.symm) (show y 1 = _ from Fin.ext e1.symm))
  exact congrArg₂ (· + ·) (blk0 t (y 0) (y 1)) (Finset.sum_congr rfl fun l _ => congrArg₂ (· * ·) (blk1 t (y 0) l) (blk2 t l (y 1)))

end Kernel

end Cert.Down
-- ==== Proof.Down.Claim.lean ====
/- The kernel of the feed-forward's second product and the plain lines end with equal results, whatever the arguments hold. -/
module

public import proofs.«01_k».proof.Proof.Down.RefRun
public import proofs.«01_k».proof.Defs
public import proofs.«01_k».proof.Proof.Down.Arrays

@[expose] public section

set_option maxRecDepth 16384

noncomputable section

namespace Cert.Down.Claim

open Idealize.ShloMosaic Idealize.ShloMosaic.TcCoe Idealize.SL.Sem

theorem algebraic : Cert.algebraic_DownIdeal_DownRefIdeal (hDownIdeal := Cert.DownIdeal.Gen.facts)
    (hDownRefIdeal := Cert.DownRefIdeal.Gen.facts) := by
  pair_intro
  · run_from Cert.DownIdeal.Gen.run_main m g
  · run_from Cert.DownRefIdeal.Whole.reference_run m' g'
    · refine Eq.trans (funext fun i => ?_) (Kernel.final3 m c).symm
      rw [Cert.Rows.ix2_eta i]
      exact Reference.v1 _ _ _ (i 0) (i 1)

end Cert.Down.Claim
-- ==== Proof.DwGu.RefRun.lean ====
/- The reference's run, stated in the named stages of its arguments. -/
module

public import proofs.«01_k».proof.Proof.Gen.DwGuRefIdeal.Run
public import proofs.«01_k».proof.Proof.Gen.DwGuRefIdeal.Read

@[expose] public section

namespace Cert.DwGuRefIdeal.Whole

open Idealize.ShloMosaic Idealize.ShloMosaic.TcCoe Idealize.SL.Sem

/-- The reference's run, its result as the named stage of its arguments. -/
theorem reference_run (m' : (ℓ : Loc nD τ sig) → Buf (Elt Ideal) ℓ) (g' : Dev nD → PrngReg) :
    θ_run defs (onTc (τ := τ) (main (F := Ideal))) ⟨m', fun _ => 0, g'⟩ fun r => ∀ c : Dev nD,
      let A := fun b : Ref sig .tc => m' ((c : Thread nD τ).loc b)
      r.2.mem ((c : Thread nD τ).loc main_v5) = Read.val_main_v5 (F := Ideal) (A main_arg0) (A main_arg2)
      ∧ r.2.mem ((c : Thread nD τ).loc main_arg0) = A main_arg0 ∧ r.2.mem ((c : Thread nD τ).loc main_arg1) = A main_arg1 ∧ r.2.mem ((c : Thread nD τ).loc main_arg2) = A main_arg2 :=
  (θ_run defs _ _).mono (fun r h c => ⟨(h c).1.trans (Read.val_main_v5_eq _ _ ), (h c).2⟩) (Value.run m' g')

/-- The reference runs, leaves its arguments as they were and ends with every counter at zero. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2, Idealize.ShloMosaic.sem_eq_zero_of_no_sems (by decide) r.2⟩)
    (Value.run m ρ)

end Cert.DwGuRefIdeal.Whole
-- ==== Proof.Real.Steps.lean ====
/- A product's sum over the rows, taken a quarter of the rows at a time over four points of a grid. -/
module

public import Idealize.ShloMosaic.Lib.Pipeline.ValueKit
public import Idealize.ShloMosaic.Lib.Claim
public import Idealize.ShloMosaic.Lib.Pointwise

@[expose] public section

noncomputable section

namespace Cert.Steps

open Idealize.ShloMosaic

/-- Row `r` of quarter `j` of the rows. -/
def quarterRow (j : ℕ) (r : Fin 1024) : Fin 4096 := ⟨j % 4 * 1024 + r.val, by omega⟩

/-- The part of the sum that quarter `j` has. -/
def part (g : Fin 4096 → EReal) (j : ℕ) : EReal := ∑ r, g (quarterRow j r)

theorem parts (g : Fin 4096 → EReal) : ((part g 0 + part g 1) + part g 2) + part g 3 = ∑ R, g R := by
  rw [Fin.sum_univ_tiles 4 1024 rfl g, Fin.sum_univ_four]
  refine congrArg₂ (· + ·) (congrArg₂ (· + ·) (congrArg₂ (· + ·) ?_ ?_) ?_) ?_
  all_goals exact Finset.sum_congr rfl fun r _ => congrArg g (Fin.ext (by simp [quarterRow]))

/-- What each fourth point starts with its part and the next three add theirs to is at the last of the four the whole sum. -/
theorem group {N : ℕ} (f : (n : ℕ) → n < N → EReal) (g : ℕ → Fin 4096 → EReal)
    (h0 : ∀ t : Fin N, t.val % 4 = 0 → f t.val t.isLt = part (g (t.val / 4)) (t.val % 4))
    (hs : ∀ t : Fin N, ¬ t.val % 4 = 0 → f t.val t.isLt = f (t.val - 1) (by omega) + part (g (t.val / 4)) (t.val % 4))
    (t : Fin N) (ht : t.val % 4 = 3) : f t.val t.isLt = ∑ R, g (t.val / 4) R := by
  obtain ⟨q, hq⟩ : ∃ q, t.val = 4 * q + 3 := ⟨t.val / 4, by omega⟩
  obtain ⟨n, hn⟩ := t
  simp only at hq ht ⊢
  subst hq
  have e3 := hs ⟨4 * q + 3, hn⟩ (by simp only; omega)
  have e2 := hs ⟨4 * q + 2, by omega⟩ (by simp only; omega)
  have e1 := hs ⟨4 * q + 1, by omega⟩ (by simp only; omega)
  have e0 := h0 ⟨4 * q, by omega⟩ (by simp only; omega)
  simp only [show (4 * q + 3) / 4 = q by omega, show (4 * q + 3) % 4 = 3 by omega, show 4 * q + 3 - 1 = 4 * q + 2 by omega,
    show (4 * q + 2) / 4 = q by omega, show (4 * q + 2) % 4 = 2 by omega, show 4 * q + 2 - 1 = 4 * q + 1 by omega,
    show (4 * q + 1) / 4 = q by omega, show (4 * q + 1) % 4 = 1 by omega, show 4 * q + 1 - 1 = 4 * q by omega,
    show 4 * q / 4 = q by omega, show 4 * q % 4 = 0 by omega] at e3 e2 e1 e0 ⊢
  rw [e3, e2, e1, e0, parts]

end Cert.Steps
-- ==== Proof.DwGu.Arrays.lean ====
/- The gradient of the feed-forward's first matrix: a block of its columns over four points of the grid, each a quarter of the
   rows. -/
module

public import proofs.«01_k».proof.Proof.Gen.DwGuIdeal.Value
public import proofs.«01_k».proof.Proof.Gen.DwGuRefIdeal.Read
public import proofs.«01_k».proof.Proof.Real.Rows
public import proofs.«01_k».proof.Proof.Real.Steps

@[expose] public section

set_option maxRecDepth 16384

noncomputable section

namespace Cert.DwGu

open Idealize.ShloMosaic Idealize.ShloMosaic.TcCoe Idealize.SL.Sem Cert.Steps

/-- Column `b` of group `q` of the columns. -/
def col (q : ℕ) (b : Fin 1408) : Fin 5632 := ⟨q % 4 * 1408 + b.val, by omega⟩

namespace Reference

open Cert.DwGuRefIdeal Cert.DwGuRefIdeal.Read

theorem v5 (h : Vec Ideal S4096x1024 .f32) (d : Vec Ideal S4096x5632 .f32) (q : Fin 4) (a : Fin 1024) (b : Fin 1408) :
    val_main_v5 (F := Ideal) h d (ix3 q a b) = (∑ R : Fin 4096, h (ix2 R a) * d (ix2 R (col q b)) : EReal) := by
  pointwise [val_main_v5, val_main_v4, val_main_v3, val_main_v2, val_main_v1]
  refine Finset.sum_congr rfl fun R _ => (mul_comm _ _).trans (congrArg₂ (· * ·) rfl (congrArg d (congrArg (ix2 R) (Fin.ext ?_))))
  simp [col, Nat.mod_eq_of_lt q.isLt]

end Reference

namespace Kernel

open Idealize.ShloMosaic.Pipeline (Dat)
open Cert.DwGuIdeal Cert.DwGuIdeal.Gen

theorem pay2 (acc : Vec Ideal S1024x1408 .f32) (h : Vec Ideal S1024x1024 .bf16) (d : Vec Ideal S1x1024x1408 .bf16) (a : Fin 1024) (b : Fin 1408) :
    k0_pay2 acc h d (ix2 a b) = (acc (ix2 a b) + ∑ r : Fin 1024, h (ix2 r a) * d (ix3 0 r b) : EReal) := by
  pointwise [k0_pay2]

theorem pay1 (a : Fin 1024) (b : Fin 1408) : (k0_pay1 (F := Ideal)) (ix2 a b) = (0 : EReal) := by
  pointwise [k0_pay1]

theorem pay3 (acc : Vec Ideal S1024x1408 .f32) (z : Fin 1) (a : Fin 1024) (b : Fin 1408) :
    k0_pay3 acc (ix3 z a b) = acc (ix2 a b) := by
  pointwise [k0_pay3]

variable (m : (ℓ : Loc nD τ sig) → Buf (Elt Ideal) ℓ) (c : Dev nD)

/-- Device `c`'s arguments. -/
abbrev rows : Vec Ideal S4096x1024 .f32 := m ((c : Thread nD τ).loc main_arg0)
abbrev cotangent : Vec Ideal S4096x5632 .f32 := m ((c : Thread nD τ).loc main_arg2)

theorem idx : ∀ t : Fin cfg0.N, win0_0.index t = ![t.val % 4, 0] ∧ win0_1.index t = ![t.val / 8, t.val % 4, t.val / 4 % 2]
    ∧ win0_2.index t = ![t.val / 4, 0, 0] :=
  (by decide +kernel : ∀ t : Fin grid0.N, _)

theorem row_lines : @Eq (FVec Ideal S4096x1024 .bf16) (V m c main_v0) (truncf .bf16 (F := Ideal) (show FVec Ideal S4096x1024 .f32 from rows m c) bitsLt_bf16_f32) := rfl
theorem cotangent_lines : @Eq (FVec Ideal S2x4096x2816 .bf16) (V m c main_v3) (truncf .bf16 (F := Ideal)
    (transpose S2x4096x2816 [1, 0, 2] (shapeCast S4096x2x2816 (show FVec Ideal S4096x5632 .f32 from cotangent m c)
      shapeCasts_S4096x5632_S4096x2x2816) transposes_S4096x2x2816_S2x4096x2816_1_0_2) bitsLt_bf16_f32) := rfl

variable {m c} (t : Fin cfg0.N)

theorem blk0 (r a : Fin 1024) : iblk m c 0 t (ix2 r a) = rows m c (ix2 (quarterRow (t.val % 4) r) a) := by
  refine Eq.trans (b := V m c main_v0 (ix2 (quarterRow (t.val % 4) r) a)) ?_ ?_
  · blk_ext [iblk, idx t, quarterRow]
  · rw [row_lines]; pointwise

theorem blk1 (r : Fin 1024) (b : Fin 1408) : iblk m c 1 t (ix3 0 r b) = cotangent m c (ix2 (quarterRow (t.val % 4) r) (col (t.val / 4) b)) := by
  have ht : t.val < 16 := t.isLt.trans_eq N_0
  refine Eq.trans (b := V m c main_v3 (ix3 ⟨t.val / 8, by omega⟩ (quarterRow (t.val % 4) r) ⟨t.val / 4 % 2 * 1408 + b.val, by omega⟩)) ?_ ?_
  · blk_ext [iblk, idx t, quarterRow]
  · rw [cotangent_lines]
    pointwise
    refine congrArg _ (congrArg (ix2 _) (Fin.ext ?_))
    simp [col]
    omega

/-- A row's share in an entry of group `q`. -/
def share (m : (ℓ : Loc nD τ sig) → Buf (Elt Ideal) ℓ) (c : Dev nD) (a : Fin 1024) (b : Fin 1408) (q : ℕ) (R : Fin 4096) : EReal :=
  rows m c (ix2 R a) * cotangent m c (ix2 R (col q b))

theorem step (acc : Vec Ideal S1024x1408 .f32) (a : Fin 1024) (b : Fin 1408) :
    k0_pay2 acc (iblk m c 0 t) (iblk m c 1 t) (ix2 a b) = (acc (ix2 a b) + part (share m c a b (t.val / 4)) (t.val % 4) : EReal) :=
  (pay2 _ _ _ a b).trans (congrArg (acc (ix2 a b) + ·) (Finset.sum_congr rfl fun r _ => congrArg₂ (· * ·) (blk0 t r a) (blk1 t r b)))

theorem acc_zero (a : Fin 1024) (b : Fin 1408) (h0 : t.val % 4 = 0) :
    (outsAt0 m c t.val t.isLt).2 (ix2 a b) = part (share m c a b (t.val / 4)) (t.val % 4) := by
  rw [outsAt0_A m c t h0 (by omega)]
  frame_open
  frame_out
  exact (step t _ a b).trans ((congrArg (· + _) (pay1 a b)).trans (zero_add _))

theorem acc_succ (a : Fin 1024) (b : Fin 1408) (h0 : ¬ t.val % 4 = 0) :
    (outsAt0 m c t.val t.isLt).2 (ix2 a b)
      = (outsAt0 m c (t.val - 1) (by omega)).2 (ix2 a b) + part (share m c a b (t.val / 4)) (t.val % 4) := by
  by_cases h1 : t.val % 4 = 3
  · rw [outsAt0_C m c t h0 h1]
    frame_out
    simp only [read_unread_whole]
    exact step t _ a b
  · rw [outsAt0_B m c t h0 h1]
    frame_out
    simp only [read_unread_whole]
    exact step t _ a b

theorem acc_last (a : Fin 1024) (b : Fin 1408) (h1 : t.val % 4 = 3) :
    (outsAt0 m c t.val t.isLt).2 (ix2 a b) = ∑ R, share m c a b (t.val / 4) R :=
  group (fun n h => (outsAt0 m c n h).2 (ix2 a b)) (share m c a b) (fun t h => acc_zero t a b h) (fun t h => acc_succ t a b h) t h1

theorem out_last (z : Fin 1) (a : Fin 1024) (b : Fin 1408) (h1 : t.val % 4 = 3) :
    (outsAt0 m c t.val t.isLt).1 (ix3 z a b) = ∑ R, share m c a b (t.val / 4) R := by
  rw [← acc_last t a b h1, outsAt0_C m c t (by omega) h1]
  frame_out
  exact pay3 _ z a b

variable (m c)

theorem final2 : (dats m 0 c).arrAt 2 cfg0.N = fun i : S4x1024x1408.Idx => ∑ R, share m c (i 1) (i 2) (i 0).val R := by
  refine (dats m 0 c).arrAt_eq_of_covers 2 _ (by decide +kernel) fun t hf y => ?_
  blk_simp
  rw [after0_2]
  have e0 : ((win0_2.blk t).view.emb y 0).val = t.val / 4 := by blk_simp [idx t]
  have e1 : ((win0_2.blk t).view.emb y 1).val = (y 1).val := by blk_simp [idx t]
  have e2 : ((win0_2.blk t).view.emb y 2).val = (y 2).val := by blk_simp [idx t]
  refine (congrArg _ (Cert.Rows.ix3_eta y)).trans ((out_last t (y 0) (y 1) (y 2) ((flush0_2 t).1 hf)).trans ?_)
  exact (congrArg₂ (fun a b => ∑ R, share m c a b (t.val / 4) R) (Fin.ext e1.symm) (Fin.ext e2.symm)).trans
    (congrArg (fun q => ∑ R, share m c _ _ q R) (show t.val / 4 = win0_2.index t 0 by rw [(idx t).2.2]; rfl))

end Kernel

end Cert.DwGu
-- ==== Proof.DwGu.Claim.lean ====
/- The kernel of the gradient of the feed-forward's first matrix and the derivative of the plain line end with equal results,
   whatever the arguments hold. -/
module

public import proofs.«01_k».proof.Proof.DwGu.RefRun
public import proofs.«01_k».proof.Defs
public import proofs.«01_k».proof.Proof.DwGu.Arrays

@[expose] public section

set_option maxRecDepth 16384

noncomputable section

namespace Cert.DwGu.Claim

open Idealize.ShloMosaic Idealize.ShloMosaic.TcCoe Idealize.SL.Sem

theorem algebraic : Cert.algebraic_DwGuIdeal_DwGuRefIdeal (hDwGuIdeal := Cert.DwGuIdeal.Gen.facts)
    (hDwGuRefIdeal := Cert.DwGuRefIdeal.Gen.facts) := by
  pair_intro
  · run_from Cert.DwGuIdeal.Gen.run_main m g
  · run_from Cert.DwGuRefIdeal.Whole.reference_run m' g'
    · refine Eq.trans (funext fun i => ?_) (Kernel.final2 m c).symm
      rw [Cert.Rows.ix3_eta i]
      exact Reference.v5 _ _ (i 0) (i 1) (i 2)

end Cert.DwGu.Claim
-- ==== Proof.DwDown.RefRun.lean ====
/- The reference's run, stated in the named stages of its arguments. -/
module

public import proofs.«01_k».proof.Proof.Gen.DwDownRefIdeal.Run
public import proofs.«01_k».proof.Proof.Gen.DwDownRefIdeal.Read

@[expose] public section

namespace Cert.DwDownRefIdeal.Whole

open Idealize.ShloMosaic Idealize.ShloMosaic.TcCoe Idealize.SL.Sem

/-- The reference's run, its result as the named stage of its arguments. -/
theorem reference_run (m' : (ℓ : Loc nD τ sig) → Buf (Elt Ideal) ℓ) (g' : Dev nD → PrngReg) :
    θ_run defs (onTc (τ := τ) (main (F := Ideal))) ⟨m', fun _ => 0, g'⟩ fun r => ∀ c : Dev nD,
      let A := fun b : Ref sig .tc => m' ((c : Thread nD τ).loc b)
      r.2.mem ((c : Thread nD τ).loc main_v3) = Read.val_main_v3 (F := Ideal) (A main_arg0) (A main_arg2)
      ∧ r.2.mem ((c : Thread nD τ).loc main_arg0) = A main_arg0 ∧ r.2.mem ((c : Thread nD τ).loc main_arg1) = A main_arg1 ∧ r.2.mem ((c : Thread nD τ).loc main_arg2) = A main_arg2 :=
  (θ_run defs _ _).mono (fun r h c => ⟨(h c).1.trans (Read.val_main_v3_eq _ _ ), (h c).2⟩) (Value.run m' g')

/-- The reference runs, leaves its arguments as they were and ends with every counter at zero. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2, Idealize.ShloMosaic.sem_eq_zero_of_no_sems (by decide) r.2⟩)
    (Value.run m ρ)

end Cert.DwDownRefIdeal.Whole
-- ==== Proof.DwDown.Arrays.lean ====
/- The gradient of the feed-forward's second matrix: a half of its rows over four points of the grid, each a quarter of the tokens. -/
module

public import proofs.«01_k».proof.Proof.Gen.DwDownIdeal.Value
public import proofs.«01_k».proof.Proof.Gen.DwDownRefIdeal.Read
public import proofs.«01_k».proof.Proof.Real.Rows
public import proofs.«01_k».proof.Proof.Real.Steps

@[expose] public section

set_option maxRecDepth 16384

noncomputable section

namespace Cert.DwDown

open Idealize.ShloMosaic Idealize.ShloMosaic.TcCoe Idealize.SL.Sem Cert.Steps

namespace Reference

open Cert.DwDownRefIdeal Cert.DwDownRefIdeal.Read

theorem v3 (f : Vec Ideal S4096x2816 .f32) (d : Vec Ideal S4096x1024 .f32) (a : Fin 2816) (b : Fin 1024) :
    val_main_v3 (F := Ideal) f d (ix2 a b) = (∑ R : Fin 4096, f (ix2 R a) * d (ix2 R b) : EReal) := by
  pointwise [val_main_v3, val_main_v2, val_main_v1]
  exact Finset.sum_congr rfl fun R _ => mul_comm _ _

end Reference

namespace Kernel

open Idealize.ShloMosaic.Pipeline (Dat)
open Cert.DwDownIdeal Cert.DwDownIdeal.Gen

/-- Row `a` of half `q` of the matrix. -/
def half (q : ℕ) (a : Fin 1408) : Fin 2816 := ⟨q % 2 * 1408 + a.val, by omega⟩

theorem pay2 (acc : Vec Ideal S1408x1024 .f32) (f : Vec Ideal S1024x1408 .bf16) (d : Vec Ideal S1024x1024 .f32) (a : Fin 1408) (b : Fin 1024) :
    k0_pay2 acc f d (ix2 a b) = (acc (ix2 a b) + ∑ r : Fin 1024, f (ix2 r a) * d (ix2 r b) : EReal) := by
  pointwise [k0_pay2]

theorem pay1 (a : Fin 1408) (b : Fin 1024) : (k0_pay1 (F := Ideal)) (ix2 a b) = (0 : EReal) := by
  pointwise [k0_pay1]

theorem pay3 (acc : Vec Ideal S1408x1024 .f32) (a : Fin 1408) (b : Fin 1024) :
    k0_pay3 acc (ix2 a b) = acc (ix2 a b) := by
  pointwise [k0_pay3]

variable (m : (ℓ : Loc nD τ sig) → Buf (Elt Ideal) ℓ) (c : Dev nD)

/-- Device `c`'s arguments. -/
abbrev rows : Vec Ideal S4096x2816 .f32 := m ((c : Thread nD τ).loc main_arg0)
abbrev cotangent : Vec Ideal S4096x1024 .f32 := m ((c : Thread nD τ).loc main_arg2)

theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

theorem row_lines : @Eq (FVec Ideal S4096x2816 .bf16) (V m c main_v0) (truncf .bf16 (F := Ideal) (show FVec Ideal S4096x2816 .f32 from rows m c) bitsLt_bf16_f32) := rfl

variable {m c} (t : Fin cfg0.N)

theorem blk0 (r : Fin 1024) (a : Fin 1408) : iblk m c 0 t (ix2 r a) = rows m c (ix2 (quarterRow (t.val % 4) r) (half (t.val / 4) a)) := by
  have ht : t.val < 8 := t.isLt.trans_eq N_0
  refine Eq.trans (b := V m c main_v0 (ix2 (quarterRow (t.val % 4) r) (half (t.val / 4) a))) ?_ ?_
  · blk_ext [iblk, idx t, quarterRow, half, Nat.mod_eq_of_lt (show t.val / 4 < 2 by omega)]
  · rw [row_lines]; pointwise

theorem blk1 (r b : Fin 1024) : iblk m c 1 t (ix2 r b) = cotangent m c (ix2 (quarterRow (t.val % 4) r) b) := by
  blk_ext! [iblk, V, idx t, quarterRow]

/-- A row's share in an entry of half `q`. -/
def share (m : (ℓ : Loc nD τ sig) → Buf (Elt Ideal) ℓ) (c : Dev nD) (a : Fin 1408) (b : Fin 1024) (q : ℕ) (R : Fin 4096) : EReal :=
  rows m c (ix2 R (half q a)) * cotangent m c (ix2 R b)

theorem step (acc : Vec Ideal S1408x1024 .f32) (a : Fin 1408) (b : Fin 1024) :
    k0_pay2 acc (iblk m c 0 t) (iblk m c 1 t) (ix2 a b) = (acc (ix2 a b) + part (share m c a b (t.val / 4)) (t.val % 4) : EReal) :=
  (pay2 _ _ _ a b).trans (congrArg (acc (ix2 a b) + ·) (Finset.sum_congr rfl fun r _ => congrArg₂ (· * ·) (blk0 t r a) (blk1 t r b)))

theorem acc_zero (a : Fin 1408) (b : Fin 1024) (h0 : t.val % 4 = 0) :
    (outsAt0 m c t.val t.isLt).2 (ix2 a b) = part (share m c a b (t.val / 4)) (t.val % 4) := by
  rw [outsAt0_A m c t h0 (by omega)]
  frame_open
  frame_out
  exact (step t _ a b).trans ((congrArg (· + _) (pay1 a b)).trans (zero_add _))

theorem acc_succ (a : Fin 1408) (b : Fin 1024) (h0 : ¬ t.val % 4 = 0) :
    (outsAt0 m c t.val t.isLt).2 (ix2 a b)
      = (outsAt0 m c (t.val - 1) (by omega)).2 (ix2 a b) + part (share m c a b (t.val / 4)) (t.val % 4) := by
  by_cases h1 : t.val % 4 = 3
  · rw [outsAt0_C m c t h0 h1]
    frame_out
    simp only [read_unread_whole]
    exact step t _ a b
  · rw [outsAt0_B m c t h0 h1]
    frame_out
    simp only [read_unread_whole]
    exact step t _ a b

theorem acc_last (a : Fin 1408) (b : Fin 1024) (h1 : t.val % 4 = 3) :
    (outsAt0 m c t.val t.isLt).2 (ix2 a b) = ∑ R, share m c a b (t.val / 4) R :=
  group (fun n h => (outsAt0 m c n h).2 (ix2 a b)) (share m c a b) (fun t h => acc_zero t a b h) (fun t h => acc_succ t a b h) t h1

theorem out_last (a : Fin 1408) (b : Fin 1024) (h1 : t.val % 4 = 3) :
    (outsAt0 m c t.val t.isLt).1 (ix2 a b) = ∑ R, share m c a b (t.val / 4) R := by
  rw [← acc_last t a b h1, outsAt0_C m c t (by omega) h1]
  frame_out
  exact pay3 _ a b

variable (m c)

theorem final2 : (dats m 0 c).arrAt 2 cfg0.N = fun i : S2816x1024.Idx => (∑ R : Fin 4096, rows m c (ix2 R (i 0)) * cotangent m c (ix2 R (i 1)) : EReal) := by
  refine (dats m 0 c).arrAt_eq_of_covers 2 _ (by decide +kernel) fun t hf y => ?_
  have ht : t.val < 8 := t.isLt.trans_eq N_0
  blk_simp
  rw [after0_2]
  have e0 : ((win0_2.blk t).view.emb y 0).val = t.val / 4 * 1408 + (y 0).val := by blk_simp [idx t]
  have e1 : ((win0_2.blk t).view.emb y 1).val = (y 1).val := by blk_simp [idx t]
  refine (congrArg _ (Cert.Rows.ix2_eta y)).trans ((out_last t (y 0) (y 1) ((flush0_2 t).1 hf)).trans ?_)
  exact congrArg₂ (fun a b => (∑ R : Fin 4096, rows m c (ix2 R a) * cotangent m c (ix2 R b) : EReal))
    (Fin.ext ((congrArg (· * 1408 + (y 0).val) (Nat.mod_eq_of_lt (show t.val / 4 < 2 by omega))).trans e0.symm)) (Fin.ext e1.symm)

end Kernel

end Cert.DwDown
-- ==== Proof.DwDown.Claim.lean ====
/- The kernel of the gradient of the feed-forward's second matrix and the derivative of the plain line end with equal results,
   whatever the arguments hold. -/
module

public import proofs.«01_k».proof.Proof.DwDown.RefRun
public import proofs.«01_k».proof.Defs
public import proofs.«01_k».proof.Proof.DwDown.Arrays

@[expose] public section

set_option maxRecDepth 16384

noncomputable section

namespace Cert.DwDown.Claim

open Idealize.ShloMosaic Idealize.ShloMosaic.TcCoe Idealize.SL.Sem

theorem algebraic : Cert.algebraic_DwDownIdeal_DwDownRefIdeal (hDwDownIdeal := Cert.DwDownIdeal.Gen.facts)
    (hDwDownRefIdeal := Cert.DwDownRefIdeal.Gen.facts) := by
  pair_intro
  · run_from Cert.DwDownIdeal.Gen.run_main m g
  · run_from Cert.DwDownRefIdeal.Whole.reference_run m' g'
    · refine Eq.trans (funext fun i => ?_) (Kernel.final2 m c).symm
      rw [Cert.Rows.ix2_eta i]
      exact Reference.v3 _ _ (i 0) (i 1)

end Cert.DwDown.Claim
-- ==== Proof.Adam.Step.lean ====
/- The optimiser's step, entry by entry, on arrays of any shape. -/
module

public import proofs.«01_k».proof.Proof.Gen.AdamIdeal.Value
public import proofs.«01_k».proof.Proof.Gen.AdamRefIdeal.Read
public import Idealize.ShloMosaic.Lib.Pipeline.ValueKit
public import Idealize.ShloMosaic.Lib.Claim
public import Idealize.ShloMosaic.Lib.Pointwise

@[expose] public section

noncomputable section

namespace Cert.Adam

open Idealize.ShloMosaic Idealize.ShloMosaic.TcCoe Idealize.SL.Sem

variable {s : Shape}

/-- The constant array of a word's value. -/
abbrev all (s : Shape) (w : BitVec 32) : FVec Ideal s .f32 := broadcast s (Scalar.ofBits (F := Ideal) .f32 w)

/-- The running mean of the gradients. -/
def mean (g m : FVec Ideal s .f32) : FVec Ideal s .f32 := addf (mulf (all s 0x3F666666#32) m) (mulf (all s 0x3DCCCCCD#32) g)

/-- The running mean of their squares. -/
def square (g v : FVec Ideal s .f32) : FVec Ideal s .f32 := addf (mulf (all s 0x3F7FBE77#32) v) (mulf (all s 0x3A83126F#32) (mulf g g))

/-- The change of the weights. -/
def change (w g m v : FVec Ideal s .f32) : FVec Ideal s .f32 :=
  mulf (all s 0xBA83126F#32) (addf (divf (divf (mean g m) (all s 0x3F26BD02#32))
    (addf (sqrt (divf (square g v) (all s 0x3C231ACC#32))) (all s 0x322BCC77#32))) (mulf (all s 0x3C23D70A#32) w))

/-- A host constant spread over the array is the constant array. -/
theorem host_all (h : (⟨0, ![]⟩ : Shape).BroadcastsInDim s ![]) (w : BitVec 32) :
    broadcastInDim s ![] h (constant (F := Ideal) ⟨0, ![]⟩ .f32 w) = all s w := rfl

end Cert.Adam
-- ==== Proof.Adam.RefRun.lean ====
/- The reference's frame: its arguments end as they were. -/
module

public import proofs.«01_k».proof.Proof.Gen.AdamRefIdeal.Run
public import proofs.«01_k».proof.Proof.Adam.Step

@[expose] public section

set_option maxRecDepth 16384

namespace Cert.AdamRefIdeal.Whole

open Idealize.ShloMosaic Idealize.ShloMosaic.TcCoe Idealize.SL.Sem Cert.Adam

/-- The reference's run, each result the step of the weight's arrays. -/
theorem reference_run (m : (ℓ : Loc nD τ sig) → Buf (Elt Ideal) ℓ) (g : Dev nD → PrngReg) :
    θ_run defs (onTc (τ := τ) (main (F := Ideal))) ⟨m, fun _ => 0, g⟩ fun r => ∀ c : Dev nD,
      let A := fun b : Ref sig .tc => m ((c : Thread nD τ).loc b)
      r.2.mem ((c : Thread nD τ).loc main_arg3) = (A main_arg3)
      ∧ r.2.mem ((c : Thread nD τ).loc main_v23) = change (s := S1024x384) (A main_arg0) (A main_arg3) (A main_arg6) (A main_arg9)
      ∧ r.2.mem ((c : Thread nD τ).loc main_v4) = mean (s := S1024x384) (A main_arg3) (A main_arg6)
      ∧ r.2.mem ((c : Thread nD τ).loc main_v10) = square (s := S1024x384) (A main_arg3) (A main_arg9)
      ∧ r.2.mem ((c : Thread nD τ).loc main_arg4) = (A main_arg4)
      ∧ r.2.mem ((c : Thread nD τ).loc main_v47) = change (s := S1024x1408) (A main_arg1) (A main_arg4) (A main_arg7) (A main_arg10)
      ∧ r.2.mem ((c : Thread nD τ).loc main_v28) = mean (s := S1024x1408) (A main_arg4) (A main_arg7)
      ∧ r.2.mem ((c : Thread nD τ).loc main_v34) = square (s := S1024x1408) (A main_arg4) (A main_arg10)
      ∧ r.2.mem ((c : Thread nD τ).loc main_arg5) = (A main_arg5)
      ∧ r.2.mem ((c : Thread nD τ).loc main_v71) = change (s := S256x1024) (A main_arg2) (A main_arg5) (A main_arg8) (A main_arg11)
      ∧ r.2.mem ((c : Thread nD τ).loc main_v52) = mean (s := S256x1024) (A main_arg5) (A main_arg8)
      ∧ r.2.mem ((c : Thread nD τ).loc main_v58) = square (s := S256x1024) (A main_arg5) (A main_arg11)
      ∧ r.2.mem ((c : Thread nD τ).loc main_arg0) = A main_arg0
      ∧ r.2.mem ((c : Thread nD τ).loc main_arg1) = A main_arg1
      ∧ r.2.mem ((c : Thread nD τ).loc main_arg2) = A main_arg2
      ∧ r.2.mem ((c : Thread nD τ).loc main_arg3) = A main_arg3
      ∧ r.2.mem ((c : Thread nD τ).loc main_arg4) = A main_arg4
      ∧ r.2.mem ((c : Thread nD τ).loc main_arg5) = A main_arg5
      ∧ r.2.mem ((c : Thread nD τ).loc main_arg6) = A main_arg6
      ∧ r.2.mem ((c : Thread nD τ).loc main_arg7) = A main_arg7
      ∧ r.2.mem ((c : Thread nD τ).loc main_arg8) = A main_arg8
      ∧ r.2.mem ((c : Thread nD τ).loc main_arg9) = A main_arg9
      ∧ r.2.mem ((c : Thread nD τ).loc main_arg10) = A main_arg10
      ∧ r.2.mem ((c : Thread nD τ).loc main_arg11) = A main_arg11 :=
  (θ_run defs _ _).mono (fun r h c => h c) (Value.run m g)

/-- The reference runs, leaves its arguments as they were and ends with every counter at zero. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0 :=
  (θ_run defs _ _).mono (fun r h => ⟨fun c => (h c).2.2.2.2.2.2.2.2.2.2.2.2, Idealize.ShloMosaic.sem_eq_zero_of_no_sems (by decide) r.2⟩)
    (Value.run m ρ)

end Cert.AdamRefIdeal.Whole
-- ==== Proof.Adam.Arrays.lean ====
/- The kernel's arrays at its end: each result is the step of the weight's four arrays, tile by tile. -/
module

public import proofs.«01_k».proof.Proof.Adam.Step

@[expose] public section

set_option maxRecDepth 16384

noncomputable section

namespace Cert.Adam.Kernel

open Idealize.ShloMosaic Idealize.ShloMosaic.TcCoe Idealize.SL.Sem
open Idealize.ShloMosaic.Pipeline (Dat)
open Cert.AdamIdeal Cert.AdamIdeal.Gen

variable (m : (ℓ : Loc nD τ sig) → Buf (Elt Ideal) ℓ) (c : Dev nD)

theorem final12 : (dats m 0 c).arrAt 12 cfg0.N = (m ((c : Thread nD τ).loc main_arg3)) := by
  refine (dats m 0 c).arrAt_eq_of_covers 12 _ (by decide +kernel) fun t hf y => ?_
  blk_simp
  rw [after0_12]
  frame_out
  rfl

theorem final15 : (dats m 0 c).arrAt 15 cfg0.N = change (s := S1024x384) (m ((c : Thread nD τ).loc main_arg0)) (m ((c : Thread nD τ).loc main_arg3)) (m ((c : Thread nD τ).loc main_arg6)) (m ((c : Thread nD τ).loc main_arg9)) := by
  refine (dats m 0 c).arrAt_eq_of_covers 15 _ (by decide +kernel) fun t hf y => ?_
  blk_simp
  rw [after0_15]
  frame_out
  rfl

theorem final18 : (dats m 0 c).arrAt 18 cfg0.N = mean (s := S1024x384) (m ((c : Thread nD τ).loc main_arg3)) (m ((c : Thread nD τ).loc main_arg6)) := by
  refine (dats m 0 c).arrAt_eq_of_covers 18 _ (by decide +kernel) fun t hf y => ?_
  blk_simp
  rw [after0_18]
  frame_out
  rfl

theorem final21 : (dats m 0 c).arrAt 21 cfg0.N = square (s := S1024x384) (m ((c : Thread nD τ).loc main_arg3)) (m ((c : Thread nD τ).loc main_arg9)) := by
  refine (dats m 0 c).arrAt_eq_of_covers 21 _ (by decide +kernel) fun t hf y => ?_
  blk_simp
  rw [after0_21]
  frame_out
  rfl

theorem final13 : (dats m 0 c).arrAt 13 cfg0.N = (m ((c : Thread nD τ).loc main_arg4)) := by
  refine (dats m 0 c).arrAt_eq_of_covers 13 _ (by decide +kernel) fun t hf y => ?_
  blk_simp
  rw [after0_13]
  frame_out
  rfl

theorem final16 : (dats m 0 c).arrAt 16 cfg0.N = change (s := S1024x1408) (m ((c : Thread nD τ).loc main_arg1)) (m ((c : Thread nD τ).loc main_arg4)) (m ((c : Thread nD τ).loc main_arg7)) (m ((c : Thread nD τ).loc main_arg10)) := by
  refine (dats m 0 c).arrAt_eq_of_covers 16 _ (by decide +kernel) fun t hf y => ?_
  blk_simp
  rw [after0_16]
  frame_out
  rfl

theorem final19 : (dats m 0 c).arrAt 19 cfg0.N = mean (s := S1024x1408) (m ((c : Thread nD τ).loc main_arg4)) (m ((c : Thread nD τ).loc main_arg7)) := by
  refine (dats m 0 c).arrAt_eq_of_covers 19 _ (by decide +kernel) fun t hf y => ?_
  blk_simp
  rw [after0_19]
  frame_out
  rfl

theorem final22 : (dats m 0 c).arrAt 22 cfg0.N = square (s := S1024x1408) (m ((c : Thread nD τ).loc main_arg4)) (m ((c : Thread nD τ).loc main_arg10)) := by
  refine (dats m 0 c).arrAt_eq_of_covers 22 _ (by decide +kernel) fun t hf y => ?_
  blk_simp
  rw [after0_22]
  frame_out
  rfl

theorem final14 : (dats m 0 c).arrAt 14 cfg0.N = (m ((c : Thread nD τ).loc main_arg5)) := by
  refine (dats m 0 c).arrAt_eq_of_covers 14 _ (by decide +kernel) fun t hf y => ?_
  blk_simp
  rw [after0_14]
  frame_out
  rfl

theorem final17 : (dats m 0 c).arrAt 17 cfg0.N = change (s := S256x1024) (m ((c : Thread nD τ).loc main_arg2)) (m ((c : Thread nD τ).loc main_arg5)) (m ((c : Thread nD τ).loc main_arg8)) (m ((c : Thread nD τ).loc main_arg11)) := by
  refine (dats m 0 c).arrAt_eq_of_covers 17 _ (by decide +kernel) fun t hf y => ?_
  blk_simp
  rw [after0_17]
  frame_out
  rfl

theorem final20 : (dats m 0 c).arrAt 20 cfg0.N = mean (s := S256x1024) (m ((c : Thread nD τ).loc main_arg5)) (m ((c : Thread nD τ).loc main_arg8)) := by
  refine (dats m 0 c).arrAt_eq_of_covers 20 _ (by decide +kernel) fun t hf y => ?_
  blk_simp
  rw [after0_20]
  frame_out
  rfl

theorem final23 : (dats m 0 c).arrAt 23 cfg0.N = square (s := S256x1024) (m ((c : Thread nD τ).loc main_arg5)) (m ((c : Thread nD τ).loc main_arg11)) := by
  refine (dats m 0 c).arrAt_eq_of_covers 23 _ (by decide +kernel) fun t hf y => ?_
  blk_simp
  rw [after0_23]
  frame_out
  rfl

set_option maxHeartbeats 2000000 in
/-- The kernel's run, each result the step of the weight's arrays. -/
theorem kernel_run (g : Dev nD → PrngReg) :
    θ_run defs (onTc (τ := τ) (main (F := Ideal))) ⟨m, fun _ => 0, g⟩ fun r => ∀ c : Dev nD,
      let A := fun b : Ref sig .tc => m ((c : Thread nD τ).loc b)
      r.2.mem ((c : Thread nD τ).loc main_v0_0) = (A main_arg3)
      ∧ r.2.mem ((c : Thread nD τ).loc main_v0_3) = change (s := S1024x384) (A main_arg0) (A main_arg3) (A main_arg6) (A main_arg9)
      ∧ r.2.mem ((c : Thread nD τ).loc main_v0_6) = mean (s := S1024x384) (A main_arg3) (A main_arg6)
      ∧ r.2.mem ((c : Thread nD τ).loc main_v0_9) = square (s := S1024x384) (A main_arg3) (A main_arg9)
      ∧ r.2.mem ((c : Thread nD τ).loc main_v0_1) = (A main_arg4)
      ∧ r.2.mem ((c : Thread nD τ).loc main_v0_4) = change (s := S1024x1408) (A main_arg1) (A main_arg4) (A main_arg7) (A main_arg10)
      ∧ r.2.mem ((c : Thread nD τ).loc main_v0_7) = mean (s := S1024x1408) (A main_arg4) (A main_arg7)
      ∧ r.2.mem ((c : Thread nD τ).loc main_v0_10) = square (s := S1024x1408) (A main_arg4) (A main_arg10)
      ∧ r.2.mem ((c : Thread nD τ).loc main_v0_2) = (A main_arg5)
      ∧ r.2.mem ((c : Thread nD τ).loc main_v0_5) = change (s := S256x1024) (A main_arg2) (A main_arg5) (A main_arg8) (A main_arg11)
      ∧ r.2.mem ((c : Thread nD τ).loc main_v0_8) = mean (s := S256x1024) (A main_arg5) (A main_arg8)
      ∧ r.2.mem ((c : Thread nD τ).loc main_v0_11) = square (s := S256x1024) (A main_arg5) (A main_arg11)
      ∧ r.2.mem ((c : Thread nD τ).loc main_arg0) = A main_arg0
      ∧ r.2.mem ((c : Thread nD τ).loc main_arg1) = A main_arg1
      ∧ r.2.mem ((c : Thread nD τ).loc main_arg2) = A main_arg2
      ∧ r.2.mem ((c : Thread nD τ).loc main_arg3) = A main_arg3
      ∧ r.2.mem ((c : Thread nD τ).loc main_arg4) = A main_arg4
      ∧ r.2.mem ((c : Thread nD τ).loc main_arg5) = A main_arg5
      ∧ r.2.mem ((c : Thread nD τ).loc main_arg6) = A main_arg6
      ∧ r.2.mem ((c : Thread nD τ).loc main_arg7) = A main_arg7
      ∧ r.2.mem ((c : Thread nD τ).loc main_arg8) = A main_arg8
      ∧ r.2.mem ((c : Thread nD τ).loc main_arg9) = A main_arg9
      ∧ r.2.mem ((c : Thread nD τ).loc main_arg10) = A main_arg10
      ∧ r.2.mem ((c : Thread nD τ).loc main_arg11) = A main_arg11 :=
  (θ_run defs _ _).mono (fun r h c => ⟨((h c).1 12).trans (final12 m c), ((h c).1 15).trans (final15 m c), ((h c).1 18).trans (final18 m c), ((h c).1 21).trans (final21 m c), ((h c).1 13).trans (final13 m c), ((h c).1 16).trans (final16 m c), ((h c).1 19).trans (final19 m c), ((h c).1 22).trans (final22 m c), ((h c).1 14).trans (final14 m c), ((h c).1 17).trans (final17 m c), ((h c).1 20).trans (final20 m c), ((h c).1 23).trans (final23 m c), ((h c).1 0).trans ((dats m 0 c).arrAt_in 0 rfl _), ((h c).1 1).trans ((dats m 0 c).arrAt_in 1 rfl _), ((h c).1 2).trans ((dats m 0 c).arrAt_in 2 rfl _), ((h c).1 3).trans ((dats m 0 c).arrAt_in 3 rfl _), ((h c).1 4).trans ((dats m 0 c).arrAt_in 4 rfl _), ((h c).1 5).trans ((dats m 0 c).arrAt_in 5 rfl _), ((h c).1 6).trans ((dats m 0 c).arrAt_in 6 rfl _), ((h c).1 7).trans ((dats m 0 c).arrAt_in 7 rfl _), ((h c).1 8).trans ((dats m 0 c).arrAt_in 8 rfl _), ((h c).1 9).trans ((dats m 0 c).arrAt_in 9 rfl _), ((h c).1 10).trans ((dats m 0 c).arrAt_in 10 rfl _), ((h c).1 11).trans ((dats m 0 c).arrAt_in 11 rfl _)⟩) (run_main m g)

end Cert.Adam.Kernel
-- ==== Proof.Adam.Claim.lean ====
/- The optimiser's kernel and the plain lines end with equal results, whatever the arguments hold. -/
module

public import proofs.«01_k».proof.Proof.Adam.RefRun
public import proofs.«01_k».proof.Defs
public import proofs.«01_k».proof.Proof.Adam.Arrays

@[expose] public section

set_option maxRecDepth 16384

noncomputable section

namespace Cert.Adam.Claim

open Idealize.ShloMosaic Idealize.ShloMosaic.TcCoe Idealize.SL.Sem

theorem algebraic : Cert.algebraic_AdamIdeal_AdamRefIdeal (hAdamIdeal := Cert.AdamIdeal.Gen.facts)
    (hAdamRefIdeal := Cert.AdamRefIdeal.Gen.facts) := by
  pair_intro
  · run_from Kernel.kernel_run m g
  · run_from Cert.AdamRefIdeal.Whole.reference_run m' g'

end Cert.Adam.Claim
-- ==== Proof.lean ====
module

public import proofs.«01_k».proof.Defs
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleIdeal.Value
public import proofs.«01_k».proof.Proof.Gen.PleRefIdeal
public import proofs.«01_k».proof.Proof.Gen.PleRefIdeal.Run
public import proofs.«01_k».proof.Proof.Gen.PleRefIdeal.Read
public import proofs.«01_k».proof.Proof.Ple.Claim
public import proofs.«01_k».proof.Proof.Gen.Pre_finite
public import proofs.«01_k».proof.Proof.Gen.Mix
public import proofs.«01_k».proof.Proof.Gen.MixRefIdeal.Run
public import proofs.«01_k».proof.Proof.Gen.MixRefIdeal.Read
public import proofs.«01_k».proof.Proof.Mix.Claim
public import proofs.«01_k».proof.Proof.Mix.Machine
public import proofs.«01_k».proof.Proof.Gen.Ffn
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Ffn.Claim
public import proofs.«01_k».proof.Proof.Gen.Up
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal.Run
public import proofs.«01_k».proof.Proof.Gen.UpRefIdeal.Read
public import proofs.«01_k».proof.Proof.Up.Claim
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InRefIdeal
public import proofs.«01_k».proof.Proof.Gen.InBwdIdeal.Frame.Runs
public import proofs.«01_k».proof.Proof.Gen.InRefIdeal.Run
public import proofs.«01_k».proof.Proof.Gen.InRefIdeal.Read
public import proofs.«01_k».proof.Proof.Gen.Pre_finite_in
public import proofs.«01_k».proof.Proof.InBwd.Machine
public import proofs.«01_k».proof.Proof.InBwd.Claim
public import proofs.«01_k».proof.Proof.Gen.Cp
public import proofs.«01_k».proof.Proof.Gen.Cp.Skeleton
public import proofs.«01_k».proof.Proof.Gen.Cp.Launch
public import proofs.«01_k».proof.Proof.Gen.Cp.Points
public import proofs.«01_k».proof.Proof.Gen.CpIdeal
public import proofs.«01_k».proof.Proof.Gen.CpIdeal.Skeleton
public import proofs.«01_k».proof.Proof.Gen.CpIdeal.Launch
public import proofs.«01_k».proof.Proof.Gen.CpIdeal.Points
public import proofs.«01_k».proof.Proof.Gen.CpRefIdeal
public import proofs.«01_k».proof.Proof.Gen.CpIdeal.Frame.Runs
public import proofs.«01_k».proof.Proof.Gen.CpRefIdeal.Run
public import proofs.«01_k».proof.Proof.Gen.CpRefIdeal.Read
public import proofs.«01_k».proof.Proof.Gen.Pre_finite_cp
public import proofs.«01_k».proof.Proof.Cp.Machine
public import proofs.«01_k».proof.Proof.Cp.Claim
public import proofs.«01_k».proof.Proof.Gen.Mi
public import proofs.«01_k».proof.Proof.Gen.Mi.Skeleton
public import proofs.«01_k».proof.Proof.Gen.Mi.Launch
public import proofs.«01_k».proof.Proof.Gen.Mi.Flash
public import proofs.«01_k».proof.Proof.Gen.MiIdeal
public import proofs.«01_k».proof.Proof.Gen.MiIdeal.Skeleton
public import proofs.«01_k».proof.Proof.Gen.MiIdeal.Launch
public import proofs.«01_k».proof.Proof.Gen.MiIdeal.Flash
public import proofs.«01_k».proof.Proof.Gen.MiRefIdeal
public import proofs.«01_k».proof.Proof.Gen.MiRefIdeal.Run
public import proofs.«01_k».proof.Proof.Gen.MiRefIdeal.Read
public import proofs.«01_k».proof.Proof.Mi.Machine
public import proofs.«01_k».proof.Proof.Mi.Claim
public import proofs.«01_k».proof.Proof.Gen.Down
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.Gen.DownRefIdeal.Read
public import proofs.«01_k».proof.Proof.Down.Claim
public import proofs.«01_k».proof.Proof.Gen.DwGu
public import proofs.«01_k».proof.Proof.Gen.DwGu.Frame
public import proofs.«01_k».proof.Proof.Gen.DwGuIdeal.Frame
public import proofs.«01_k».proof.Proof.Gen.DwGuIdeal.Value
public import proofs.«01_k».proof.Proof.Gen.DwGuRefIdeal.Run
public import proofs.«01_k».proof.Proof.Gen.DwGuRefIdeal.Read
public import proofs.«01_k».proof.Proof.DwGu.Claim
public import proofs.«01_k».proof.Proof.Gen.DwDown
public import proofs.«01_k».proof.Proof.Gen.DwDown.Frame
public import proofs.«01_k».proof.Proof.Gen.DwDownIdeal.Frame
public import proofs.«01_k».proof.Proof.Gen.DwDownIdeal.Value
public import proofs.«01_k».proof.Proof.Gen.DwDownRefIdeal.Run
public import proofs.«01_k».proof.Proof.Gen.DwDownRefIdeal.Read
public import proofs.«01_k».proof.Proof.DwDown.Claim
public import proofs.«01_k».proof.Proof.Gen.Adam
public import proofs.«01_k».proof.Proof.Gen.Adam.Frame
public import proofs.«01_k».proof.Proof.Gen.AdamIdeal.Frame
public import proofs.«01_k».proof.Proof.Gen.AdamIdeal.Value
public import proofs.«01_k».proof.Proof.Gen.AdamRefIdeal.Run
public import proofs.«01_k».proof.Proof.Gen.AdamRefIdeal.Read
public import proofs.«01_k».proof.Proof.Adam.Claim
public import Idealize.ShloMosaic.Adequacy
public import Idealize.ShloMosaic.Init

@[expose] public section

noncomputable section

namespace Cert.Proof

open Idealize.ShloMosaic Idealize.SL.Sem Cert.Ple

theorem claim : Cert.Claim :=
  ⟨Cert.Ple.Gen.facts, Cert.PleIdeal.Gen.facts, Cert.PleRefIdeal.Gen.facts, Cert.Mix.Gen.facts, Cert.MixIdeal.Gen.facts,
    Cert.MixRefIdeal.Gen.facts, Cert.Ffn.Gen.facts, Cert.FfnIdeal.Gen.facts, Cert.FfnRefIdeal.Gen.facts,
    Cert.Up.Gen.facts, Cert.UpIdeal.Gen.facts, Cert.UpRefIdeal.Gen.facts,
    Cert.InBwd.Gen.facts, Cert.InBwdIdeal.Gen.facts, Cert.InRefIdeal.Gen.facts,
    Cert.Cp.Gen.facts, Cert.CpIdeal.Gen.facts, Cert.CpRefIdeal.Gen.facts,
    Cert.Mi.Gen.facts, Cert.MiIdeal.Gen.facts, Cert.MiRefIdeal.Gen.facts,
    Cert.Down.Gen.facts, Cert.DownIdeal.Gen.facts, Cert.DownRefIdeal.Gen.facts,
    Cert.DwGu.Gen.facts, Cert.DwGuIdeal.Gen.facts, Cert.DwGuRefIdeal.Gen.facts,
    Cert.DwDown.Gen.facts, Cert.DwDownIdeal.Gen.facts, Cert.DwDownRefIdeal.Gen.facts,
    Cert.Adam.Gen.facts, Cert.AdamIdeal.Gen.facts, Cert.AdamRefIdeal.Gen.facts,
    Cert.Pre_finite.Gen.facts, Cert.Pre_finite_mix.Gen.facts, Cert.Pre_finite_ffn.Gen.facts,
    Cert.Pre_finite_in.Gen.facts, Cert.Pre_finite_cp.Gen.facts,
    fun m g _ => Cert.Ple.Gen.frame m g, fun m g _ => Cert.PleIdeal.Gen.frame m g, fun m g _ => Cert.PleIdeal.Gen.frame m g,
    fun m g _ => Cert.PleRefIdeal.Whole.frame m g, fun m g _ => Cert.PleRefIdeal.Whole.frame m g,
    Cert.Mix.Machine.frame, fun m g _ => Cert.MixIdeal.Body.frame_holds m g, fun m g _ => Cert.MixIdeal.Body.frame_holds m g,
    fun m g _ => Cert.MixRefIdeal.Whole.frame m g, fun m g _ => Cert.MixRefIdeal.Whole.frame m g,
    fun m g _ => Cert.Ffn.Gen.frame m g, fun m g _ => Cert.FfnIdeal.Gen.frame m g, fun m g _ => Cert.FfnIdeal.Gen.frame m g,
    fun m g _ => Cert.FfnRefIdeal.Whole.frame m g, fun m g _ => Cert.FfnRefIdeal.Whole.frame m g,
    fun m g _ => Cert.Up.Gen.frame m g, fun m g _ => Cert.UpIdeal.Gen.frame m g, fun m g _ => Cert.UpRefIdeal.Whole.frame m g,
    Cert.InBwd.Machine.frame, fun m g _ => Cert.InBwdIdeal.Body.frame_holds m g, fun m g _ => Cert.InBwdIdeal.Body.frame_holds m g,
    fun m g _ => Cert.InRefIdeal.Whole.frame m g, fun m g _ => Cert.InRefIdeal.Whole.frame m g,
    Cert.Cp.Machine.frame, fun m g _ => Cert.CpIdeal.Body.frame_holds m g, fun m g _ => Cert.CpIdeal.Body.frame_holds m g,
    fun m g _ => Cert.CpRefIdeal.Whole.frame m g, fun m g _ => Cert.CpRefIdeal.Whole.frame m g,
    Cert.Mi.Machine.frame, fun m g _ => Cert.MiIdeal.Body.frame_holds m g, fun m g _ => Cert.MiRefIdeal.Whole.frame m g,
    fun m g _ => Cert.Down.Gen.frame m g, fun m g _ => Cert.DownIdeal.Gen.frame m g, fun m g _ => Cert.DownRefIdeal.Whole.frame m g,
    fun m g _ => Cert.DwGu.Gen.frame m g, fun m g _ => Cert.DwGuIdeal.Gen.frame m g, fun m g _ => Cert.DwGuRefIdeal.Whole.frame m g,
    fun m g _ => Cert.DwDown.Gen.frame m g, fun m g _ => Cert.DwDownIdeal.Gen.frame m g, fun m g _ => Cert.DwDownRefIdeal.Whole.frame m g,
    fun m g _ => Cert.Adam.Gen.frame m g, fun m g _ => Cert.AdamIdeal.Gen.frame m g, fun m g _ => Cert.AdamRefIdeal.Whole.frame m g,
    trivial, Cert.Ple.Claim.algebraic, trivial, Cert.Mix.Claim.algebraic, trivial, Cert.Ffn.Claim.algebraic,
    trivial, Cert.Up.Claim.algebraic, trivial, Cert.InBwd.Claim.algebraic, trivial, Cert.Cp.Claim.algebraic,
    trivial, Cert.Mi.Claim.algebraic,
    trivial, Cert.Down.Claim.algebraic, trivial, Cert.DwGu.Claim.algebraic, trivial, Cert.DwDown.Claim.algebraic, trivial, Cert.Adam.Claim.algebraic⟩

end Cert.Proof

end
